-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![128, 512, 1024]⟩ 0 32 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S1024x512 : Shape := ⟨2, ![1024, 512]⟩
abbrev S512x128 : Shape := ⟨2, ![512, 128]⟩
abbrev S1024x1 : Shape := ⟨2, ![1024, 1]⟩
abbrev S4x512x1024 : Shape := ⟨3, ![4, 512, 1024]⟩
abbrev S1024 : Shape := ⟨1, ![1024]⟩
abbrev S_ : Shape := ⟨0, ![]⟩
abbrev S32x32 : Shape := ⟨2, ![32, 32]⟩
abbrev S32x32x32 : Shape := ⟨3, ![32, 32, 32]⟩
abbrev S32x1x32 : Shape := ⟨3, ![32, 1, 32]⟩

class Facts : Prop where
  shapeCasts_S1024x1_S1024 : S1024x1.ShapeCasts S1024
  bcast_S_S1024 : S_.BroadcastsInDim S1024 (![] : Fin 0 → Fin S1024.rank)
  shapeCasts_S1024_S32x32 : S1024.ShapeCasts S32x32
  bcast_S32x32_S32x1x32_0_2 : S32x32.BroadcastsInDim S32x1x32 (![0, 2] : Fin 2 → Fin S32x1x32.rank)
  bcast_S32x1x32_S32x32x32_0_1_2 : S32x1x32.BroadcastsInDim S32x32x32 (![0, 1, 2] : Fin 3 → Fin S32x32x32.rank)
  natLt_1_32 : 1 < 32
  reducesTo_S32x32x32_S32x32_d2 : S32x32x32.ReducesTo [2] S32x32
  h_S_ : 0 < S_.numel
  bcast_S_S32x32 : S_.BroadcastsInDim S32x32 (![] : Fin 0 → Fin S32x32.rank)

variable [Facts]

def fn {F : FTy → Type} [FloatOps F] (main_arg0 : FVec F S1024x512 .bf16) (main_arg1 : FVec F S512x128 .bf16) (main_arg2 : IVec S1024x1 32) (main_arg3 : FVec F S4x512x1024 .bf16) : IVec S1024 1 × IVec S32x32 1 :=
  let main_v0 : IVec S1024 32 := shapeCast S1024 main_arg2 shapeCasts_S1024x1_S1024
  let main_c : IVec S_ 32 := constantI S_ 32 2#32
  let main_v1 : IVec S1024 32 := broadcastInDim S1024 ![] bcast_S_S1024 main_c
  let main_v2 : IVec S1024 32 := Host.shrsi main_v0 main_v1
  let main_v3 : IVec S32x32 32 := shapeCast S32x32 main_v2 shapeCasts_S1024_S32x32
  let main_v4 : IVec S32x32x32 32 := iotaInDim S32x32x32 32 1
  let main_v5 : IVec S32x1x32 32 := broadcastInDim S32x1x32 ![0, 2] bcast_S32x32_S32x1x32_0_2 main_v3
  let main_v6 : IVec S32x32x32 32 := broadcastInDim S32x32x32 ![0, 1, 2] bcast_S32x1x32_S32x32x32_0_1_2 main_v5
  let main_v7 : IVec S32x32x32 1 := cmpi .eq main_v6 main_v4
  let main_v8 : IVec S32x32x32 32 := (extui 32 · natLt_1_32) main_v7
  let main_c_0 : IVec S_ 32 := constantI S_ 32 0#32
  let main_v9 : IVec S32x32 32 := (fun x v => Host.reduce IntOp.addi x v reducesTo_S32x32x32_S32x32_d2 h_S_) main_v8 main_c_0
  let main_c_1 : IVec S_ 32 := constantI S_ 32 0#32
  let main_v10 : IVec S1024 32 := broadcastInDim S1024 ![] bcast_S_S1024 main_c_1
  let main_v11 : IVec S1024 1 := cmpi .sge main_v0 main_v10
  let main_c_2 : IVec S_ 32 := constantI S_ 32 128#32
  let main_v12 : IVec S1024 32 := broadcastInDim S1024 ![] bcast_S_S1024 main_c_2
  let main_v13 : IVec S1024 1 := cmpi .slt main_v0 main_v12
  let main_v14 : IVec S1024 1 := andi main_v11 main_v13
  let main_c_3 : IVec S_ 32 := constantI S_ 32 16#32
  let main_v15 : IVec S32x32 32 := broadcastInDim S32x32 ![] bcast_S_S32x32 main_c_3
  let main_v16 : IVec S32x32 1 := cmpi .sle main_v9 main_v15
  (main_v14, main_v16)
-- ==== Pre_routed_ReferenceIdeal.lean ====
abbrev S1024x512 : Shape := ⟨2, ![1024, 512]⟩
abbrev S512x128 : Shape := ⟨2, ![512, 128]⟩
abbrev S1024x1 : Shape := ⟨2, ![1024, 1]⟩
abbrev S128x512x1024 : Shape := ⟨3, ![128, 512, 1024]⟩
abbrev S1024 : Shape := ⟨1, ![1024]⟩
abbrev S_ : Shape := ⟨0, ![]⟩
abbrev S32x32 : Shape := ⟨2, ![32, 32]⟩
abbrev S32x32x32 : Shape := ⟨3, ![32, 32, 32]⟩
abbrev S32x1x32 : Shape := ⟨3, ![32, 1, 32]⟩

class Facts : Prop where
  shapeCasts_S1024x1_S1024 : S1024x1.ShapeCasts S1024
  bcast_S_S1024 : S_.BroadcastsInDim S1024 (![] : Fin 0 → Fin S1024.rank)
  shapeCasts_S1024_S32x32 : S1024.ShapeCasts S32x32
  bcast_S32x32_S32x1x32_0_2 : S32x32.BroadcastsInDim S32x1x32 (![0, 2] : Fin 2 → Fin S32x1x32.rank)
  bcast_S32x1x32_S32x32x32_0_1_2 : S32x1x32.BroadcastsInDim S32x32x32 (![0, 1, 2] : Fin 3 → Fin S32x32x32.rank)
  natLt_1_32 : 1 < 32
  reducesTo_S32x32x32_S32x32_d2 : S32x32x32.ReducesTo [2] S32x32
  h_S_ : 0 < S_.numel
  bcast_S_S32x32 : S_.BroadcastsInDim S32x32 (![] : Fin 0 → Fin S32x32.rank)

variable [Facts]

def fn {F : FTy → Type} [FloatOps F] (main_arg0 : FVec F S1024x512 .bf16) (main_arg1 : FVec F S512x128 .bf16) (main_arg2 : IVec S1024x1 32) (main_arg3 : FVec F S128x512x1024 .bf16) : IVec S1024 1 × IVec S32x32 1 :=
  let main_v0 : IVec S1024 32 := shapeCast S1024 main_arg2 shapeCasts_S1024x1_S1024
  let main_c : IVec S_ 32 := constantI S_ 32 2#32
  let main_v1 : IVec S1024 32 := broadcastInDim S1024 ![] bcast_S_S1024 main_c
  let main_v2 : IVec S1024 32 := Host.shrsi main_v0 main_v1
  let main_v3 : IVec S32x32 32 := shapeCast S32x32 main_v2 shapeCasts_S1024_S32x32
  let main_v4 : IVec S32x32x32 32 := iotaInDim S32x32x32 32 1
  let main_v5 : IVec S32x1x32 32 := broadcastInDim S32x1x32 ![0, 2] bcast_S32x32_S32x1x32_0_2 main_v3
  let main_v6 : IVec S32x32x32 32 := broadcastInDim S32x32x32 ![0, 1, 2] bcast_S32x1x32_S32x32x32_0_1_2 main_v5
  let main_v7 : IVec S32x32x32 1 := cmpi .eq main_v6 main_v4
  let main_v8 : IVec S32x32x32 32 := (extui 32 · natLt_1_32) main_v7
  let main_c_0 : IVec S_ 32 := constantI S_ 32 0#32
  let main_v9 : IVec S32x32 32 := (fun x v => Host.reduce IntOp.addi x v reducesTo_S32x32x32_S32x32_d2 h_S_) main_v8 main_c_0
  let main_c_1 : IVec S_ 32 := constantI S_ 32 0#32
  let main_v10 : IVec S1024 32 := broadcastInDim S1024 ![] bcast_S_S1024 main_c_1
  let main_v11 : IVec S1024 1 := cmpi .sge main_v0 main_v10
  let main_c_2 : IVec S_ 32 := constantI S_ 32 128#32
  let main_v12 : IVec S1024 32 := broadcastInDim S1024 ![] bcast_S_S1024 main_c_2
  let main_v13 : IVec S1024 1 := cmpi .slt main_v0 main_v12
  let main_v14 : IVec S1024 1 := andi main_v11 main_v13
  let main_c_3 : IVec S_ 32 := constantI S_ 32 16#32
  let main_v15 : IVec S32x32 32 := broadcastInDim S32x32 ![] bcast_S_S32x32 main_c_3
  let main_v16 : IVec S32x32 1 := cmpi .sle main_v9 main_v15
  (main_v14, main_v16)
-- ==== Kernel.lean ====
abbrev S1024x512 : Shape := ⟨2, ![1024, 512]⟩
abbrev S512x128 : Shape := ⟨2, ![512, 128]⟩
abbrev S1024x1 : Shape := ⟨2, ![1024, 1]⟩
abbrev S4x512x1024 : Shape := ⟨3, ![4, 512, 1024]⟩
abbrev S1024x1024 : Shape := ⟨2, ![1024, 1024]⟩
abbrev S512x1024 : Shape := ⟨2, ![512, 1024]⟩
abbrev S31 : Shape := ⟨1, ![31]⟩
abbrev S_ : Shape := ⟨0, ![]⟩
abbrev S32x32 : Shape := ⟨2, ![32, 32]⟩
abbrev S1x1024 : Shape := ⟨2, ![1, 1024]⟩
abbrev S256x1024 : Shape := ⟨2, ![256, 1024]⟩
abbrev S256x512 : Shape := ⟨2, ![256, 512]⟩
abbrev S256x1 : Shape := ⟨2, ![256, 1]⟩
abbrev S1x512x1024 : Shape := ⟨3, ![1, 512, 1024]⟩
abbrev S1 : Shape := ⟨1, ![1]⟩
abbrev S16x1024 : Shape := ⟨2, ![16, 1024]⟩
abbrev S1x32 : Shape := ⟨2, ![1, 32]⟩
abbrev S32x1 : Shape := ⟨2, ![32, 1]⟩
abbrev S32 : Shape := ⟨1, ![32]⟩
abbrev S32x512 : Shape := ⟨2, ![32, 512]⟩
abbrev S32x1024 : Shape := ⟨2, ![32, 1024]⟩

abbrev nBuf : Space → Nat
  | .hbm => 5
  | .vmem => 6
  | .smem => 0
  | _ => 0

abbrev bufTy : (tb : Table) → Fin (tcTables nBuf tb) → BufTy
  | .hbm, ⟨0, _⟩ => ⟨S1024x512, .bf16⟩
  | .hbm, ⟨1, _⟩ => ⟨S512x128, .bf16⟩
  | .hbm, ⟨2, _⟩ => ⟨S1024x1, .i32⟩
  | .hbm, ⟨3, _⟩ => ⟨S4x512x1024, .bf16⟩
  | .hbm, ⟨4, _⟩ => ⟨S1024x1024, .bf16⟩
  | .local _ .vmem, ⟨0, _⟩ => ⟨S1024x512, .bf16⟩
  | .local _ .vmem, ⟨1, _⟩ => ⟨S1024x1, .i32⟩
  | .local _ .vmem, ⟨2, _⟩ => ⟨S4x512x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | _, _ => ⟨S1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 128 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | ⟨124, _⟩ => true
  | ⟨125, _⟩ => true
  | ⟨126, _⟩ => true
  | ⟨127, _⟩ => true
  | _ => false

abbrev sig : RefSig :=
  (ofTc nBuf bufTy 1 128 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_9 : BitVec 32 := 1#32
  let v23 : BitVec 32 := Scalar.addi v2 c1_i32_9
  let c31_i32 : BitVec 32 := 31#32
  let v24 : BitVec 32 := Scalar.andi v23 c31_i32
  let c1_i32_11 : BitVec 32 := 1#32
  let v25 : BitVec 32 := Scalar.muli v24 c1_i32_11
  let v26 : BitVec 32 := Scalar.addi c0_i32 v25
  v26.toNat
def k0_dev2 (d0 : Dev nD) : Nat :=
  let c0_i32_16 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_12 : BitVec 32 := 2#32
  let v27 : BitVec 32 := Scalar.addi v2 c2_i32_12
  let c31_i32_13 : BitVec 32 := 31#32
  let v28 : BitVec 32 := Scalar.andi v27 c31_i32_13
  let c1_i32_15 : BitVec 32 := 1#32
  let v29 : BitVec 32 := Scalar.muli v28 c1_i32_15
  let v30 : BitVec 32 := Scalar.addi c0_i32_16 v29
  v30.toNat
def k0_dev3 (d0 : Dev nD) : Nat :=
  let c0_i32_21 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_17 : BitVec 32 := 3#32
  let v31 : BitVec 32 := Scalar.addi v2 c3_i32_17
  let c31_i32_18 : BitVec 32 := 31#32
  let v32 : BitVec 32 := Scalar.andi v31 c31_i32_18
  let c1_i32_20 : BitVec 32 := 1#32
  let v33 : BitVec 32 := Scalar.muli v32 c1_i32_20
  let v34 : BitVec 32 := Scalar.addi c0_i32_21 v33
  v34.toNat
def k0_dev4 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_22 : BitVec 32 := 4#32
  let v35 : BitVec 32 := Scalar.addi v2 c4_i32_22
  let c31_i32_23 : BitVec 32 := 31#32
  let v36 : BitVec 32 := Scalar.andi v35 c31_i32_23
  let c1_i32_25 : BitVec 32 := 1#32
  let v37 : BitVec 32 := Scalar.muli v36 c1_i32_25
  let v38 : BitVec 32 := Scalar.addi c0_i32_26 v37
  v38.toNat
def k0_dev5 (d0 : Dev nD) : Nat :=
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v39 : BitVec 32 := Scalar.addi v2 c5_i32
  let c31_i32_27 : BitVec 32 := 31#32
  let v40 : BitVec 32 := Scalar.andi v39 c31_i32_27
  let c1_i32_29 : BitVec 32 := 1#32
  let v41 : BitVec 32 := Scalar.muli v40 c1_i32_29
  let v42 : BitVec 32 := Scalar.addi c0_i32_30 v41
  v42.toNat
def k0_dev6 (d0 : Dev nD) : Nat :=
  let c0_i32_34 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v43 : BitVec 32 := Scalar.addi v2 c6_i32
  let c31_i32_31 : BitVec 32 := 31#32
  let v44 : BitVec 32 := Scalar.andi v43 c31_i32_31
  let c1_i32_33 : BitVec 32 := 1#32
  let v45 : BitVec 32 := Scalar.muli v44 c1_i32_33
  let v46 : BitVec 32 := Scalar.addi c0_i32_34 v45
  v46.toNat
def k0_dev7 (d0 : Dev nD) : Nat :=
  let c0_i32_38 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v47 : BitVec 32 := Scalar.addi v2 c7_i32
  let c31_i32_35 : BitVec 32 := 31#32
  let v48 : BitVec 32 := Scalar.andi v47 c31_i32_35
  let c1_i32_37 : BitVec 32 := 1#32
  let v49 : BitVec 32 := Scalar.muli v48 c1_i32_37
  let v50 : BitVec 32 := Scalar.addi c0_i32_38 v49
  v50.toNat
def k0_dev8 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_39 : BitVec 32 := 8#32
  let v51 : BitVec 32 := Scalar.addi v2 c8_i32_39
  let c31_i32_40 : BitVec 32 := 31#32
  let v52 : BitVec 32 := Scalar.andi v51 c31_i32_40
  let c1_i32_42 : BitVec 32 := 1#32
  let v53 : BitVec 32 := Scalar.muli v52 c1_i32_42
  let v54 : BitVec 32 := Scalar.addi c0_i32_43 v53
  v54.toNat
def k0_dev9 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v55 : BitVec 32 := Scalar.addi v2 c9_i32
  let c31_i32_44 : BitVec 32 := 31#32
  let v56 : BitVec 32 := Scalar.andi v55 c31_i32_44
  let c1_i32_46 : BitVec 32 := 1#32
  let v57 : BitVec 32 := Scalar.muli v56 c1_i32_46
  let v58 : BitVec 32 := Scalar.addi c0_i32_47 v57
  v58.toNat
def k0_dev10 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v59 : BitVec 32 := Scalar.addi v2 c10_i32
  let c31_i32_48 : BitVec 32 := 31#32
  let v60 : BitVec 32 := Scalar.andi v59 c31_i32_48
  let c1_i32_50 : BitVec 32 := 1#32
  let v61 : BitVec 32 := Scalar.muli v60 c1_i32_50
  let v62 : BitVec 32 := Scalar.addi c0_i32_51 v61
  v62.toNat
def k0_dev11 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v63 : BitVec 32 := Scalar.addi v2 c11_i32
  let c31_i32_52 : BitVec 32 := 31#32
  let v64 : BitVec 32 := Scalar.andi v63 c31_i32_52
  let c1_i32_54 : BitVec 32 := 1#32
  let v65 : BitVec 32 := Scalar.muli v64 c1_i32_54
  let v66 : BitVec 32 := Scalar.addi c0_i32_55 v65
  v66.toNat
def k0_dev12 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v67 : BitVec 32 := Scalar.addi v2 c12_i32
  let c31_i32_56 : BitVec 32 := 31#32
  let v68 : BitVec 32 := Scalar.andi v67 c31_i32_56
  let c1_i32_58 : BitVec 32 := 1#32
  let v69 : BitVec 32 := Scalar.muli v68 c1_i32_58
  let v70 : BitVec 32 := Scalar.addi c0_i32_59 v69
  v70.toNat
def k0_dev13 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v71 : BitVec 32 := Scalar.addi v2 c13_i32
  let c31_i32_60 : BitVec 32 := 31#32
  let v72 : BitVec 32 := Scalar.andi v71 c31_i32_60
  let c1_i32_62 : BitVec 32 := 1#32
  let v73 : BitVec 32 := Scalar.muli v72 c1_i32_62
  let v74 : BitVec 32 := Scalar.addi c0_i32_63 v73
  v74.toNat
def k0_dev14 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v75 : BitVec 32 := Scalar.addi v2 c14_i32
  let c31_i32_64 : BitVec 32 := 31#32
  let v76 : BitVec 32 := Scalar.andi v75 c31_i32_64
  let c1_i32_66 : BitVec 32 := 1#32
  let v77 : BitVec 32 := Scalar.muli v76 c1_i32_66
  let v78 : BitVec 32 := Scalar.addi c0_i32_67 v77
  v78.toNat
def k0_dev15 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v79 : BitVec 32 := Scalar.addi v2 c15_i32
  let c31_i32_68 : BitVec 32 := 31#32
  let v80 : BitVec 32 := Scalar.andi v79 c31_i32_68
  let c1_i32_70 : BitVec 32 := 1#32
  let v81 : BitVec 32 := Scalar.muli v80 c1_i32_70
  let v82 : BitVec 32 := Scalar.addi c0_i32_71 v81
  v82.toNat
def k0_dev16 (d0 : Dev nD) : Nat :=
  let c0_i32_76 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_72 : BitVec 32 := 16#32
  let v83 : BitVec 32 := Scalar.addi v2 c16_i32_72
  let c31_i32_73 : BitVec 32 := 31#32
  let v84 : BitVec 32 := Scalar.andi v83 c31_i32_73
  let c1_i32_75 : BitVec 32 := 1#32
  let v85 : BitVec 32 := Scalar.muli v84 c1_i32_75
  let v86 : BitVec 32 := Scalar.addi c0_i32_76 v85
  v86.toNat
def k0_dev17 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v87 : BitVec 32 := Scalar.addi v2 c17_i32
  let c31_i32_77 : BitVec 32 := 31#32
  let v88 : BitVec 32 := Scalar.andi v87 c31_i32_77
  let c1_i32_79 : BitVec 32 := 1#32
  let v89 : BitVec 32 := Scalar.muli v88 c1_i32_79
  let v90 : BitVec 32 := Scalar.addi c0_i32_80 v89
  v90.toNat
def k0_dev18 (d0 : Dev nD) : Nat :=
  let c0_i32_84 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v91 : BitVec 32 := Scalar.addi v2 c18_i32
  let c31_i32_81 : BitVec 32 := 31#32
  let v92 : BitVec 32 := Scalar.andi v91 c31_i32_81
  let c1_i32_83 : BitVec 32 := 1#32
  let v93 : BitVec 32 := Scalar.muli v92 c1_i32_83
  let v94 : BitVec 32 := Scalar.addi c0_i32_84 v93
  v94.toNat
def k0_dev19 (d0 : Dev nD) : Nat :=
  let c0_i32_88 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v95 : BitVec 32 := Scalar.addi v2 c19_i32
  let c31_i32_85 : BitVec 32 := 31#32
  let v96 : BitVec 32 := Scalar.andi v95 c31_i32_85
  let c1_i32_87 : BitVec 32 := 1#32
  let v97 : BitVec 32 := Scalar.muli v96 c1_i32_87
  let v98 : BitVec 32 := Scalar.addi c0_i32_88 v97
  v98.toNat
def k0_dev20 (d0 : Dev nD) : Nat :=
  let c0_i32_92 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v99 : BitVec 32 := Scalar.addi v2 c20_i32
  let c31_i32_89 : BitVec 32 := 31#32
  let v100 : BitVec 32 := Scalar.andi v99 c31_i32_89
  let c1_i32_91 : BitVec 32 := 1#32
  let v101 : BitVec 32 := Scalar.muli v100 c1_i32_91
  let v102 : BitVec 32 := Scalar.addi c0_i32_92 v101
  v102.toNat
def k0_dev21 (d0 : Dev nD) : Nat :=
  let c0_i32_96 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v103 : BitVec 32 := Scalar.addi v2 c21_i32
  let c31_i32_93 : BitVec 32 := 31#32
  let v104 : BitVec 32 := Scalar.andi v103 c31_i32_93
  let c1_i32_95 : BitVec 32 := 1#32
  let v105 : BitVec 32 := Scalar.muli v104 c1_i32_95
  let v106 : BitVec 32 := Scalar.addi c0_i32_96 v105
  v106.toNat
def k0_dev22 (d0 : Dev nD) : Nat :=
  let c0_i32_100 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v107 : BitVec 32 := Scalar.addi v2 c22_i32
  let c31_i32_97 : BitVec 32 := 31#32
  let v108 : BitVec 32 := Scalar.andi v107 c31_i32_97
  let c1_i32_99 : BitVec 32 := 1#32
  let v109 : BitVec 32 := Scalar.muli v108 c1_i32_99
  let v110 : BitVec 32 := Scalar.addi c0_i32_100 v109
  v110.toNat
def k0_dev23 (d0 : Dev nD) : Nat :=
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v111 : BitVec 32 := Scalar.addi v2 c23_i32
  let c31_i32_101 : BitVec 32 := 31#32
  let v112 : BitVec 32 := Scalar.andi v111 c31_i32_101
  let c1_i32_103 : BitVec 32 := 1#32
  let v113 : BitVec 32 := Scalar.muli v112 c1_i32_103
  let v114 : BitVec 32 := Scalar.addi c0_i32_104 v113
  v114.toNat
def k0_dev24 (d0 : Dev nD) : Nat :=
  let c0_i32_108 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v115 : BitVec 32 := Scalar.addi v2 c24_i32
  let c31_i32_105 : BitVec 32 := 31#32
  let v116 : BitVec 32 := Scalar.andi v115 c31_i32_105
  let c1_i32_107 : BitVec 32 := 1#32
  let v117 : BitVec 32 := Scalar.muli v116 c1_i32_107
  let v118 : BitVec 32 := Scalar.addi c0_i32_108 v117
  v118.toNat
def k0_dev25 (d0 : Dev nD) : Nat :=
  let c0_i32_112 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v119 : BitVec 32 := Scalar.addi v2 c25_i32
  let c31_i32_109 : BitVec 32 := 31#32
  let v120 : BitVec 32 := Scalar.andi v119 c31_i32_109
  let c1_i32_111 : BitVec 32 := 1#32
  let v121 : BitVec 32 := Scalar.muli v120 c1_i32_111
  let v122 : BitVec 32 := Scalar.addi c0_i32_112 v121
  v122.toNat
def k0_dev26 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v123 : BitVec 32 := Scalar.addi v2 c26_i32
  let c31_i32_113 : BitVec 32 := 31#32
  let v124 : BitVec 32 := Scalar.andi v123 c31_i32_113
  let c1_i32_115 : BitVec 32 := 1#32
  let v125 : BitVec 32 := Scalar.muli v124 c1_i32_115
  let v126 : BitVec 32 := Scalar.addi c0_i32_116 v125
  v126.toNat
def k0_dev27 (d0 : Dev nD) : Nat :=
  let c0_i32_120 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v127 : BitVec 32 := Scalar.addi v2 c27_i32
  let c31_i32_117 : BitVec 32 := 31#32
  let v128 : BitVec 32 := Scalar.andi v127 c31_i32_117
  let c1_i32_119 : BitVec 32 := 1#32
  let v129 : BitVec 32 := Scalar.muli v128 c1_i32_119
  let v130 : BitVec 32 := Scalar.addi c0_i32_120 v129
  v130.toNat
def k0_dev28 (d0 : Dev nD) : Nat :=
  let c0_i32_124 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v131 : BitVec 32 := Scalar.addi v2 c28_i32
  let c31_i32_121 : BitVec 32 := 31#32
  let v132 : BitVec 32 := Scalar.andi v131 c31_i32_121
  let c1_i32_123 : BitVec 32 := 1#32
  let v133 : BitVec 32 := Scalar.muli v132 c1_i32_123
  let v134 : BitVec 32 := Scalar.addi c0_i32_124 v133
  v134.toNat
def k0_dev29 (d0 : Dev nD) : Nat :=
  let c0_i32_128 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v135 : BitVec 32 := Scalar.addi v2 c29_i32
  let c31_i32_125 : BitVec 32 := 31#32
  let v136 : BitVec 32 := Scalar.andi v135 c31_i32_125
  let c1_i32_127 : BitVec 32 := 1#32
  let v137 : BitVec 32 := Scalar.muli v136 c1_i32_127
  let v138 : BitVec 32 := Scalar.addi c0_i32_128 v137
  v138.toNat
def k0_dev30 (d0 : Dev nD) : Nat :=
  let c0_i32_132 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v139 : BitVec 32 := Scalar.addi v2 c30_i32
  let c31_i32_129 : BitVec 32 := 31#32
  let v140 : BitVec 32 := Scalar.andi v139 c31_i32_129
  let c1_i32_131 : BitVec 32 := 1#32
  let v141 : BitVec 32 := Scalar.muli v140 c1_i32_131
  let v142 : BitVec 32 := Scalar.addi c0_i32_132 v141
  v142.toNat
def k0_dev31 (d0 : Dev nD) : Nat :=
  let c0_i32_137 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_133 : BitVec 32 := 31#32
  let v143 : BitVec 32 := Scalar.addi v2 c31_i32_133
  let c31_i32_134 : BitVec 32 := 31#32
  let v144 : BitVec 32 := Scalar.andi v143 c31_i32_134
  let c1_i32_136 : BitVec 32 := 1#32
  let v145 : BitVec 32 := Scalar.muli v144 c1_i32_136
  let v146 : BitVec 32 := Scalar.addi c0_i32_137 v145
  v146.toNat
def k0_mult1 (d0 : Dev nD) : BitVec 32 :=
  let c16_i32_162 : BitVec 32 := 16#32
  let c16_i32_150 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_146 : BitVec 32 := 1#32
  let v178 : BitVec 32 := Scalar.addi v2 c1_i32_146
  let c31_i32_147 : BitVec 32 := 31#32
  let v179 : BitVec 32 := Scalar.andi v178 c31_i32_147
  let c1_i32_148 : BitVec 32 := 1#32
  let v180 : BitVec 32 := Scalar.shrsi v179 c1_i32_148
  let v181 : BitVec 32 := Scalar.xori v179 v180
  let c1_i32_149 : BitVec 32 := 1#32
  let v182 : BitVec 32 := Scalar.andi v181 c1_i32_149
  let v183 : BitVec 32 := Scalar.muli c16_i32_150 v182
  let c8_i32_153 : BitVec 32 := 8#32
  let c1_i32_151 : BitVec 32 := 1#32
  let v184 : BitVec 32 := Scalar.shrsi v179 c1_i32_151
  let c1_i32_152 : BitVec 32 := 1#32
  let v185 : BitVec 32 := Scalar.andi v184 c1_i32_152
  let v186 : BitVec 32 := Scalar.muli c8_i32_153 v185
  let v187 : BitVec 32 := Scalar.addi v183 v186
  let c4_i32_156 : BitVec 32 := 4#32
  let c3_i32_154 : BitVec 32 := 3#32
  let v188 : BitVec 32 := Scalar.shrsi v179 c3_i32_154
  let c1_i32_155 : BitVec 32 := 1#32
  let v189 : BitVec 32 := Scalar.andi v188 c1_i32_155
  let v190 : BitVec 32 := Scalar.muli c4_i32_156 v189
  let v191 : BitVec 32 := Scalar.addi v187 v190
  let c2_i32_159 : BitVec 32 := 2#32
  let c2_i32_157 : BitVec 32 := 2#32
  let v192 : BitVec 32 := Scalar.shrsi v179 c2_i32_157
  let c1_i32_158 : BitVec 32 := 1#32
  let v193 : BitVec 32 := Scalar.andi v192 c1_i32_158
  let v194 : BitVec 32 := Scalar.muli c2_i32_159 v193
  let v195 : BitVec 32 := Scalar.addi v191 v194
  let c4_i32_160 : BitVec 32 := 4#32
  let v196 : BitVec 32 := Scalar.shrsi v179 c4_i32_160
  let c1_i32_161 : BitVec 32 := 1#32
  let v197 : BitVec 32 := Scalar.andi v196 c1_i32_161
  let v198 : BitVec 32 := Scalar.addi v195 v197
  let v199 : BitVec 32 := Scalar.muli c16_i32_162 v198
  v199
def k0_mult2 (d0 : Dev nD) : BitVec 32 :=
  let c16_i32_163 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v201 : BitVec 32 := Scalar.muli c16_i32_163 v2
  v201
def k0_mult3 (d0 : Dev nD) : BitVec 32 :=
  let c16_i32_180 : BitVec 32 := 16#32
  let c16_i32_168 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_164 : BitVec 32 := 2#32
  let v203 : BitVec 32 := Scalar.addi v2 c2_i32_164
  let c31_i32_165 : BitVec 32 := 31#32
  let v204 : BitVec 32 := Scalar.andi v203 c31_i32_165
  let c1_i32_166 : BitVec 32 := 1#32
  let v205 : BitVec 32 := Scalar.shrsi v204 c1_i32_166
  let v206 : BitVec 32 := Scalar.xori v204 v205
  let c1_i32_167 : BitVec 32 := 1#32
  let v207 : BitVec 32 := Scalar.andi v206 c1_i32_167
  let v208 : BitVec 32 := Scalar.muli c16_i32_168 v207
  let c8_i32_171 : BitVec 32 := 8#32
  let c1_i32_169 : BitVec 32 := 1#32
  let v209 : BitVec 32 := Scalar.shrsi v204 c1_i32_169
  let c1_i32_170 : BitVec 32 := 1#32
  let v210 : BitVec 32 := Scalar.andi v209 c1_i32_170
  let v211 : BitVec 32 := Scalar.muli c8_i32_171 v210
  let v212 : BitVec 32 := Scalar.addi v208 v211
  let c4_i32_174 : BitVec 32 := 4#32
  let c3_i32_172 : BitVec 32 := 3#32
  let v213 : BitVec 32 := Scalar.shrsi v204 c3_i32_172
  let c1_i32_173 : BitVec 32 := 1#32
  let v214 : BitVec 32 := Scalar.andi v213 c1_i32_173
  let v215 : BitVec 32 := Scalar.muli c4_i32_174 v214
  let v216 : BitVec 32 := Scalar.addi v212 v215
  let c2_i32_177 : BitVec 32 := 2#32
  let c2_i32_175 : BitVec 32 := 2#32
  let v217 : BitVec 32 := Scalar.shrsi v204 c2_i32_175
  let c1_i32_176 : BitVec 32 := 1#32
  let v218 : BitVec 32 := Scalar.andi v217 c1_i32_176
  let v219 : BitVec 32 := Scalar.muli c2_i32_177 v218
  let v220 : BitVec 32 := Scalar.addi v216 v219
  let c4_i32_178 : BitVec 32 := 4#32
  let v221 : BitVec 32 := Scalar.shrsi v204 c4_i32_178
  let c1_i32_179 : BitVec 32 := 1#32
  let v222 : BitVec 32 := Scalar.andi v221 c1_i32_179
  let v223 : BitVec 32 := Scalar.addi v220 v222
  let v224 : BitVec 32 := Scalar.muli c16_i32_180 v223
  v224
def k0_mult4 (d0 : Dev nD) : BitVec 32 :=
  let c16_i32_181 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v226 : BitVec 32 := Scalar.muli c16_i32_181 v2
  v226
def k0_mult5 (d0 : Dev nD) : BitVec 32 :=
  let c16_i32_198 : BitVec 32 := 16#32
  let c16_i32_186 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_182 : BitVec 32 := 3#32
  let v228 : BitVec 32 := Scalar.addi v2 c3_i32_182
  let c31_i32_183 : BitVec 32 := 31#32
  let v229 : BitVec 32 := Scalar.andi v228 c31_i32_183
  let c1_i32_184 : BitVec 32 := 1#32
  let v230 : BitVec 32 := Scalar.shrsi v229 c1_i32_184
  let v231 : BitVec 32 := Scalar.xori v229 v230
  let c1_i32_185 : BitVec 32 := 1#32
  let v232 : BitVec 32 := Scalar.andi v231 c1_i32_185
  let v233 : BitVec 32 := Scalar.muli c16_i32_186 v232
  let c8_i32_189 : BitVec 32 := 8#32
  let c1_i32_187 : BitVec 32 := 1#32
  let v234 : BitVec 32 := Scalar.shrsi v229 c1_i32_187
  let c1_i32_188 : BitVec 32 := 1#32
  let v235 : BitVec 32 := Scalar.andi v234 c1_i32_188
  let v236 : BitVec 32 := Scalar.muli c8_i32_189 v235
  let v237 : BitVec 32 := Scalar.addi v233 v236
  let c4_i32_192 : BitVec 32 := 4#32
  let c3_i32_190 : BitVec 32 := 3#32
  let v238 : BitVec 32 := Scalar.shrsi v229 c3_i32_190
  let c1_i32_191 : BitVec 32 := 1#32
  let v239 : BitVec 32 := Scalar.andi v238 c1_i32_191
  let v240 : BitVec 32 := Scalar.muli c4_i32_192 v239
  let v241 : BitVec 32 := Scalar.addi v237 v240
  let c2_i32_195 : BitVec 32 := 2#32
  let c2_i32_193 : BitVec 32 := 2#32
  let v242 : BitVec 32 := Scalar.shrsi v229 c2_i32_193
  let c1_i32_194 : BitVec 32 := 1#32
  let v243 : BitVec 32 := Scalar.andi v242 c1_i32_194
  let v244 : BitVec 32 := Scalar.muli c2_i32_195 v243
  let v245 : BitVec 32 := Scalar.addi v241 v244
  let c4_i32_196 : BitVec 32 := 4#32
  let v246 : BitVec 32 := Scalar.shrsi v229 c4_i32_196
  let c1_i32_197 : BitVec 32 := 1#32
  let v247 : BitVec 32 := Scalar.andi v246 c1_i32_197
  let v248 : BitVec 32 := Scalar.addi v245 v247
  let v249 : BitVec 32 := Scalar.muli c16_i32_198 v248
  v249
def k0_mult6 (d0 : Dev nD) : BitVec 32 :=
  let c16_i32_199 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v251 : BitVec 32 := Scalar.muli c16_i32_199 v2
  v251
def k0_mult7 (d0 : Dev nD) : BitVec 32 :=
  let c16_i32_216 : BitVec 32 := 16#32
  let c16_i32_204 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_200 : BitVec 32 := 4#32
  let v253 : BitVec 32 := Scalar.addi v2 c4_i32_200
  let c31_i32_201 : BitVec 32 := 31#32
  let v254 : BitVec 32 := Scalar.andi v253 c31_i32_201
  let c1_i32_202 : BitVec 32 := 1#32
  let v255 : BitVec 32 := Scalar.shrsi v254 c1_i32_202
  let v256 : BitVec 32 := Scalar.xori v254 v255
  let c1_i32_203 : BitVec 32 := 1#32
  let v257 : BitVec 32 := Scalar.andi v256 c1_i32_203
  let v258 : BitVec 32 := Scalar.muli c16_i32_204 v257
  let c8_i32_207 : BitVec 32 := 8#32
  let c1_i32_205 : BitVec 32 := 1#32
  let v259 : BitVec 32 := Scalar.shrsi v254 c1_i32_205
  let c1_i32_206 : BitVec 32 := 1#32
  let v260 : BitVec 32 := Scalar.andi v259 c1_i32_206
  let v261 : BitVec 32 := Scalar.muli c8_i32_207 v260
  let v262 : BitVec 32 := Scalar.addi v258 v261
  let c4_i32_210 : BitVec 32 := 4#32
  let c3_i32_208 : BitVec 32 := 3#32
  let v263 : BitVec 32 := Scalar.shrsi v254 c3_i32_208
  let c1_i32_209 : BitVec 32 := 1#32
  let v264 : BitVec 32 := Scalar.andi v263 c1_i32_209
  let v265 : BitVec 32 := Scalar.muli c4_i32_210 v264
  let v266 : BitVec 32 := Scalar.addi v262 v265
  let c2_i32_213 : BitVec 32 := 2#32
  let c2_i32_211 : BitVec 32 := 2#32
  let v267 : BitVec 32 := Scalar.shrsi v254 c2_i32_211
  let c1_i32_212 : BitVec 32 := 1#32
  let v268 : BitVec 32 := Scalar.andi v267 c1_i32_212
  let v269 : BitVec 32 := Scalar.muli c2_i32_213 v268
  let v270 : BitVec 32 := Scalar.addi v266 v269
  let c4_i32_214 : BitVec 32 := 4#32
  let v271 : BitVec 32 := Scalar.shrsi v254 c4_i32_214
  let c1_i32_215 : BitVec 32 := 1#32
  let v272 : BitVec 32 := Scalar.andi v271 c1_i32_215
  let v273 : BitVec 32 := Scalar.addi v270 v272
  let v274 : BitVec 32 := Scalar.muli c16_i32_216 v273
  v274
def k0_mult8 (d0 : Dev nD) : BitVec 32 :=
  let c16_i32_217 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v276 : BitVec 32 := Scalar.muli c16_i32_217 v2
  v276
def k0_mult9 (d0 : Dev nD) : BitVec 32 :=
  let c16_i32_234 : BitVec 32 := 16#32
  let c16_i32_222 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_218 : BitVec 32 := 5#32
  let v278 : BitVec 32 := Scalar.addi v2 c5_i32_218
  let c31_i32_219 : BitVec 32 := 31#32
  let v279 : BitVec 32 := Scalar.andi v278 c31_i32_219
  let c1_i32_220 : BitVec 32 := 1#32
  let v280 : BitVec 32 := Scalar.shrsi v279 c1_i32_220
  let v281 : BitVec 32 := Scalar.xori v279 v280
  let c1_i32_221 : BitVec 32 := 1#32
  let v282 : BitVec 32 := Scalar.andi v281 c1_i32_221
  let v283 : BitVec 32 := Scalar.muli c16_i32_222 v282
  let c8_i32_225 : BitVec 32 := 8#32
  let c1_i32_223 : BitVec 32 := 1#32
  let v284 : BitVec 32 := Scalar.shrsi v279 c1_i32_223
  let c1_i32_224 : BitVec 32 := 1#32
  let v285 : BitVec 32 := Scalar.andi v284 c1_i32_224
  let v286 : BitVec 32 := Scalar.muli c8_i32_225 v285
  let v287 : BitVec 32 := Scalar.addi v283 v286
  let c4_i32_228 : BitVec 32 := 4#32
  let c3_i32_226 : BitVec 32 := 3#32
  let v288 : BitVec 32 := Scalar.shrsi v279 c3_i32_226
  let c1_i32_227 : BitVec 32 := 1#32
  let v289 : BitVec 32 := Scalar.andi v288 c1_i32_227
  let v290 : BitVec 32 := Scalar.muli c4_i32_228 v289
  let v291 : BitVec 32 := Scalar.addi v287 v290
  let c2_i32_231 : BitVec 32 := 2#32
  let c2_i32_229 : BitVec 32 := 2#32
  let v292 : BitVec 32 := Scalar.shrsi v279 c2_i32_229
  let c1_i32_230 : BitVec 32 := 1#32
  let v293 : BitVec 32 := Scalar.andi v292 c1_i32_230
  let v294 : BitVec 32 := Scalar.muli c2_i32_231 v293
  let v295 : BitVec 32 := Scalar.addi v291 v294
  let c4_i32_232 : BitVec 32 := 4#32
  let v296 : BitVec 32 := Scalar.shrsi v279 c4_i32_232
  let c1_i32_233 : BitVec 32 := 1#32
  let v297 : BitVec 32 := Scalar.andi v296 c1_i32_233
  let v298 : BitVec 32 := Scalar.addi v295 v297
  let v299 : BitVec 32 := Scalar.muli c16_i32_234 v298
  v299
def k0_mult10 (d0 : Dev nD) : BitVec 32 :=
  let c16_i32_235 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v301 : BitVec 32 := Scalar.muli c16_i32_235 v2
  v301
def k0_mult11 (d0 : Dev nD) : BitVec 32 :=
  let c16_i32_252 : BitVec 32 := 16#32
  let c16_i32_240 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_236 : BitVec 32 := 6#32
  let v303 : BitVec 32 := Scalar.addi v2 c6_i32_236
  let c31_i32_237 : BitVec 32 := 31#32
  let v304 : BitVec 32 := Scalar.andi v303 c31_i32_237
  let c1_i32_238 : BitVec 32 := 1#32
  let v305 : BitVec 32 := Scalar.shrsi v304 c1_i32_238
  let v306 : BitVec 32 := Scalar.xori v304 v305
  let c1_i32_239 : BitVec 32 := 1#32
  let v307 : BitVec 32 := Scalar.andi v306 c1_i32_239
  let v308 : BitVec 32 := Scalar.muli c16_i32_240 v307
  let c8_i32_243 : BitVec 32 := 8#32
  let c1_i32_241 : BitVec 32 := 1#32
  let v309 : BitVec 32 := Scalar.shrsi v304 c1_i32_241
  let c1_i32_242 : BitVec 32 := 1#32
  let v310 : BitVec 32 := Scalar.andi v309 c1_i32_242
  let v311 : BitVec 32 := Scalar.muli c8_i32_243 v310
  let v312 : BitVec 32 := Scalar.addi v308 v311
  let c4_i32_246 : BitVec 32 := 4#32
  let c3_i32_244 : BitVec 32 := 3#32
  let v313 : BitVec 32 := Scalar.shrsi v304 c3_i32_244
  let c1_i32_245 : BitVec 32 := 1#32
  let v314 : BitVec 32 := Scalar.andi v313 c1_i32_245
  let v315 : BitVec 32 := Scalar.muli c4_i32_246 v314
  let v316 : BitVec 32 := Scalar.addi v312 v315
  let c2_i32_249 : BitVec 32 := 2#32
  let c2_i32_247 : BitVec 32 := 2#32
  let v317 : BitVec 32 := Scalar.shrsi v304 c2_i32_247
  let c1_i32_248 : BitVec 32 := 1#32
  let v318 : BitVec 32 := Scalar.andi v317 c1_i32_248
  let v319 : BitVec 32 := Scalar.muli c2_i32_249 v318
  let v320 : BitVec 32 := Scalar.addi v316 v319
  let c4_i32_250 : BitVec 32 := 4#32
  let v321 : BitVec 32 := Scalar.shrsi v304 c4_i32_250
  let c1_i32_251 : BitVec 32 := 1#32
  let v322 : BitVec 32 := Scalar.andi v321 c1_i32_251
  let v323 : BitVec 32 := Scalar.addi v320 v322
  let v324 : BitVec 32 := Scalar.muli c16_i32_252 v323
  v324
def k0_mult12 (d0 : Dev nD) : BitVec 32 :=
  let c16_i32_253 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v326 : BitVec 32 := Scalar.muli c16_i32_253 v2
  v326
def k0_mult13 (d0 : Dev nD) : BitVec 32 :=
  let c16_i32_270 : BitVec 32 := 16#32
  let c16_i32_258 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_254 : BitVec 32 := 7#32
  let v328 : BitVec 32 := Scalar.addi v2 c7_i32_254
  let c31_i32_255 : BitVec 32 := 31#32
  let v329 : BitVec 32 := Scalar.andi v328 c31_i32_255
  let c1_i32_256 : BitVec 32 := 1#32
  let v330 : BitVec 32 := Scalar.shrsi v329 c1_i32_256
  let v331 : BitVec 32 := Scalar.xori v329 v330
  let c1_i32_257 : BitVec 32 := 1#32
  let v332 : BitVec 32 := Scalar.andi v331 c1_i32_257
  let v333 : BitVec 32 := Scalar.muli c16_i32_258 v332
  let c8_i32_261 : BitVec 32 := 8#32
  let c1_i32_259 : BitVec 32 := 1#32
  let v334 : BitVec 32 := Scalar.shrsi v329 c1_i32_259
  let c1_i32_260 : BitVec 32 := 1#32
  let v335 : BitVec 32 := Scalar.andi v334 c1_i32_260
  let v336 : BitVec 32 := Scalar.muli c8_i32_261 v335
  let v337 : BitVec 32 := Scalar.addi v333 v336
  let c4_i32_264 : BitVec 32 := 4#32
  let c3_i32_262 : BitVec 32 := 3#32
  let v338 : BitVec 32 := Scalar.shrsi v329 c3_i32_262
  let c1_i32_263 : BitVec 32 := 1#32
  let v339 : BitVec 32 := Scalar.andi v338 c1_i32_263
  let v340 : BitVec 32 := Scalar.muli c4_i32_264 v339
  let v341 : BitVec 32 := Scalar.addi v337 v340
  let c2_i32_267 : BitVec 32 := 2#32
  let c2_i32_265 : BitVec 32 := 2#32
  let v342 : BitVec 32 := Scalar.shrsi v329 c2_i32_265
  let c1_i32_266 : BitVec 32 := 1#32
  let v343 : BitVec 32 := Scalar.andi v342 c1_i32_266
  let v344 : BitVec 32 := Scalar.muli c2_i32_267 v343
  let v345 : BitVec 32 := Scalar.addi v341 v344
  let c4_i32_268 : BitVec 32 := 4#32
  let v346 : BitVec 32 := Scalar.shrsi v329 c4_i32_268
  let c1_i32_269 : BitVec 32 := 1#32
  let v347 : BitVec 32 := Scalar.andi v346 c1_i32_269
  let v348 : BitVec 32 := Scalar.addi v345 v347
  let v349 : BitVec 32 := Scalar.muli c16_i32_270 v348
  v349
def k0_mult14 (d0 : Dev nD) : BitVec 32 :=
  let c16_i32_271 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v351 : BitVec 32 := Scalar.muli c16_i32_271 v2
  v351
def k0_mult15 (d0 : Dev nD) : BitVec 32 :=
  let c16_i32_288 : BitVec 32 := 16#32
  let c16_i32_276 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_272 : BitVec 32 := 8#32
  let v353 : BitVec 32 := Scalar.addi v2 c8_i32_272
  let c31_i32_273 : BitVec 32 := 31#32
  let v354 : BitVec 32 := Scalar.andi v353 c31_i32_273
  let c1_i32_274 : BitVec 32 := 1#32
  let v355 : BitVec 32 := Scalar.shrsi v354 c1_i32_274
  let v356 : BitVec 32 := Scalar.xori v354 v355
  let c1_i32_275 : BitVec 32 := 1#32
  let v357 : BitVec 32 := Scalar.andi v356 c1_i32_275
  let v358 : BitVec 32 := Scalar.muli c16_i32_276 v357
  let c8_i32_279 : BitVec 32 := 8#32
  let c1_i32_277 : BitVec 32 := 1#32
  let v359 : BitVec 32 := Scalar.shrsi v354 c1_i32_277
  let c1_i32_278 : BitVec 32 := 1#32
  let v360 : BitVec 32 := Scalar.andi v359 c1_i32_278
  let v361 : BitVec 32 := Scalar.muli c8_i32_279 v360
  let v362 : BitVec 32 := Scalar.addi v358 v361
  let c4_i32_282 : BitVec 32 := 4#32
  let c3_i32_280 : BitVec 32 := 3#32
  let v363 : BitVec 32 := Scalar.shrsi v354 c3_i32_280
  let c1_i32_281 : BitVec 32 := 1#32
  let v364 : BitVec 32 := Scalar.andi v363 c1_i32_281
  let v365 : BitVec 32 := Scalar.muli c4_i32_282 v364
  let v366 : BitVec 32 := Scalar.addi v362 v365
  let c2_i32_285 : BitVec 32 := 2#32
  let c2_i32_283 : BitVec 32 := 2#32
  let v367 : BitVec 32 := Scalar.shrsi v354 c2_i32_283
  let c1_i32_284 : BitVec 32 := 1#32
  let v368 : BitVec 32 := Scalar.andi v367 c1_i32_284
  let v369 : BitVec 32 := Scalar.muli c2_i32_285 v368
  let v370 : BitVec 32 := Scalar.addi v366 v369
  let c4_i32_286 : BitVec 32 := 4#32
  let v371 : BitVec 32 := Scalar.shrsi v354 c4_i32_286
  let c1_i32_287 : BitVec 32 := 1#32
  let v372 : BitVec 32 := Scalar.andi v371 c1_i32_287
  let v373 : BitVec 32 := Scalar.addi v370 v372
  let v374 : BitVec 32 := Scalar.muli c16_i32_288 v373
  v374
def k0_mult16 (d0 : Dev nD) : BitVec 32 :=
  let c16_i32_289 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v376 : BitVec 32 := Scalar.muli c16_i32_289 v2
  v376
def k0_mult17 (d0 : Dev nD) : BitVec 32 :=
  let c16_i32_306 : BitVec 32 := 16#32
  let c16_i32_294 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_290 : BitVec 32 := 9#32
  let v378 : BitVec 32 := Scalar.addi v2 c9_i32_290
  let c31_i32_291 : BitVec 32 := 31#32
  let v379 : BitVec 32 := Scalar.andi v378 c31_i32_291
  let c1_i32_292 : BitVec 32 := 1#32
  let v380 : BitVec 32 := Scalar.shrsi v379 c1_i32_292
  let v381 : BitVec 32 := Scalar.xori v379 v380
  let c1_i32_293 : BitVec 32 := 1#32
  let v382 : BitVec 32 := Scalar.andi v381 c1_i32_293
  let v383 : BitVec 32 := Scalar.muli c16_i32_294 v382
  let c8_i32_297 : BitVec 32 := 8#32
  let c1_i32_295 : BitVec 32 := 1#32
  let v384 : BitVec 32 := Scalar.shrsi v379 c1_i32_295
  let c1_i32_296 : BitVec 32 := 1#32
  let v385 : BitVec 32 := Scalar.andi v384 c1_i32_296
  let v386 : BitVec 32 := Scalar.muli c8_i32_297 v385
  let v387 : BitVec 32 := Scalar.addi v383 v386
  let c4_i32_300 : BitVec 32 := 4#32
  let c3_i32_298 : BitVec 32 := 3#32
  let v388 : BitVec 32 := Scalar.shrsi v379 c3_i32_298
  let c1_i32_299 : BitVec 32 := 1#32
  let v389 : BitVec 32 := Scalar.andi v388 c1_i32_299
  let v390 : BitVec 32 := Scalar.muli c4_i32_300 v389
  let v391 : BitVec 32 := Scalar.addi v387 v390
  let c2_i32_303 : BitVec 32 := 2#32
  let c2_i32_301 : BitVec 32 := 2#32
  let v392 : BitVec 32 := Scalar.shrsi v379 c2_i32_301
  let c1_i32_302 : BitVec 32 := 1#32
  let v393 : BitVec 32 := Scalar.andi v392 c1_i32_302
  let v394 : BitVec 32 := Scalar.muli c2_i32_303 v393
  let v395 : BitVec 32 := Scalar.addi v391 v394
  let c4_i32_304 : BitVec 32 := 4#32
  let v396 : BitVec 32 := Scalar.shrsi v379 c4_i32_304
  let c1_i32_305 : BitVec 32 := 1#32
  let v397 : BitVec 32 := Scalar.andi v396 c1_i32_305
  let v398 : BitVec 32 := Scalar.addi v395 v397
  let v399 : BitVec 32 := Scalar.muli c16_i32_306 v398
  v399
def k0_mult18 (d0 : Dev nD) : BitVec 32 :=
  let c16_i32_307 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v401 : BitVec 32 := Scalar.muli c16_i32_307 v2
  v401
def k0_mult19 (d0 : Dev nD) : BitVec 32 :=
  let c16_i32_324 : BitVec 32 := 16#32
  let c16_i32_312 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_308 : BitVec 32 := 10#32
  let v403 : BitVec 32 := Scalar.addi v2 c10_i32_308
  let c31_i32_309 : BitVec 32 := 31#32
  let v404 : BitVec 32 := Scalar.andi v403 c31_i32_309
  let c1_i32_310 : BitVec 32 := 1#32
  let v405 : BitVec 32 := Scalar.shrsi v404 c1_i32_310
  let v406 : BitVec 32 := Scalar.xori v404 v405
  let c1_i32_311 : BitVec 32 := 1#32
  let v407 : BitVec 32 := Scalar.andi v406 c1_i32_311
  let v408 : BitVec 32 := Scalar.muli c16_i32_312 v407
  let c8_i32_315 : BitVec 32 := 8#32
  let c1_i32_313 : BitVec 32 := 1#32
  let v409 : BitVec 32 := Scalar.shrsi v404 c1_i32_313
  let c1_i32_314 : BitVec 32 := 1#32
  let v410 : BitVec 32 := Scalar.andi v409 c1_i32_314
  let v411 : BitVec 32 := Scalar.muli c8_i32_315 v410
  let v412 : BitVec 32 := Scalar.addi v408 v411
  let c4_i32_318 : BitVec 32 := 4#32
  let c3_i32_316 : BitVec 32 := 3#32
  let v413 : BitVec 32 := Scalar.shrsi v404 c3_i32_316
  let c1_i32_317 : BitVec 32 := 1#32
  let v414 : BitVec 32 := Scalar.andi v413 c1_i32_317
  let v415 : BitVec 32 := Scalar.muli c4_i32_318 v414
  let v416 : BitVec 32 := Scalar.addi v412 v415
  let c2_i32_321 : BitVec 32 := 2#32
  let c2_i32_319 : BitVec 32 := 2#32
  let v417 : BitVec 32 := Scalar.shrsi v404 c2_i32_319
  let c1_i32_320 : BitVec 32 := 1#32
  let v418 : BitVec 32 := Scalar.andi v417 c1_i32_320
  let v419 : BitVec 32 := Scalar.muli c2_i32_321 v418
  let v420 : BitVec 32 := Scalar.addi v416 v419
  let c4_i32_322 : BitVec 32 := 4#32
  let v421 : BitVec 32 := Scalar.shrsi v404 c4_i32_322
  let c1_i32_323 : BitVec 32 := 1#32
  let v422 : BitVec 32 := Scalar.andi v421 c1_i32_323
  let v423 : BitVec 32 := Scalar.addi v420 v422
  let v424 : BitVec 32 := Scalar.muli c16_i32_324 v423
  v424
def k0_mult20 (d0 : Dev nD) : BitVec 32 :=
  let c16_i32_325 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v426 : BitVec 32 := Scalar.muli c16_i32_325 v2
  v426
def k0_mult21 (d0 : Dev nD) : BitVec 32 :=
  let c16_i32_342 : BitVec 32 := 16#32
  let c16_i32_330 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_326 : BitVec 32 := 11#32
  let v428 : BitVec 32 := Scalar.addi v2 c11_i32_326
  let c31_i32_327 : BitVec 32 := 31#32
  let v429 : BitVec 32 := Scalar.andi v428 c31_i32_327
  let c1_i32_328 : BitVec 32 := 1#32
  let v430 : BitVec 32 := Scalar.shrsi v429 c1_i32_328
  let v431 : BitVec 32 := Scalar.xori v429 v430
  let c1_i32_329 : BitVec 32 := 1#32
  let v432 : BitVec 32 := Scalar.andi v431 c1_i32_329
  let v433 : BitVec 32 := Scalar.muli c16_i32_330 v432
  let c8_i32_333 : BitVec 32 := 8#32
  let c1_i32_331 : BitVec 32 := 1#32
  let v434 : BitVec 32 := Scalar.shrsi v429 c1_i32_331
  let c1_i32_332 : BitVec 32 := 1#32
  let v435 : BitVec 32 := Scalar.andi v434 c1_i32_332
  let v436 : BitVec 32 := Scalar.muli c8_i32_333 v435
  let v437 : BitVec 32 := Scalar.addi v433 v436
  let c4_i32_336 : BitVec 32 := 4#32
  let c3_i32_334 : BitVec 32 := 3#32
  let v438 : BitVec 32 := Scalar.shrsi v429 c3_i32_334
  let c1_i32_335 : BitVec 32 := 1#32
  let v439 : BitVec 32 := Scalar.andi v438 c1_i32_335
  let v440 : BitVec 32 := Scalar.muli c4_i32_336 v439
  let v441 : BitVec 32 := Scalar.addi v437 v440
  let c2_i32_339 : BitVec 32 := 2#32
  let c2_i32_337 : BitVec 32 := 2#32
  let v442 : BitVec 32 := Scalar.shrsi v429 c2_i32_337
  let c1_i32_338 : BitVec 32 := 1#32
  let v443 : BitVec 32 := Scalar.andi v442 c1_i32_338
  let v444 : BitVec 32 := Scalar.muli c2_i32_339 v443
  let v445 : BitVec 32 := Scalar.addi v441 v444
  let c4_i32_340 : BitVec 32 := 4#32
  let v446 : BitVec 32 := Scalar.shrsi v429 c4_i32_340
  let c1_i32_341 : BitVec 32 := 1#32
  let v447 : BitVec 32 := Scalar.andi v446 c1_i32_341
  let v448 : BitVec 32 := Scalar.addi v445 v447
  let v449 : BitVec 32 := Scalar.muli c16_i32_342 v448
  v449
def k0_mult22 (d0 : Dev nD) : BitVec 32 :=
  let c16_i32_343 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v451 : BitVec 32 := Scalar.muli c16_i32_343 v2
  v451
def k0_mult23 (d0 : Dev nD) : BitVec 32 :=
  let c16_i32_360 : BitVec 32 := 16#32
  let c16_i32_348 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_344 : BitVec 32 := 12#32
  let v453 : BitVec 32 := Scalar.addi v2 c12_i32_344
  let c31_i32_345 : BitVec 32 := 31#32
  let v454 : BitVec 32 := Scalar.andi v453 c31_i32_345
  let c1_i32_346 : BitVec 32 := 1#32
  let v455 : BitVec 32 := Scalar.shrsi v454 c1_i32_346
  let v456 : BitVec 32 := Scalar.xori v454 v455
  let c1_i32_347 : BitVec 32 := 1#32
  let v457 : BitVec 32 := Scalar.andi v456 c1_i32_347
  let v458 : BitVec 32 := Scalar.muli c16_i32_348 v457
  let c8_i32_351 : BitVec 32 := 8#32
  let c1_i32_349 : BitVec 32 := 1#32
  let v459 : BitVec 32 := Scalar.shrsi v454 c1_i32_349
  let c1_i32_350 : BitVec 32 := 1#32
  let v460 : BitVec 32 := Scalar.andi v459 c1_i32_350
  let v461 : BitVec 32 := Scalar.muli c8_i32_351 v460
  let v462 : BitVec 32 := Scalar.addi v458 v461
  let c4_i32_354 : BitVec 32 := 4#32
  let c3_i32_352 : BitVec 32 := 3#32
  let v463 : BitVec 32 := Scalar.shrsi v454 c3_i32_352
  let c1_i32_353 : BitVec 32 := 1#32
  let v464 : BitVec 32 := Scalar.andi v463 c1_i32_353
  let v465 : BitVec 32 := Scalar.muli c4_i32_354 v464
  let v466 : BitVec 32 := Scalar.addi v462 v465
  let c2_i32_357 : BitVec 32 := 2#32
  let c2_i32_355 : BitVec 32 := 2#32
  let v467 : BitVec 32 := Scalar.shrsi v454 c2_i32_355
  let c1_i32_356 : BitVec 32 := 1#32
  let v468 : BitVec 32 := Scalar.andi v467 c1_i32_356
  let v469 : BitVec 32 := Scalar.muli c2_i32_357 v468
  let v470 : BitVec 32 := Scalar.addi v466 v469
  let c4_i32_358 : BitVec 32 := 4#32
  let v471 : BitVec 32 := Scalar.shrsi v454 c4_i32_358
  let c1_i32_359 : BitVec 32 := 1#32
  let v472 : BitVec 32 := Scalar.andi v471 c1_i32_359
  let v473 : BitVec 32 := Scalar.addi v470 v472
  let v474 : BitVec 32 := Scalar.muli c16_i32_360 v473
  v474
def k0_mult24 (d0 : Dev nD) : BitVec 32 :=
  let c16_i32_361 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v476 : BitVec 32 := Scalar.muli c16_i32_361 v2
  v476
def k0_mult25 (d0 : Dev nD) : BitVec 32 :=
  let c16_i32_378 : BitVec 32 := 16#32
  let c16_i32_366 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_362 : BitVec 32 := 13#32
  let v478 : BitVec 32 := Scalar.addi v2 c13_i32_362
  let c31_i32_363 : BitVec 32 := 31#32
  let v479 : BitVec 32 := Scalar.andi v478 c31_i32_363
  let c1_i32_364 : BitVec 32 := 1#32
  let v480 : BitVec 32 := Scalar.shrsi v479 c1_i32_364
  let v481 : BitVec 32 := Scalar.xori v479 v480
  let c1_i32_365 : BitVec 32 := 1#32
  let v482 : BitVec 32 := Scalar.andi v481 c1_i32_365
  let v483 : BitVec 32 := Scalar.muli c16_i32_366 v482
  let c8_i32_369 : BitVec 32 := 8#32
  let c1_i32_367 : BitVec 32 := 1#32
  let v484 : BitVec 32 := Scalar.shrsi v479 c1_i32_367
  let c1_i32_368 : BitVec 32 := 1#32
  let v485 : BitVec 32 := Scalar.andi v484 c1_i32_368
  let v486 : BitVec 32 := Scalar.muli c8_i32_369 v485
  let v487 : BitVec 32 := Scalar.addi v483 v486
  let c4_i32_372 : BitVec 32 := 4#32
  let c3_i32_370 : BitVec 32 := 3#32
  let v488 : BitVec 32 := Scalar.shrsi v479 c3_i32_370
  let c1_i32_371 : BitVec 32 := 1#32
  let v489 : BitVec 32 := Scalar.andi v488 c1_i32_371
  let v490 : BitVec 32 := Scalar.muli c4_i32_372 v489
  let v491 : BitVec 32 := Scalar.addi v487 v490
  let c2_i32_375 : BitVec 32 := 2#32
  let c2_i32_373 : BitVec 32 := 2#32
  let v492 : BitVec 32 := Scalar.shrsi v479 c2_i32_373
  let c1_i32_374 : BitVec 32 := 1#32
  let v493 : BitVec 32 := Scalar.andi v492 c1_i32_374
  let v494 : BitVec 32 := Scalar.muli c2_i32_375 v493
  let v495 : BitVec 32 := Scalar.addi v491 v494
  let c4_i32_376 : BitVec 32 := 4#32
  let v496 : BitVec 32 := Scalar.shrsi v479 c4_i32_376
  let c1_i32_377 : BitVec 32 := 1#32
  let v497 : BitVec 32 := Scalar.andi v496 c1_i32_377
  let v498 : BitVec 32 := Scalar.addi v495 v497
  let v499 : BitVec 32 := Scalar.muli c16_i32_378 v498
  v499
def k0_mult26 (d0 : Dev nD) : BitVec 32 :=
  let c16_i32_379 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v501 : BitVec 32 := Scalar.muli c16_i32_379 v2
  v501
def k0_mult27 (d0 : Dev nD) : BitVec 32 :=
  let c16_i32_396 : BitVec 32 := 16#32
  let c16_i32_384 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_380 : BitVec 32 := 14#32
  let v503 : BitVec 32 := Scalar.addi v2 c14_i32_380
  let c31_i32_381 : BitVec 32 := 31#32
  let v504 : BitVec 32 := Scalar.andi v503 c31_i32_381
  let c1_i32_382 : BitVec 32 := 1#32
  let v505 : BitVec 32 := Scalar.shrsi v504 c1_i32_382
  let v506 : BitVec 32 := Scalar.xori v504 v505
  let c1_i32_383 : BitVec 32 := 1#32
  let v507 : BitVec 32 := Scalar.andi v506 c1_i32_383
  let v508 : BitVec 32 := Scalar.muli c16_i32_384 v507
  let c8_i32_387 : BitVec 32 := 8#32
  let c1_i32_385 : BitVec 32 := 1#32
  let v509 : BitVec 32 := Scalar.shrsi v504 c1_i32_385
  let c1_i32_386 : BitVec 32 := 1#32
  let v510 : BitVec 32 := Scalar.andi v509 c1_i32_386
  let v511 : BitVec 32 := Scalar.muli c8_i32_387 v510
  let v512 : BitVec 32 := Scalar.addi v508 v511
  let c4_i32_390 : BitVec 32 := 4#32
  let c3_i32_388 : BitVec 32 := 3#32
  let v513 : BitVec 32 := Scalar.shrsi v504 c3_i32_388
  let c1_i32_389 : BitVec 32 := 1#32
  let v514 : BitVec 32 := Scalar.andi v513 c1_i32_389
  let v515 : BitVec 32 := Scalar.muli c4_i32_390 v514
  let v516 : BitVec 32 := Scalar.addi v512 v515
  let c2_i32_393 : BitVec 32 := 2#32
  let c2_i32_391 : BitVec 32 := 2#32
  let v517 : BitVec 32 := Scalar.shrsi v504 c2_i32_391
  let c1_i32_392 : BitVec 32 := 1#32
  let v518 : BitVec 32 := Scalar.andi v517 c1_i32_392
  let v519 : BitVec 32 := Scalar.muli c2_i32_393 v518
  let v520 : BitVec 32 := Scalar.addi v516 v519
  let c4_i32_394 : BitVec 32 := 4#32
  let v521 : BitVec 32 := Scalar.shrsi v504 c4_i32_394
  let c1_i32_395 : BitVec 32 := 1#32
  let v522 : BitVec 32 := Scalar.andi v521 c1_i32_395
  let v523 : BitVec 32 := Scalar.addi v520 v522
  let v524 : BitVec 32 := Scalar.muli c16_i32_396 v523
  v524
def k0_mult28 (d0 : Dev nD) : BitVec 32 :=
  let c16_i32_397 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v526 : BitVec 32 := Scalar.muli c16_i32_397 v2
  v526
def k0_mult29 (d0 : Dev nD) : BitVec 32 :=
  let c16_i32_414 : BitVec 32 := 16#32
  let c16_i32_402 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_398 : BitVec 32 := 15#32
  let v528 : BitVec 32 := Scalar.addi v2 c15_i32_398
  let c31_i32_399 : BitVec 32 := 31#32
  let v529 : BitVec 32 := Scalar.andi v528 c31_i32_399
  let c1_i32_400 : BitVec 32 := 1#32
  let v530 : BitVec 32 := Scalar.shrsi v529 c1_i32_400
  let v531 : BitVec 32 := Scalar.xori v529 v530
  let c1_i32_401 : BitVec 32 := 1#32
  let v532 : BitVec 32 := Scalar.andi v531 c1_i32_401
  let v533 : BitVec 32 := Scalar.muli c16_i32_402 v532
  let c8_i32_405 : BitVec 32 := 8#32
  let c1_i32_403 : BitVec 32 := 1#32
  let v534 : BitVec 32 := Scalar.shrsi v529 c1_i32_403
  let c1_i32_404 : BitVec 32 := 1#32
  let v535 : BitVec 32 := Scalar.andi v534 c1_i32_404
  let v536 : BitVec 32 := Scalar.muli c8_i32_405 v535
  let v537 : BitVec 32 := Scalar.addi v533 v536
  let c4_i32_408 : BitVec 32 := 4#32
  let c3_i32_406 : BitVec 32 := 3#32
  let v538 : BitVec 32 := Scalar.shrsi v529 c3_i32_406
  let c1_i32_407 : BitVec 32 := 1#32
  let v539 : BitVec 32 := Scalar.andi v538 c1_i32_407
  let v540 : BitVec 32 := Scalar.muli c4_i32_408 v539
  let v541 : BitVec 32 := Scalar.addi v537 v540
  let c2_i32_411 : BitVec 32 := 2#32
  let c2_i32_409 : BitVec 32 := 2#32
  let v542 : BitVec 32 := Scalar.shrsi v529 c2_i32_409
  let c1_i32_410 : BitVec 32 := 1#32
  let v543 : BitVec 32 := Scalar.andi v542 c1_i32_410
  let v544 : BitVec 32 := Scalar.muli c2_i32_411 v543
  let v545 : BitVec 32 := Scalar.addi v541 v544
  let c4_i32_412 : BitVec 32 := 4#32
  let v546 : BitVec 32 := Scalar.shrsi v529 c4_i32_412
  let c1_i32_413 : BitVec 32 := 1#32
  let v547 : BitVec 32 := Scalar.andi v546 c1_i32_413
  let v548 : BitVec 32 := Scalar.addi v545 v547
  let v549 : BitVec 32 := Scalar.muli c16_i32_414 v548
  v549
def k0_mult30 (d0 : Dev nD) : BitVec 32 :=
  let c16_i32_415 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v551 : BitVec 32 := Scalar.muli c16_i32_415 v2
  v551
def k0_mult31 (d0 : Dev nD) : BitVec 32 :=
  let c16_i32_432 : BitVec 32 := 16#32
  let c16_i32_420 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_416 : BitVec 32 := 16#32
  let v553 : BitVec 32 := Scalar.addi v2 c16_i32_416
  let c31_i32_417 : BitVec 32 := 31#32
  let v554 : BitVec 32 := Scalar.andi v553 c31_i32_417
  let c1_i32_418 : BitVec 32 := 1#32
  let v555 : BitVec 32 := Scalar.shrsi v554 c1_i32_418
  let v556 : BitVec 32 := Scalar.xori v554 v555
  let c1_i32_419 : BitVec 32 := 1#32
  let v557 : BitVec 32 := Scalar.andi v556 c1_i32_419
  let v558 : BitVec 32 := Scalar.muli c16_i32_420 v557
  let c8_i32_423 : BitVec 32 := 8#32
  let c1_i32_421 : BitVec 32 := 1#32
  let v559 : BitVec 32 := Scalar.shrsi v554 c1_i32_421
  let c1_i32_422 : BitVec 32 := 1#32
  let v560 : BitVec 32 := Scalar.andi v559 c1_i32_422
  let v561 : BitVec 32 := Scalar.muli c8_i32_423 v560
  let v562 : BitVec 32 := Scalar.addi v558 v561
  let c4_i32_426 : BitVec 32 := 4#32
  let c3_i32_424 : BitVec 32 := 3#32
  let v563 : BitVec 32 := Scalar.shrsi v554 c3_i32_424
  let c1_i32_425 : BitVec 32 := 1#32
  let v564 : BitVec 32 := Scalar.andi v563 c1_i32_425
  let v565 : BitVec 32 := Scalar.muli c4_i32_426 v564
  let v566 : BitVec 32 := Scalar.addi v562 v565
  let c2_i32_429 : BitVec 32 := 2#32
  let c2_i32_427 : BitVec 32 := 2#32
  let v567 : BitVec 32 := Scalar.shrsi v554 c2_i32_427
  let c1_i32_428 : BitVec 32 := 1#32
  let v568 : BitVec 32 := Scalar.andi v567 c1_i32_428
  let v569 : BitVec 32 := Scalar.muli c2_i32_429 v568
  let v570 : BitVec 32 := Scalar.addi v566 v569
  let c4_i32_430 : BitVec 32 := 4#32
  let v571 : BitVec 32 := Scalar.shrsi v554 c4_i32_430
  let c1_i32_431 : BitVec 32 := 1#32
  let v572 : BitVec 32 := Scalar.andi v571 c1_i32_431
  let v573 : BitVec 32 := Scalar.addi v570 v572
  let v574 : BitVec 32 := Scalar.muli c16_i32_432 v573
  v574
def k0_mult32 (d0 : Dev nD) : BitVec 32 :=
  let c16_i32_433 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v576 : BitVec 32 := Scalar.muli c16_i32_433 v2
  v576
def k0_mult33 (d0 : Dev nD) : BitVec 32 :=
  let c16_i32_450 : BitVec 32 := 16#32
  let c16_i32_438 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_434 : BitVec 32 := 17#32
  let v578 : BitVec 32 := Scalar.addi v2 c17_i32_434
  let c31_i32_435 : BitVec 32 := 31#32
  let v579 : BitVec 32 := Scalar.andi v578 c31_i32_435
  let c1_i32_436 : BitVec 32 := 1#32
  let v580 : BitVec 32 := Scalar.shrsi v579 c1_i32_436
  let v581 : BitVec 32 := Scalar.xori v579 v580
  let c1_i32_437 : BitVec 32 := 1#32
  let v582 : BitVec 32 := Scalar.andi v581 c1_i32_437
  let v583 : BitVec 32 := Scalar.muli c16_i32_438 v582
  let c8_i32_441 : BitVec 32 := 8#32
  let c1_i32_439 : BitVec 32 := 1#32
  let v584 : BitVec 32 := Scalar.shrsi v579 c1_i32_439
  let c1_i32_440 : BitVec 32 := 1#32
  let v585 : BitVec 32 := Scalar.andi v584 c1_i32_440
  let v586 : BitVec 32 := Scalar.muli c8_i32_441 v585
  let v587 : BitVec 32 := Scalar.addi v583 v586
  let c4_i32_444 : BitVec 32 := 4#32
  let c3_i32_442 : BitVec 32 := 3#32
  let v588 : BitVec 32 := Scalar.shrsi v579 c3_i32_442
  let c1_i32_443 : BitVec 32 := 1#32
  let v589 : BitVec 32 := Scalar.andi v588 c1_i32_443
  let v590 : BitVec 32 := Scalar.muli c4_i32_444 v589
  let v591 : BitVec 32 := Scalar.addi v587 v590
  let c2_i32_447 : BitVec 32 := 2#32
  let c2_i32_445 : BitVec 32 := 2#32
  let v592 : BitVec 32 := Scalar.shrsi v579 c2_i32_445
  let c1_i32_446 : BitVec 32 := 1#32
  let v593 : BitVec 32 := Scalar.andi v592 c1_i32_446
  let v594 : BitVec 32 := Scalar.muli c2_i32_447 v593
  let v595 : BitVec 32 := Scalar.addi v591 v594
  let c4_i32_448 : BitVec 32 := 4#32
  let v596 : BitVec 32 := Scalar.shrsi v579 c4_i32_448
  let c1_i32_449 : BitVec 32 := 1#32
  let v597 : BitVec 32 := Scalar.andi v596 c1_i32_449
  let v598 : BitVec 32 := Scalar.addi v595 v597
  let v599 : BitVec 32 := Scalar.muli c16_i32_450 v598
  v599
def k0_mult34 (d0 : Dev nD) : BitVec 32 :=
  let c16_i32_451 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v601 : BitVec 32 := Scalar.muli c16_i32_451 v2
  v601
def k0_mult35 (d0 : Dev nD) : BitVec 32 :=
  let c16_i32_468 : BitVec 32 := 16#32
  let c16_i32_456 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_452 : BitVec 32 := 18#32
  let v603 : BitVec 32 := Scalar.addi v2 c18_i32_452
  let c31_i32_453 : BitVec 32 := 31#32
  let v604 : BitVec 32 := Scalar.andi v603 c31_i32_453
  let c1_i32_454 : BitVec 32 := 1#32
  let v605 : BitVec 32 := Scalar.shrsi v604 c1_i32_454
  let v606 : BitVec 32 := Scalar.xori v604 v605
  let c1_i32_455 : BitVec 32 := 1#32
  let v607 : BitVec 32 := Scalar.andi v606 c1_i32_455
  let v608 : BitVec 32 := Scalar.muli c16_i32_456 v607
  let c8_i32_459 : BitVec 32 := 8#32
  let c1_i32_457 : BitVec 32 := 1#32
  let v609 : BitVec 32 := Scalar.shrsi v604 c1_i32_457
  let c1_i32_458 : BitVec 32 := 1#32
  let v610 : BitVec 32 := Scalar.andi v609 c1_i32_458
  let v611 : BitVec 32 := Scalar.muli c8_i32_459 v610
  let v612 : BitVec 32 := Scalar.addi v608 v611
  let c4_i32_462 : BitVec 32 := 4#32
  let c3_i32_460 : BitVec 32 := 3#32
  let v613 : BitVec 32 := Scalar.shrsi v604 c3_i32_460
  let c1_i32_461 : BitVec 32 := 1#32
  let v614 : BitVec 32 := Scalar.andi v613 c1_i32_461
  let v615 : BitVec 32 := Scalar.muli c4_i32_462 v614
  let v616 : BitVec 32 := Scalar.addi v612 v615
  let c2_i32_465 : BitVec 32 := 2#32
  let c2_i32_463 : BitVec 32 := 2#32
  let v617 : BitVec 32 := Scalar.shrsi v604 c2_i32_463
  let c1_i32_464 : BitVec 32 := 1#32
  let v618 : BitVec 32 := Scalar.andi v617 c1_i32_464
  let v619 : BitVec 32 := Scalar.muli c2_i32_465 v618
  let v620 : BitVec 32 := Scalar.addi v616 v619
  let c4_i32_466 : BitVec 32 := 4#32
  let v621 : BitVec 32 := Scalar.shrsi v604 c4_i32_466
  let c1_i32_467 : BitVec 32 := 1#32
  let v622 : BitVec 32 := Scalar.andi v621 c1_i32_467
  let v623 : BitVec 32 := Scalar.addi v620 v622
  let v624 : BitVec 32 := Scalar.muli c16_i32_468 v623
  v624
def k0_mult36 (d0 : Dev nD) : BitVec 32 :=
  let c16_i32_469 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v626 : BitVec 32 := Scalar.muli c16_i32_469 v2
  v626
def k0_mult37 (d0 : Dev nD) : BitVec 32 :=
  let c16_i32_486 : BitVec 32 := 16#32
  let c16_i32_474 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_470 : BitVec 32 := 19#32
  let v628 : BitVec 32 := Scalar.addi v2 c19_i32_470
  let c31_i32_471 : BitVec 32 := 31#32
  let v629 : BitVec 32 := Scalar.andi v628 c31_i32_471
  let c1_i32_472 : BitVec 32 := 1#32
  let v630 : BitVec 32 := Scalar.shrsi v629 c1_i32_472
  let v631 : BitVec 32 := Scalar.xori v629 v630
  let c1_i32_473 : BitVec 32 := 1#32
  let v632 : BitVec 32 := Scalar.andi v631 c1_i32_473
  let v633 : BitVec 32 := Scalar.muli c16_i32_474 v632
  let c8_i32_477 : BitVec 32 := 8#32
  let c1_i32_475 : BitVec 32 := 1#32
  let v634 : BitVec 32 := Scalar.shrsi v629 c1_i32_475
  let c1_i32_476 : BitVec 32 := 1#32
  let v635 : BitVec 32 := Scalar.andi v634 c1_i32_476
  let v636 : BitVec 32 := Scalar.muli c8_i32_477 v635
  let v637 : BitVec 32 := Scalar.addi v633 v636
  let c4_i32_480 : BitVec 32 := 4#32
  let c3_i32_478 : BitVec 32 := 3#32
  let v638 : BitVec 32 := Scalar.shrsi v629 c3_i32_478
  let c1_i32_479 : BitVec 32 := 1#32
  let v639 : BitVec 32 := Scalar.andi v638 c1_i32_479
  let v640 : BitVec 32 := Scalar.muli c4_i32_480 v639
  let v641 : BitVec 32 := Scalar.addi v637 v640
  let c2_i32_483 : BitVec 32 := 2#32
  let c2_i32_481 : BitVec 32 := 2#32
  let v642 : BitVec 32 := Scalar.shrsi v629 c2_i32_481
  let c1_i32_482 : BitVec 32 := 1#32
  let v643 : BitVec 32 := Scalar.andi v642 c1_i32_482
  let v644 : BitVec 32 := Scalar.muli c2_i32_483 v643
  let v645 : BitVec 32 := Scalar.addi v641 v644
  let c4_i32_484 : BitVec 32 := 4#32
  let v646 : BitVec 32 := Scalar.shrsi v629 c4_i32_484
  let c1_i32_485 : BitVec 32 := 1#32
  let v647 : BitVec 32 := Scalar.andi v646 c1_i32_485
  let v648 : BitVec 32 := Scalar.addi v645 v647
  let v649 : BitVec 32 := Scalar.muli c16_i32_486 v648
  v649
def k0_mult38 (d0 : Dev nD) : BitVec 32 :=
  let c16_i32_487 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v651 : BitVec 32 := Scalar.muli c16_i32_487 v2
  v651
def k0_mult39 (d0 : Dev nD) : BitVec 32 :=
  let c16_i32_504 : BitVec 32 := 16#32
  let c16_i32_492 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_488 : BitVec 32 := 20#32
  let v653 : BitVec 32 := Scalar.addi v2 c20_i32_488
  let c31_i32_489 : BitVec 32 := 31#32
  let v654 : BitVec 32 := Scalar.andi v653 c31_i32_489
  let c1_i32_490 : BitVec 32 := 1#32
  let v655 : BitVec 32 := Scalar.shrsi v654 c1_i32_490
  let v656 : BitVec 32 := Scalar.xori v654 v655
  let c1_i32_491 : BitVec 32 := 1#32
  let v657 : BitVec 32 := Scalar.andi v656 c1_i32_491
  let v658 : BitVec 32 := Scalar.muli c16_i32_492 v657
  let c8_i32_495 : BitVec 32 := 8#32
  let c1_i32_493 : BitVec 32 := 1#32
  let v659 : BitVec 32 := Scalar.shrsi v654 c1_i32_493
  let c1_i32_494 : BitVec 32 := 1#32
  let v660 : BitVec 32 := Scalar.andi v659 c1_i32_494
  let v661 : BitVec 32 := Scalar.muli c8_i32_495 v660
  let v662 : BitVec 32 := Scalar.addi v658 v661
  let c4_i32_498 : BitVec 32 := 4#32
  let c3_i32_496 : BitVec 32 := 3#32
  let v663 : BitVec 32 := Scalar.shrsi v654 c3_i32_496
  let c1_i32_497 : BitVec 32 := 1#32
  let v664 : BitVec 32 := Scalar.andi v663 c1_i32_497
  let v665 : BitVec 32 := Scalar.muli c4_i32_498 v664
  let v666 : BitVec 32 := Scalar.addi v662 v665
  let c2_i32_501 : BitVec 32 := 2#32
  let c2_i32_499 : BitVec 32 := 2#32
  let v667 : BitVec 32 := Scalar.shrsi v654 c2_i32_499
  let c1_i32_500 : BitVec 32 := 1#32
  let v668 : BitVec 32 := Scalar.andi v667 c1_i32_500
  let v669 : BitVec 32 := Scalar.muli c2_i32_501 v668
  let v670 : BitVec 32 := Scalar.addi v666 v669
  let c4_i32_502 : BitVec 32 := 4#32
  let v671 : BitVec 32 := Scalar.shrsi v654 c4_i32_502
  let c1_i32_503 : BitVec 32 := 1#32
  let v672 : BitVec 32 := Scalar.andi v671 c1_i32_503
  let v673 : BitVec 32 := Scalar.addi v670 v672
  let v674 : BitVec 32 := Scalar.muli c16_i32_504 v673
  v674
def k0_mult40 (d0 : Dev nD) : BitVec 32 :=
  let c16_i32_505 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v676 : BitVec 32 := Scalar.muli c16_i32_505 v2
  v676
def k0_mult41 (d0 : Dev nD) : BitVec 32 :=
  let c16_i32_522 : BitVec 32 := 16#32
  let c16_i32_510 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_506 : BitVec 32 := 21#32
  let v678 : BitVec 32 := Scalar.addi v2 c21_i32_506
  let c31_i32_507 : BitVec 32 := 31#32
  let v679 : BitVec 32 := Scalar.andi v678 c31_i32_507
  let c1_i32_508 : BitVec 32 := 1#32
  let v680 : BitVec 32 := Scalar.shrsi v679 c1_i32_508
  let v681 : BitVec 32 := Scalar.xori v679 v680
  let c1_i32_509 : BitVec 32 := 1#32
  let v682 : BitVec 32 := Scalar.andi v681 c1_i32_509
  let v683 : BitVec 32 := Scalar.muli c16_i32_510 v682
  let c8_i32_513 : BitVec 32 := 8#32
  let c1_i32_511 : BitVec 32 := 1#32
  let v684 : BitVec 32 := Scalar.shrsi v679 c1_i32_511
  let c1_i32_512 : BitVec 32 := 1#32
  let v685 : BitVec 32 := Scalar.andi v684 c1_i32_512
  let v686 : BitVec 32 := Scalar.muli c8_i32_513 v685
  let v687 : BitVec 32 := Scalar.addi v683 v686
  let c4_i32_516 : BitVec 32 := 4#32
  let c3_i32_514 : BitVec 32 := 3#32
  let v688 : BitVec 32 := Scalar.shrsi v679 c3_i32_514
  let c1_i32_515 : BitVec 32 := 1#32
  let v689 : BitVec 32 := Scalar.andi v688 c1_i32_515
  let v690 : BitVec 32 := Scalar.muli c4_i32_516 v689
  let v691 : BitVec 32 := Scalar.addi v687 v690
  let c2_i32_519 : BitVec 32 := 2#32
  let c2_i32_517 : BitVec 32 := 2#32
  let v692 : BitVec 32 := Scalar.shrsi v679 c2_i32_517
  let c1_i32_518 : BitVec 32 := 1#32
  let v693 : BitVec 32 := Scalar.andi v692 c1_i32_518
  let v694 : BitVec 32 := Scalar.muli c2_i32_519 v693
  let v695 : BitVec 32 := Scalar.addi v691 v694
  let c4_i32_520 : BitVec 32 := 4#32
  let v696 : BitVec 32 := Scalar.shrsi v679 c4_i32_520
  let c1_i32_521 : BitVec 32 := 1#32
  let v697 : BitVec 32 := Scalar.andi v696 c1_i32_521
  let v698 : BitVec 32 := Scalar.addi v695 v697
  let v699 : BitVec 32 := Scalar.muli c16_i32_522 v698
  v699
def k0_mult42 (d0 : Dev nD) : BitVec 32 :=
  let c16_i32_523 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v701 : BitVec 32 := Scalar.muli c16_i32_523 v2
  v701
def k0_mult43 (d0 : Dev nD) : BitVec 32 :=
  let c16_i32_540 : BitVec 32 := 16#32
  let c16_i32_528 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_524 : BitVec 32 := 22#32
  let v703 : BitVec 32 := Scalar.addi v2 c22_i32_524
  let c31_i32_525 : BitVec 32 := 31#32
  let v704 : BitVec 32 := Scalar.andi v703 c31_i32_525
  let c1_i32_526 : BitVec 32 := 1#32
  let v705 : BitVec 32 := Scalar.shrsi v704 c1_i32_526
  let v706 : BitVec 32 := Scalar.xori v704 v705
  let c1_i32_527 : BitVec 32 := 1#32
  let v707 : BitVec 32 := Scalar.andi v706 c1_i32_527
  let v708 : BitVec 32 := Scalar.muli c16_i32_528 v707
  let c8_i32_531 : BitVec 32 := 8#32
  let c1_i32_529 : BitVec 32 := 1#32
  let v709 : BitVec 32 := Scalar.shrsi v704 c1_i32_529
  let c1_i32_530 : BitVec 32 := 1#32
  let v710 : BitVec 32 := Scalar.andi v709 c1_i32_530
  let v711 : BitVec 32 := Scalar.muli c8_i32_531 v710
  let v712 : BitVec 32 := Scalar.addi v708 v711
  let c4_i32_534 : BitVec 32 := 4#32
  let c3_i32_532 : BitVec 32 := 3#32
  let v713 : BitVec 32 := Scalar.shrsi v704 c3_i32_532
  let c1_i32_533 : BitVec 32 := 1#32
  let v714 : BitVec 32 := Scalar.andi v713 c1_i32_533
  let v715 : BitVec 32 := Scalar.muli c4_i32_534 v714
  let v716 : BitVec 32 := Scalar.addi v712 v715
  let c2_i32_537 : BitVec 32 := 2#32
  let c2_i32_535 : BitVec 32 := 2#32
  let v717 : BitVec 32 := Scalar.shrsi v704 c2_i32_535
  let c1_i32_536 : BitVec 32 := 1#32
  let v718 : BitVec 32 := Scalar.andi v717 c1_i32_536
  let v719 : BitVec 32 := Scalar.muli c2_i32_537 v718
  let v720 : BitVec 32 := Scalar.addi v716 v719
  let c4_i32_538 : BitVec 32 := 4#32
  let v721 : BitVec 32 := Scalar.shrsi v704 c4_i32_538
  let c1_i32_539 : BitVec 32 := 1#32
  let v722 : BitVec 32 := Scalar.andi v721 c1_i32_539
  let v723 : BitVec 32 := Scalar.addi v720 v722
  let v724 : BitVec 32 := Scalar.muli c16_i32_540 v723
  v724
def k0_mult44 (d0 : Dev nD) : BitVec 32 :=
  let c16_i32_541 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v726 : BitVec 32 := Scalar.muli c16_i32_541 v2
  v726
def k0_mult45 (d0 : Dev nD) : BitVec 32 :=
  let c16_i32_558 : BitVec 32 := 16#32
  let c16_i32_546 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_542 : BitVec 32 := 23#32
  let v728 : BitVec 32 := Scalar.addi v2 c23_i32_542
  let c31_i32_543 : BitVec 32 := 31#32
  let v729 : BitVec 32 := Scalar.andi v728 c31_i32_543
  let c1_i32_544 : BitVec 32 := 1#32
  let v730 : BitVec 32 := Scalar.shrsi v729 c1_i32_544
  let v731 : BitVec 32 := Scalar.xori v729 v730
  let c1_i32_545 : BitVec 32 := 1#32
  let v732 : BitVec 32 := Scalar.andi v731 c1_i32_545
  let v733 : BitVec 32 := Scalar.muli c16_i32_546 v732
  let c8_i32_549 : BitVec 32 := 8#32
  let c1_i32_547 : BitVec 32 := 1#32
  let v734 : BitVec 32 := Scalar.shrsi v729 c1_i32_547
  let c1_i32_548 : BitVec 32 := 1#32
  let v735 : BitVec 32 := Scalar.andi v734 c1_i32_548
  let v736 : BitVec 32 := Scalar.muli c8_i32_549 v735
  let v737 : BitVec 32 := Scalar.addi v733 v736
  let c4_i32_552 : BitVec 32 := 4#32
  let c3_i32_550 : BitVec 32 := 3#32
  let v738 : BitVec 32 := Scalar.shrsi v729 c3_i32_550
  let c1_i32_551 : BitVec 32 := 1#32
  let v739 : BitVec 32 := Scalar.andi v738 c1_i32_551
  let v740 : BitVec 32 := Scalar.muli c4_i32_552 v739
  let v741 : BitVec 32 := Scalar.addi v737 v740
  let c2_i32_555 : BitVec 32 := 2#32
  let c2_i32_553 : BitVec 32 := 2#32
  let v742 : BitVec 32 := Scalar.shrsi v729 c2_i32_553
  let c1_i32_554 : BitVec 32 := 1#32
  let v743 : BitVec 32 := Scalar.andi v742 c1_i32_554
  let v744 : BitVec 32 := Scalar.muli c2_i32_555 v743
  let v745 : BitVec 32 := Scalar.addi v741 v744
  let c4_i32_556 : BitVec 32 := 4#32
  let v746 : BitVec 32 := Scalar.shrsi v729 c4_i32_556
  let c1_i32_557 : BitVec 32 := 1#32
  let v747 : BitVec 32 := Scalar.andi v746 c1_i32_557
  let v748 : BitVec 32 := Scalar.addi v745 v747
  let v749 : BitVec 32 := Scalar.muli c16_i32_558 v748
  v749
def k0_mult46 (d0 : Dev nD) : BitVec 32 :=
  let c16_i32_559 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v751 : BitVec 32 := Scalar.muli c16_i32_559 v2
  v751
def k0_mult47 (d0 : Dev nD) : BitVec 32 :=
  let c16_i32_576 : BitVec 32 := 16#32
  let c16_i32_564 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_560 : BitVec 32 := 24#32
  let v753 : BitVec 32 := Scalar.addi v2 c24_i32_560
  let c31_i32_561 : BitVec 32 := 31#32
  let v754 : BitVec 32 := Scalar.andi v753 c31_i32_561
  let c1_i32_562 : BitVec 32 := 1#32
  let v755 : BitVec 32 := Scalar.shrsi v754 c1_i32_562
  let v756 : BitVec 32 := Scalar.xori v754 v755
  let c1_i32_563 : BitVec 32 := 1#32
  let v757 : BitVec 32 := Scalar.andi v756 c1_i32_563
  let v758 : BitVec 32 := Scalar.muli c16_i32_564 v757
  let c8_i32_567 : BitVec 32 := 8#32
  let c1_i32_565 : BitVec 32 := 1#32
  let v759 : BitVec 32 := Scalar.shrsi v754 c1_i32_565
  let c1_i32_566 : BitVec 32 := 1#32
  let v760 : BitVec 32 := Scalar.andi v759 c1_i32_566
  let v761 : BitVec 32 := Scalar.muli c8_i32_567 v760
  let v762 : BitVec 32 := Scalar.addi v758 v761
  let c4_i32_570 : BitVec 32 := 4#32
  let c3_i32_568 : BitVec 32 := 3#32
  let v763 : BitVec 32 := Scalar.shrsi v754 c3_i32_568
  let c1_i32_569 : BitVec 32 := 1#32
  let v764 : BitVec 32 := Scalar.andi v763 c1_i32_569
  let v765 : BitVec 32 := Scalar.muli c4_i32_570 v764
  let v766 : BitVec 32 := Scalar.addi v762 v765
  let c2_i32_573 : BitVec 32 := 2#32
  let c2_i32_571 : BitVec 32 := 2#32
  let v767 : BitVec 32 := Scalar.shrsi v754 c2_i32_571
  let c1_i32_572 : BitVec 32 := 1#32
  let v768 : BitVec 32 := Scalar.andi v767 c1_i32_572
  let v769 : BitVec 32 := Scalar.muli c2_i32_573 v768
  let v770 : BitVec 32 := Scalar.addi v766 v769
  let c4_i32_574 : BitVec 32 := 4#32
  let v771 : BitVec 32 := Scalar.shrsi v754 c4_i32_574
  let c1_i32_575 : BitVec 32 := 1#32
  let v772 : BitVec 32 := Scalar.andi v771 c1_i32_575
  let v773 : BitVec 32 := Scalar.addi v770 v772
  let v774 : BitVec 32 := Scalar.muli c16_i32_576 v773
  v774
def k0_mult48 (d0 : Dev nD) : BitVec 32 :=
  let c16_i32_577 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v776 : BitVec 32 := Scalar.muli c16_i32_577 v2
  v776
def k0_mult49 (d0 : Dev nD) : BitVec 32 :=
  let c16_i32_594 : BitVec 32 := 16#32
  let c16_i32_582 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_578 : BitVec 32 := 25#32
  let v778 : BitVec 32 := Scalar.addi v2 c25_i32_578
  let c31_i32_579 : BitVec 32 := 31#32
  let v779 : BitVec 32 := Scalar.andi v778 c31_i32_579
  let c1_i32_580 : BitVec 32 := 1#32
  let v780 : BitVec 32 := Scalar.shrsi v779 c1_i32_580
  let v781 : BitVec 32 := Scalar.xori v779 v780
  let c1_i32_581 : BitVec 32 := 1#32
  let v782 : BitVec 32 := Scalar.andi v781 c1_i32_581
  let v783 : BitVec 32 := Scalar.muli c16_i32_582 v782
  let c8_i32_585 : BitVec 32 := 8#32
  let c1_i32_583 : BitVec 32 := 1#32
  let v784 : BitVec 32 := Scalar.shrsi v779 c1_i32_583
  let c1_i32_584 : BitVec 32 := 1#32
  let v785 : BitVec 32 := Scalar.andi v784 c1_i32_584
  let v786 : BitVec 32 := Scalar.muli c8_i32_585 v785
  let v787 : BitVec 32 := Scalar.addi v783 v786
  let c4_i32_588 : BitVec 32 := 4#32
  let c3_i32_586 : BitVec 32 := 3#32
  let v788 : BitVec 32 := Scalar.shrsi v779 c3_i32_586
  let c1_i32_587 : BitVec 32 := 1#32
  let v789 : BitVec 32 := Scalar.andi v788 c1_i32_587
  let v790 : BitVec 32 := Scalar.muli c4_i32_588 v789
  let v791 : BitVec 32 := Scalar.addi v787 v790
  let c2_i32_591 : BitVec 32 := 2#32
  let c2_i32_589 : BitVec 32 := 2#32
  let v792 : BitVec 32 := Scalar.shrsi v779 c2_i32_589
  let c1_i32_590 : BitVec 32 := 1#32
  let v793 : BitVec 32 := Scalar.andi v792 c1_i32_590
  let v794 : BitVec 32 := Scalar.muli c2_i32_591 v793
  let v795 : BitVec 32 := Scalar.addi v791 v794
  let c4_i32_592 : BitVec 32 := 4#32
  let v796 : BitVec 32 := Scalar.shrsi v779 c4_i32_592
  let c1_i32_593 : BitVec 32 := 1#32
  let v797 : BitVec 32 := Scalar.andi v796 c1_i32_593
  let v798 : BitVec 32 := Scalar.addi v795 v797
  let v799 : BitVec 32 := Scalar.muli c16_i32_594 v798
  v799
def k0_mult50 (d0 : Dev nD) : BitVec 32 :=
  let c16_i32_595 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v801 : BitVec 32 := Scalar.muli c16_i32_595 v2
  v801
def k0_mult51 (d0 : Dev nD) : BitVec 32 :=
  let c16_i32_612 : BitVec 32 := 16#32
  let c16_i32_600 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_596 : BitVec 32 := 26#32
  let v803 : BitVec 32 := Scalar.addi v2 c26_i32_596
  let c31_i32_597 : BitVec 32 := 31#32
  let v804 : BitVec 32 := Scalar.andi v803 c31_i32_597
  let c1_i32_598 : BitVec 32 := 1#32
  let v805 : BitVec 32 := Scalar.shrsi v804 c1_i32_598
  let v806 : BitVec 32 := Scalar.xori v804 v805
  let c1_i32_599 : BitVec 32 := 1#32
  let v807 : BitVec 32 := Scalar.andi v806 c1_i32_599
  let v808 : BitVec 32 := Scalar.muli c16_i32_600 v807
  let c8_i32_603 : BitVec 32 := 8#32
  let c1_i32_601 : BitVec 32 := 1#32
  let v809 : BitVec 32 := Scalar.shrsi v804 c1_i32_601
  let c1_i32_602 : BitVec 32 := 1#32
  let v810 : BitVec 32 := Scalar.andi v809 c1_i32_602
  let v811 : BitVec 32 := Scalar.muli c8_i32_603 v810
  let v812 : BitVec 32 := Scalar.addi v808 v811
  let c4_i32_606 : BitVec 32 := 4#32
  let c3_i32_604 : BitVec 32 := 3#32
  let v813 : BitVec 32 := Scalar.shrsi v804 c3_i32_604
  let c1_i32_605 : BitVec 32 := 1#32
  let v814 : BitVec 32 := Scalar.andi v813 c1_i32_605
  let v815 : BitVec 32 := Scalar.muli c4_i32_606 v814
  let v816 : BitVec 32 := Scalar.addi v812 v815
  let c2_i32_609 : BitVec 32 := 2#32
  let c2_i32_607 : BitVec 32 := 2#32
  let v817 : BitVec 32 := Scalar.shrsi v804 c2_i32_607
  let c1_i32_608 : BitVec 32 := 1#32
  let v818 : BitVec 32 := Scalar.andi v817 c1_i32_608
  let v819 : BitVec 32 := Scalar.muli c2_i32_609 v818
  let v820 : BitVec 32 := Scalar.addi v816 v819
  let c4_i32_610 : BitVec 32 := 4#32
  let v821 : BitVec 32 := Scalar.shrsi v804 c4_i32_610
  let c1_i32_611 : BitVec 32 := 1#32
  let v822 : BitVec 32 := Scalar.andi v821 c1_i32_611
  let v823 : BitVec 32 := Scalar.addi v820 v822
  let v824 : BitVec 32 := Scalar.muli c16_i32_612 v823
  v824
def k0_mult52 (d0 : Dev nD) : BitVec 32 :=
  let c16_i32_613 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v826 : BitVec 32 := Scalar.muli c16_i32_613 v2
  v826
def k0_mult53 (d0 : Dev nD) : BitVec 32 :=
  let c16_i32_630 : BitVec 32 := 16#32
  let c16_i32_618 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_614 : BitVec 32 := 27#32
  let v828 : BitVec 32 := Scalar.addi v2 c27_i32_614
  let c31_i32_615 : BitVec 32 := 31#32
  let v829 : BitVec 32 := Scalar.andi v828 c31_i32_615
  let c1_i32_616 : BitVec 32 := 1#32
  let v830 : BitVec 32 := Scalar.shrsi v829 c1_i32_616
  let v831 : BitVec 32 := Scalar.xori v829 v830
  let c1_i32_617 : BitVec 32 := 1#32
  let v832 : BitVec 32 := Scalar.andi v831 c1_i32_617
  let v833 : BitVec 32 := Scalar.muli c16_i32_618 v832
  let c8_i32_621 : BitVec 32 := 8#32
  let c1_i32_619 : BitVec 32 := 1#32
  let v834 : BitVec 32 := Scalar.shrsi v829 c1_i32_619
  let c1_i32_620 : BitVec 32 := 1#32
  let v835 : BitVec 32 := Scalar.andi v834 c1_i32_620
  let v836 : BitVec 32 := Scalar.muli c8_i32_621 v835
  let v837 : BitVec 32 := Scalar.addi v833 v836
  let c4_i32_624 : BitVec 32 := 4#32
  let c3_i32_622 : BitVec 32 := 3#32
  let v838 : BitVec 32 := Scalar.shrsi v829 c3_i32_622
  let c1_i32_623 : BitVec 32 := 1#32
  let v839 : BitVec 32 := Scalar.andi v838 c1_i32_623
  let v840 : BitVec 32 := Scalar.muli c4_i32_624 v839
  let v841 : BitVec 32 := Scalar.addi v837 v840
  let c2_i32_627 : BitVec 32 := 2#32
  let c2_i32_625 : BitVec 32 := 2#32
  let v842 : BitVec 32 := Scalar.shrsi v829 c2_i32_625
  let c1_i32_626 : BitVec 32 := 1#32
  let v843 : BitVec 32 := Scalar.andi v842 c1_i32_626
  let v844 : BitVec 32 := Scalar.muli c2_i32_627 v843
  let v845 : BitVec 32 := Scalar.addi v841 v844
  let c4_i32_628 : BitVec 32 := 4#32
  let v846 : BitVec 32 := Scalar.shrsi v829 c4_i32_628
  let c1_i32_629 : BitVec 32 := 1#32
  let v847 : BitVec 32 := Scalar.andi v846 c1_i32_629
  let v848 : BitVec 32 := Scalar.addi v845 v847
  let v849 : BitVec 32 := Scalar.muli c16_i32_630 v848
  v849
def k0_mult54 (d0 : Dev nD) : BitVec 32 :=
  let c16_i32_631 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v851 : BitVec 32 := Scalar.muli c16_i32_631 v2
  v851
def k0_mult55 (d0 : Dev nD) : BitVec 32 :=
  let c16_i32_648 : BitVec 32 := 16#32
  let c16_i32_636 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_632 : BitVec 32 := 28#32
  let v853 : BitVec 32 := Scalar.addi v2 c28_i32_632
  let c31_i32_633 : BitVec 32 := 31#32
  let v854 : BitVec 32 := Scalar.andi v853 c31_i32_633
  let c1_i32_634 : BitVec 32 := 1#32
  let v855 : BitVec 32 := Scalar.shrsi v854 c1_i32_634
  let v856 : BitVec 32 := Scalar.xori v854 v855
  let c1_i32_635 : BitVec 32 := 1#32
  let v857 : BitVec 32 := Scalar.andi v856 c1_i32_635
  let v858 : BitVec 32 := Scalar.muli c16_i32_636 v857
  let c8_i32_639 : BitVec 32 := 8#32
  let c1_i32_637 : BitVec 32 := 1#32
  let v859 : BitVec 32 := Scalar.shrsi v854 c1_i32_637
  let c1_i32_638 : BitVec 32 := 1#32
  let v860 : BitVec 32 := Scalar.andi v859 c1_i32_638
  let v861 : BitVec 32 := Scalar.muli c8_i32_639 v860
  let v862 : BitVec 32 := Scalar.addi v858 v861
  let c4_i32_642 : BitVec 32 := 4#32
  let c3_i32_640 : BitVec 32 := 3#32
  let v863 : BitVec 32 := Scalar.shrsi v854 c3_i32_640
  let c1_i32_641 : BitVec 32 := 1#32
  let v864 : BitVec 32 := Scalar.andi v863 c1_i32_641
  let v865 : BitVec 32 := Scalar.muli c4_i32_642 v864
  let v866 : BitVec 32 := Scalar.addi v862 v865
  let c2_i32_645 : BitVec 32 := 2#32
  let c2_i32_643 : BitVec 32 := 2#32
  let v867 : BitVec 32 := Scalar.shrsi v854 c2_i32_643
  let c1_i32_644 : BitVec 32 := 1#32
  let v868 : BitVec 32 := Scalar.andi v867 c1_i32_644
  let v869 : BitVec 32 := Scalar.muli c2_i32_645 v868
  let v870 : BitVec 32 := Scalar.addi v866 v869
  let c4_i32_646 : BitVec 32 := 4#32
  let v871 : BitVec 32 := Scalar.shrsi v854 c4_i32_646
  let c1_i32_647 : BitVec 32 := 1#32
  let v872 : BitVec 32 := Scalar.andi v871 c1_i32_647
  let v873 : BitVec 32 := Scalar.addi v870 v872
  let v874 : BitVec 32 := Scalar.muli c16_i32_648 v873
  v874
def k0_mult56 (d0 : Dev nD) : BitVec 32 :=
  let c16_i32_649 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v876 : BitVec 32 := Scalar.muli c16_i32_649 v2
  v876
def k0_mult57 (d0 : Dev nD) : BitVec 32 :=
  let c16_i32_666 : BitVec 32 := 16#32
  let c16_i32_654 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_650 : BitVec 32 := 29#32
  let v878 : BitVec 32 := Scalar.addi v2 c29_i32_650
  let c31_i32_651 : BitVec 32 := 31#32
  let v879 : BitVec 32 := Scalar.andi v878 c31_i32_651
  let c1_i32_652 : BitVec 32 := 1#32
  let v880 : BitVec 32 := Scalar.shrsi v879 c1_i32_652
  let v881 : BitVec 32 := Scalar.xori v879 v880
  let c1_i32_653 : BitVec 32 := 1#32
  let v882 : BitVec 32 := Scalar.andi v881 c1_i32_653
  let v883 : BitVec 32 := Scalar.muli c16_i32_654 v882
  let c8_i32_657 : BitVec 32 := 8#32
  let c1_i32_655 : BitVec 32 := 1#32
  let v884 : BitVec 32 := Scalar.shrsi v879 c1_i32_655
  let c1_i32_656 : BitVec 32 := 1#32
  let v885 : BitVec 32 := Scalar.andi v884 c1_i32_656
  let v886 : BitVec 32 := Scalar.muli c8_i32_657 v885
  let v887 : BitVec 32 := Scalar.addi v883 v886
  let c4_i32_660 : BitVec 32 := 4#32
  let c3_i32_658 : BitVec 32 := 3#32
  let v888 : BitVec 32 := Scalar.shrsi v879 c3_i32_658
  let c1_i32_659 : BitVec 32 := 1#32
  let v889 : BitVec 32 := Scalar.andi v888 c1_i32_659
  let v890 : BitVec 32 := Scalar.muli c4_i32_660 v889
  let v891 : BitVec 32 := Scalar.addi v887 v890
  let c2_i32_663 : BitVec 32 := 2#32
  let c2_i32_661 : BitVec 32 := 2#32
  let v892 : BitVec 32 := Scalar.shrsi v879 c2_i32_661
  let c1_i32_662 : BitVec 32 := 1#32
  let v893 : BitVec 32 := Scalar.andi v892 c1_i32_662
  let v894 : BitVec 32 := Scalar.muli c2_i32_663 v893
  let v895 : BitVec 32 := Scalar.addi v891 v894
  let c4_i32_664 : BitVec 32 := 4#32
  let v896 : BitVec 32 := Scalar.shrsi v879 c4_i32_664
  let c1_i32_665 : BitVec 32 := 1#32
  let v897 : BitVec 32 := Scalar.andi v896 c1_i32_665
  let v898 : BitVec 32 := Scalar.addi v895 v897
  let v899 : BitVec 32 := Scalar.muli c16_i32_666 v898
  v899
def k0_mult58 (d0 : Dev nD) : BitVec 32 :=
  let c16_i32_667 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v901 : BitVec 32 := Scalar.muli c16_i32_667 v2
  v901
def k0_mult59 (d0 : Dev nD) : BitVec 32 :=
  let c16_i32_684 : BitVec 32 := 16#32
  let c16_i32_672 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_668 : BitVec 32 := 30#32
  let v903 : BitVec 32 := Scalar.addi v2 c30_i32_668
  let c31_i32_669 : BitVec 32 := 31#32
  let v904 : BitVec 32 := Scalar.andi v903 c31_i32_669
  let c1_i32_670 : BitVec 32 := 1#32
  let v905 : BitVec 32 := Scalar.shrsi v904 c1_i32_670
  let v906 : BitVec 32 := Scalar.xori v904 v905
  let c1_i32_671 : BitVec 32 := 1#32
  let v907 : BitVec 32 := Scalar.andi v906 c1_i32_671
  let v908 : BitVec 32 := Scalar.muli c16_i32_672 v907
  let c8_i32_675 : BitVec 32 := 8#32
  let c1_i32_673 : BitVec 32 := 1#32
  let v909 : BitVec 32 := Scalar.shrsi v904 c1_i32_673
  let c1_i32_674 : BitVec 32 := 1#32
  let v910 : BitVec 32 := Scalar.andi v909 c1_i32_674
  let v911 : BitVec 32 := Scalar.muli c8_i32_675 v910
  let v912 : BitVec 32 := Scalar.addi v908 v911
  let c4_i32_678 : BitVec 32 := 4#32
  let c3_i32_676 : BitVec 32 := 3#32
  let v913 : BitVec 32 := Scalar.shrsi v904 c3_i32_676
  let c1_i32_677 : BitVec 32 := 1#32
  let v914 : BitVec 32 := Scalar.andi v913 c1_i32_677
  let v915 : BitVec 32 := Scalar.muli c4_i32_678 v914
  let v916 : BitVec 32 := Scalar.addi v912 v915
  let c2_i32_681 : BitVec 32 := 2#32
  let c2_i32_679 : BitVec 32 := 2#32
  let v917 : BitVec 32 := Scalar.shrsi v904 c2_i32_679
  let c1_i32_680 : BitVec 32 := 1#32
  let v918 : BitVec 32 := Scalar.andi v917 c1_i32_680
  let v919 : BitVec 32 := Scalar.muli c2_i32_681 v918
  let v920 : BitVec 32 := Scalar.addi v916 v919
  let c4_i32_682 : BitVec 32 := 4#32
  let v921 : BitVec 32 := Scalar.shrsi v904 c4_i32_682
  let c1_i32_683 : BitVec 32 := 1#32
  let v922 : BitVec 32 := Scalar.andi v921 c1_i32_683
  let v923 : BitVec 32 := Scalar.addi v920 v922
  let v924 : BitVec 32 := Scalar.muli c16_i32_684 v923
  v924
def k0_mult60 (d0 : Dev nD) : BitVec 32 :=
  let c16_i32_685 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v926 : BitVec 32 := Scalar.muli c16_i32_685 v2
  v926
def k0_mult61 (d0 : Dev nD) : BitVec 32 :=
  let c16_i32_702 : BitVec 32 := 16#32
  let c16_i32_690 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_686 : BitVec 32 := 31#32
  let v928 : BitVec 32 := Scalar.addi v2 c31_i32_686
  let c31_i32_687 : BitVec 32 := 31#32
  let v929 : BitVec 32 := Scalar.andi v928 c31_i32_687
  let c1_i32_688 : BitVec 32 := 1#32
  let v930 : BitVec 32 := Scalar.shrsi v929 c1_i32_688
  let v931 : BitVec 32 := Scalar.xori v929 v930
  let c1_i32_689 : BitVec 32 := 1#32
  let v932 : BitVec 32 := Scalar.andi v931 c1_i32_689
  let v933 : BitVec 32 := Scalar.muli c16_i32_690 v932
  let c8_i32_693 : BitVec 32 := 8#32
  let c1_i32_691 : BitVec 32 := 1#32
  let v934 : BitVec 32 := Scalar.shrsi v929 c1_i32_691
  let c1_i32_692 : BitVec 32 := 1#32
  let v935 : BitVec 32 := Scalar.andi v934 c1_i32_692
  let v936 : BitVec 32 := Scalar.muli c8_i32_693 v935
  let v937 : BitVec 32 := Scalar.addi v933 v936
  let c4_i32_696 : BitVec 32 := 4#32
  let c3_i32_694 : BitVec 32 := 3#32
  let v938 : BitVec 32 := Scalar.shrsi v929 c3_i32_694
  let c1_i32_695 : BitVec 32 := 1#32
  let v939 : BitVec 32 := Scalar.andi v938 c1_i32_695
  let v940 : BitVec 32 := Scalar.muli c4_i32_696 v939
  let v941 : BitVec 32 := Scalar.addi v937 v940
  let c2_i32_699 : BitVec 32 := 2#32
  let c2_i32_697 : BitVec 32 := 2#32
  let v942 : BitVec 32 := Scalar.shrsi v929 c2_i32_697
  let c1_i32_698 : BitVec 32 := 1#32
  let v943 : BitVec 32 := Scalar.andi v942 c1_i32_698
  let v944 : BitVec 32 := Scalar.muli c2_i32_699 v943
  let v945 : BitVec 32 := Scalar.addi v941 v944
  let c4_i32_700 : BitVec 32 := 4#32
  let v946 : BitVec 32 := Scalar.shrsi v929 c4_i32_700
  let c1_i32_701 : BitVec 32 := 1#32
  let v947 : BitVec 32 := Scalar.andi v946 c1_i32_701
  let v948 : BitVec 32 := Scalar.addi v945 v947
  let v949 : BitVec 32 := Scalar.muli c16_i32_702 v948
  v949
def k0_mult62 (d0 : Dev nD) : BitVec 32 :=
  let c16_i32_703 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v951 : BitVec 32 := Scalar.muli c16_i32_703 v2
  v951
def k0_cond1 (d0 : Dev nD) : BitVec 1 :=
  let c16_i32_150 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_146 : BitVec 32 := 1#32
  let v178 : BitVec 32 := Scalar.addi v2 c1_i32_146
  let c31_i32_147 : BitVec 32 := 31#32
  let v179 : BitVec 32 := Scalar.andi v178 c31_i32_147
  let c1_i32_148 : BitVec 32 := 1#32
  let v180 : BitVec 32 := Scalar.shrsi v179 c1_i32_148
  let v181 : BitVec 32 := Scalar.xori v179 v180
  let c1_i32_149 : BitVec 32 := 1#32
  let v182 : BitVec 32 := Scalar.andi v181 c1_i32_149
  let v183 : BitVec 32 := Scalar.muli c16_i32_150 v182
  let c8_i32_153 : BitVec 32 := 8#32
  let c1_i32_151 : BitVec 32 := 1#32
  let v184 : BitVec 32 := Scalar.shrsi v179 c1_i32_151
  let c1_i32_152 : BitVec 32 := 1#32
  let v185 : BitVec 32 := Scalar.andi v184 c1_i32_152
  let v186 : BitVec 32 := Scalar.muli c8_i32_153 v185
  let v187 : BitVec 32 := Scalar.addi v183 v186
  let c4_i32_156 : BitVec 32 := 4#32
  let c3_i32_154 : BitVec 32 := 3#32
  let v188 : BitVec 32 := Scalar.shrsi v179 c3_i32_154
  let c1_i32_155 : BitVec 32 := 1#32
  let v189 : BitVec 32 := Scalar.andi v188 c1_i32_155
  let v190 : BitVec 32 := Scalar.muli c4_i32_156 v189
  let v191 : BitVec 32 := Scalar.addi v187 v190
  let c2_i32_159 : BitVec 32 := 2#32
  let c2_i32_157 : BitVec 32 := 2#32
  let v192 : BitVec 32 := Scalar.shrsi v179 c2_i32_157
  let c1_i32_158 : BitVec 32 := 1#32
  let v193 : BitVec 32 := Scalar.andi v192 c1_i32_158
  let v194 : BitVec 32 := Scalar.muli c2_i32_159 v193
  let v195 : BitVec 32 := Scalar.addi v191 v194
  let c4_i32_160 : BitVec 32 := 4#32
  let v196 : BitVec 32 := Scalar.shrsi v179 c4_i32_160
  let c1_i32_161 : BitVec 32 := 1#32
  let v197 : BitVec 32 := Scalar.andi v196 c1_i32_161
  let v198 : BitVec 32 := Scalar.addi v195 v197
  let c16_i32_731 : BitVec 32 := 16#32
  let v1025 : BitVec 1 := Scalar.cmpi .slt v198 c16_i32_731
  let v1026 : BitVec 32 := Scalar.extui v1025
  let c0_i32_734 : BitVec 32 := 0#32
  let v1027 : BitVec 1 := Scalar.cmpi .ne v1026 c0_i32_734
  v1027

def k0_off1 (d0 : Dev nD) : Fin 2 → Nat :=
  let c16_i32_163 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v201 : BitVec 32 := Scalar.muli c16_i32_163 v2
  let v202 : BitVec 32 := v201
  let c0_i32_2417 : BitVec 32 := 0#32
  ![v202.toNat, 0]
def k0_off2 (d0 : Dev nD) : Fin 2 → Nat :=
  let c16_i32_162 : BitVec 32 := 16#32
  let c16_i32_150 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_146 : BitVec 32 := 1#32
  let v178 : BitVec 32 := Scalar.addi v2 c1_i32_146
  let c31_i32_147 : BitVec 32 := 31#32
  let v179 : BitVec 32 := Scalar.andi v178 c31_i32_147
  let c1_i32_148 : BitVec 32 := 1#32
  let v180 : BitVec 32 := Scalar.shrsi v179 c1_i32_148
  let v181 : BitVec 32 := Scalar.xori v179 v180
  let c1_i32_149 : BitVec 32 := 1#32
  let v182 : BitVec 32 := Scalar.andi v181 c1_i32_149
  let v183 : BitVec 32 := Scalar.muli c16_i32_150 v182
  let c8_i32_153 : BitVec 32 := 8#32
  let c1_i32_151 : BitVec 32 := 1#32
  let v184 : BitVec 32 := Scalar.shrsi v179 c1_i32_151
  let c1_i32_152 : BitVec 32 := 1#32
  let v185 : BitVec 32 := Scalar.andi v184 c1_i32_152
  let v186 : BitVec 32 := Scalar.muli c8_i32_153 v185
  let v187 : BitVec 32 := Scalar.addi v183 v186
  let c4_i32_156 : BitVec 32 := 4#32
  let c3_i32_154 : BitVec 32 := 3#32
  let v188 : BitVec 32 := Scalar.shrsi v179 c3_i32_154
  let c1_i32_155 : BitVec 32 := 1#32
  let v189 : BitVec 32 := Scalar.andi v188 c1_i32_155
  let v190 : BitVec 32 := Scalar.muli c4_i32_156 v189
  let v191 : BitVec 32 := Scalar.addi v187 v190
  let c2_i32_159 : BitVec 32 := 2#32
  let c2_i32_157 : BitVec 32 := 2#32
  let v192 : BitVec 32 := Scalar.shrsi v179 c2_i32_157
  let c1_i32_158 : BitVec 32 := 1#32
  let v193 : BitVec 32 := Scalar.andi v192 c1_i32_158
  let v194 : BitVec 32 := Scalar.muli c2_i32_159 v193
  let v195 : BitVec 32 := Scalar.addi v191 v194
  let c4_i32_160 : BitVec 32 := 4#32
  let v196 : BitVec 32 := Scalar.shrsi v179 c4_i32_160
  let c1_i32_161 : BitVec 32 := 1#32
  let v197 : BitVec 32 := Scalar.andi v196 c1_i32_161
  let v198 : BitVec 32 := Scalar.addi v195 v197
  let v199 : BitVec 32 := Scalar.muli c16_i32_162 v198
  let v200 : BitVec 32 := v199
  let c0_i32_2418 : BitVec 32 := 0#32
  ![v200.toNat, 0]
def k0_dev32 (d0 : Dev nD) : Nat :=
  let c0_i32_2416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_146 : BitVec 32 := 1#32
  let v178 : BitVec 32 := Scalar.addi v2 c1_i32_146
  let c31_i32_147 : BitVec 32 := 31#32
  let v179 : BitVec 32 := Scalar.andi v178 c31_i32_147
  let c1_i32_2415 : BitVec 32 := 1#32
  let v2911 : BitVec 32 := Scalar.muli v179 c1_i32_2415
  let v2912 : BitVec 32 := Scalar.addi c0_i32_2416 v2911
  v2912.toNat
def k0_cond2 (d0 : Dev nD) : BitVec 1 :=
  let c16_i32_168 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_164 : BitVec 32 := 2#32
  let v203 : BitVec 32 := Scalar.addi v2 c2_i32_164
  let c31_i32_165 : BitVec 32 := 31#32
  let v204 : BitVec 32 := Scalar.andi v203 c31_i32_165
  let c1_i32_166 : BitVec 32 := 1#32
  let v205 : BitVec 32 := Scalar.shrsi v204 c1_i32_166
  let v206 : BitVec 32 := Scalar.xori v204 v205
  let c1_i32_167 : BitVec 32 := 1#32
  let v207 : BitVec 32 := Scalar.andi v206 c1_i32_167
  let v208 : BitVec 32 := Scalar.muli c16_i32_168 v207
  let c8_i32_171 : BitVec 32 := 8#32
  let c1_i32_169 : BitVec 32 := 1#32
  let v209 : BitVec 32 := Scalar.shrsi v204 c1_i32_169
  let c1_i32_170 : BitVec 32 := 1#32
  let v210 : BitVec 32 := Scalar.andi v209 c1_i32_170
  let v211 : BitVec 32 := Scalar.muli c8_i32_171 v210
  let v212 : BitVec 32 := Scalar.addi v208 v211
  let c4_i32_174 : BitVec 32 := 4#32
  let c3_i32_172 : BitVec 32 := 3#32
  let v213 : BitVec 32 := Scalar.shrsi v204 c3_i32_172
  let c1_i32_173 : BitVec 32 := 1#32
  let v214 : BitVec 32 := Scalar.andi v213 c1_i32_173
  let v215 : BitVec 32 := Scalar.muli c4_i32_174 v214
  let v216 : BitVec 32 := Scalar.addi v212 v215
  let c2_i32_177 : BitVec 32 := 2#32
  let c2_i32_175 : BitVec 32 := 2#32
  let v217 : BitVec 32 := Scalar.shrsi v204 c2_i32_175
  let c1_i32_176 : BitVec 32 := 1#32
  let v218 : BitVec 32 := Scalar.andi v217 c1_i32_176
  let v219 : BitVec 32 := Scalar.muli c2_i32_177 v218
  let v220 : BitVec 32 := Scalar.addi v216 v219
  let c4_i32_178 : BitVec 32 := 4#32
  let v221 : BitVec 32 := Scalar.shrsi v204 c4_i32_178
  let c1_i32_179 : BitVec 32 := 1#32
  let v222 : BitVec 32 := Scalar.andi v221 c1_i32_179
  let v223 : BitVec 32 := Scalar.addi v220 v222
  let c16_i32_735 : BitVec 32 := 16#32
  let v1028 : BitVec 1 := Scalar.cmpi .slt v223 c16_i32_735
  let v1029 : BitVec 32 := Scalar.extui v1028
  let c0_i32_738 : BitVec 32 := 0#32
  let v1030 : BitVec 1 := Scalar.cmpi .ne v1029 c0_i32_738
  v1030

def k0_off3 (d0 : Dev nD) : Fin 2 → Nat :=
  let c16_i32_181 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v226 : BitVec 32 := Scalar.muli c16_i32_181 v2
  let v227 : BitVec 32 := v226
  let c0_i32_2417 : BitVec 32 := 0#32
  ![v227.toNat, 0]
def k0_off4 (d0 : Dev nD) : Fin 2 → Nat :=
  let c16_i32_180 : BitVec 32 := 16#32
  let c16_i32_168 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_164 : BitVec 32 := 2#32
  let v203 : BitVec 32 := Scalar.addi v2 c2_i32_164
  let c31_i32_165 : BitVec 32 := 31#32
  let v204 : BitVec 32 := Scalar.andi v203 c31_i32_165
  let c1_i32_166 : BitVec 32 := 1#32
  let v205 : BitVec 32 := Scalar.shrsi v204 c1_i32_166
  let v206 : BitVec 32 := Scalar.xori v204 v205
  let c1_i32_167 : BitVec 32 := 1#32
  let v207 : BitVec 32 := Scalar.andi v206 c1_i32_167
  let v208 : BitVec 32 := Scalar.muli c16_i32_168 v207
  let c8_i32_171 : BitVec 32 := 8#32
  let c1_i32_169 : BitVec 32 := 1#32
  let v209 : BitVec 32 := Scalar.shrsi v204 c1_i32_169
  let c1_i32_170 : BitVec 32 := 1#32
  let v210 : BitVec 32 := Scalar.andi v209 c1_i32_170
  let v211 : BitVec 32 := Scalar.muli c8_i32_171 v210
  let v212 : BitVec 32 := Scalar.addi v208 v211
  let c4_i32_174 : BitVec 32 := 4#32
  let c3_i32_172 : BitVec 32 := 3#32
  let v213 : BitVec 32 := Scalar.shrsi v204 c3_i32_172
  let c1_i32_173 : BitVec 32 := 1#32
  let v214 : BitVec 32 := Scalar.andi v213 c1_i32_173
  let v215 : BitVec 32 := Scalar.muli c4_i32_174 v214
  let v216 : BitVec 32 := Scalar.addi v212 v215
  let c2_i32_177 : BitVec 32 := 2#32
  let c2_i32_175 : BitVec 32 := 2#32
  let v217 : BitVec 32 := Scalar.shrsi v204 c2_i32_175
  let c1_i32_176 : BitVec 32 := 1#32
  let v218 : BitVec 32 := Scalar.andi v217 c1_i32_176
  let v219 : BitVec 32 := Scalar.muli c2_i32_177 v218
  let v220 : BitVec 32 := Scalar.addi v216 v219
  let c4_i32_178 : BitVec 32 := 4#32
  let v221 : BitVec 32 := Scalar.shrsi v204 c4_i32_178
  let c1_i32_179 : BitVec 32 := 1#32
  let v222 : BitVec 32 := Scalar.andi v221 c1_i32_179
  let v223 : BitVec 32 := Scalar.addi v220 v222
  let v224 : BitVec 32 := Scalar.muli c16_i32_180 v223
  let v225 : BitVec 32 := v224
  let c0_i32_2418 : BitVec 32 := 0#32
  ![v225.toNat, 0]
def k0_dev33 (d0 : Dev nD) : Nat :=
  let c0_i32_2416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_164 : BitVec 32 := 2#32
  let v203 : BitVec 32 := Scalar.addi v2 c2_i32_164
  let c31_i32_165 : BitVec 32 := 31#32
  let v204 : BitVec 32 := Scalar.andi v203 c31_i32_165
  let c1_i32_2415 : BitVec 32 := 1#32
  let v2911 : BitVec 32 := Scalar.muli v204 c1_i32_2415
  let v2912 : BitVec 32 := Scalar.addi c0_i32_2416 v2911
  v2912.toNat
def k0_cond3 (d0 : Dev nD) : BitVec 1 :=
  let c16_i32_186 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_182 : BitVec 32 := 3#32
  let v228 : BitVec 32 := Scalar.addi v2 c3_i32_182
  let c31_i32_183 : BitVec 32 := 31#32
  let v229 : BitVec 32 := Scalar.andi v228 c31_i32_183
  let c1_i32_184 : BitVec 32 := 1#32
  let v230 : BitVec 32 := Scalar.shrsi v229 c1_i32_184
  let v231 : BitVec 32 := Scalar.xori v229 v230
  let c1_i32_185 : BitVec 32 := 1#32
  let v232 : BitVec 32 := Scalar.andi v231 c1_i32_185
  let v233 : BitVec 32 := Scalar.muli c16_i32_186 v232
  let c8_i32_189 : BitVec 32 := 8#32
  let c1_i32_187 : BitVec 32 := 1#32
  let v234 : BitVec 32 := Scalar.shrsi v229 c1_i32_187
  let c1_i32_188 : BitVec 32 := 1#32
  let v235 : BitVec 32 := Scalar.andi v234 c1_i32_188
  let v236 : BitVec 32 := Scalar.muli c8_i32_189 v235
  let v237 : BitVec 32 := Scalar.addi v233 v236
  let c4_i32_192 : BitVec 32 := 4#32
  let c3_i32_190 : BitVec 32 := 3#32
  let v238 : BitVec 32 := Scalar.shrsi v229 c3_i32_190
  let c1_i32_191 : BitVec 32 := 1#32
  let v239 : BitVec 32 := Scalar.andi v238 c1_i32_191
  let v240 : BitVec 32 := Scalar.muli c4_i32_192 v239
  let v241 : BitVec 32 := Scalar.addi v237 v240
  let c2_i32_195 : BitVec 32 := 2#32
  let c2_i32_193 : BitVec 32 := 2#32
  let v242 : BitVec 32 := Scalar.shrsi v229 c2_i32_193
  let c1_i32_194 : BitVec 32 := 1#32
  let v243 : BitVec 32 := Scalar.andi v242 c1_i32_194
  let v244 : BitVec 32 := Scalar.muli c2_i32_195 v243
  let v245 : BitVec 32 := Scalar.addi v241 v244
  let c4_i32_196 : BitVec 32 := 4#32
  let v246 : BitVec 32 := Scalar.shrsi v229 c4_i32_196
  let c1_i32_197 : BitVec 32 := 1#32
  let v247 : BitVec 32 := Scalar.andi v246 c1_i32_197
  let v248 : BitVec 32 := Scalar.addi v245 v247
  let c16_i32_739 : BitVec 32 := 16#32
  let v1031 : BitVec 1 := Scalar.cmpi .slt v248 c16_i32_739
  let v1032 : BitVec 32 := Scalar.extui v1031
  let c0_i32_742 : BitVec 32 := 0#32
  let v1033 : BitVec 1 := Scalar.cmpi .ne v1032 c0_i32_742
  v1033

def k0_off5 (d0 : Dev nD) : Fin 2 → Nat :=
  let c16_i32_199 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v251 : BitVec 32 := Scalar.muli c16_i32_199 v2
  let v252 : BitVec 32 := v251
  let c0_i32_2417 : BitVec 32 := 0#32
  ![v252.toNat, 0]
def k0_off6 (d0 : Dev nD) : Fin 2 → Nat :=
  let c16_i32_198 : BitVec 32 := 16#32
  let c16_i32_186 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_182 : BitVec 32 := 3#32
  let v228 : BitVec 32 := Scalar.addi v2 c3_i32_182
  let c31_i32_183 : BitVec 32 := 31#32
  let v229 : BitVec 32 := Scalar.andi v228 c31_i32_183
  let c1_i32_184 : BitVec 32 := 1#32
  let v230 : BitVec 32 := Scalar.shrsi v229 c1_i32_184
  let v231 : BitVec 32 := Scalar.xori v229 v230
  let c1_i32_185 : BitVec 32 := 1#32
  let v232 : BitVec 32 := Scalar.andi v231 c1_i32_185
  let v233 : BitVec 32 := Scalar.muli c16_i32_186 v232
  let c8_i32_189 : BitVec 32 := 8#32
  let c1_i32_187 : BitVec 32 := 1#32
  let v234 : BitVec 32 := Scalar.shrsi v229 c1_i32_187
  let c1_i32_188 : BitVec 32 := 1#32
  let v235 : BitVec 32 := Scalar.andi v234 c1_i32_188
  let v236 : BitVec 32 := Scalar.muli c8_i32_189 v235
  let v237 : BitVec 32 := Scalar.addi v233 v236
  let c4_i32_192 : BitVec 32 := 4#32
  let c3_i32_190 : BitVec 32 := 3#32
  let v238 : BitVec 32 := Scalar.shrsi v229 c3_i32_190
  let c1_i32_191 : BitVec 32 := 1#32
  let v239 : BitVec 32 := Scalar.andi v238 c1_i32_191
  let v240 : BitVec 32 := Scalar.muli c4_i32_192 v239
  let v241 : BitVec 32 := Scalar.addi v237 v240
  let c2_i32_195 : BitVec 32 := 2#32
  let c2_i32_193 : BitVec 32 := 2#32
  let v242 : BitVec 32 := Scalar.shrsi v229 c2_i32_193
  let c1_i32_194 : BitVec 32 := 1#32
  let v243 : BitVec 32 := Scalar.andi v242 c1_i32_194
  let v244 : BitVec 32 := Scalar.muli c2_i32_195 v243
  let v245 : BitVec 32 := Scalar.addi v241 v244
  let c4_i32_196 : BitVec 32 := 4#32
  let v246 : BitVec 32 := Scalar.shrsi v229 c4_i32_196
  let c1_i32_197 : BitVec 32 := 1#32
  let v247 : BitVec 32 := Scalar.andi v246 c1_i32_197
  let v248 : BitVec 32 := Scalar.addi v245 v247
  let v249 : BitVec 32 := Scalar.muli c16_i32_198 v248
  let v250 : BitVec 32 := v249
  let c0_i32_2418 : BitVec 32 := 0#32
  ![v250.toNat, 0]
def k0_dev34 (d0 : Dev nD) : Nat :=
  let c0_i32_2416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_182 : BitVec 32 := 3#32
  let v228 : BitVec 32 := Scalar.addi v2 c3_i32_182
  let c31_i32_183 : BitVec 32 := 31#32
  let v229 : BitVec 32 := Scalar.andi v228 c31_i32_183
  let c1_i32_2415 : BitVec 32 := 1#32
  let v2911 : BitVec 32 := Scalar.muli v229 c1_i32_2415
  let v2912 : BitVec 32 := Scalar.addi c0_i32_2416 v2911
  v2912.toNat
def k0_cond4 (d0 : Dev nD) : BitVec 1 :=
  let c16_i32_204 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_200 : BitVec 32 := 4#32
  let v253 : BitVec 32 := Scalar.addi v2 c4_i32_200
  let c31_i32_201 : BitVec 32 := 31#32
  let v254 : BitVec 32 := Scalar.andi v253 c31_i32_201
  let c1_i32_202 : BitVec 32 := 1#32
  let v255 : BitVec 32 := Scalar.shrsi v254 c1_i32_202
  let v256 : BitVec 32 := Scalar.xori v254 v255
  let c1_i32_203 : BitVec 32 := 1#32
  let v257 : BitVec 32 := Scalar.andi v256 c1_i32_203
  let v258 : BitVec 32 := Scalar.muli c16_i32_204 v257
  let c8_i32_207 : BitVec 32 := 8#32
  let c1_i32_205 : BitVec 32 := 1#32
  let v259 : BitVec 32 := Scalar.shrsi v254 c1_i32_205
  let c1_i32_206 : BitVec 32 := 1#32
  let v260 : BitVec 32 := Scalar.andi v259 c1_i32_206
  let v261 : BitVec 32 := Scalar.muli c8_i32_207 v260
  let v262 : BitVec 32 := Scalar.addi v258 v261
  let c4_i32_210 : BitVec 32 := 4#32
  let c3_i32_208 : BitVec 32 := 3#32
  let v263 : BitVec 32 := Scalar.shrsi v254 c3_i32_208
  let c1_i32_209 : BitVec 32 := 1#32
  let v264 : BitVec 32 := Scalar.andi v263 c1_i32_209
  let v265 : BitVec 32 := Scalar.muli c4_i32_210 v264
  let v266 : BitVec 32 := Scalar.addi v262 v265
  let c2_i32_213 : BitVec 32 := 2#32
  let c2_i32_211 : BitVec 32 := 2#32
  let v267 : BitVec 32 := Scalar.shrsi v254 c2_i32_211
  let c1_i32_212 : BitVec 32 := 1#32
  let v268 : BitVec 32 := Scalar.andi v267 c1_i32_212
  let v269 : BitVec 32 := Scalar.muli c2_i32_213 v268
  let v270 : BitVec 32 := Scalar.addi v266 v269
  let c4_i32_214 : BitVec 32 := 4#32
  let v271 : BitVec 32 := Scalar.shrsi v254 c4_i32_214
  let c1_i32_215 : BitVec 32 := 1#32
  let v272 : BitVec 32 := Scalar.andi v271 c1_i32_215
  let v273 : BitVec 32 := Scalar.addi v270 v272
  let c16_i32_743 : BitVec 32 := 16#32
  let v1034 : BitVec 1 := Scalar.cmpi .slt v273 c16_i32_743
  let v1035 : BitVec 32 := Scalar.extui v1034
  let c0_i32_746 : BitVec 32 := 0#32
  let v1036 : BitVec 1 := Scalar.cmpi .ne v1035 c0_i32_746
  v1036

def k0_off7 (d0 : Dev nD) : Fin 2 → Nat :=
  let c16_i32_217 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v276 : BitVec 32 := Scalar.muli c16_i32_217 v2
  let v277 : BitVec 32 := v276
  let c0_i32_2417 : BitVec 32 := 0#32
  ![v277.toNat, 0]
def k0_off8 (d0 : Dev nD) : Fin 2 → Nat :=
  let c16_i32_216 : BitVec 32 := 16#32
  let c16_i32_204 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_200 : BitVec 32 := 4#32
  let v253 : BitVec 32 := Scalar.addi v2 c4_i32_200
  let c31_i32_201 : BitVec 32 := 31#32
  let v254 : BitVec 32 := Scalar.andi v253 c31_i32_201
  let c1_i32_202 : BitVec 32 := 1#32
  let v255 : BitVec 32 := Scalar.shrsi v254 c1_i32_202
  let v256 : BitVec 32 := Scalar.xori v254 v255
  let c1_i32_203 : BitVec 32 := 1#32
  let v257 : BitVec 32 := Scalar.andi v256 c1_i32_203
  let v258 : BitVec 32 := Scalar.muli c16_i32_204 v257
  let c8_i32_207 : BitVec 32 := 8#32
  let c1_i32_205 : BitVec 32 := 1#32
  let v259 : BitVec 32 := Scalar.shrsi v254 c1_i32_205
  let c1_i32_206 : BitVec 32 := 1#32
  let v260 : BitVec 32 := Scalar.andi v259 c1_i32_206
  let v261 : BitVec 32 := Scalar.muli c8_i32_207 v260
  let v262 : BitVec 32 := Scalar.addi v258 v261
  let c4_i32_210 : BitVec 32 := 4#32
  let c3_i32_208 : BitVec 32 := 3#32
  let v263 : BitVec 32 := Scalar.shrsi v254 c3_i32_208
  let c1_i32_209 : BitVec 32 := 1#32
  let v264 : BitVec 32 := Scalar.andi v263 c1_i32_209
  let v265 : BitVec 32 := Scalar.muli c4_i32_210 v264
  let v266 : BitVec 32 := Scalar.addi v262 v265
  let c2_i32_213 : BitVec 32 := 2#32
  let c2_i32_211 : BitVec 32 := 2#32
  let v267 : BitVec 32 := Scalar.shrsi v254 c2_i32_211
  let c1_i32_212 : BitVec 32 := 1#32
  let v268 : BitVec 32 := Scalar.andi v267 c1_i32_212
  let v269 : BitVec 32 := Scalar.muli c2_i32_213 v268
  let v270 : BitVec 32 := Scalar.addi v266 v269
  let c4_i32_214 : BitVec 32 := 4#32
  let v271 : BitVec 32 := Scalar.shrsi v254 c4_i32_214
  let c1_i32_215 : BitVec 32 := 1#32
  let v272 : BitVec 32 := Scalar.andi v271 c1_i32_215
  let v273 : BitVec 32 := Scalar.addi v270 v272
  let v274 : BitVec 32 := Scalar.muli c16_i32_216 v273
  let v275 : BitVec 32 := v274
  let c0_i32_2418 : BitVec 32 := 0#32
  ![v275.toNat, 0]
def k0_dev35 (d0 : Dev nD) : Nat :=
  let c0_i32_2416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_200 : BitVec 32 := 4#32
  let v253 : BitVec 32 := Scalar.addi v2 c4_i32_200
  let c31_i32_201 : BitVec 32 := 31#32
  let v254 : BitVec 32 := Scalar.andi v253 c31_i32_201
  let c1_i32_2415 : BitVec 32 := 1#32
  let v2911 : BitVec 32 := Scalar.muli v254 c1_i32_2415
  let v2912 : BitVec 32 := Scalar.addi c0_i32_2416 v2911
  v2912.toNat
def k0_cond5 (d0 : Dev nD) : BitVec 1 :=
  let c16_i32_222 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_218 : BitVec 32 := 5#32
  let v278 : BitVec 32 := Scalar.addi v2 c5_i32_218
  let c31_i32_219 : BitVec 32 := 31#32
  let v279 : BitVec 32 := Scalar.andi v278 c31_i32_219
  let c1_i32_220 : BitVec 32 := 1#32
  let v280 : BitVec 32 := Scalar.shrsi v279 c1_i32_220
  let v281 : BitVec 32 := Scalar.xori v279 v280
  let c1_i32_221 : BitVec 32 := 1#32
  let v282 : BitVec 32 := Scalar.andi v281 c1_i32_221
  let v283 : BitVec 32 := Scalar.muli c16_i32_222 v282
  let c8_i32_225 : BitVec 32 := 8#32
  let c1_i32_223 : BitVec 32 := 1#32
  let v284 : BitVec 32 := Scalar.shrsi v279 c1_i32_223
  let c1_i32_224 : BitVec 32 := 1#32
  let v285 : BitVec 32 := Scalar.andi v284 c1_i32_224
  let v286 : BitVec 32 := Scalar.muli c8_i32_225 v285
  let v287 : BitVec 32 := Scalar.addi v283 v286
  let c4_i32_228 : BitVec 32 := 4#32
  let c3_i32_226 : BitVec 32 := 3#32
  let v288 : BitVec 32 := Scalar.shrsi v279 c3_i32_226
  let c1_i32_227 : BitVec 32 := 1#32
  let v289 : BitVec 32 := Scalar.andi v288 c1_i32_227
  let v290 : BitVec 32 := Scalar.muli c4_i32_228 v289
  let v291 : BitVec 32 := Scalar.addi v287 v290
  let c2_i32_231 : BitVec 32 := 2#32
  let c2_i32_229 : BitVec 32 := 2#32
  let v292 : BitVec 32 := Scalar.shrsi v279 c2_i32_229
  let c1_i32_230 : BitVec 32 := 1#32
  let v293 : BitVec 32 := Scalar.andi v292 c1_i32_230
  let v294 : BitVec 32 := Scalar.muli c2_i32_231 v293
  let v295 : BitVec 32 := Scalar.addi v291 v294
  let c4_i32_232 : BitVec 32 := 4#32
  let v296 : BitVec 32 := Scalar.shrsi v279 c4_i32_232
  let c1_i32_233 : BitVec 32 := 1#32
  let v297 : BitVec 32 := Scalar.andi v296 c1_i32_233
  let v298 : BitVec 32 := Scalar.addi v295 v297
  let c16_i32_747 : BitVec 32 := 16#32
  let v1037 : BitVec 1 := Scalar.cmpi .slt v298 c16_i32_747
  let v1038 : BitVec 32 := Scalar.extui v1037
  let c0_i32_750 : BitVec 32 := 0#32
  let v1039 : BitVec 1 := Scalar.cmpi .ne v1038 c0_i32_750
  v1039

def k0_off9 (d0 : Dev nD) : Fin 2 → Nat :=
  let c16_i32_235 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v301 : BitVec 32 := Scalar.muli c16_i32_235 v2
  let v302 : BitVec 32 := v301
  let c0_i32_2417 : BitVec 32 := 0#32
  ![v302.toNat, 0]
def k0_off10 (d0 : Dev nD) : Fin 2 → Nat :=
  let c16_i32_234 : BitVec 32 := 16#32
  let c16_i32_222 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_218 : BitVec 32 := 5#32
  let v278 : BitVec 32 := Scalar.addi v2 c5_i32_218
  let c31_i32_219 : BitVec 32 := 31#32
  let v279 : BitVec 32 := Scalar.andi v278 c31_i32_219
  let c1_i32_220 : BitVec 32 := 1#32
  let v280 : BitVec 32 := Scalar.shrsi v279 c1_i32_220
  let v281 : BitVec 32 := Scalar.xori v279 v280
  let c1_i32_221 : BitVec 32 := 1#32
  let v282 : BitVec 32 := Scalar.andi v281 c1_i32_221
  let v283 : BitVec 32 := Scalar.muli c16_i32_222 v282
  let c8_i32_225 : BitVec 32 := 8#32
  let c1_i32_223 : BitVec 32 := 1#32
  let v284 : BitVec 32 := Scalar.shrsi v279 c1_i32_223
  let c1_i32_224 : BitVec 32 := 1#32
  let v285 : BitVec 32 := Scalar.andi v284 c1_i32_224
  let v286 : BitVec 32 := Scalar.muli c8_i32_225 v285
  let v287 : BitVec 32 := Scalar.addi v283 v286
  let c4_i32_228 : BitVec 32 := 4#32
  let c3_i32_226 : BitVec 32 := 3#32
  let v288 : BitVec 32 := Scalar.shrsi v279 c3_i32_226
  let c1_i32_227 : BitVec 32 := 1#32
  let v289 : BitVec 32 := Scalar.andi v288 c1_i32_227
  let v290 : BitVec 32 := Scalar.muli c4_i32_228 v289
  let v291 : BitVec 32 := Scalar.addi v287 v290
  let c2_i32_231 : BitVec 32 := 2#32
  let c2_i32_229 : BitVec 32 := 2#32
  let v292 : BitVec 32 := Scalar.shrsi v279 c2_i32_229
  let c1_i32_230 : BitVec 32 := 1#32
  let v293 : BitVec 32 := Scalar.andi v292 c1_i32_230
  let v294 : BitVec 32 := Scalar.muli c2_i32_231 v293
  let v295 : BitVec 32 := Scalar.addi v291 v294
  let c4_i32_232 : BitVec 32 := 4#32
  let v296 : BitVec 32 := Scalar.shrsi v279 c4_i32_232
  let c1_i32_233 : BitVec 32 := 1#32
  let v297 : BitVec 32 := Scalar.andi v296 c1_i32_233
  let v298 : BitVec 32 := Scalar.addi v295 v297
  let v299 : BitVec 32 := Scalar.muli c16_i32_234 v298
  let v300 : BitVec 32 := v299
  let c0_i32_2418 : BitVec 32 := 0#32
  ![v300.toNat, 0]
def k0_dev36 (d0 : Dev nD) : Nat :=
  let c0_i32_2416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_218 : BitVec 32 := 5#32
  let v278 : BitVec 32 := Scalar.addi v2 c5_i32_218
  let c31_i32_219 : BitVec 32 := 31#32
  let v279 : BitVec 32 := Scalar.andi v278 c31_i32_219
  let c1_i32_2415 : BitVec 32 := 1#32
  let v2911 : BitVec 32 := Scalar.muli v279 c1_i32_2415
  let v2912 : BitVec 32 := Scalar.addi c0_i32_2416 v2911
  v2912.toNat
def k0_cond6 (d0 : Dev nD) : BitVec 1 :=
  let c16_i32_240 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_236 : BitVec 32 := 6#32
  let v303 : BitVec 32 := Scalar.addi v2 c6_i32_236
  let c31_i32_237 : BitVec 32 := 31#32
  let v304 : BitVec 32 := Scalar.andi v303 c31_i32_237
  let c1_i32_238 : BitVec 32 := 1#32
  let v305 : BitVec 32 := Scalar.shrsi v304 c1_i32_238
  let v306 : BitVec 32 := Scalar.xori v304 v305
  let c1_i32_239 : BitVec 32 := 1#32
  let v307 : BitVec 32 := Scalar.andi v306 c1_i32_239
  let v308 : BitVec 32 := Scalar.muli c16_i32_240 v307
  let c8_i32_243 : BitVec 32 := 8#32
  let c1_i32_241 : BitVec 32 := 1#32
  let v309 : BitVec 32 := Scalar.shrsi v304 c1_i32_241
  let c1_i32_242 : BitVec 32 := 1#32
  let v310 : BitVec 32 := Scalar.andi v309 c1_i32_242
  let v311 : BitVec 32 := Scalar.muli c8_i32_243 v310
  let v312 : BitVec 32 := Scalar.addi v308 v311
  let c4_i32_246 : BitVec 32 := 4#32
  let c3_i32_244 : BitVec 32 := 3#32
  let v313 : BitVec 32 := Scalar.shrsi v304 c3_i32_244
  let c1_i32_245 : BitVec 32 := 1#32
  let v314 : BitVec 32 := Scalar.andi v313 c1_i32_245
  let v315 : BitVec 32 := Scalar.muli c4_i32_246 v314
  let v316 : BitVec 32 := Scalar.addi v312 v315
  let c2_i32_249 : BitVec 32 := 2#32
  let c2_i32_247 : BitVec 32 := 2#32
  let v317 : BitVec 32 := Scalar.shrsi v304 c2_i32_247
  let c1_i32_248 : BitVec 32 := 1#32
  let v318 : BitVec 32 := Scalar.andi v317 c1_i32_248
  let v319 : BitVec 32 := Scalar.muli c2_i32_249 v318
  let v320 : BitVec 32 := Scalar.addi v316 v319
  let c4_i32_250 : BitVec 32 := 4#32
  let v321 : BitVec 32 := Scalar.shrsi v304 c4_i32_250
  let c1_i32_251 : BitVec 32 := 1#32
  let v322 : BitVec 32 := Scalar.andi v321 c1_i32_251
  let v323 : BitVec 32 := Scalar.addi v320 v322
  let c16_i32_751 : BitVec 32 := 16#32
  let v1040 : BitVec 1 := Scalar.cmpi .slt v323 c16_i32_751
  let v1041 : BitVec 32 := Scalar.extui v1040
  let c0_i32_754 : BitVec 32 := 0#32
  let v1042 : BitVec 1 := Scalar.cmpi .ne v1041 c0_i32_754
  v1042

def k0_off11 (d0 : Dev nD) : Fin 2 → Nat :=
  let c16_i32_253 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v326 : BitVec 32 := Scalar.muli c16_i32_253 v2
  let v327 : BitVec 32 := v326
  let c0_i32_2417 : BitVec 32 := 0#32
  ![v327.toNat, 0]
def k0_off12 (d0 : Dev nD) : Fin 2 → Nat :=
  let c16_i32_252 : BitVec 32 := 16#32
  let c16_i32_240 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_236 : BitVec 32 := 6#32
  let v303 : BitVec 32 := Scalar.addi v2 c6_i32_236
  let c31_i32_237 : BitVec 32 := 31#32
  let v304 : BitVec 32 := Scalar.andi v303 c31_i32_237
  let c1_i32_238 : BitVec 32 := 1#32
  let v305 : BitVec 32 := Scalar.shrsi v304 c1_i32_238
  let v306 : BitVec 32 := Scalar.xori v304 v305
  let c1_i32_239 : BitVec 32 := 1#32
  let v307 : BitVec 32 := Scalar.andi v306 c1_i32_239
  let v308 : BitVec 32 := Scalar.muli c16_i32_240 v307
  let c8_i32_243 : BitVec 32 := 8#32
  let c1_i32_241 : BitVec 32 := 1#32
  let v309 : BitVec 32 := Scalar.shrsi v304 c1_i32_241
  let c1_i32_242 : BitVec 32 := 1#32
  let v310 : BitVec 32 := Scalar.andi v309 c1_i32_242
  let v311 : BitVec 32 := Scalar.muli c8_i32_243 v310
  let v312 : BitVec 32 := Scalar.addi v308 v311
  let c4_i32_246 : BitVec 32 := 4#32
  let c3_i32_244 : BitVec 32 := 3#32
  let v313 : BitVec 32 := Scalar.shrsi v304 c3_i32_244
  let c1_i32_245 : BitVec 32 := 1#32
  let v314 : BitVec 32 := Scalar.andi v313 c1_i32_245
  let v315 : BitVec 32 := Scalar.muli c4_i32_246 v314
  let v316 : BitVec 32 := Scalar.addi v312 v315
  let c2_i32_249 : BitVec 32 := 2#32
  let c2_i32_247 : BitVec 32 := 2#32
  let v317 : BitVec 32 := Scalar.shrsi v304 c2_i32_247
  let c1_i32_248 : BitVec 32 := 1#32
  let v318 : BitVec 32 := Scalar.andi v317 c1_i32_248
  let v319 : BitVec 32 := Scalar.muli c2_i32_249 v318
  let v320 : BitVec 32 := Scalar.addi v316 v319
  let c4_i32_250 : BitVec 32 := 4#32
  let v321 : BitVec 32 := Scalar.shrsi v304 c4_i32_250
  let c1_i32_251 : BitVec 32 := 1#32
  let v322 : BitVec 32 := Scalar.andi v321 c1_i32_251
  let v323 : BitVec 32 := Scalar.addi v320 v322
  let v324 : BitVec 32 := Scalar.muli c16_i32_252 v323
  let v325 : BitVec 32 := v324
  let c0_i32_2418 : BitVec 32 := 0#32
  ![v325.toNat, 0]
def k0_dev37 (d0 : Dev nD) : Nat :=
  let c0_i32_2416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_236 : BitVec 32 := 6#32
  let v303 : BitVec 32 := Scalar.addi v2 c6_i32_236
  let c31_i32_237 : BitVec 32 := 31#32
  let v304 : BitVec 32 := Scalar.andi v303 c31_i32_237
  let c1_i32_2415 : BitVec 32 := 1#32
  let v2911 : BitVec 32 := Scalar.muli v304 c1_i32_2415
  let v2912 : BitVec 32 := Scalar.addi c0_i32_2416 v2911
  v2912.toNat
def k0_cond7 (d0 : Dev nD) : BitVec 1 :=
  let c16_i32_258 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_254 : BitVec 32 := 7#32
  let v328 : BitVec 32 := Scalar.addi v2 c7_i32_254
  let c31_i32_255 : BitVec 32 := 31#32
  let v329 : BitVec 32 := Scalar.andi v328 c31_i32_255
  let c1_i32_256 : BitVec 32 := 1#32
  let v330 : BitVec 32 := Scalar.shrsi v329 c1_i32_256
  let v331 : BitVec 32 := Scalar.xori v329 v330
  let c1_i32_257 : BitVec 32 := 1#32
  let v332 : BitVec 32 := Scalar.andi v331 c1_i32_257
  let v333 : BitVec 32 := Scalar.muli c16_i32_258 v332
  let c8_i32_261 : BitVec 32 := 8#32
  let c1_i32_259 : BitVec 32 := 1#32
  let v334 : BitVec 32 := Scalar.shrsi v329 c1_i32_259
  let c1_i32_260 : BitVec 32 := 1#32
  let v335 : BitVec 32 := Scalar.andi v334 c1_i32_260
  let v336 : BitVec 32 := Scalar.muli c8_i32_261 v335
  let v337 : BitVec 32 := Scalar.addi v333 v336
  let c4_i32_264 : BitVec 32 := 4#32
  let c3_i32_262 : BitVec 32 := 3#32
  let v338 : BitVec 32 := Scalar.shrsi v329 c3_i32_262
  let c1_i32_263 : BitVec 32 := 1#32
  let v339 : BitVec 32 := Scalar.andi v338 c1_i32_263
  let v340 : BitVec 32 := Scalar.muli c4_i32_264 v339
  let v341 : BitVec 32 := Scalar.addi v337 v340
  let c2_i32_267 : BitVec 32 := 2#32
  let c2_i32_265 : BitVec 32 := 2#32
  let v342 : BitVec 32 := Scalar.shrsi v329 c2_i32_265
  let c1_i32_266 : BitVec 32 := 1#32
  let v343 : BitVec 32 := Scalar.andi v342 c1_i32_266
  let v344 : BitVec 32 := Scalar.muli c2_i32_267 v343
  let v345 : BitVec 32 := Scalar.addi v341 v344
  let c4_i32_268 : BitVec 32 := 4#32
  let v346 : BitVec 32 := Scalar.shrsi v329 c4_i32_268
  let c1_i32_269 : BitVec 32 := 1#32
  let v347 : BitVec 32 := Scalar.andi v346 c1_i32_269
  let v348 : BitVec 32 := Scalar.addi v345 v347
  let c16_i32_755 : BitVec 32 := 16#32
  let v1043 : BitVec 1 := Scalar.cmpi .slt v348 c16_i32_755
  let v1044 : BitVec 32 := Scalar.extui v1043
  let c0_i32_758 : BitVec 32 := 0#32
  let v1045 : BitVec 1 := Scalar.cmpi .ne v1044 c0_i32_758
  v1045

def k0_off13 (d0 : Dev nD) : Fin 2 → Nat :=
  let c16_i32_271 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v351 : BitVec 32 := Scalar.muli c16_i32_271 v2
  let v352 : BitVec 32 := v351
  let c0_i32_2417 : BitVec 32 := 0#32
  ![v352.toNat, 0]
def k0_off14 (d0 : Dev nD) : Fin 2 → Nat :=
  let c16_i32_270 : BitVec 32 := 16#32
  let c16_i32_258 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_254 : BitVec 32 := 7#32
  let v328 : BitVec 32 := Scalar.addi v2 c7_i32_254
  let c31_i32_255 : BitVec 32 := 31#32
  let v329 : BitVec 32 := Scalar.andi v328 c31_i32_255
  let c1_i32_256 : BitVec 32 := 1#32
  let v330 : BitVec 32 := Scalar.shrsi v329 c1_i32_256
  let v331 : BitVec 32 := Scalar.xori v329 v330
  let c1_i32_257 : BitVec 32 := 1#32
  let v332 : BitVec 32 := Scalar.andi v331 c1_i32_257
  let v333 : BitVec 32 := Scalar.muli c16_i32_258 v332
  let c8_i32_261 : BitVec 32 := 8#32
  let c1_i32_259 : BitVec 32 := 1#32
  let v334 : BitVec 32 := Scalar.shrsi v329 c1_i32_259
  let c1_i32_260 : BitVec 32 := 1#32
  let v335 : BitVec 32 := Scalar.andi v334 c1_i32_260
  let v336 : BitVec 32 := Scalar.muli c8_i32_261 v335
  let v337 : BitVec 32 := Scalar.addi v333 v336
  let c4_i32_264 : BitVec 32 := 4#32
  let c3_i32_262 : BitVec 32 := 3#32
  let v338 : BitVec 32 := Scalar.shrsi v329 c3_i32_262
  let c1_i32_263 : BitVec 32 := 1#32
  let v339 : BitVec 32 := Scalar.andi v338 c1_i32_263
  let v340 : BitVec 32 := Scalar.muli c4_i32_264 v339
  let v341 : BitVec 32 := Scalar.addi v337 v340
  let c2_i32_267 : BitVec 32 := 2#32
  let c2_i32_265 : BitVec 32 := 2#32
  let v342 : BitVec 32 := Scalar.shrsi v329 c2_i32_265
  let c1_i32_266 : BitVec 32 := 1#32
  let v343 : BitVec 32 := Scalar.andi v342 c1_i32_266
  let v344 : BitVec 32 := Scalar.muli c2_i32_267 v343
  let v345 : BitVec 32 := Scalar.addi v341 v344
  let c4_i32_268 : BitVec 32 := 4#32
  let v346 : BitVec 32 := Scalar.shrsi v329 c4_i32_268
  let c1_i32_269 : BitVec 32 := 1#32
  let v347 : BitVec 32 := Scalar.andi v346 c1_i32_269
  let v348 : BitVec 32 := Scalar.addi v345 v347
  let v349 : BitVec 32 := Scalar.muli c16_i32_270 v348
  let v350 : BitVec 32 := v349
  let c0_i32_2418 : BitVec 32 := 0#32
  ![v350.toNat, 0]
def k0_dev38 (d0 : Dev nD) : Nat :=
  let c0_i32_2416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_254 : BitVec 32 := 7#32
  let v328 : BitVec 32 := Scalar.addi v2 c7_i32_254
  let c31_i32_255 : BitVec 32 := 31#32
  let v329 : BitVec 32 := Scalar.andi v328 c31_i32_255
  let c1_i32_2415 : BitVec 32 := 1#32
  let v2911 : BitVec 32 := Scalar.muli v329 c1_i32_2415
  let v2912 : BitVec 32 := Scalar.addi c0_i32_2416 v2911
  v2912.toNat
def k0_cond8 (d0 : Dev nD) : BitVec 1 :=
  let c16_i32_276 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_272 : BitVec 32 := 8#32
  let v353 : BitVec 32 := Scalar.addi v2 c8_i32_272
  let c31_i32_273 : BitVec 32 := 31#32
  let v354 : BitVec 32 := Scalar.andi v353 c31_i32_273
  let c1_i32_274 : BitVec 32 := 1#32
  let v355 : BitVec 32 := Scalar.shrsi v354 c1_i32_274
  let v356 : BitVec 32 := Scalar.xori v354 v355
  let c1_i32_275 : BitVec 32 := 1#32
  let v357 : BitVec 32 := Scalar.andi v356 c1_i32_275
  let v358 : BitVec 32 := Scalar.muli c16_i32_276 v357
  let c8_i32_279 : BitVec 32 := 8#32
  let c1_i32_277 : BitVec 32 := 1#32
  let v359 : BitVec 32 := Scalar.shrsi v354 c1_i32_277
  let c1_i32_278 : BitVec 32 := 1#32
  let v360 : BitVec 32 := Scalar.andi v359 c1_i32_278
  let v361 : BitVec 32 := Scalar.muli c8_i32_279 v360
  let v362 : BitVec 32 := Scalar.addi v358 v361
  let c4_i32_282 : BitVec 32 := 4#32
  let c3_i32_280 : BitVec 32 := 3#32
  let v363 : BitVec 32 := Scalar.shrsi v354 c3_i32_280
  let c1_i32_281 : BitVec 32 := 1#32
  let v364 : BitVec 32 := Scalar.andi v363 c1_i32_281
  let v365 : BitVec 32 := Scalar.muli c4_i32_282 v364
  let v366 : BitVec 32 := Scalar.addi v362 v365
  let c2_i32_285 : BitVec 32 := 2#32
  let c2_i32_283 : BitVec 32 := 2#32
  let v367 : BitVec 32 := Scalar.shrsi v354 c2_i32_283
  let c1_i32_284 : BitVec 32 := 1#32
  let v368 : BitVec 32 := Scalar.andi v367 c1_i32_284
  let v369 : BitVec 32 := Scalar.muli c2_i32_285 v368
  let v370 : BitVec 32 := Scalar.addi v366 v369
  let c4_i32_286 : BitVec 32 := 4#32
  let v371 : BitVec 32 := Scalar.shrsi v354 c4_i32_286
  let c1_i32_287 : BitVec 32 := 1#32
  let v372 : BitVec 32 := Scalar.andi v371 c1_i32_287
  let v373 : BitVec 32 := Scalar.addi v370 v372
  let c16_i32_759 : BitVec 32 := 16#32
  let v1046 : BitVec 1 := Scalar.cmpi .slt v373 c16_i32_759
  let v1047 : BitVec 32 := Scalar.extui v1046
  let c0_i32_762 : BitVec 32 := 0#32
  let v1048 : BitVec 1 := Scalar.cmpi .ne v1047 c0_i32_762
  v1048

def k0_off15 (d0 : Dev nD) : Fin 2 → Nat :=
  let c16_i32_289 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v376 : BitVec 32 := Scalar.muli c16_i32_289 v2
  let v377 : BitVec 32 := v376
  let c0_i32_2417 : BitVec 32 := 0#32
  ![v377.toNat, 0]
def k0_off16 (d0 : Dev nD) : Fin 2 → Nat :=
  let c16_i32_288 : BitVec 32 := 16#32
  let c16_i32_276 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_272 : BitVec 32 := 8#32
  let v353 : BitVec 32 := Scalar.addi v2 c8_i32_272
  let c31_i32_273 : BitVec 32 := 31#32
  let v354 : BitVec 32 := Scalar.andi v353 c31_i32_273
  let c1_i32_274 : BitVec 32 := 1#32
  let v355 : BitVec 32 := Scalar.shrsi v354 c1_i32_274
  let v356 : BitVec 32 := Scalar.xori v354 v355
  let c1_i32_275 : BitVec 32 := 1#32
  let v357 : BitVec 32 := Scalar.andi v356 c1_i32_275
  let v358 : BitVec 32 := Scalar.muli c16_i32_276 v357
  let c8_i32_279 : BitVec 32 := 8#32
  let c1_i32_277 : BitVec 32 := 1#32
  let v359 : BitVec 32 := Scalar.shrsi v354 c1_i32_277
  let c1_i32_278 : BitVec 32 := 1#32
  let v360 : BitVec 32 := Scalar.andi v359 c1_i32_278
  let v361 : BitVec 32 := Scalar.muli c8_i32_279 v360
  let v362 : BitVec 32 := Scalar.addi v358 v361
  let c4_i32_282 : BitVec 32 := 4#32
  let c3_i32_280 : BitVec 32 := 3#32
  let v363 : BitVec 32 := Scalar.shrsi v354 c3_i32_280
  let c1_i32_281 : BitVec 32 := 1#32
  let v364 : BitVec 32 := Scalar.andi v363 c1_i32_281
  let v365 : BitVec 32 := Scalar.muli c4_i32_282 v364
  let v366 : BitVec 32 := Scalar.addi v362 v365
  let c2_i32_285 : BitVec 32 := 2#32
  let c2_i32_283 : BitVec 32 := 2#32
  let v367 : BitVec 32 := Scalar.shrsi v354 c2_i32_283
  let c1_i32_284 : BitVec 32 := 1#32
  let v368 : BitVec 32 := Scalar.andi v367 c1_i32_284
  let v369 : BitVec 32 := Scalar.muli c2_i32_285 v368
  let v370 : BitVec 32 := Scalar.addi v366 v369
  let c4_i32_286 : BitVec 32 := 4#32
  let v371 : BitVec 32 := Scalar.shrsi v354 c4_i32_286
  let c1_i32_287 : BitVec 32 := 1#32
  let v372 : BitVec 32 := Scalar.andi v371 c1_i32_287
  let v373 : BitVec 32 := Scalar.addi v370 v372
  let v374 : BitVec 32 := Scalar.muli c16_i32_288 v373
  let v375 : BitVec 32 := v374
  let c0_i32_2418 : BitVec 32 := 0#32
  ![v375.toNat, 0]
def k0_dev39 (d0 : Dev nD) : Nat :=
  let c0_i32_2416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_272 : BitVec 32 := 8#32
  let v353 : BitVec 32 := Scalar.addi v2 c8_i32_272
  let c31_i32_273 : BitVec 32 := 31#32
  let v354 : BitVec 32 := Scalar.andi v353 c31_i32_273
  let c1_i32_2415 : BitVec 32 := 1#32
  let v2911 : BitVec 32 := Scalar.muli v354 c1_i32_2415
  let v2912 : BitVec 32 := Scalar.addi c0_i32_2416 v2911
  v2912.toNat
def k0_cond9 (d0 : Dev nD) : BitVec 1 :=
  let c16_i32_294 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_290 : BitVec 32 := 9#32
  let v378 : BitVec 32 := Scalar.addi v2 c9_i32_290
  let c31_i32_291 : BitVec 32 := 31#32
  let v379 : BitVec 32 := Scalar.andi v378 c31_i32_291
  let c1_i32_292 : BitVec 32 := 1#32
  let v380 : BitVec 32 := Scalar.shrsi v379 c1_i32_292
  let v381 : BitVec 32 := Scalar.xori v379 v380
  let c1_i32_293 : BitVec 32 := 1#32
  let v382 : BitVec 32 := Scalar.andi v381 c1_i32_293
  let v383 : BitVec 32 := Scalar.muli c16_i32_294 v382
  let c8_i32_297 : BitVec 32 := 8#32
  let c1_i32_295 : BitVec 32 := 1#32
  let v384 : BitVec 32 := Scalar.shrsi v379 c1_i32_295
  let c1_i32_296 : BitVec 32 := 1#32
  let v385 : BitVec 32 := Scalar.andi v384 c1_i32_296
  let v386 : BitVec 32 := Scalar.muli c8_i32_297 v385
  let v387 : BitVec 32 := Scalar.addi v383 v386
  let c4_i32_300 : BitVec 32 := 4#32
  let c3_i32_298 : BitVec 32 := 3#32
  let v388 : BitVec 32 := Scalar.shrsi v379 c3_i32_298
  let c1_i32_299 : BitVec 32 := 1#32
  let v389 : BitVec 32 := Scalar.andi v388 c1_i32_299
  let v390 : BitVec 32 := Scalar.muli c4_i32_300 v389
  let v391 : BitVec 32 := Scalar.addi v387 v390
  let c2_i32_303 : BitVec 32 := 2#32
  let c2_i32_301 : BitVec 32 := 2#32
  let v392 : BitVec 32 := Scalar.shrsi v379 c2_i32_301
  let c1_i32_302 : BitVec 32 := 1#32
  let v393 : BitVec 32 := Scalar.andi v392 c1_i32_302
  let v394 : BitVec 32 := Scalar.muli c2_i32_303 v393
  let v395 : BitVec 32 := Scalar.addi v391 v394
  let c4_i32_304 : BitVec 32 := 4#32
  let v396 : BitVec 32 := Scalar.shrsi v379 c4_i32_304
  let c1_i32_305 : BitVec 32 := 1#32
  let v397 : BitVec 32 := Scalar.andi v396 c1_i32_305
  let v398 : BitVec 32 := Scalar.addi v395 v397
  let c16_i32_763 : BitVec 32 := 16#32
  let v1049 : BitVec 1 := Scalar.cmpi .slt v398 c16_i32_763
  let v1050 : BitVec 32 := Scalar.extui v1049
  let c0_i32_766 : BitVec 32 := 0#32
  let v1051 : BitVec 1 := Scalar.cmpi .ne v1050 c0_i32_766
  v1051

def k0_off17 (d0 : Dev nD) : Fin 2 → Nat :=
  let c16_i32_307 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v401 : BitVec 32 := Scalar.muli c16_i32_307 v2
  let v402 : BitVec 32 := v401
  let c0_i32_2417 : BitVec 32 := 0#32
  ![v402.toNat, 0]
def k0_off18 (d0 : Dev nD) : Fin 2 → Nat :=
  let c16_i32_306 : BitVec 32 := 16#32
  let c16_i32_294 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_290 : BitVec 32 := 9#32
  let v378 : BitVec 32 := Scalar.addi v2 c9_i32_290
  let c31_i32_291 : BitVec 32 := 31#32
  let v379 : BitVec 32 := Scalar.andi v378 c31_i32_291
  let c1_i32_292 : BitVec 32 := 1#32
  let v380 : BitVec 32 := Scalar.shrsi v379 c1_i32_292
  let v381 : BitVec 32 := Scalar.xori v379 v380
  let c1_i32_293 : BitVec 32 := 1#32
  let v382 : BitVec 32 := Scalar.andi v381 c1_i32_293
  let v383 : BitVec 32 := Scalar.muli c16_i32_294 v382
  let c8_i32_297 : BitVec 32 := 8#32
  let c1_i32_295 : BitVec 32 := 1#32
  let v384 : BitVec 32 := Scalar.shrsi v379 c1_i32_295
  let c1_i32_296 : BitVec 32 := 1#32
  let v385 : BitVec 32 := Scalar.andi v384 c1_i32_296
  let v386 : BitVec 32 := Scalar.muli c8_i32_297 v385
  let v387 : BitVec 32 := Scalar.addi v383 v386
  let c4_i32_300 : BitVec 32 := 4#32
  let c3_i32_298 : BitVec 32 := 3#32
  let v388 : BitVec 32 := Scalar.shrsi v379 c3_i32_298
  let c1_i32_299 : BitVec 32 := 1#32
  let v389 : BitVec 32 := Scalar.andi v388 c1_i32_299
  let v390 : BitVec 32 := Scalar.muli c4_i32_300 v389
  let v391 : BitVec 32 := Scalar.addi v387 v390
  let c2_i32_303 : BitVec 32 := 2#32
  let c2_i32_301 : BitVec 32 := 2#32
  let v392 : BitVec 32 := Scalar.shrsi v379 c2_i32_301
  let c1_i32_302 : BitVec 32 := 1#32
  let v393 : BitVec 32 := Scalar.andi v392 c1_i32_302
  let v394 : BitVec 32 := Scalar.muli c2_i32_303 v393
  let v395 : BitVec 32 := Scalar.addi v391 v394
  let c4_i32_304 : BitVec 32 := 4#32
  let v396 : BitVec 32 := Scalar.shrsi v379 c4_i32_304
  let c1_i32_305 : BitVec 32 := 1#32
  let v397 : BitVec 32 := Scalar.andi v396 c1_i32_305
  let v398 : BitVec 32 := Scalar.addi v395 v397
  let v399 : BitVec 32 := Scalar.muli c16_i32_306 v398
  let v400 : BitVec 32 := v399
  let c0_i32_2418 : BitVec 32 := 0#32
  ![v400.toNat, 0]
def k0_dev40 (d0 : Dev nD) : Nat :=
  let c0_i32_2416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_290 : BitVec 32 := 9#32
  let v378 : BitVec 32 := Scalar.addi v2 c9_i32_290
  let c31_i32_291 : BitVec 32 := 31#32
  let v379 : BitVec 32 := Scalar.andi v378 c31_i32_291
  let c1_i32_2415 : BitVec 32 := 1#32
  let v2911 : BitVec 32 := Scalar.muli v379 c1_i32_2415
  let v2912 : BitVec 32 := Scalar.addi c0_i32_2416 v2911
  v2912.toNat
def k0_cond10 (d0 : Dev nD) : BitVec 1 :=
  let c16_i32_312 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_308 : BitVec 32 := 10#32
  let v403 : BitVec 32 := Scalar.addi v2 c10_i32_308
  let c31_i32_309 : BitVec 32 := 31#32
  let v404 : BitVec 32 := Scalar.andi v403 c31_i32_309
  let c1_i32_310 : BitVec 32 := 1#32
  let v405 : BitVec 32 := Scalar.shrsi v404 c1_i32_310
  let v406 : BitVec 32 := Scalar.xori v404 v405
  let c1_i32_311 : BitVec 32 := 1#32
  let v407 : BitVec 32 := Scalar.andi v406 c1_i32_311
  let v408 : BitVec 32 := Scalar.muli c16_i32_312 v407
  let c8_i32_315 : BitVec 32 := 8#32
  let c1_i32_313 : BitVec 32 := 1#32
  let v409 : BitVec 32 := Scalar.shrsi v404 c1_i32_313
  let c1_i32_314 : BitVec 32 := 1#32
  let v410 : BitVec 32 := Scalar.andi v409 c1_i32_314
  let v411 : BitVec 32 := Scalar.muli c8_i32_315 v410
  let v412 : BitVec 32 := Scalar.addi v408 v411
  let c4_i32_318 : BitVec 32 := 4#32
  let c3_i32_316 : BitVec 32 := 3#32
  let v413 : BitVec 32 := Scalar.shrsi v404 c3_i32_316
  let c1_i32_317 : BitVec 32 := 1#32
  let v414 : BitVec 32 := Scalar.andi v413 c1_i32_317
  let v415 : BitVec 32 := Scalar.muli c4_i32_318 v414
  let v416 : BitVec 32 := Scalar.addi v412 v415
  let c2_i32_321 : BitVec 32 := 2#32
  let c2_i32_319 : BitVec 32 := 2#32
  let v417 : BitVec 32 := Scalar.shrsi v404 c2_i32_319
  let c1_i32_320 : BitVec 32 := 1#32
  let v418 : BitVec 32 := Scalar.andi v417 c1_i32_320
  let v419 : BitVec 32 := Scalar.muli c2_i32_321 v418
  let v420 : BitVec 32 := Scalar.addi v416 v419
  let c4_i32_322 : BitVec 32 := 4#32
  let v421 : BitVec 32 := Scalar.shrsi v404 c4_i32_322
  let c1_i32_323 : BitVec 32 := 1#32
  let v422 : BitVec 32 := Scalar.andi v421 c1_i32_323
  let v423 : BitVec 32 := Scalar.addi v420 v422
  let c16_i32_767 : BitVec 32 := 16#32
  let v1052 : BitVec 1 := Scalar.cmpi .slt v423 c16_i32_767
  let v1053 : BitVec 32 := Scalar.extui v1052
  let c0_i32_770 : BitVec 32 := 0#32
  let v1054 : BitVec 1 := Scalar.cmpi .ne v1053 c0_i32_770
  v1054

def k0_off19 (d0 : Dev nD) : Fin 2 → Nat :=
  let c16_i32_325 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v426 : BitVec 32 := Scalar.muli c16_i32_325 v2
  let v427 : BitVec 32 := v426
  let c0_i32_2417 : BitVec 32 := 0#32
  ![v427.toNat, 0]
def k0_off20 (d0 : Dev nD) : Fin 2 → Nat :=
  let c16_i32_324 : BitVec 32 := 16#32
  let c16_i32_312 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_308 : BitVec 32 := 10#32
  let v403 : BitVec 32 := Scalar.addi v2 c10_i32_308
  let c31_i32_309 : BitVec 32 := 31#32
  let v404 : BitVec 32 := Scalar.andi v403 c31_i32_309
  let c1_i32_310 : BitVec 32 := 1#32
  let v405 : BitVec 32 := Scalar.shrsi v404 c1_i32_310
  let v406 : BitVec 32 := Scalar.xori v404 v405
  let c1_i32_311 : BitVec 32 := 1#32
  let v407 : BitVec 32 := Scalar.andi v406 c1_i32_311
  let v408 : BitVec 32 := Scalar.muli c16_i32_312 v407
  let c8_i32_315 : BitVec 32 := 8#32
  let c1_i32_313 : BitVec 32 := 1#32
  let v409 : BitVec 32 := Scalar.shrsi v404 c1_i32_313
  let c1_i32_314 : BitVec 32 := 1#32
  let v410 : BitVec 32 := Scalar.andi v409 c1_i32_314
  let v411 : BitVec 32 := Scalar.muli c8_i32_315 v410
  let v412 : BitVec 32 := Scalar.addi v408 v411
  let c4_i32_318 : BitVec 32 := 4#32
  let c3_i32_316 : BitVec 32 := 3#32
  let v413 : BitVec 32 := Scalar.shrsi v404 c3_i32_316
  let c1_i32_317 : BitVec 32 := 1#32
  let v414 : BitVec 32 := Scalar.andi v413 c1_i32_317
  let v415 : BitVec 32 := Scalar.muli c4_i32_318 v414
  let v416 : BitVec 32 := Scalar.addi v412 v415
  let c2_i32_321 : BitVec 32 := 2#32
  let c2_i32_319 : BitVec 32 := 2#32
  let v417 : BitVec 32 := Scalar.shrsi v404 c2_i32_319
  let c1_i32_320 : BitVec 32 := 1#32
  let v418 : BitVec 32 := Scalar.andi v417 c1_i32_320
  let v419 : BitVec 32 := Scalar.muli c2_i32_321 v418
  let v420 : BitVec 32 := Scalar.addi v416 v419
  let c4_i32_322 : BitVec 32 := 4#32
  let v421 : BitVec 32 := Scalar.shrsi v404 c4_i32_322
  let c1_i32_323 : BitVec 32 := 1#32
  let v422 : BitVec 32 := Scalar.andi v421 c1_i32_323
  let v423 : BitVec 32 := Scalar.addi v420 v422
  let v424 : BitVec 32 := Scalar.muli c16_i32_324 v423
  let v425 : BitVec 32 := v424
  let c0_i32_2418 : BitVec 32 := 0#32
  ![v425.toNat, 0]
def k0_dev41 (d0 : Dev nD) : Nat :=
  let c0_i32_2416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_308 : BitVec 32 := 10#32
  let v403 : BitVec 32 := Scalar.addi v2 c10_i32_308
  let c31_i32_309 : BitVec 32 := 31#32
  let v404 : BitVec 32 := Scalar.andi v403 c31_i32_309
  let c1_i32_2415 : BitVec 32 := 1#32
  let v2911 : BitVec 32 := Scalar.muli v404 c1_i32_2415
  let v2912 : BitVec 32 := Scalar.addi c0_i32_2416 v2911
  v2912.toNat
def k0_cond11 (d0 : Dev nD) : BitVec 1 :=
  let c16_i32_330 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_326 : BitVec 32 := 11#32
  let v428 : BitVec 32 := Scalar.addi v2 c11_i32_326
  let c31_i32_327 : BitVec 32 := 31#32
  let v429 : BitVec 32 := Scalar.andi v428 c31_i32_327
  let c1_i32_328 : BitVec 32 := 1#32
  let v430 : BitVec 32 := Scalar.shrsi v429 c1_i32_328
  let v431 : BitVec 32 := Scalar.xori v429 v430
  let c1_i32_329 : BitVec 32 := 1#32
  let v432 : BitVec 32 := Scalar.andi v431 c1_i32_329
  let v433 : BitVec 32 := Scalar.muli c16_i32_330 v432
  let c8_i32_333 : BitVec 32 := 8#32
  let c1_i32_331 : BitVec 32 := 1#32
  let v434 : BitVec 32 := Scalar.shrsi v429 c1_i32_331
  let c1_i32_332 : BitVec 32 := 1#32
  let v435 : BitVec 32 := Scalar.andi v434 c1_i32_332
  let v436 : BitVec 32 := Scalar.muli c8_i32_333 v435
  let v437 : BitVec 32 := Scalar.addi v433 v436
  let c4_i32_336 : BitVec 32 := 4#32
  let c3_i32_334 : BitVec 32 := 3#32
  let v438 : BitVec 32 := Scalar.shrsi v429 c3_i32_334
  let c1_i32_335 : BitVec 32 := 1#32
  let v439 : BitVec 32 := Scalar.andi v438 c1_i32_335
  let v440 : BitVec 32 := Scalar.muli c4_i32_336 v439
  let v441 : BitVec 32 := Scalar.addi v437 v440
  let c2_i32_339 : BitVec 32 := 2#32
  let c2_i32_337 : BitVec 32 := 2#32
  let v442 : BitVec 32 := Scalar.shrsi v429 c2_i32_337
  let c1_i32_338 : BitVec 32 := 1#32
  let v443 : BitVec 32 := Scalar.andi v442 c1_i32_338
  let v444 : BitVec 32 := Scalar.muli c2_i32_339 v443
  let v445 : BitVec 32 := Scalar.addi v441 v444
  let c4_i32_340 : BitVec 32 := 4#32
  let v446 : BitVec 32 := Scalar.shrsi v429 c4_i32_340
  let c1_i32_341 : BitVec 32 := 1#32
  let v447 : BitVec 32 := Scalar.andi v446 c1_i32_341
  let v448 : BitVec 32 := Scalar.addi v445 v447
  let c16_i32_771 : BitVec 32 := 16#32
  let v1055 : BitVec 1 := Scalar.cmpi .slt v448 c16_i32_771
  let v1056 : BitVec 32 := Scalar.extui v1055
  let c0_i32_774 : BitVec 32 := 0#32
  let v1057 : BitVec 1 := Scalar.cmpi .ne v1056 c0_i32_774
  v1057

def k0_off21 (d0 : Dev nD) : Fin 2 → Nat :=
  let c16_i32_343 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v451 : BitVec 32 := Scalar.muli c16_i32_343 v2
  let v452 : BitVec 32 := v451
  let c0_i32_2417 : BitVec 32 := 0#32
  ![v452.toNat, 0]
def k0_off22 (d0 : Dev nD) : Fin 2 → Nat :=
  let c16_i32_342 : BitVec 32 := 16#32
  let c16_i32_330 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_326 : BitVec 32 := 11#32
  let v428 : BitVec 32 := Scalar.addi v2 c11_i32_326
  let c31_i32_327 : BitVec 32 := 31#32
  let v429 : BitVec 32 := Scalar.andi v428 c31_i32_327
  let c1_i32_328 : BitVec 32 := 1#32
  let v430 : BitVec 32 := Scalar.shrsi v429 c1_i32_328
  let v431 : BitVec 32 := Scalar.xori v429 v430
  let c1_i32_329 : BitVec 32 := 1#32
  let v432 : BitVec 32 := Scalar.andi v431 c1_i32_329
  let v433 : BitVec 32 := Scalar.muli c16_i32_330 v432
  let c8_i32_333 : BitVec 32 := 8#32
  let c1_i32_331 : BitVec 32 := 1#32
  let v434 : BitVec 32 := Scalar.shrsi v429 c1_i32_331
  let c1_i32_332 : BitVec 32 := 1#32
  let v435 : BitVec 32 := Scalar.andi v434 c1_i32_332
  let v436 : BitVec 32 := Scalar.muli c8_i32_333 v435
  let v437 : BitVec 32 := Scalar.addi v433 v436
  let c4_i32_336 : BitVec 32 := 4#32
  let c3_i32_334 : BitVec 32 := 3#32
  let v438 : BitVec 32 := Scalar.shrsi v429 c3_i32_334
  let c1_i32_335 : BitVec 32 := 1#32
  let v439 : BitVec 32 := Scalar.andi v438 c1_i32_335
  let v440 : BitVec 32 := Scalar.muli c4_i32_336 v439
  let v441 : BitVec 32 := Scalar.addi v437 v440
  let c2_i32_339 : BitVec 32 := 2#32
  let c2_i32_337 : BitVec 32 := 2#32
  let v442 : BitVec 32 := Scalar.shrsi v429 c2_i32_337
  let c1_i32_338 : BitVec 32 := 1#32
  let v443 : BitVec 32 := Scalar.andi v442 c1_i32_338
  let v444 : BitVec 32 := Scalar.muli c2_i32_339 v443
  let v445 : BitVec 32 := Scalar.addi v441 v444
  let c4_i32_340 : BitVec 32 := 4#32
  let v446 : BitVec 32 := Scalar.shrsi v429 c4_i32_340
  let c1_i32_341 : BitVec 32 := 1#32
  let v447 : BitVec 32 := Scalar.andi v446 c1_i32_341
  let v448 : BitVec 32 := Scalar.addi v445 v447
  let v449 : BitVec 32 := Scalar.muli c16_i32_342 v448
  let v450 : BitVec 32 := v449
  let c0_i32_2418 : BitVec 32 := 0#32
  ![v450.toNat, 0]
def k0_dev42 (d0 : Dev nD) : Nat :=
  let c0_i32_2416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_326 : BitVec 32 := 11#32
  let v428 : BitVec 32 := Scalar.addi v2 c11_i32_326
  let c31_i32_327 : BitVec 32 := 31#32
  let v429 : BitVec 32 := Scalar.andi v428 c31_i32_327
  let c1_i32_2415 : BitVec 32 := 1#32
  let v2911 : BitVec 32 := Scalar.muli v429 c1_i32_2415
  let v2912 : BitVec 32 := Scalar.addi c0_i32_2416 v2911
  v2912.toNat
def k0_cond12 (d0 : Dev nD) : BitVec 1 :=
  let c16_i32_348 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_344 : BitVec 32 := 12#32
  let v453 : BitVec 32 := Scalar.addi v2 c12_i32_344
  let c31_i32_345 : BitVec 32 := 31#32
  let v454 : BitVec 32 := Scalar.andi v453 c31_i32_345
  let c1_i32_346 : BitVec 32 := 1#32
  let v455 : BitVec 32 := Scalar.shrsi v454 c1_i32_346
  let v456 : BitVec 32 := Scalar.xori v454 v455
  let c1_i32_347 : BitVec 32 := 1#32
  let v457 : BitVec 32 := Scalar.andi v456 c1_i32_347
  let v458 : BitVec 32 := Scalar.muli c16_i32_348 v457
  let c8_i32_351 : BitVec 32 := 8#32
  let c1_i32_349 : BitVec 32 := 1#32
  let v459 : BitVec 32 := Scalar.shrsi v454 c1_i32_349
  let c1_i32_350 : BitVec 32 := 1#32
  let v460 : BitVec 32 := Scalar.andi v459 c1_i32_350
  let v461 : BitVec 32 := Scalar.muli c8_i32_351 v460
  let v462 : BitVec 32 := Scalar.addi v458 v461
  let c4_i32_354 : BitVec 32 := 4#32
  let c3_i32_352 : BitVec 32 := 3#32
  let v463 : BitVec 32 := Scalar.shrsi v454 c3_i32_352
  let c1_i32_353 : BitVec 32 := 1#32
  let v464 : BitVec 32 := Scalar.andi v463 c1_i32_353
  let v465 : BitVec 32 := Scalar.muli c4_i32_354 v464
  let v466 : BitVec 32 := Scalar.addi v462 v465
  let c2_i32_357 : BitVec 32 := 2#32
  let c2_i32_355 : BitVec 32 := 2#32
  let v467 : BitVec 32 := Scalar.shrsi v454 c2_i32_355
  let c1_i32_356 : BitVec 32 := 1#32
  let v468 : BitVec 32 := Scalar.andi v467 c1_i32_356
  let v469 : BitVec 32 := Scalar.muli c2_i32_357 v468
  let v470 : BitVec 32 := Scalar.addi v466 v469
  let c4_i32_358 : BitVec 32 := 4#32
  let v471 : BitVec 32 := Scalar.shrsi v454 c4_i32_358
  let c1_i32_359 : BitVec 32 := 1#32
  let v472 : BitVec 32 := Scalar.andi v471 c1_i32_359
  let v473 : BitVec 32 := Scalar.addi v470 v472
  let c16_i32_775 : BitVec 32 := 16#32
  let v1058 : BitVec 1 := Scalar.cmpi .slt v473 c16_i32_775
  let v1059 : BitVec 32 := Scalar.extui v1058
  let c0_i32_778 : BitVec 32 := 0#32
  let v1060 : BitVec 1 := Scalar.cmpi .ne v1059 c0_i32_778
  v1060

def k0_off23 (d0 : Dev nD) : Fin 2 → Nat :=
  let c16_i32_361 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v476 : BitVec 32 := Scalar.muli c16_i32_361 v2
  let v477 : BitVec 32 := v476
  let c0_i32_2417 : BitVec 32 := 0#32
  ![v477.toNat, 0]
def k0_off24 (d0 : Dev nD) : Fin 2 → Nat :=
  let c16_i32_360 : BitVec 32 := 16#32
  let c16_i32_348 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_344 : BitVec 32 := 12#32
  let v453 : BitVec 32 := Scalar.addi v2 c12_i32_344
  let c31_i32_345 : BitVec 32 := 31#32
  let v454 : BitVec 32 := Scalar.andi v453 c31_i32_345
  let c1_i32_346 : BitVec 32 := 1#32
  let v455 : BitVec 32 := Scalar.shrsi v454 c1_i32_346
  let v456 : BitVec 32 := Scalar.xori v454 v455
  let c1_i32_347 : BitVec 32 := 1#32
  let v457 : BitVec 32 := Scalar.andi v456 c1_i32_347
  let v458 : BitVec 32 := Scalar.muli c16_i32_348 v457
  let c8_i32_351 : BitVec 32 := 8#32
  let c1_i32_349 : BitVec 32 := 1#32
  let v459 : BitVec 32 := Scalar.shrsi v454 c1_i32_349
  let c1_i32_350 : BitVec 32 := 1#32
  let v460 : BitVec 32 := Scalar.andi v459 c1_i32_350
  let v461 : BitVec 32 := Scalar.muli c8_i32_351 v460
  let v462 : BitVec 32 := Scalar.addi v458 v461
  let c4_i32_354 : BitVec 32 := 4#32
  let c3_i32_352 : BitVec 32 := 3#32
  let v463 : BitVec 32 := Scalar.shrsi v454 c3_i32_352
  let c1_i32_353 : BitVec 32 := 1#32
  let v464 : BitVec 32 := Scalar.andi v463 c1_i32_353
  let v465 : BitVec 32 := Scalar.muli c4_i32_354 v464
  let v466 : BitVec 32 := Scalar.addi v462 v465
  let c2_i32_357 : BitVec 32 := 2#32
  let c2_i32_355 : BitVec 32 := 2#32
  let v467 : BitVec 32 := Scalar.shrsi v454 c2_i32_355
  let c1_i32_356 : BitVec 32 := 1#32
  let v468 : BitVec 32 := Scalar.andi v467 c1_i32_356
  let v469 : BitVec 32 := Scalar.muli c2_i32_357 v468
  let v470 : BitVec 32 := Scalar.addi v466 v469
  let c4_i32_358 : BitVec 32 := 4#32
  let v471 : BitVec 32 := Scalar.shrsi v454 c4_i32_358
  let c1_i32_359 : BitVec 32 := 1#32
  let v472 : BitVec 32 := Scalar.andi v471 c1_i32_359
  let v473 : BitVec 32 := Scalar.addi v470 v472
  let v474 : BitVec 32 := Scalar.muli c16_i32_360 v473
  let v475 : BitVec 32 := v474
  let c0_i32_2418 : BitVec 32 := 0#32
  ![v475.toNat, 0]
def k0_dev43 (d0 : Dev nD) : Nat :=
  let c0_i32_2416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_344 : BitVec 32 := 12#32
  let v453 : BitVec 32 := Scalar.addi v2 c12_i32_344
  let c31_i32_345 : BitVec 32 := 31#32
  let v454 : BitVec 32 := Scalar.andi v453 c31_i32_345
  let c1_i32_2415 : BitVec 32 := 1#32
  let v2911 : BitVec 32 := Scalar.muli v454 c1_i32_2415
  let v2912 : BitVec 32 := Scalar.addi c0_i32_2416 v2911
  v2912.toNat
def k0_cond13 (d0 : Dev nD) : BitVec 1 :=
  let c16_i32_366 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_362 : BitVec 32 := 13#32
  let v478 : BitVec 32 := Scalar.addi v2 c13_i32_362
  let c31_i32_363 : BitVec 32 := 31#32
  let v479 : BitVec 32 := Scalar.andi v478 c31_i32_363
  let c1_i32_364 : BitVec 32 := 1#32
  let v480 : BitVec 32 := Scalar.shrsi v479 c1_i32_364
  let v481 : BitVec 32 := Scalar.xori v479 v480
  let c1_i32_365 : BitVec 32 := 1#32
  let v482 : BitVec 32 := Scalar.andi v481 c1_i32_365
  let v483 : BitVec 32 := Scalar.muli c16_i32_366 v482
  let c8_i32_369 : BitVec 32 := 8#32
  let c1_i32_367 : BitVec 32 := 1#32
  let v484 : BitVec 32 := Scalar.shrsi v479 c1_i32_367
  let c1_i32_368 : BitVec 32 := 1#32
  let v485 : BitVec 32 := Scalar.andi v484 c1_i32_368
  let v486 : BitVec 32 := Scalar.muli c8_i32_369 v485
  let v487 : BitVec 32 := Scalar.addi v483 v486
  let c4_i32_372 : BitVec 32 := 4#32
  let c3_i32_370 : BitVec 32 := 3#32
  let v488 : BitVec 32 := Scalar.shrsi v479 c3_i32_370
  let c1_i32_371 : BitVec 32 := 1#32
  let v489 : BitVec 32 := Scalar.andi v488 c1_i32_371
  let v490 : BitVec 32 := Scalar.muli c4_i32_372 v489
  let v491 : BitVec 32 := Scalar.addi v487 v490
  let c2_i32_375 : BitVec 32 := 2#32
  let c2_i32_373 : BitVec 32 := 2#32
  let v492 : BitVec 32 := Scalar.shrsi v479 c2_i32_373
  let c1_i32_374 : BitVec 32 := 1#32
  let v493 : BitVec 32 := Scalar.andi v492 c1_i32_374
  let v494 : BitVec 32 := Scalar.muli c2_i32_375 v493
  let v495 : BitVec 32 := Scalar.addi v491 v494
  let c4_i32_376 : BitVec 32 := 4#32
  let v496 : BitVec 32 := Scalar.shrsi v479 c4_i32_376
  let c1_i32_377 : BitVec 32 := 1#32
  let v497 : BitVec 32 := Scalar.andi v496 c1_i32_377
  let v498 : BitVec 32 := Scalar.addi v495 v497
  let c16_i32_779 : BitVec 32 := 16#32
  let v1061 : BitVec 1 := Scalar.cmpi .slt v498 c16_i32_779
  let v1062 : BitVec 32 := Scalar.extui v1061
  let c0_i32_782 : BitVec 32 := 0#32
  let v1063 : BitVec 1 := Scalar.cmpi .ne v1062 c0_i32_782
  v1063

def k0_off25 (d0 : Dev nD) : Fin 2 → Nat :=
  let c16_i32_379 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v501 : BitVec 32 := Scalar.muli c16_i32_379 v2
  let v502 : BitVec 32 := v501
  let c0_i32_2417 : BitVec 32 := 0#32
  ![v502.toNat, 0]
def k0_off26 (d0 : Dev nD) : Fin 2 → Nat :=
  let c16_i32_378 : BitVec 32 := 16#32
  let c16_i32_366 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_362 : BitVec 32 := 13#32
  let v478 : BitVec 32 := Scalar.addi v2 c13_i32_362
  let c31_i32_363 : BitVec 32 := 31#32
  let v479 : BitVec 32 := Scalar.andi v478 c31_i32_363
  let c1_i32_364 : BitVec 32 := 1#32
  let v480 : BitVec 32 := Scalar.shrsi v479 c1_i32_364
  let v481 : BitVec 32 := Scalar.xori v479 v480
  let c1_i32_365 : BitVec 32 := 1#32
  let v482 : BitVec 32 := Scalar.andi v481 c1_i32_365
  let v483 : BitVec 32 := Scalar.muli c16_i32_366 v482
  let c8_i32_369 : BitVec 32 := 8#32
  let c1_i32_367 : BitVec 32 := 1#32
  let v484 : BitVec 32 := Scalar.shrsi v479 c1_i32_367
  let c1_i32_368 : BitVec 32 := 1#32
  let v485 : BitVec 32 := Scalar.andi v484 c1_i32_368
  let v486 : BitVec 32 := Scalar.muli c8_i32_369 v485
  let v487 : BitVec 32 := Scalar.addi v483 v486
  let c4_i32_372 : BitVec 32 := 4#32
  let c3_i32_370 : BitVec 32 := 3#32
  let v488 : BitVec 32 := Scalar.shrsi v479 c3_i32_370
  let c1_i32_371 : BitVec 32 := 1#32
  let v489 : BitVec 32 := Scalar.andi v488 c1_i32_371
  let v490 : BitVec 32 := Scalar.muli c4_i32_372 v489
  let v491 : BitVec 32 := Scalar.addi v487 v490
  let c2_i32_375 : BitVec 32 := 2#32
  let c2_i32_373 : BitVec 32 := 2#32
  let v492 : BitVec 32 := Scalar.shrsi v479 c2_i32_373
  let c1_i32_374 : BitVec 32 := 1#32
  let v493 : BitVec 32 := Scalar.andi v492 c1_i32_374
  let v494 : BitVec 32 := Scalar.muli c2_i32_375 v493
  let v495 : BitVec 32 := Scalar.addi v491 v494
  let c4_i32_376 : BitVec 32 := 4#32
  let v496 : BitVec 32 := Scalar.shrsi v479 c4_i32_376
  let c1_i32_377 : BitVec 32 := 1#32
  let v497 : BitVec 32 := Scalar.andi v496 c1_i32_377
  let v498 : BitVec 32 := Scalar.addi v495 v497
  let v499 : BitVec 32 := Scalar.muli c16_i32_378 v498
  let v500 : BitVec 32 := v499
  let c0_i32_2418 : BitVec 32 := 0#32
  ![v500.toNat, 0]
def k0_dev44 (d0 : Dev nD) : Nat :=
  let c0_i32_2416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_362 : BitVec 32 := 13#32
  let v478 : BitVec 32 := Scalar.addi v2 c13_i32_362
  let c31_i32_363 : BitVec 32 := 31#32
  let v479 : BitVec 32 := Scalar.andi v478 c31_i32_363
  let c1_i32_2415 : BitVec 32 := 1#32
  let v2911 : BitVec 32 := Scalar.muli v479 c1_i32_2415
  let v2912 : BitVec 32 := Scalar.addi c0_i32_2416 v2911
  v2912.toNat
def k0_cond14 (d0 : Dev nD) : BitVec 1 :=
  let c16_i32_384 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_380 : BitVec 32 := 14#32
  let v503 : BitVec 32 := Scalar.addi v2 c14_i32_380
  let c31_i32_381 : BitVec 32 := 31#32
  let v504 : BitVec 32 := Scalar.andi v503 c31_i32_381
  let c1_i32_382 : BitVec 32 := 1#32
  let v505 : BitVec 32 := Scalar.shrsi v504 c1_i32_382
  let v506 : BitVec 32 := Scalar.xori v504 v505
  let c1_i32_383 : BitVec 32 := 1#32
  let v507 : BitVec 32 := Scalar.andi v506 c1_i32_383
  let v508 : BitVec 32 := Scalar.muli c16_i32_384 v507
  let c8_i32_387 : BitVec 32 := 8#32
  let c1_i32_385 : BitVec 32 := 1#32
  let v509 : BitVec 32 := Scalar.shrsi v504 c1_i32_385
  let c1_i32_386 : BitVec 32 := 1#32
  let v510 : BitVec 32 := Scalar.andi v509 c1_i32_386
  let v511 : BitVec 32 := Scalar.muli c8_i32_387 v510
  let v512 : BitVec 32 := Scalar.addi v508 v511
  let c4_i32_390 : BitVec 32 := 4#32
  let c3_i32_388 : BitVec 32 := 3#32
  let v513 : BitVec 32 := Scalar.shrsi v504 c3_i32_388
  let c1_i32_389 : BitVec 32 := 1#32
  let v514 : BitVec 32 := Scalar.andi v513 c1_i32_389
  let v515 : BitVec 32 := Scalar.muli c4_i32_390 v514
  let v516 : BitVec 32 := Scalar.addi v512 v515
  let c2_i32_393 : BitVec 32 := 2#32
  let c2_i32_391 : BitVec 32 := 2#32
  let v517 : BitVec 32 := Scalar.shrsi v504 c2_i32_391
  let c1_i32_392 : BitVec 32 := 1#32
  let v518 : BitVec 32 := Scalar.andi v517 c1_i32_392
  let v519 : BitVec 32 := Scalar.muli c2_i32_393 v518
  let v520 : BitVec 32 := Scalar.addi v516 v519
  let c4_i32_394 : BitVec 32 := 4#32
  let v521 : BitVec 32 := Scalar.shrsi v504 c4_i32_394
  let c1_i32_395 : BitVec 32 := 1#32
  let v522 : BitVec 32 := Scalar.andi v521 c1_i32_395
  let v523 : BitVec 32 := Scalar.addi v520 v522
  let c16_i32_783 : BitVec 32 := 16#32
  let v1064 : BitVec 1 := Scalar.cmpi .slt v523 c16_i32_783
  let v1065 : BitVec 32 := Scalar.extui v1064
  let c0_i32_786 : BitVec 32 := 0#32
  let v1066 : BitVec 1 := Scalar.cmpi .ne v1065 c0_i32_786
  v1066

def k0_off27 (d0 : Dev nD) : Fin 2 → Nat :=
  let c16_i32_397 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v526 : BitVec 32 := Scalar.muli c16_i32_397 v2
  let v527 : BitVec 32 := v526
  let c0_i32_2417 : BitVec 32 := 0#32
  ![v527.toNat, 0]
def k0_off28 (d0 : Dev nD) : Fin 2 → Nat :=
  let c16_i32_396 : BitVec 32 := 16#32
  let c16_i32_384 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_380 : BitVec 32 := 14#32
  let v503 : BitVec 32 := Scalar.addi v2 c14_i32_380
  let c31_i32_381 : BitVec 32 := 31#32
  let v504 : BitVec 32 := Scalar.andi v503 c31_i32_381
  let c1_i32_382 : BitVec 32 := 1#32
  let v505 : BitVec 32 := Scalar.shrsi v504 c1_i32_382
  let v506 : BitVec 32 := Scalar.xori v504 v505
  let c1_i32_383 : BitVec 32 := 1#32
  let v507 : BitVec 32 := Scalar.andi v506 c1_i32_383
  let v508 : BitVec 32 := Scalar.muli c16_i32_384 v507
  let c8_i32_387 : BitVec 32 := 8#32
  let c1_i32_385 : BitVec 32 := 1#32
  let v509 : BitVec 32 := Scalar.shrsi v504 c1_i32_385
  let c1_i32_386 : BitVec 32 := 1#32
  let v510 : BitVec 32 := Scalar.andi v509 c1_i32_386
  let v511 : BitVec 32 := Scalar.muli c8_i32_387 v510
  let v512 : BitVec 32 := Scalar.addi v508 v511
  let c4_i32_390 : BitVec 32 := 4#32
  let c3_i32_388 : BitVec 32 := 3#32
  let v513 : BitVec 32 := Scalar.shrsi v504 c3_i32_388
  let c1_i32_389 : BitVec 32 := 1#32
  let v514 : BitVec 32 := Scalar.andi v513 c1_i32_389
  let v515 : BitVec 32 := Scalar.muli c4_i32_390 v514
  let v516 : BitVec 32 := Scalar.addi v512 v515
  let c2_i32_393 : BitVec 32 := 2#32
  let c2_i32_391 : BitVec 32 := 2#32
  let v517 : BitVec 32 := Scalar.shrsi v504 c2_i32_391
  let c1_i32_392 : BitVec 32 := 1#32
  let v518 : BitVec 32 := Scalar.andi v517 c1_i32_392
  let v519 : BitVec 32 := Scalar.muli c2_i32_393 v518
  let v520 : BitVec 32 := Scalar.addi v516 v519
  let c4_i32_394 : BitVec 32 := 4#32
  let v521 : BitVec 32 := Scalar.shrsi v504 c4_i32_394
  let c1_i32_395 : BitVec 32 := 1#32
  let v522 : BitVec 32 := Scalar.andi v521 c1_i32_395
  let v523 : BitVec 32 := Scalar.addi v520 v522
  let v524 : BitVec 32 := Scalar.muli c16_i32_396 v523
  let v525 : BitVec 32 := v524
  let c0_i32_2418 : BitVec 32 := 0#32
  ![v525.toNat, 0]
def k0_dev45 (d0 : Dev nD) : Nat :=
  let c0_i32_2416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_380 : BitVec 32 := 14#32
  let v503 : BitVec 32 := Scalar.addi v2 c14_i32_380
  let c31_i32_381 : BitVec 32 := 31#32
  let v504 : BitVec 32 := Scalar.andi v503 c31_i32_381
  let c1_i32_2415 : BitVec 32 := 1#32
  let v2911 : BitVec 32 := Scalar.muli v504 c1_i32_2415
  let v2912 : BitVec 32 := Scalar.addi c0_i32_2416 v2911
  v2912.toNat
def k0_cond15 (d0 : Dev nD) : BitVec 1 :=
  let c16_i32_402 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_398 : BitVec 32 := 15#32
  let v528 : BitVec 32 := Scalar.addi v2 c15_i32_398
  let c31_i32_399 : BitVec 32 := 31#32
  let v529 : BitVec 32 := Scalar.andi v528 c31_i32_399
  let c1_i32_400 : BitVec 32 := 1#32
  let v530 : BitVec 32 := Scalar.shrsi v529 c1_i32_400
  let v531 : BitVec 32 := Scalar.xori v529 v530
  let c1_i32_401 : BitVec 32 := 1#32
  let v532 : BitVec 32 := Scalar.andi v531 c1_i32_401
  let v533 : BitVec 32 := Scalar.muli c16_i32_402 v532
  let c8_i32_405 : BitVec 32 := 8#32
  let c1_i32_403 : BitVec 32 := 1#32
  let v534 : BitVec 32 := Scalar.shrsi v529 c1_i32_403
  let c1_i32_404 : BitVec 32 := 1#32
  let v535 : BitVec 32 := Scalar.andi v534 c1_i32_404
  let v536 : BitVec 32 := Scalar.muli c8_i32_405 v535
  let v537 : BitVec 32 := Scalar.addi v533 v536
  let c4_i32_408 : BitVec 32 := 4#32
  let c3_i32_406 : BitVec 32 := 3#32
  let v538 : BitVec 32 := Scalar.shrsi v529 c3_i32_406
  let c1_i32_407 : BitVec 32 := 1#32
  let v539 : BitVec 32 := Scalar.andi v538 c1_i32_407
  let v540 : BitVec 32 := Scalar.muli c4_i32_408 v539
  let v541 : BitVec 32 := Scalar.addi v537 v540
  let c2_i32_411 : BitVec 32 := 2#32
  let c2_i32_409 : BitVec 32 := 2#32
  let v542 : BitVec 32 := Scalar.shrsi v529 c2_i32_409
  let c1_i32_410 : BitVec 32 := 1#32
  let v543 : BitVec 32 := Scalar.andi v542 c1_i32_410
  let v544 : BitVec 32 := Scalar.muli c2_i32_411 v543
  let v545 : BitVec 32 := Scalar.addi v541 v544
  let c4_i32_412 : BitVec 32 := 4#32
  let v546 : BitVec 32 := Scalar.shrsi v529 c4_i32_412
  let c1_i32_413 : BitVec 32 := 1#32
  let v547 : BitVec 32 := Scalar.andi v546 c1_i32_413
  let v548 : BitVec 32 := Scalar.addi v545 v547
  let c16_i32_787 : BitVec 32 := 16#32
  let v1067 : BitVec 1 := Scalar.cmpi .slt v548 c16_i32_787
  let v1068 : BitVec 32 := Scalar.extui v1067
  let c0_i32_790 : BitVec 32 := 0#32
  let v1069 : BitVec 1 := Scalar.cmpi .ne v1068 c0_i32_790
  v1069

def k0_off29 (d0 : Dev nD) : Fin 2 → Nat :=
  let c16_i32_415 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v551 : BitVec 32 := Scalar.muli c16_i32_415 v2
  let v552 : BitVec 32 := v551
  let c0_i32_2417 : BitVec 32 := 0#32
  ![v552.toNat, 0]
def k0_off30 (d0 : Dev nD) : Fin 2 → Nat :=
  let c16_i32_414 : BitVec 32 := 16#32
  let c16_i32_402 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_398 : BitVec 32 := 15#32
  let v528 : BitVec 32 := Scalar.addi v2 c15_i32_398
  let c31_i32_399 : BitVec 32 := 31#32
  let v529 : BitVec 32 := Scalar.andi v528 c31_i32_399
  let c1_i32_400 : BitVec 32 := 1#32
  let v530 : BitVec 32 := Scalar.shrsi v529 c1_i32_400
  let v531 : BitVec 32 := Scalar.xori v529 v530
  let c1_i32_401 : BitVec 32 := 1#32
  let v532 : BitVec 32 := Scalar.andi v531 c1_i32_401
  let v533 : BitVec 32 := Scalar.muli c16_i32_402 v532
  let c8_i32_405 : BitVec 32 := 8#32
  let c1_i32_403 : BitVec 32 := 1#32
  let v534 : BitVec 32 := Scalar.shrsi v529 c1_i32_403
  let c1_i32_404 : BitVec 32 := 1#32
  let v535 : BitVec 32 := Scalar.andi v534 c1_i32_404
  let v536 : BitVec 32 := Scalar.muli c8_i32_405 v535
  let v537 : BitVec 32 := Scalar.addi v533 v536
  let c4_i32_408 : BitVec 32 := 4#32
  let c3_i32_406 : BitVec 32 := 3#32
  let v538 : BitVec 32 := Scalar.shrsi v529 c3_i32_406
  let c1_i32_407 : BitVec 32 := 1#32
  let v539 : BitVec 32 := Scalar.andi v538 c1_i32_407
  let v540 : BitVec 32 := Scalar.muli c4_i32_408 v539
  let v541 : BitVec 32 := Scalar.addi v537 v540
  let c2_i32_411 : BitVec 32 := 2#32
  let c2_i32_409 : BitVec 32 := 2#32
  let v542 : BitVec 32 := Scalar.shrsi v529 c2_i32_409
  let c1_i32_410 : BitVec 32 := 1#32
  let v543 : BitVec 32 := Scalar.andi v542 c1_i32_410
  let v544 : BitVec 32 := Scalar.muli c2_i32_411 v543
  let v545 : BitVec 32 := Scalar.addi v541 v544
  let c4_i32_412 : BitVec 32 := 4#32
  let v546 : BitVec 32 := Scalar.shrsi v529 c4_i32_412
  let c1_i32_413 : BitVec 32 := 1#32
  let v547 : BitVec 32 := Scalar.andi v546 c1_i32_413
  let v548 : BitVec 32 := Scalar.addi v545 v547
  let v549 : BitVec 32 := Scalar.muli c16_i32_414 v548
  let v550 : BitVec 32 := v549
  let c0_i32_2418 : BitVec 32 := 0#32
  ![v550.toNat, 0]
def k0_dev46 (d0 : Dev nD) : Nat :=
  let c0_i32_2416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_398 : BitVec 32 := 15#32
  let v528 : BitVec 32 := Scalar.addi v2 c15_i32_398
  let c31_i32_399 : BitVec 32 := 31#32
  let v529 : BitVec 32 := Scalar.andi v528 c31_i32_399
  let c1_i32_2415 : BitVec 32 := 1#32
  let v2911 : BitVec 32 := Scalar.muli v529 c1_i32_2415
  let v2912 : BitVec 32 := Scalar.addi c0_i32_2416 v2911
  v2912.toNat
def k0_cond16 (d0 : Dev nD) : BitVec 1 :=
  let c16_i32_420 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_416 : BitVec 32 := 16#32
  let v553 : BitVec 32 := Scalar.addi v2 c16_i32_416
  let c31_i32_417 : BitVec 32 := 31#32
  let v554 : BitVec 32 := Scalar.andi v553 c31_i32_417
  let c1_i32_418 : BitVec 32 := 1#32
  let v555 : BitVec 32 := Scalar.shrsi v554 c1_i32_418
  let v556 : BitVec 32 := Scalar.xori v554 v555
  let c1_i32_419 : BitVec 32 := 1#32
  let v557 : BitVec 32 := Scalar.andi v556 c1_i32_419
  let v558 : BitVec 32 := Scalar.muli c16_i32_420 v557
  let c8_i32_423 : BitVec 32 := 8#32
  let c1_i32_421 : BitVec 32 := 1#32
  let v559 : BitVec 32 := Scalar.shrsi v554 c1_i32_421
  let c1_i32_422 : BitVec 32 := 1#32
  let v560 : BitVec 32 := Scalar.andi v559 c1_i32_422
  let v561 : BitVec 32 := Scalar.muli c8_i32_423 v560
  let v562 : BitVec 32 := Scalar.addi v558 v561
  let c4_i32_426 : BitVec 32 := 4#32
  let c3_i32_424 : BitVec 32 := 3#32
  let v563 : BitVec 32 := Scalar.shrsi v554 c3_i32_424
  let c1_i32_425 : BitVec 32 := 1#32
  let v564 : BitVec 32 := Scalar.andi v563 c1_i32_425
  let v565 : BitVec 32 := Scalar.muli c4_i32_426 v564
  let v566 : BitVec 32 := Scalar.addi v562 v565
  let c2_i32_429 : BitVec 32 := 2#32
  let c2_i32_427 : BitVec 32 := 2#32
  let v567 : BitVec 32 := Scalar.shrsi v554 c2_i32_427
  let c1_i32_428 : BitVec 32 := 1#32
  let v568 : BitVec 32 := Scalar.andi v567 c1_i32_428
  let v569 : BitVec 32 := Scalar.muli c2_i32_429 v568
  let v570 : BitVec 32 := Scalar.addi v566 v569
  let c4_i32_430 : BitVec 32 := 4#32
  let v571 : BitVec 32 := Scalar.shrsi v554 c4_i32_430
  let c1_i32_431 : BitVec 32 := 1#32
  let v572 : BitVec 32 := Scalar.andi v571 c1_i32_431
  let v573 : BitVec 32 := Scalar.addi v570 v572
  let c16_i32_791 : BitVec 32 := 16#32
  let v1070 : BitVec 1 := Scalar.cmpi .slt v573 c16_i32_791
  let v1071 : BitVec 32 := Scalar.extui v1070
  let c0_i32_794 : BitVec 32 := 0#32
  let v1072 : BitVec 1 := Scalar.cmpi .ne v1071 c0_i32_794
  v1072

def k0_off31 (d0 : Dev nD) : Fin 2 → Nat :=
  let c16_i32_433 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v576 : BitVec 32 := Scalar.muli c16_i32_433 v2
  let v577 : BitVec 32 := v576
  let c0_i32_2417 : BitVec 32 := 0#32
  ![v577.toNat, 0]
def k0_off32 (d0 : Dev nD) : Fin 2 → Nat :=
  let c16_i32_432 : BitVec 32 := 16#32
  let c16_i32_420 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_416 : BitVec 32 := 16#32
  let v553 : BitVec 32 := Scalar.addi v2 c16_i32_416
  let c31_i32_417 : BitVec 32 := 31#32
  let v554 : BitVec 32 := Scalar.andi v553 c31_i32_417
  let c1_i32_418 : BitVec 32 := 1#32
  let v555 : BitVec 32 := Scalar.shrsi v554 c1_i32_418
  let v556 : BitVec 32 := Scalar.xori v554 v555
  let c1_i32_419 : BitVec 32 := 1#32
  let v557 : BitVec 32 := Scalar.andi v556 c1_i32_419
  let v558 : BitVec 32 := Scalar.muli c16_i32_420 v557
  let c8_i32_423 : BitVec 32 := 8#32
  let c1_i32_421 : BitVec 32 := 1#32
  let v559 : BitVec 32 := Scalar.shrsi v554 c1_i32_421
  let c1_i32_422 : BitVec 32 := 1#32
  let v560 : BitVec 32 := Scalar.andi v559 c1_i32_422
  let v561 : BitVec 32 := Scalar.muli c8_i32_423 v560
  let v562 : BitVec 32 := Scalar.addi v558 v561
  let c4_i32_426 : BitVec 32 := 4#32
  let c3_i32_424 : BitVec 32 := 3#32
  let v563 : BitVec 32 := Scalar.shrsi v554 c3_i32_424
  let c1_i32_425 : BitVec 32 := 1#32
  let v564 : BitVec 32 := Scalar.andi v563 c1_i32_425
  let v565 : BitVec 32 := Scalar.muli c4_i32_426 v564
  let v566 : BitVec 32 := Scalar.addi v562 v565
  let c2_i32_429 : BitVec 32 := 2#32
  let c2_i32_427 : BitVec 32 := 2#32
  let v567 : BitVec 32 := Scalar.shrsi v554 c2_i32_427
  let c1_i32_428 : BitVec 32 := 1#32
  let v568 : BitVec 32 := Scalar.andi v567 c1_i32_428
  let v569 : BitVec 32 := Scalar.muli c2_i32_429 v568
  let v570 : BitVec 32 := Scalar.addi v566 v569
  let c4_i32_430 : BitVec 32 := 4#32
  let v571 : BitVec 32 := Scalar.shrsi v554 c4_i32_430
  let c1_i32_431 : BitVec 32 := 1#32
  let v572 : BitVec 32 := Scalar.andi v571 c1_i32_431
  let v573 : BitVec 32 := Scalar.addi v570 v572
  let v574 : BitVec 32 := Scalar.muli c16_i32_432 v573
  let v575 : BitVec 32 := v574
  let c0_i32_2418 : BitVec 32 := 0#32
  ![v575.toNat, 0]
def k0_dev47 (d0 : Dev nD) : Nat :=
  let c0_i32_2416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_416 : BitVec 32 := 16#32
  let v553 : BitVec 32 := Scalar.addi v2 c16_i32_416
  let c31_i32_417 : BitVec 32 := 31#32
  let v554 : BitVec 32 := Scalar.andi v553 c31_i32_417
  let c1_i32_2415 : BitVec 32 := 1#32
  let v2911 : BitVec 32 := Scalar.muli v554 c1_i32_2415
  let v2912 : BitVec 32 := Scalar.addi c0_i32_2416 v2911
  v2912.toNat
def k0_cond17 (d0 : Dev nD) : BitVec 1 :=
  let c16_i32_438 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_434 : BitVec 32 := 17#32
  let v578 : BitVec 32 := Scalar.addi v2 c17_i32_434
  let c31_i32_435 : BitVec 32 := 31#32
  let v579 : BitVec 32 := Scalar.andi v578 c31_i32_435
  let c1_i32_436 : BitVec 32 := 1#32
  let v580 : BitVec 32 := Scalar.shrsi v579 c1_i32_436
  let v581 : BitVec 32 := Scalar.xori v579 v580
  let c1_i32_437 : BitVec 32 := 1#32
  let v582 : BitVec 32 := Scalar.andi v581 c1_i32_437
  let v583 : BitVec 32 := Scalar.muli c16_i32_438 v582
  let c8_i32_441 : BitVec 32 := 8#32
  let c1_i32_439 : BitVec 32 := 1#32
  let v584 : BitVec 32 := Scalar.shrsi v579 c1_i32_439
  let c1_i32_440 : BitVec 32 := 1#32
  let v585 : BitVec 32 := Scalar.andi v584 c1_i32_440
  let v586 : BitVec 32 := Scalar.muli c8_i32_441 v585
  let v587 : BitVec 32 := Scalar.addi v583 v586
  let c4_i32_444 : BitVec 32 := 4#32
  let c3_i32_442 : BitVec 32 := 3#32
  let v588 : BitVec 32 := Scalar.shrsi v579 c3_i32_442
  let c1_i32_443 : BitVec 32 := 1#32
  let v589 : BitVec 32 := Scalar.andi v588 c1_i32_443
  let v590 : BitVec 32 := Scalar.muli c4_i32_444 v589
  let v591 : BitVec 32 := Scalar.addi v587 v590
  let c2_i32_447 : BitVec 32 := 2#32
  let c2_i32_445 : BitVec 32 := 2#32
  let v592 : BitVec 32 := Scalar.shrsi v579 c2_i32_445
  let c1_i32_446 : BitVec 32 := 1#32
  let v593 : BitVec 32 := Scalar.andi v592 c1_i32_446
  let v594 : BitVec 32 := Scalar.muli c2_i32_447 v593
  let v595 : BitVec 32 := Scalar.addi v591 v594
  let c4_i32_448 : BitVec 32 := 4#32
  let v596 : BitVec 32 := Scalar.shrsi v579 c4_i32_448
  let c1_i32_449 : BitVec 32 := 1#32
  let v597 : BitVec 32 := Scalar.andi v596 c1_i32_449
  let v598 : BitVec 32 := Scalar.addi v595 v597
  let c16_i32_795 : BitVec 32 := 16#32
  let v1073 : BitVec 1 := Scalar.cmpi .slt v598 c16_i32_795
  let v1074 : BitVec 32 := Scalar.extui v1073
  let c0_i32_798 : BitVec 32 := 0#32
  let v1075 : BitVec 1 := Scalar.cmpi .ne v1074 c0_i32_798
  v1075

def k0_off33 (d0 : Dev nD) : Fin 2 → Nat :=
  let c16_i32_451 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v601 : BitVec 32 := Scalar.muli c16_i32_451 v2
  let v602 : BitVec 32 := v601
  let c0_i32_2417 : BitVec 32 := 0#32
  ![v602.toNat, 0]
def k0_off34 (d0 : Dev nD) : Fin 2 → Nat :=
  let c16_i32_450 : BitVec 32 := 16#32
  let c16_i32_438 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_434 : BitVec 32 := 17#32
  let v578 : BitVec 32 := Scalar.addi v2 c17_i32_434
  let c31_i32_435 : BitVec 32 := 31#32
  let v579 : BitVec 32 := Scalar.andi v578 c31_i32_435
  let c1_i32_436 : BitVec 32 := 1#32
  let v580 : BitVec 32 := Scalar.shrsi v579 c1_i32_436
  let v581 : BitVec 32 := Scalar.xori v579 v580
  let c1_i32_437 : BitVec 32 := 1#32
  let v582 : BitVec 32 := Scalar.andi v581 c1_i32_437
  let v583 : BitVec 32 := Scalar.muli c16_i32_438 v582
  let c8_i32_441 : BitVec 32 := 8#32
  let c1_i32_439 : BitVec 32 := 1#32
  let v584 : BitVec 32 := Scalar.shrsi v579 c1_i32_439
  let c1_i32_440 : BitVec 32 := 1#32
  let v585 : BitVec 32 := Scalar.andi v584 c1_i32_440
  let v586 : BitVec 32 := Scalar.muli c8_i32_441 v585
  let v587 : BitVec 32 := Scalar.addi v583 v586
  let c4_i32_444 : BitVec 32 := 4#32
  let c3_i32_442 : BitVec 32 := 3#32
  let v588 : BitVec 32 := Scalar.shrsi v579 c3_i32_442
  let c1_i32_443 : BitVec 32 := 1#32
  let v589 : BitVec 32 := Scalar.andi v588 c1_i32_443
  let v590 : BitVec 32 := Scalar.muli c4_i32_444 v589
  let v591 : BitVec 32 := Scalar.addi v587 v590
  let c2_i32_447 : BitVec 32 := 2#32
  let c2_i32_445 : BitVec 32 := 2#32
  let v592 : BitVec 32 := Scalar.shrsi v579 c2_i32_445
  let c1_i32_446 : BitVec 32 := 1#32
  let v593 : BitVec 32 := Scalar.andi v592 c1_i32_446
  let v594 : BitVec 32 := Scalar.muli c2_i32_447 v593
  let v595 : BitVec 32 := Scalar.addi v591 v594
  let c4_i32_448 : BitVec 32 := 4#32
  let v596 : BitVec 32 := Scalar.shrsi v579 c4_i32_448
  let c1_i32_449 : BitVec 32 := 1#32
  let v597 : BitVec 32 := Scalar.andi v596 c1_i32_449
  let v598 : BitVec 32 := Scalar.addi v595 v597
  let v599 : BitVec 32 := Scalar.muli c16_i32_450 v598
  let v600 : BitVec 32 := v599
  let c0_i32_2418 : BitVec 32 := 0#32
  ![v600.toNat, 0]
def k0_dev48 (d0 : Dev nD) : Nat :=
  let c0_i32_2416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_434 : BitVec 32 := 17#32
  let v578 : BitVec 32 := Scalar.addi v2 c17_i32_434
  let c31_i32_435 : BitVec 32 := 31#32
  let v579 : BitVec 32 := Scalar.andi v578 c31_i32_435
  let c1_i32_2415 : BitVec 32 := 1#32
  let v2911 : BitVec 32 := Scalar.muli v579 c1_i32_2415
  let v2912 : BitVec 32 := Scalar.addi c0_i32_2416 v2911
  v2912.toNat
def k0_cond18 (d0 : Dev nD) : BitVec 1 :=
  let c16_i32_456 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_452 : BitVec 32 := 18#32
  let v603 : BitVec 32 := Scalar.addi v2 c18_i32_452
  let c31_i32_453 : BitVec 32 := 31#32
  let v604 : BitVec 32 := Scalar.andi v603 c31_i32_453
  let c1_i32_454 : BitVec 32 := 1#32
  let v605 : BitVec 32 := Scalar.shrsi v604 c1_i32_454
  let v606 : BitVec 32 := Scalar.xori v604 v605
  let c1_i32_455 : BitVec 32 := 1#32
  let v607 : BitVec 32 := Scalar.andi v606 c1_i32_455
  let v608 : BitVec 32 := Scalar.muli c16_i32_456 v607
  let c8_i32_459 : BitVec 32 := 8#32
  let c1_i32_457 : BitVec 32 := 1#32
  let v609 : BitVec 32 := Scalar.shrsi v604 c1_i32_457
  let c1_i32_458 : BitVec 32 := 1#32
  let v610 : BitVec 32 := Scalar.andi v609 c1_i32_458
  let v611 : BitVec 32 := Scalar.muli c8_i32_459 v610
  let v612 : BitVec 32 := Scalar.addi v608 v611
  let c4_i32_462 : BitVec 32 := 4#32
  let c3_i32_460 : BitVec 32 := 3#32
  let v613 : BitVec 32 := Scalar.shrsi v604 c3_i32_460
  let c1_i32_461 : BitVec 32 := 1#32
  let v614 : BitVec 32 := Scalar.andi v613 c1_i32_461
  let v615 : BitVec 32 := Scalar.muli c4_i32_462 v614
  let v616 : BitVec 32 := Scalar.addi v612 v615
  let c2_i32_465 : BitVec 32 := 2#32
  let c2_i32_463 : BitVec 32 := 2#32
  let v617 : BitVec 32 := Scalar.shrsi v604 c2_i32_463
  let c1_i32_464 : BitVec 32 := 1#32
  let v618 : BitVec 32 := Scalar.andi v617 c1_i32_464
  let v619 : BitVec 32 := Scalar.muli c2_i32_465 v618
  let v620 : BitVec 32 := Scalar.addi v616 v619
  let c4_i32_466 : BitVec 32 := 4#32
  let v621 : BitVec 32 := Scalar.shrsi v604 c4_i32_466
  let c1_i32_467 : BitVec 32 := 1#32
  let v622 : BitVec 32 := Scalar.andi v621 c1_i32_467
  let v623 : BitVec 32 := Scalar.addi v620 v622
  let c16_i32_799 : BitVec 32 := 16#32
  let v1076 : BitVec 1 := Scalar.cmpi .slt v623 c16_i32_799
  let v1077 : BitVec 32 := Scalar.extui v1076
  let c0_i32_802 : BitVec 32 := 0#32
  let v1078 : BitVec 1 := Scalar.cmpi .ne v1077 c0_i32_802
  v1078

def k0_off35 (d0 : Dev nD) : Fin 2 → Nat :=
  let c16_i32_469 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v626 : BitVec 32 := Scalar.muli c16_i32_469 v2
  let v627 : BitVec 32 := v626
  let c0_i32_2417 : BitVec 32 := 0#32
  ![v627.toNat, 0]
def k0_off36 (d0 : Dev nD) : Fin 2 → Nat :=
  let c16_i32_468 : BitVec 32 := 16#32
  let c16_i32_456 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_452 : BitVec 32 := 18#32
  let v603 : BitVec 32 := Scalar.addi v2 c18_i32_452
  let c31_i32_453 : BitVec 32 := 31#32
  let v604 : BitVec 32 := Scalar.andi v603 c31_i32_453
  let c1_i32_454 : BitVec 32 := 1#32
  let v605 : BitVec 32 := Scalar.shrsi v604 c1_i32_454
  let v606 : BitVec 32 := Scalar.xori v604 v605
  let c1_i32_455 : BitVec 32 := 1#32
  let v607 : BitVec 32 := Scalar.andi v606 c1_i32_455
  let v608 : BitVec 32 := Scalar.muli c16_i32_456 v607
  let c8_i32_459 : BitVec 32 := 8#32
  let c1_i32_457 : BitVec 32 := 1#32
  let v609 : BitVec 32 := Scalar.shrsi v604 c1_i32_457
  let c1_i32_458 : BitVec 32 := 1#32
  let v610 : BitVec 32 := Scalar.andi v609 c1_i32_458
  let v611 : BitVec 32 := Scalar.muli c8_i32_459 v610
  let v612 : BitVec 32 := Scalar.addi v608 v611
  let c4_i32_462 : BitVec 32 := 4#32
  let c3_i32_460 : BitVec 32 := 3#32
  let v613 : BitVec 32 := Scalar.shrsi v604 c3_i32_460
  let c1_i32_461 : BitVec 32 := 1#32
  let v614 : BitVec 32 := Scalar.andi v613 c1_i32_461
  let v615 : BitVec 32 := Scalar.muli c4_i32_462 v614
  let v616 : BitVec 32 := Scalar.addi v612 v615
  let c2_i32_465 : BitVec 32 := 2#32
  let c2_i32_463 : BitVec 32 := 2#32
  let v617 : BitVec 32 := Scalar.shrsi v604 c2_i32_463
  let c1_i32_464 : BitVec 32 := 1#32
  let v618 : BitVec 32 := Scalar.andi v617 c1_i32_464
  let v619 : BitVec 32 := Scalar.muli c2_i32_465 v618
  let v620 : BitVec 32 := Scalar.addi v616 v619
  let c4_i32_466 : BitVec 32 := 4#32
  let v621 : BitVec 32 := Scalar.shrsi v604 c4_i32_466
  let c1_i32_467 : BitVec 32 := 1#32
  let v622 : BitVec 32 := Scalar.andi v621 c1_i32_467
  let v623 : BitVec 32 := Scalar.addi v620 v622
  let v624 : BitVec 32 := Scalar.muli c16_i32_468 v623
  let v625 : BitVec 32 := v624
  let c0_i32_2418 : BitVec 32 := 0#32
  ![v625.toNat, 0]
def k0_dev49 (d0 : Dev nD) : Nat :=
  let c0_i32_2416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_452 : BitVec 32 := 18#32
  let v603 : BitVec 32 := Scalar.addi v2 c18_i32_452
  let c31_i32_453 : BitVec 32 := 31#32
  let v604 : BitVec 32 := Scalar.andi v603 c31_i32_453
  let c1_i32_2415 : BitVec 32 := 1#32
  let v2911 : BitVec 32 := Scalar.muli v604 c1_i32_2415
  let v2912 : BitVec 32 := Scalar.addi c0_i32_2416 v2911
  v2912.toNat
def k0_cond19 (d0 : Dev nD) : BitVec 1 :=
  let c16_i32_474 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_470 : BitVec 32 := 19#32
  let v628 : BitVec 32 := Scalar.addi v2 c19_i32_470
  let c31_i32_471 : BitVec 32 := 31#32
  let v629 : BitVec 32 := Scalar.andi v628 c31_i32_471
  let c1_i32_472 : BitVec 32 := 1#32
  let v630 : BitVec 32 := Scalar.shrsi v629 c1_i32_472
  let v631 : BitVec 32 := Scalar.xori v629 v630
  let c1_i32_473 : BitVec 32 := 1#32
  let v632 : BitVec 32 := Scalar.andi v631 c1_i32_473
  let v633 : BitVec 32 := Scalar.muli c16_i32_474 v632
  let c8_i32_477 : BitVec 32 := 8#32
  let c1_i32_475 : BitVec 32 := 1#32
  let v634 : BitVec 32 := Scalar.shrsi v629 c1_i32_475
  let c1_i32_476 : BitVec 32 := 1#32
  let v635 : BitVec 32 := Scalar.andi v634 c1_i32_476
  let v636 : BitVec 32 := Scalar.muli c8_i32_477 v635
  let v637 : BitVec 32 := Scalar.addi v633 v636
  let c4_i32_480 : BitVec 32 := 4#32
  let c3_i32_478 : BitVec 32 := 3#32
  let v638 : BitVec 32 := Scalar.shrsi v629 c3_i32_478
  let c1_i32_479 : BitVec 32 := 1#32
  let v639 : BitVec 32 := Scalar.andi v638 c1_i32_479
  let v640 : BitVec 32 := Scalar.muli c4_i32_480 v639
  let v641 : BitVec 32 := Scalar.addi v637 v640
  let c2_i32_483 : BitVec 32 := 2#32
  let c2_i32_481 : BitVec 32 := 2#32
  let v642 : BitVec 32 := Scalar.shrsi v629 c2_i32_481
  let c1_i32_482 : BitVec 32 := 1#32
  let v643 : BitVec 32 := Scalar.andi v642 c1_i32_482
  let v644 : BitVec 32 := Scalar.muli c2_i32_483 v643
  let v645 : BitVec 32 := Scalar.addi v641 v644
  let c4_i32_484 : BitVec 32 := 4#32
  let v646 : BitVec 32 := Scalar.shrsi v629 c4_i32_484
  let c1_i32_485 : BitVec 32 := 1#32
  let v647 : BitVec 32 := Scalar.andi v646 c1_i32_485
  let v648 : BitVec 32 := Scalar.addi v645 v647
  let c16_i32_803 : BitVec 32 := 16#32
  let v1079 : BitVec 1 := Scalar.cmpi .slt v648 c16_i32_803
  let v1080 : BitVec 32 := Scalar.extui v1079
  let c0_i32_806 : BitVec 32 := 0#32
  let v1081 : BitVec 1 := Scalar.cmpi .ne v1080 c0_i32_806
  v1081

def k0_off37 (d0 : Dev nD) : Fin 2 → Nat :=
  let c16_i32_487 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v651 : BitVec 32 := Scalar.muli c16_i32_487 v2
  let v652 : BitVec 32 := v651
  let c0_i32_2417 : BitVec 32 := 0#32
  ![v652.toNat, 0]
def k0_off38 (d0 : Dev nD) : Fin 2 → Nat :=
  let c16_i32_486 : BitVec 32 := 16#32
  let c16_i32_474 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_470 : BitVec 32 := 19#32
  let v628 : BitVec 32 := Scalar.addi v2 c19_i32_470
  let c31_i32_471 : BitVec 32 := 31#32
  let v629 : BitVec 32 := Scalar.andi v628 c31_i32_471
  let c1_i32_472 : BitVec 32 := 1#32
  let v630 : BitVec 32 := Scalar.shrsi v629 c1_i32_472
  let v631 : BitVec 32 := Scalar.xori v629 v630
  let c1_i32_473 : BitVec 32 := 1#32
  let v632 : BitVec 32 := Scalar.andi v631 c1_i32_473
  let v633 : BitVec 32 := Scalar.muli c16_i32_474 v632
  let c8_i32_477 : BitVec 32 := 8#32
  let c1_i32_475 : BitVec 32 := 1#32
  let v634 : BitVec 32 := Scalar.shrsi v629 c1_i32_475
  let c1_i32_476 : BitVec 32 := 1#32
  let v635 : BitVec 32 := Scalar.andi v634 c1_i32_476
  let v636 : BitVec 32 := Scalar.muli c8_i32_477 v635
  let v637 : BitVec 32 := Scalar.addi v633 v636
  let c4_i32_480 : BitVec 32 := 4#32
  let c3_i32_478 : BitVec 32 := 3#32
  let v638 : BitVec 32 := Scalar.shrsi v629 c3_i32_478
  let c1_i32_479 : BitVec 32 := 1#32
  let v639 : BitVec 32 := Scalar.andi v638 c1_i32_479
  let v640 : BitVec 32 := Scalar.muli c4_i32_480 v639
  let v641 : BitVec 32 := Scalar.addi v637 v640
  let c2_i32_483 : BitVec 32 := 2#32
  let c2_i32_481 : BitVec 32 := 2#32
  let v642 : BitVec 32 := Scalar.shrsi v629 c2_i32_481
  let c1_i32_482 : BitVec 32 := 1#32
  let v643 : BitVec 32 := Scalar.andi v642 c1_i32_482
  let v644 : BitVec 32 := Scalar.muli c2_i32_483 v643
  let v645 : BitVec 32 := Scalar.addi v641 v644
  let c4_i32_484 : BitVec 32 := 4#32
  let v646 : BitVec 32 := Scalar.shrsi v629 c4_i32_484
  let c1_i32_485 : BitVec 32 := 1#32
  let v647 : BitVec 32 := Scalar.andi v646 c1_i32_485
  let v648 : BitVec 32 := Scalar.addi v645 v647
  let v649 : BitVec 32 := Scalar.muli c16_i32_486 v648
  let v650 : BitVec 32 := v649
  let c0_i32_2418 : BitVec 32 := 0#32
  ![v650.toNat, 0]
def k0_dev50 (d0 : Dev nD) : Nat :=
  let c0_i32_2416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_470 : BitVec 32 := 19#32
  let v628 : BitVec 32 := Scalar.addi v2 c19_i32_470
  let c31_i32_471 : BitVec 32 := 31#32
  let v629 : BitVec 32 := Scalar.andi v628 c31_i32_471
  let c1_i32_2415 : BitVec 32 := 1#32
  let v2911 : BitVec 32 := Scalar.muli v629 c1_i32_2415
  let v2912 : BitVec 32 := Scalar.addi c0_i32_2416 v2911
  v2912.toNat
def k0_cond20 (d0 : Dev nD) : BitVec 1 :=
  let c16_i32_492 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_488 : BitVec 32 := 20#32
  let v653 : BitVec 32 := Scalar.addi v2 c20_i32_488
  let c31_i32_489 : BitVec 32 := 31#32
  let v654 : BitVec 32 := Scalar.andi v653 c31_i32_489
  let c1_i32_490 : BitVec 32 := 1#32
  let v655 : BitVec 32 := Scalar.shrsi v654 c1_i32_490
  let v656 : BitVec 32 := Scalar.xori v654 v655
  let c1_i32_491 : BitVec 32 := 1#32
  let v657 : BitVec 32 := Scalar.andi v656 c1_i32_491
  let v658 : BitVec 32 := Scalar.muli c16_i32_492 v657
  let c8_i32_495 : BitVec 32 := 8#32
  let c1_i32_493 : BitVec 32 := 1#32
  let v659 : BitVec 32 := Scalar.shrsi v654 c1_i32_493
  let c1_i32_494 : BitVec 32 := 1#32
  let v660 : BitVec 32 := Scalar.andi v659 c1_i32_494
  let v661 : BitVec 32 := Scalar.muli c8_i32_495 v660
  let v662 : BitVec 32 := Scalar.addi v658 v661
  let c4_i32_498 : BitVec 32 := 4#32
  let c3_i32_496 : BitVec 32 := 3#32
  let v663 : BitVec 32 := Scalar.shrsi v654 c3_i32_496
  let c1_i32_497 : BitVec 32 := 1#32
  let v664 : BitVec 32 := Scalar.andi v663 c1_i32_497
  let v665 : BitVec 32 := Scalar.muli c4_i32_498 v664
  let v666 : BitVec 32 := Scalar.addi v662 v665
  let c2_i32_501 : BitVec 32 := 2#32
  let c2_i32_499 : BitVec 32 := 2#32
  let v667 : BitVec 32 := Scalar.shrsi v654 c2_i32_499
  let c1_i32_500 : BitVec 32 := 1#32
  let v668 : BitVec 32 := Scalar.andi v667 c1_i32_500
  let v669 : BitVec 32 := Scalar.muli c2_i32_501 v668
  let v670 : BitVec 32 := Scalar.addi v666 v669
  let c4_i32_502 : BitVec 32 := 4#32
  let v671 : BitVec 32 := Scalar.shrsi v654 c4_i32_502
  let c1_i32_503 : BitVec 32 := 1#32
  let v672 : BitVec 32 := Scalar.andi v671 c1_i32_503
  let v673 : BitVec 32 := Scalar.addi v670 v672
  let c16_i32_807 : BitVec 32 := 16#32
  let v1082 : BitVec 1 := Scalar.cmpi .slt v673 c16_i32_807
  let v1083 : BitVec 32 := Scalar.extui v1082
  let c0_i32_810 : BitVec 32 := 0#32
  let v1084 : BitVec 1 := Scalar.cmpi .ne v1083 c0_i32_810
  v1084

def k0_off39 (d0 : Dev nD) : Fin 2 → Nat :=
  let c16_i32_505 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v676 : BitVec 32 := Scalar.muli c16_i32_505 v2
  let v677 : BitVec 32 := v676
  let c0_i32_2417 : BitVec 32 := 0#32
  ![v677.toNat, 0]
def k0_off40 (d0 : Dev nD) : Fin 2 → Nat :=
  let c16_i32_504 : BitVec 32 := 16#32
  let c16_i32_492 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_488 : BitVec 32 := 20#32
  let v653 : BitVec 32 := Scalar.addi v2 c20_i32_488
  let c31_i32_489 : BitVec 32 := 31#32
  let v654 : BitVec 32 := Scalar.andi v653 c31_i32_489
  let c1_i32_490 : BitVec 32 := 1#32
  let v655 : BitVec 32 := Scalar.shrsi v654 c1_i32_490
  let v656 : BitVec 32 := Scalar.xori v654 v655
  let c1_i32_491 : BitVec 32 := 1#32
  let v657 : BitVec 32 := Scalar.andi v656 c1_i32_491
  let v658 : BitVec 32 := Scalar.muli c16_i32_492 v657
  let c8_i32_495 : BitVec 32 := 8#32
  let c1_i32_493 : BitVec 32 := 1#32
  let v659 : BitVec 32 := Scalar.shrsi v654 c1_i32_493
  let c1_i32_494 : BitVec 32 := 1#32
  let v660 : BitVec 32 := Scalar.andi v659 c1_i32_494
  let v661 : BitVec 32 := Scalar.muli c8_i32_495 v660
  let v662 : BitVec 32 := Scalar.addi v658 v661
  let c4_i32_498 : BitVec 32 := 4#32
  let c3_i32_496 : BitVec 32 := 3#32
  let v663 : BitVec 32 := Scalar.shrsi v654 c3_i32_496
  let c1_i32_497 : BitVec 32 := 1#32
  let v664 : BitVec 32 := Scalar.andi v663 c1_i32_497
  let v665 : BitVec 32 := Scalar.muli c4_i32_498 v664
  let v666 : BitVec 32 := Scalar.addi v662 v665
  let c2_i32_501 : BitVec 32 := 2#32
  let c2_i32_499 : BitVec 32 := 2#32
  let v667 : BitVec 32 := Scalar.shrsi v654 c2_i32_499
  let c1_i32_500 : BitVec 32 := 1#32
  let v668 : BitVec 32 := Scalar.andi v667 c1_i32_500
  let v669 : BitVec 32 := Scalar.muli c2_i32_501 v668
  let v670 : BitVec 32 := Scalar.addi v666 v669
  let c4_i32_502 : BitVec 32 := 4#32
  let v671 : BitVec 32 := Scalar.shrsi v654 c4_i32_502
  let c1_i32_503 : BitVec 32 := 1#32
  let v672 : BitVec 32 := Scalar.andi v671 c1_i32_503
  let v673 : BitVec 32 := Scalar.addi v670 v672
  let v674 : BitVec 32 := Scalar.muli c16_i32_504 v673
  let v675 : BitVec 32 := v674
  let c0_i32_2418 : BitVec 32 := 0#32
  ![v675.toNat, 0]
def k0_dev51 (d0 : Dev nD) : Nat :=
  let c0_i32_2416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_488 : BitVec 32 := 20#32
  let v653 : BitVec 32 := Scalar.addi v2 c20_i32_488
  let c31_i32_489 : BitVec 32 := 31#32
  let v654 : BitVec 32 := Scalar.andi v653 c31_i32_489
  let c1_i32_2415 : BitVec 32 := 1#32
  let v2911 : BitVec 32 := Scalar.muli v654 c1_i32_2415
  let v2912 : BitVec 32 := Scalar.addi c0_i32_2416 v2911
  v2912.toNat
def k0_cond21 (d0 : Dev nD) : BitVec 1 :=
  let c16_i32_510 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_506 : BitVec 32 := 21#32
  let v678 : BitVec 32 := Scalar.addi v2 c21_i32_506
  let c31_i32_507 : BitVec 32 := 31#32
  let v679 : BitVec 32 := Scalar.andi v678 c31_i32_507
  let c1_i32_508 : BitVec 32 := 1#32
  let v680 : BitVec 32 := Scalar.shrsi v679 c1_i32_508
  let v681 : BitVec 32 := Scalar.xori v679 v680
  let c1_i32_509 : BitVec 32 := 1#32
  let v682 : BitVec 32 := Scalar.andi v681 c1_i32_509
  let v683 : BitVec 32 := Scalar.muli c16_i32_510 v682
  let c8_i32_513 : BitVec 32 := 8#32
  let c1_i32_511 : BitVec 32 := 1#32
  let v684 : BitVec 32 := Scalar.shrsi v679 c1_i32_511
  let c1_i32_512 : BitVec 32 := 1#32
  let v685 : BitVec 32 := Scalar.andi v684 c1_i32_512
  let v686 : BitVec 32 := Scalar.muli c8_i32_513 v685
  let v687 : BitVec 32 := Scalar.addi v683 v686
  let c4_i32_516 : BitVec 32 := 4#32
  let c3_i32_514 : BitVec 32 := 3#32
  let v688 : BitVec 32 := Scalar.shrsi v679 c3_i32_514
  let c1_i32_515 : BitVec 32 := 1#32
  let v689 : BitVec 32 := Scalar.andi v688 c1_i32_515
  let v690 : BitVec 32 := Scalar.muli c4_i32_516 v689
  let v691 : BitVec 32 := Scalar.addi v687 v690
  let c2_i32_519 : BitVec 32 := 2#32
  let c2_i32_517 : BitVec 32 := 2#32
  let v692 : BitVec 32 := Scalar.shrsi v679 c2_i32_517
  let c1_i32_518 : BitVec 32 := 1#32
  let v693 : BitVec 32 := Scalar.andi v692 c1_i32_518
  let v694 : BitVec 32 := Scalar.muli c2_i32_519 v693
  let v695 : BitVec 32 := Scalar.addi v691 v694
  let c4_i32_520 : BitVec 32 := 4#32
  let v696 : BitVec 32 := Scalar.shrsi v679 c4_i32_520
  let c1_i32_521 : BitVec 32 := 1#32
  let v697 : BitVec 32 := Scalar.andi v696 c1_i32_521
  let v698 : BitVec 32 := Scalar.addi v695 v697
  let c16_i32_811 : BitVec 32 := 16#32
  let v1085 : BitVec 1 := Scalar.cmpi .slt v698 c16_i32_811
  let v1086 : BitVec 32 := Scalar.extui v1085
  let c0_i32_814 : BitVec 32 := 0#32
  let v1087 : BitVec 1 := Scalar.cmpi .ne v1086 c0_i32_814
  v1087

def k0_off41 (d0 : Dev nD) : Fin 2 → Nat :=
  let c16_i32_523 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v701 : BitVec 32 := Scalar.muli c16_i32_523 v2
  let v702 : BitVec 32 := v701
  let c0_i32_2417 : BitVec 32 := 0#32
  ![v702.toNat, 0]
def k0_off42 (d0 : Dev nD) : Fin 2 → Nat :=
  let c16_i32_522 : BitVec 32 := 16#32
  let c16_i32_510 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_506 : BitVec 32 := 21#32
  let v678 : BitVec 32 := Scalar.addi v2 c21_i32_506
  let c31_i32_507 : BitVec 32 := 31#32
  let v679 : BitVec 32 := Scalar.andi v678 c31_i32_507
  let c1_i32_508 : BitVec 32 := 1#32
  let v680 : BitVec 32 := Scalar.shrsi v679 c1_i32_508
  let v681 : BitVec 32 := Scalar.xori v679 v680
  let c1_i32_509 : BitVec 32 := 1#32
  let v682 : BitVec 32 := Scalar.andi v681 c1_i32_509
  let v683 : BitVec 32 := Scalar.muli c16_i32_510 v682
  let c8_i32_513 : BitVec 32 := 8#32
  let c1_i32_511 : BitVec 32 := 1#32
  let v684 : BitVec 32 := Scalar.shrsi v679 c1_i32_511
  let c1_i32_512 : BitVec 32 := 1#32
  let v685 : BitVec 32 := Scalar.andi v684 c1_i32_512
  let v686 : BitVec 32 := Scalar.muli c8_i32_513 v685
  let v687 : BitVec 32 := Scalar.addi v683 v686
  let c4_i32_516 : BitVec 32 := 4#32
  let c3_i32_514 : BitVec 32 := 3#32
  let v688 : BitVec 32 := Scalar.shrsi v679 c3_i32_514
  let c1_i32_515 : BitVec 32 := 1#32
  let v689 : BitVec 32 := Scalar.andi v688 c1_i32_515
  let v690 : BitVec 32 := Scalar.muli c4_i32_516 v689
  let v691 : BitVec 32 := Scalar.addi v687 v690
  let c2_i32_519 : BitVec 32 := 2#32
  let c2_i32_517 : BitVec 32 := 2#32
  let v692 : BitVec 32 := Scalar.shrsi v679 c2_i32_517
  let c1_i32_518 : BitVec 32 := 1#32
  let v693 : BitVec 32 := Scalar.andi v692 c1_i32_518
  let v694 : BitVec 32 := Scalar.muli c2_i32_519 v693
  let v695 : BitVec 32 := Scalar.addi v691 v694
  let c4_i32_520 : BitVec 32 := 4#32
  let v696 : BitVec 32 := Scalar.shrsi v679 c4_i32_520
  let c1_i32_521 : BitVec 32 := 1#32
  let v697 : BitVec 32 := Scalar.andi v696 c1_i32_521
  let v698 : BitVec 32 := Scalar.addi v695 v697
  let v699 : BitVec 32 := Scalar.muli c16_i32_522 v698
  let v700 : BitVec 32 := v699
  let c0_i32_2418 : BitVec 32 := 0#32
  ![v700.toNat, 0]
def k0_dev52 (d0 : Dev nD) : Nat :=
  let c0_i32_2416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_506 : BitVec 32 := 21#32
  let v678 : BitVec 32 := Scalar.addi v2 c21_i32_506
  let c31_i32_507 : BitVec 32 := 31#32
  let v679 : BitVec 32 := Scalar.andi v678 c31_i32_507
  let c1_i32_2415 : BitVec 32 := 1#32
  let v2911 : BitVec 32 := Scalar.muli v679 c1_i32_2415
  let v2912 : BitVec 32 := Scalar.addi c0_i32_2416 v2911
  v2912.toNat
def k0_cond22 (d0 : Dev nD) : BitVec 1 :=
  let c16_i32_528 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_524 : BitVec 32 := 22#32
  let v703 : BitVec 32 := Scalar.addi v2 c22_i32_524
  let c31_i32_525 : BitVec 32 := 31#32
  let v704 : BitVec 32 := Scalar.andi v703 c31_i32_525
  let c1_i32_526 : BitVec 32 := 1#32
  let v705 : BitVec 32 := Scalar.shrsi v704 c1_i32_526
  let v706 : BitVec 32 := Scalar.xori v704 v705
  let c1_i32_527 : BitVec 32 := 1#32
  let v707 : BitVec 32 := Scalar.andi v706 c1_i32_527
  let v708 : BitVec 32 := Scalar.muli c16_i32_528 v707
  let c8_i32_531 : BitVec 32 := 8#32
  let c1_i32_529 : BitVec 32 := 1#32
  let v709 : BitVec 32 := Scalar.shrsi v704 c1_i32_529
  let c1_i32_530 : BitVec 32 := 1#32
  let v710 : BitVec 32 := Scalar.andi v709 c1_i32_530
  let v711 : BitVec 32 := Scalar.muli c8_i32_531 v710
  let v712 : BitVec 32 := Scalar.addi v708 v711
  let c4_i32_534 : BitVec 32 := 4#32
  let c3_i32_532 : BitVec 32 := 3#32
  let v713 : BitVec 32 := Scalar.shrsi v704 c3_i32_532
  let c1_i32_533 : BitVec 32 := 1#32
  let v714 : BitVec 32 := Scalar.andi v713 c1_i32_533
  let v715 : BitVec 32 := Scalar.muli c4_i32_534 v714
  let v716 : BitVec 32 := Scalar.addi v712 v715
  let c2_i32_537 : BitVec 32 := 2#32
  let c2_i32_535 : BitVec 32 := 2#32
  let v717 : BitVec 32 := Scalar.shrsi v704 c2_i32_535
  let c1_i32_536 : BitVec 32 := 1#32
  let v718 : BitVec 32 := Scalar.andi v717 c1_i32_536
  let v719 : BitVec 32 := Scalar.muli c2_i32_537 v718
  let v720 : BitVec 32 := Scalar.addi v716 v719
  let c4_i32_538 : BitVec 32 := 4#32
  let v721 : BitVec 32 := Scalar.shrsi v704 c4_i32_538
  let c1_i32_539 : BitVec 32 := 1#32
  let v722 : BitVec 32 := Scalar.andi v721 c1_i32_539
  let v723 : BitVec 32 := Scalar.addi v720 v722
  let c16_i32_815 : BitVec 32 := 16#32
  let v1088 : BitVec 1 := Scalar.cmpi .slt v723 c16_i32_815
  let v1089 : BitVec 32 := Scalar.extui v1088
  let c0_i32_818 : BitVec 32 := 0#32
  let v1090 : BitVec 1 := Scalar.cmpi .ne v1089 c0_i32_818
  v1090

def k0_off43 (d0 : Dev nD) : Fin 2 → Nat :=
  let c16_i32_541 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v726 : BitVec 32 := Scalar.muli c16_i32_541 v2
  let v727 : BitVec 32 := v726
  let c0_i32_2417 : BitVec 32 := 0#32
  ![v727.toNat, 0]
def k0_off44 (d0 : Dev nD) : Fin 2 → Nat :=
  let c16_i32_540 : BitVec 32 := 16#32
  let c16_i32_528 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_524 : BitVec 32 := 22#32
  let v703 : BitVec 32 := Scalar.addi v2 c22_i32_524
  let c31_i32_525 : BitVec 32 := 31#32
  let v704 : BitVec 32 := Scalar.andi v703 c31_i32_525
  let c1_i32_526 : BitVec 32 := 1#32
  let v705 : BitVec 32 := Scalar.shrsi v704 c1_i32_526
  let v706 : BitVec 32 := Scalar.xori v704 v705
  let c1_i32_527 : BitVec 32 := 1#32
  let v707 : BitVec 32 := Scalar.andi v706 c1_i32_527
  let v708 : BitVec 32 := Scalar.muli c16_i32_528 v707
  let c8_i32_531 : BitVec 32 := 8#32
  let c1_i32_529 : BitVec 32 := 1#32
  let v709 : BitVec 32 := Scalar.shrsi v704 c1_i32_529
  let c1_i32_530 : BitVec 32 := 1#32
  let v710 : BitVec 32 := Scalar.andi v709 c1_i32_530
  let v711 : BitVec 32 := Scalar.muli c8_i32_531 v710
  let v712 : BitVec 32 := Scalar.addi v708 v711
  let c4_i32_534 : BitVec 32 := 4#32
  let c3_i32_532 : BitVec 32 := 3#32
  let v713 : BitVec 32 := Scalar.shrsi v704 c3_i32_532
  let c1_i32_533 : BitVec 32 := 1#32
  let v714 : BitVec 32 := Scalar.andi v713 c1_i32_533
  let v715 : BitVec 32 := Scalar.muli c4_i32_534 v714
  let v716 : BitVec 32 := Scalar.addi v712 v715
  let c2_i32_537 : BitVec 32 := 2#32
  let c2_i32_535 : BitVec 32 := 2#32
  let v717 : BitVec 32 := Scalar.shrsi v704 c2_i32_535
  let c1_i32_536 : BitVec 32 := 1#32
  let v718 : BitVec 32 := Scalar.andi v717 c1_i32_536
  let v719 : BitVec 32 := Scalar.muli c2_i32_537 v718
  let v720 : BitVec 32 := Scalar.addi v716 v719
  let c4_i32_538 : BitVec 32 := 4#32
  let v721 : BitVec 32 := Scalar.shrsi v704 c4_i32_538
  let c1_i32_539 : BitVec 32 := 1#32
  let v722 : BitVec 32 := Scalar.andi v721 c1_i32_539
  let v723 : BitVec 32 := Scalar.addi v720 v722
  let v724 : BitVec 32 := Scalar.muli c16_i32_540 v723
  let v725 : BitVec 32 := v724
  let c0_i32_2418 : BitVec 32 := 0#32
  ![v725.toNat, 0]
def k0_dev53 (d0 : Dev nD) : Nat :=
  let c0_i32_2416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_524 : BitVec 32 := 22#32
  let v703 : BitVec 32 := Scalar.addi v2 c22_i32_524
  let c31_i32_525 : BitVec 32 := 31#32
  let v704 : BitVec 32 := Scalar.andi v703 c31_i32_525
  let c1_i32_2415 : BitVec 32 := 1#32
  let v2911 : BitVec 32 := Scalar.muli v704 c1_i32_2415
  let v2912 : BitVec 32 := Scalar.addi c0_i32_2416 v2911
  v2912.toNat
def k0_cond23 (d0 : Dev nD) : BitVec 1 :=
  let c16_i32_546 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_542 : BitVec 32 := 23#32
  let v728 : BitVec 32 := Scalar.addi v2 c23_i32_542
  let c31_i32_543 : BitVec 32 := 31#32
  let v729 : BitVec 32 := Scalar.andi v728 c31_i32_543
  let c1_i32_544 : BitVec 32 := 1#32
  let v730 : BitVec 32 := Scalar.shrsi v729 c1_i32_544
  let v731 : BitVec 32 := Scalar.xori v729 v730
  let c1_i32_545 : BitVec 32 := 1#32
  let v732 : BitVec 32 := Scalar.andi v731 c1_i32_545
  let v733 : BitVec 32 := Scalar.muli c16_i32_546 v732
  let c8_i32_549 : BitVec 32 := 8#32
  let c1_i32_547 : BitVec 32 := 1#32
  let v734 : BitVec 32 := Scalar.shrsi v729 c1_i32_547
  let c1_i32_548 : BitVec 32 := 1#32
  let v735 : BitVec 32 := Scalar.andi v734 c1_i32_548
  let v736 : BitVec 32 := Scalar.muli c8_i32_549 v735
  let v737 : BitVec 32 := Scalar.addi v733 v736
  let c4_i32_552 : BitVec 32 := 4#32
  let c3_i32_550 : BitVec 32 := 3#32
  let v738 : BitVec 32 := Scalar.shrsi v729 c3_i32_550
  let c1_i32_551 : BitVec 32 := 1#32
  let v739 : BitVec 32 := Scalar.andi v738 c1_i32_551
  let v740 : BitVec 32 := Scalar.muli c4_i32_552 v739
  let v741 : BitVec 32 := Scalar.addi v737 v740
  let c2_i32_555 : BitVec 32 := 2#32
  let c2_i32_553 : BitVec 32 := 2#32
  let v742 : BitVec 32 := Scalar.shrsi v729 c2_i32_553
  let c1_i32_554 : BitVec 32 := 1#32
  let v743 : BitVec 32 := Scalar.andi v742 c1_i32_554
  let v744 : BitVec 32 := Scalar.muli c2_i32_555 v743
  let v745 : BitVec 32 := Scalar.addi v741 v744
  let c4_i32_556 : BitVec 32 := 4#32
  let v746 : BitVec 32 := Scalar.shrsi v729 c4_i32_556
  let c1_i32_557 : BitVec 32 := 1#32
  let v747 : BitVec 32 := Scalar.andi v746 c1_i32_557
  let v748 : BitVec 32 := Scalar.addi v745 v747
  let c16_i32_819 : BitVec 32 := 16#32
  let v1091 : BitVec 1 := Scalar.cmpi .slt v748 c16_i32_819
  let v1092 : BitVec 32 := Scalar.extui v1091
  let c0_i32_822 : BitVec 32 := 0#32
  let v1093 : BitVec 1 := Scalar.cmpi .ne v1092 c0_i32_822
  v1093

def k0_off45 (d0 : Dev nD) : Fin 2 → Nat :=
  let c16_i32_559 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v751 : BitVec 32 := Scalar.muli c16_i32_559 v2
  let v752 : BitVec 32 := v751
  let c0_i32_2417 : BitVec 32 := 0#32
  ![v752.toNat, 0]
def k0_off46 (d0 : Dev nD) : Fin 2 → Nat :=
  let c16_i32_558 : BitVec 32 := 16#32
  let c16_i32_546 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_542 : BitVec 32 := 23#32
  let v728 : BitVec 32 := Scalar.addi v2 c23_i32_542
  let c31_i32_543 : BitVec 32 := 31#32
  let v729 : BitVec 32 := Scalar.andi v728 c31_i32_543
  let c1_i32_544 : BitVec 32 := 1#32
  let v730 : BitVec 32 := Scalar.shrsi v729 c1_i32_544
  let v731 : BitVec 32 := Scalar.xori v729 v730
  let c1_i32_545 : BitVec 32 := 1#32
  let v732 : BitVec 32 := Scalar.andi v731 c1_i32_545
  let v733 : BitVec 32 := Scalar.muli c16_i32_546 v732
  let c8_i32_549 : BitVec 32 := 8#32
  let c1_i32_547 : BitVec 32 := 1#32
  let v734 : BitVec 32 := Scalar.shrsi v729 c1_i32_547
  let c1_i32_548 : BitVec 32 := 1#32
  let v735 : BitVec 32 := Scalar.andi v734 c1_i32_548
  let v736 : BitVec 32 := Scalar.muli c8_i32_549 v735
  let v737 : BitVec 32 := Scalar.addi v733 v736
  let c4_i32_552 : BitVec 32 := 4#32
  let c3_i32_550 : BitVec 32 := 3#32
  let v738 : BitVec 32 := Scalar.shrsi v729 c3_i32_550
  let c1_i32_551 : BitVec 32 := 1#32
  let v739 : BitVec 32 := Scalar.andi v738 c1_i32_551
  let v740 : BitVec 32 := Scalar.muli c4_i32_552 v739
  let v741 : BitVec 32 := Scalar.addi v737 v740
  let c2_i32_555 : BitVec 32 := 2#32
  let c2_i32_553 : BitVec 32 := 2#32
  let v742 : BitVec 32 := Scalar.shrsi v729 c2_i32_553
  let c1_i32_554 : BitVec 32 := 1#32
  let v743 : BitVec 32 := Scalar.andi v742 c1_i32_554
  let v744 : BitVec 32 := Scalar.muli c2_i32_555 v743
  let v745 : BitVec 32 := Scalar.addi v741 v744
  let c4_i32_556 : BitVec 32 := 4#32
  let v746 : BitVec 32 := Scalar.shrsi v729 c4_i32_556
  let c1_i32_557 : BitVec 32 := 1#32
  let v747 : BitVec 32 := Scalar.andi v746 c1_i32_557
  let v748 : BitVec 32 := Scalar.addi v745 v747
  let v749 : BitVec 32 := Scalar.muli c16_i32_558 v748
  let v750 : BitVec 32 := v749
  let c0_i32_2418 : BitVec 32 := 0#32
  ![v750.toNat, 0]
def k0_dev54 (d0 : Dev nD) : Nat :=
  let c0_i32_2416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_542 : BitVec 32 := 23#32
  let v728 : BitVec 32 := Scalar.addi v2 c23_i32_542
  let c31_i32_543 : BitVec 32 := 31#32
  let v729 : BitVec 32 := Scalar.andi v728 c31_i32_543
  let c1_i32_2415 : BitVec 32 := 1#32
  let v2911 : BitVec 32 := Scalar.muli v729 c1_i32_2415
  let v2912 : BitVec 32 := Scalar.addi c0_i32_2416 v2911
  v2912.toNat
def k0_cond24 (d0 : Dev nD) : BitVec 1 :=
  let c16_i32_564 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_560 : BitVec 32 := 24#32
  let v753 : BitVec 32 := Scalar.addi v2 c24_i32_560
  let c31_i32_561 : BitVec 32 := 31#32
  let v754 : BitVec 32 := Scalar.andi v753 c31_i32_561
  let c1_i32_562 : BitVec 32 := 1#32
  let v755 : BitVec 32 := Scalar.shrsi v754 c1_i32_562
  let v756 : BitVec 32 := Scalar.xori v754 v755
  let c1_i32_563 : BitVec 32 := 1#32
  let v757 : BitVec 32 := Scalar.andi v756 c1_i32_563
  let v758 : BitVec 32 := Scalar.muli c16_i32_564 v757
  let c8_i32_567 : BitVec 32 := 8#32
  let c1_i32_565 : BitVec 32 := 1#32
  let v759 : BitVec 32 := Scalar.shrsi v754 c1_i32_565
  let c1_i32_566 : BitVec 32 := 1#32
  let v760 : BitVec 32 := Scalar.andi v759 c1_i32_566
  let v761 : BitVec 32 := Scalar.muli c8_i32_567 v760
  let v762 : BitVec 32 := Scalar.addi v758 v761
  let c4_i32_570 : BitVec 32 := 4#32
  let c3_i32_568 : BitVec 32 := 3#32
  let v763 : BitVec 32 := Scalar.shrsi v754 c3_i32_568
  let c1_i32_569 : BitVec 32 := 1#32
  let v764 : BitVec 32 := Scalar.andi v763 c1_i32_569
  let v765 : BitVec 32 := Scalar.muli c4_i32_570 v764
  let v766 : BitVec 32 := Scalar.addi v762 v765
  let c2_i32_573 : BitVec 32 := 2#32
  let c2_i32_571 : BitVec 32 := 2#32
  let v767 : BitVec 32 := Scalar.shrsi v754 c2_i32_571
  let c1_i32_572 : BitVec 32 := 1#32
  let v768 : BitVec 32 := Scalar.andi v767 c1_i32_572
  let v769 : BitVec 32 := Scalar.muli c2_i32_573 v768
  let v770 : BitVec 32 := Scalar.addi v766 v769
  let c4_i32_574 : BitVec 32 := 4#32
  let v771 : BitVec 32 := Scalar.shrsi v754 c4_i32_574
  let c1_i32_575 : BitVec 32 := 1#32
  let v772 : BitVec 32 := Scalar.andi v771 c1_i32_575
  let v773 : BitVec 32 := Scalar.addi v770 v772
  let c16_i32_823 : BitVec 32 := 16#32
  let v1094 : BitVec 1 := Scalar.cmpi .slt v773 c16_i32_823
  let v1095 : BitVec 32 := Scalar.extui v1094
  let c0_i32_826 : BitVec 32 := 0#32
  let v1096 : BitVec 1 := Scalar.cmpi .ne v1095 c0_i32_826
  v1096

def k0_off47 (d0 : Dev nD) : Fin 2 → Nat :=
  let c16_i32_577 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v776 : BitVec 32 := Scalar.muli c16_i32_577 v2
  let v777 : BitVec 32 := v776
  let c0_i32_2417 : BitVec 32 := 0#32
  ![v777.toNat, 0]
def k0_off48 (d0 : Dev nD) : Fin 2 → Nat :=
  let c16_i32_576 : BitVec 32 := 16#32
  let c16_i32_564 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_560 : BitVec 32 := 24#32
  let v753 : BitVec 32 := Scalar.addi v2 c24_i32_560
  let c31_i32_561 : BitVec 32 := 31#32
  let v754 : BitVec 32 := Scalar.andi v753 c31_i32_561
  let c1_i32_562 : BitVec 32 := 1#32
  let v755 : BitVec 32 := Scalar.shrsi v754 c1_i32_562
  let v756 : BitVec 32 := Scalar.xori v754 v755
  let c1_i32_563 : BitVec 32 := 1#32
  let v757 : BitVec 32 := Scalar.andi v756 c1_i32_563
  let v758 : BitVec 32 := Scalar.muli c16_i32_564 v757
  let c8_i32_567 : BitVec 32 := 8#32
  let c1_i32_565 : BitVec 32 := 1#32
  let v759 : BitVec 32 := Scalar.shrsi v754 c1_i32_565
  let c1_i32_566 : BitVec 32 := 1#32
  let v760 : BitVec 32 := Scalar.andi v759 c1_i32_566
  let v761 : BitVec 32 := Scalar.muli c8_i32_567 v760
  let v762 : BitVec 32 := Scalar.addi v758 v761
  let c4_i32_570 : BitVec 32 := 4#32
  let c3_i32_568 : BitVec 32 := 3#32
  let v763 : BitVec 32 := Scalar.shrsi v754 c3_i32_568
  let c1_i32_569 : BitVec 32 := 1#32
  let v764 : BitVec 32 := Scalar.andi v763 c1_i32_569
  let v765 : BitVec 32 := Scalar.muli c4_i32_570 v764
  let v766 : BitVec 32 := Scalar.addi v762 v765
  let c2_i32_573 : BitVec 32 := 2#32
  let c2_i32_571 : BitVec 32 := 2#32
  let v767 : BitVec 32 := Scalar.shrsi v754 c2_i32_571
  let c1_i32_572 : BitVec 32 := 1#32
  let v768 : BitVec 32 := Scalar.andi v767 c1_i32_572
  let v769 : BitVec 32 := Scalar.muli c2_i32_573 v768
  let v770 : BitVec 32 := Scalar.addi v766 v769
  let c4_i32_574 : BitVec 32 := 4#32
  let v771 : BitVec 32 := Scalar.shrsi v754 c4_i32_574
  let c1_i32_575 : BitVec 32 := 1#32
  let v772 : BitVec 32 := Scalar.andi v771 c1_i32_575
  let v773 : BitVec 32 := Scalar.addi v770 v772
  let v774 : BitVec 32 := Scalar.muli c16_i32_576 v773
  let v775 : BitVec 32 := v774
  let c0_i32_2418 : BitVec 32 := 0#32
  ![v775.toNat, 0]
def k0_dev55 (d0 : Dev nD) : Nat :=
  let c0_i32_2416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_560 : BitVec 32 := 24#32
  let v753 : BitVec 32 := Scalar.addi v2 c24_i32_560
  let c31_i32_561 : BitVec 32 := 31#32
  let v754 : BitVec 32 := Scalar.andi v753 c31_i32_561
  let c1_i32_2415 : BitVec 32 := 1#32
  let v2911 : BitVec 32 := Scalar.muli v754 c1_i32_2415
  let v2912 : BitVec 32 := Scalar.addi c0_i32_2416 v2911
  v2912.toNat
def k0_cond25 (d0 : Dev nD) : BitVec 1 :=
  let c16_i32_582 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_578 : BitVec 32 := 25#32
  let v778 : BitVec 32 := Scalar.addi v2 c25_i32_578
  let c31_i32_579 : BitVec 32 := 31#32
  let v779 : BitVec 32 := Scalar.andi v778 c31_i32_579
  let c1_i32_580 : BitVec 32 := 1#32
  let v780 : BitVec 32 := Scalar.shrsi v779 c1_i32_580
  let v781 : BitVec 32 := Scalar.xori v779 v780
  let c1_i32_581 : BitVec 32 := 1#32
  let v782 : BitVec 32 := Scalar.andi v781 c1_i32_581
  let v783 : BitVec 32 := Scalar.muli c16_i32_582 v782
  let c8_i32_585 : BitVec 32 := 8#32
  let c1_i32_583 : BitVec 32 := 1#32
  let v784 : BitVec 32 := Scalar.shrsi v779 c1_i32_583
  let c1_i32_584 : BitVec 32 := 1#32
  let v785 : BitVec 32 := Scalar.andi v784 c1_i32_584
  let v786 : BitVec 32 := Scalar.muli c8_i32_585 v785
  let v787 : BitVec 32 := Scalar.addi v783 v786
  let c4_i32_588 : BitVec 32 := 4#32
  let c3_i32_586 : BitVec 32 := 3#32
  let v788 : BitVec 32 := Scalar.shrsi v779 c3_i32_586
  let c1_i32_587 : BitVec 32 := 1#32
  let v789 : BitVec 32 := Scalar.andi v788 c1_i32_587
  let v790 : BitVec 32 := Scalar.muli c4_i32_588 v789
  let v791 : BitVec 32 := Scalar.addi v787 v790
  let c2_i32_591 : BitVec 32 := 2#32
  let c2_i32_589 : BitVec 32 := 2#32
  let v792 : BitVec 32 := Scalar.shrsi v779 c2_i32_589
  let c1_i32_590 : BitVec 32 := 1#32
  let v793 : BitVec 32 := Scalar.andi v792 c1_i32_590
  let v794 : BitVec 32 := Scalar.muli c2_i32_591 v793
  let v795 : BitVec 32 := Scalar.addi v791 v794
  let c4_i32_592 : BitVec 32 := 4#32
  let v796 : BitVec 32 := Scalar.shrsi v779 c4_i32_592
  let c1_i32_593 : BitVec 32 := 1#32
  let v797 : BitVec 32 := Scalar.andi v796 c1_i32_593
  let v798 : BitVec 32 := Scalar.addi v795 v797
  let c16_i32_827 : BitVec 32 := 16#32
  let v1097 : BitVec 1 := Scalar.cmpi .slt v798 c16_i32_827
  let v1098 : BitVec 32 := Scalar.extui v1097
  let c0_i32_830 : BitVec 32 := 0#32
  let v1099 : BitVec 1 := Scalar.cmpi .ne v1098 c0_i32_830
  v1099

def k0_off49 (d0 : Dev nD) : Fin 2 → Nat :=
  let c16_i32_595 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v801 : BitVec 32 := Scalar.muli c16_i32_595 v2
  let v802 : BitVec 32 := v801
  let c0_i32_2417 : BitVec 32 := 0#32
  ![v802.toNat, 0]
def k0_off50 (d0 : Dev nD) : Fin 2 → Nat :=
  let c16_i32_594 : BitVec 32 := 16#32
  let c16_i32_582 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_578 : BitVec 32 := 25#32
  let v778 : BitVec 32 := Scalar.addi v2 c25_i32_578
  let c31_i32_579 : BitVec 32 := 31#32
  let v779 : BitVec 32 := Scalar.andi v778 c31_i32_579
  let c1_i32_580 : BitVec 32 := 1#32
  let v780 : BitVec 32 := Scalar.shrsi v779 c1_i32_580
  let v781 : BitVec 32 := Scalar.xori v779 v780
  let c1_i32_581 : BitVec 32 := 1#32
  let v782 : BitVec 32 := Scalar.andi v781 c1_i32_581
  let v783 : BitVec 32 := Scalar.muli c16_i32_582 v782
  let c8_i32_585 : BitVec 32 := 8#32
  let c1_i32_583 : BitVec 32 := 1#32
  let v784 : BitVec 32 := Scalar.shrsi v779 c1_i32_583
  let c1_i32_584 : BitVec 32 := 1#32
  let v785 : BitVec 32 := Scalar.andi v784 c1_i32_584
  let v786 : BitVec 32 := Scalar.muli c8_i32_585 v785
  let v787 : BitVec 32 := Scalar.addi v783 v786
  let c4_i32_588 : BitVec 32 := 4#32
  let c3_i32_586 : BitVec 32 := 3#32
  let v788 : BitVec 32 := Scalar.shrsi v779 c3_i32_586
  let c1_i32_587 : BitVec 32 := 1#32
  let v789 : BitVec 32 := Scalar.andi v788 c1_i32_587
  let v790 : BitVec 32 := Scalar.muli c4_i32_588 v789
  let v791 : BitVec 32 := Scalar.addi v787 v790
  let c2_i32_591 : BitVec 32 := 2#32
  let c2_i32_589 : BitVec 32 := 2#32
  let v792 : BitVec 32 := Scalar.shrsi v779 c2_i32_589
  let c1_i32_590 : BitVec 32 := 1#32
  let v793 : BitVec 32 := Scalar.andi v792 c1_i32_590
  let v794 : BitVec 32 := Scalar.muli c2_i32_591 v793
  let v795 : BitVec 32 := Scalar.addi v791 v794
  let c4_i32_592 : BitVec 32 := 4#32
  let v796 : BitVec 32 := Scalar.shrsi v779 c4_i32_592
  let c1_i32_593 : BitVec 32 := 1#32
  let v797 : BitVec 32 := Scalar.andi v796 c1_i32_593
  let v798 : BitVec 32 := Scalar.addi v795 v797
  let v799 : BitVec 32 := Scalar.muli c16_i32_594 v798
  let v800 : BitVec 32 := v799
  let c0_i32_2418 : BitVec 32 := 0#32
  ![v800.toNat, 0]
def k0_dev56 (d0 : Dev nD) : Nat :=
  let c0_i32_2416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_578 : BitVec 32 := 25#32
  let v778 : BitVec 32 := Scalar.addi v2 c25_i32_578
  let c31_i32_579 : BitVec 32 := 31#32
  let v779 : BitVec 32 := Scalar.andi v778 c31_i32_579
  let c1_i32_2415 : BitVec 32 := 1#32
  let v2911 : BitVec 32 := Scalar.muli v779 c1_i32_2415
  let v2912 : BitVec 32 := Scalar.addi c0_i32_2416 v2911
  v2912.toNat
def k0_cond26 (d0 : Dev nD) : BitVec 1 :=
  let c16_i32_600 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_596 : BitVec 32 := 26#32
  let v803 : BitVec 32 := Scalar.addi v2 c26_i32_596
  let c31_i32_597 : BitVec 32 := 31#32
  let v804 : BitVec 32 := Scalar.andi v803 c31_i32_597
  let c1_i32_598 : BitVec 32 := 1#32
  let v805 : BitVec 32 := Scalar.shrsi v804 c1_i32_598
  let v806 : BitVec 32 := Scalar.xori v804 v805
  let c1_i32_599 : BitVec 32 := 1#32
  let v807 : BitVec 32 := Scalar.andi v806 c1_i32_599
  let v808 : BitVec 32 := Scalar.muli c16_i32_600 v807
  let c8_i32_603 : BitVec 32 := 8#32
  let c1_i32_601 : BitVec 32 := 1#32
  let v809 : BitVec 32 := Scalar.shrsi v804 c1_i32_601
  let c1_i32_602 : BitVec 32 := 1#32
  let v810 : BitVec 32 := Scalar.andi v809 c1_i32_602
  let v811 : BitVec 32 := Scalar.muli c8_i32_603 v810
  let v812 : BitVec 32 := Scalar.addi v808 v811
  let c4_i32_606 : BitVec 32 := 4#32
  let c3_i32_604 : BitVec 32 := 3#32
  let v813 : BitVec 32 := Scalar.shrsi v804 c3_i32_604
  let c1_i32_605 : BitVec 32 := 1#32
  let v814 : BitVec 32 := Scalar.andi v813 c1_i32_605
  let v815 : BitVec 32 := Scalar.muli c4_i32_606 v814
  let v816 : BitVec 32 := Scalar.addi v812 v815
  let c2_i32_609 : BitVec 32 := 2#32
  let c2_i32_607 : BitVec 32 := 2#32
  let v817 : BitVec 32 := Scalar.shrsi v804 c2_i32_607
  let c1_i32_608 : BitVec 32 := 1#32
  let v818 : BitVec 32 := Scalar.andi v817 c1_i32_608
  let v819 : BitVec 32 := Scalar.muli c2_i32_609 v818
  let v820 : BitVec 32 := Scalar.addi v816 v819
  let c4_i32_610 : BitVec 32 := 4#32
  let v821 : BitVec 32 := Scalar.shrsi v804 c4_i32_610
  let c1_i32_611 : BitVec 32 := 1#32
  let v822 : BitVec 32 := Scalar.andi v821 c1_i32_611
  let v823 : BitVec 32 := Scalar.addi v820 v822
  let c16_i32_831 : BitVec 32 := 16#32
  let v1100 : BitVec 1 := Scalar.cmpi .slt v823 c16_i32_831
  let v1101 : BitVec 32 := Scalar.extui v1100
  let c0_i32_834 : BitVec 32 := 0#32
  let v1102 : BitVec 1 := Scalar.cmpi .ne v1101 c0_i32_834
  v1102

def k0_off51 (d0 : Dev nD) : Fin 2 → Nat :=
  let c16_i32_613 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v826 : BitVec 32 := Scalar.muli c16_i32_613 v2
  let v827 : BitVec 32 := v826
  let c0_i32_2417 : BitVec 32 := 0#32
  ![v827.toNat, 0]
def k0_off52 (d0 : Dev nD) : Fin 2 → Nat :=
  let c16_i32_612 : BitVec 32 := 16#32
  let c16_i32_600 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_596 : BitVec 32 := 26#32
  let v803 : BitVec 32 := Scalar.addi v2 c26_i32_596
  let c31_i32_597 : BitVec 32 := 31#32
  let v804 : BitVec 32 := Scalar.andi v803 c31_i32_597
  let c1_i32_598 : BitVec 32 := 1#32
  let v805 : BitVec 32 := Scalar.shrsi v804 c1_i32_598
  let v806 : BitVec 32 := Scalar.xori v804 v805
  let c1_i32_599 : BitVec 32 := 1#32
  let v807 : BitVec 32 := Scalar.andi v806 c1_i32_599
  let v808 : BitVec 32 := Scalar.muli c16_i32_600 v807
  let c8_i32_603 : BitVec 32 := 8#32
  let c1_i32_601 : BitVec 32 := 1#32
  let v809 : BitVec 32 := Scalar.shrsi v804 c1_i32_601
  let c1_i32_602 : BitVec 32 := 1#32
  let v810 : BitVec 32 := Scalar.andi v809 c1_i32_602
  let v811 : BitVec 32 := Scalar.muli c8_i32_603 v810
  let v812 : BitVec 32 := Scalar.addi v808 v811
  let c4_i32_606 : BitVec 32 := 4#32
  let c3_i32_604 : BitVec 32 := 3#32
  let v813 : BitVec 32 := Scalar.shrsi v804 c3_i32_604
  let c1_i32_605 : BitVec 32 := 1#32
  let v814 : BitVec 32 := Scalar.andi v813 c1_i32_605
  let v815 : BitVec 32 := Scalar.muli c4_i32_606 v814
  let v816 : BitVec 32 := Scalar.addi v812 v815
  let c2_i32_609 : BitVec 32 := 2#32
  let c2_i32_607 : BitVec 32 := 2#32
  let v817 : BitVec 32 := Scalar.shrsi v804 c2_i32_607
  let c1_i32_608 : BitVec 32 := 1#32
  let v818 : BitVec 32 := Scalar.andi v817 c1_i32_608
  let v819 : BitVec 32 := Scalar.muli c2_i32_609 v818
  let v820 : BitVec 32 := Scalar.addi v816 v819
  let c4_i32_610 : BitVec 32 := 4#32
  let v821 : BitVec 32 := Scalar.shrsi v804 c4_i32_610
  let c1_i32_611 : BitVec 32 := 1#32
  let v822 : BitVec 32 := Scalar.andi v821 c1_i32_611
  let v823 : BitVec 32 := Scalar.addi v820 v822
  let v824 : BitVec 32 := Scalar.muli c16_i32_612 v823
  let v825 : BitVec 32 := v824
  let c0_i32_2418 : BitVec 32 := 0#32
  ![v825.toNat, 0]
def k0_dev57 (d0 : Dev nD) : Nat :=
  let c0_i32_2416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_596 : BitVec 32 := 26#32
  let v803 : BitVec 32 := Scalar.addi v2 c26_i32_596
  let c31_i32_597 : BitVec 32 := 31#32
  let v804 : BitVec 32 := Scalar.andi v803 c31_i32_597
  let c1_i32_2415 : BitVec 32 := 1#32
  let v2911 : BitVec 32 := Scalar.muli v804 c1_i32_2415
  let v2912 : BitVec 32 := Scalar.addi c0_i32_2416 v2911
  v2912.toNat
def k0_cond27 (d0 : Dev nD) : BitVec 1 :=
  let c16_i32_618 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_614 : BitVec 32 := 27#32
  let v828 : BitVec 32 := Scalar.addi v2 c27_i32_614
  let c31_i32_615 : BitVec 32 := 31#32
  let v829 : BitVec 32 := Scalar.andi v828 c31_i32_615
  let c1_i32_616 : BitVec 32 := 1#32
  let v830 : BitVec 32 := Scalar.shrsi v829 c1_i32_616
  let v831 : BitVec 32 := Scalar.xori v829 v830
  let c1_i32_617 : BitVec 32 := 1#32
  let v832 : BitVec 32 := Scalar.andi v831 c1_i32_617
  let v833 : BitVec 32 := Scalar.muli c16_i32_618 v832
  let c8_i32_621 : BitVec 32 := 8#32
  let c1_i32_619 : BitVec 32 := 1#32
  let v834 : BitVec 32 := Scalar.shrsi v829 c1_i32_619
  let c1_i32_620 : BitVec 32 := 1#32
  let v835 : BitVec 32 := Scalar.andi v834 c1_i32_620
  let v836 : BitVec 32 := Scalar.muli c8_i32_621 v835
  let v837 : BitVec 32 := Scalar.addi v833 v836
  let c4_i32_624 : BitVec 32 := 4#32
  let c3_i32_622 : BitVec 32 := 3#32
  let v838 : BitVec 32 := Scalar.shrsi v829 c3_i32_622
  let c1_i32_623 : BitVec 32 := 1#32
  let v839 : BitVec 32 := Scalar.andi v838 c1_i32_623
  let v840 : BitVec 32 := Scalar.muli c4_i32_624 v839
  let v841 : BitVec 32 := Scalar.addi v837 v840
  let c2_i32_627 : BitVec 32 := 2#32
  let c2_i32_625 : BitVec 32 := 2#32
  let v842 : BitVec 32 := Scalar.shrsi v829 c2_i32_625
  let c1_i32_626 : BitVec 32 := 1#32
  let v843 : BitVec 32 := Scalar.andi v842 c1_i32_626
  let v844 : BitVec 32 := Scalar.muli c2_i32_627 v843
  let v845 : BitVec 32 := Scalar.addi v841 v844
  let c4_i32_628 : BitVec 32 := 4#32
  let v846 : BitVec 32 := Scalar.shrsi v829 c4_i32_628
  let c1_i32_629 : BitVec 32 := 1#32
  let v847 : BitVec 32 := Scalar.andi v846 c1_i32_629
  let v848 : BitVec 32 := Scalar.addi v845 v847
  let c16_i32_835 : BitVec 32 := 16#32
  let v1103 : BitVec 1 := Scalar.cmpi .slt v848 c16_i32_835
  let v1104 : BitVec 32 := Scalar.extui v1103
  let c0_i32_838 : BitVec 32 := 0#32
  let v1105 : BitVec 1 := Scalar.cmpi .ne v1104 c0_i32_838
  v1105

def k0_off53 (d0 : Dev nD) : Fin 2 → Nat :=
  let c16_i32_631 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v851 : BitVec 32 := Scalar.muli c16_i32_631 v2
  let v852 : BitVec 32 := v851
  let c0_i32_2417 : BitVec 32 := 0#32
  ![v852.toNat, 0]
def k0_off54 (d0 : Dev nD) : Fin 2 → Nat :=
  let c16_i32_630 : BitVec 32 := 16#32
  let c16_i32_618 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_614 : BitVec 32 := 27#32
  let v828 : BitVec 32 := Scalar.addi v2 c27_i32_614
  let c31_i32_615 : BitVec 32 := 31#32
  let v829 : BitVec 32 := Scalar.andi v828 c31_i32_615
  let c1_i32_616 : BitVec 32 := 1#32
  let v830 : BitVec 32 := Scalar.shrsi v829 c1_i32_616
  let v831 : BitVec 32 := Scalar.xori v829 v830
  let c1_i32_617 : BitVec 32 := 1#32
  let v832 : BitVec 32 := Scalar.andi v831 c1_i32_617
  let v833 : BitVec 32 := Scalar.muli c16_i32_618 v832
  let c8_i32_621 : BitVec 32 := 8#32
  let c1_i32_619 : BitVec 32 := 1#32
  let v834 : BitVec 32 := Scalar.shrsi v829 c1_i32_619
  let c1_i32_620 : BitVec 32 := 1#32
  let v835 : BitVec 32 := Scalar.andi v834 c1_i32_620
  let v836 : BitVec 32 := Scalar.muli c8_i32_621 v835
  let v837 : BitVec 32 := Scalar.addi v833 v836
  let c4_i32_624 : BitVec 32 := 4#32
  let c3_i32_622 : BitVec 32 := 3#32
  let v838 : BitVec 32 := Scalar.shrsi v829 c3_i32_622
  let c1_i32_623 : BitVec 32 := 1#32
  let v839 : BitVec 32 := Scalar.andi v838 c1_i32_623
  let v840 : BitVec 32 := Scalar.muli c4_i32_624 v839
  let v841 : BitVec 32 := Scalar.addi v837 v840
  let c2_i32_627 : BitVec 32 := 2#32
  let c2_i32_625 : BitVec 32 := 2#32
  let v842 : BitVec 32 := Scalar.shrsi v829 c2_i32_625
  let c1_i32_626 : BitVec 32 := 1#32
  let v843 : BitVec 32 := Scalar.andi v842 c1_i32_626
  let v844 : BitVec 32 := Scalar.muli c2_i32_627 v843
  let v845 : BitVec 32 := Scalar.addi v841 v844
  let c4_i32_628 : BitVec 32 := 4#32
  let v846 : BitVec 32 := Scalar.shrsi v829 c4_i32_628
  let c1_i32_629 : BitVec 32 := 1#32
  let v847 : BitVec 32 := Scalar.andi v846 c1_i32_629
  let v848 : BitVec 32 := Scalar.addi v845 v847
  let v849 : BitVec 32 := Scalar.muli c16_i32_630 v848
  let v850 : BitVec 32 := v849
  let c0_i32_2418 : BitVec 32 := 0#32
  ![v850.toNat, 0]
def k0_dev58 (d0 : Dev nD) : Nat :=
  let c0_i32_2416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_614 : BitVec 32 := 27#32
  let v828 : BitVec 32 := Scalar.addi v2 c27_i32_614
  let c31_i32_615 : BitVec 32 := 31#32
  let v829 : BitVec 32 := Scalar.andi v828 c31_i32_615
  let c1_i32_2415 : BitVec 32 := 1#32
  let v2911 : BitVec 32 := Scalar.muli v829 c1_i32_2415
  let v2912 : BitVec 32 := Scalar.addi c0_i32_2416 v2911
  v2912.toNat
def k0_cond28 (d0 : Dev nD) : BitVec 1 :=
  let c16_i32_636 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_632 : BitVec 32 := 28#32
  let v853 : BitVec 32 := Scalar.addi v2 c28_i32_632
  let c31_i32_633 : BitVec 32 := 31#32
  let v854 : BitVec 32 := Scalar.andi v853 c31_i32_633
  let c1_i32_634 : BitVec 32 := 1#32
  let v855 : BitVec 32 := Scalar.shrsi v854 c1_i32_634
  let v856 : BitVec 32 := Scalar.xori v854 v855
  let c1_i32_635 : BitVec 32 := 1#32
  let v857 : BitVec 32 := Scalar.andi v856 c1_i32_635
  let v858 : BitVec 32 := Scalar.muli c16_i32_636 v857
  let c8_i32_639 : BitVec 32 := 8#32
  let c1_i32_637 : BitVec 32 := 1#32
  let v859 : BitVec 32 := Scalar.shrsi v854 c1_i32_637
  let c1_i32_638 : BitVec 32 := 1#32
  let v860 : BitVec 32 := Scalar.andi v859 c1_i32_638
  let v861 : BitVec 32 := Scalar.muli c8_i32_639 v860
  let v862 : BitVec 32 := Scalar.addi v858 v861
  let c4_i32_642 : BitVec 32 := 4#32
  let c3_i32_640 : BitVec 32 := 3#32
  let v863 : BitVec 32 := Scalar.shrsi v854 c3_i32_640
  let c1_i32_641 : BitVec 32 := 1#32
  let v864 : BitVec 32 := Scalar.andi v863 c1_i32_641
  let v865 : BitVec 32 := Scalar.muli c4_i32_642 v864
  let v866 : BitVec 32 := Scalar.addi v862 v865
  let c2_i32_645 : BitVec 32 := 2#32
  let c2_i32_643 : BitVec 32 := 2#32
  let v867 : BitVec 32 := Scalar.shrsi v854 c2_i32_643
  let c1_i32_644 : BitVec 32 := 1#32
  let v868 : BitVec 32 := Scalar.andi v867 c1_i32_644
  let v869 : BitVec 32 := Scalar.muli c2_i32_645 v868
  let v870 : BitVec 32 := Scalar.addi v866 v869
  let c4_i32_646 : BitVec 32 := 4#32
  let v871 : BitVec 32 := Scalar.shrsi v854 c4_i32_646
  let c1_i32_647 : BitVec 32 := 1#32
  let v872 : BitVec 32 := Scalar.andi v871 c1_i32_647
  let v873 : BitVec 32 := Scalar.addi v870 v872
  let c16_i32_839 : BitVec 32 := 16#32
  let v1106 : BitVec 1 := Scalar.cmpi .slt v873 c16_i32_839
  let v1107 : BitVec 32 := Scalar.extui v1106
  let c0_i32_842 : BitVec 32 := 0#32
  let v1108 : BitVec 1 := Scalar.cmpi .ne v1107 c0_i32_842
  v1108

def k0_off55 (d0 : Dev nD) : Fin 2 → Nat :=
  let c16_i32_649 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v876 : BitVec 32 := Scalar.muli c16_i32_649 v2
  let v877 : BitVec 32 := v876
  let c0_i32_2417 : BitVec 32 := 0#32
  ![v877.toNat, 0]
def k0_off56 (d0 : Dev nD) : Fin 2 → Nat :=
  let c16_i32_648 : BitVec 32 := 16#32
  let c16_i32_636 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_632 : BitVec 32 := 28#32
  let v853 : BitVec 32 := Scalar.addi v2 c28_i32_632
  let c31_i32_633 : BitVec 32 := 31#32
  let v854 : BitVec 32 := Scalar.andi v853 c31_i32_633
  let c1_i32_634 : BitVec 32 := 1#32
  let v855 : BitVec 32 := Scalar.shrsi v854 c1_i32_634
  let v856 : BitVec 32 := Scalar.xori v854 v855
  let c1_i32_635 : BitVec 32 := 1#32
  let v857 : BitVec 32 := Scalar.andi v856 c1_i32_635
  let v858 : BitVec 32 := Scalar.muli c16_i32_636 v857
  let c8_i32_639 : BitVec 32 := 8#32
  let c1_i32_637 : BitVec 32 := 1#32
  let v859 : BitVec 32 := Scalar.shrsi v854 c1_i32_637
  let c1_i32_638 : BitVec 32 := 1#32
  let v860 : BitVec 32 := Scalar.andi v859 c1_i32_638
  let v861 : BitVec 32 := Scalar.muli c8_i32_639 v860
  let v862 : BitVec 32 := Scalar.addi v858 v861
  let c4_i32_642 : BitVec 32 := 4#32
  let c3_i32_640 : BitVec 32 := 3#32
  let v863 : BitVec 32 := Scalar.shrsi v854 c3_i32_640
  let c1_i32_641 : BitVec 32 := 1#32
  let v864 : BitVec 32 := Scalar.andi v863 c1_i32_641
  let v865 : BitVec 32 := Scalar.muli c4_i32_642 v864
  let v866 : BitVec 32 := Scalar.addi v862 v865
  let c2_i32_645 : BitVec 32 := 2#32
  let c2_i32_643 : BitVec 32 := 2#32
  let v867 : BitVec 32 := Scalar.shrsi v854 c2_i32_643
  let c1_i32_644 : BitVec 32 := 1#32
  let v868 : BitVec 32 := Scalar.andi v867 c1_i32_644
  let v869 : BitVec 32 := Scalar.muli c2_i32_645 v868
  let v870 : BitVec 32 := Scalar.addi v866 v869
  let c4_i32_646 : BitVec 32 := 4#32
  let v871 : BitVec 32 := Scalar.shrsi v854 c4_i32_646
  let c1_i32_647 : BitVec 32 := 1#32
  let v872 : BitVec 32 := Scalar.andi v871 c1_i32_647
  let v873 : BitVec 32 := Scalar.addi v870 v872
  let v874 : BitVec 32 := Scalar.muli c16_i32_648 v873
  let v875 : BitVec 32 := v874
  let c0_i32_2418 : BitVec 32 := 0#32
  ![v875.toNat, 0]
def k0_dev59 (d0 : Dev nD) : Nat :=
  let c0_i32_2416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_632 : BitVec 32 := 28#32
  let v853 : BitVec 32 := Scalar.addi v2 c28_i32_632
  let c31_i32_633 : BitVec 32 := 31#32
  let v854 : BitVec 32 := Scalar.andi v853 c31_i32_633
  let c1_i32_2415 : BitVec 32 := 1#32
  let v2911 : BitVec 32 := Scalar.muli v854 c1_i32_2415
  let v2912 : BitVec 32 := Scalar.addi c0_i32_2416 v2911
  v2912.toNat
def k0_cond29 (d0 : Dev nD) : BitVec 1 :=
  let c16_i32_654 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_650 : BitVec 32 := 29#32
  let v878 : BitVec 32 := Scalar.addi v2 c29_i32_650
  let c31_i32_651 : BitVec 32 := 31#32
  let v879 : BitVec 32 := Scalar.andi v878 c31_i32_651
  let c1_i32_652 : BitVec 32 := 1#32
  let v880 : BitVec 32 := Scalar.shrsi v879 c1_i32_652
  let v881 : BitVec 32 := Scalar.xori v879 v880
  let c1_i32_653 : BitVec 32 := 1#32
  let v882 : BitVec 32 := Scalar.andi v881 c1_i32_653
  let v883 : BitVec 32 := Scalar.muli c16_i32_654 v882
  let c8_i32_657 : BitVec 32 := 8#32
  let c1_i32_655 : BitVec 32 := 1#32
  let v884 : BitVec 32 := Scalar.shrsi v879 c1_i32_655
  let c1_i32_656 : BitVec 32 := 1#32
  let v885 : BitVec 32 := Scalar.andi v884 c1_i32_656
  let v886 : BitVec 32 := Scalar.muli c8_i32_657 v885
  let v887 : BitVec 32 := Scalar.addi v883 v886
  let c4_i32_660 : BitVec 32 := 4#32
  let c3_i32_658 : BitVec 32 := 3#32
  let v888 : BitVec 32 := Scalar.shrsi v879 c3_i32_658
  let c1_i32_659 : BitVec 32 := 1#32
  let v889 : BitVec 32 := Scalar.andi v888 c1_i32_659
  let v890 : BitVec 32 := Scalar.muli c4_i32_660 v889
  let v891 : BitVec 32 := Scalar.addi v887 v890
  let c2_i32_663 : BitVec 32 := 2#32
  let c2_i32_661 : BitVec 32 := 2#32
  let v892 : BitVec 32 := Scalar.shrsi v879 c2_i32_661
  let c1_i32_662 : BitVec 32 := 1#32
  let v893 : BitVec 32 := Scalar.andi v892 c1_i32_662
  let v894 : BitVec 32 := Scalar.muli c2_i32_663 v893
  let v895 : BitVec 32 := Scalar.addi v891 v894
  let c4_i32_664 : BitVec 32 := 4#32
  let v896 : BitVec 32 := Scalar.shrsi v879 c4_i32_664
  let c1_i32_665 : BitVec 32 := 1#32
  let v897 : BitVec 32 := Scalar.andi v896 c1_i32_665
  let v898 : BitVec 32 := Scalar.addi v895 v897
  let c16_i32_843 : BitVec 32 := 16#32
  let v1109 : BitVec 1 := Scalar.cmpi .slt v898 c16_i32_843
  let v1110 : BitVec 32 := Scalar.extui v1109
  let c0_i32_846 : BitVec 32 := 0#32
  let v1111 : BitVec 1 := Scalar.cmpi .ne v1110 c0_i32_846
  v1111

def k0_off57 (d0 : Dev nD) : Fin 2 → Nat :=
  let c16_i32_667 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v901 : BitVec 32 := Scalar.muli c16_i32_667 v2
  let v902 : BitVec 32 := v901
  let c0_i32_2417 : BitVec 32 := 0#32
  ![v902.toNat, 0]
def k0_off58 (d0 : Dev nD) : Fin 2 → Nat :=
  let c16_i32_666 : BitVec 32 := 16#32
  let c16_i32_654 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_650 : BitVec 32 := 29#32
  let v878 : BitVec 32 := Scalar.addi v2 c29_i32_650
  let c31_i32_651 : BitVec 32 := 31#32
  let v879 : BitVec 32 := Scalar.andi v878 c31_i32_651
  let c1_i32_652 : BitVec 32 := 1#32
  let v880 : BitVec 32 := Scalar.shrsi v879 c1_i32_652
  let v881 : BitVec 32 := Scalar.xori v879 v880
  let c1_i32_653 : BitVec 32 := 1#32
  let v882 : BitVec 32 := Scalar.andi v881 c1_i32_653
  let v883 : BitVec 32 := Scalar.muli c16_i32_654 v882
  let c8_i32_657 : BitVec 32 := 8#32
  let c1_i32_655 : BitVec 32 := 1#32
  let v884 : BitVec 32 := Scalar.shrsi v879 c1_i32_655
  let c1_i32_656 : BitVec 32 := 1#32
  let v885 : BitVec 32 := Scalar.andi v884 c1_i32_656
  let v886 : BitVec 32 := Scalar.muli c8_i32_657 v885
  let v887 : BitVec 32 := Scalar.addi v883 v886
  let c4_i32_660 : BitVec 32 := 4#32
  let c3_i32_658 : BitVec 32 := 3#32
  let v888 : BitVec 32 := Scalar.shrsi v879 c3_i32_658
  let c1_i32_659 : BitVec 32 := 1#32
  let v889 : BitVec 32 := Scalar.andi v888 c1_i32_659
  let v890 : BitVec 32 := Scalar.muli c4_i32_660 v889
  let v891 : BitVec 32 := Scalar.addi v887 v890
  let c2_i32_663 : BitVec 32 := 2#32
  let c2_i32_661 : BitVec 32 := 2#32
  let v892 : BitVec 32 := Scalar.shrsi v879 c2_i32_661
  let c1_i32_662 : BitVec 32 := 1#32
  let v893 : BitVec 32 := Scalar.andi v892 c1_i32_662
  let v894 : BitVec 32 := Scalar.muli c2_i32_663 v893
  let v895 : BitVec 32 := Scalar.addi v891 v894
  let c4_i32_664 : BitVec 32 := 4#32
  let v896 : BitVec 32 := Scalar.shrsi v879 c4_i32_664
  let c1_i32_665 : BitVec 32 := 1#32
  let v897 : BitVec 32 := Scalar.andi v896 c1_i32_665
  let v898 : BitVec 32 := Scalar.addi v895 v897
  let v899 : BitVec 32 := Scalar.muli c16_i32_666 v898
  let v900 : BitVec 32 := v899
  let c0_i32_2418 : BitVec 32 := 0#32
  ![v900.toNat, 0]
def k0_dev60 (d0 : Dev nD) : Nat :=
  let c0_i32_2416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_650 : BitVec 32 := 29#32
  let v878 : BitVec 32 := Scalar.addi v2 c29_i32_650
  let c31_i32_651 : BitVec 32 := 31#32
  let v879 : BitVec 32 := Scalar.andi v878 c31_i32_651
  let c1_i32_2415 : BitVec 32 := 1#32
  let v2911 : BitVec 32 := Scalar.muli v879 c1_i32_2415
  let v2912 : BitVec 32 := Scalar.addi c0_i32_2416 v2911
  v2912.toNat
def k0_cond30 (d0 : Dev nD) : BitVec 1 :=
  let c16_i32_672 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_668 : BitVec 32 := 30#32
  let v903 : BitVec 32 := Scalar.addi v2 c30_i32_668
  let c31_i32_669 : BitVec 32 := 31#32
  let v904 : BitVec 32 := Scalar.andi v903 c31_i32_669
  let c1_i32_670 : BitVec 32 := 1#32
  let v905 : BitVec 32 := Scalar.shrsi v904 c1_i32_670
  let v906 : BitVec 32 := Scalar.xori v904 v905
  let c1_i32_671 : BitVec 32 := 1#32
  let v907 : BitVec 32 := Scalar.andi v906 c1_i32_671
  let v908 : BitVec 32 := Scalar.muli c16_i32_672 v907
  let c8_i32_675 : BitVec 32 := 8#32
  let c1_i32_673 : BitVec 32 := 1#32
  let v909 : BitVec 32 := Scalar.shrsi v904 c1_i32_673
  let c1_i32_674 : BitVec 32 := 1#32
  let v910 : BitVec 32 := Scalar.andi v909 c1_i32_674
  let v911 : BitVec 32 := Scalar.muli c8_i32_675 v910
  let v912 : BitVec 32 := Scalar.addi v908 v911
  let c4_i32_678 : BitVec 32 := 4#32
  let c3_i32_676 : BitVec 32 := 3#32
  let v913 : BitVec 32 := Scalar.shrsi v904 c3_i32_676
  let c1_i32_677 : BitVec 32 := 1#32
  let v914 : BitVec 32 := Scalar.andi v913 c1_i32_677
  let v915 : BitVec 32 := Scalar.muli c4_i32_678 v914
  let v916 : BitVec 32 := Scalar.addi v912 v915
  let c2_i32_681 : BitVec 32 := 2#32
  let c2_i32_679 : BitVec 32 := 2#32
  let v917 : BitVec 32 := Scalar.shrsi v904 c2_i32_679
  let c1_i32_680 : BitVec 32 := 1#32
  let v918 : BitVec 32 := Scalar.andi v917 c1_i32_680
  let v919 : BitVec 32 := Scalar.muli c2_i32_681 v918
  let v920 : BitVec 32 := Scalar.addi v916 v919
  let c4_i32_682 : BitVec 32 := 4#32
  let v921 : BitVec 32 := Scalar.shrsi v904 c4_i32_682
  let c1_i32_683 : BitVec 32 := 1#32
  let v922 : BitVec 32 := Scalar.andi v921 c1_i32_683
  let v923 : BitVec 32 := Scalar.addi v920 v922
  let c16_i32_847 : BitVec 32 := 16#32
  let v1112 : BitVec 1 := Scalar.cmpi .slt v923 c16_i32_847
  let v1113 : BitVec 32 := Scalar.extui v1112
  let c0_i32_850 : BitVec 32 := 0#32
  let v1114 : BitVec 1 := Scalar.cmpi .ne v1113 c0_i32_850
  v1114

def k0_off59 (d0 : Dev nD) : Fin 2 → Nat :=
  let c16_i32_685 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v926 : BitVec 32 := Scalar.muli c16_i32_685 v2
  let v927 : BitVec 32 := v926
  let c0_i32_2417 : BitVec 32 := 0#32
  ![v927.toNat, 0]
def k0_off60 (d0 : Dev nD) : Fin 2 → Nat :=
  let c16_i32_684 : BitVec 32 := 16#32
  let c16_i32_672 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_668 : BitVec 32 := 30#32
  let v903 : BitVec 32 := Scalar.addi v2 c30_i32_668
  let c31_i32_669 : BitVec 32 := 31#32
  let v904 : BitVec 32 := Scalar.andi v903 c31_i32_669
  let c1_i32_670 : BitVec 32 := 1#32
  let v905 : BitVec 32 := Scalar.shrsi v904 c1_i32_670
  let v906 : BitVec 32 := Scalar.xori v904 v905
  let c1_i32_671 : BitVec 32 := 1#32
  let v907 : BitVec 32 := Scalar.andi v906 c1_i32_671
  let v908 : BitVec 32 := Scalar.muli c16_i32_672 v907
  let c8_i32_675 : BitVec 32 := 8#32
  let c1_i32_673 : BitVec 32 := 1#32
  let v909 : BitVec 32 := Scalar.shrsi v904 c1_i32_673
  let c1_i32_674 : BitVec 32 := 1#32
  let v910 : BitVec 32 := Scalar.andi v909 c1_i32_674
  let v911 : BitVec 32 := Scalar.muli c8_i32_675 v910
  let v912 : BitVec 32 := Scalar.addi v908 v911
  let c4_i32_678 : BitVec 32 := 4#32
  let c3_i32_676 : BitVec 32 := 3#32
  let v913 : BitVec 32 := Scalar.shrsi v904 c3_i32_676
  let c1_i32_677 : BitVec 32 := 1#32
  let v914 : BitVec 32 := Scalar.andi v913 c1_i32_677
  let v915 : BitVec 32 := Scalar.muli c4_i32_678 v914
  let v916 : BitVec 32 := Scalar.addi v912 v915
  let c2_i32_681 : BitVec 32 := 2#32
  let c2_i32_679 : BitVec 32 := 2#32
  let v917 : BitVec 32 := Scalar.shrsi v904 c2_i32_679
  let c1_i32_680 : BitVec 32 := 1#32
  let v918 : BitVec 32 := Scalar.andi v917 c1_i32_680
  let v919 : BitVec 32 := Scalar.muli c2_i32_681 v918
  let v920 : BitVec 32 := Scalar.addi v916 v919
  let c4_i32_682 : BitVec 32 := 4#32
  let v921 : BitVec 32 := Scalar.shrsi v904 c4_i32_682
  let c1_i32_683 : BitVec 32 := 1#32
  let v922 : BitVec 32 := Scalar.andi v921 c1_i32_683
  let v923 : BitVec 32 := Scalar.addi v920 v922
  let v924 : BitVec 32 := Scalar.muli c16_i32_684 v923
  let v925 : BitVec 32 := v924
  let c0_i32_2418 : BitVec 32 := 0#32
  ![v925.toNat, 0]
def k0_dev61 (d0 : Dev nD) : Nat :=
  let c0_i32_2416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_668 : BitVec 32 := 30#32
  let v903 : BitVec 32 := Scalar.addi v2 c30_i32_668
  let c31_i32_669 : BitVec 32 := 31#32
  let v904 : BitVec 32 := Scalar.andi v903 c31_i32_669
  let c1_i32_2415 : BitVec 32 := 1#32
  let v2911 : BitVec 32 := Scalar.muli v904 c1_i32_2415
  let v2912 : BitVec 32 := Scalar.addi c0_i32_2416 v2911
  v2912.toNat
def k0_cond31 (d0 : Dev nD) : BitVec 1 :=
  let c16_i32_690 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_686 : BitVec 32 := 31#32
  let v928 : BitVec 32 := Scalar.addi v2 c31_i32_686
  let c31_i32_687 : BitVec 32 := 31#32
  let v929 : BitVec 32 := Scalar.andi v928 c31_i32_687
  let c1_i32_688 : BitVec 32 := 1#32
  let v930 : BitVec 32 := Scalar.shrsi v929 c1_i32_688
  let v931 : BitVec 32 := Scalar.xori v929 v930
  let c1_i32_689 : BitVec 32 := 1#32
  let v932 : BitVec 32 := Scalar.andi v931 c1_i32_689
  let v933 : BitVec 32 := Scalar.muli c16_i32_690 v932
  let c8_i32_693 : BitVec 32 := 8#32
  let c1_i32_691 : BitVec 32 := 1#32
  let v934 : BitVec 32 := Scalar.shrsi v929 c1_i32_691
  let c1_i32_692 : BitVec 32 := 1#32
  let v935 : BitVec 32 := Scalar.andi v934 c1_i32_692
  let v936 : BitVec 32 := Scalar.muli c8_i32_693 v935
  let v937 : BitVec 32 := Scalar.addi v933 v936
  let c4_i32_696 : BitVec 32 := 4#32
  let c3_i32_694 : BitVec 32 := 3#32
  let v938 : BitVec 32 := Scalar.shrsi v929 c3_i32_694
  let c1_i32_695 : BitVec 32 := 1#32
  let v939 : BitVec 32 := Scalar.andi v938 c1_i32_695
  let v940 : BitVec 32 := Scalar.muli c4_i32_696 v939
  let v941 : BitVec 32 := Scalar.addi v937 v940
  let c2_i32_699 : BitVec 32 := 2#32
  let c2_i32_697 : BitVec 32 := 2#32
  let v942 : BitVec 32 := Scalar.shrsi v929 c2_i32_697
  let c1_i32_698 : BitVec 32 := 1#32
  let v943 : BitVec 32 := Scalar.andi v942 c1_i32_698
  let v944 : BitVec 32 := Scalar.muli c2_i32_699 v943
  let v945 : BitVec 32 := Scalar.addi v941 v944
  let c4_i32_700 : BitVec 32 := 4#32
  let v946 : BitVec 32 := Scalar.shrsi v929 c4_i32_700
  let c1_i32_701 : BitVec 32 := 1#32
  let v947 : BitVec 32 := Scalar.andi v946 c1_i32_701
  let v948 : BitVec 32 := Scalar.addi v945 v947
  let c16_i32_851 : BitVec 32 := 16#32
  let v1115 : BitVec 1 := Scalar.cmpi .slt v948 c16_i32_851
  let v1116 : BitVec 32 := Scalar.extui v1115
  let c0_i32_854 : BitVec 32 := 0#32
  let v1117 : BitVec 1 := Scalar.cmpi .ne v1116 c0_i32_854
  v1117

def k0_off61 (d0 : Dev nD) : Fin 2 → Nat :=
  let c16_i32_703 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v951 : BitVec 32 := Scalar.muli c16_i32_703 v2
  let v952 : BitVec 32 := v951
  let c0_i32_2417 : BitVec 32 := 0#32
  ![v952.toNat, 0]
def k0_off62 (d0 : Dev nD) : Fin 2 → Nat :=
  let c16_i32_702 : BitVec 32 := 16#32
  let c16_i32_690 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_686 : BitVec 32 := 31#32
  let v928 : BitVec 32 := Scalar.addi v2 c31_i32_686
  let c31_i32_687 : BitVec 32 := 31#32
  let v929 : BitVec 32 := Scalar.andi v928 c31_i32_687
  let c1_i32_688 : BitVec 32 := 1#32
  let v930 : BitVec 32 := Scalar.shrsi v929 c1_i32_688
  let v931 : BitVec 32 := Scalar.xori v929 v930
  let c1_i32_689 : BitVec 32 := 1#32
  let v932 : BitVec 32 := Scalar.andi v931 c1_i32_689
  let v933 : BitVec 32 := Scalar.muli c16_i32_690 v932
  let c8_i32_693 : BitVec 32 := 8#32
  let c1_i32_691 : BitVec 32 := 1#32
  let v934 : BitVec 32 := Scalar.shrsi v929 c1_i32_691
  let c1_i32_692 : BitVec 32 := 1#32
  let v935 : BitVec 32 := Scalar.andi v934 c1_i32_692
  let v936 : BitVec 32 := Scalar.muli c8_i32_693 v935
  let v937 : BitVec 32 := Scalar.addi v933 v936
  let c4_i32_696 : BitVec 32 := 4#32
  let c3_i32_694 : BitVec 32 := 3#32
  let v938 : BitVec 32 := Scalar.shrsi v929 c3_i32_694
  let c1_i32_695 : BitVec 32 := 1#32
  let v939 : BitVec 32 := Scalar.andi v938 c1_i32_695
  let v940 : BitVec 32 := Scalar.muli c4_i32_696 v939
  let v941 : BitVec 32 := Scalar.addi v937 v940
  let c2_i32_699 : BitVec 32 := 2#32
  let c2_i32_697 : BitVec 32 := 2#32
  let v942 : BitVec 32 := Scalar.shrsi v929 c2_i32_697
  let c1_i32_698 : BitVec 32 := 1#32
  let v943 : BitVec 32 := Scalar.andi v942 c1_i32_698
  let v944 : BitVec 32 := Scalar.muli c2_i32_699 v943
  let v945 : BitVec 32 := Scalar.addi v941 v944
  let c4_i32_700 : BitVec 32 := 4#32
  let v946 : BitVec 32 := Scalar.shrsi v929 c4_i32_700
  let c1_i32_701 : BitVec 32 := 1#32
  let v947 : BitVec 32 := Scalar.andi v946 c1_i32_701
  let v948 : BitVec 32 := Scalar.addi v945 v947
  let v949 : BitVec 32 := Scalar.muli c16_i32_702 v948
  let v950 : BitVec 32 := v949
  let c0_i32_2418 : BitVec 32 := 0#32
  ![v950.toNat, 0]
def k0_dev62 (d0 : Dev nD) : Nat :=
  let c0_i32_2416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_686 : BitVec 32 := 31#32
  let v928 : BitVec 32 := Scalar.addi v2 c31_i32_686
  let c31_i32_687 : BitVec 32 := 31#32
  let v929 : BitVec 32 := Scalar.andi v928 c31_i32_687
  let c1_i32_2415 : BitVec 32 := 1#32
  let v2911 : BitVec 32 := Scalar.muli v929 c1_i32_2415
  let v2912 : BitVec 32 := Scalar.addi c0_i32_2416 v2911
  v2912.toNat
def k0_cond32 (d0 : Dev nD) : BitVec 1 :=
  let c16_i32_150 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_146 : BitVec 32 := 1#32
  let v178 : BitVec 32 := Scalar.addi v2 c1_i32_146
  let c31_i32_147 : BitVec 32 := 31#32
  let v179 : BitVec 32 := Scalar.andi v178 c31_i32_147
  let c1_i32_148 : BitVec 32 := 1#32
  let v180 : BitVec 32 := Scalar.shrsi v179 c1_i32_148
  let v181 : BitVec 32 := Scalar.xori v179 v180
  let c1_i32_149 : BitVec 32 := 1#32
  let v182 : BitVec 32 := Scalar.andi v181 c1_i32_149
  let v183 : BitVec 32 := Scalar.muli c16_i32_150 v182
  let c8_i32_153 : BitVec 32 := 8#32
  let c1_i32_151 : BitVec 32 := 1#32
  let v184 : BitVec 32 := Scalar.shrsi v179 c1_i32_151
  let c1_i32_152 : BitVec 32 := 1#32
  let v185 : BitVec 32 := Scalar.andi v184 c1_i32_152
  let v186 : BitVec 32 := Scalar.muli c8_i32_153 v185
  let v187 : BitVec 32 := Scalar.addi v183 v186
  let c4_i32_156 : BitVec 32 := 4#32
  let c3_i32_154 : BitVec 32 := 3#32
  let v188 : BitVec 32 := Scalar.shrsi v179 c3_i32_154
  let c1_i32_155 : BitVec 32 := 1#32
  let v189 : BitVec 32 := Scalar.andi v188 c1_i32_155
  let v190 : BitVec 32 := Scalar.muli c4_i32_156 v189
  let v191 : BitVec 32 := Scalar.addi v187 v190
  let c2_i32_159 : BitVec 32 := 2#32
  let c2_i32_157 : BitVec 32 := 2#32
  let v192 : BitVec 32 := Scalar.shrsi v179 c2_i32_157
  let c1_i32_158 : BitVec 32 := 1#32
  let v193 : BitVec 32 := Scalar.andi v192 c1_i32_158
  let v194 : BitVec 32 := Scalar.muli c2_i32_159 v193
  let v195 : BitVec 32 := Scalar.addi v191 v194
  let c4_i32_160 : BitVec 32 := 4#32
  let v196 : BitVec 32 := Scalar.shrsi v179 c4_i32_160
  let c1_i32_161 : BitVec 32 := 1#32
  let v197 : BitVec 32 := Scalar.andi v196 c1_i32_161
  let v198 : BitVec 32 := Scalar.addi v195 v197
  let c16_i32_882 : BitVec 32 := 16#32
  let v1190 : BitVec 1 := Scalar.cmpi .sge v198 c16_i32_882
  let v1191 : BitVec 32 := Scalar.extui v1190
  let c0_i32_885 : BitVec 32 := 0#32
  let v1192 : BitVec 1 := Scalar.cmpi .ne v1191 c0_i32_885
  v1192

def k0_off63 (d0 : Dev nD) : Fin 2 → Nat :=
  let c16_i32_163 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v201 : BitVec 32 := Scalar.muli c16_i32_163 v2
  let v202 : BitVec 32 := v201
  let c0_i32_2417 : BitVec 32 := 0#32
  ![v202.toNat, 0]
def k0_off64 (d0 : Dev nD) : Fin 2 → Nat :=
  let c16_i32_162 : BitVec 32 := 16#32
  let c16_i32_150 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_146 : BitVec 32 := 1#32
  let v178 : BitVec 32 := Scalar.addi v2 c1_i32_146
  let c31_i32_147 : BitVec 32 := 31#32
  let v179 : BitVec 32 := Scalar.andi v178 c31_i32_147
  let c1_i32_148 : BitVec 32 := 1#32
  let v180 : BitVec 32 := Scalar.shrsi v179 c1_i32_148
  let v181 : BitVec 32 := Scalar.xori v179 v180
  let c1_i32_149 : BitVec 32 := 1#32
  let v182 : BitVec 32 := Scalar.andi v181 c1_i32_149
  let v183 : BitVec 32 := Scalar.muli c16_i32_150 v182
  let c8_i32_153 : BitVec 32 := 8#32
  let c1_i32_151 : BitVec 32 := 1#32
  let v184 : BitVec 32 := Scalar.shrsi v179 c1_i32_151
  let c1_i32_152 : BitVec 32 := 1#32
  let v185 : BitVec 32 := Scalar.andi v184 c1_i32_152
  let v186 : BitVec 32 := Scalar.muli c8_i32_153 v185
  let v187 : BitVec 32 := Scalar.addi v183 v186
  let c4_i32_156 : BitVec 32 := 4#32
  let c3_i32_154 : BitVec 32 := 3#32
  let v188 : BitVec 32 := Scalar.shrsi v179 c3_i32_154
  let c1_i32_155 : BitVec 32 := 1#32
  let v189 : BitVec 32 := Scalar.andi v188 c1_i32_155
  let v190 : BitVec 32 := Scalar.muli c4_i32_156 v189
  let v191 : BitVec 32 := Scalar.addi v187 v190
  let c2_i32_159 : BitVec 32 := 2#32
  let c2_i32_157 : BitVec 32 := 2#32
  let v192 : BitVec 32 := Scalar.shrsi v179 c2_i32_157
  let c1_i32_158 : BitVec 32 := 1#32
  let v193 : BitVec 32 := Scalar.andi v192 c1_i32_158
  let v194 : BitVec 32 := Scalar.muli c2_i32_159 v193
  let v195 : BitVec 32 := Scalar.addi v191 v194
  let c4_i32_160 : BitVec 32 := 4#32
  let v196 : BitVec 32 := Scalar.shrsi v179 c4_i32_160
  let c1_i32_161 : BitVec 32 := 1#32
  let v197 : BitVec 32 := Scalar.andi v196 c1_i32_161
  let v198 : BitVec 32 := Scalar.addi v195 v197
  let v199 : BitVec 32 := Scalar.muli c16_i32_162 v198
  let v200 : BitVec 32 := v199
  let c0_i32_2418 : BitVec 32 := 0#32
  ![v200.toNat, 0]
def k0_dev63 (d0 : Dev nD) : Nat :=
  let c0_i32_2416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_146 : BitVec 32 := 1#32
  let v178 : BitVec 32 := Scalar.addi v2 c1_i32_146
  let c31_i32_147 : BitVec 32 := 31#32
  let v179 : BitVec 32 := Scalar.andi v178 c31_i32_147
  let c1_i32_2415 : BitVec 32 := 1#32
  let v2911 : BitVec 32 := Scalar.muli v179 c1_i32_2415
  let v2912 : BitVec 32 := Scalar.addi c0_i32_2416 v2911
  v2912.toNat
def k0_cond33 (d0 : Dev nD) : BitVec 1 :=
  let c16_i32_168 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_164 : BitVec 32 := 2#32
  let v203 : BitVec 32 := Scalar.addi v2 c2_i32_164
  let c31_i32_165 : BitVec 32 := 31#32
  let v204 : BitVec 32 := Scalar.andi v203 c31_i32_165
  let c1_i32_166 : BitVec 32 := 1#32
  let v205 : BitVec 32 := Scalar.shrsi v204 c1_i32_166
  let v206 : BitVec 32 := Scalar.xori v204 v205
  let c1_i32_167 : BitVec 32 := 1#32
  let v207 : BitVec 32 := Scalar.andi v206 c1_i32_167
  let v208 : BitVec 32 := Scalar.muli c16_i32_168 v207
  let c8_i32_171 : BitVec 32 := 8#32
  let c1_i32_169 : BitVec 32 := 1#32
  let v209 : BitVec 32 := Scalar.shrsi v204 c1_i32_169
  let c1_i32_170 : BitVec 32 := 1#32
  let v210 : BitVec 32 := Scalar.andi v209 c1_i32_170
  let v211 : BitVec 32 := Scalar.muli c8_i32_171 v210
  let v212 : BitVec 32 := Scalar.addi v208 v211
  let c4_i32_174 : BitVec 32 := 4#32
  let c3_i32_172 : BitVec 32 := 3#32
  let v213 : BitVec 32 := Scalar.shrsi v204 c3_i32_172
  let c1_i32_173 : BitVec 32 := 1#32
  let v214 : BitVec 32 := Scalar.andi v213 c1_i32_173
  let v215 : BitVec 32 := Scalar.muli c4_i32_174 v214
  let v216 : BitVec 32 := Scalar.addi v212 v215
  let c2_i32_177 : BitVec 32 := 2#32
  let c2_i32_175 : BitVec 32 := 2#32
  let v217 : BitVec 32 := Scalar.shrsi v204 c2_i32_175
  let c1_i32_176 : BitVec 32 := 1#32
  let v218 : BitVec 32 := Scalar.andi v217 c1_i32_176
  let v219 : BitVec 32 := Scalar.muli c2_i32_177 v218
  let v220 : BitVec 32 := Scalar.addi v216 v219
  let c4_i32_178 : BitVec 32 := 4#32
  let v221 : BitVec 32 := Scalar.shrsi v204 c4_i32_178
  let c1_i32_179 : BitVec 32 := 1#32
  let v222 : BitVec 32 := Scalar.andi v221 c1_i32_179
  let v223 : BitVec 32 := Scalar.addi v220 v222
  let c16_i32_886 : BitVec 32 := 16#32
  let v1193 : BitVec 1 := Scalar.cmpi .sge v223 c16_i32_886
  let v1194 : BitVec 32 := Scalar.extui v1193
  let c0_i32_889 : BitVec 32 := 0#32
  let v1195 : BitVec 1 := Scalar.cmpi .ne v1194 c0_i32_889
  v1195

def k0_off65 (d0 : Dev nD) : Fin 2 → Nat :=
  let c16_i32_181 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v226 : BitVec 32 := Scalar.muli c16_i32_181 v2
  let v227 : BitVec 32 := v226
  let c0_i32_2417 : BitVec 32 := 0#32
  ![v227.toNat, 0]
def k0_off66 (d0 : Dev nD) : Fin 2 → Nat :=
  let c16_i32_180 : BitVec 32 := 16#32
  let c16_i32_168 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_164 : BitVec 32 := 2#32
  let v203 : BitVec 32 := Scalar.addi v2 c2_i32_164
  let c31_i32_165 : BitVec 32 := 31#32
  let v204 : BitVec 32 := Scalar.andi v203 c31_i32_165
  let c1_i32_166 : BitVec 32 := 1#32
  let v205 : BitVec 32 := Scalar.shrsi v204 c1_i32_166
  let v206 : BitVec 32 := Scalar.xori v204 v205
  let c1_i32_167 : BitVec 32 := 1#32
  let v207 : BitVec 32 := Scalar.andi v206 c1_i32_167
  let v208 : BitVec 32 := Scalar.muli c16_i32_168 v207
  let c8_i32_171 : BitVec 32 := 8#32
  let c1_i32_169 : BitVec 32 := 1#32
  let v209 : BitVec 32 := Scalar.shrsi v204 c1_i32_169
  let c1_i32_170 : BitVec 32 := 1#32
  let v210 : BitVec 32 := Scalar.andi v209 c1_i32_170
  let v211 : BitVec 32 := Scalar.muli c8_i32_171 v210
  let v212 : BitVec 32 := Scalar.addi v208 v211
  let c4_i32_174 : BitVec 32 := 4#32
  let c3_i32_172 : BitVec 32 := 3#32
  let v213 : BitVec 32 := Scalar.shrsi v204 c3_i32_172
  let c1_i32_173 : BitVec 32 := 1#32
  let v214 : BitVec 32 := Scalar.andi v213 c1_i32_173
  let v215 : BitVec 32 := Scalar.muli c4_i32_174 v214
  let v216 : BitVec 32 := Scalar.addi v212 v215
  let c2_i32_177 : BitVec 32 := 2#32
  let c2_i32_175 : BitVec 32 := 2#32
  let v217 : BitVec 32 := Scalar.shrsi v204 c2_i32_175
  let c1_i32_176 : BitVec 32 := 1#32
  let v218 : BitVec 32 := Scalar.andi v217 c1_i32_176
  let v219 : BitVec 32 := Scalar.muli c2_i32_177 v218
  let v220 : BitVec 32 := Scalar.addi v216 v219
  let c4_i32_178 : BitVec 32 := 4#32
  let v221 : BitVec 32 := Scalar.shrsi v204 c4_i32_178
  let c1_i32_179 : BitVec 32 := 1#32
  let v222 : BitVec 32 := Scalar.andi v221 c1_i32_179
  let v223 : BitVec 32 := Scalar.addi v220 v222
  let v224 : BitVec 32 := Scalar.muli c16_i32_180 v223
  let v225 : BitVec 32 := v224
  let c0_i32_2418 : BitVec 32 := 0#32
  ![v225.toNat, 0]
def k0_dev64 (d0 : Dev nD) : Nat :=
  let c0_i32_2416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_164 : BitVec 32 := 2#32
  let v203 : BitVec 32 := Scalar.addi v2 c2_i32_164
  let c31_i32_165 : BitVec 32 := 31#32
  let v204 : BitVec 32 := Scalar.andi v203 c31_i32_165
  let c1_i32_2415 : BitVec 32 := 1#32
  let v2911 : BitVec 32 := Scalar.muli v204 c1_i32_2415
  let v2912 : BitVec 32 := Scalar.addi c0_i32_2416 v2911
  v2912.toNat
def k0_cond34 (d0 : Dev nD) : BitVec 1 :=
  let c16_i32_186 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_182 : BitVec 32 := 3#32
  let v228 : BitVec 32 := Scalar.addi v2 c3_i32_182
  let c31_i32_183 : BitVec 32 := 31#32
  let v229 : BitVec 32 := Scalar.andi v228 c31_i32_183
  let c1_i32_184 : BitVec 32 := 1#32
  let v230 : BitVec 32 := Scalar.shrsi v229 c1_i32_184
  let v231 : BitVec 32 := Scalar.xori v229 v230
  let c1_i32_185 : BitVec 32 := 1#32
  let v232 : BitVec 32 := Scalar.andi v231 c1_i32_185
  let v233 : BitVec 32 := Scalar.muli c16_i32_186 v232
  let c8_i32_189 : BitVec 32 := 8#32
  let c1_i32_187 : BitVec 32 := 1#32
  let v234 : BitVec 32 := Scalar.shrsi v229 c1_i32_187
  let c1_i32_188 : BitVec 32 := 1#32
  let v235 : BitVec 32 := Scalar.andi v234 c1_i32_188
  let v236 : BitVec 32 := Scalar.muli c8_i32_189 v235
  let v237 : BitVec 32 := Scalar.addi v233 v236
  let c4_i32_192 : BitVec 32 := 4#32
  let c3_i32_190 : BitVec 32 := 3#32
  let v238 : BitVec 32 := Scalar.shrsi v229 c3_i32_190
  let c1_i32_191 : BitVec 32 := 1#32
  let v239 : BitVec 32 := Scalar.andi v238 c1_i32_191
  let v240 : BitVec 32 := Scalar.muli c4_i32_192 v239
  let v241 : BitVec 32 := Scalar.addi v237 v240
  let c2_i32_195 : BitVec 32 := 2#32
  let c2_i32_193 : BitVec 32 := 2#32
  let v242 : BitVec 32 := Scalar.shrsi v229 c2_i32_193
  let c1_i32_194 : BitVec 32 := 1#32
  let v243 : BitVec 32 := Scalar.andi v242 c1_i32_194
  let v244 : BitVec 32 := Scalar.muli c2_i32_195 v243
  let v245 : BitVec 32 := Scalar.addi v241 v244
  let c4_i32_196 : BitVec 32 := 4#32
  let v246 : BitVec 32 := Scalar.shrsi v229 c4_i32_196
  let c1_i32_197 : BitVec 32 := 1#32
  let v247 : BitVec 32 := Scalar.andi v246 c1_i32_197
  let v248 : BitVec 32 := Scalar.addi v245 v247
  let c16_i32_890 : BitVec 32 := 16#32
  let v1196 : BitVec 1 := Scalar.cmpi .sge v248 c16_i32_890
  let v1197 : BitVec 32 := Scalar.extui v1196
  let c0_i32_893 : BitVec 32 := 0#32
  let v1198 : BitVec 1 := Scalar.cmpi .ne v1197 c0_i32_893
  v1198

def k0_off67 (d0 : Dev nD) : Fin 2 → Nat :=
  let c16_i32_199 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v251 : BitVec 32 := Scalar.muli c16_i32_199 v2
  let v252 : BitVec 32 := v251
  let c0_i32_2417 : BitVec 32 := 0#32
  ![v252.toNat, 0]
def k0_off68 (d0 : Dev nD) : Fin 2 → Nat :=
  let c16_i32_198 : BitVec 32 := 16#32
  let c16_i32_186 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_182 : BitVec 32 := 3#32
  let v228 : BitVec 32 := Scalar.addi v2 c3_i32_182
  let c31_i32_183 : BitVec 32 := 31#32
  let v229 : BitVec 32 := Scalar.andi v228 c31_i32_183
  let c1_i32_184 : BitVec 32 := 1#32
  let v230 : BitVec 32 := Scalar.shrsi v229 c1_i32_184
  let v231 : BitVec 32 := Scalar.xori v229 v230
  let c1_i32_185 : BitVec 32 := 1#32
  let v232 : BitVec 32 := Scalar.andi v231 c1_i32_185
  let v233 : BitVec 32 := Scalar.muli c16_i32_186 v232
  let c8_i32_189 : BitVec 32 := 8#32
  let c1_i32_187 : BitVec 32 := 1#32
  let v234 : BitVec 32 := Scalar.shrsi v229 c1_i32_187
  let c1_i32_188 : BitVec 32 := 1#32
  let v235 : BitVec 32 := Scalar.andi v234 c1_i32_188
  let v236 : BitVec 32 := Scalar.muli c8_i32_189 v235
  let v237 : BitVec 32 := Scalar.addi v233 v236
  let c4_i32_192 : BitVec 32 := 4#32
  let c3_i32_190 : BitVec 32 := 3#32
  let v238 : BitVec 32 := Scalar.shrsi v229 c3_i32_190
  let c1_i32_191 : BitVec 32 := 1#32
  let v239 : BitVec 32 := Scalar.andi v238 c1_i32_191
  let v240 : BitVec 32 := Scalar.muli c4_i32_192 v239
  let v241 : BitVec 32 := Scalar.addi v237 v240
  let c2_i32_195 : BitVec 32 := 2#32
  let c2_i32_193 : BitVec 32 := 2#32
  let v242 : BitVec 32 := Scalar.shrsi v229 c2_i32_193
  let c1_i32_194 : BitVec 32 := 1#32
  let v243 : BitVec 32 := Scalar.andi v242 c1_i32_194
  let v244 : BitVec 32 := Scalar.muli c2_i32_195 v243
  let v245 : BitVec 32 := Scalar.addi v241 v244
  let c4_i32_196 : BitVec 32 := 4#32
  let v246 : BitVec 32 := Scalar.shrsi v229 c4_i32_196
  let c1_i32_197 : BitVec 32 := 1#32
  let v247 : BitVec 32 := Scalar.andi v246 c1_i32_197
  let v248 : BitVec 32 := Scalar.addi v245 v247
  let v249 : BitVec 32 := Scalar.muli c16_i32_198 v248
  let v250 : BitVec 32 := v249
  let c0_i32_2418 : BitVec 32 := 0#32
  ![v250.toNat, 0]
def k0_dev65 (d0 : Dev nD) : Nat :=
  let c0_i32_2416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_182 : BitVec 32 := 3#32
  let v228 : BitVec 32 := Scalar.addi v2 c3_i32_182
  let c31_i32_183 : BitVec 32 := 31#32
  let v229 : BitVec 32 := Scalar.andi v228 c31_i32_183
  let c1_i32_2415 : BitVec 32 := 1#32
  let v2911 : BitVec 32 := Scalar.muli v229 c1_i32_2415
  let v2912 : BitVec 32 := Scalar.addi c0_i32_2416 v2911
  v2912.toNat
def k0_cond35 (d0 : Dev nD) : BitVec 1 :=
  let c16_i32_204 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_200 : BitVec 32 := 4#32
  let v253 : BitVec 32 := Scalar.addi v2 c4_i32_200
  let c31_i32_201 : BitVec 32 := 31#32
  let v254 : BitVec 32 := Scalar.andi v253 c31_i32_201
  let c1_i32_202 : BitVec 32 := 1#32
  let v255 : BitVec 32 := Scalar.shrsi v254 c1_i32_202
  let v256 : BitVec 32 := Scalar.xori v254 v255
  let c1_i32_203 : BitVec 32 := 1#32
  let v257 : BitVec 32 := Scalar.andi v256 c1_i32_203
  let v258 : BitVec 32 := Scalar.muli c16_i32_204 v257
  let c8_i32_207 : BitVec 32 := 8#32
  let c1_i32_205 : BitVec 32 := 1#32
  let v259 : BitVec 32 := Scalar.shrsi v254 c1_i32_205
  let c1_i32_206 : BitVec 32 := 1#32
  let v260 : BitVec 32 := Scalar.andi v259 c1_i32_206
  let v261 : BitVec 32 := Scalar.muli c8_i32_207 v260
  let v262 : BitVec 32 := Scalar.addi v258 v261
  let c4_i32_210 : BitVec 32 := 4#32
  let c3_i32_208 : BitVec 32 := 3#32
  let v263 : BitVec 32 := Scalar.shrsi v254 c3_i32_208
  let c1_i32_209 : BitVec 32 := 1#32
  let v264 : BitVec 32 := Scalar.andi v263 c1_i32_209
  let v265 : BitVec 32 := Scalar.muli c4_i32_210 v264
  let v266 : BitVec 32 := Scalar.addi v262 v265
  let c2_i32_213 : BitVec 32 := 2#32
  let c2_i32_211 : BitVec 32 := 2#32
  let v267 : BitVec 32 := Scalar.shrsi v254 c2_i32_211
  let c1_i32_212 : BitVec 32 := 1#32
  let v268 : BitVec 32 := Scalar.andi v267 c1_i32_212
  let v269 : BitVec 32 := Scalar.muli c2_i32_213 v268
  let v270 : BitVec 32 := Scalar.addi v266 v269
  let c4_i32_214 : BitVec 32 := 4#32
  let v271 : BitVec 32 := Scalar.shrsi v254 c4_i32_214
  let c1_i32_215 : BitVec 32 := 1#32
  let v272 : BitVec 32 := Scalar.andi v271 c1_i32_215
  let v273 : BitVec 32 := Scalar.addi v270 v272
  let c16_i32_894 : BitVec 32 := 16#32
  let v1199 : BitVec 1 := Scalar.cmpi .sge v273 c16_i32_894
  let v1200 : BitVec 32 := Scalar.extui v1199
  let c0_i32_897 : BitVec 32 := 0#32
  let v1201 : BitVec 1 := Scalar.cmpi .ne v1200 c0_i32_897
  v1201

def k0_off69 (d0 : Dev nD) : Fin 2 → Nat :=
  let c16_i32_217 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v276 : BitVec 32 := Scalar.muli c16_i32_217 v2
  let v277 : BitVec 32 := v276
  let c0_i32_2417 : BitVec 32 := 0#32
  ![v277.toNat, 0]
def k0_off70 (d0 : Dev nD) : Fin 2 → Nat :=
  let c16_i32_216 : BitVec 32 := 16#32
  let c16_i32_204 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_200 : BitVec 32 := 4#32
  let v253 : BitVec 32 := Scalar.addi v2 c4_i32_200
  let c31_i32_201 : BitVec 32 := 31#32
  let v254 : BitVec 32 := Scalar.andi v253 c31_i32_201
  let c1_i32_202 : BitVec 32 := 1#32
  let v255 : BitVec 32 := Scalar.shrsi v254 c1_i32_202
  let v256 : BitVec 32 := Scalar.xori v254 v255
  let c1_i32_203 : BitVec 32 := 1#32
  let v257 : BitVec 32 := Scalar.andi v256 c1_i32_203
  let v258 : BitVec 32 := Scalar.muli c16_i32_204 v257
  let c8_i32_207 : BitVec 32 := 8#32
  let c1_i32_205 : BitVec 32 := 1#32
  let v259 : BitVec 32 := Scalar.shrsi v254 c1_i32_205
  let c1_i32_206 : BitVec 32 := 1#32
  let v260 : BitVec 32 := Scalar.andi v259 c1_i32_206
  let v261 : BitVec 32 := Scalar.muli c8_i32_207 v260
  let v262 : BitVec 32 := Scalar.addi v258 v261
  let c4_i32_210 : BitVec 32 := 4#32
  let c3_i32_208 : BitVec 32 := 3#32
  let v263 : BitVec 32 := Scalar.shrsi v254 c3_i32_208
  let c1_i32_209 : BitVec 32 := 1#32
  let v264 : BitVec 32 := Scalar.andi v263 c1_i32_209
  let v265 : BitVec 32 := Scalar.muli c4_i32_210 v264
  let v266 : BitVec 32 := Scalar.addi v262 v265
  let c2_i32_213 : BitVec 32 := 2#32
  let c2_i32_211 : BitVec 32 := 2#32
  let v267 : BitVec 32 := Scalar.shrsi v254 c2_i32_211
  let c1_i32_212 : BitVec 32 := 1#32
  let v268 : BitVec 32 := Scalar.andi v267 c1_i32_212
  let v269 : BitVec 32 := Scalar.muli c2_i32_213 v268
  let v270 : BitVec 32 := Scalar.addi v266 v269
  let c4_i32_214 : BitVec 32 := 4#32
  let v271 : BitVec 32 := Scalar.shrsi v254 c4_i32_214
  let c1_i32_215 : BitVec 32 := 1#32
  let v272 : BitVec 32 := Scalar.andi v271 c1_i32_215
  let v273 : BitVec 32 := Scalar.addi v270 v272
  let v274 : BitVec 32 := Scalar.muli c16_i32_216 v273
  let v275 : BitVec 32 := v274
  let c0_i32_2418 : BitVec 32 := 0#32
  ![v275.toNat, 0]
def k0_dev66 (d0 : Dev nD) : Nat :=
  let c0_i32_2416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_200 : BitVec 32 := 4#32
  let v253 : BitVec 32 := Scalar.addi v2 c4_i32_200
  let c31_i32_201 : BitVec 32 := 31#32
  let v254 : BitVec 32 := Scalar.andi v253 c31_i32_201
  let c1_i32_2415 : BitVec 32 := 1#32
  let v2911 : BitVec 32 := Scalar.muli v254 c1_i32_2415
  let v2912 : BitVec 32 := Scalar.addi c0_i32_2416 v2911
  v2912.toNat
def k0_cond36 (d0 : Dev nD) : BitVec 1 :=
  let c16_i32_222 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_218 : BitVec 32 := 5#32
  let v278 : BitVec 32 := Scalar.addi v2 c5_i32_218
  let c31_i32_219 : BitVec 32 := 31#32
  let v279 : BitVec 32 := Scalar.andi v278 c31_i32_219
  let c1_i32_220 : BitVec 32 := 1#32
  let v280 : BitVec 32 := Scalar.shrsi v279 c1_i32_220
  let v281 : BitVec 32 := Scalar.xori v279 v280
  let c1_i32_221 : BitVec 32 := 1#32
  let v282 : BitVec 32 := Scalar.andi v281 c1_i32_221
  let v283 : BitVec 32 := Scalar.muli c16_i32_222 v282
  let c8_i32_225 : BitVec 32 := 8#32
  let c1_i32_223 : BitVec 32 := 1#32
  let v284 : BitVec 32 := Scalar.shrsi v279 c1_i32_223
  let c1_i32_224 : BitVec 32 := 1#32
  let v285 : BitVec 32 := Scalar.andi v284 c1_i32_224
  let v286 : BitVec 32 := Scalar.muli c8_i32_225 v285
  let v287 : BitVec 32 := Scalar.addi v283 v286
  let c4_i32_228 : BitVec 32 := 4#32
  let c3_i32_226 : BitVec 32 := 3#32
  let v288 : BitVec 32 := Scalar.shrsi v279 c3_i32_226
  let c1_i32_227 : BitVec 32 := 1#32
  let v289 : BitVec 32 := Scalar.andi v288 c1_i32_227
  let v290 : BitVec 32 := Scalar.muli c4_i32_228 v289
  let v291 : BitVec 32 := Scalar.addi v287 v290
  let c2_i32_231 : BitVec 32 := 2#32
  let c2_i32_229 : BitVec 32 := 2#32
  let v292 : BitVec 32 := Scalar.shrsi v279 c2_i32_229
  let c1_i32_230 : BitVec 32 := 1#32
  let v293 : BitVec 32 := Scalar.andi v292 c1_i32_230
  let v294 : BitVec 32 := Scalar.muli c2_i32_231 v293
  let v295 : BitVec 32 := Scalar.addi v291 v294
  let c4_i32_232 : BitVec 32 := 4#32
  let v296 : BitVec 32 := Scalar.shrsi v279 c4_i32_232
  let c1_i32_233 : BitVec 32 := 1#32
  let v297 : BitVec 32 := Scalar.andi v296 c1_i32_233
  let v298 : BitVec 32 := Scalar.addi v295 v297
  let c16_i32_898 : BitVec 32 := 16#32
  let v1202 : BitVec 1 := Scalar.cmpi .sge v298 c16_i32_898
  let v1203 : BitVec 32 := Scalar.extui v1202
  let c0_i32_901 : BitVec 32 := 0#32
  let v1204 : BitVec 1 := Scalar.cmpi .ne v1203 c0_i32_901
  v1204

def k0_off71 (d0 : Dev nD) : Fin 2 → Nat :=
  let c16_i32_235 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v301 : BitVec 32 := Scalar.muli c16_i32_235 v2
  let v302 : BitVec 32 := v301
  let c0_i32_2417 : BitVec 32 := 0#32
  ![v302.toNat, 0]
def k0_off72 (d0 : Dev nD) : Fin 2 → Nat :=
  let c16_i32_234 : BitVec 32 := 16#32
  let c16_i32_222 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_218 : BitVec 32 := 5#32
  let v278 : BitVec 32 := Scalar.addi v2 c5_i32_218
  let c31_i32_219 : BitVec 32 := 31#32
  let v279 : BitVec 32 := Scalar.andi v278 c31_i32_219
  let c1_i32_220 : BitVec 32 := 1#32
  let v280 : BitVec 32 := Scalar.shrsi v279 c1_i32_220
  let v281 : BitVec 32 := Scalar.xori v279 v280
  let c1_i32_221 : BitVec 32 := 1#32
  let v282 : BitVec 32 := Scalar.andi v281 c1_i32_221
  let v283 : BitVec 32 := Scalar.muli c16_i32_222 v282
  let c8_i32_225 : BitVec 32 := 8#32
  let c1_i32_223 : BitVec 32 := 1#32
  let v284 : BitVec 32 := Scalar.shrsi v279 c1_i32_223
  let c1_i32_224 : BitVec 32 := 1#32
  let v285 : BitVec 32 := Scalar.andi v284 c1_i32_224
  let v286 : BitVec 32 := Scalar.muli c8_i32_225 v285
  let v287 : BitVec 32 := Scalar.addi v283 v286
  let c4_i32_228 : BitVec 32 := 4#32
  let c3_i32_226 : BitVec 32 := 3#32
  let v288 : BitVec 32 := Scalar.shrsi v279 c3_i32_226
  let c1_i32_227 : BitVec 32 := 1#32
  let v289 : BitVec 32 := Scalar.andi v288 c1_i32_227
  let v290 : BitVec 32 := Scalar.muli c4_i32_228 v289
  let v291 : BitVec 32 := Scalar.addi v287 v290
  let c2_i32_231 : BitVec 32 := 2#32
  let c2_i32_229 : BitVec 32 := 2#32
  let v292 : BitVec 32 := Scalar.shrsi v279 c2_i32_229
  let c1_i32_230 : BitVec 32 := 1#32
  let v293 : BitVec 32 := Scalar.andi v292 c1_i32_230
  let v294 : BitVec 32 := Scalar.muli c2_i32_231 v293
  let v295 : BitVec 32 := Scalar.addi v291 v294
  let c4_i32_232 : BitVec 32 := 4#32
  let v296 : BitVec 32 := Scalar.shrsi v279 c4_i32_232
  let c1_i32_233 : BitVec 32 := 1#32
  let v297 : BitVec 32 := Scalar.andi v296 c1_i32_233
  let v298 : BitVec 32 := Scalar.addi v295 v297
  let v299 : BitVec 32 := Scalar.muli c16_i32_234 v298
  let v300 : BitVec 32 := v299
  let c0_i32_2418 : BitVec 32 := 0#32
  ![v300.toNat, 0]
def k0_dev67 (d0 : Dev nD) : Nat :=
  let c0_i32_2416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_218 : BitVec 32 := 5#32
  let v278 : BitVec 32 := Scalar.addi v2 c5_i32_218
  let c31_i32_219 : BitVec 32 := 31#32
  let v279 : BitVec 32 := Scalar.andi v278 c31_i32_219
  let c1_i32_2415 : BitVec 32 := 1#32
  let v2911 : BitVec 32 := Scalar.muli v279 c1_i32_2415
  let v2912 : BitVec 32 := Scalar.addi c0_i32_2416 v2911
  v2912.toNat
def k0_cond37 (d0 : Dev nD) : BitVec 1 :=
  let c16_i32_240 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_236 : BitVec 32 := 6#32
  let v303 : BitVec 32 := Scalar.addi v2 c6_i32_236
  let c31_i32_237 : BitVec 32 := 31#32
  let v304 : BitVec 32 := Scalar.andi v303 c31_i32_237
  let c1_i32_238 : BitVec 32 := 1#32
  let v305 : BitVec 32 := Scalar.shrsi v304 c1_i32_238
  let v306 : BitVec 32 := Scalar.xori v304 v305
  let c1_i32_239 : BitVec 32 := 1#32
  let v307 : BitVec 32 := Scalar.andi v306 c1_i32_239
  let v308 : BitVec 32 := Scalar.muli c16_i32_240 v307
  let c8_i32_243 : BitVec 32 := 8#32
  let c1_i32_241 : BitVec 32 := 1#32
  let v309 : BitVec 32 := Scalar.shrsi v304 c1_i32_241
  let c1_i32_242 : BitVec 32 := 1#32
  let v310 : BitVec 32 := Scalar.andi v309 c1_i32_242
  let v311 : BitVec 32 := Scalar.muli c8_i32_243 v310
  let v312 : BitVec 32 := Scalar.addi v308 v311
  let c4_i32_246 : BitVec 32 := 4#32
  let c3_i32_244 : BitVec 32 := 3#32
  let v313 : BitVec 32 := Scalar.shrsi v304 c3_i32_244
  let c1_i32_245 : BitVec 32 := 1#32
  let v314 : BitVec 32 := Scalar.andi v313 c1_i32_245
  let v315 : BitVec 32 := Scalar.muli c4_i32_246 v314
  let v316 : BitVec 32 := Scalar.addi v312 v315
  let c2_i32_249 : BitVec 32 := 2#32
  let c2_i32_247 : BitVec 32 := 2#32
  let v317 : BitVec 32 := Scalar.shrsi v304 c2_i32_247
  let c1_i32_248 : BitVec 32 := 1#32
  let v318 : BitVec 32 := Scalar.andi v317 c1_i32_248
  let v319 : BitVec 32 := Scalar.muli c2_i32_249 v318
  let v320 : BitVec 32 := Scalar.addi v316 v319
  let c4_i32_250 : BitVec 32 := 4#32
  let v321 : BitVec 32 := Scalar.shrsi v304 c4_i32_250
  let c1_i32_251 : BitVec 32 := 1#32
  let v322 : BitVec 32 := Scalar.andi v321 c1_i32_251
  let v323 : BitVec 32 := Scalar.addi v320 v322
  let c16_i32_902 : BitVec 32 := 16#32
  let v1205 : BitVec 1 := Scalar.cmpi .sge v323 c16_i32_902
  let v1206 : BitVec 32 := Scalar.extui v1205
  let c0_i32_905 : BitVec 32 := 0#32
  let v1207 : BitVec 1 := Scalar.cmpi .ne v1206 c0_i32_905
  v1207

def k0_off73 (d0 : Dev nD) : Fin 2 → Nat :=
  let c16_i32_253 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v326 : BitVec 32 := Scalar.muli c16_i32_253 v2
  let v327 : BitVec 32 := v326
  let c0_i32_2417 : BitVec 32 := 0#32
  ![v327.toNat, 0]
def k0_off74 (d0 : Dev nD) : Fin 2 → Nat :=
  let c16_i32_252 : BitVec 32 := 16#32
  let c16_i32_240 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_236 : BitVec 32 := 6#32
  let v303 : BitVec 32 := Scalar.addi v2 c6_i32_236
  let c31_i32_237 : BitVec 32 := 31#32
  let v304 : BitVec 32 := Scalar.andi v303 c31_i32_237
  let c1_i32_238 : BitVec 32 := 1#32
  let v305 : BitVec 32 := Scalar.shrsi v304 c1_i32_238
  let v306 : BitVec 32 := Scalar.xori v304 v305
  let c1_i32_239 : BitVec 32 := 1#32
  let v307 : BitVec 32 := Scalar.andi v306 c1_i32_239
  let v308 : BitVec 32 := Scalar.muli c16_i32_240 v307
  let c8_i32_243 : BitVec 32 := 8#32
  let c1_i32_241 : BitVec 32 := 1#32
  let v309 : BitVec 32 := Scalar.shrsi v304 c1_i32_241
  let c1_i32_242 : BitVec 32 := 1#32
  let v310 : BitVec 32 := Scalar.andi v309 c1_i32_242
  let v311 : BitVec 32 := Scalar.muli c8_i32_243 v310
  let v312 : BitVec 32 := Scalar.addi v308 v311
  let c4_i32_246 : BitVec 32 := 4#32
  let c3_i32_244 : BitVec 32 := 3#32
  let v313 : BitVec 32 := Scalar.shrsi v304 c3_i32_244
  let c1_i32_245 : BitVec 32 := 1#32
  let v314 : BitVec 32 := Scalar.andi v313 c1_i32_245
  let v315 : BitVec 32 := Scalar.muli c4_i32_246 v314
  let v316 : BitVec 32 := Scalar.addi v312 v315
  let c2_i32_249 : BitVec 32 := 2#32
  let c2_i32_247 : BitVec 32 := 2#32
  let v317 : BitVec 32 := Scalar.shrsi v304 c2_i32_247
  let c1_i32_248 : BitVec 32 := 1#32
  let v318 : BitVec 32 := Scalar.andi v317 c1_i32_248
  let v319 : BitVec 32 := Scalar.muli c2_i32_249 v318
  let v320 : BitVec 32 := Scalar.addi v316 v319
  let c4_i32_250 : BitVec 32 := 4#32
  let v321 : BitVec 32 := Scalar.shrsi v304 c4_i32_250
  let c1_i32_251 : BitVec 32 := 1#32
  let v322 : BitVec 32 := Scalar.andi v321 c1_i32_251
  let v323 : BitVec 32 := Scalar.addi v320 v322
  let v324 : BitVec 32 := Scalar.muli c16_i32_252 v323
  let v325 : BitVec 32 := v324
  let c0_i32_2418 : BitVec 32 := 0#32
  ![v325.toNat, 0]
def k0_dev68 (d0 : Dev nD) : Nat :=
  let c0_i32_2416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_236 : BitVec 32 := 6#32
  let v303 : BitVec 32 := Scalar.addi v2 c6_i32_236
  let c31_i32_237 : BitVec 32 := 31#32
  let v304 : BitVec 32 := Scalar.andi v303 c31_i32_237
  let c1_i32_2415 : BitVec 32 := 1#32
  let v2911 : BitVec 32 := Scalar.muli v304 c1_i32_2415
  let v2912 : BitVec 32 := Scalar.addi c0_i32_2416 v2911
  v2912.toNat
def k0_cond38 (d0 : Dev nD) : BitVec 1 :=
  let c16_i32_258 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_254 : BitVec 32 := 7#32
  let v328 : BitVec 32 := Scalar.addi v2 c7_i32_254
  let c31_i32_255 : BitVec 32 := 31#32
  let v329 : BitVec 32 := Scalar.andi v328 c31_i32_255
  let c1_i32_256 : BitVec 32 := 1#32
  let v330 : BitVec 32 := Scalar.shrsi v329 c1_i32_256
  let v331 : BitVec 32 := Scalar.xori v329 v330
  let c1_i32_257 : BitVec 32 := 1#32
  let v332 : BitVec 32 := Scalar.andi v331 c1_i32_257
  let v333 : BitVec 32 := Scalar.muli c16_i32_258 v332
  let c8_i32_261 : BitVec 32 := 8#32
  let c1_i32_259 : BitVec 32 := 1#32
  let v334 : BitVec 32 := Scalar.shrsi v329 c1_i32_259
  let c1_i32_260 : BitVec 32 := 1#32
  let v335 : BitVec 32 := Scalar.andi v334 c1_i32_260
  let v336 : BitVec 32 := Scalar.muli c8_i32_261 v335
  let v337 : BitVec 32 := Scalar.addi v333 v336
  let c4_i32_264 : BitVec 32 := 4#32
  let c3_i32_262 : BitVec 32 := 3#32
  let v338 : BitVec 32 := Scalar.shrsi v329 c3_i32_262
  let c1_i32_263 : BitVec 32 := 1#32
  let v339 : BitVec 32 := Scalar.andi v338 c1_i32_263
  let v340 : BitVec 32 := Scalar.muli c4_i32_264 v339
  let v341 : BitVec 32 := Scalar.addi v337 v340
  let c2_i32_267 : BitVec 32 := 2#32
  let c2_i32_265 : BitVec 32 := 2#32
  let v342 : BitVec 32 := Scalar.shrsi v329 c2_i32_265
  let c1_i32_266 : BitVec 32 := 1#32
  let v343 : BitVec 32 := Scalar.andi v342 c1_i32_266
  let v344 : BitVec 32 := Scalar.muli c2_i32_267 v343
  let v345 : BitVec 32 := Scalar.addi v341 v344
  let c4_i32_268 : BitVec 32 := 4#32
  let v346 : BitVec 32 := Scalar.shrsi v329 c4_i32_268
  let c1_i32_269 : BitVec 32 := 1#32
  let v347 : BitVec 32 := Scalar.andi v346 c1_i32_269
  let v348 : BitVec 32 := Scalar.addi v345 v347
  let c16_i32_906 : BitVec 32 := 16#32
  let v1208 : BitVec 1 := Scalar.cmpi .sge v348 c16_i32_906
  let v1209 : BitVec 32 := Scalar.extui v1208
  let c0_i32_909 : BitVec 32 := 0#32
  let v1210 : BitVec 1 := Scalar.cmpi .ne v1209 c0_i32_909
  v1210

def k0_off75 (d0 : Dev nD) : Fin 2 → Nat :=
  let c16_i32_271 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v351 : BitVec 32 := Scalar.muli c16_i32_271 v2
  let v352 : BitVec 32 := v351
  let c0_i32_2417 : BitVec 32 := 0#32
  ![v352.toNat, 0]
def k0_off76 (d0 : Dev nD) : Fin 2 → Nat :=
  let c16_i32_270 : BitVec 32 := 16#32
  let c16_i32_258 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_254 : BitVec 32 := 7#32
  let v328 : BitVec 32 := Scalar.addi v2 c7_i32_254
  let c31_i32_255 : BitVec 32 := 31#32
  let v329 : BitVec 32 := Scalar.andi v328 c31_i32_255
  let c1_i32_256 : BitVec 32 := 1#32
  let v330 : BitVec 32 := Scalar.shrsi v329 c1_i32_256
  let v331 : BitVec 32 := Scalar.xori v329 v330
  let c1_i32_257 : BitVec 32 := 1#32
  let v332 : BitVec 32 := Scalar.andi v331 c1_i32_257
  let v333 : BitVec 32 := Scalar.muli c16_i32_258 v332
  let c8_i32_261 : BitVec 32 := 8#32
  let c1_i32_259 : BitVec 32 := 1#32
  let v334 : BitVec 32 := Scalar.shrsi v329 c1_i32_259
  let c1_i32_260 : BitVec 32 := 1#32
  let v335 : BitVec 32 := Scalar.andi v334 c1_i32_260
  let v336 : BitVec 32 := Scalar.muli c8_i32_261 v335
  let v337 : BitVec 32 := Scalar.addi v333 v336
  let c4_i32_264 : BitVec 32 := 4#32
  let c3_i32_262 : BitVec 32 := 3#32
  let v338 : BitVec 32 := Scalar.shrsi v329 c3_i32_262
  let c1_i32_263 : BitVec 32 := 1#32
  let v339 : BitVec 32 := Scalar.andi v338 c1_i32_263
  let v340 : BitVec 32 := Scalar.muli c4_i32_264 v339
  let v341 : BitVec 32 := Scalar.addi v337 v340
  let c2_i32_267 : BitVec 32 := 2#32
  let c2_i32_265 : BitVec 32 := 2#32
  let v342 : BitVec 32 := Scalar.shrsi v329 c2_i32_265
  let c1_i32_266 : BitVec 32 := 1#32
  let v343 : BitVec 32 := Scalar.andi v342 c1_i32_266
  let v344 : BitVec 32 := Scalar.muli c2_i32_267 v343
  let v345 : BitVec 32 := Scalar.addi v341 v344
  let c4_i32_268 : BitVec 32 := 4#32
  let v346 : BitVec 32 := Scalar.shrsi v329 c4_i32_268
  let c1_i32_269 : BitVec 32 := 1#32
  let v347 : BitVec 32 := Scalar.andi v346 c1_i32_269
  let v348 : BitVec 32 := Scalar.addi v345 v347
  let v349 : BitVec 32 := Scalar.muli c16_i32_270 v348
  let v350 : BitVec 32 := v349
  let c0_i32_2418 : BitVec 32 := 0#32
  ![v350.toNat, 0]
def k0_dev69 (d0 : Dev nD) : Nat :=
  let c0_i32_2416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_254 : BitVec 32 := 7#32
  let v328 : BitVec 32 := Scalar.addi v2 c7_i32_254
  let c31_i32_255 : BitVec 32 := 31#32
  let v329 : BitVec 32 := Scalar.andi v328 c31_i32_255
  let c1_i32_2415 : BitVec 32 := 1#32
  let v2911 : BitVec 32 := Scalar.muli v329 c1_i32_2415
  let v2912 : BitVec 32 := Scalar.addi c0_i32_2416 v2911
  v2912.toNat
def k0_cond39 (d0 : Dev nD) : BitVec 1 :=
  let c16_i32_276 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_272 : BitVec 32 := 8#32
  let v353 : BitVec 32 := Scalar.addi v2 c8_i32_272
  let c31_i32_273 : BitVec 32 := 31#32
  let v354 : BitVec 32 := Scalar.andi v353 c31_i32_273
  let c1_i32_274 : BitVec 32 := 1#32
  let v355 : BitVec 32 := Scalar.shrsi v354 c1_i32_274
  let v356 : BitVec 32 := Scalar.xori v354 v355
  let c1_i32_275 : BitVec 32 := 1#32
  let v357 : BitVec 32 := Scalar.andi v356 c1_i32_275
  let v358 : BitVec 32 := Scalar.muli c16_i32_276 v357
  let c8_i32_279 : BitVec 32 := 8#32
  let c1_i32_277 : BitVec 32 := 1#32
  let v359 : BitVec 32 := Scalar.shrsi v354 c1_i32_277
  let c1_i32_278 : BitVec 32 := 1#32
  let v360 : BitVec 32 := Scalar.andi v359 c1_i32_278
  let v361 : BitVec 32 := Scalar.muli c8_i32_279 v360
  let v362 : BitVec 32 := Scalar.addi v358 v361
  let c4_i32_282 : BitVec 32 := 4#32
  let c3_i32_280 : BitVec 32 := 3#32
  let v363 : BitVec 32 := Scalar.shrsi v354 c3_i32_280
  let c1_i32_281 : BitVec 32 := 1#32
  let v364 : BitVec 32 := Scalar.andi v363 c1_i32_281
  let v365 : BitVec 32 := Scalar.muli c4_i32_282 v364
  let v366 : BitVec 32 := Scalar.addi v362 v365
  let c2_i32_285 : BitVec 32 := 2#32
  let c2_i32_283 : BitVec 32 := 2#32
  let v367 : BitVec 32 := Scalar.shrsi v354 c2_i32_283
  let c1_i32_284 : BitVec 32 := 1#32
  let v368 : BitVec 32 := Scalar.andi v367 c1_i32_284
  let v369 : BitVec 32 := Scalar.muli c2_i32_285 v368
  let v370 : BitVec 32 := Scalar.addi v366 v369
  let c4_i32_286 : BitVec 32 := 4#32
  let v371 : BitVec 32 := Scalar.shrsi v354 c4_i32_286
  let c1_i32_287 : BitVec 32 := 1#32
  let v372 : BitVec 32 := Scalar.andi v371 c1_i32_287
  let v373 : BitVec 32 := Scalar.addi v370 v372
  let c16_i32_910 : BitVec 32 := 16#32
  let v1211 : BitVec 1 := Scalar.cmpi .sge v373 c16_i32_910
  let v1212 : BitVec 32 := Scalar.extui v1211
  let c0_i32_913 : BitVec 32 := 0#32
  let v1213 : BitVec 1 := Scalar.cmpi .ne v1212 c0_i32_913
  v1213

def k0_off77 (d0 : Dev nD) : Fin 2 → Nat :=
  let c16_i32_289 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v376 : BitVec 32 := Scalar.muli c16_i32_289 v2
  let v377 : BitVec 32 := v376
  let c0_i32_2417 : BitVec 32 := 0#32
  ![v377.toNat, 0]
def k0_off78 (d0 : Dev nD) : Fin 2 → Nat :=
  let c16_i32_288 : BitVec 32 := 16#32
  let c16_i32_276 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_272 : BitVec 32 := 8#32
  let v353 : BitVec 32 := Scalar.addi v2 c8_i32_272
  let c31_i32_273 : BitVec 32 := 31#32
  let v354 : BitVec 32 := Scalar.andi v353 c31_i32_273
  let c1_i32_274 : BitVec 32 := 1#32
  let v355 : BitVec 32 := Scalar.shrsi v354 c1_i32_274
  let v356 : BitVec 32 := Scalar.xori v354 v355
  let c1_i32_275 : BitVec 32 := 1#32
  let v357 : BitVec 32 := Scalar.andi v356 c1_i32_275
  let v358 : BitVec 32 := Scalar.muli c16_i32_276 v357
  let c8_i32_279 : BitVec 32 := 8#32
  let c1_i32_277 : BitVec 32 := 1#32
  let v359 : BitVec 32 := Scalar.shrsi v354 c1_i32_277
  let c1_i32_278 : BitVec 32 := 1#32
  let v360 : BitVec 32 := Scalar.andi v359 c1_i32_278
  let v361 : BitVec 32 := Scalar.muli c8_i32_279 v360
  let v362 : BitVec 32 := Scalar.addi v358 v361
  let c4_i32_282 : BitVec 32 := 4#32
  let c3_i32_280 : BitVec 32 := 3#32
  let v363 : BitVec 32 := Scalar.shrsi v354 c3_i32_280
  let c1_i32_281 : BitVec 32 := 1#32
  let v364 : BitVec 32 := Scalar.andi v363 c1_i32_281
  let v365 : BitVec 32 := Scalar.muli c4_i32_282 v364
  let v366 : BitVec 32 := Scalar.addi v362 v365
  let c2_i32_285 : BitVec 32 := 2#32
  let c2_i32_283 : BitVec 32 := 2#32
  let v367 : BitVec 32 := Scalar.shrsi v354 c2_i32_283
  let c1_i32_284 : BitVec 32 := 1#32
  let v368 : BitVec 32 := Scalar.andi v367 c1_i32_284
  let v369 : BitVec 32 := Scalar.muli c2_i32_285 v368
  let v370 : BitVec 32 := Scalar.addi v366 v369
  let c4_i32_286 : BitVec 32 := 4#32
  let v371 : BitVec 32 := Scalar.shrsi v354 c4_i32_286
  let c1_i32_287 : BitVec 32 := 1#32
  let v372 : BitVec 32 := Scalar.andi v371 c1_i32_287
  let v373 : BitVec 32 := Scalar.addi v370 v372
  let v374 : BitVec 32 := Scalar.muli c16_i32_288 v373
  let v375 : BitVec 32 := v374
  let c0_i32_2418 : BitVec 32 := 0#32
  ![v375.toNat, 0]
def k0_dev70 (d0 : Dev nD) : Nat :=
  let c0_i32_2416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_272 : BitVec 32 := 8#32
  let v353 : BitVec 32 := Scalar.addi v2 c8_i32_272
  let c31_i32_273 : BitVec 32 := 31#32
  let v354 : BitVec 32 := Scalar.andi v353 c31_i32_273
  let c1_i32_2415 : BitVec 32 := 1#32
  let v2911 : BitVec 32 := Scalar.muli v354 c1_i32_2415
  let v2912 : BitVec 32 := Scalar.addi c0_i32_2416 v2911
  v2912.toNat
def k0_cond40 (d0 : Dev nD) : BitVec 1 :=
  let c16_i32_294 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_290 : BitVec 32 := 9#32
  let v378 : BitVec 32 := Scalar.addi v2 c9_i32_290
  let c31_i32_291 : BitVec 32 := 31#32
  let v379 : BitVec 32 := Scalar.andi v378 c31_i32_291
  let c1_i32_292 : BitVec 32 := 1#32
  let v380 : BitVec 32 := Scalar.shrsi v379 c1_i32_292
  let v381 : BitVec 32 := Scalar.xori v379 v380
  let c1_i32_293 : BitVec 32 := 1#32
  let v382 : BitVec 32 := Scalar.andi v381 c1_i32_293
  let v383 : BitVec 32 := Scalar.muli c16_i32_294 v382
  let c8_i32_297 : BitVec 32 := 8#32
  let c1_i32_295 : BitVec 32 := 1#32
  let v384 : BitVec 32 := Scalar.shrsi v379 c1_i32_295
  let c1_i32_296 : BitVec 32 := 1#32
  let v385 : BitVec 32 := Scalar.andi v384 c1_i32_296
  let v386 : BitVec 32 := Scalar.muli c8_i32_297 v385
  let v387 : BitVec 32 := Scalar.addi v383 v386
  let c4_i32_300 : BitVec 32 := 4#32
  let c3_i32_298 : BitVec 32 := 3#32
  let v388 : BitVec 32 := Scalar.shrsi v379 c3_i32_298
  let c1_i32_299 : BitVec 32 := 1#32
  let v389 : BitVec 32 := Scalar.andi v388 c1_i32_299
  let v390 : BitVec 32 := Scalar.muli c4_i32_300 v389
  let v391 : BitVec 32 := Scalar.addi v387 v390
  let c2_i32_303 : BitVec 32 := 2#32
  let c2_i32_301 : BitVec 32 := 2#32
  let v392 : BitVec 32 := Scalar.shrsi v379 c2_i32_301
  let c1_i32_302 : BitVec 32 := 1#32
  let v393 : BitVec 32 := Scalar.andi v392 c1_i32_302
  let v394 : BitVec 32 := Scalar.muli c2_i32_303 v393
  let v395 : BitVec 32 := Scalar.addi v391 v394
  let c4_i32_304 : BitVec 32 := 4#32
  let v396 : BitVec 32 := Scalar.shrsi v379 c4_i32_304
  let c1_i32_305 : BitVec 32 := 1#32
  let v397 : BitVec 32 := Scalar.andi v396 c1_i32_305
  let v398 : BitVec 32 := Scalar.addi v395 v397
  let c16_i32_914 : BitVec 32 := 16#32
  let v1214 : BitVec 1 := Scalar.cmpi .sge v398 c16_i32_914
  let v1215 : BitVec 32 := Scalar.extui v1214
  let c0_i32_917 : BitVec 32 := 0#32
  let v1216 : BitVec 1 := Scalar.cmpi .ne v1215 c0_i32_917
  v1216

def k0_off79 (d0 : Dev nD) : Fin 2 → Nat :=
  let c16_i32_307 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v401 : BitVec 32 := Scalar.muli c16_i32_307 v2
  let v402 : BitVec 32 := v401
  let c0_i32_2417 : BitVec 32 := 0#32
  ![v402.toNat, 0]
def k0_off80 (d0 : Dev nD) : Fin 2 → Nat :=
  let c16_i32_306 : BitVec 32 := 16#32
  let c16_i32_294 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_290 : BitVec 32 := 9#32
  let v378 : BitVec 32 := Scalar.addi v2 c9_i32_290
  let c31_i32_291 : BitVec 32 := 31#32
  let v379 : BitVec 32 := Scalar.andi v378 c31_i32_291
  let c1_i32_292 : BitVec 32 := 1#32
  let v380 : BitVec 32 := Scalar.shrsi v379 c1_i32_292
  let v381 : BitVec 32 := Scalar.xori v379 v380
  let c1_i32_293 : BitVec 32 := 1#32
  let v382 : BitVec 32 := Scalar.andi v381 c1_i32_293
  let v383 : BitVec 32 := Scalar.muli c16_i32_294 v382
  let c8_i32_297 : BitVec 32 := 8#32
  let c1_i32_295 : BitVec 32 := 1#32
  let v384 : BitVec 32 := Scalar.shrsi v379 c1_i32_295
  let c1_i32_296 : BitVec 32 := 1#32
  let v385 : BitVec 32 := Scalar.andi v384 c1_i32_296
  let v386 : BitVec 32 := Scalar.muli c8_i32_297 v385
  let v387 : BitVec 32 := Scalar.addi v383 v386
  let c4_i32_300 : BitVec 32 := 4#32
  let c3_i32_298 : BitVec 32 := 3#32
  let v388 : BitVec 32 := Scalar.shrsi v379 c3_i32_298
  let c1_i32_299 : BitVec 32 := 1#32
  let v389 : BitVec 32 := Scalar.andi v388 c1_i32_299
  let v390 : BitVec 32 := Scalar.muli c4_i32_300 v389
  let v391 : BitVec 32 := Scalar.addi v387 v390
  let c2_i32_303 : BitVec 32 := 2#32
  let c2_i32_301 : BitVec 32 := 2#32
  let v392 : BitVec 32 := Scalar.shrsi v379 c2_i32_301
  let c1_i32_302 : BitVec 32 := 1#32
  let v393 : BitVec 32 := Scalar.andi v392 c1_i32_302
  let v394 : BitVec 32 := Scalar.muli c2_i32_303 v393
  let v395 : BitVec 32 := Scalar.addi v391 v394
  let c4_i32_304 : BitVec 32 := 4#32
  let v396 : BitVec 32 := Scalar.shrsi v379 c4_i32_304
  let c1_i32_305 : BitVec 32 := 1#32
  let v397 : BitVec 32 := Scalar.andi v396 c1_i32_305
  let v398 : BitVec 32 := Scalar.addi v395 v397
  let v399 : BitVec 32 := Scalar.muli c16_i32_306 v398
  let v400 : BitVec 32 := v399
  let c0_i32_2418 : BitVec 32 := 0#32
  ![v400.toNat, 0]
def k0_dev71 (d0 : Dev nD) : Nat :=
  let c0_i32_2416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_290 : BitVec 32 := 9#32
  let v378 : BitVec 32 := Scalar.addi v2 c9_i32_290
  let c31_i32_291 : BitVec 32 := 31#32
  let v379 : BitVec 32 := Scalar.andi v378 c31_i32_291
  let c1_i32_2415 : BitVec 32 := 1#32
  let v2911 : BitVec 32 := Scalar.muli v379 c1_i32_2415
  let v2912 : BitVec 32 := Scalar.addi c0_i32_2416 v2911
  v2912.toNat
def k0_cond41 (d0 : Dev nD) : BitVec 1 :=
  let c16_i32_312 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_308 : BitVec 32 := 10#32
  let v403 : BitVec 32 := Scalar.addi v2 c10_i32_308
  let c31_i32_309 : BitVec 32 := 31#32
  let v404 : BitVec 32 := Scalar.andi v403 c31_i32_309
  let c1_i32_310 : BitVec 32 := 1#32
  let v405 : BitVec 32 := Scalar.shrsi v404 c1_i32_310
  let v406 : BitVec 32 := Scalar.xori v404 v405
  let c1_i32_311 : BitVec 32 := 1#32
  let v407 : BitVec 32 := Scalar.andi v406 c1_i32_311
  let v408 : BitVec 32 := Scalar.muli c16_i32_312 v407
  let c8_i32_315 : BitVec 32 := 8#32
  let c1_i32_313 : BitVec 32 := 1#32
  let v409 : BitVec 32 := Scalar.shrsi v404 c1_i32_313
  let c1_i32_314 : BitVec 32 := 1#32
  let v410 : BitVec 32 := Scalar.andi v409 c1_i32_314
  let v411 : BitVec 32 := Scalar.muli c8_i32_315 v410
  let v412 : BitVec 32 := Scalar.addi v408 v411
  let c4_i32_318 : BitVec 32 := 4#32
  let c3_i32_316 : BitVec 32 := 3#32
  let v413 : BitVec 32 := Scalar.shrsi v404 c3_i32_316
  let c1_i32_317 : BitVec 32 := 1#32
  let v414 : BitVec 32 := Scalar.andi v413 c1_i32_317
  let v415 : BitVec 32 := Scalar.muli c4_i32_318 v414
  let v416 : BitVec 32 := Scalar.addi v412 v415
  let c2_i32_321 : BitVec 32 := 2#32
  let c2_i32_319 : BitVec 32 := 2#32
  let v417 : BitVec 32 := Scalar.shrsi v404 c2_i32_319
  let c1_i32_320 : BitVec 32 := 1#32
  let v418 : BitVec 32 := Scalar.andi v417 c1_i32_320
  let v419 : BitVec 32 := Scalar.muli c2_i32_321 v418
  let v420 : BitVec 32 := Scalar.addi v416 v419
  let c4_i32_322 : BitVec 32 := 4#32
  let v421 : BitVec 32 := Scalar.shrsi v404 c4_i32_322
  let c1_i32_323 : BitVec 32 := 1#32
  let v422 : BitVec 32 := Scalar.andi v421 c1_i32_323
  let v423 : BitVec 32 := Scalar.addi v420 v422
  let c16_i32_918 : BitVec 32 := 16#32
  let v1217 : BitVec 1 := Scalar.cmpi .sge v423 c16_i32_918
  let v1218 : BitVec 32 := Scalar.extui v1217
  let c0_i32_921 : BitVec 32 := 0#32
  let v1219 : BitVec 1 := Scalar.cmpi .ne v1218 c0_i32_921
  v1219

def k0_off81 (d0 : Dev nD) : Fin 2 → Nat :=
  let c16_i32_325 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v426 : BitVec 32 := Scalar.muli c16_i32_325 v2
  let v427 : BitVec 32 := v426
  let c0_i32_2417 : BitVec 32 := 0#32
  ![v427.toNat, 0]
def k0_off82 (d0 : Dev nD) : Fin 2 → Nat :=
  let c16_i32_324 : BitVec 32 := 16#32
  let c16_i32_312 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_308 : BitVec 32 := 10#32
  let v403 : BitVec 32 := Scalar.addi v2 c10_i32_308
  let c31_i32_309 : BitVec 32 := 31#32
  let v404 : BitVec 32 := Scalar.andi v403 c31_i32_309
  let c1_i32_310 : BitVec 32 := 1#32
  let v405 : BitVec 32 := Scalar.shrsi v404 c1_i32_310
  let v406 : BitVec 32 := Scalar.xori v404 v405
  let c1_i32_311 : BitVec 32 := 1#32
  let v407 : BitVec 32 := Scalar.andi v406 c1_i32_311
  let v408 : BitVec 32 := Scalar.muli c16_i32_312 v407
  let c8_i32_315 : BitVec 32 := 8#32
  let c1_i32_313 : BitVec 32 := 1#32
  let v409 : BitVec 32 := Scalar.shrsi v404 c1_i32_313
  let c1_i32_314 : BitVec 32 := 1#32
  let v410 : BitVec 32 := Scalar.andi v409 c1_i32_314
  let v411 : BitVec 32 := Scalar.muli c8_i32_315 v410
  let v412 : BitVec 32 := Scalar.addi v408 v411
  let c4_i32_318 : BitVec 32 := 4#32
  let c3_i32_316 : BitVec 32 := 3#32
  let v413 : BitVec 32 := Scalar.shrsi v404 c3_i32_316
  let c1_i32_317 : BitVec 32 := 1#32
  let v414 : BitVec 32 := Scalar.andi v413 c1_i32_317
  let v415 : BitVec 32 := Scalar.muli c4_i32_318 v414
  let v416 : BitVec 32 := Scalar.addi v412 v415
  let c2_i32_321 : BitVec 32 := 2#32
  let c2_i32_319 : BitVec 32 := 2#32
  let v417 : BitVec 32 := Scalar.shrsi v404 c2_i32_319
  let c1_i32_320 : BitVec 32 := 1#32
  let v418 : BitVec 32 := Scalar.andi v417 c1_i32_320
  let v419 : BitVec 32 := Scalar.muli c2_i32_321 v418
  let v420 : BitVec 32 := Scalar.addi v416 v419
  let c4_i32_322 : BitVec 32 := 4#32
  let v421 : BitVec 32 := Scalar.shrsi v404 c4_i32_322
  let c1_i32_323 : BitVec 32 := 1#32
  let v422 : BitVec 32 := Scalar.andi v421 c1_i32_323
  let v423 : BitVec 32 := Scalar.addi v420 v422
  let v424 : BitVec 32 := Scalar.muli c16_i32_324 v423
  let v425 : BitVec 32 := v424
  let c0_i32_2418 : BitVec 32 := 0#32
  ![v425.toNat, 0]
def k0_dev72 (d0 : Dev nD) : Nat :=
  let c0_i32_2416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_308 : BitVec 32 := 10#32
  let v403 : BitVec 32 := Scalar.addi v2 c10_i32_308
  let c31_i32_309 : BitVec 32 := 31#32
  let v404 : BitVec 32 := Scalar.andi v403 c31_i32_309
  let c1_i32_2415 : BitVec 32 := 1#32
  let v2911 : BitVec 32 := Scalar.muli v404 c1_i32_2415
  let v2912 : BitVec 32 := Scalar.addi c0_i32_2416 v2911
  v2912.toNat
def k0_cond42 (d0 : Dev nD) : BitVec 1 :=
  let c16_i32_330 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_326 : BitVec 32 := 11#32
  let v428 : BitVec 32 := Scalar.addi v2 c11_i32_326
  let c31_i32_327 : BitVec 32 := 31#32
  let v429 : BitVec 32 := Scalar.andi v428 c31_i32_327
  let c1_i32_328 : BitVec 32 := 1#32
  let v430 : BitVec 32 := Scalar.shrsi v429 c1_i32_328
  let v431 : BitVec 32 := Scalar.xori v429 v430
  let c1_i32_329 : BitVec 32 := 1#32
  let v432 : BitVec 32 := Scalar.andi v431 c1_i32_329
  let v433 : BitVec 32 := Scalar.muli c16_i32_330 v432
  let c8_i32_333 : BitVec 32 := 8#32
  let c1_i32_331 : BitVec 32 := 1#32
  let v434 : BitVec 32 := Scalar.shrsi v429 c1_i32_331
  let c1_i32_332 : BitVec 32 := 1#32
  let v435 : BitVec 32 := Scalar.andi v434 c1_i32_332
  let v436 : BitVec 32 := Scalar.muli c8_i32_333 v435
  let v437 : BitVec 32 := Scalar.addi v433 v436
  let c4_i32_336 : BitVec 32 := 4#32
  let c3_i32_334 : BitVec 32 := 3#32
  let v438 : BitVec 32 := Scalar.shrsi v429 c3_i32_334
  let c1_i32_335 : BitVec 32 := 1#32
  let v439 : BitVec 32 := Scalar.andi v438 c1_i32_335
  let v440 : BitVec 32 := Scalar.muli c4_i32_336 v439
  let v441 : BitVec 32 := Scalar.addi v437 v440
  let c2_i32_339 : BitVec 32 := 2#32
  let c2_i32_337 : BitVec 32 := 2#32
  let v442 : BitVec 32 := Scalar.shrsi v429 c2_i32_337
  let c1_i32_338 : BitVec 32 := 1#32
  let v443 : BitVec 32 := Scalar.andi v442 c1_i32_338
  let v444 : BitVec 32 := Scalar.muli c2_i32_339 v443
  let v445 : BitVec 32 := Scalar.addi v441 v444
  let c4_i32_340 : BitVec 32 := 4#32
  let v446 : BitVec 32 := Scalar.shrsi v429 c4_i32_340
  let c1_i32_341 : BitVec 32 := 1#32
  let v447 : BitVec 32 := Scalar.andi v446 c1_i32_341
  let v448 : BitVec 32 := Scalar.addi v445 v447
  let c16_i32_922 : BitVec 32 := 16#32
  let v1220 : BitVec 1 := Scalar.cmpi .sge v448 c16_i32_922
  let v1221 : BitVec 32 := Scalar.extui v1220
  let c0_i32_925 : BitVec 32 := 0#32
  let v1222 : BitVec 1 := Scalar.cmpi .ne v1221 c0_i32_925
  v1222

def k0_off83 (d0 : Dev nD) : Fin 2 → Nat :=
  let c16_i32_343 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v451 : BitVec 32 := Scalar.muli c16_i32_343 v2
  let v452 : BitVec 32 := v451
  let c0_i32_2417 : BitVec 32 := 0#32
  ![v452.toNat, 0]
def k0_off84 (d0 : Dev nD) : Fin 2 → Nat :=
  let c16_i32_342 : BitVec 32 := 16#32
  let c16_i32_330 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_326 : BitVec 32 := 11#32
  let v428 : BitVec 32 := Scalar.addi v2 c11_i32_326
  let c31_i32_327 : BitVec 32 := 31#32
  let v429 : BitVec 32 := Scalar.andi v428 c31_i32_327
  let c1_i32_328 : BitVec 32 := 1#32
  let v430 : BitVec 32 := Scalar.shrsi v429 c1_i32_328
  let v431 : BitVec 32 := Scalar.xori v429 v430
  let c1_i32_329 : BitVec 32 := 1#32
  let v432 : BitVec 32 := Scalar.andi v431 c1_i32_329
  let v433 : BitVec 32 := Scalar.muli c16_i32_330 v432
  let c8_i32_333 : BitVec 32 := 8#32
  let c1_i32_331 : BitVec 32 := 1#32
  let v434 : BitVec 32 := Scalar.shrsi v429 c1_i32_331
  let c1_i32_332 : BitVec 32 := 1#32
  let v435 : BitVec 32 := Scalar.andi v434 c1_i32_332
  let v436 : BitVec 32 := Scalar.muli c8_i32_333 v435
  let v437 : BitVec 32 := Scalar.addi v433 v436
  let c4_i32_336 : BitVec 32 := 4#32
  let c3_i32_334 : BitVec 32 := 3#32
  let v438 : BitVec 32 := Scalar.shrsi v429 c3_i32_334
  let c1_i32_335 : BitVec 32 := 1#32
  let v439 : BitVec 32 := Scalar.andi v438 c1_i32_335
  let v440 : BitVec 32 := Scalar.muli c4_i32_336 v439
  let v441 : BitVec 32 := Scalar.addi v437 v440
  let c2_i32_339 : BitVec 32 := 2#32
  let c2_i32_337 : BitVec 32 := 2#32
  let v442 : BitVec 32 := Scalar.shrsi v429 c2_i32_337
  let c1_i32_338 : BitVec 32 := 1#32
  let v443 : BitVec 32 := Scalar.andi v442 c1_i32_338
  let v444 : BitVec 32 := Scalar.muli c2_i32_339 v443
  let v445 : BitVec 32 := Scalar.addi v441 v444
  let c4_i32_340 : BitVec 32 := 4#32
  let v446 : BitVec 32 := Scalar.shrsi v429 c4_i32_340
  let c1_i32_341 : BitVec 32 := 1#32
  let v447 : BitVec 32 := Scalar.andi v446 c1_i32_341
  let v448 : BitVec 32 := Scalar.addi v445 v447
  let v449 : BitVec 32 := Scalar.muli c16_i32_342 v448
  let v450 : BitVec 32 := v449
  let c0_i32_2418 : BitVec 32 := 0#32
  ![v450.toNat, 0]
def k0_dev73 (d0 : Dev nD) : Nat :=
  let c0_i32_2416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_326 : BitVec 32 := 11#32
  let v428 : BitVec 32 := Scalar.addi v2 c11_i32_326
  let c31_i32_327 : BitVec 32 := 31#32
  let v429 : BitVec 32 := Scalar.andi v428 c31_i32_327
  let c1_i32_2415 : BitVec 32 := 1#32
  let v2911 : BitVec 32 := Scalar.muli v429 c1_i32_2415
  let v2912 : BitVec 32 := Scalar.addi c0_i32_2416 v2911
  v2912.toNat
def k0_cond43 (d0 : Dev nD) : BitVec 1 :=
  let c16_i32_348 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_344 : BitVec 32 := 12#32
  let v453 : BitVec 32 := Scalar.addi v2 c12_i32_344
  let c31_i32_345 : BitVec 32 := 31#32
  let v454 : BitVec 32 := Scalar.andi v453 c31_i32_345
  let c1_i32_346 : BitVec 32 := 1#32
  let v455 : BitVec 32 := Scalar.shrsi v454 c1_i32_346
  let v456 : BitVec 32 := Scalar.xori v454 v455
  let c1_i32_347 : BitVec 32 := 1#32
  let v457 : BitVec 32 := Scalar.andi v456 c1_i32_347
  let v458 : BitVec 32 := Scalar.muli c16_i32_348 v457
  let c8_i32_351 : BitVec 32 := 8#32
  let c1_i32_349 : BitVec 32 := 1#32
  let v459 : BitVec 32 := Scalar.shrsi v454 c1_i32_349
  let c1_i32_350 : BitVec 32 := 1#32
  let v460 : BitVec 32 := Scalar.andi v459 c1_i32_350
  let v461 : BitVec 32 := Scalar.muli c8_i32_351 v460
  let v462 : BitVec 32 := Scalar.addi v458 v461
  let c4_i32_354 : BitVec 32 := 4#32
  let c3_i32_352 : BitVec 32 := 3#32
  let v463 : BitVec 32 := Scalar.shrsi v454 c3_i32_352
  let c1_i32_353 : BitVec 32 := 1#32
  let v464 : BitVec 32 := Scalar.andi v463 c1_i32_353
  let v465 : BitVec 32 := Scalar.muli c4_i32_354 v464
  let v466 : BitVec 32 := Scalar.addi v462 v465
  let c2_i32_357 : BitVec 32 := 2#32
  let c2_i32_355 : BitVec 32 := 2#32
  let v467 : BitVec 32 := Scalar.shrsi v454 c2_i32_355
  let c1_i32_356 : BitVec 32 := 1#32
  let v468 : BitVec 32 := Scalar.andi v467 c1_i32_356
  let v469 : BitVec 32 := Scalar.muli c2_i32_357 v468
  let v470 : BitVec 32 := Scalar.addi v466 v469
  let c4_i32_358 : BitVec 32 := 4#32
  let v471 : BitVec 32 := Scalar.shrsi v454 c4_i32_358
  let c1_i32_359 : BitVec 32 := 1#32
  let v472 : BitVec 32 := Scalar.andi v471 c1_i32_359
  let v473 : BitVec 32 := Scalar.addi v470 v472
  let c16_i32_926 : BitVec 32 := 16#32
  let v1223 : BitVec 1 := Scalar.cmpi .sge v473 c16_i32_926
  let v1224 : BitVec 32 := Scalar.extui v1223
  let c0_i32_929 : BitVec 32 := 0#32
  let v1225 : BitVec 1 := Scalar.cmpi .ne v1224 c0_i32_929
  v1225

def k0_off85 (d0 : Dev nD) : Fin 2 → Nat :=
  let c16_i32_361 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v476 : BitVec 32 := Scalar.muli c16_i32_361 v2
  let v477 : BitVec 32 := v476
  let c0_i32_2417 : BitVec 32 := 0#32
  ![v477.toNat, 0]
def k0_off86 (d0 : Dev nD) : Fin 2 → Nat :=
  let c16_i32_360 : BitVec 32 := 16#32
  let c16_i32_348 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_344 : BitVec 32 := 12#32
  let v453 : BitVec 32 := Scalar.addi v2 c12_i32_344
  let c31_i32_345 : BitVec 32 := 31#32
  let v454 : BitVec 32 := Scalar.andi v453 c31_i32_345
  let c1_i32_346 : BitVec 32 := 1#32
  let v455 : BitVec 32 := Scalar.shrsi v454 c1_i32_346
  let v456 : BitVec 32 := Scalar.xori v454 v455
  let c1_i32_347 : BitVec 32 := 1#32
  let v457 : BitVec 32 := Scalar.andi v456 c1_i32_347
  let v458 : BitVec 32 := Scalar.muli c16_i32_348 v457
  let c8_i32_351 : BitVec 32 := 8#32
  let c1_i32_349 : BitVec 32 := 1#32
  let v459 : BitVec 32 := Scalar.shrsi v454 c1_i32_349
  let c1_i32_350 : BitVec 32 := 1#32
  let v460 : BitVec 32 := Scalar.andi v459 c1_i32_350
  let v461 : BitVec 32 := Scalar.muli c8_i32_351 v460
  let v462 : BitVec 32 := Scalar.addi v458 v461
  let c4_i32_354 : BitVec 32 := 4#32
  let c3_i32_352 : BitVec 32 := 3#32
  let v463 : BitVec 32 := Scalar.shrsi v454 c3_i32_352
  let c1_i32_353 : BitVec 32 := 1#32
  let v464 : BitVec 32 := Scalar.andi v463 c1_i32_353
  let v465 : BitVec 32 := Scalar.muli c4_i32_354 v464
  let v466 : BitVec 32 := Scalar.addi v462 v465
  let c2_i32_357 : BitVec 32 := 2#32
  let c2_i32_355 : BitVec 32 := 2#32
  let v467 : BitVec 32 := Scalar.shrsi v454 c2_i32_355
  let c1_i32_356 : BitVec 32 := 1#32
  let v468 : BitVec 32 := Scalar.andi v467 c1_i32_356
  let v469 : BitVec 32 := Scalar.muli c2_i32_357 v468
  let v470 : BitVec 32 := Scalar.addi v466 v469
  let c4_i32_358 : BitVec 32 := 4#32
  let v471 : BitVec 32 := Scalar.shrsi v454 c4_i32_358
  let c1_i32_359 : BitVec 32 := 1#32
  let v472 : BitVec 32 := Scalar.andi v471 c1_i32_359
  let v473 : BitVec 32 := Scalar.addi v470 v472
  let v474 : BitVec 32 := Scalar.muli c16_i32_360 v473
  let v475 : BitVec 32 := v474
  let c0_i32_2418 : BitVec 32 := 0#32
  ![v475.toNat, 0]
def k0_dev74 (d0 : Dev nD) : Nat :=
  let c0_i32_2416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_344 : BitVec 32 := 12#32
  let v453 : BitVec 32 := Scalar.addi v2 c12_i32_344
  let c31_i32_345 : BitVec 32 := 31#32
  let v454 : BitVec 32 := Scalar.andi v453 c31_i32_345
  let c1_i32_2415 : BitVec 32 := 1#32
  let v2911 : BitVec 32 := Scalar.muli v454 c1_i32_2415
  let v2912 : BitVec 32 := Scalar.addi c0_i32_2416 v2911
  v2912.toNat
def k0_cond44 (d0 : Dev nD) : BitVec 1 :=
  let c16_i32_366 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_362 : BitVec 32 := 13#32
  let v478 : BitVec 32 := Scalar.addi v2 c13_i32_362
  let c31_i32_363 : BitVec 32 := 31#32
  let v479 : BitVec 32 := Scalar.andi v478 c31_i32_363
  let c1_i32_364 : BitVec 32 := 1#32
  let v480 : BitVec 32 := Scalar.shrsi v479 c1_i32_364
  let v481 : BitVec 32 := Scalar.xori v479 v480
  let c1_i32_365 : BitVec 32 := 1#32
  let v482 : BitVec 32 := Scalar.andi v481 c1_i32_365
  let v483 : BitVec 32 := Scalar.muli c16_i32_366 v482
  let c8_i32_369 : BitVec 32 := 8#32
  let c1_i32_367 : BitVec 32 := 1#32
  let v484 : BitVec 32 := Scalar.shrsi v479 c1_i32_367
  let c1_i32_368 : BitVec 32 := 1#32
  let v485 : BitVec 32 := Scalar.andi v484 c1_i32_368
  let v486 : BitVec 32 := Scalar.muli c8_i32_369 v485
  let v487 : BitVec 32 := Scalar.addi v483 v486
  let c4_i32_372 : BitVec 32 := 4#32
  let c3_i32_370 : BitVec 32 := 3#32
  let v488 : BitVec 32 := Scalar.shrsi v479 c3_i32_370
  let c1_i32_371 : BitVec 32 := 1#32
  let v489 : BitVec 32 := Scalar.andi v488 c1_i32_371
  let v490 : BitVec 32 := Scalar.muli c4_i32_372 v489
  let v491 : BitVec 32 := Scalar.addi v487 v490
  let c2_i32_375 : BitVec 32 := 2#32
  let c2_i32_373 : BitVec 32 := 2#32
  let v492 : BitVec 32 := Scalar.shrsi v479 c2_i32_373
  let c1_i32_374 : BitVec 32 := 1#32
  let v493 : BitVec 32 := Scalar.andi v492 c1_i32_374
  let v494 : BitVec 32 := Scalar.muli c2_i32_375 v493
  let v495 : BitVec 32 := Scalar.addi v491 v494
  let c4_i32_376 : BitVec 32 := 4#32
  let v496 : BitVec 32 := Scalar.shrsi v479 c4_i32_376
  let c1_i32_377 : BitVec 32 := 1#32
  let v497 : BitVec 32 := Scalar.andi v496 c1_i32_377
  let v498 : BitVec 32 := Scalar.addi v495 v497
  let c16_i32_930 : BitVec 32 := 16#32
  let v1226 : BitVec 1 := Scalar.cmpi .sge v498 c16_i32_930
  let v1227 : BitVec 32 := Scalar.extui v1226
  let c0_i32_933 : BitVec 32 := 0#32
  let v1228 : BitVec 1 := Scalar.cmpi .ne v1227 c0_i32_933
  v1228

def k0_off87 (d0 : Dev nD) : Fin 2 → Nat :=
  let c16_i32_379 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v501 : BitVec 32 := Scalar.muli c16_i32_379 v2
  let v502 : BitVec 32 := v501
  let c0_i32_2417 : BitVec 32 := 0#32
  ![v502.toNat, 0]
def k0_off88 (d0 : Dev nD) : Fin 2 → Nat :=
  let c16_i32_378 : BitVec 32 := 16#32
  let c16_i32_366 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_362 : BitVec 32 := 13#32
  let v478 : BitVec 32 := Scalar.addi v2 c13_i32_362
  let c31_i32_363 : BitVec 32 := 31#32
  let v479 : BitVec 32 := Scalar.andi v478 c31_i32_363
  let c1_i32_364 : BitVec 32 := 1#32
  let v480 : BitVec 32 := Scalar.shrsi v479 c1_i32_364
  let v481 : BitVec 32 := Scalar.xori v479 v480
  let c1_i32_365 : BitVec 32 := 1#32
  let v482 : BitVec 32 := Scalar.andi v481 c1_i32_365
  let v483 : BitVec 32 := Scalar.muli c16_i32_366 v482
  let c8_i32_369 : BitVec 32 := 8#32
  let c1_i32_367 : BitVec 32 := 1#32
  let v484 : BitVec 32 := Scalar.shrsi v479 c1_i32_367
  let c1_i32_368 : BitVec 32 := 1#32
  let v485 : BitVec 32 := Scalar.andi v484 c1_i32_368
  let v486 : BitVec 32 := Scalar.muli c8_i32_369 v485
  let v487 : BitVec 32 := Scalar.addi v483 v486
  let c4_i32_372 : BitVec 32 := 4#32
  let c3_i32_370 : BitVec 32 := 3#32
  let v488 : BitVec 32 := Scalar.shrsi v479 c3_i32_370
  let c1_i32_371 : BitVec 32 := 1#32
  let v489 : BitVec 32 := Scalar.andi v488 c1_i32_371
  let v490 : BitVec 32 := Scalar.muli c4_i32_372 v489
  let v491 : BitVec 32 := Scalar.addi v487 v490
  let c2_i32_375 : BitVec 32 := 2#32
  let c2_i32_373 : BitVec 32 := 2#32
  let v492 : BitVec 32 := Scalar.shrsi v479 c2_i32_373
  let c1_i32_374 : BitVec 32 := 1#32
  let v493 : BitVec 32 := Scalar.andi v492 c1_i32_374
  let v494 : BitVec 32 := Scalar.muli c2_i32_375 v493
  let v495 : BitVec 32 := Scalar.addi v491 v494
  let c4_i32_376 : BitVec 32 := 4#32
  let v496 : BitVec 32 := Scalar.shrsi v479 c4_i32_376
  let c1_i32_377 : BitVec 32 := 1#32
  let v497 : BitVec 32 := Scalar.andi v496 c1_i32_377
  let v498 : BitVec 32 := Scalar.addi v495 v497
  let v499 : BitVec 32 := Scalar.muli c16_i32_378 v498
  let v500 : BitVec 32 := v499
  let c0_i32_2418 : BitVec 32 := 0#32
  ![v500.toNat, 0]
def k0_dev75 (d0 : Dev nD) : Nat :=
  let c0_i32_2416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_362 : BitVec 32 := 13#32
  let v478 : BitVec 32 := Scalar.addi v2 c13_i32_362
  let c31_i32_363 : BitVec 32 := 31#32
  let v479 : BitVec 32 := Scalar.andi v478 c31_i32_363
  let c1_i32_2415 : BitVec 32 := 1#32
  let v2911 : BitVec 32 := Scalar.muli v479 c1_i32_2415
  let v2912 : BitVec 32 := Scalar.addi c0_i32_2416 v2911
  v2912.toNat
def k0_cond45 (d0 : Dev nD) : BitVec 1 :=
  let c16_i32_384 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_380 : BitVec 32 := 14#32
  let v503 : BitVec 32 := Scalar.addi v2 c14_i32_380
  let c31_i32_381 : BitVec 32 := 31#32
  let v504 : BitVec 32 := Scalar.andi v503 c31_i32_381
  let c1_i32_382 : BitVec 32 := 1#32
  let v505 : BitVec 32 := Scalar.shrsi v504 c1_i32_382
  let v506 : BitVec 32 := Scalar.xori v504 v505
  let c1_i32_383 : BitVec 32 := 1#32
  let v507 : BitVec 32 := Scalar.andi v506 c1_i32_383
  let v508 : BitVec 32 := Scalar.muli c16_i32_384 v507
  let c8_i32_387 : BitVec 32 := 8#32
  let c1_i32_385 : BitVec 32 := 1#32
  let v509 : BitVec 32 := Scalar.shrsi v504 c1_i32_385
  let c1_i32_386 : BitVec 32 := 1#32
  let v510 : BitVec 32 := Scalar.andi v509 c1_i32_386
  let v511 : BitVec 32 := Scalar.muli c8_i32_387 v510
  let v512 : BitVec 32 := Scalar.addi v508 v511
  let c4_i32_390 : BitVec 32 := 4#32
  let c3_i32_388 : BitVec 32 := 3#32
  let v513 : BitVec 32 := Scalar.shrsi v504 c3_i32_388
  let c1_i32_389 : BitVec 32 := 1#32
  let v514 : BitVec 32 := Scalar.andi v513 c1_i32_389
  let v515 : BitVec 32 := Scalar.muli c4_i32_390 v514
  let v516 : BitVec 32 := Scalar.addi v512 v515
  let c2_i32_393 : BitVec 32 := 2#32
  let c2_i32_391 : BitVec 32 := 2#32
  let v517 : BitVec 32 := Scalar.shrsi v504 c2_i32_391
  let c1_i32_392 : BitVec 32 := 1#32
  let v518 : BitVec 32 := Scalar.andi v517 c1_i32_392
  let v519 : BitVec 32 := Scalar.muli c2_i32_393 v518
  let v520 : BitVec 32 := Scalar.addi v516 v519
  let c4_i32_394 : BitVec 32 := 4#32
  let v521 : BitVec 32 := Scalar.shrsi v504 c4_i32_394
  let c1_i32_395 : BitVec 32 := 1#32
  let v522 : BitVec 32 := Scalar.andi v521 c1_i32_395
  let v523 : BitVec 32 := Scalar.addi v520 v522
  let c16_i32_934 : BitVec 32 := 16#32
  let v1229 : BitVec 1 := Scalar.cmpi .sge v523 c16_i32_934
  let v1230 : BitVec 32 := Scalar.extui v1229
  let c0_i32_937 : BitVec 32 := 0#32
  let v1231 : BitVec 1 := Scalar.cmpi .ne v1230 c0_i32_937
  v1231

def k0_off89 (d0 : Dev nD) : Fin 2 → Nat :=
  let c16_i32_397 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v526 : BitVec 32 := Scalar.muli c16_i32_397 v2
  let v527 : BitVec 32 := v526
  let c0_i32_2417 : BitVec 32 := 0#32
  ![v527.toNat, 0]
def k0_off90 (d0 : Dev nD) : Fin 2 → Nat :=
  let c16_i32_396 : BitVec 32 := 16#32
  let c16_i32_384 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_380 : BitVec 32 := 14#32
  let v503 : BitVec 32 := Scalar.addi v2 c14_i32_380
  let c31_i32_381 : BitVec 32 := 31#32
  let v504 : BitVec 32 := Scalar.andi v503 c31_i32_381
  let c1_i32_382 : BitVec 32 := 1#32
  let v505 : BitVec 32 := Scalar.shrsi v504 c1_i32_382
  let v506 : BitVec 32 := Scalar.xori v504 v505
  let c1_i32_383 : BitVec 32 := 1#32
  let v507 : BitVec 32 := Scalar.andi v506 c1_i32_383
  let v508 : BitVec 32 := Scalar.muli c16_i32_384 v507
  let c8_i32_387 : BitVec 32 := 8#32
  let c1_i32_385 : BitVec 32 := 1#32
  let v509 : BitVec 32 := Scalar.shrsi v504 c1_i32_385
  let c1_i32_386 : BitVec 32 := 1#32
  let v510 : BitVec 32 := Scalar.andi v509 c1_i32_386
  let v511 : BitVec 32 := Scalar.muli c8_i32_387 v510
  let v512 : BitVec 32 := Scalar.addi v508 v511
  let c4_i32_390 : BitVec 32 := 4#32
  let c3_i32_388 : BitVec 32 := 3#32
  let v513 : BitVec 32 := Scalar.shrsi v504 c3_i32_388
  let c1_i32_389 : BitVec 32 := 1#32
  let v514 : BitVec 32 := Scalar.andi v513 c1_i32_389
  let v515 : BitVec 32 := Scalar.muli c4_i32_390 v514
  let v516 : BitVec 32 := Scalar.addi v512 v515
  let c2_i32_393 : BitVec 32 := 2#32
  let c2_i32_391 : BitVec 32 := 2#32
  let v517 : BitVec 32 := Scalar.shrsi v504 c2_i32_391
  let c1_i32_392 : BitVec 32 := 1#32
  let v518 : BitVec 32 := Scalar.andi v517 c1_i32_392
  let v519 : BitVec 32 := Scalar.muli c2_i32_393 v518
  let v520 : BitVec 32 := Scalar.addi v516 v519
  let c4_i32_394 : BitVec 32 := 4#32
  let v521 : BitVec 32 := Scalar.shrsi v504 c4_i32_394
  let c1_i32_395 : BitVec 32 := 1#32
  let v522 : BitVec 32 := Scalar.andi v521 c1_i32_395
  let v523 : BitVec 32 := Scalar.addi v520 v522
  let v524 : BitVec 32 := Scalar.muli c16_i32_396 v523
  let v525 : BitVec 32 := v524
  let c0_i32_2418 : BitVec 32 := 0#32
  ![v525.toNat, 0]
def k0_dev76 (d0 : Dev nD) : Nat :=
  let c0_i32_2416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_380 : BitVec 32 := 14#32
  let v503 : BitVec 32 := Scalar.addi v2 c14_i32_380
  let c31_i32_381 : BitVec 32 := 31#32
  let v504 : BitVec 32 := Scalar.andi v503 c31_i32_381
  let c1_i32_2415 : BitVec 32 := 1#32
  let v2911 : BitVec 32 := Scalar.muli v504 c1_i32_2415
  let v2912 : BitVec 32 := Scalar.addi c0_i32_2416 v2911
  v2912.toNat
def k0_cond46 (d0 : Dev nD) : BitVec 1 :=
  let c16_i32_402 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_398 : BitVec 32 := 15#32
  let v528 : BitVec 32 := Scalar.addi v2 c15_i32_398
  let c31_i32_399 : BitVec 32 := 31#32
  let v529 : BitVec 32 := Scalar.andi v528 c31_i32_399
  let c1_i32_400 : BitVec 32 := 1#32
  let v530 : BitVec 32 := Scalar.shrsi v529 c1_i32_400
  let v531 : BitVec 32 := Scalar.xori v529 v530
  let c1_i32_401 : BitVec 32 := 1#32
  let v532 : BitVec 32 := Scalar.andi v531 c1_i32_401
  let v533 : BitVec 32 := Scalar.muli c16_i32_402 v532
  let c8_i32_405 : BitVec 32 := 8#32
  let c1_i32_403 : BitVec 32 := 1#32
  let v534 : BitVec 32 := Scalar.shrsi v529 c1_i32_403
  let c1_i32_404 : BitVec 32 := 1#32
  let v535 : BitVec 32 := Scalar.andi v534 c1_i32_404
  let v536 : BitVec 32 := Scalar.muli c8_i32_405 v535
  let v537 : BitVec 32 := Scalar.addi v533 v536
  let c4_i32_408 : BitVec 32 := 4#32
  let c3_i32_406 : BitVec 32 := 3#32
  let v538 : BitVec 32 := Scalar.shrsi v529 c3_i32_406
  let c1_i32_407 : BitVec 32 := 1#32
  let v539 : BitVec 32 := Scalar.andi v538 c1_i32_407
  let v540 : BitVec 32 := Scalar.muli c4_i32_408 v539
  let v541 : BitVec 32 := Scalar.addi v537 v540
  let c2_i32_411 : BitVec 32 := 2#32
  let c2_i32_409 : BitVec 32 := 2#32
  let v542 : BitVec 32 := Scalar.shrsi v529 c2_i32_409
  let c1_i32_410 : BitVec 32 := 1#32
  let v543 : BitVec 32 := Scalar.andi v542 c1_i32_410
  let v544 : BitVec 32 := Scalar.muli c2_i32_411 v543
  let v545 : BitVec 32 := Scalar.addi v541 v544
  let c4_i32_412 : BitVec 32 := 4#32
  let v546 : BitVec 32 := Scalar.shrsi v529 c4_i32_412
  let c1_i32_413 : BitVec 32 := 1#32
  let v547 : BitVec 32 := Scalar.andi v546 c1_i32_413
  let v548 : BitVec 32 := Scalar.addi v545 v547
  let c16_i32_938 : BitVec 32 := 16#32
  let v1232 : BitVec 1 := Scalar.cmpi .sge v548 c16_i32_938
  let v1233 : BitVec 32 := Scalar.extui v1232
  let c0_i32_941 : BitVec 32 := 0#32
  let v1234 : BitVec 1 := Scalar.cmpi .ne v1233 c0_i32_941
  v1234

def k0_off91 (d0 : Dev nD) : Fin 2 → Nat :=
  let c16_i32_415 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v551 : BitVec 32 := Scalar.muli c16_i32_415 v2
  let v552 : BitVec 32 := v551
  let c0_i32_2417 : BitVec 32 := 0#32
  ![v552.toNat, 0]
def k0_off92 (d0 : Dev nD) : Fin 2 → Nat :=
  let c16_i32_414 : BitVec 32 := 16#32
  let c16_i32_402 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_398 : BitVec 32 := 15#32
  let v528 : BitVec 32 := Scalar.addi v2 c15_i32_398
  let c31_i32_399 : BitVec 32 := 31#32
  let v529 : BitVec 32 := Scalar.andi v528 c31_i32_399
  let c1_i32_400 : BitVec 32 := 1#32
  let v530 : BitVec 32 := Scalar.shrsi v529 c1_i32_400
  let v531 : BitVec 32 := Scalar.xori v529 v530
  let c1_i32_401 : BitVec 32 := 1#32
  let v532 : BitVec 32 := Scalar.andi v531 c1_i32_401
  let v533 : BitVec 32 := Scalar.muli c16_i32_402 v532
  let c8_i32_405 : BitVec 32 := 8#32
  let c1_i32_403 : BitVec 32 := 1#32
  let v534 : BitVec 32 := Scalar.shrsi v529 c1_i32_403
  let c1_i32_404 : BitVec 32 := 1#32
  let v535 : BitVec 32 := Scalar.andi v534 c1_i32_404
  let v536 : BitVec 32 := Scalar.muli c8_i32_405 v535
  let v537 : BitVec 32 := Scalar.addi v533 v536
  let c4_i32_408 : BitVec 32 := 4#32
  let c3_i32_406 : BitVec 32 := 3#32
  let v538 : BitVec 32 := Scalar.shrsi v529 c3_i32_406
  let c1_i32_407 : BitVec 32 := 1#32
  let v539 : BitVec 32 := Scalar.andi v538 c1_i32_407
  let v540 : BitVec 32 := Scalar.muli c4_i32_408 v539
  let v541 : BitVec 32 := Scalar.addi v537 v540
  let c2_i32_411 : BitVec 32 := 2#32
  let c2_i32_409 : BitVec 32 := 2#32
  let v542 : BitVec 32 := Scalar.shrsi v529 c2_i32_409
  let c1_i32_410 : BitVec 32 := 1#32
  let v543 : BitVec 32 := Scalar.andi v542 c1_i32_410
  let v544 : BitVec 32 := Scalar.muli c2_i32_411 v543
  let v545 : BitVec 32 := Scalar.addi v541 v544
  let c4_i32_412 : BitVec 32 := 4#32
  let v546 : BitVec 32 := Scalar.shrsi v529 c4_i32_412
  let c1_i32_413 : BitVec 32 := 1#32
  let v547 : BitVec 32 := Scalar.andi v546 c1_i32_413
  let v548 : BitVec 32 := Scalar.addi v545 v547
  let v549 : BitVec 32 := Scalar.muli c16_i32_414 v548
  let v550 : BitVec 32 := v549
  let c0_i32_2418 : BitVec 32 := 0#32
  ![v550.toNat, 0]
def k0_dev77 (d0 : Dev nD) : Nat :=
  let c0_i32_2416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_398 : BitVec 32 := 15#32
  let v528 : BitVec 32 := Scalar.addi v2 c15_i32_398
  let c31_i32_399 : BitVec 32 := 31#32
  let v529 : BitVec 32 := Scalar.andi v528 c31_i32_399
  let c1_i32_2415 : BitVec 32 := 1#32
  let v2911 : BitVec 32 := Scalar.muli v529 c1_i32_2415
  let v2912 : BitVec 32 := Scalar.addi c0_i32_2416 v2911
  v2912.toNat
def k0_cond47 (d0 : Dev nD) : BitVec 1 :=
  let c16_i32_420 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_416 : BitVec 32 := 16#32
  let v553 : BitVec 32 := Scalar.addi v2 c16_i32_416
  let c31_i32_417 : BitVec 32 := 31#32
  let v554 : BitVec 32 := Scalar.andi v553 c31_i32_417
  let c1_i32_418 : BitVec 32 := 1#32
  let v555 : BitVec 32 := Scalar.shrsi v554 c1_i32_418
  let v556 : BitVec 32 := Scalar.xori v554 v555
  let c1_i32_419 : BitVec 32 := 1#32
  let v557 : BitVec 32 := Scalar.andi v556 c1_i32_419
  let v558 : BitVec 32 := Scalar.muli c16_i32_420 v557
  let c8_i32_423 : BitVec 32 := 8#32
  let c1_i32_421 : BitVec 32 := 1#32
  let v559 : BitVec 32 := Scalar.shrsi v554 c1_i32_421
  let c1_i32_422 : BitVec 32 := 1#32
  let v560 : BitVec 32 := Scalar.andi v559 c1_i32_422
  let v561 : BitVec 32 := Scalar.muli c8_i32_423 v560
  let v562 : BitVec 32 := Scalar.addi v558 v561
  let c4_i32_426 : BitVec 32 := 4#32
  let c3_i32_424 : BitVec 32 := 3#32
  let v563 : BitVec 32 := Scalar.shrsi v554 c3_i32_424
  let c1_i32_425 : BitVec 32 := 1#32
  let v564 : BitVec 32 := Scalar.andi v563 c1_i32_425
  let v565 : BitVec 32 := Scalar.muli c4_i32_426 v564
  let v566 : BitVec 32 := Scalar.addi v562 v565
  let c2_i32_429 : BitVec 32 := 2#32
  let c2_i32_427 : BitVec 32 := 2#32
  let v567 : BitVec 32 := Scalar.shrsi v554 c2_i32_427
  let c1_i32_428 : BitVec 32 := 1#32
  let v568 : BitVec 32 := Scalar.andi v567 c1_i32_428
  let v569 : BitVec 32 := Scalar.muli c2_i32_429 v568
  let v570 : BitVec 32 := Scalar.addi v566 v569
  let c4_i32_430 : BitVec 32 := 4#32
  let v571 : BitVec 32 := Scalar.shrsi v554 c4_i32_430
  let c1_i32_431 : BitVec 32 := 1#32
  let v572 : BitVec 32 := Scalar.andi v571 c1_i32_431
  let v573 : BitVec 32 := Scalar.addi v570 v572
  let c16_i32_942 : BitVec 32 := 16#32
  let v1235 : BitVec 1 := Scalar.cmpi .sge v573 c16_i32_942
  let v1236 : BitVec 32 := Scalar.extui v1235
  let c0_i32_945 : BitVec 32 := 0#32
  let v1237 : BitVec 1 := Scalar.cmpi .ne v1236 c0_i32_945
  v1237

def k0_off93 (d0 : Dev nD) : Fin 2 → Nat :=
  let c16_i32_433 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v576 : BitVec 32 := Scalar.muli c16_i32_433 v2
  let v577 : BitVec 32 := v576
  let c0_i32_2417 : BitVec 32 := 0#32
  ![v577.toNat, 0]
def k0_off94 (d0 : Dev nD) : Fin 2 → Nat :=
  let c16_i32_432 : BitVec 32 := 16#32
  let c16_i32_420 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_416 : BitVec 32 := 16#32
  let v553 : BitVec 32 := Scalar.addi v2 c16_i32_416
  let c31_i32_417 : BitVec 32 := 31#32
  let v554 : BitVec 32 := Scalar.andi v553 c31_i32_417
  let c1_i32_418 : BitVec 32 := 1#32
  let v555 : BitVec 32 := Scalar.shrsi v554 c1_i32_418
  let v556 : BitVec 32 := Scalar.xori v554 v555
  let c1_i32_419 : BitVec 32 := 1#32
  let v557 : BitVec 32 := Scalar.andi v556 c1_i32_419
  let v558 : BitVec 32 := Scalar.muli c16_i32_420 v557
  let c8_i32_423 : BitVec 32 := 8#32
  let c1_i32_421 : BitVec 32 := 1#32
  let v559 : BitVec 32 := Scalar.shrsi v554 c1_i32_421
  let c1_i32_422 : BitVec 32 := 1#32
  let v560 : BitVec 32 := Scalar.andi v559 c1_i32_422
  let v561 : BitVec 32 := Scalar.muli c8_i32_423 v560
  let v562 : BitVec 32 := Scalar.addi v558 v561
  let c4_i32_426 : BitVec 32 := 4#32
  let c3_i32_424 : BitVec 32 := 3#32
  let v563 : BitVec 32 := Scalar.shrsi v554 c3_i32_424
  let c1_i32_425 : BitVec 32 := 1#32
  let v564 : BitVec 32 := Scalar.andi v563 c1_i32_425
  let v565 : BitVec 32 := Scalar.muli c4_i32_426 v564
  let v566 : BitVec 32 := Scalar.addi v562 v565
  let c2_i32_429 : BitVec 32 := 2#32
  let c2_i32_427 : BitVec 32 := 2#32
  let v567 : BitVec 32 := Scalar.shrsi v554 c2_i32_427
  let c1_i32_428 : BitVec 32 := 1#32
  let v568 : BitVec 32 := Scalar.andi v567 c1_i32_428
  let v569 : BitVec 32 := Scalar.muli c2_i32_429 v568
  let v570 : BitVec 32 := Scalar.addi v566 v569
  let c4_i32_430 : BitVec 32 := 4#32
  let v571 : BitVec 32 := Scalar.shrsi v554 c4_i32_430
  let c1_i32_431 : BitVec 32 := 1#32
  let v572 : BitVec 32 := Scalar.andi v571 c1_i32_431
  let v573 : BitVec 32 := Scalar.addi v570 v572
  let v574 : BitVec 32 := Scalar.muli c16_i32_432 v573
  let v575 : BitVec 32 := v574
  let c0_i32_2418 : BitVec 32 := 0#32
  ![v575.toNat, 0]
def k0_dev78 (d0 : Dev nD) : Nat :=
  let c0_i32_2416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_416 : BitVec 32 := 16#32
  let v553 : BitVec 32 := Scalar.addi v2 c16_i32_416
  let c31_i32_417 : BitVec 32 := 31#32
  let v554 : BitVec 32 := Scalar.andi v553 c31_i32_417
  let c1_i32_2415 : BitVec 32 := 1#32
  let v2911 : BitVec 32 := Scalar.muli v554 c1_i32_2415
  let v2912 : BitVec 32 := Scalar.addi c0_i32_2416 v2911
  v2912.toNat
def k0_cond48 (d0 : Dev nD) : BitVec 1 :=
  let c16_i32_438 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_434 : BitVec 32 := 17#32
  let v578 : BitVec 32 := Scalar.addi v2 c17_i32_434
  let c31_i32_435 : BitVec 32 := 31#32
  let v579 : BitVec 32 := Scalar.andi v578 c31_i32_435
  let c1_i32_436 : BitVec 32 := 1#32
  let v580 : BitVec 32 := Scalar.shrsi v579 c1_i32_436
  let v581 : BitVec 32 := Scalar.xori v579 v580
  let c1_i32_437 : BitVec 32 := 1#32
  let v582 : BitVec 32 := Scalar.andi v581 c1_i32_437
  let v583 : BitVec 32 := Scalar.muli c16_i32_438 v582
  let c8_i32_441 : BitVec 32 := 8#32
  let c1_i32_439 : BitVec 32 := 1#32
  let v584 : BitVec 32 := Scalar.shrsi v579 c1_i32_439
  let c1_i32_440 : BitVec 32 := 1#32
  let v585 : BitVec 32 := Scalar.andi v584 c1_i32_440
  let v586 : BitVec 32 := Scalar.muli c8_i32_441 v585
  let v587 : BitVec 32 := Scalar.addi v583 v586
  let c4_i32_444 : BitVec 32 := 4#32
  let c3_i32_442 : BitVec 32 := 3#32
  let v588 : BitVec 32 := Scalar.shrsi v579 c3_i32_442
  let c1_i32_443 : BitVec 32 := 1#32
  let v589 : BitVec 32 := Scalar.andi v588 c1_i32_443
  let v590 : BitVec 32 := Scalar.muli c4_i32_444 v589
  let v591 : BitVec 32 := Scalar.addi v587 v590
  let c2_i32_447 : BitVec 32 := 2#32
  let c2_i32_445 : BitVec 32 := 2#32
  let v592 : BitVec 32 := Scalar.shrsi v579 c2_i32_445
  let c1_i32_446 : BitVec 32 := 1#32
  let v593 : BitVec 32 := Scalar.andi v592 c1_i32_446
  let v594 : BitVec 32 := Scalar.muli c2_i32_447 v593
  let v595 : BitVec 32 := Scalar.addi v591 v594
  let c4_i32_448 : BitVec 32 := 4#32
  let v596 : BitVec 32 := Scalar.shrsi v579 c4_i32_448
  let c1_i32_449 : BitVec 32 := 1#32
  let v597 : BitVec 32 := Scalar.andi v596 c1_i32_449
  let v598 : BitVec 32 := Scalar.addi v595 v597
  let c16_i32_946 : BitVec 32 := 16#32
  let v1238 : BitVec 1 := Scalar.cmpi .sge v598 c16_i32_946
  let v1239 : BitVec 32 := Scalar.extui v1238
  let c0_i32_949 : BitVec 32 := 0#32
  let v1240 : BitVec 1 := Scalar.cmpi .ne v1239 c0_i32_949
  v1240

def k0_off95 (d0 : Dev nD) : Fin 2 → Nat :=
  let c16_i32_451 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v601 : BitVec 32 := Scalar.muli c16_i32_451 v2
  let v602 : BitVec 32 := v601
  let c0_i32_2417 : BitVec 32 := 0#32
  ![v602.toNat, 0]
def k0_off96 (d0 : Dev nD) : Fin 2 → Nat :=
  let c16_i32_450 : BitVec 32 := 16#32
  let c16_i32_438 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_434 : BitVec 32 := 17#32
  let v578 : BitVec 32 := Scalar.addi v2 c17_i32_434
  let c31_i32_435 : BitVec 32 := 31#32
  let v579 : BitVec 32 := Scalar.andi v578 c31_i32_435
  let c1_i32_436 : BitVec 32 := 1#32
  let v580 : BitVec 32 := Scalar.shrsi v579 c1_i32_436
  let v581 : BitVec 32 := Scalar.xori v579 v580
  let c1_i32_437 : BitVec 32 := 1#32
  let v582 : BitVec 32 := Scalar.andi v581 c1_i32_437
  let v583 : BitVec 32 := Scalar.muli c16_i32_438 v582
  let c8_i32_441 : BitVec 32 := 8#32
  let c1_i32_439 : BitVec 32 := 1#32
  let v584 : BitVec 32 := Scalar.shrsi v579 c1_i32_439
  let c1_i32_440 : BitVec 32 := 1#32
  let v585 : BitVec 32 := Scalar.andi v584 c1_i32_440
  let v586 : BitVec 32 := Scalar.muli c8_i32_441 v585
  let v587 : BitVec 32 := Scalar.addi v583 v586
  let c4_i32_444 : BitVec 32 := 4#32
  let c3_i32_442 : BitVec 32 := 3#32
  let v588 : BitVec 32 := Scalar.shrsi v579 c3_i32_442
  let c1_i32_443 : BitVec 32 := 1#32
  let v589 : BitVec 32 := Scalar.andi v588 c1_i32_443
  let v590 : BitVec 32 := Scalar.muli c4_i32_444 v589
  let v591 : BitVec 32 := Scalar.addi v587 v590
  let c2_i32_447 : BitVec 32 := 2#32
  let c2_i32_445 : BitVec 32 := 2#32
  let v592 : BitVec 32 := Scalar.shrsi v579 c2_i32_445
  let c1_i32_446 : BitVec 32 := 1#32
  let v593 : BitVec 32 := Scalar.andi v592 c1_i32_446
  let v594 : BitVec 32 := Scalar.muli c2_i32_447 v593
  let v595 : BitVec 32 := Scalar.addi v591 v594
  let c4_i32_448 : BitVec 32 := 4#32
  let v596 : BitVec 32 := Scalar.shrsi v579 c4_i32_448
  let c1_i32_449 : BitVec 32 := 1#32
  let v597 : BitVec 32 := Scalar.andi v596 c1_i32_449
  let v598 : BitVec 32 := Scalar.addi v595 v597
  let v599 : BitVec 32 := Scalar.muli c16_i32_450 v598
  let v600 : BitVec 32 := v599
  let c0_i32_2418 : BitVec 32 := 0#32
  ![v600.toNat, 0]
def k0_dev79 (d0 : Dev nD) : Nat :=
  let c0_i32_2416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_434 : BitVec 32 := 17#32
  let v578 : BitVec 32 := Scalar.addi v2 c17_i32_434
  let c31_i32_435 : BitVec 32 := 31#32
  let v579 : BitVec 32 := Scalar.andi v578 c31_i32_435
  let c1_i32_2415 : BitVec 32 := 1#32
  let v2911 : BitVec 32 := Scalar.muli v579 c1_i32_2415
  let v2912 : BitVec 32 := Scalar.addi c0_i32_2416 v2911
  v2912.toNat
def k0_cond49 (d0 : Dev nD) : BitVec 1 :=
  let c16_i32_456 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_452 : BitVec 32 := 18#32
  let v603 : BitVec 32 := Scalar.addi v2 c18_i32_452
  let c31_i32_453 : BitVec 32 := 31#32
  let v604 : BitVec 32 := Scalar.andi v603 c31_i32_453
  let c1_i32_454 : BitVec 32 := 1#32
  let v605 : BitVec 32 := Scalar.shrsi v604 c1_i32_454
  let v606 : BitVec 32 := Scalar.xori v604 v605
  let c1_i32_455 : BitVec 32 := 1#32
  let v607 : BitVec 32 := Scalar.andi v606 c1_i32_455
  let v608 : BitVec 32 := Scalar.muli c16_i32_456 v607
  let c8_i32_459 : BitVec 32 := 8#32
  let c1_i32_457 : BitVec 32 := 1#32
  let v609 : BitVec 32 := Scalar.shrsi v604 c1_i32_457
  let c1_i32_458 : BitVec 32 := 1#32
  let v610 : BitVec 32 := Scalar.andi v609 c1_i32_458
  let v611 : BitVec 32 := Scalar.muli c8_i32_459 v610
  let v612 : BitVec 32 := Scalar.addi v608 v611
  let c4_i32_462 : BitVec 32 := 4#32
  let c3_i32_460 : BitVec 32 := 3#32
  let v613 : BitVec 32 := Scalar.shrsi v604 c3_i32_460
  let c1_i32_461 : BitVec 32 := 1#32
  let v614 : BitVec 32 := Scalar.andi v613 c1_i32_461
  let v615 : BitVec 32 := Scalar.muli c4_i32_462 v614
  let v616 : BitVec 32 := Scalar.addi v612 v615
  let c2_i32_465 : BitVec 32 := 2#32
  let c2_i32_463 : BitVec 32 := 2#32
  let v617 : BitVec 32 := Scalar.shrsi v604 c2_i32_463
  let c1_i32_464 : BitVec 32 := 1#32
  let v618 : BitVec 32 := Scalar.andi v617 c1_i32_464
  let v619 : BitVec 32 := Scalar.muli c2_i32_465 v618
  let v620 : BitVec 32 := Scalar.addi v616 v619
  let c4_i32_466 : BitVec 32 := 4#32
  let v621 : BitVec 32 := Scalar.shrsi v604 c4_i32_466
  let c1_i32_467 : BitVec 32 := 1#32
  let v622 : BitVec 32 := Scalar.andi v621 c1_i32_467
  let v623 : BitVec 32 := Scalar.addi v620 v622
  let c16_i32_950 : BitVec 32 := 16#32
  let v1241 : BitVec 1 := Scalar.cmpi .sge v623 c16_i32_950
  let v1242 : BitVec 32 := Scalar.extui v1241
  let c0_i32_953 : BitVec 32 := 0#32
  let v1243 : BitVec 1 := Scalar.cmpi .ne v1242 c0_i32_953
  v1243

def k0_off97 (d0 : Dev nD) : Fin 2 → Nat :=
  let c16_i32_469 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v626 : BitVec 32 := Scalar.muli c16_i32_469 v2
  let v627 : BitVec 32 := v626
  let c0_i32_2417 : BitVec 32 := 0#32
  ![v627.toNat, 0]
def k0_off98 (d0 : Dev nD) : Fin 2 → Nat :=
  let c16_i32_468 : BitVec 32 := 16#32
  let c16_i32_456 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_452 : BitVec 32 := 18#32
  let v603 : BitVec 32 := Scalar.addi v2 c18_i32_452
  let c31_i32_453 : BitVec 32 := 31#32
  let v604 : BitVec 32 := Scalar.andi v603 c31_i32_453
  let c1_i32_454 : BitVec 32 := 1#32
  let v605 : BitVec 32 := Scalar.shrsi v604 c1_i32_454
  let v606 : BitVec 32 := Scalar.xori v604 v605
  let c1_i32_455 : BitVec 32 := 1#32
  let v607 : BitVec 32 := Scalar.andi v606 c1_i32_455
  let v608 : BitVec 32 := Scalar.muli c16_i32_456 v607
  let c8_i32_459 : BitVec 32 := 8#32
  let c1_i32_457 : BitVec 32 := 1#32
  let v609 : BitVec 32 := Scalar.shrsi v604 c1_i32_457
  let c1_i32_458 : BitVec 32 := 1#32
  let v610 : BitVec 32 := Scalar.andi v609 c1_i32_458
  let v611 : BitVec 32 := Scalar.muli c8_i32_459 v610
  let v612 : BitVec 32 := Scalar.addi v608 v611
  let c4_i32_462 : BitVec 32 := 4#32
  let c3_i32_460 : BitVec 32 := 3#32
  let v613 : BitVec 32 := Scalar.shrsi v604 c3_i32_460
  let c1_i32_461 : BitVec 32 := 1#32
  let v614 : BitVec 32 := Scalar.andi v613 c1_i32_461
  let v615 : BitVec 32 := Scalar.muli c4_i32_462 v614
  let v616 : BitVec 32 := Scalar.addi v612 v615
  let c2_i32_465 : BitVec 32 := 2#32
  let c2_i32_463 : BitVec 32 := 2#32
  let v617 : BitVec 32 := Scalar.shrsi v604 c2_i32_463
  let c1_i32_464 : BitVec 32 := 1#32
  let v618 : BitVec 32 := Scalar.andi v617 c1_i32_464
  let v619 : BitVec 32 := Scalar.muli c2_i32_465 v618
  let v620 : BitVec 32 := Scalar.addi v616 v619
  let c4_i32_466 : BitVec 32 := 4#32
  let v621 : BitVec 32 := Scalar.shrsi v604 c4_i32_466
  let c1_i32_467 : BitVec 32 := 1#32
  let v622 : BitVec 32 := Scalar.andi v621 c1_i32_467
  let v623 : BitVec 32 := Scalar.addi v620 v622
  let v624 : BitVec 32 := Scalar.muli c16_i32_468 v623
  let v625 : BitVec 32 := v624
  let c0_i32_2418 : BitVec 32 := 0#32
  ![v625.toNat, 0]
def k0_dev80 (d0 : Dev nD) : Nat :=
  let c0_i32_2416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_452 : BitVec 32 := 18#32
  let v603 : BitVec 32 := Scalar.addi v2 c18_i32_452
  let c31_i32_453 : BitVec 32 := 31#32
  let v604 : BitVec 32 := Scalar.andi v603 c31_i32_453
  let c1_i32_2415 : BitVec 32 := 1#32
  let v2911 : BitVec 32 := Scalar.muli v604 c1_i32_2415
  let v2912 : BitVec 32 := Scalar.addi c0_i32_2416 v2911
  v2912.toNat
def k0_cond50 (d0 : Dev nD) : BitVec 1 :=
  let c16_i32_474 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_470 : BitVec 32 := 19#32
  let v628 : BitVec 32 := Scalar.addi v2 c19_i32_470
  let c31_i32_471 : BitVec 32 := 31#32
  let v629 : BitVec 32 := Scalar.andi v628 c31_i32_471
  let c1_i32_472 : BitVec 32 := 1#32
  let v630 : BitVec 32 := Scalar.shrsi v629 c1_i32_472
  let v631 : BitVec 32 := Scalar.xori v629 v630
  let c1_i32_473 : BitVec 32 := 1#32
  let v632 : BitVec 32 := Scalar.andi v631 c1_i32_473
  let v633 : BitVec 32 := Scalar.muli c16_i32_474 v632
  let c8_i32_477 : BitVec 32 := 8#32
  let c1_i32_475 : BitVec 32 := 1#32
  let v634 : BitVec 32 := Scalar.shrsi v629 c1_i32_475
  let c1_i32_476 : BitVec 32 := 1#32
  let v635 : BitVec 32 := Scalar.andi v634 c1_i32_476
  let v636 : BitVec 32 := Scalar.muli c8_i32_477 v635
  let v637 : BitVec 32 := Scalar.addi v633 v636
  let c4_i32_480 : BitVec 32 := 4#32
  let c3_i32_478 : BitVec 32 := 3#32
  let v638 : BitVec 32 := Scalar.shrsi v629 c3_i32_478
  let c1_i32_479 : BitVec 32 := 1#32
  let v639 : BitVec 32 := Scalar.andi v638 c1_i32_479
  let v640 : BitVec 32 := Scalar.muli c4_i32_480 v639
  let v641 : BitVec 32 := Scalar.addi v637 v640
  let c2_i32_483 : BitVec 32 := 2#32
  let c2_i32_481 : BitVec 32 := 2#32
  let v642 : BitVec 32 := Scalar.shrsi v629 c2_i32_481
  let c1_i32_482 : BitVec 32 := 1#32
  let v643 : BitVec 32 := Scalar.andi v642 c1_i32_482
  let v644 : BitVec 32 := Scalar.muli c2_i32_483 v643
  let v645 : BitVec 32 := Scalar.addi v641 v644
  let c4_i32_484 : BitVec 32 := 4#32
  let v646 : BitVec 32 := Scalar.shrsi v629 c4_i32_484
  let c1_i32_485 : BitVec 32 := 1#32
  let v647 : BitVec 32 := Scalar.andi v646 c1_i32_485
  let v648 : BitVec 32 := Scalar.addi v645 v647
  let c16_i32_954 : BitVec 32 := 16#32
  let v1244 : BitVec 1 := Scalar.cmpi .sge v648 c16_i32_954
  let v1245 : BitVec 32 := Scalar.extui v1244
  let c0_i32_957 : BitVec 32 := 0#32
  let v1246 : BitVec 1 := Scalar.cmpi .ne v1245 c0_i32_957
  v1246

def k0_off99 (d0 : Dev nD) : Fin 2 → Nat :=
  let c16_i32_487 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v651 : BitVec 32 := Scalar.muli c16_i32_487 v2
  let v652 : BitVec 32 := v651
  let c0_i32_2417 : BitVec 32 := 0#32
  ![v652.toNat, 0]
def k0_off100 (d0 : Dev nD) : Fin 2 → Nat :=
  let c16_i32_486 : BitVec 32 := 16#32
  let c16_i32_474 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_470 : BitVec 32 := 19#32
  let v628 : BitVec 32 := Scalar.addi v2 c19_i32_470
  let c31_i32_471 : BitVec 32 := 31#32
  let v629 : BitVec 32 := Scalar.andi v628 c31_i32_471
  let c1_i32_472 : BitVec 32 := 1#32
  let v630 : BitVec 32 := Scalar.shrsi v629 c1_i32_472
  let v631 : BitVec 32 := Scalar.xori v629 v630
  let c1_i32_473 : BitVec 32 := 1#32
  let v632 : BitVec 32 := Scalar.andi v631 c1_i32_473
  let v633 : BitVec 32 := Scalar.muli c16_i32_474 v632
  let c8_i32_477 : BitVec 32 := 8#32
  let c1_i32_475 : BitVec 32 := 1#32
  let v634 : BitVec 32 := Scalar.shrsi v629 c1_i32_475
  let c1_i32_476 : BitVec 32 := 1#32
  let v635 : BitVec 32 := Scalar.andi v634 c1_i32_476
  let v636 : BitVec 32 := Scalar.muli c8_i32_477 v635
  let v637 : BitVec 32 := Scalar.addi v633 v636
  let c4_i32_480 : BitVec 32 := 4#32
  let c3_i32_478 : BitVec 32 := 3#32
  let v638 : BitVec 32 := Scalar.shrsi v629 c3_i32_478
  let c1_i32_479 : BitVec 32 := 1#32
  let v639 : BitVec 32 := Scalar.andi v638 c1_i32_479
  let v640 : BitVec 32 := Scalar.muli c4_i32_480 v639
  let v641 : BitVec 32 := Scalar.addi v637 v640
  let c2_i32_483 : BitVec 32 := 2#32
  let c2_i32_481 : BitVec 32 := 2#32
  let v642 : BitVec 32 := Scalar.shrsi v629 c2_i32_481
  let c1_i32_482 : BitVec 32 := 1#32
  let v643 : BitVec 32 := Scalar.andi v642 c1_i32_482
  let v644 : BitVec 32 := Scalar.muli c2_i32_483 v643
  let v645 : BitVec 32 := Scalar.addi v641 v644
  let c4_i32_484 : BitVec 32 := 4#32
  let v646 : BitVec 32 := Scalar.shrsi v629 c4_i32_484
  let c1_i32_485 : BitVec 32 := 1#32
  let v647 : BitVec 32 := Scalar.andi v646 c1_i32_485
  let v648 : BitVec 32 := Scalar.addi v645 v647
  let v649 : BitVec 32 := Scalar.muli c16_i32_486 v648
  let v650 : BitVec 32 := v649
  let c0_i32_2418 : BitVec 32 := 0#32
  ![v650.toNat, 0]
def k0_dev81 (d0 : Dev nD) : Nat :=
  let c0_i32_2416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_470 : BitVec 32 := 19#32
  let v628 : BitVec 32 := Scalar.addi v2 c19_i32_470
  let c31_i32_471 : BitVec 32 := 31#32
  let v629 : BitVec 32 := Scalar.andi v628 c31_i32_471
  let c1_i32_2415 : BitVec 32 := 1#32
  let v2911 : BitVec 32 := Scalar.muli v629 c1_i32_2415
  let v2912 : BitVec 32 := Scalar.addi c0_i32_2416 v2911
  v2912.toNat
def k0_cond51 (d0 : Dev nD) : BitVec 1 :=
  let c16_i32_492 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_488 : BitVec 32 := 20#32
  let v653 : BitVec 32 := Scalar.addi v2 c20_i32_488
  let c31_i32_489 : BitVec 32 := 31#32
  let v654 : BitVec 32 := Scalar.andi v653 c31_i32_489
  let c1_i32_490 : BitVec 32 := 1#32
  let v655 : BitVec 32 := Scalar.shrsi v654 c1_i32_490
  let v656 : BitVec 32 := Scalar.xori v654 v655
  let c1_i32_491 : BitVec 32 := 1#32
  let v657 : BitVec 32 := Scalar.andi v656 c1_i32_491
  let v658 : BitVec 32 := Scalar.muli c16_i32_492 v657
  let c8_i32_495 : BitVec 32 := 8#32
  let c1_i32_493 : BitVec 32 := 1#32
  let v659 : BitVec 32 := Scalar.shrsi v654 c1_i32_493
  let c1_i32_494 : BitVec 32 := 1#32
  let v660 : BitVec 32 := Scalar.andi v659 c1_i32_494
  let v661 : BitVec 32 := Scalar.muli c8_i32_495 v660
  let v662 : BitVec 32 := Scalar.addi v658 v661
  let c4_i32_498 : BitVec 32 := 4#32
  let c3_i32_496 : BitVec 32 := 3#32
  let v663 : BitVec 32 := Scalar.shrsi v654 c3_i32_496
  let c1_i32_497 : BitVec 32 := 1#32
  let v664 : BitVec 32 := Scalar.andi v663 c1_i32_497
  let v665 : BitVec 32 := Scalar.muli c4_i32_498 v664
  let v666 : BitVec 32 := Scalar.addi v662 v665
  let c2_i32_501 : BitVec 32 := 2#32
  let c2_i32_499 : BitVec 32 := 2#32
  let v667 : BitVec 32 := Scalar.shrsi v654 c2_i32_499
  let c1_i32_500 : BitVec 32 := 1#32
  let v668 : BitVec 32 := Scalar.andi v667 c1_i32_500
  let v669 : BitVec 32 := Scalar.muli c2_i32_501 v668
  let v670 : BitVec 32 := Scalar.addi v666 v669
  let c4_i32_502 : BitVec 32 := 4#32
  let v671 : BitVec 32 := Scalar.shrsi v654 c4_i32_502
  let c1_i32_503 : BitVec 32 := 1#32
  let v672 : BitVec 32 := Scalar.andi v671 c1_i32_503
  let v673 : BitVec 32 := Scalar.addi v670 v672
  let c16_i32_958 : BitVec 32 := 16#32
  let v1247 : BitVec 1 := Scalar.cmpi .sge v673 c16_i32_958
  let v1248 : BitVec 32 := Scalar.extui v1247
  let c0_i32_961 : BitVec 32 := 0#32
  let v1249 : BitVec 1 := Scalar.cmpi .ne v1248 c0_i32_961
  v1249

def k0_off101 (d0 : Dev nD) : Fin 2 → Nat :=
  let c16_i32_505 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v676 : BitVec 32 := Scalar.muli c16_i32_505 v2
  let v677 : BitVec 32 := v676
  let c0_i32_2417 : BitVec 32 := 0#32
  ![v677.toNat, 0]
def k0_off102 (d0 : Dev nD) : Fin 2 → Nat :=
  let c16_i32_504 : BitVec 32 := 16#32
  let c16_i32_492 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_488 : BitVec 32 := 20#32
  let v653 : BitVec 32 := Scalar.addi v2 c20_i32_488
  let c31_i32_489 : BitVec 32 := 31#32
  let v654 : BitVec 32 := Scalar.andi v653 c31_i32_489
  let c1_i32_490 : BitVec 32 := 1#32
  let v655 : BitVec 32 := Scalar.shrsi v654 c1_i32_490
  let v656 : BitVec 32 := Scalar.xori v654 v655
  let c1_i32_491 : BitVec 32 := 1#32
  let v657 : BitVec 32 := Scalar.andi v656 c1_i32_491
  let v658 : BitVec 32 := Scalar.muli c16_i32_492 v657
  let c8_i32_495 : BitVec 32 := 8#32
  let c1_i32_493 : BitVec 32 := 1#32
  let v659 : BitVec 32 := Scalar.shrsi v654 c1_i32_493
  let c1_i32_494 : BitVec 32 := 1#32
  let v660 : BitVec 32 := Scalar.andi v659 c1_i32_494
  let v661 : BitVec 32 := Scalar.muli c8_i32_495 v660
  let v662 : BitVec 32 := Scalar.addi v658 v661
  let c4_i32_498 : BitVec 32 := 4#32
  let c3_i32_496 : BitVec 32 := 3#32
  let v663 : BitVec 32 := Scalar.shrsi v654 c3_i32_496
  let c1_i32_497 : BitVec 32 := 1#32
  let v664 : BitVec 32 := Scalar.andi v663 c1_i32_497
  let v665 : BitVec 32 := Scalar.muli c4_i32_498 v664
  let v666 : BitVec 32 := Scalar.addi v662 v665
  let c2_i32_501 : BitVec 32 := 2#32
  let c2_i32_499 : BitVec 32 := 2#32
  let v667 : BitVec 32 := Scalar.shrsi v654 c2_i32_499
  let c1_i32_500 : BitVec 32 := 1#32
  let v668 : BitVec 32 := Scalar.andi v667 c1_i32_500
  let v669 : BitVec 32 := Scalar.muli c2_i32_501 v668
  let v670 : BitVec 32 := Scalar.addi v666 v669
  let c4_i32_502 : BitVec 32 := 4#32
  let v671 : BitVec 32 := Scalar.shrsi v654 c4_i32_502
  let c1_i32_503 : BitVec 32 := 1#32
  let v672 : BitVec 32 := Scalar.andi v671 c1_i32_503
  let v673 : BitVec 32 := Scalar.addi v670 v672
  let v674 : BitVec 32 := Scalar.muli c16_i32_504 v673
  let v675 : BitVec 32 := v674
  let c0_i32_2418 : BitVec 32 := 0#32
  ![v675.toNat, 0]
def k0_dev82 (d0 : Dev nD) : Nat :=
  let c0_i32_2416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_488 : BitVec 32 := 20#32
  let v653 : BitVec 32 := Scalar.addi v2 c20_i32_488
  let c31_i32_489 : BitVec 32 := 31#32
  let v654 : BitVec 32 := Scalar.andi v653 c31_i32_489
  let c1_i32_2415 : BitVec 32 := 1#32
  let v2911 : BitVec 32 := Scalar.muli v654 c1_i32_2415
  let v2912 : BitVec 32 := Scalar.addi c0_i32_2416 v2911
  v2912.toNat
def k0_cond52 (d0 : Dev nD) : BitVec 1 :=
  let c16_i32_510 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_506 : BitVec 32 := 21#32
  let v678 : BitVec 32 := Scalar.addi v2 c21_i32_506
  let c31_i32_507 : BitVec 32 := 31#32
  let v679 : BitVec 32 := Scalar.andi v678 c31_i32_507
  let c1_i32_508 : BitVec 32 := 1#32
  let v680 : BitVec 32 := Scalar.shrsi v679 c1_i32_508
  let v681 : BitVec 32 := Scalar.xori v679 v680
  let c1_i32_509 : BitVec 32 := 1#32
  let v682 : BitVec 32 := Scalar.andi v681 c1_i32_509
  let v683 : BitVec 32 := Scalar.muli c16_i32_510 v682
  let c8_i32_513 : BitVec 32 := 8#32
  let c1_i32_511 : BitVec 32 := 1#32
  let v684 : BitVec 32 := Scalar.shrsi v679 c1_i32_511
  let c1_i32_512 : BitVec 32 := 1#32
  let v685 : BitVec 32 := Scalar.andi v684 c1_i32_512
  let v686 : BitVec 32 := Scalar.muli c8_i32_513 v685
  let v687 : BitVec 32 := Scalar.addi v683 v686
  let c4_i32_516 : BitVec 32 := 4#32
  let c3_i32_514 : BitVec 32 := 3#32
  let v688 : BitVec 32 := Scalar.shrsi v679 c3_i32_514
  let c1_i32_515 : BitVec 32 := 1#32
  let v689 : BitVec 32 := Scalar.andi v688 c1_i32_515
  let v690 : BitVec 32 := Scalar.muli c4_i32_516 v689
  let v691 : BitVec 32 := Scalar.addi v687 v690
  let c2_i32_519 : BitVec 32 := 2#32
  let c2_i32_517 : BitVec 32 := 2#32
  let v692 : BitVec 32 := Scalar.shrsi v679 c2_i32_517
  let c1_i32_518 : BitVec 32 := 1#32
  let v693 : BitVec 32 := Scalar.andi v692 c1_i32_518
  let v694 : BitVec 32 := Scalar.muli c2_i32_519 v693
  let v695 : BitVec 32 := Scalar.addi v691 v694
  let c4_i32_520 : BitVec 32 := 4#32
  let v696 : BitVec 32 := Scalar.shrsi v679 c4_i32_520
  let c1_i32_521 : BitVec 32 := 1#32
  let v697 : BitVec 32 := Scalar.andi v696 c1_i32_521
  let v698 : BitVec 32 := Scalar.addi v695 v697
  let c16_i32_962 : BitVec 32 := 16#32
  let v1250 : BitVec 1 := Scalar.cmpi .sge v698 c16_i32_962
  let v1251 : BitVec 32 := Scalar.extui v1250
  let c0_i32_965 : BitVec 32 := 0#32
  let v1252 : BitVec 1 := Scalar.cmpi .ne v1251 c0_i32_965
  v1252

def k0_off103 (d0 : Dev nD) : Fin 2 → Nat :=
  let c16_i32_523 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v701 : BitVec 32 := Scalar.muli c16_i32_523 v2
  let v702 : BitVec 32 := v701
  let c0_i32_2417 : BitVec 32 := 0#32
  ![v702.toNat, 0]
def k0_off104 (d0 : Dev nD) : Fin 2 → Nat :=
  let c16_i32_522 : BitVec 32 := 16#32
  let c16_i32_510 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_506 : BitVec 32 := 21#32
  let v678 : BitVec 32 := Scalar.addi v2 c21_i32_506
  let c31_i32_507 : BitVec 32 := 31#32
  let v679 : BitVec 32 := Scalar.andi v678 c31_i32_507
  let c1_i32_508 : BitVec 32 := 1#32
  let v680 : BitVec 32 := Scalar.shrsi v679 c1_i32_508
  let v681 : BitVec 32 := Scalar.xori v679 v680
  let c1_i32_509 : BitVec 32 := 1#32
  let v682 : BitVec 32 := Scalar.andi v681 c1_i32_509
  let v683 : BitVec 32 := Scalar.muli c16_i32_510 v682
  let c8_i32_513 : BitVec 32 := 8#32
  let c1_i32_511 : BitVec 32 := 1#32
  let v684 : BitVec 32 := Scalar.shrsi v679 c1_i32_511
  let c1_i32_512 : BitVec 32 := 1#32
  let v685 : BitVec 32 := Scalar.andi v684 c1_i32_512
  let v686 : BitVec 32 := Scalar.muli c8_i32_513 v685
  let v687 : BitVec 32 := Scalar.addi v683 v686
  let c4_i32_516 : BitVec 32 := 4#32
  let c3_i32_514 : BitVec 32 := 3#32
  let v688 : BitVec 32 := Scalar.shrsi v679 c3_i32_514
  let c1_i32_515 : BitVec 32 := 1#32
  let v689 : BitVec 32 := Scalar.andi v688 c1_i32_515
  let v690 : BitVec 32 := Scalar.muli c4_i32_516 v689
  let v691 : BitVec 32 := Scalar.addi v687 v690
  let c2_i32_519 : BitVec 32 := 2#32
  let c2_i32_517 : BitVec 32 := 2#32
  let v692 : BitVec 32 := Scalar.shrsi v679 c2_i32_517
  let c1_i32_518 : BitVec 32 := 1#32
  let v693 : BitVec 32 := Scalar.andi v692 c1_i32_518
  let v694 : BitVec 32 := Scalar.muli c2_i32_519 v693
  let v695 : BitVec 32 := Scalar.addi v691 v694
  let c4_i32_520 : BitVec 32 := 4#32
  let v696 : BitVec 32 := Scalar.shrsi v679 c4_i32_520
  let c1_i32_521 : BitVec 32 := 1#32
  let v697 : BitVec 32 := Scalar.andi v696 c1_i32_521
  let v698 : BitVec 32 := Scalar.addi v695 v697
  let v699 : BitVec 32 := Scalar.muli c16_i32_522 v698
  let v700 : BitVec 32 := v699
  let c0_i32_2418 : BitVec 32 := 0#32
  ![v700.toNat, 0]
def k0_dev83 (d0 : Dev nD) : Nat :=
  let c0_i32_2416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_506 : BitVec 32 := 21#32
  let v678 : BitVec 32 := Scalar.addi v2 c21_i32_506
  let c31_i32_507 : BitVec 32 := 31#32
  let v679 : BitVec 32 := Scalar.andi v678 c31_i32_507
  let c1_i32_2415 : BitVec 32 := 1#32
  let v2911 : BitVec 32 := Scalar.muli v679 c1_i32_2415
  let v2912 : BitVec 32 := Scalar.addi c0_i32_2416 v2911
  v2912.toNat
def k0_cond53 (d0 : Dev nD) : BitVec 1 :=
  let c16_i32_528 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_524 : BitVec 32 := 22#32
  let v703 : BitVec 32 := Scalar.addi v2 c22_i32_524
  let c31_i32_525 : BitVec 32 := 31#32
  let v704 : BitVec 32 := Scalar.andi v703 c31_i32_525
  let c1_i32_526 : BitVec 32 := 1#32
  let v705 : BitVec 32 := Scalar.shrsi v704 c1_i32_526
  let v706 : BitVec 32 := Scalar.xori v704 v705
  let c1_i32_527 : BitVec 32 := 1#32
  let v707 : BitVec 32 := Scalar.andi v706 c1_i32_527
  let v708 : BitVec 32 := Scalar.muli c16_i32_528 v707
  let c8_i32_531 : BitVec 32 := 8#32
  let c1_i32_529 : BitVec 32 := 1#32
  let v709 : BitVec 32 := Scalar.shrsi v704 c1_i32_529
  let c1_i32_530 : BitVec 32 := 1#32
  let v710 : BitVec 32 := Scalar.andi v709 c1_i32_530
  let v711 : BitVec 32 := Scalar.muli c8_i32_531 v710
  let v712 : BitVec 32 := Scalar.addi v708 v711
  let c4_i32_534 : BitVec 32 := 4#32
  let c3_i32_532 : BitVec 32 := 3#32
  let v713 : BitVec 32 := Scalar.shrsi v704 c3_i32_532
  let c1_i32_533 : BitVec 32 := 1#32
  let v714 : BitVec 32 := Scalar.andi v713 c1_i32_533
  let v715 : BitVec 32 := Scalar.muli c4_i32_534 v714
  let v716 : BitVec 32 := Scalar.addi v712 v715
  let c2_i32_537 : BitVec 32 := 2#32
  let c2_i32_535 : BitVec 32 := 2#32
  let v717 : BitVec 32 := Scalar.shrsi v704 c2_i32_535
  let c1_i32_536 : BitVec 32 := 1#32
  let v718 : BitVec 32 := Scalar.andi v717 c1_i32_536
  let v719 : BitVec 32 := Scalar.muli c2_i32_537 v718
  let v720 : BitVec 32 := Scalar.addi v716 v719
  let c4_i32_538 : BitVec 32 := 4#32
  let v721 : BitVec 32 := Scalar.shrsi v704 c4_i32_538
  let c1_i32_539 : BitVec 32 := 1#32
  let v722 : BitVec 32 := Scalar.andi v721 c1_i32_539
  let v723 : BitVec 32 := Scalar.addi v720 v722
  let c16_i32_966 : BitVec 32 := 16#32
  let v1253 : BitVec 1 := Scalar.cmpi .sge v723 c16_i32_966
  let v1254 : BitVec 32 := Scalar.extui v1253
  let c0_i32_969 : BitVec 32 := 0#32
  let v1255 : BitVec 1 := Scalar.cmpi .ne v1254 c0_i32_969
  v1255

def k0_off105 (d0 : Dev nD) : Fin 2 → Nat :=
  let c16_i32_541 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v726 : BitVec 32 := Scalar.muli c16_i32_541 v2
  let v727 : BitVec 32 := v726
  let c0_i32_2417 : BitVec 32 := 0#32
  ![v727.toNat, 0]
def k0_off106 (d0 : Dev nD) : Fin 2 → Nat :=
  let c16_i32_540 : BitVec 32 := 16#32
  let c16_i32_528 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_524 : BitVec 32 := 22#32
  let v703 : BitVec 32 := Scalar.addi v2 c22_i32_524
  let c31_i32_525 : BitVec 32 := 31#32
  let v704 : BitVec 32 := Scalar.andi v703 c31_i32_525
  let c1_i32_526 : BitVec 32 := 1#32
  let v705 : BitVec 32 := Scalar.shrsi v704 c1_i32_526
  let v706 : BitVec 32 := Scalar.xori v704 v705
  let c1_i32_527 : BitVec 32 := 1#32
  let v707 : BitVec 32 := Scalar.andi v706 c1_i32_527
  let v708 : BitVec 32 := Scalar.muli c16_i32_528 v707
  let c8_i32_531 : BitVec 32 := 8#32
  let c1_i32_529 : BitVec 32 := 1#32
  let v709 : BitVec 32 := Scalar.shrsi v704 c1_i32_529
  let c1_i32_530 : BitVec 32 := 1#32
  let v710 : BitVec 32 := Scalar.andi v709 c1_i32_530
  let v711 : BitVec 32 := Scalar.muli c8_i32_531 v710
  let v712 : BitVec 32 := Scalar.addi v708 v711
  let c4_i32_534 : BitVec 32 := 4#32
  let c3_i32_532 : BitVec 32 := 3#32
  let v713 : BitVec 32 := Scalar.shrsi v704 c3_i32_532
  let c1_i32_533 : BitVec 32 := 1#32
  let v714 : BitVec 32 := Scalar.andi v713 c1_i32_533
  let v715 : BitVec 32 := Scalar.muli c4_i32_534 v714
  let v716 : BitVec 32 := Scalar.addi v712 v715
  let c2_i32_537 : BitVec 32 := 2#32
  let c2_i32_535 : BitVec 32 := 2#32
  let v717 : BitVec 32 := Scalar.shrsi v704 c2_i32_535
  let c1_i32_536 : BitVec 32 := 1#32
  let v718 : BitVec 32 := Scalar.andi v717 c1_i32_536
  let v719 : BitVec 32 := Scalar.muli c2_i32_537 v718
  let v720 : BitVec 32 := Scalar.addi v716 v719
  let c4_i32_538 : BitVec 32 := 4#32
  let v721 : BitVec 32 := Scalar.shrsi v704 c4_i32_538
  let c1_i32_539 : BitVec 32 := 1#32
  let v722 : BitVec 32 := Scalar.andi v721 c1_i32_539
  let v723 : BitVec 32 := Scalar.addi v720 v722
  let v724 : BitVec 32 := Scalar.muli c16_i32_540 v723
  let v725 : BitVec 32 := v724
  let c0_i32_2418 : BitVec 32 := 0#32
  ![v725.toNat, 0]
def k0_dev84 (d0 : Dev nD) : Nat :=
  let c0_i32_2416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_524 : BitVec 32 := 22#32
  let v703 : BitVec 32 := Scalar.addi v2 c22_i32_524
  let c31_i32_525 : BitVec 32 := 31#32
  let v704 : BitVec 32 := Scalar.andi v703 c31_i32_525
  let c1_i32_2415 : BitVec 32 := 1#32
  let v2911 : BitVec 32 := Scalar.muli v704 c1_i32_2415
  let v2912 : BitVec 32 := Scalar.addi c0_i32_2416 v2911
  v2912.toNat
def k0_cond54 (d0 : Dev nD) : BitVec 1 :=
  let c16_i32_546 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_542 : BitVec 32 := 23#32
  let v728 : BitVec 32 := Scalar.addi v2 c23_i32_542
  let c31_i32_543 : BitVec 32 := 31#32
  let v729 : BitVec 32 := Scalar.andi v728 c31_i32_543
  let c1_i32_544 : BitVec 32 := 1#32
  let v730 : BitVec 32 := Scalar.shrsi v729 c1_i32_544
  let v731 : BitVec 32 := Scalar.xori v729 v730
  let c1_i32_545 : BitVec 32 := 1#32
  let v732 : BitVec 32 := Scalar.andi v731 c1_i32_545
  let v733 : BitVec 32 := Scalar.muli c16_i32_546 v732
  let c8_i32_549 : BitVec 32 := 8#32
  let c1_i32_547 : BitVec 32 := 1#32
  let v734 : BitVec 32 := Scalar.shrsi v729 c1_i32_547
  let c1_i32_548 : BitVec 32 := 1#32
  let v735 : BitVec 32 := Scalar.andi v734 c1_i32_548
  let v736 : BitVec 32 := Scalar.muli c8_i32_549 v735
  let v737 : BitVec 32 := Scalar.addi v733 v736
  let c4_i32_552 : BitVec 32 := 4#32
  let c3_i32_550 : BitVec 32 := 3#32
  let v738 : BitVec 32 := Scalar.shrsi v729 c3_i32_550
  let c1_i32_551 : BitVec 32 := 1#32
  let v739 : BitVec 32 := Scalar.andi v738 c1_i32_551
  let v740 : BitVec 32 := Scalar.muli c4_i32_552 v739
  let v741 : BitVec 32 := Scalar.addi v737 v740
  let c2_i32_555 : BitVec 32 := 2#32
  let c2_i32_553 : BitVec 32 := 2#32
  let v742 : BitVec 32 := Scalar.shrsi v729 c2_i32_553
  let c1_i32_554 : BitVec 32 := 1#32
  let v743 : BitVec 32 := Scalar.andi v742 c1_i32_554
  let v744 : BitVec 32 := Scalar.muli c2_i32_555 v743
  let v745 : BitVec 32 := Scalar.addi v741 v744
  let c4_i32_556 : BitVec 32 := 4#32
  let v746 : BitVec 32 := Scalar.shrsi v729 c4_i32_556
  let c1_i32_557 : BitVec 32 := 1#32
  let v747 : BitVec 32 := Scalar.andi v746 c1_i32_557
  let v748 : BitVec 32 := Scalar.addi v745 v747
  let c16_i32_970 : BitVec 32 := 16#32
  let v1256 : BitVec 1 := Scalar.cmpi .sge v748 c16_i32_970
  let v1257 : BitVec 32 := Scalar.extui v1256
  let c0_i32_973 : BitVec 32 := 0#32
  let v1258 : BitVec 1 := Scalar.cmpi .ne v1257 c0_i32_973
  v1258

def k0_off107 (d0 : Dev nD) : Fin 2 → Nat :=
  let c16_i32_559 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v751 : BitVec 32 := Scalar.muli c16_i32_559 v2
  let v752 : BitVec 32 := v751
  let c0_i32_2417 : BitVec 32 := 0#32
  ![v752.toNat, 0]
def k0_off108 (d0 : Dev nD) : Fin 2 → Nat :=
  let c16_i32_558 : BitVec 32 := 16#32
  let c16_i32_546 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_542 : BitVec 32 := 23#32
  let v728 : BitVec 32 := Scalar.addi v2 c23_i32_542
  let c31_i32_543 : BitVec 32 := 31#32
  let v729 : BitVec 32 := Scalar.andi v728 c31_i32_543
  let c1_i32_544 : BitVec 32 := 1#32
  let v730 : BitVec 32 := Scalar.shrsi v729 c1_i32_544
  let v731 : BitVec 32 := Scalar.xori v729 v730
  let c1_i32_545 : BitVec 32 := 1#32
  let v732 : BitVec 32 := Scalar.andi v731 c1_i32_545
  let v733 : BitVec 32 := Scalar.muli c16_i32_546 v732
  let c8_i32_549 : BitVec 32 := 8#32
  let c1_i32_547 : BitVec 32 := 1#32
  let v734 : BitVec 32 := Scalar.shrsi v729 c1_i32_547
  let c1_i32_548 : BitVec 32 := 1#32
  let v735 : BitVec 32 := Scalar.andi v734 c1_i32_548
  let v736 : BitVec 32 := Scalar.muli c8_i32_549 v735
  let v737 : BitVec 32 := Scalar.addi v733 v736
  let c4_i32_552 : BitVec 32 := 4#32
  let c3_i32_550 : BitVec 32 := 3#32
  let v738 : BitVec 32 := Scalar.shrsi v729 c3_i32_550
  let c1_i32_551 : BitVec 32 := 1#32
  let v739 : BitVec 32 := Scalar.andi v738 c1_i32_551
  let v740 : BitVec 32 := Scalar.muli c4_i32_552 v739
  let v741 : BitVec 32 := Scalar.addi v737 v740
  let c2_i32_555 : BitVec 32 := 2#32
  let c2_i32_553 : BitVec 32 := 2#32
  let v742 : BitVec 32 := Scalar.shrsi v729 c2_i32_553
  let c1_i32_554 : BitVec 32 := 1#32
  let v743 : BitVec 32 := Scalar.andi v742 c1_i32_554
  let v744 : BitVec 32 := Scalar.muli c2_i32_555 v743
  let v745 : BitVec 32 := Scalar.addi v741 v744
  let c4_i32_556 : BitVec 32 := 4#32
  let v746 : BitVec 32 := Scalar.shrsi v729 c4_i32_556
  let c1_i32_557 : BitVec 32 := 1#32
  let v747 : BitVec 32 := Scalar.andi v746 c1_i32_557
  let v748 : BitVec 32 := Scalar.addi v745 v747
  let v749 : BitVec 32 := Scalar.muli c16_i32_558 v748
  let v750 : BitVec 32 := v749
  let c0_i32_2418 : BitVec 32 := 0#32
  ![v750.toNat, 0]
def k0_dev85 (d0 : Dev nD) : Nat :=
  let c0_i32_2416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_542 : BitVec 32 := 23#32
  let v728 : BitVec 32 := Scalar.addi v2 c23_i32_542
  let c31_i32_543 : BitVec 32 := 31#32
  let v729 : BitVec 32 := Scalar.andi v728 c31_i32_543
  let c1_i32_2415 : BitVec 32 := 1#32
  let v2911 : BitVec 32 := Scalar.muli v729 c1_i32_2415
  let v2912 : BitVec 32 := Scalar.addi c0_i32_2416 v2911
  v2912.toNat
def k0_cond55 (d0 : Dev nD) : BitVec 1 :=
  let c16_i32_564 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_560 : BitVec 32 := 24#32
  let v753 : BitVec 32 := Scalar.addi v2 c24_i32_560
  let c31_i32_561 : BitVec 32 := 31#32
  let v754 : BitVec 32 := Scalar.andi v753 c31_i32_561
  let c1_i32_562 : BitVec 32 := 1#32
  let v755 : BitVec 32 := Scalar.shrsi v754 c1_i32_562
  let v756 : BitVec 32 := Scalar.xori v754 v755
  let c1_i32_563 : BitVec 32 := 1#32
  let v757 : BitVec 32 := Scalar.andi v756 c1_i32_563
  let v758 : BitVec 32 := Scalar.muli c16_i32_564 v757
  let c8_i32_567 : BitVec 32 := 8#32
  let c1_i32_565 : BitVec 32 := 1#32
  let v759 : BitVec 32 := Scalar.shrsi v754 c1_i32_565
  let c1_i32_566 : BitVec 32 := 1#32
  let v760 : BitVec 32 := Scalar.andi v759 c1_i32_566
  let v761 : BitVec 32 := Scalar.muli c8_i32_567 v760
  let v762 : BitVec 32 := Scalar.addi v758 v761
  let c4_i32_570 : BitVec 32 := 4#32
  let c3_i32_568 : BitVec 32 := 3#32
  let v763 : BitVec 32 := Scalar.shrsi v754 c3_i32_568
  let c1_i32_569 : BitVec 32 := 1#32
  let v764 : BitVec 32 := Scalar.andi v763 c1_i32_569
  let v765 : BitVec 32 := Scalar.muli c4_i32_570 v764
  let v766 : BitVec 32 := Scalar.addi v762 v765
  let c2_i32_573 : BitVec 32 := 2#32
  let c2_i32_571 : BitVec 32 := 2#32
  let v767 : BitVec 32 := Scalar.shrsi v754 c2_i32_571
  let c1_i32_572 : BitVec 32 := 1#32
  let v768 : BitVec 32 := Scalar.andi v767 c1_i32_572
  let v769 : BitVec 32 := Scalar.muli c2_i32_573 v768
  let v770 : BitVec 32 := Scalar.addi v766 v769
  let c4_i32_574 : BitVec 32 := 4#32
  let v771 : BitVec 32 := Scalar.shrsi v754 c4_i32_574
  let c1_i32_575 : BitVec 32 := 1#32
  let v772 : BitVec 32 := Scalar.andi v771 c1_i32_575
  let v773 : BitVec 32 := Scalar.addi v770 v772
  let c16_i32_974 : BitVec 32 := 16#32
  let v1259 : BitVec 1 := Scalar.cmpi .sge v773 c16_i32_974
  let v1260 : BitVec 32 := Scalar.extui v1259
  let c0_i32_977 : BitVec 32 := 0#32
  let v1261 : BitVec 1 := Scalar.cmpi .ne v1260 c0_i32_977
  v1261

def k0_off109 (d0 : Dev nD) : Fin 2 → Nat :=
  let c16_i32_577 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v776 : BitVec 32 := Scalar.muli c16_i32_577 v2
  let v777 : BitVec 32 := v776
  let c0_i32_2417 : BitVec 32 := 0#32
  ![v777.toNat, 0]
def k0_off110 (d0 : Dev nD) : Fin 2 → Nat :=
  let c16_i32_576 : BitVec 32 := 16#32
  let c16_i32_564 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_560 : BitVec 32 := 24#32
  let v753 : BitVec 32 := Scalar.addi v2 c24_i32_560
  let c31_i32_561 : BitVec 32 := 31#32
  let v754 : BitVec 32 := Scalar.andi v753 c31_i32_561
  let c1_i32_562 : BitVec 32 := 1#32
  let v755 : BitVec 32 := Scalar.shrsi v754 c1_i32_562
  let v756 : BitVec 32 := Scalar.xori v754 v755
  let c1_i32_563 : BitVec 32 := 1#32
  let v757 : BitVec 32 := Scalar.andi v756 c1_i32_563
  let v758 : BitVec 32 := Scalar.muli c16_i32_564 v757
  let c8_i32_567 : BitVec 32 := 8#32
  let c1_i32_565 : BitVec 32 := 1#32
  let v759 : BitVec 32 := Scalar.shrsi v754 c1_i32_565
  let c1_i32_566 : BitVec 32 := 1#32
  let v760 : BitVec 32 := Scalar.andi v759 c1_i32_566
  let v761 : BitVec 32 := Scalar.muli c8_i32_567 v760
  let v762 : BitVec 32 := Scalar.addi v758 v761
  let c4_i32_570 : BitVec 32 := 4#32
  let c3_i32_568 : BitVec 32 := 3#32
  let v763 : BitVec 32 := Scalar.shrsi v754 c3_i32_568
  let c1_i32_569 : BitVec 32 := 1#32
  let v764 : BitVec 32 := Scalar.andi v763 c1_i32_569
  let v765 : BitVec 32 := Scalar.muli c4_i32_570 v764
  let v766 : BitVec 32 := Scalar.addi v762 v765
  let c2_i32_573 : BitVec 32 := 2#32
  let c2_i32_571 : BitVec 32 := 2#32
  let v767 : BitVec 32 := Scalar.shrsi v754 c2_i32_571
  let c1_i32_572 : BitVec 32 := 1#32
  let v768 : BitVec 32 := Scalar.andi v767 c1_i32_572
  let v769 : BitVec 32 := Scalar.muli c2_i32_573 v768
  let v770 : BitVec 32 := Scalar.addi v766 v769
  let c4_i32_574 : BitVec 32 := 4#32
  let v771 : BitVec 32 := Scalar.shrsi v754 c4_i32_574
  let c1_i32_575 : BitVec 32 := 1#32
  let v772 : BitVec 32 := Scalar.andi v771 c1_i32_575
  let v773 : BitVec 32 := Scalar.addi v770 v772
  let v774 : BitVec 32 := Scalar.muli c16_i32_576 v773
  let v775 : BitVec 32 := v774
  let c0_i32_2418 : BitVec 32 := 0#32
  ![v775.toNat, 0]
def k0_dev86 (d0 : Dev nD) : Nat :=
  let c0_i32_2416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_560 : BitVec 32 := 24#32
  let v753 : BitVec 32 := Scalar.addi v2 c24_i32_560
  let c31_i32_561 : BitVec 32 := 31#32
  let v754 : BitVec 32 := Scalar.andi v753 c31_i32_561
  let c1_i32_2415 : BitVec 32 := 1#32
  let v2911 : BitVec 32 := Scalar.muli v754 c1_i32_2415
  let v2912 : BitVec 32 := Scalar.addi c0_i32_2416 v2911
  v2912.toNat
def k0_cond56 (d0 : Dev nD) : BitVec 1 :=
  let c16_i32_582 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_578 : BitVec 32 := 25#32
  let v778 : BitVec 32 := Scalar.addi v2 c25_i32_578
  let c31_i32_579 : BitVec 32 := 31#32
  let v779 : BitVec 32 := Scalar.andi v778 c31_i32_579
  let c1_i32_580 : BitVec 32 := 1#32
  let v780 : BitVec 32 := Scalar.shrsi v779 c1_i32_580
  let v781 : BitVec 32 := Scalar.xori v779 v780
  let c1_i32_581 : BitVec 32 := 1#32
  let v782 : BitVec 32 := Scalar.andi v781 c1_i32_581
  let v783 : BitVec 32 := Scalar.muli c16_i32_582 v782
  let c8_i32_585 : BitVec 32 := 8#32
  let c1_i32_583 : BitVec 32 := 1#32
  let v784 : BitVec 32 := Scalar.shrsi v779 c1_i32_583
  let c1_i32_584 : BitVec 32 := 1#32
  let v785 : BitVec 32 := Scalar.andi v784 c1_i32_584
  let v786 : BitVec 32 := Scalar.muli c8_i32_585 v785
  let v787 : BitVec 32 := Scalar.addi v783 v786
  let c4_i32_588 : BitVec 32 := 4#32
  let c3_i32_586 : BitVec 32 := 3#32
  let v788 : BitVec 32 := Scalar.shrsi v779 c3_i32_586
  let c1_i32_587 : BitVec 32 := 1#32
  let v789 : BitVec 32 := Scalar.andi v788 c1_i32_587
  let v790 : BitVec 32 := Scalar.muli c4_i32_588 v789
  let v791 : BitVec 32 := Scalar.addi v787 v790
  let c2_i32_591 : BitVec 32 := 2#32
  let c2_i32_589 : BitVec 32 := 2#32
  let v792 : BitVec 32 := Scalar.shrsi v779 c2_i32_589
  let c1_i32_590 : BitVec 32 := 1#32
  let v793 : BitVec 32 := Scalar.andi v792 c1_i32_590
  let v794 : BitVec 32 := Scalar.muli c2_i32_591 v793
  let v795 : BitVec 32 := Scalar.addi v791 v794
  let c4_i32_592 : BitVec 32 := 4#32
  let v796 : BitVec 32 := Scalar.shrsi v779 c4_i32_592
  let c1_i32_593 : BitVec 32 := 1#32
  let v797 : BitVec 32 := Scalar.andi v796 c1_i32_593
  let v798 : BitVec 32 := Scalar.addi v795 v797
  let c16_i32_978 : BitVec 32 := 16#32
  let v1262 : BitVec 1 := Scalar.cmpi .sge v798 c16_i32_978
  let v1263 : BitVec 32 := Scalar.extui v1262
  let c0_i32_981 : BitVec 32 := 0#32
  let v1264 : BitVec 1 := Scalar.cmpi .ne v1263 c0_i32_981
  v1264

def k0_off111 (d0 : Dev nD) : Fin 2 → Nat :=
  let c16_i32_595 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v801 : BitVec 32 := Scalar.muli c16_i32_595 v2
  let v802 : BitVec 32 := v801
  let c0_i32_2417 : BitVec 32 := 0#32
  ![v802.toNat, 0]
def k0_off112 (d0 : Dev nD) : Fin 2 → Nat :=
  let c16_i32_594 : BitVec 32 := 16#32
  let c16_i32_582 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_578 : BitVec 32 := 25#32
  let v778 : BitVec 32 := Scalar.addi v2 c25_i32_578
  let c31_i32_579 : BitVec 32 := 31#32
  let v779 : BitVec 32 := Scalar.andi v778 c31_i32_579
  let c1_i32_580 : BitVec 32 := 1#32
  let v780 : BitVec 32 := Scalar.shrsi v779 c1_i32_580
  let v781 : BitVec 32 := Scalar.xori v779 v780
  let c1_i32_581 : BitVec 32 := 1#32
  let v782 : BitVec 32 := Scalar.andi v781 c1_i32_581
  let v783 : BitVec 32 := Scalar.muli c16_i32_582 v782
  let c8_i32_585 : BitVec 32 := 8#32
  let c1_i32_583 : BitVec 32 := 1#32
  let v784 : BitVec 32 := Scalar.shrsi v779 c1_i32_583
  let c1_i32_584 : BitVec 32 := 1#32
  let v785 : BitVec 32 := Scalar.andi v784 c1_i32_584
  let v786 : BitVec 32 := Scalar.muli c8_i32_585 v785
  let v787 : BitVec 32 := Scalar.addi v783 v786
  let c4_i32_588 : BitVec 32 := 4#32
  let c3_i32_586 : BitVec 32 := 3#32
  let v788 : BitVec 32 := Scalar.shrsi v779 c3_i32_586
  let c1_i32_587 : BitVec 32 := 1#32
  let v789 : BitVec 32 := Scalar.andi v788 c1_i32_587
  let v790 : BitVec 32 := Scalar.muli c4_i32_588 v789
  let v791 : BitVec 32 := Scalar.addi v787 v790
  let c2_i32_591 : BitVec 32 := 2#32
  let c2_i32_589 : BitVec 32 := 2#32
  let v792 : BitVec 32 := Scalar.shrsi v779 c2_i32_589
  let c1_i32_590 : BitVec 32 := 1#32
  let v793 : BitVec 32 := Scalar.andi v792 c1_i32_590
  let v794 : BitVec 32 := Scalar.muli c2_i32_591 v793
  let v795 : BitVec 32 := Scalar.addi v791 v794
  let c4_i32_592 : BitVec 32 := 4#32
  let v796 : BitVec 32 := Scalar.shrsi v779 c4_i32_592
  let c1_i32_593 : BitVec 32 := 1#32
  let v797 : BitVec 32 := Scalar.andi v796 c1_i32_593
  let v798 : BitVec 32 := Scalar.addi v795 v797
  let v799 : BitVec 32 := Scalar.muli c16_i32_594 v798
  let v800 : BitVec 32 := v799
  let c0_i32_2418 : BitVec 32 := 0#32
  ![v800.toNat, 0]
def k0_dev87 (d0 : Dev nD) : Nat :=
  let c0_i32_2416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_578 : BitVec 32 := 25#32
  let v778 : BitVec 32 := Scalar.addi v2 c25_i32_578
  let c31_i32_579 : BitVec 32 := 31#32
  let v779 : BitVec 32 := Scalar.andi v778 c31_i32_579
  let c1_i32_2415 : BitVec 32 := 1#32
  let v2911 : BitVec 32 := Scalar.muli v779 c1_i32_2415
  let v2912 : BitVec 32 := Scalar.addi c0_i32_2416 v2911
  v2912.toNat
def k0_cond57 (d0 : Dev nD) : BitVec 1 :=
  let c16_i32_600 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_596 : BitVec 32 := 26#32
  let v803 : BitVec 32 := Scalar.addi v2 c26_i32_596
  let c31_i32_597 : BitVec 32 := 31#32
  let v804 : BitVec 32 := Scalar.andi v803 c31_i32_597
  let c1_i32_598 : BitVec 32 := 1#32
  let v805 : BitVec 32 := Scalar.shrsi v804 c1_i32_598
  let v806 : BitVec 32 := Scalar.xori v804 v805
  let c1_i32_599 : BitVec 32 := 1#32
  let v807 : BitVec 32 := Scalar.andi v806 c1_i32_599
  let v808 : BitVec 32 := Scalar.muli c16_i32_600 v807
  let c8_i32_603 : BitVec 32 := 8#32
  let c1_i32_601 : BitVec 32 := 1#32
  let v809 : BitVec 32 := Scalar.shrsi v804 c1_i32_601
  let c1_i32_602 : BitVec 32 := 1#32
  let v810 : BitVec 32 := Scalar.andi v809 c1_i32_602
  let v811 : BitVec 32 := Scalar.muli c8_i32_603 v810
  let v812 : BitVec 32 := Scalar.addi v808 v811
  let c4_i32_606 : BitVec 32 := 4#32
  let c3_i32_604 : BitVec 32 := 3#32
  let v813 : BitVec 32 := Scalar.shrsi v804 c3_i32_604
  let c1_i32_605 : BitVec 32 := 1#32
  let v814 : BitVec 32 := Scalar.andi v813 c1_i32_605
  let v815 : BitVec 32 := Scalar.muli c4_i32_606 v814
  let v816 : BitVec 32 := Scalar.addi v812 v815
  let c2_i32_609 : BitVec 32 := 2#32
  let c2_i32_607 : BitVec 32 := 2#32
  let v817 : BitVec 32 := Scalar.shrsi v804 c2_i32_607
  let c1_i32_608 : BitVec 32 := 1#32
  let v818 : BitVec 32 := Scalar.andi v817 c1_i32_608
  let v819 : BitVec 32 := Scalar.muli c2_i32_609 v818
  let v820 : BitVec 32 := Scalar.addi v816 v819
  let c4_i32_610 : BitVec 32 := 4#32
  let v821 : BitVec 32 := Scalar.shrsi v804 c4_i32_610
  let c1_i32_611 : BitVec 32 := 1#32
  let v822 : BitVec 32 := Scalar.andi v821 c1_i32_611
  let v823 : BitVec 32 := Scalar.addi v820 v822
  let c16_i32_982 : BitVec 32 := 16#32
  let v1265 : BitVec 1 := Scalar.cmpi .sge v823 c16_i32_982
  let v1266 : BitVec 32 := Scalar.extui v1265
  let c0_i32_985 : BitVec 32 := 0#32
  let v1267 : BitVec 1 := Scalar.cmpi .ne v1266 c0_i32_985
  v1267

def k0_off113 (d0 : Dev nD) : Fin 2 → Nat :=
  let c16_i32_613 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v826 : BitVec 32 := Scalar.muli c16_i32_613 v2
  let v827 : BitVec 32 := v826
  let c0_i32_2417 : BitVec 32 := 0#32
  ![v827.toNat, 0]
def k0_off114 (d0 : Dev nD) : Fin 2 → Nat :=
  let c16_i32_612 : BitVec 32 := 16#32
  let c16_i32_600 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_596 : BitVec 32 := 26#32
  let v803 : BitVec 32 := Scalar.addi v2 c26_i32_596
  let c31_i32_597 : BitVec 32 := 31#32
  let v804 : BitVec 32 := Scalar.andi v803 c31_i32_597
  let c1_i32_598 : BitVec 32 := 1#32
  let v805 : BitVec 32 := Scalar.shrsi v804 c1_i32_598
  let v806 : BitVec 32 := Scalar.xori v804 v805
  let c1_i32_599 : BitVec 32 := 1#32
  let v807 : BitVec 32 := Scalar.andi v806 c1_i32_599
  let v808 : BitVec 32 := Scalar.muli c16_i32_600 v807
  let c8_i32_603 : BitVec 32 := 8#32
  let c1_i32_601 : BitVec 32 := 1#32
  let v809 : BitVec 32 := Scalar.shrsi v804 c1_i32_601
  let c1_i32_602 : BitVec 32 := 1#32
  let v810 : BitVec 32 := Scalar.andi v809 c1_i32_602
  let v811 : BitVec 32 := Scalar.muli c8_i32_603 v810
  let v812 : BitVec 32 := Scalar.addi v808 v811
  let c4_i32_606 : BitVec 32 := 4#32
  let c3_i32_604 : BitVec 32 := 3#32
  let v813 : BitVec 32 := Scalar.shrsi v804 c3_i32_604
  let c1_i32_605 : BitVec 32 := 1#32
  let v814 : BitVec 32 := Scalar.andi v813 c1_i32_605
  let v815 : BitVec 32 := Scalar.muli c4_i32_606 v814
  let v816 : BitVec 32 := Scalar.addi v812 v815
  let c2_i32_609 : BitVec 32 := 2#32
  let c2_i32_607 : BitVec 32 := 2#32
  let v817 : BitVec 32 := Scalar.shrsi v804 c2_i32_607
  let c1_i32_608 : BitVec 32 := 1#32
  let v818 : BitVec 32 := Scalar.andi v817 c1_i32_608
  let v819 : BitVec 32 := Scalar.muli c2_i32_609 v818
  let v820 : BitVec 32 := Scalar.addi v816 v819
  let c4_i32_610 : BitVec 32 := 4#32
  let v821 : BitVec 32 := Scalar.shrsi v804 c4_i32_610
  let c1_i32_611 : BitVec 32 := 1#32
  let v822 : BitVec 32 := Scalar.andi v821 c1_i32_611
  let v823 : BitVec 32 := Scalar.addi v820 v822
  let v824 : BitVec 32 := Scalar.muli c16_i32_612 v823
  let v825 : BitVec 32 := v824
  let c0_i32_2418 : BitVec 32 := 0#32
  ![v825.toNat, 0]
def k0_dev88 (d0 : Dev nD) : Nat :=
  let c0_i32_2416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_596 : BitVec 32 := 26#32
  let v803 : BitVec 32 := Scalar.addi v2 c26_i32_596
  let c31_i32_597 : BitVec 32 := 31#32
  let v804 : BitVec 32 := Scalar.andi v803 c31_i32_597
  let c1_i32_2415 : BitVec 32 := 1#32
  let v2911 : BitVec 32 := Scalar.muli v804 c1_i32_2415
  let v2912 : BitVec 32 := Scalar.addi c0_i32_2416 v2911
  v2912.toNat
def k0_cond58 (d0 : Dev nD) : BitVec 1 :=
  let c16_i32_618 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_614 : BitVec 32 := 27#32
  let v828 : BitVec 32 := Scalar.addi v2 c27_i32_614
  let c31_i32_615 : BitVec 32 := 31#32
  let v829 : BitVec 32 := Scalar.andi v828 c31_i32_615
  let c1_i32_616 : BitVec 32 := 1#32
  let v830 : BitVec 32 := Scalar.shrsi v829 c1_i32_616
  let v831 : BitVec 32 := Scalar.xori v829 v830
  let c1_i32_617 : BitVec 32 := 1#32
  let v832 : BitVec 32 := Scalar.andi v831 c1_i32_617
  let v833 : BitVec 32 := Scalar.muli c16_i32_618 v832
  let c8_i32_621 : BitVec 32 := 8#32
  let c1_i32_619 : BitVec 32 := 1#32
  let v834 : BitVec 32 := Scalar.shrsi v829 c1_i32_619
  let c1_i32_620 : BitVec 32 := 1#32
  let v835 : BitVec 32 := Scalar.andi v834 c1_i32_620
  let v836 : BitVec 32 := Scalar.muli c8_i32_621 v835
  let v837 : BitVec 32 := Scalar.addi v833 v836
  let c4_i32_624 : BitVec 32 := 4#32
  let c3_i32_622 : BitVec 32 := 3#32
  let v838 : BitVec 32 := Scalar.shrsi v829 c3_i32_622
  let c1_i32_623 : BitVec 32 := 1#32
  let v839 : BitVec 32 := Scalar.andi v838 c1_i32_623
  let v840 : BitVec 32 := Scalar.muli c4_i32_624 v839
  let v841 : BitVec 32 := Scalar.addi v837 v840
  let c2_i32_627 : BitVec 32 := 2#32
  let c2_i32_625 : BitVec 32 := 2#32
  let v842 : BitVec 32 := Scalar.shrsi v829 c2_i32_625
  let c1_i32_626 : BitVec 32 := 1#32
  let v843 : BitVec 32 := Scalar.andi v842 c1_i32_626
  let v844 : BitVec 32 := Scalar.muli c2_i32_627 v843
  let v845 : BitVec 32 := Scalar.addi v841 v844
  let c4_i32_628 : BitVec 32 := 4#32
  let v846 : BitVec 32 := Scalar.shrsi v829 c4_i32_628
  let c1_i32_629 : BitVec 32 := 1#32
  let v847 : BitVec 32 := Scalar.andi v846 c1_i32_629
  let v848 : BitVec 32 := Scalar.addi v845 v847
  let c16_i32_986 : BitVec 32 := 16#32
  let v1268 : BitVec 1 := Scalar.cmpi .sge v848 c16_i32_986
  let v1269 : BitVec 32 := Scalar.extui v1268
  let c0_i32_989 : BitVec 32 := 0#32
  let v1270 : BitVec 1 := Scalar.cmpi .ne v1269 c0_i32_989
  v1270

def k0_off115 (d0 : Dev nD) : Fin 2 → Nat :=
  let c16_i32_631 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v851 : BitVec 32 := Scalar.muli c16_i32_631 v2
  let v852 : BitVec 32 := v851
  let c0_i32_2417 : BitVec 32 := 0#32
  ![v852.toNat, 0]
def k0_off116 (d0 : Dev nD) : Fin 2 → Nat :=
  let c16_i32_630 : BitVec 32 := 16#32
  let c16_i32_618 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_614 : BitVec 32 := 27#32
  let v828 : BitVec 32 := Scalar.addi v2 c27_i32_614
  let c31_i32_615 : BitVec 32 := 31#32
  let v829 : BitVec 32 := Scalar.andi v828 c31_i32_615
  let c1_i32_616 : BitVec 32 := 1#32
  let v830 : BitVec 32 := Scalar.shrsi v829 c1_i32_616
  let v831 : BitVec 32 := Scalar.xori v829 v830
  let c1_i32_617 : BitVec 32 := 1#32
  let v832 : BitVec 32 := Scalar.andi v831 c1_i32_617
  let v833 : BitVec 32 := Scalar.muli c16_i32_618 v832
  let c8_i32_621 : BitVec 32 := 8#32
  let c1_i32_619 : BitVec 32 := 1#32
  let v834 : BitVec 32 := Scalar.shrsi v829 c1_i32_619
  let c1_i32_620 : BitVec 32 := 1#32
  let v835 : BitVec 32 := Scalar.andi v834 c1_i32_620
  let v836 : BitVec 32 := Scalar.muli c8_i32_621 v835
  let v837 : BitVec 32 := Scalar.addi v833 v836
  let c4_i32_624 : BitVec 32 := 4#32
  let c3_i32_622 : BitVec 32 := 3#32
  let v838 : BitVec 32 := Scalar.shrsi v829 c3_i32_622
  let c1_i32_623 : BitVec 32 := 1#32
  let v839 : BitVec 32 := Scalar.andi v838 c1_i32_623
  let v840 : BitVec 32 := Scalar.muli c4_i32_624 v839
  let v841 : BitVec 32 := Scalar.addi v837 v840
  let c2_i32_627 : BitVec 32 := 2#32
  let c2_i32_625 : BitVec 32 := 2#32
  let v842 : BitVec 32 := Scalar.shrsi v829 c2_i32_625
  let c1_i32_626 : BitVec 32 := 1#32
  let v843 : BitVec 32 := Scalar.andi v842 c1_i32_626
  let v844 : BitVec 32 := Scalar.muli c2_i32_627 v843
  let v845 : BitVec 32 := Scalar.addi v841 v844
  let c4_i32_628 : BitVec 32 := 4#32
  let v846 : BitVec 32 := Scalar.shrsi v829 c4_i32_628
  let c1_i32_629 : BitVec 32 := 1#32
  let v847 : BitVec 32 := Scalar.andi v846 c1_i32_629
  let v848 : BitVec 32 := Scalar.addi v845 v847
  let v849 : BitVec 32 := Scalar.muli c16_i32_630 v848
  let v850 : BitVec 32 := v849
  let c0_i32_2418 : BitVec 32 := 0#32
  ![v850.toNat, 0]
def k0_dev89 (d0 : Dev nD) : Nat :=
  let c0_i32_2416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_614 : BitVec 32 := 27#32
  let v828 : BitVec 32 := Scalar.addi v2 c27_i32_614
  let c31_i32_615 : BitVec 32 := 31#32
  let v829 : BitVec 32 := Scalar.andi v828 c31_i32_615
  let c1_i32_2415 : BitVec 32 := 1#32
  let v2911 : BitVec 32 := Scalar.muli v829 c1_i32_2415
  let v2912 : BitVec 32 := Scalar.addi c0_i32_2416 v2911
  v2912.toNat
def k0_cond59 (d0 : Dev nD) : BitVec 1 :=
  let c16_i32_636 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_632 : BitVec 32 := 28#32
  let v853 : BitVec 32 := Scalar.addi v2 c28_i32_632
  let c31_i32_633 : BitVec 32 := 31#32
  let v854 : BitVec 32 := Scalar.andi v853 c31_i32_633
  let c1_i32_634 : BitVec 32 := 1#32
  let v855 : BitVec 32 := Scalar.shrsi v854 c1_i32_634
  let v856 : BitVec 32 := Scalar.xori v854 v855
  let c1_i32_635 : BitVec 32 := 1#32
  let v857 : BitVec 32 := Scalar.andi v856 c1_i32_635
  let v858 : BitVec 32 := Scalar.muli c16_i32_636 v857
  let c8_i32_639 : BitVec 32 := 8#32
  let c1_i32_637 : BitVec 32 := 1#32
  let v859 : BitVec 32 := Scalar.shrsi v854 c1_i32_637
  let c1_i32_638 : BitVec 32 := 1#32
  let v860 : BitVec 32 := Scalar.andi v859 c1_i32_638
  let v861 : BitVec 32 := Scalar.muli c8_i32_639 v860
  let v862 : BitVec 32 := Scalar.addi v858 v861
  let c4_i32_642 : BitVec 32 := 4#32
  let c3_i32_640 : BitVec 32 := 3#32
  let v863 : BitVec 32 := Scalar.shrsi v854 c3_i32_640
  let c1_i32_641 : BitVec 32 := 1#32
  let v864 : BitVec 32 := Scalar.andi v863 c1_i32_641
  let v865 : BitVec 32 := Scalar.muli c4_i32_642 v864
  let v866 : BitVec 32 := Scalar.addi v862 v865
  let c2_i32_645 : BitVec 32 := 2#32
  let c2_i32_643 : BitVec 32 := 2#32
  let v867 : BitVec 32 := Scalar.shrsi v854 c2_i32_643
  let c1_i32_644 : BitVec 32 := 1#32
  let v868 : BitVec 32 := Scalar.andi v867 c1_i32_644
  let v869 : BitVec 32 := Scalar.muli c2_i32_645 v868
  let v870 : BitVec 32 := Scalar.addi v866 v869
  let c4_i32_646 : BitVec 32 := 4#32
  let v871 : BitVec 32 := Scalar.shrsi v854 c4_i32_646
  let c1_i32_647 : BitVec 32 := 1#32
  let v872 : BitVec 32 := Scalar.andi v871 c1_i32_647
  let v873 : BitVec 32 := Scalar.addi v870 v872
  let c16_i32_990 : BitVec 32 := 16#32
  let v1271 : BitVec 1 := Scalar.cmpi .sge v873 c16_i32_990
  let v1272 : BitVec 32 := Scalar.extui v1271
  let c0_i32_993 : BitVec 32 := 0#32
  let v1273 : BitVec 1 := Scalar.cmpi .ne v1272 c0_i32_993
  v1273

def k0_off117 (d0 : Dev nD) : Fin 2 → Nat :=
  let c16_i32_649 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v876 : BitVec 32 := Scalar.muli c16_i32_649 v2
  let v877 : BitVec 32 := v876
  let c0_i32_2417 : BitVec 32 := 0#32
  ![v877.toNat, 0]
def k0_off118 (d0 : Dev nD) : Fin 2 → Nat :=
  let c16_i32_648 : BitVec 32 := 16#32
  let c16_i32_636 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_632 : BitVec 32 := 28#32
  let v853 : BitVec 32 := Scalar.addi v2 c28_i32_632
  let c31_i32_633 : BitVec 32 := 31#32
  let v854 : BitVec 32 := Scalar.andi v853 c31_i32_633
  let c1_i32_634 : BitVec 32 := 1#32
  let v855 : BitVec 32 := Scalar.shrsi v854 c1_i32_634
  let v856 : BitVec 32 := Scalar.xori v854 v855
  let c1_i32_635 : BitVec 32 := 1#32
  let v857 : BitVec 32 := Scalar.andi v856 c1_i32_635
  let v858 : BitVec 32 := Scalar.muli c16_i32_636 v857
  let c8_i32_639 : BitVec 32 := 8#32
  let c1_i32_637 : BitVec 32 := 1#32
  let v859 : BitVec 32 := Scalar.shrsi v854 c1_i32_637
  let c1_i32_638 : BitVec 32 := 1#32
  let v860 : BitVec 32 := Scalar.andi v859 c1_i32_638
  let v861 : BitVec 32 := Scalar.muli c8_i32_639 v860
  let v862 : BitVec 32 := Scalar.addi v858 v861
  let c4_i32_642 : BitVec 32 := 4#32
  let c3_i32_640 : BitVec 32 := 3#32
  let v863 : BitVec 32 := Scalar.shrsi v854 c3_i32_640
  let c1_i32_641 : BitVec 32 := 1#32
  let v864 : BitVec 32 := Scalar.andi v863 c1_i32_641
  let v865 : BitVec 32 := Scalar.muli c4_i32_642 v864
  let v866 : BitVec 32 := Scalar.addi v862 v865
  let c2_i32_645 : BitVec 32 := 2#32
  let c2_i32_643 : BitVec 32 := 2#32
  let v867 : BitVec 32 := Scalar.shrsi v854 c2_i32_643
  let c1_i32_644 : BitVec 32 := 1#32
  let v868 : BitVec 32 := Scalar.andi v867 c1_i32_644
  let v869 : BitVec 32 := Scalar.muli c2_i32_645 v868
  let v870 : BitVec 32 := Scalar.addi v866 v869
  let c4_i32_646 : BitVec 32 := 4#32
  let v871 : BitVec 32 := Scalar.shrsi v854 c4_i32_646
  let c1_i32_647 : BitVec 32 := 1#32
  let v872 : BitVec 32 := Scalar.andi v871 c1_i32_647
  let v873 : BitVec 32 := Scalar.addi v870 v872
  let v874 : BitVec 32 := Scalar.muli c16_i32_648 v873
  let v875 : BitVec 32 := v874
  let c0_i32_2418 : BitVec 32 := 0#32
  ![v875.toNat, 0]
def k0_dev90 (d0 : Dev nD) : Nat :=
  let c0_i32_2416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_632 : BitVec 32 := 28#32
  let v853 : BitVec 32 := Scalar.addi v2 c28_i32_632
  let c31_i32_633 : BitVec 32 := 31#32
  let v854 : BitVec 32 := Scalar.andi v853 c31_i32_633
  let c1_i32_2415 : BitVec 32 := 1#32
  let v2911 : BitVec 32 := Scalar.muli v854 c1_i32_2415
  let v2912 : BitVec 32 := Scalar.addi c0_i32_2416 v2911
  v2912.toNat
def k0_cond60 (d0 : Dev nD) : BitVec 1 :=
  let c16_i32_654 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_650 : BitVec 32 := 29#32
  let v878 : BitVec 32 := Scalar.addi v2 c29_i32_650
  let c31_i32_651 : BitVec 32 := 31#32
  let v879 : BitVec 32 := Scalar.andi v878 c31_i32_651
  let c1_i32_652 : BitVec 32 := 1#32
  let v880 : BitVec 32 := Scalar.shrsi v879 c1_i32_652
  let v881 : BitVec 32 := Scalar.xori v879 v880
  let c1_i32_653 : BitVec 32 := 1#32
  let v882 : BitVec 32 := Scalar.andi v881 c1_i32_653
  let v883 : BitVec 32 := Scalar.muli c16_i32_654 v882
  let c8_i32_657 : BitVec 32 := 8#32
  let c1_i32_655 : BitVec 32 := 1#32
  let v884 : BitVec 32 := Scalar.shrsi v879 c1_i32_655
  let c1_i32_656 : BitVec 32 := 1#32
  let v885 : BitVec 32 := Scalar.andi v884 c1_i32_656
  let v886 : BitVec 32 := Scalar.muli c8_i32_657 v885
  let v887 : BitVec 32 := Scalar.addi v883 v886
  let c4_i32_660 : BitVec 32 := 4#32
  let c3_i32_658 : BitVec 32 := 3#32
  let v888 : BitVec 32 := Scalar.shrsi v879 c3_i32_658
  let c1_i32_659 : BitVec 32 := 1#32
  let v889 : BitVec 32 := Scalar.andi v888 c1_i32_659
  let v890 : BitVec 32 := Scalar.muli c4_i32_660 v889
  let v891 : BitVec 32 := Scalar.addi v887 v890
  let c2_i32_663 : BitVec 32 := 2#32
  let c2_i32_661 : BitVec 32 := 2#32
  let v892 : BitVec 32 := Scalar.shrsi v879 c2_i32_661
  let c1_i32_662 : BitVec 32 := 1#32
  let v893 : BitVec 32 := Scalar.andi v892 c1_i32_662
  let v894 : BitVec 32 := Scalar.muli c2_i32_663 v893
  let v895 : BitVec 32 := Scalar.addi v891 v894
  let c4_i32_664 : BitVec 32 := 4#32
  let v896 : BitVec 32 := Scalar.shrsi v879 c4_i32_664
  let c1_i32_665 : BitVec 32 := 1#32
  let v897 : BitVec 32 := Scalar.andi v896 c1_i32_665
  let v898 : BitVec 32 := Scalar.addi v895 v897
  let c16_i32_994 : BitVec 32 := 16#32
  let v1274 : BitVec 1 := Scalar.cmpi .sge v898 c16_i32_994
  let v1275 : BitVec 32 := Scalar.extui v1274
  let c0_i32_997 : BitVec 32 := 0#32
  let v1276 : BitVec 1 := Scalar.cmpi .ne v1275 c0_i32_997
  v1276

def k0_off119 (d0 : Dev nD) : Fin 2 → Nat :=
  let c16_i32_667 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v901 : BitVec 32 := Scalar.muli c16_i32_667 v2
  let v902 : BitVec 32 := v901
  let c0_i32_2417 : BitVec 32 := 0#32
  ![v902.toNat, 0]
def k0_off120 (d0 : Dev nD) : Fin 2 → Nat :=
  let c16_i32_666 : BitVec 32 := 16#32
  let c16_i32_654 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_650 : BitVec 32 := 29#32
  let v878 : BitVec 32 := Scalar.addi v2 c29_i32_650
  let c31_i32_651 : BitVec 32 := 31#32
  let v879 : BitVec 32 := Scalar.andi v878 c31_i32_651
  let c1_i32_652 : BitVec 32 := 1#32
  let v880 : BitVec 32 := Scalar.shrsi v879 c1_i32_652
  let v881 : BitVec 32 := Scalar.xori v879 v880
  let c1_i32_653 : BitVec 32 := 1#32
  let v882 : BitVec 32 := Scalar.andi v881 c1_i32_653
  let v883 : BitVec 32 := Scalar.muli c16_i32_654 v882
  let c8_i32_657 : BitVec 32 := 8#32
  let c1_i32_655 : BitVec 32 := 1#32
  let v884 : BitVec 32 := Scalar.shrsi v879 c1_i32_655
  let c1_i32_656 : BitVec 32 := 1#32
  let v885 : BitVec 32 := Scalar.andi v884 c1_i32_656
  let v886 : BitVec 32 := Scalar.muli c8_i32_657 v885
  let v887 : BitVec 32 := Scalar.addi v883 v886
  let c4_i32_660 : BitVec 32 := 4#32
  let c3_i32_658 : BitVec 32 := 3#32
  let v888 : BitVec 32 := Scalar.shrsi v879 c3_i32_658
  let c1_i32_659 : BitVec 32 := 1#32
  let v889 : BitVec 32 := Scalar.andi v888 c1_i32_659
  let v890 : BitVec 32 := Scalar.muli c4_i32_660 v889
  let v891 : BitVec 32 := Scalar.addi v887 v890
  let c2_i32_663 : BitVec 32 := 2#32
  let c2_i32_661 : BitVec 32 := 2#32
  let v892 : BitVec 32 := Scalar.shrsi v879 c2_i32_661
  let c1_i32_662 : BitVec 32 := 1#32
  let v893 : BitVec 32 := Scalar.andi v892 c1_i32_662
  let v894 : BitVec 32 := Scalar.muli c2_i32_663 v893
  let v895 : BitVec 32 := Scalar.addi v891 v894
  let c4_i32_664 : BitVec 32 := 4#32
  let v896 : BitVec 32 := Scalar.shrsi v879 c4_i32_664
  let c1_i32_665 : BitVec 32 := 1#32
  let v897 : BitVec 32 := Scalar.andi v896 c1_i32_665
  let v898 : BitVec 32 := Scalar.addi v895 v897
  let v899 : BitVec 32 := Scalar.muli c16_i32_666 v898
  let v900 : BitVec 32 := v899
  let c0_i32_2418 : BitVec 32 := 0#32
  ![v900.toNat, 0]
def k0_dev91 (d0 : Dev nD) : Nat :=
  let c0_i32_2416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_650 : BitVec 32 := 29#32
  let v878 : BitVec 32 := Scalar.addi v2 c29_i32_650
  let c31_i32_651 : BitVec 32 := 31#32
  let v879 : BitVec 32 := Scalar.andi v878 c31_i32_651
  let c1_i32_2415 : BitVec 32 := 1#32
  let v2911 : BitVec 32 := Scalar.muli v879 c1_i32_2415
  let v2912 : BitVec 32 := Scalar.addi c0_i32_2416 v2911
  v2912.toNat
def k0_cond61 (d0 : Dev nD) : BitVec 1 :=
  let c16_i32_672 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_668 : BitVec 32 := 30#32
  let v903 : BitVec 32 := Scalar.addi v2 c30_i32_668
  let c31_i32_669 : BitVec 32 := 31#32
  let v904 : BitVec 32 := Scalar.andi v903 c31_i32_669
  let c1_i32_670 : BitVec 32 := 1#32
  let v905 : BitVec 32 := Scalar.shrsi v904 c1_i32_670
  let v906 : BitVec 32 := Scalar.xori v904 v905
  let c1_i32_671 : BitVec 32 := 1#32
  let v907 : BitVec 32 := Scalar.andi v906 c1_i32_671
  let v908 : BitVec 32 := Scalar.muli c16_i32_672 v907
  let c8_i32_675 : BitVec 32 := 8#32
  let c1_i32_673 : BitVec 32 := 1#32
  let v909 : BitVec 32 := Scalar.shrsi v904 c1_i32_673
  let c1_i32_674 : BitVec 32 := 1#32
  let v910 : BitVec 32 := Scalar.andi v909 c1_i32_674
  let v911 : BitVec 32 := Scalar.muli c8_i32_675 v910
  let v912 : BitVec 32 := Scalar.addi v908 v911
  let c4_i32_678 : BitVec 32 := 4#32
  let c3_i32_676 : BitVec 32 := 3#32
  let v913 : BitVec 32 := Scalar.shrsi v904 c3_i32_676
  let c1_i32_677 : BitVec 32 := 1#32
  let v914 : BitVec 32 := Scalar.andi v913 c1_i32_677
  let v915 : BitVec 32 := Scalar.muli c4_i32_678 v914
  let v916 : BitVec 32 := Scalar.addi v912 v915
  let c2_i32_681 : BitVec 32 := 2#32
  let c2_i32_679 : BitVec 32 := 2#32
  let v917 : BitVec 32 := Scalar.shrsi v904 c2_i32_679
  let c1_i32_680 : BitVec 32 := 1#32
  let v918 : BitVec 32 := Scalar.andi v917 c1_i32_680
  let v919 : BitVec 32 := Scalar.muli c2_i32_681 v918
  let v920 : BitVec 32 := Scalar.addi v916 v919
  let c4_i32_682 : BitVec 32 := 4#32
  let v921 : BitVec 32 := Scalar.shrsi v904 c4_i32_682
  let c1_i32_683 : BitVec 32 := 1#32
  let v922 : BitVec 32 := Scalar.andi v921 c1_i32_683
  let v923 : BitVec 32 := Scalar.addi v920 v922
  let c16_i32_998 : BitVec 32 := 16#32
  let v1277 : BitVec 1 := Scalar.cmpi .sge v923 c16_i32_998
  let v1278 : BitVec 32 := Scalar.extui v1277
  let c0_i32_1001 : BitVec 32 := 0#32
  let v1279 : BitVec 1 := Scalar.cmpi .ne v1278 c0_i32_1001
  v1279

def k0_off121 (d0 : Dev nD) : Fin 2 → Nat :=
  let c16_i32_685 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v926 : BitVec 32 := Scalar.muli c16_i32_685 v2
  let v927 : BitVec 32 := v926
  let c0_i32_2417 : BitVec 32 := 0#32
  ![v927.toNat, 0]
def k0_off122 (d0 : Dev nD) : Fin 2 → Nat :=
  let c16_i32_684 : BitVec 32 := 16#32
  let c16_i32_672 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_668 : BitVec 32 := 30#32
  let v903 : BitVec 32 := Scalar.addi v2 c30_i32_668
  let c31_i32_669 : BitVec 32 := 31#32
  let v904 : BitVec 32 := Scalar.andi v903 c31_i32_669
  let c1_i32_670 : BitVec 32 := 1#32
  let v905 : BitVec 32 := Scalar.shrsi v904 c1_i32_670
  let v906 : BitVec 32 := Scalar.xori v904 v905
  let c1_i32_671 : BitVec 32 := 1#32
  let v907 : BitVec 32 := Scalar.andi v906 c1_i32_671
  let v908 : BitVec 32 := Scalar.muli c16_i32_672 v907
  let c8_i32_675 : BitVec 32 := 8#32
  let c1_i32_673 : BitVec 32 := 1#32
  let v909 : BitVec 32 := Scalar.shrsi v904 c1_i32_673
  let c1_i32_674 : BitVec 32 := 1#32
  let v910 : BitVec 32 := Scalar.andi v909 c1_i32_674
  let v911 : BitVec 32 := Scalar.muli c8_i32_675 v910
  let v912 : BitVec 32 := Scalar.addi v908 v911
  let c4_i32_678 : BitVec 32 := 4#32
  let c3_i32_676 : BitVec 32 := 3#32
  let v913 : BitVec 32 := Scalar.shrsi v904 c3_i32_676
  let c1_i32_677 : BitVec 32 := 1#32
  let v914 : BitVec 32 := Scalar.andi v913 c1_i32_677
  let v915 : BitVec 32 := Scalar.muli c4_i32_678 v914
  let v916 : BitVec 32 := Scalar.addi v912 v915
  let c2_i32_681 : BitVec 32 := 2#32
  let c2_i32_679 : BitVec 32 := 2#32
  let v917 : BitVec 32 := Scalar.shrsi v904 c2_i32_679
  let c1_i32_680 : BitVec 32 := 1#32
  let v918 : BitVec 32 := Scalar.andi v917 c1_i32_680
  let v919 : BitVec 32 := Scalar.muli c2_i32_681 v918
  let v920 : BitVec 32 := Scalar.addi v916 v919
  let c4_i32_682 : BitVec 32 := 4#32
  let v921 : BitVec 32 := Scalar.shrsi v904 c4_i32_682
  let c1_i32_683 : BitVec 32 := 1#32
  let v922 : BitVec 32 := Scalar.andi v921 c1_i32_683
  let v923 : BitVec 32 := Scalar.addi v920 v922
  let v924 : BitVec 32 := Scalar.muli c16_i32_684 v923
  let v925 : BitVec 32 := v924
  let c0_i32_2418 : BitVec 32 := 0#32
  ![v925.toNat, 0]
def k0_dev92 (d0 : Dev nD) : Nat :=
  let c0_i32_2416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_668 : BitVec 32 := 30#32
  let v903 : BitVec 32 := Scalar.addi v2 c30_i32_668
  let c31_i32_669 : BitVec 32 := 31#32
  let v904 : BitVec 32 := Scalar.andi v903 c31_i32_669
  let c1_i32_2415 : BitVec 32 := 1#32
  let v2911 : BitVec 32 := Scalar.muli v904 c1_i32_2415
  let v2912 : BitVec 32 := Scalar.addi c0_i32_2416 v2911
  v2912.toNat
def k0_cond62 (d0 : Dev nD) : BitVec 1 :=
  let c16_i32_690 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_686 : BitVec 32 := 31#32
  let v928 : BitVec 32 := Scalar.addi v2 c31_i32_686
  let c31_i32_687 : BitVec 32 := 31#32
  let v929 : BitVec 32 := Scalar.andi v928 c31_i32_687
  let c1_i32_688 : BitVec 32 := 1#32
  let v930 : BitVec 32 := Scalar.shrsi v929 c1_i32_688
  let v931 : BitVec 32 := Scalar.xori v929 v930
  let c1_i32_689 : BitVec 32 := 1#32
  let v932 : BitVec 32 := Scalar.andi v931 c1_i32_689
  let v933 : BitVec 32 := Scalar.muli c16_i32_690 v932
  let c8_i32_693 : BitVec 32 := 8#32
  let c1_i32_691 : BitVec 32 := 1#32
  let v934 : BitVec 32 := Scalar.shrsi v929 c1_i32_691
  let c1_i32_692 : BitVec 32 := 1#32
  let v935 : BitVec 32 := Scalar.andi v934 c1_i32_692
  let v936 : BitVec 32 := Scalar.muli c8_i32_693 v935
  let v937 : BitVec 32 := Scalar.addi v933 v936
  let c4_i32_696 : BitVec 32 := 4#32
  let c3_i32_694 : BitVec 32 := 3#32
  let v938 : BitVec 32 := Scalar.shrsi v929 c3_i32_694
  let c1_i32_695 : BitVec 32 := 1#32
  let v939 : BitVec 32 := Scalar.andi v938 c1_i32_695
  let v940 : BitVec 32 := Scalar.muli c4_i32_696 v939
  let v941 : BitVec 32 := Scalar.addi v937 v940
  let c2_i32_699 : BitVec 32 := 2#32
  let c2_i32_697 : BitVec 32 := 2#32
  let v942 : BitVec 32 := Scalar.shrsi v929 c2_i32_697
  let c1_i32_698 : BitVec 32 := 1#32
  let v943 : BitVec 32 := Scalar.andi v942 c1_i32_698
  let v944 : BitVec 32 := Scalar.muli c2_i32_699 v943
  let v945 : BitVec 32 := Scalar.addi v941 v944
  let c4_i32_700 : BitVec 32 := 4#32
  let v946 : BitVec 32 := Scalar.shrsi v929 c4_i32_700
  let c1_i32_701 : BitVec 32 := 1#32
  let v947 : BitVec 32 := Scalar.andi v946 c1_i32_701
  let v948 : BitVec 32 := Scalar.addi v945 v947
  let c16_i32_1002 : BitVec 32 := 16#32
  let v1280 : BitVec 1 := Scalar.cmpi .sge v948 c16_i32_1002
  let v1281 : BitVec 32 := Scalar.extui v1280
  let c0_i32_1005 : BitVec 32 := 0#32
  let v1282 : BitVec 1 := Scalar.cmpi .ne v1281 c0_i32_1005
  v1282

def k0_off123 (d0 : Dev nD) : Fin 2 → Nat :=
  let c16_i32_703 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v951 : BitVec 32 := Scalar.muli c16_i32_703 v2
  let v952 : BitVec 32 := v951
  let c0_i32_2417 : BitVec 32 := 0#32
  ![v952.toNat, 0]
def k0_off124 (d0 : Dev nD) : Fin 2 → Nat :=
  let c16_i32_702 : BitVec 32 := 16#32
  let c16_i32_690 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_686 : BitVec 32 := 31#32
  let v928 : BitVec 32 := Scalar.addi v2 c31_i32_686
  let c31_i32_687 : BitVec 32 := 31#32
  let v929 : BitVec 32 := Scalar.andi v928 c31_i32_687
  let c1_i32_688 : BitVec 32 := 1#32
  let v930 : BitVec 32 := Scalar.shrsi v929 c1_i32_688
  let v931 : BitVec 32 := Scalar.xori v929 v930
  let c1_i32_689 : BitVec 32 := 1#32
  let v932 : BitVec 32 := Scalar.andi v931 c1_i32_689
  let v933 : BitVec 32 := Scalar.muli c16_i32_690 v932
  let c8_i32_693 : BitVec 32 := 8#32
  let c1_i32_691 : BitVec 32 := 1#32
  let v934 : BitVec 32 := Scalar.shrsi v929 c1_i32_691
  let c1_i32_692 : BitVec 32 := 1#32
  let v935 : BitVec 32 := Scalar.andi v934 c1_i32_692
  let v936 : BitVec 32 := Scalar.muli c8_i32_693 v935
  let v937 : BitVec 32 := Scalar.addi v933 v936
  let c4_i32_696 : BitVec 32 := 4#32
  let c3_i32_694 : BitVec 32 := 3#32
  let v938 : BitVec 32 := Scalar.shrsi v929 c3_i32_694
  let c1_i32_695 : BitVec 32 := 1#32
  let v939 : BitVec 32 := Scalar.andi v938 c1_i32_695
  let v940 : BitVec 32 := Scalar.muli c4_i32_696 v939
  let v941 : BitVec 32 := Scalar.addi v937 v940
  let c2_i32_699 : BitVec 32 := 2#32
  let c2_i32_697 : BitVec 32 := 2#32
  let v942 : BitVec 32 := Scalar.shrsi v929 c2_i32_697
  let c1_i32_698 : BitVec 32 := 1#32
  let v943 : BitVec 32 := Scalar.andi v942 c1_i32_698
  let v944 : BitVec 32 := Scalar.muli c2_i32_699 v943
  let v945 : BitVec 32 := Scalar.addi v941 v944
  let c4_i32_700 : BitVec 32 := 4#32
  let v946 : BitVec 32 := Scalar.shrsi v929 c4_i32_700
  let c1_i32_701 : BitVec 32 := 1#32
  let v947 : BitVec 32 := Scalar.andi v946 c1_i32_701
  let v948 : BitVec 32 := Scalar.addi v945 v947
  let v949 : BitVec 32 := Scalar.muli c16_i32_702 v948
  let v950 : BitVec 32 := v949
  let c0_i32_2418 : BitVec 32 := 0#32
  ![v950.toNat, 0]
def k0_dev93 (d0 : Dev nD) : Nat :=
  let c0_i32_2416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_686 : BitVec 32 := 31#32
  let v928 : BitVec 32 := Scalar.addi v2 c31_i32_686
  let c31_i32_687 : BitVec 32 := 31#32
  let v929 : BitVec 32 := Scalar.andi v928 c31_i32_687
  let c1_i32_2415 : BitVec 32 := 1#32
  let v2911 : BitVec 32 := Scalar.muli v929 c1_i32_2415
  let v2912 : BitVec 32 := Scalar.addi c0_i32_2416 v2911
  v2912.toNat
def k0_mult63 (d0 : Dev nD) : BitVec 32 :=
  let c16_i32_1006 : BitVec 32 := 16#32
  let c16_i32 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v6 : BitVec 32 := Scalar.muli c16_i32 v5
  let c8_i32 : BitVec 32 := 8#32
  let c1_i32_2 : BitVec 32 := 1#32
  let v7 : BitVec 32 := Scalar.shrsi v2 c1_i32_2
  let c1_i32_3 : BitVec 32 := 1#32
  let v8 : BitVec 32 := Scalar.andi v7 c1_i32_3
  let v9 : BitVec 32 := Scalar.muli c8_i32 v8
  let v10 : BitVec 32 := Scalar.addi v6 v9
  let c4_i32 : BitVec 32 := 4#32
  let c3_i32 : BitVec 32 := 3#32
  let v11 : BitVec 32 := Scalar.shrsi v2 c3_i32
  let c1_i32_4 : BitVec 32 := 1#32
  let v12 : BitVec 32 := Scalar.andi v11 c1_i32_4
  let v13 : BitVec 32 := Scalar.muli c4_i32 v12
  let v14 : BitVec 32 := Scalar.addi v10 v13
  let c2_i32_6 : BitVec 32 := 2#32
  let c2_i32 : BitVec 32 := 2#32
  let v15 : BitVec 32 := Scalar.shrsi v2 c2_i32
  let c1_i32_5 : BitVec 32 := 1#32
  let v16 : BitVec 32 := Scalar.andi v15 c1_i32_5
  let v17 : BitVec 32 := Scalar.muli c2_i32_6 v16
  let v18 : BitVec 32 := Scalar.addi v14 v17
  let c4_i32_7 : BitVec 32 := 4#32
  let v19 : BitVec 32 := Scalar.shrsi v2 c4_i32_7
  let c1_i32_8 : BitVec 32 := 1#32
  let v20 : BitVec 32 := Scalar.andi v19 c1_i32_8
  let v21 : BitVec 32 := Scalar.addi v18 v20
  let v1283 : BitVec 32 := Scalar.muli c16_i32_1006 v21
  v1283
def k0_off125 (d0 : Dev nD) : Fin 2 → Nat :=
  let c16_i32_1006 : BitVec 32 := 16#32
  let c16_i32 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v6 : BitVec 32 := Scalar.muli c16_i32 v5
  let c8_i32 : BitVec 32 := 8#32
  let c1_i32_2 : BitVec 32 := 1#32
  let v7 : BitVec 32 := Scalar.shrsi v2 c1_i32_2
  let c1_i32_3 : BitVec 32 := 1#32
  let v8 : BitVec 32 := Scalar.andi v7 c1_i32_3
  let v9 : BitVec 32 := Scalar.muli c8_i32 v8
  let v10 : BitVec 32 := Scalar.addi v6 v9
  let c4_i32 : BitVec 32 := 4#32
  let c3_i32 : BitVec 32 := 3#32
  let v11 : BitVec 32 := Scalar.shrsi v2 c3_i32
  let c1_i32_4 : BitVec 32 := 1#32
  let v12 : BitVec 32 := Scalar.andi v11 c1_i32_4
  let v13 : BitVec 32 := Scalar.muli c4_i32 v12
  let v14 : BitVec 32 := Scalar.addi v10 v13
  let c2_i32_6 : BitVec 32 := 2#32
  let c2_i32 : BitVec 32 := 2#32
  let v15 : BitVec 32 := Scalar.shrsi v2 c2_i32
  let c1_i32_5 : BitVec 32 := 1#32
  let v16 : BitVec 32 := Scalar.andi v15 c1_i32_5
  let v17 : BitVec 32 := Scalar.muli c2_i32_6 v16
  let v18 : BitVec 32 := Scalar.addi v14 v17
  let c4_i32_7 : BitVec 32 := 4#32
  let v19 : BitVec 32 := Scalar.shrsi v2 c4_i32_7
  let c1_i32_8 : BitVec 32 := 1#32
  let v20 : BitVec 32 := Scalar.andi v19 c1_i32_8
  let v21 : BitVec 32 := Scalar.addi v18 v20
  let v1283 : BitVec 32 := Scalar.muli c16_i32_1006 v21
  let v1284 : BitVec 32 := v1283
  let v1285 : Index := Scalar.indexCast v1284
  let c0_1007 : Index := 0#32
  ![v1285.toNat, 0]
def k0_mult64 (d0 : Dev nD) : BitVec 32 :=
  let c16_i32_1008 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1287 : BitVec 32 := Scalar.muli c16_i32_1008 v2
  v1287
def k0_off126 (d0 : Dev nD) : Fin 2 → Nat :=
  let c16_i32_1008 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1287 : BitVec 32 := Scalar.muli c16_i32_1008 v2
  let v1288 : BitVec 32 := v1287
  let v1289 : Index := Scalar.indexCast v1288
  let c0_1009 : Index := 0#32
  ![v1289.toNat, 0]
def k0_off127 (d0 : Dev nD) (c1_i32_146 : BitVec 32) : Fin 2 → Nat :=
  let c16_i32_162 : BitVec 32 := 16#32
  let c16_i32_150 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v178 : BitVec 32 := Scalar.addi v2 c1_i32_146
  let c31_i32_147 : BitVec 32 := 31#32
  let v179 : BitVec 32 := Scalar.andi v178 c31_i32_147
  let c1_i32_148 : BitVec 32 := 1#32
  let v180 : BitVec 32 := Scalar.shrsi v179 c1_i32_148
  let v181 : BitVec 32 := Scalar.xori v179 v180
  let c1_i32_149 : BitVec 32 := 1#32
  let v182 : BitVec 32 := Scalar.andi v181 c1_i32_149
  let v183 : BitVec 32 := Scalar.muli c16_i32_150 v182
  let c8_i32_153 : BitVec 32 := 8#32
  let c1_i32_151 : BitVec 32 := 1#32
  let v184 : BitVec 32 := Scalar.shrsi v179 c1_i32_151
  let c1_i32_152 : BitVec 32 := 1#32
  let v185 : BitVec 32 := Scalar.andi v184 c1_i32_152
  let v186 : BitVec 32 := Scalar.muli c8_i32_153 v185
  let v187 : BitVec 32 := Scalar.addi v183 v186
  let c4_i32_156 : BitVec 32 := 4#32
  let c3_i32_154 : BitVec 32 := 3#32
  let v188 : BitVec 32 := Scalar.shrsi v179 c3_i32_154
  let c1_i32_155 : BitVec 32 := 1#32
  let v189 : BitVec 32 := Scalar.andi v188 c1_i32_155
  let v190 : BitVec 32 := Scalar.muli c4_i32_156 v189
  let v191 : BitVec 32 := Scalar.addi v187 v190
  let c2_i32_159 : BitVec 32 := 2#32
  let c2_i32_157 : BitVec 32 := 2#32
  let v192 : BitVec 32 := Scalar.shrsi v179 c2_i32_157
  let c1_i32_158 : BitVec 32 := 1#32
  let v193 : BitVec 32 := Scalar.andi v192 c1_i32_158
  let v194 : BitVec 32 := Scalar.muli c2_i32_159 v193
  let v195 : BitVec 32 := Scalar.addi v191 v194
  let c4_i32_160 : BitVec 32 := 4#32
  let v196 : BitVec 32 := Scalar.shrsi v179 c4_i32_160
  let c1_i32_161 : BitVec 32 := 1#32
  let v197 : BitVec 32 := Scalar.andi v196 c1_i32_161
  let v198 : BitVec 32 := Scalar.addi v195 v197
  let v199 : BitVec 32 := Scalar.muli c16_i32_162 v198
  let v200 : BitVec 32 := v199
  let c0_i32_1018 : BitVec 32 := 0#32
  ![v200.toNat, 0]
def k0_off128 (d0 : Dev nD) : Fin 2 → Nat :=
  let c16_i32_163 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v201 : BitVec 32 := Scalar.muli c16_i32_163 v2
  let v202 : BitVec 32 := v201
  let c0_i32_1019 : BitVec 32 := 0#32
  ![v202.toNat, 0]
def k0_mult65 (d0 : Dev nD) : BitVec 32 :=
  let c32_i32_1359 : BitVec 32 := 32#32
  let c16_i32 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v6 : BitVec 32 := Scalar.muli c16_i32 v5
  let c8_i32 : BitVec 32 := 8#32
  let c1_i32_2 : BitVec 32 := 1#32
  let v7 : BitVec 32 := Scalar.shrsi v2 c1_i32_2
  let c1_i32_3 : BitVec 32 := 1#32
  let v8 : BitVec 32 := Scalar.andi v7 c1_i32_3
  let v9 : BitVec 32 := Scalar.muli c8_i32 v8
  let v10 : BitVec 32 := Scalar.addi v6 v9
  let c4_i32 : BitVec 32 := 4#32
  let c3_i32 : BitVec 32 := 3#32
  let v11 : BitVec 32 := Scalar.shrsi v2 c3_i32
  let c1_i32_4 : BitVec 32 := 1#32
  let v12 : BitVec 32 := Scalar.andi v11 c1_i32_4
  let v13 : BitVec 32 := Scalar.muli c4_i32 v12
  let v14 : BitVec 32 := Scalar.addi v10 v13
  let c2_i32_6 : BitVec 32 := 2#32
  let c2_i32 : BitVec 32 := 2#32
  let v15 : BitVec 32 := Scalar.shrsi v2 c2_i32
  let c1_i32_5 : BitVec 32 := 1#32
  let v16 : BitVec 32 := Scalar.andi v15 c1_i32_5
  let v17 : BitVec 32 := Scalar.muli c2_i32_6 v16
  let v18 : BitVec 32 := Scalar.addi v14 v17
  let c4_i32_7 : BitVec 32 := 4#32
  let v19 : BitVec 32 := Scalar.shrsi v2 c4_i32_7
  let c1_i32_8 : BitVec 32 := 1#32
  let v20 : BitVec 32 := Scalar.andi v19 c1_i32_8
  let v21 : BitVec 32 := Scalar.addi v18 v20
  let v1635 : BitVec 32 := Scalar.muli c32_i32_1359 v21
  v1635
def k0_off129 (d0 : Dev nD) : Fin 2 → Nat :=
  let c32_i32_1359 : BitVec 32 := 32#32
  let c16_i32 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v6 : BitVec 32 := Scalar.muli c16_i32 v5
  let c8_i32 : BitVec 32 := 8#32
  let c1_i32_2 : BitVec 32 := 1#32
  let v7 : BitVec 32 := Scalar.shrsi v2 c1_i32_2
  let c1_i32_3 : BitVec 32 := 1#32
  let v8 : BitVec 32 := Scalar.andi v7 c1_i32_3
  let v9 : BitVec 32 := Scalar.muli c8_i32 v8
  let v10 : BitVec 32 := Scalar.addi v6 v9
  let c4_i32 : BitVec 32 := 4#32
  let c3_i32 : BitVec 32 := 3#32
  let v11 : BitVec 32 := Scalar.shrsi v2 c3_i32
  let c1_i32_4 : BitVec 32 := 1#32
  let v12 : BitVec 32 := Scalar.andi v11 c1_i32_4
  let v13 : BitVec 32 := Scalar.muli c4_i32 v12
  let v14 : BitVec 32 := Scalar.addi v10 v13
  let c2_i32_6 : BitVec 32 := 2#32
  let c2_i32 : BitVec 32 := 2#32
  let v15 : BitVec 32 := Scalar.shrsi v2 c2_i32
  let c1_i32_5 : BitVec 32 := 1#32
  let v16 : BitVec 32 := Scalar.andi v15 c1_i32_5
  let v17 : BitVec 32 := Scalar.muli c2_i32_6 v16
  let v18 : BitVec 32 := Scalar.addi v14 v17
  let c4_i32_7 : BitVec 32 := 4#32
  let v19 : BitVec 32 := Scalar.shrsi v2 c4_i32_7
  let c1_i32_8 : BitVec 32 := 1#32
  let v20 : BitVec 32 := Scalar.andi v19 c1_i32_8
  let v21 : BitVec 32 := Scalar.addi v18 v20
  let v1635 : BitVec 32 := Scalar.muli c32_i32_1359 v21
  let v1636 : BitVec 32 := v1635
  let v1638 : Index := Scalar.indexCast v1636
  let c0_1360 : Index := 0#32
  ![v1638.toNat, 0]
def k0_off130 (d0 : Dev nD) : Fin 2 → Nat :=
  let c32_i32_1359 : BitVec 32 := 32#32
  let c16_i32 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v6 : BitVec 32 := Scalar.muli c16_i32 v5
  let c8_i32 : BitVec 32 := 8#32
  let c1_i32_2 : BitVec 32 := 1#32
  let v7 : BitVec 32 := Scalar.shrsi v2 c1_i32_2
  let c1_i32_3 : BitVec 32 := 1#32
  let v8 : BitVec 32 := Scalar.andi v7 c1_i32_3
  let v9 : BitVec 32 := Scalar.muli c8_i32 v8
  let v10 : BitVec 32 := Scalar.addi v6 v9
  let c4_i32 : BitVec 32 := 4#32
  let c3_i32 : BitVec 32 := 3#32
  let v11 : BitVec 32 := Scalar.shrsi v2 c3_i32
  let c1_i32_4 : BitVec 32 := 1#32
  let v12 : BitVec 32 := Scalar.andi v11 c1_i32_4
  let v13 : BitVec 32 := Scalar.muli c4_i32 v12
  let v14 : BitVec 32 := Scalar.addi v10 v13
  let c2_i32_6 : BitVec 32 := 2#32
  let c2_i32 : BitVec 32 := 2#32
  let v15 : BitVec 32 := Scalar.shrsi v2 c2_i32
  let c1_i32_5 : BitVec 32 := 1#32
  let v16 : BitVec 32 := Scalar.andi v15 c1_i32_5
  let v17 : BitVec 32 := Scalar.muli c2_i32_6 v16
  let v18 : BitVec 32 := Scalar.addi v14 v17
  let c4_i32_7 : BitVec 32 := 4#32
  let v19 : BitVec 32 := Scalar.shrsi v2 c4_i32_7
  let c1_i32_8 : BitVec 32 := 1#32
  let v20 : BitVec 32 := Scalar.andi v19 c1_i32_8
  let v21 : BitVec 32 := Scalar.addi v18 v20
  let v1635 : BitVec 32 := Scalar.muli c32_i32_1359 v21
  let v1636 : BitVec 32 := v1635
  let c0_i32_1366 : BitVec 32 := 0#32
  ![v1636.toNat, 0]
def k0_dev94 (d0 : Dev nD) : Nat :=
  let c0_i32_1365 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1361 : BitVec 32 := 16#32
  let v1640 : BitVec 32 := Scalar.xori v2 c16_i32_1361
  let c1_i32_1364 : BitVec 32 := 1#32
  let v1641 : BitVec 32 := Scalar.muli v1640 c1_i32_1364
  let v1642 : BitVec 32 := Scalar.addi c0_i32_1365 v1641
  v1642.toNat
def k0_dev95 (d0 : Dev nD) : Nat :=
  let c0_i32_1372 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1368 : BitVec 32 := 4#32
  let v1649 : BitVec 32 := Scalar.xori v2 c4_i32_1368
  let c1_i32_1371 : BitVec 32 := 1#32
  let v1650 : BitVec 32 := Scalar.muli v1649 c1_i32_1371
  let v1651 : BitVec 32 := Scalar.addi c0_i32_1372 v1650
  v1651.toNat
def k0_dev96 (d0 : Dev nD) : Nat :=
  let c0_i32_1379 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1375 : BitVec 32 := 8#32
  let v1658 : BitVec 32 := Scalar.xori v2 c8_i32_1375
  let c1_i32_1378 : BitVec 32 := 1#32
  let v1659 : BitVec 32 := Scalar.muli v1658 c1_i32_1378
  let v1660 : BitVec 32 := Scalar.addi c0_i32_1379 v1659
  v1660.toNat
def k0_dev97 (d0 : Dev nD) : Nat :=
  let c0_i32_1386 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1382 : BitVec 32 := 3#32
  let v1667 : BitVec 32 := Scalar.xori v2 c3_i32_1382
  let c1_i32_1385 : BitVec 32 := 1#32
  let v1668 : BitVec 32 := Scalar.muli v1667 c1_i32_1385
  let v1669 : BitVec 32 := Scalar.addi c0_i32_1386 v1668
  v1669.toNat
def k0_dev98 (d0 : Dev nD) : Nat :=
  let c0_i32_1393 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1389 : BitVec 32 := 1#32
  let v1676 : BitVec 32 := Scalar.xori v2 c1_i32_1389
  let c1_i32_1392 : BitVec 32 := 1#32
  let v1677 : BitVec 32 := Scalar.muli v1676 c1_i32_1392
  let v1678 : BitVec 32 := Scalar.addi c0_i32_1393 v1677
  v1678.toNat
def k0_mult66 (d0 : Dev nD) : BitVec 32 :=
  let c32_i32_1411 : BitVec 32 := 32#32
  let c16_i32_1399 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1396 : BitVec 32 := 16#32
  let v1685 : BitVec 32 := Scalar.xori v2 c16_i32_1396
  let c1_i32_1397 : BitVec 32 := 1#32
  let v1686 : BitVec 32 := Scalar.shrsi v1685 c1_i32_1397
  let v1687 : BitVec 32 := Scalar.xori v1685 v1686
  let c1_i32_1398 : BitVec 32 := 1#32
  let v1688 : BitVec 32 := Scalar.andi v1687 c1_i32_1398
  let v1689 : BitVec 32 := Scalar.muli c16_i32_1399 v1688
  let c8_i32_1402 : BitVec 32 := 8#32
  let c1_i32_1400 : BitVec 32 := 1#32
  let v1690 : BitVec 32 := Scalar.shrsi v1685 c1_i32_1400
  let c1_i32_1401 : BitVec 32 := 1#32
  let v1691 : BitVec 32 := Scalar.andi v1690 c1_i32_1401
  let v1692 : BitVec 32 := Scalar.muli c8_i32_1402 v1691
  let v1693 : BitVec 32 := Scalar.addi v1689 v1692
  let c4_i32_1405 : BitVec 32 := 4#32
  let c3_i32_1403 : BitVec 32 := 3#32
  let v1694 : BitVec 32 := Scalar.shrsi v1685 c3_i32_1403
  let c1_i32_1404 : BitVec 32 := 1#32
  let v1695 : BitVec 32 := Scalar.andi v1694 c1_i32_1404
  let v1696 : BitVec 32 := Scalar.muli c4_i32_1405 v1695
  let v1697 : BitVec 32 := Scalar.addi v1693 v1696
  let c2_i32_1408 : BitVec 32 := 2#32
  let c2_i32_1406 : BitVec 32 := 2#32
  let v1698 : BitVec 32 := Scalar.shrsi v1685 c2_i32_1406
  let c1_i32_1407 : BitVec 32 := 1#32
  let v1699 : BitVec 32 := Scalar.andi v1698 c1_i32_1407
  let v1700 : BitVec 32 := Scalar.muli c2_i32_1408 v1699
  let v1701 : BitVec 32 := Scalar.addi v1697 v1700
  let c4_i32_1409 : BitVec 32 := 4#32
  let v1702 : BitVec 32 := Scalar.shrsi v1685 c4_i32_1409
  let c1_i32_1410 : BitVec 32 := 1#32
  let v1703 : BitVec 32 := Scalar.andi v1702 c1_i32_1410
  let v1704 : BitVec 32 := Scalar.addi v1701 v1703
  let v1705 : BitVec 32 := Scalar.muli c32_i32_1411 v1704
  v1705
def k0_off131 (d0 : Dev nD) (c16_i32_1396 : BitVec 32) : Fin 2 → Nat :=
  let c32_i32_1411 : BitVec 32 := 32#32
  let c16_i32_1399 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1685 : BitVec 32 := Scalar.xori v2 c16_i32_1396
  let c1_i32_1397 : BitVec 32 := 1#32
  let v1686 : BitVec 32 := Scalar.shrsi v1685 c1_i32_1397
  let v1687 : BitVec 32 := Scalar.xori v1685 v1686
  let c1_i32_1398 : BitVec 32 := 1#32
  let v1688 : BitVec 32 := Scalar.andi v1687 c1_i32_1398
  let v1689 : BitVec 32 := Scalar.muli c16_i32_1399 v1688
  let c8_i32_1402 : BitVec 32 := 8#32
  let c1_i32_1400 : BitVec 32 := 1#32
  let v1690 : BitVec 32 := Scalar.shrsi v1685 c1_i32_1400
  let c1_i32_1401 : BitVec 32 := 1#32
  let v1691 : BitVec 32 := Scalar.andi v1690 c1_i32_1401
  let v1692 : BitVec 32 := Scalar.muli c8_i32_1402 v1691
  let v1693 : BitVec 32 := Scalar.addi v1689 v1692
  let c4_i32_1405 : BitVec 32 := 4#32
  let c3_i32_1403 : BitVec 32 := 3#32
  let v1694 : BitVec 32 := Scalar.shrsi v1685 c3_i32_1403
  let c1_i32_1404 : BitVec 32 := 1#32
  let v1695 : BitVec 32 := Scalar.andi v1694 c1_i32_1404
  let v1696 : BitVec 32 := Scalar.muli c4_i32_1405 v1695
  let v1697 : BitVec 32 := Scalar.addi v1693 v1696
  let c2_i32_1408 : BitVec 32 := 2#32
  let c2_i32_1406 : BitVec 32 := 2#32
  let v1698 : BitVec 32 := Scalar.shrsi v1685 c2_i32_1406
  let c1_i32_1407 : BitVec 32 := 1#32
  let v1699 : BitVec 32 := Scalar.andi v1698 c1_i32_1407
  let v1700 : BitVec 32 := Scalar.muli c2_i32_1408 v1699
  let v1701 : BitVec 32 := Scalar.addi v1697 v1700
  let c4_i32_1409 : BitVec 32 := 4#32
  let v1702 : BitVec 32 := Scalar.shrsi v1685 c4_i32_1409
  let c1_i32_1410 : BitVec 32 := 1#32
  let v1703 : BitVec 32 := Scalar.andi v1702 c1_i32_1410
  let v1704 : BitVec 32 := Scalar.addi v1701 v1703
  let v1705 : BitVec 32 := Scalar.muli c32_i32_1411 v1704
  let v1706 : BitVec 32 := v1705
  let c0_i32_1416 : BitVec 32 := 0#32
  ![v1706.toNat, 0]
def k0_dev99 (d0 : Dev nD) : Nat :=
  let c0_i32_1422 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1418 : BitVec 32 := 4#32
  let v1713 : BitVec 32 := Scalar.xori v2 c4_i32_1418
  let c1_i32_1421 : BitVec 32 := 1#32
  let v1714 : BitVec 32 := Scalar.muli v1713 c1_i32_1421
  let v1715 : BitVec 32 := Scalar.addi c0_i32_1422 v1714
  v1715.toNat
def k0_dev100 (d0 : Dev nD) : Nat :=
  let c0_i32_1429 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1425 : BitVec 32 := 8#32
  let v1722 : BitVec 32 := Scalar.xori v2 c8_i32_1425
  let c1_i32_1428 : BitVec 32 := 1#32
  let v1723 : BitVec 32 := Scalar.muli v1722 c1_i32_1428
  let v1724 : BitVec 32 := Scalar.addi c0_i32_1429 v1723
  v1724.toNat
def k0_dev101 (d0 : Dev nD) : Nat :=
  let c0_i32_1436 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1432 : BitVec 32 := 3#32
  let v1731 : BitVec 32 := Scalar.xori v2 c3_i32_1432
  let c1_i32_1435 : BitVec 32 := 1#32
  let v1732 : BitVec 32 := Scalar.muli v1731 c1_i32_1435
  let v1733 : BitVec 32 := Scalar.addi c0_i32_1436 v1732
  v1733.toNat
def k0_dev102 (d0 : Dev nD) : Nat :=
  let c0_i32_1443 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1439 : BitVec 32 := 1#32
  let v1740 : BitVec 32 := Scalar.xori v2 c1_i32_1439
  let c1_i32_1442 : BitVec 32 := 1#32
  let v1741 : BitVec 32 := Scalar.muli v1740 c1_i32_1442
  let v1742 : BitVec 32 := Scalar.addi c0_i32_1443 v1741
  v1742.toNat
def k0_mult67 (d0 : Dev nD) : BitVec 32 :=
  let c32_i32_1461 : BitVec 32 := 32#32
  let c16_i32_1449 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1446 : BitVec 32 := 4#32
  let v1749 : BitVec 32 := Scalar.xori v2 c4_i32_1446
  let c1_i32_1447 : BitVec 32 := 1#32
  let v1750 : BitVec 32 := Scalar.shrsi v1749 c1_i32_1447
  let v1751 : BitVec 32 := Scalar.xori v1749 v1750
  let c1_i32_1448 : BitVec 32 := 1#32
  let v1752 : BitVec 32 := Scalar.andi v1751 c1_i32_1448
  let v1753 : BitVec 32 := Scalar.muli c16_i32_1449 v1752
  let c8_i32_1452 : BitVec 32 := 8#32
  let c1_i32_1450 : BitVec 32 := 1#32
  let v1754 : BitVec 32 := Scalar.shrsi v1749 c1_i32_1450
  let c1_i32_1451 : BitVec 32 := 1#32
  let v1755 : BitVec 32 := Scalar.andi v1754 c1_i32_1451
  let v1756 : BitVec 32 := Scalar.muli c8_i32_1452 v1755
  let v1757 : BitVec 32 := Scalar.addi v1753 v1756
  let c4_i32_1455 : BitVec 32 := 4#32
  let c3_i32_1453 : BitVec 32 := 3#32
  let v1758 : BitVec 32 := Scalar.shrsi v1749 c3_i32_1453
  let c1_i32_1454 : BitVec 32 := 1#32
  let v1759 : BitVec 32 := Scalar.andi v1758 c1_i32_1454
  let v1760 : BitVec 32 := Scalar.muli c4_i32_1455 v1759
  let v1761 : BitVec 32 := Scalar.addi v1757 v1760
  let c2_i32_1458 : BitVec 32 := 2#32
  let c2_i32_1456 : BitVec 32 := 2#32
  let v1762 : BitVec 32 := Scalar.shrsi v1749 c2_i32_1456
  let c1_i32_1457 : BitVec 32 := 1#32
  let v1763 : BitVec 32 := Scalar.andi v1762 c1_i32_1457
  let v1764 : BitVec 32 := Scalar.muli c2_i32_1458 v1763
  let v1765 : BitVec 32 := Scalar.addi v1761 v1764
  let c4_i32_1459 : BitVec 32 := 4#32
  let v1766 : BitVec 32 := Scalar.shrsi v1749 c4_i32_1459
  let c1_i32_1460 : BitVec 32 := 1#32
  let v1767 : BitVec 32 := Scalar.andi v1766 c1_i32_1460
  let v1768 : BitVec 32 := Scalar.addi v1765 v1767
  let v1769 : BitVec 32 := Scalar.muli c32_i32_1461 v1768
  v1769
def k0_dev103 (d0 : Dev nD) : Nat :=
  let c0_i32_1472 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1468 : BitVec 32 := 8#32
  let v1777 : BitVec 32 := Scalar.xori v2 c8_i32_1468
  let c1_i32_1471 : BitVec 32 := 1#32
  let v1778 : BitVec 32 := Scalar.muli v1777 c1_i32_1471
  let v1779 : BitVec 32 := Scalar.addi c0_i32_1472 v1778
  v1779.toNat
def k0_dev104 (d0 : Dev nD) : Nat :=
  let c0_i32_1479 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1475 : BitVec 32 := 3#32
  let v1786 : BitVec 32 := Scalar.xori v2 c3_i32_1475
  let c1_i32_1478 : BitVec 32 := 1#32
  let v1787 : BitVec 32 := Scalar.muli v1786 c1_i32_1478
  let v1788 : BitVec 32 := Scalar.addi c0_i32_1479 v1787
  v1788.toNat
def k0_dev105 (d0 : Dev nD) : Nat :=
  let c0_i32_1486 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1482 : BitVec 32 := 1#32
  let v1795 : BitVec 32 := Scalar.xori v2 c1_i32_1482
  let c1_i32_1485 : BitVec 32 := 1#32
  let v1796 : BitVec 32 := Scalar.muli v1795 c1_i32_1485
  let v1797 : BitVec 32 := Scalar.addi c0_i32_1486 v1796
  v1797.toNat
def k0_mult68 (d0 : Dev nD) : BitVec 32 :=
  let c32_i32_1504 : BitVec 32 := 32#32
  let c16_i32_1492 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1489 : BitVec 32 := 20#32
  let v1804 : BitVec 32 := Scalar.xori v2 c20_i32_1489
  let c1_i32_1490 : BitVec 32 := 1#32
  let v1805 : BitVec 32 := Scalar.shrsi v1804 c1_i32_1490
  let v1806 : BitVec 32 := Scalar.xori v1804 v1805
  let c1_i32_1491 : BitVec 32 := 1#32
  let v1807 : BitVec 32 := Scalar.andi v1806 c1_i32_1491
  let v1808 : BitVec 32 := Scalar.muli c16_i32_1492 v1807
  let c8_i32_1495 : BitVec 32 := 8#32
  let c1_i32_1493 : BitVec 32 := 1#32
  let v1809 : BitVec 32 := Scalar.shrsi v1804 c1_i32_1493
  let c1_i32_1494 : BitVec 32 := 1#32
  let v1810 : BitVec 32 := Scalar.andi v1809 c1_i32_1494
  let v1811 : BitVec 32 := Scalar.muli c8_i32_1495 v1810
  let v1812 : BitVec 32 := Scalar.addi v1808 v1811
  let c4_i32_1498 : BitVec 32 := 4#32
  let c3_i32_1496 : BitVec 32 := 3#32
  let v1813 : BitVec 32 := Scalar.shrsi v1804 c3_i32_1496
  let c1_i32_1497 : BitVec 32 := 1#32
  let v1814 : BitVec 32 := Scalar.andi v1813 c1_i32_1497
  let v1815 : BitVec 32 := Scalar.muli c4_i32_1498 v1814
  let v1816 : BitVec 32 := Scalar.addi v1812 v1815
  let c2_i32_1501 : BitVec 32 := 2#32
  let c2_i32_1499 : BitVec 32 := 2#32
  let v1817 : BitVec 32 := Scalar.shrsi v1804 c2_i32_1499
  let c1_i32_1500 : BitVec 32 := 1#32
  let v1818 : BitVec 32 := Scalar.andi v1817 c1_i32_1500
  let v1819 : BitVec 32 := Scalar.muli c2_i32_1501 v1818
  let v1820 : BitVec 32 := Scalar.addi v1816 v1819
  let c4_i32_1502 : BitVec 32 := 4#32
  let v1821 : BitVec 32 := Scalar.shrsi v1804 c4_i32_1502
  let c1_i32_1503 : BitVec 32 := 1#32
  let v1822 : BitVec 32 := Scalar.andi v1821 c1_i32_1503
  let v1823 : BitVec 32 := Scalar.addi v1820 v1822
  let v1824 : BitVec 32 := Scalar.muli c32_i32_1504 v1823
  v1824
def k0_dev106 (d0 : Dev nD) : Nat :=
  let c0_i32_1515 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1511 : BitVec 32 := 8#32
  let v1832 : BitVec 32 := Scalar.xori v2 c8_i32_1511
  let c1_i32_1514 : BitVec 32 := 1#32
  let v1833 : BitVec 32 := Scalar.muli v1832 c1_i32_1514
  let v1834 : BitVec 32 := Scalar.addi c0_i32_1515 v1833
  v1834.toNat
def k0_dev107 (d0 : Dev nD) : Nat :=
  let c0_i32_1522 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1518 : BitVec 32 := 3#32
  let v1841 : BitVec 32 := Scalar.xori v2 c3_i32_1518
  let c1_i32_1521 : BitVec 32 := 1#32
  let v1842 : BitVec 32 := Scalar.muli v1841 c1_i32_1521
  let v1843 : BitVec 32 := Scalar.addi c0_i32_1522 v1842
  v1843.toNat
def k0_dev108 (d0 : Dev nD) : Nat :=
  let c0_i32_1529 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1525 : BitVec 32 := 1#32
  let v1850 : BitVec 32 := Scalar.xori v2 c1_i32_1525
  let c1_i32_1528 : BitVec 32 := 1#32
  let v1851 : BitVec 32 := Scalar.muli v1850 c1_i32_1528
  let v1852 : BitVec 32 := Scalar.addi c0_i32_1529 v1851
  v1852.toNat
def k0_mult69 (d0 : Dev nD) : BitVec 32 :=
  let c32_i32_1547 : BitVec 32 := 32#32
  let c16_i32_1535 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1532 : BitVec 32 := 8#32
  let v1859 : BitVec 32 := Scalar.xori v2 c8_i32_1532
  let c1_i32_1533 : BitVec 32 := 1#32
  let v1860 : BitVec 32 := Scalar.shrsi v1859 c1_i32_1533
  let v1861 : BitVec 32 := Scalar.xori v1859 v1860
  let c1_i32_1534 : BitVec 32 := 1#32
  let v1862 : BitVec 32 := Scalar.andi v1861 c1_i32_1534
  let v1863 : BitVec 32 := Scalar.muli c16_i32_1535 v1862
  let c8_i32_1538 : BitVec 32 := 8#32
  let c1_i32_1536 : BitVec 32 := 1#32
  let v1864 : BitVec 32 := Scalar.shrsi v1859 c1_i32_1536
  let c1_i32_1537 : BitVec 32 := 1#32
  let v1865 : BitVec 32 := Scalar.andi v1864 c1_i32_1537
  let v1866 : BitVec 32 := Scalar.muli c8_i32_1538 v1865
  let v1867 : BitVec 32 := Scalar.addi v1863 v1866
  let c4_i32_1541 : BitVec 32 := 4#32
  let c3_i32_1539 : BitVec 32 := 3#32
  let v1868 : BitVec 32 := Scalar.shrsi v1859 c3_i32_1539
  let c1_i32_1540 : BitVec 32 := 1#32
  let v1869 : BitVec 32 := Scalar.andi v1868 c1_i32_1540
  let v1870 : BitVec 32 := Scalar.muli c4_i32_1541 v1869
  let v1871 : BitVec 32 := Scalar.addi v1867 v1870
  let c2_i32_1544 : BitVec 32 := 2#32
  let c2_i32_1542 : BitVec 32 := 2#32
  let v1872 : BitVec 32 := Scalar.shrsi v1859 c2_i32_1542
  let c1_i32_1543 : BitVec 32 := 1#32
  let v1873 : BitVec 32 := Scalar.andi v1872 c1_i32_1543
  let v1874 : BitVec 32 := Scalar.muli c2_i32_1544 v1873
  let v1875 : BitVec 32 := Scalar.addi v1871 v1874
  let c4_i32_1545 : BitVec 32 := 4#32
  let v1876 : BitVec 32 := Scalar.shrsi v1859 c4_i32_1545
  let c1_i32_1546 : BitVec 32 := 1#32
  let v1877 : BitVec 32 := Scalar.andi v1876 c1_i32_1546
  let v1878 : BitVec 32 := Scalar.addi v1875 v1877
  let v1879 : BitVec 32 := Scalar.muli c32_i32_1547 v1878
  v1879
def k0_dev109 (d0 : Dev nD) : Nat :=
  let c0_i32_1558 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1554 : BitVec 32 := 3#32
  let v1887 : BitVec 32 := Scalar.xori v2 c3_i32_1554
  let c1_i32_1557 : BitVec 32 := 1#32
  let v1888 : BitVec 32 := Scalar.muli v1887 c1_i32_1557
  let v1889 : BitVec 32 := Scalar.addi c0_i32_1558 v1888
  v1889.toNat
def k0_dev110 (d0 : Dev nD) : Nat :=
  let c0_i32_1565 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1561 : BitVec 32 := 1#32
  let v1896 : BitVec 32 := Scalar.xori v2 c1_i32_1561
  let c1_i32_1564 : BitVec 32 := 1#32
  let v1897 : BitVec 32 := Scalar.muli v1896 c1_i32_1564
  let v1898 : BitVec 32 := Scalar.addi c0_i32_1565 v1897
  v1898.toNat
def k0_mult70 (d0 : Dev nD) : BitVec 32 :=
  let c32_i32_1583 : BitVec 32 := 32#32
  let c16_i32_1571 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1568 : BitVec 32 := 24#32
  let v1905 : BitVec 32 := Scalar.xori v2 c24_i32_1568
  let c1_i32_1569 : BitVec 32 := 1#32
  let v1906 : BitVec 32 := Scalar.shrsi v1905 c1_i32_1569
  let v1907 : BitVec 32 := Scalar.xori v1905 v1906
  let c1_i32_1570 : BitVec 32 := 1#32
  let v1908 : BitVec 32 := Scalar.andi v1907 c1_i32_1570
  let v1909 : BitVec 32 := Scalar.muli c16_i32_1571 v1908
  let c8_i32_1574 : BitVec 32 := 8#32
  let c1_i32_1572 : BitVec 32 := 1#32
  let v1910 : BitVec 32 := Scalar.shrsi v1905 c1_i32_1572
  let c1_i32_1573 : BitVec 32 := 1#32
  let v1911 : BitVec 32 := Scalar.andi v1910 c1_i32_1573
  let v1912 : BitVec 32 := Scalar.muli c8_i32_1574 v1911
  let v1913 : BitVec 32 := Scalar.addi v1909 v1912
  let c4_i32_1577 : BitVec 32 := 4#32
  let c3_i32_1575 : BitVec 32 := 3#32
  let v1914 : BitVec 32 := Scalar.shrsi v1905 c3_i32_1575
  let c1_i32_1576 : BitVec 32 := 1#32
  let v1915 : BitVec 32 := Scalar.andi v1914 c1_i32_1576
  let v1916 : BitVec 32 := Scalar.muli c4_i32_1577 v1915
  let v1917 : BitVec 32 := Scalar.addi v1913 v1916
  let c2_i32_1580 : BitVec 32 := 2#32
  let c2_i32_1578 : BitVec 32 := 2#32
  let v1918 : BitVec 32 := Scalar.shrsi v1905 c2_i32_1578
  let c1_i32_1579 : BitVec 32 := 1#32
  let v1919 : BitVec 32 := Scalar.andi v1918 c1_i32_1579
  let v1920 : BitVec 32 := Scalar.muli c2_i32_1580 v1919
  let v1921 : BitVec 32 := Scalar.addi v1917 v1920
  let c4_i32_1581 : BitVec 32 := 4#32
  let v1922 : BitVec 32 := Scalar.shrsi v1905 c4_i32_1581
  let c1_i32_1582 : BitVec 32 := 1#32
  let v1923 : BitVec 32 := Scalar.andi v1922 c1_i32_1582
  let v1924 : BitVec 32 := Scalar.addi v1921 v1923
  let v1925 : BitVec 32 := Scalar.muli c32_i32_1583 v1924
  v1925
def k0_dev111 (d0 : Dev nD) : Nat :=
  let c0_i32_1594 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1590 : BitVec 32 := 3#32
  let v1933 : BitVec 32 := Scalar.xori v2 c3_i32_1590
  let c1_i32_1593 : BitVec 32 := 1#32
  let v1934 : BitVec 32 := Scalar.muli v1933 c1_i32_1593
  let v1935 : BitVec 32 := Scalar.addi c0_i32_1594 v1934
  v1935.toNat
def k0_dev112 (d0 : Dev nD) : Nat :=
  let c0_i32_1601 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1597 : BitVec 32 := 1#32
  let v1942 : BitVec 32 := Scalar.xori v2 c1_i32_1597
  let c1_i32_1600 : BitVec 32 := 1#32
  let v1943 : BitVec 32 := Scalar.muli v1942 c1_i32_1600
  let v1944 : BitVec 32 := Scalar.addi c0_i32_1601 v1943
  v1944.toNat
def k0_mult71 (d0 : Dev nD) : BitVec 32 :=
  let c32_i32_1619 : BitVec 32 := 32#32
  let c16_i32_1607 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1604 : BitVec 32 := 12#32
  let v1951 : BitVec 32 := Scalar.xori v2 c12_i32_1604
  let c1_i32_1605 : BitVec 32 := 1#32
  let v1952 : BitVec 32 := Scalar.shrsi v1951 c1_i32_1605
  let v1953 : BitVec 32 := Scalar.xori v1951 v1952
  let c1_i32_1606 : BitVec 32 := 1#32
  let v1954 : BitVec 32 := Scalar.andi v1953 c1_i32_1606
  let v1955 : BitVec 32 := Scalar.muli c16_i32_1607 v1954
  let c8_i32_1610 : BitVec 32 := 8#32
  let c1_i32_1608 : BitVec 32 := 1#32
  let v1956 : BitVec 32 := Scalar.shrsi v1951 c1_i32_1608
  let c1_i32_1609 : BitVec 32 := 1#32
  let v1957 : BitVec 32 := Scalar.andi v1956 c1_i32_1609
  let v1958 : BitVec 32 := Scalar.muli c8_i32_1610 v1957
  let v1959 : BitVec 32 := Scalar.addi v1955 v1958
  let c4_i32_1613 : BitVec 32 := 4#32
  let c3_i32_1611 : BitVec 32 := 3#32
  let v1960 : BitVec 32 := Scalar.shrsi v1951 c3_i32_1611
  let c1_i32_1612 : BitVec 32 := 1#32
  let v1961 : BitVec 32 := Scalar.andi v1960 c1_i32_1612
  let v1962 : BitVec 32 := Scalar.muli c4_i32_1613 v1961
  let v1963 : BitVec 32 := Scalar.addi v1959 v1962
  let c2_i32_1616 : BitVec 32 := 2#32
  let c2_i32_1614 : BitVec 32 := 2#32
  let v1964 : BitVec 32 := Scalar.shrsi v1951 c2_i32_1614
  let c1_i32_1615 : BitVec 32 := 1#32
  let v1965 : BitVec 32 := Scalar.andi v1964 c1_i32_1615
  let v1966 : BitVec 32 := Scalar.muli c2_i32_1616 v1965
  let v1967 : BitVec 32 := Scalar.addi v1963 v1966
  let c4_i32_1617 : BitVec 32 := 4#32
  let v1968 : BitVec 32 := Scalar.shrsi v1951 c4_i32_1617
  let c1_i32_1618 : BitVec 32 := 1#32
  let v1969 : BitVec 32 := Scalar.andi v1968 c1_i32_1618
  let v1970 : BitVec 32 := Scalar.addi v1967 v1969
  let v1971 : BitVec 32 := Scalar.muli c32_i32_1619 v1970
  v1971
def k0_dev113 (d0 : Dev nD) : Nat :=
  let c0_i32_1630 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1626 : BitVec 32 := 3#32
  let v1979 : BitVec 32 := Scalar.xori v2 c3_i32_1626
  let c1_i32_1629 : BitVec 32 := 1#32
  let v1980 : BitVec 32 := Scalar.muli v1979 c1_i32_1629
  let v1981 : BitVec 32 := Scalar.addi c0_i32_1630 v1980
  v1981.toNat
def k0_dev114 (d0 : Dev nD) : Nat :=
  let c0_i32_1637 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1633 : BitVec 32 := 1#32
  let v1988 : BitVec 32 := Scalar.xori v2 c1_i32_1633
  let c1_i32_1636 : BitVec 32 := 1#32
  let v1989 : BitVec 32 := Scalar.muli v1988 c1_i32_1636
  let v1990 : BitVec 32 := Scalar.addi c0_i32_1637 v1989
  v1990.toNat
def k0_mult72 (d0 : Dev nD) : BitVec 32 :=
  let c32_i32_1655 : BitVec 32 := 32#32
  let c16_i32_1643 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1640 : BitVec 32 := 28#32
  let v1997 : BitVec 32 := Scalar.xori v2 c28_i32_1640
  let c1_i32_1641 : BitVec 32 := 1#32
  let v1998 : BitVec 32 := Scalar.shrsi v1997 c1_i32_1641
  let v1999 : BitVec 32 := Scalar.xori v1997 v1998
  let c1_i32_1642 : BitVec 32 := 1#32
  let v2000 : BitVec 32 := Scalar.andi v1999 c1_i32_1642
  let v2001 : BitVec 32 := Scalar.muli c16_i32_1643 v2000
  let c8_i32_1646 : BitVec 32 := 8#32
  let c1_i32_1644 : BitVec 32 := 1#32
  let v2002 : BitVec 32 := Scalar.shrsi v1997 c1_i32_1644
  let c1_i32_1645 : BitVec 32 := 1#32
  let v2003 : BitVec 32 := Scalar.andi v2002 c1_i32_1645
  let v2004 : BitVec 32 := Scalar.muli c8_i32_1646 v2003
  let v2005 : BitVec 32 := Scalar.addi v2001 v2004
  let c4_i32_1649 : BitVec 32 := 4#32
  let c3_i32_1647 : BitVec 32 := 3#32
  let v2006 : BitVec 32 := Scalar.shrsi v1997 c3_i32_1647
  let c1_i32_1648 : BitVec 32 := 1#32
  let v2007 : BitVec 32 := Scalar.andi v2006 c1_i32_1648
  let v2008 : BitVec 32 := Scalar.muli c4_i32_1649 v2007
  let v2009 : BitVec 32 := Scalar.addi v2005 v2008
  let c2_i32_1652 : BitVec 32 := 2#32
  let c2_i32_1650 : BitVec 32 := 2#32
  let v2010 : BitVec 32 := Scalar.shrsi v1997 c2_i32_1650
  let c1_i32_1651 : BitVec 32 := 1#32
  let v2011 : BitVec 32 := Scalar.andi v2010 c1_i32_1651
  let v2012 : BitVec 32 := Scalar.muli c2_i32_1652 v2011
  let v2013 : BitVec 32 := Scalar.addi v2009 v2012
  let c4_i32_1653 : BitVec 32 := 4#32
  let v2014 : BitVec 32 := Scalar.shrsi v1997 c4_i32_1653
  let c1_i32_1654 : BitVec 32 := 1#32
  let v2015 : BitVec 32 := Scalar.andi v2014 c1_i32_1654
  let v2016 : BitVec 32 := Scalar.addi v2013 v2015
  let v2017 : BitVec 32 := Scalar.muli c32_i32_1655 v2016
  v2017
def k0_dev115 (d0 : Dev nD) : Nat :=
  let c0_i32_1666 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1662 : BitVec 32 := 3#32
  let v2025 : BitVec 32 := Scalar.xori v2 c3_i32_1662
  let c1_i32_1665 : BitVec 32 := 1#32
  let v2026 : BitVec 32 := Scalar.muli v2025 c1_i32_1665
  let v2027 : BitVec 32 := Scalar.addi c0_i32_1666 v2026
  v2027.toNat
def k0_dev116 (d0 : Dev nD) : Nat :=
  let c0_i32_1673 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1669 : BitVec 32 := 1#32
  let v2034 : BitVec 32 := Scalar.xori v2 c1_i32_1669
  let c1_i32_1672 : BitVec 32 := 1#32
  let v2035 : BitVec 32 := Scalar.muli v2034 c1_i32_1672
  let v2036 : BitVec 32 := Scalar.addi c0_i32_1673 v2035
  v2036.toNat
def k0_mult73 (d0 : Dev nD) : BitVec 32 :=
  let c32_i32_1691 : BitVec 32 := 32#32
  let c16_i32_1679 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1676 : BitVec 32 := 3#32
  let v2043 : BitVec 32 := Scalar.xori v2 c3_i32_1676
  let c1_i32_1677 : BitVec 32 := 1#32
  let v2044 : BitVec 32 := Scalar.shrsi v2043 c1_i32_1677
  let v2045 : BitVec 32 := Scalar.xori v2043 v2044
  let c1_i32_1678 : BitVec 32 := 1#32
  let v2046 : BitVec 32 := Scalar.andi v2045 c1_i32_1678
  let v2047 : BitVec 32 := Scalar.muli c16_i32_1679 v2046
  let c8_i32_1682 : BitVec 32 := 8#32
  let c1_i32_1680 : BitVec 32 := 1#32
  let v2048 : BitVec 32 := Scalar.shrsi v2043 c1_i32_1680
  let c1_i32_1681 : BitVec 32 := 1#32
  let v2049 : BitVec 32 := Scalar.andi v2048 c1_i32_1681
  let v2050 : BitVec 32 := Scalar.muli c8_i32_1682 v2049
  let v2051 : BitVec 32 := Scalar.addi v2047 v2050
  let c4_i32_1685 : BitVec 32 := 4#32
  let c3_i32_1683 : BitVec 32 := 3#32
  let v2052 : BitVec 32 := Scalar.shrsi v2043 c3_i32_1683
  let c1_i32_1684 : BitVec 32 := 1#32
  let v2053 : BitVec 32 := Scalar.andi v2052 c1_i32_1684
  let v2054 : BitVec 32 := Scalar.muli c4_i32_1685 v2053
  let v2055 : BitVec 32 := Scalar.addi v2051 v2054
  let c2_i32_1688 : BitVec 32 := 2#32
  let c2_i32_1686 : BitVec 32 := 2#32
  let v2056 : BitVec 32 := Scalar.shrsi v2043 c2_i32_1686
  let c1_i32_1687 : BitVec 32 := 1#32
  let v2057 : BitVec 32 := Scalar.andi v2056 c1_i32_1687
  let v2058 : BitVec 32 := Scalar.muli c2_i32_1688 v2057
  let v2059 : BitVec 32 := Scalar.addi v2055 v2058
  let c4_i32_1689 : BitVec 32 := 4#32
  let v2060 : BitVec 32 := Scalar.shrsi v2043 c4_i32_1689
  let c1_i32_1690 : BitVec 32 := 1#32
  let v2061 : BitVec 32 := Scalar.andi v2060 c1_i32_1690
  let v2062 : BitVec 32 := Scalar.addi v2059 v2061
  let v2063 : BitVec 32 := Scalar.muli c32_i32_1691 v2062
  v2063
def k0_dev117 (d0 : Dev nD) : Nat :=
  let c0_i32_1702 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1698 : BitVec 32 := 1#32
  let v2071 : BitVec 32 := Scalar.xori v2 c1_i32_1698
  let c1_i32_1701 : BitVec 32 := 1#32
  let v2072 : BitVec 32 := Scalar.muli v2071 c1_i32_1701
  let v2073 : BitVec 32 := Scalar.addi c0_i32_1702 v2072
  v2073.toNat
def k0_mult74 (d0 : Dev nD) : BitVec 32 :=
  let c32_i32_1720 : BitVec 32 := 32#32
  let c16_i32_1708 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1705 : BitVec 32 := 19#32
  let v2080 : BitVec 32 := Scalar.xori v2 c19_i32_1705
  let c1_i32_1706 : BitVec 32 := 1#32
  let v2081 : BitVec 32 := Scalar.shrsi v2080 c1_i32_1706
  let v2082 : BitVec 32 := Scalar.xori v2080 v2081
  let c1_i32_1707 : BitVec 32 := 1#32
  let v2083 : BitVec 32 := Scalar.andi v2082 c1_i32_1707
  let v2084 : BitVec 32 := Scalar.muli c16_i32_1708 v2083
  let c8_i32_1711 : BitVec 32 := 8#32
  let c1_i32_1709 : BitVec 32 := 1#32
  let v2085 : BitVec 32 := Scalar.shrsi v2080 c1_i32_1709
  let c1_i32_1710 : BitVec 32 := 1#32
  let v2086 : BitVec 32 := Scalar.andi v2085 c1_i32_1710
  let v2087 : BitVec 32 := Scalar.muli c8_i32_1711 v2086
  let v2088 : BitVec 32 := Scalar.addi v2084 v2087
  let c4_i32_1714 : BitVec 32 := 4#32
  let c3_i32_1712 : BitVec 32 := 3#32
  let v2089 : BitVec 32 := Scalar.shrsi v2080 c3_i32_1712
  let c1_i32_1713 : BitVec 32 := 1#32
  let v2090 : BitVec 32 := Scalar.andi v2089 c1_i32_1713
  let v2091 : BitVec 32 := Scalar.muli c4_i32_1714 v2090
  let v2092 : BitVec 32 := Scalar.addi v2088 v2091
  let c2_i32_1717 : BitVec 32 := 2#32
  let c2_i32_1715 : BitVec 32 := 2#32
  let v2093 : BitVec 32 := Scalar.shrsi v2080 c2_i32_1715
  let c1_i32_1716 : BitVec 32 := 1#32
  let v2094 : BitVec 32 := Scalar.andi v2093 c1_i32_1716
  let v2095 : BitVec 32 := Scalar.muli c2_i32_1717 v2094
  let v2096 : BitVec 32 := Scalar.addi v2092 v2095
  let c4_i32_1718 : BitVec 32 := 4#32
  let v2097 : BitVec 32 := Scalar.shrsi v2080 c4_i32_1718
  let c1_i32_1719 : BitVec 32 := 1#32
  let v2098 : BitVec 32 := Scalar.andi v2097 c1_i32_1719
  let v2099 : BitVec 32 := Scalar.addi v2096 v2098
  let v2100 : BitVec 32 := Scalar.muli c32_i32_1720 v2099
  v2100
def k0_dev118 (d0 : Dev nD) : Nat :=
  let c0_i32_1731 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1727 : BitVec 32 := 1#32
  let v2108 : BitVec 32 := Scalar.xori v2 c1_i32_1727
  let c1_i32_1730 : BitVec 32 := 1#32
  let v2109 : BitVec 32 := Scalar.muli v2108 c1_i32_1730
  let v2110 : BitVec 32 := Scalar.addi c0_i32_1731 v2109
  v2110.toNat
def k0_mult75 (d0 : Dev nD) : BitVec 32 :=
  let c32_i32_1749 : BitVec 32 := 32#32
  let c16_i32_1737 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1734 : BitVec 32 := 7#32
  let v2117 : BitVec 32 := Scalar.xori v2 c7_i32_1734
  let c1_i32_1735 : BitVec 32 := 1#32
  let v2118 : BitVec 32 := Scalar.shrsi v2117 c1_i32_1735
  let v2119 : BitVec 32 := Scalar.xori v2117 v2118
  let c1_i32_1736 : BitVec 32 := 1#32
  let v2120 : BitVec 32 := Scalar.andi v2119 c1_i32_1736
  let v2121 : BitVec 32 := Scalar.muli c16_i32_1737 v2120
  let c8_i32_1740 : BitVec 32 := 8#32
  let c1_i32_1738 : BitVec 32 := 1#32
  let v2122 : BitVec 32 := Scalar.shrsi v2117 c1_i32_1738
  let c1_i32_1739 : BitVec 32 := 1#32
  let v2123 : BitVec 32 := Scalar.andi v2122 c1_i32_1739
  let v2124 : BitVec 32 := Scalar.muli c8_i32_1740 v2123
  let v2125 : BitVec 32 := Scalar.addi v2121 v2124
  let c4_i32_1743 : BitVec 32 := 4#32
  let c3_i32_1741 : BitVec 32 := 3#32
  let v2126 : BitVec 32 := Scalar.shrsi v2117 c3_i32_1741
  let c1_i32_1742 : BitVec 32 := 1#32
  let v2127 : BitVec 32 := Scalar.andi v2126 c1_i32_1742
  let v2128 : BitVec 32 := Scalar.muli c4_i32_1743 v2127
  let v2129 : BitVec 32 := Scalar.addi v2125 v2128
  let c2_i32_1746 : BitVec 32 := 2#32
  let c2_i32_1744 : BitVec 32 := 2#32
  let v2130 : BitVec 32 := Scalar.shrsi v2117 c2_i32_1744
  let c1_i32_1745 : BitVec 32 := 1#32
  let v2131 : BitVec 32 := Scalar.andi v2130 c1_i32_1745
  let v2132 : BitVec 32 := Scalar.muli c2_i32_1746 v2131
  let v2133 : BitVec 32 := Scalar.addi v2129 v2132
  let c4_i32_1747 : BitVec 32 := 4#32
  let v2134 : BitVec 32 := Scalar.shrsi v2117 c4_i32_1747
  let c1_i32_1748 : BitVec 32 := 1#32
  let v2135 : BitVec 32 := Scalar.andi v2134 c1_i32_1748
  let v2136 : BitVec 32 := Scalar.addi v2133 v2135
  let v2137 : BitVec 32 := Scalar.muli c32_i32_1749 v2136
  v2137
def k0_dev119 (d0 : Dev nD) : Nat :=
  let c0_i32_1760 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1756 : BitVec 32 := 1#32
  let v2145 : BitVec 32 := Scalar.xori v2 c1_i32_1756
  let c1_i32_1759 : BitVec 32 := 1#32
  let v2146 : BitVec 32 := Scalar.muli v2145 c1_i32_1759
  let v2147 : BitVec 32 := Scalar.addi c0_i32_1760 v2146
  v2147.toNat
def k0_mult76 (d0 : Dev nD) : BitVec 32 :=
  let c32_i32_1778 : BitVec 32 := 32#32
  let c16_i32_1766 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1763 : BitVec 32 := 23#32
  let v2154 : BitVec 32 := Scalar.xori v2 c23_i32_1763
  let c1_i32_1764 : BitVec 32 := 1#32
  let v2155 : BitVec 32 := Scalar.shrsi v2154 c1_i32_1764
  let v2156 : BitVec 32 := Scalar.xori v2154 v2155
  let c1_i32_1765 : BitVec 32 := 1#32
  let v2157 : BitVec 32 := Scalar.andi v2156 c1_i32_1765
  let v2158 : BitVec 32 := Scalar.muli c16_i32_1766 v2157
  let c8_i32_1769 : BitVec 32 := 8#32
  let c1_i32_1767 : BitVec 32 := 1#32
  let v2159 : BitVec 32 := Scalar.shrsi v2154 c1_i32_1767
  let c1_i32_1768 : BitVec 32 := 1#32
  let v2160 : BitVec 32 := Scalar.andi v2159 c1_i32_1768
  let v2161 : BitVec 32 := Scalar.muli c8_i32_1769 v2160
  let v2162 : BitVec 32 := Scalar.addi v2158 v2161
  let c4_i32_1772 : BitVec 32 := 4#32
  let c3_i32_1770 : BitVec 32 := 3#32
  let v2163 : BitVec 32 := Scalar.shrsi v2154 c3_i32_1770
  let c1_i32_1771 : BitVec 32 := 1#32
  let v2164 : BitVec 32 := Scalar.andi v2163 c1_i32_1771
  let v2165 : BitVec 32 := Scalar.muli c4_i32_1772 v2164
  let v2166 : BitVec 32 := Scalar.addi v2162 v2165
  let c2_i32_1775 : BitVec 32 := 2#32
  let c2_i32_1773 : BitVec 32 := 2#32
  let v2167 : BitVec 32 := Scalar.shrsi v2154 c2_i32_1773
  let c1_i32_1774 : BitVec 32 := 1#32
  let v2168 : BitVec 32 := Scalar.andi v2167 c1_i32_1774
  let v2169 : BitVec 32 := Scalar.muli c2_i32_1775 v2168
  let v2170 : BitVec 32 := Scalar.addi v2166 v2169
  let c4_i32_1776 : BitVec 32 := 4#32
  let v2171 : BitVec 32 := Scalar.shrsi v2154 c4_i32_1776
  let c1_i32_1777 : BitVec 32 := 1#32
  let v2172 : BitVec 32 := Scalar.andi v2171 c1_i32_1777
  let v2173 : BitVec 32 := Scalar.addi v2170 v2172
  let v2174 : BitVec 32 := Scalar.muli c32_i32_1778 v2173
  v2174
def k0_dev120 (d0 : Dev nD) : Nat :=
  let c0_i32_1789 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1785 : BitVec 32 := 1#32
  let v2182 : BitVec 32 := Scalar.xori v2 c1_i32_1785
  let c1_i32_1788 : BitVec 32 := 1#32
  let v2183 : BitVec 32 := Scalar.muli v2182 c1_i32_1788
  let v2184 : BitVec 32 := Scalar.addi c0_i32_1789 v2183
  v2184.toNat
def k0_mult77 (d0 : Dev nD) : BitVec 32 :=
  let c32_i32_1807 : BitVec 32 := 32#32
  let c16_i32_1795 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1792 : BitVec 32 := 11#32
  let v2191 : BitVec 32 := Scalar.xori v2 c11_i32_1792
  let c1_i32_1793 : BitVec 32 := 1#32
  let v2192 : BitVec 32 := Scalar.shrsi v2191 c1_i32_1793
  let v2193 : BitVec 32 := Scalar.xori v2191 v2192
  let c1_i32_1794 : BitVec 32 := 1#32
  let v2194 : BitVec 32 := Scalar.andi v2193 c1_i32_1794
  let v2195 : BitVec 32 := Scalar.muli c16_i32_1795 v2194
  let c8_i32_1798 : BitVec 32 := 8#32
  let c1_i32_1796 : BitVec 32 := 1#32
  let v2196 : BitVec 32 := Scalar.shrsi v2191 c1_i32_1796
  let c1_i32_1797 : BitVec 32 := 1#32
  let v2197 : BitVec 32 := Scalar.andi v2196 c1_i32_1797
  let v2198 : BitVec 32 := Scalar.muli c8_i32_1798 v2197
  let v2199 : BitVec 32 := Scalar.addi v2195 v2198
  let c4_i32_1801 : BitVec 32 := 4#32
  let c3_i32_1799 : BitVec 32 := 3#32
  let v2200 : BitVec 32 := Scalar.shrsi v2191 c3_i32_1799
  let c1_i32_1800 : BitVec 32 := 1#32
  let v2201 : BitVec 32 := Scalar.andi v2200 c1_i32_1800
  let v2202 : BitVec 32 := Scalar.muli c4_i32_1801 v2201
  let v2203 : BitVec 32 := Scalar.addi v2199 v2202
  let c2_i32_1804 : BitVec 32 := 2#32
  let c2_i32_1802 : BitVec 32 := 2#32
  let v2204 : BitVec 32 := Scalar.shrsi v2191 c2_i32_1802
  let c1_i32_1803 : BitVec 32 := 1#32
  let v2205 : BitVec 32 := Scalar.andi v2204 c1_i32_1803
  let v2206 : BitVec 32 := Scalar.muli c2_i32_1804 v2205
  let v2207 : BitVec 32 := Scalar.addi v2203 v2206
  let c4_i32_1805 : BitVec 32 := 4#32
  let v2208 : BitVec 32 := Scalar.shrsi v2191 c4_i32_1805
  let c1_i32_1806 : BitVec 32 := 1#32
  let v2209 : BitVec 32 := Scalar.andi v2208 c1_i32_1806
  let v2210 : BitVec 32 := Scalar.addi v2207 v2209
  let v2211 : BitVec 32 := Scalar.muli c32_i32_1807 v2210
  v2211
def k0_dev121 (d0 : Dev nD) : Nat :=
  let c0_i32_1818 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1814 : BitVec 32 := 1#32
  let v2219 : BitVec 32 := Scalar.xori v2 c1_i32_1814
  let c1_i32_1817 : BitVec 32 := 1#32
  let v2220 : BitVec 32 := Scalar.muli v2219 c1_i32_1817
  let v2221 : BitVec 32 := Scalar.addi c0_i32_1818 v2220
  v2221.toNat
def k0_mult78 (d0 : Dev nD) : BitVec 32 :=
  let c32_i32_1836 : BitVec 32 := 32#32
  let c16_i32_1824 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1821 : BitVec 32 := 27#32
  let v2228 : BitVec 32 := Scalar.xori v2 c27_i32_1821
  let c1_i32_1822 : BitVec 32 := 1#32
  let v2229 : BitVec 32 := Scalar.shrsi v2228 c1_i32_1822
  let v2230 : BitVec 32 := Scalar.xori v2228 v2229
  let c1_i32_1823 : BitVec 32 := 1#32
  let v2231 : BitVec 32 := Scalar.andi v2230 c1_i32_1823
  let v2232 : BitVec 32 := Scalar.muli c16_i32_1824 v2231
  let c8_i32_1827 : BitVec 32 := 8#32
  let c1_i32_1825 : BitVec 32 := 1#32
  let v2233 : BitVec 32 := Scalar.shrsi v2228 c1_i32_1825
  let c1_i32_1826 : BitVec 32 := 1#32
  let v2234 : BitVec 32 := Scalar.andi v2233 c1_i32_1826
  let v2235 : BitVec 32 := Scalar.muli c8_i32_1827 v2234
  let v2236 : BitVec 32 := Scalar.addi v2232 v2235
  let c4_i32_1830 : BitVec 32 := 4#32
  let c3_i32_1828 : BitVec 32 := 3#32
  let v2237 : BitVec 32 := Scalar.shrsi v2228 c3_i32_1828
  let c1_i32_1829 : BitVec 32 := 1#32
  let v2238 : BitVec 32 := Scalar.andi v2237 c1_i32_1829
  let v2239 : BitVec 32 := Scalar.muli c4_i32_1830 v2238
  let v2240 : BitVec 32 := Scalar.addi v2236 v2239
  let c2_i32_1833 : BitVec 32 := 2#32
  let c2_i32_1831 : BitVec 32 := 2#32
  let v2241 : BitVec 32 := Scalar.shrsi v2228 c2_i32_1831
  let c1_i32_1832 : BitVec 32 := 1#32
  let v2242 : BitVec 32 := Scalar.andi v2241 c1_i32_1832
  let v2243 : BitVec 32 := Scalar.muli c2_i32_1833 v2242
  let v2244 : BitVec 32 := Scalar.addi v2240 v2243
  let c4_i32_1834 : BitVec 32 := 4#32
  let v2245 : BitVec 32 := Scalar.shrsi v2228 c4_i32_1834
  let c1_i32_1835 : BitVec 32 := 1#32
  let v2246 : BitVec 32 := Scalar.andi v2245 c1_i32_1835
  let v2247 : BitVec 32 := Scalar.addi v2244 v2246
  let v2248 : BitVec 32 := Scalar.muli c32_i32_1836 v2247
  v2248
def k0_dev122 (d0 : Dev nD) : Nat :=
  let c0_i32_1847 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1843 : BitVec 32 := 1#32
  let v2256 : BitVec 32 := Scalar.xori v2 c1_i32_1843
  let c1_i32_1846 : BitVec 32 := 1#32
  let v2257 : BitVec 32 := Scalar.muli v2256 c1_i32_1846
  let v2258 : BitVec 32 := Scalar.addi c0_i32_1847 v2257
  v2258.toNat
def k0_mult79 (d0 : Dev nD) : BitVec 32 :=
  let c32_i32_1865 : BitVec 32 := 32#32
  let c16_i32_1853 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1850 : BitVec 32 := 15#32
  let v2265 : BitVec 32 := Scalar.xori v2 c15_i32_1850
  let c1_i32_1851 : BitVec 32 := 1#32
  let v2266 : BitVec 32 := Scalar.shrsi v2265 c1_i32_1851
  let v2267 : BitVec 32 := Scalar.xori v2265 v2266
  let c1_i32_1852 : BitVec 32 := 1#32
  let v2268 : BitVec 32 := Scalar.andi v2267 c1_i32_1852
  let v2269 : BitVec 32 := Scalar.muli c16_i32_1853 v2268
  let c8_i32_1856 : BitVec 32 := 8#32
  let c1_i32_1854 : BitVec 32 := 1#32
  let v2270 : BitVec 32 := Scalar.shrsi v2265 c1_i32_1854
  let c1_i32_1855 : BitVec 32 := 1#32
  let v2271 : BitVec 32 := Scalar.andi v2270 c1_i32_1855
  let v2272 : BitVec 32 := Scalar.muli c8_i32_1856 v2271
  let v2273 : BitVec 32 := Scalar.addi v2269 v2272
  let c4_i32_1859 : BitVec 32 := 4#32
  let c3_i32_1857 : BitVec 32 := 3#32
  let v2274 : BitVec 32 := Scalar.shrsi v2265 c3_i32_1857
  let c1_i32_1858 : BitVec 32 := 1#32
  let v2275 : BitVec 32 := Scalar.andi v2274 c1_i32_1858
  let v2276 : BitVec 32 := Scalar.muli c4_i32_1859 v2275
  let v2277 : BitVec 32 := Scalar.addi v2273 v2276
  let c2_i32_1862 : BitVec 32 := 2#32
  let c2_i32_1860 : BitVec 32 := 2#32
  let v2278 : BitVec 32 := Scalar.shrsi v2265 c2_i32_1860
  let c1_i32_1861 : BitVec 32 := 1#32
  let v2279 : BitVec 32 := Scalar.andi v2278 c1_i32_1861
  let v2280 : BitVec 32 := Scalar.muli c2_i32_1862 v2279
  let v2281 : BitVec 32 := Scalar.addi v2277 v2280
  let c4_i32_1863 : BitVec 32 := 4#32
  let v2282 : BitVec 32 := Scalar.shrsi v2265 c4_i32_1863
  let c1_i32_1864 : BitVec 32 := 1#32
  let v2283 : BitVec 32 := Scalar.andi v2282 c1_i32_1864
  let v2284 : BitVec 32 := Scalar.addi v2281 v2283
  let v2285 : BitVec 32 := Scalar.muli c32_i32_1865 v2284
  v2285
def k0_dev123 (d0 : Dev nD) : Nat :=
  let c0_i32_1876 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1872 : BitVec 32 := 1#32
  let v2293 : BitVec 32 := Scalar.xori v2 c1_i32_1872
  let c1_i32_1875 : BitVec 32 := 1#32
  let v2294 : BitVec 32 := Scalar.muli v2293 c1_i32_1875
  let v2295 : BitVec 32 := Scalar.addi c0_i32_1876 v2294
  v2295.toNat
def k0_mult80 (d0 : Dev nD) : BitVec 32 :=
  let c32_i32_1894 : BitVec 32 := 32#32
  let c16_i32_1882 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1879 : BitVec 32 := 31#32
  let v2302 : BitVec 32 := Scalar.xori v2 c31_i32_1879
  let c1_i32_1880 : BitVec 32 := 1#32
  let v2303 : BitVec 32 := Scalar.shrsi v2302 c1_i32_1880
  let v2304 : BitVec 32 := Scalar.xori v2302 v2303
  let c1_i32_1881 : BitVec 32 := 1#32
  let v2305 : BitVec 32 := Scalar.andi v2304 c1_i32_1881
  let v2306 : BitVec 32 := Scalar.muli c16_i32_1882 v2305
  let c8_i32_1885 : BitVec 32 := 8#32
  let c1_i32_1883 : BitVec 32 := 1#32
  let v2307 : BitVec 32 := Scalar.shrsi v2302 c1_i32_1883
  let c1_i32_1884 : BitVec 32 := 1#32
  let v2308 : BitVec 32 := Scalar.andi v2307 c1_i32_1884
  let v2309 : BitVec 32 := Scalar.muli c8_i32_1885 v2308
  let v2310 : BitVec 32 := Scalar.addi v2306 v2309
  let c4_i32_1888 : BitVec 32 := 4#32
  let c3_i32_1886 : BitVec 32 := 3#32
  let v2311 : BitVec 32 := Scalar.shrsi v2302 c3_i32_1886
  let c1_i32_1887 : BitVec 32 := 1#32
  let v2312 : BitVec 32 := Scalar.andi v2311 c1_i32_1887
  let v2313 : BitVec 32 := Scalar.muli c4_i32_1888 v2312
  let v2314 : BitVec 32 := Scalar.addi v2310 v2313
  let c2_i32_1891 : BitVec 32 := 2#32
  let c2_i32_1889 : BitVec 32 := 2#32
  let v2315 : BitVec 32 := Scalar.shrsi v2302 c2_i32_1889
  let c1_i32_1890 : BitVec 32 := 1#32
  let v2316 : BitVec 32 := Scalar.andi v2315 c1_i32_1890
  let v2317 : BitVec 32 := Scalar.muli c2_i32_1891 v2316
  let v2318 : BitVec 32 := Scalar.addi v2314 v2317
  let c4_i32_1892 : BitVec 32 := 4#32
  let v2319 : BitVec 32 := Scalar.shrsi v2302 c4_i32_1892
  let c1_i32_1893 : BitVec 32 := 1#32
  let v2320 : BitVec 32 := Scalar.andi v2319 c1_i32_1893
  let v2321 : BitVec 32 := Scalar.addi v2318 v2320
  let v2322 : BitVec 32 := Scalar.muli c32_i32_1894 v2321
  v2322
def k0_dev124 (d0 : Dev nD) : Nat :=
  let c0_i32_1905 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1901 : BitVec 32 := 1#32
  let v2330 : BitVec 32 := Scalar.xori v2 c1_i32_1901
  let c1_i32_1904 : BitVec 32 := 1#32
  let v2331 : BitVec 32 := Scalar.muli v2330 c1_i32_1904
  let v2332 : BitVec 32 := Scalar.addi c0_i32_1905 v2331
  v2332.toNat
def k0_mult81 (d0 : Dev nD) : BitVec 32 :=
  let c32_i32_1923 : BitVec 32 := 32#32
  let c16_i32_1911 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1908 : BitVec 32 := 1#32
  let v2339 : BitVec 32 := Scalar.xori v2 c1_i32_1908
  let c1_i32_1909 : BitVec 32 := 1#32
  let v2340 : BitVec 32 := Scalar.shrsi v2339 c1_i32_1909
  let v2341 : BitVec 32 := Scalar.xori v2339 v2340
  let c1_i32_1910 : BitVec 32 := 1#32
  let v2342 : BitVec 32 := Scalar.andi v2341 c1_i32_1910
  let v2343 : BitVec 32 := Scalar.muli c16_i32_1911 v2342
  let c8_i32_1914 : BitVec 32 := 8#32
  let c1_i32_1912 : BitVec 32 := 1#32
  let v2344 : BitVec 32 := Scalar.shrsi v2339 c1_i32_1912
  let c1_i32_1913 : BitVec 32 := 1#32
  let v2345 : BitVec 32 := Scalar.andi v2344 c1_i32_1913
  let v2346 : BitVec 32 := Scalar.muli c8_i32_1914 v2345
  let v2347 : BitVec 32 := Scalar.addi v2343 v2346
  let c4_i32_1917 : BitVec 32 := 4#32
  let c3_i32_1915 : BitVec 32 := 3#32
  let v2348 : BitVec 32 := Scalar.shrsi v2339 c3_i32_1915
  let c1_i32_1916 : BitVec 32 := 1#32
  let v2349 : BitVec 32 := Scalar.andi v2348 c1_i32_1916
  let v2350 : BitVec 32 := Scalar.muli c4_i32_1917 v2349
  let v2351 : BitVec 32 := Scalar.addi v2347 v2350
  let c2_i32_1920 : BitVec 32 := 2#32
  let c2_i32_1918 : BitVec 32 := 2#32
  let v2352 : BitVec 32 := Scalar.shrsi v2339 c2_i32_1918
  let c1_i32_1919 : BitVec 32 := 1#32
  let v2353 : BitVec 32 := Scalar.andi v2352 c1_i32_1919
  let v2354 : BitVec 32 := Scalar.muli c2_i32_1920 v2353
  let v2355 : BitVec 32 := Scalar.addi v2351 v2354
  let c4_i32_1921 : BitVec 32 := 4#32
  let v2356 : BitVec 32 := Scalar.shrsi v2339 c4_i32_1921
  let c1_i32_1922 : BitVec 32 := 1#32
  let v2357 : BitVec 32 := Scalar.andi v2356 c1_i32_1922
  let v2358 : BitVec 32 := Scalar.addi v2355 v2357
  let v2359 : BitVec 32 := Scalar.muli c32_i32_1923 v2358
  v2359
def k0_mult82 (d0 : Dev nD) : BitVec 32 :=
  let c32_i32_1945 : BitVec 32 := 32#32
  let c16_i32_1933 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1930 : BitVec 32 := 17#32
  let v2367 : BitVec 32 := Scalar.xori v2 c17_i32_1930
  let c1_i32_1931 : BitVec 32 := 1#32
  let v2368 : BitVec 32 := Scalar.shrsi v2367 c1_i32_1931
  let v2369 : BitVec 32 := Scalar.xori v2367 v2368
  let c1_i32_1932 : BitVec 32 := 1#32
  let v2370 : BitVec 32 := Scalar.andi v2369 c1_i32_1932
  let v2371 : BitVec 32 := Scalar.muli c16_i32_1933 v2370
  let c8_i32_1936 : BitVec 32 := 8#32
  let c1_i32_1934 : BitVec 32 := 1#32
  let v2372 : BitVec 32 := Scalar.shrsi v2367 c1_i32_1934
  let c1_i32_1935 : BitVec 32 := 1#32
  let v2373 : BitVec 32 := Scalar.andi v2372 c1_i32_1935
  let v2374 : BitVec 32 := Scalar.muli c8_i32_1936 v2373
  let v2375 : BitVec 32 := Scalar.addi v2371 v2374
  let c4_i32_1939 : BitVec 32 := 4#32
  let c3_i32_1937 : BitVec 32 := 3#32
  let v2376 : BitVec 32 := Scalar.shrsi v2367 c3_i32_1937
  let c1_i32_1938 : BitVec 32 := 1#32
  let v2377 : BitVec 32 := Scalar.andi v2376 c1_i32_1938
  let v2378 : BitVec 32 := Scalar.muli c4_i32_1939 v2377
  let v2379 : BitVec 32 := Scalar.addi v2375 v2378
  let c2_i32_1942 : BitVec 32 := 2#32
  let c2_i32_1940 : BitVec 32 := 2#32
  let v2380 : BitVec 32 := Scalar.shrsi v2367 c2_i32_1940
  let c1_i32_1941 : BitVec 32 := 1#32
  let v2381 : BitVec 32 := Scalar.andi v2380 c1_i32_1941
  let v2382 : BitVec 32 := Scalar.muli c2_i32_1942 v2381
  let v2383 : BitVec 32 := Scalar.addi v2379 v2382
  let c4_i32_1943 : BitVec 32 := 4#32
  let v2384 : BitVec 32 := Scalar.shrsi v2367 c4_i32_1943
  let c1_i32_1944 : BitVec 32 := 1#32
  let v2385 : BitVec 32 := Scalar.andi v2384 c1_i32_1944
  let v2386 : BitVec 32 := Scalar.addi v2383 v2385
  let v2387 : BitVec 32 := Scalar.muli c32_i32_1945 v2386
  v2387
def k0_mult83 (d0 : Dev nD) : BitVec 32 :=
  let c32_i32_1967 : BitVec 32 := 32#32
  let c16_i32_1955 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1952 : BitVec 32 := 5#32
  let v2395 : BitVec 32 := Scalar.xori v2 c5_i32_1952
  let c1_i32_1953 : BitVec 32 := 1#32
  let v2396 : BitVec 32 := Scalar.shrsi v2395 c1_i32_1953
  let v2397 : BitVec 32 := Scalar.xori v2395 v2396
  let c1_i32_1954 : BitVec 32 := 1#32
  let v2398 : BitVec 32 := Scalar.andi v2397 c1_i32_1954
  let v2399 : BitVec 32 := Scalar.muli c16_i32_1955 v2398
  let c8_i32_1958 : BitVec 32 := 8#32
  let c1_i32_1956 : BitVec 32 := 1#32
  let v2400 : BitVec 32 := Scalar.shrsi v2395 c1_i32_1956
  let c1_i32_1957 : BitVec 32 := 1#32
  let v2401 : BitVec 32 := Scalar.andi v2400 c1_i32_1957
  let v2402 : BitVec 32 := Scalar.muli c8_i32_1958 v2401
  let v2403 : BitVec 32 := Scalar.addi v2399 v2402
  let c4_i32_1961 : BitVec 32 := 4#32
  let c3_i32_1959 : BitVec 32 := 3#32
  let v2404 : BitVec 32 := Scalar.shrsi v2395 c3_i32_1959
  let c1_i32_1960 : BitVec 32 := 1#32
  let v2405 : BitVec 32 := Scalar.andi v2404 c1_i32_1960
  let v2406 : BitVec 32 := Scalar.muli c4_i32_1961 v2405
  let v2407 : BitVec 32 := Scalar.addi v2403 v2406
  let c2_i32_1964 : BitVec 32 := 2#32
  let c2_i32_1962 : BitVec 32 := 2#32
  let v2408 : BitVec 32 := Scalar.shrsi v2395 c2_i32_1962
  let c1_i32_1963 : BitVec 32 := 1#32
  let v2409 : BitVec 32 := Scalar.andi v2408 c1_i32_1963
  let v2410 : BitVec 32 := Scalar.muli c2_i32_1964 v2409
  let v2411 : BitVec 32 := Scalar.addi v2407 v2410
  let c4_i32_1965 : BitVec 32 := 4#32
  let v2412 : BitVec 32 := Scalar.shrsi v2395 c4_i32_1965
  let c1_i32_1966 : BitVec 32 := 1#32
  let v2413 : BitVec 32 := Scalar.andi v2412 c1_i32_1966
  let v2414 : BitVec 32 := Scalar.addi v2411 v2413
  let v2415 : BitVec 32 := Scalar.muli c32_i32_1967 v2414
  v2415
def k0_mult84 (d0 : Dev nD) : BitVec 32 :=
  let c32_i32_1989 : BitVec 32 := 32#32
  let c16_i32_1977 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1974 : BitVec 32 := 21#32
  let v2423 : BitVec 32 := Scalar.xori v2 c21_i32_1974
  let c1_i32_1975 : BitVec 32 := 1#32
  let v2424 : BitVec 32 := Scalar.shrsi v2423 c1_i32_1975
  let v2425 : BitVec 32 := Scalar.xori v2423 v2424
  let c1_i32_1976 : BitVec 32 := 1#32
  let v2426 : BitVec 32 := Scalar.andi v2425 c1_i32_1976
  let v2427 : BitVec 32 := Scalar.muli c16_i32_1977 v2426
  let c8_i32_1980 : BitVec 32 := 8#32
  let c1_i32_1978 : BitVec 32 := 1#32
  let v2428 : BitVec 32 := Scalar.shrsi v2423 c1_i32_1978
  let c1_i32_1979 : BitVec 32 := 1#32
  let v2429 : BitVec 32 := Scalar.andi v2428 c1_i32_1979
  let v2430 : BitVec 32 := Scalar.muli c8_i32_1980 v2429
  let v2431 : BitVec 32 := Scalar.addi v2427 v2430
  let c4_i32_1983 : BitVec 32 := 4#32
  let c3_i32_1981 : BitVec 32 := 3#32
  let v2432 : BitVec 32 := Scalar.shrsi v2423 c3_i32_1981
  let c1_i32_1982 : BitVec 32 := 1#32
  let v2433 : BitVec 32 := Scalar.andi v2432 c1_i32_1982
  let v2434 : BitVec 32 := Scalar.muli c4_i32_1983 v2433
  let v2435 : BitVec 32 := Scalar.addi v2431 v2434
  let c2_i32_1986 : BitVec 32 := 2#32
  let c2_i32_1984 : BitVec 32 := 2#32
  let v2436 : BitVec 32 := Scalar.shrsi v2423 c2_i32_1984
  let c1_i32_1985 : BitVec 32 := 1#32
  let v2437 : BitVec 32 := Scalar.andi v2436 c1_i32_1985
  let v2438 : BitVec 32 := Scalar.muli c2_i32_1986 v2437
  let v2439 : BitVec 32 := Scalar.addi v2435 v2438
  let c4_i32_1987 : BitVec 32 := 4#32
  let v2440 : BitVec 32 := Scalar.shrsi v2423 c4_i32_1987
  let c1_i32_1988 : BitVec 32 := 1#32
  let v2441 : BitVec 32 := Scalar.andi v2440 c1_i32_1988
  let v2442 : BitVec 32 := Scalar.addi v2439 v2441
  let v2443 : BitVec 32 := Scalar.muli c32_i32_1989 v2442
  v2443
def k0_mult85 (d0 : Dev nD) : BitVec 32 :=
  let c32_i32_2011 : BitVec 32 := 32#32
  let c16_i32_1999 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1996 : BitVec 32 := 9#32
  let v2451 : BitVec 32 := Scalar.xori v2 c9_i32_1996
  let c1_i32_1997 : BitVec 32 := 1#32
  let v2452 : BitVec 32 := Scalar.shrsi v2451 c1_i32_1997
  let v2453 : BitVec 32 := Scalar.xori v2451 v2452
  let c1_i32_1998 : BitVec 32 := 1#32
  let v2454 : BitVec 32 := Scalar.andi v2453 c1_i32_1998
  let v2455 : BitVec 32 := Scalar.muli c16_i32_1999 v2454
  let c8_i32_2002 : BitVec 32 := 8#32
  let c1_i32_2000 : BitVec 32 := 1#32
  let v2456 : BitVec 32 := Scalar.shrsi v2451 c1_i32_2000
  let c1_i32_2001 : BitVec 32 := 1#32
  let v2457 : BitVec 32 := Scalar.andi v2456 c1_i32_2001
  let v2458 : BitVec 32 := Scalar.muli c8_i32_2002 v2457
  let v2459 : BitVec 32 := Scalar.addi v2455 v2458
  let c4_i32_2005 : BitVec 32 := 4#32
  let c3_i32_2003 : BitVec 32 := 3#32
  let v2460 : BitVec 32 := Scalar.shrsi v2451 c3_i32_2003
  let c1_i32_2004 : BitVec 32 := 1#32
  let v2461 : BitVec 32 := Scalar.andi v2460 c1_i32_2004
  let v2462 : BitVec 32 := Scalar.muli c4_i32_2005 v2461
  let v2463 : BitVec 32 := Scalar.addi v2459 v2462
  let c2_i32_2008 : BitVec 32 := 2#32
  let c2_i32_2006 : BitVec 32 := 2#32
  let v2464 : BitVec 32 := Scalar.shrsi v2451 c2_i32_2006
  let c1_i32_2007 : BitVec 32 := 1#32
  let v2465 : BitVec 32 := Scalar.andi v2464 c1_i32_2007
  let v2466 : BitVec 32 := Scalar.muli c2_i32_2008 v2465
  let v2467 : BitVec 32 := Scalar.addi v2463 v2466
  let c4_i32_2009 : BitVec 32 := 4#32
  let v2468 : BitVec 32 := Scalar.shrsi v2451 c4_i32_2009
  let c1_i32_2010 : BitVec 32 := 1#32
  let v2469 : BitVec 32 := Scalar.andi v2468 c1_i32_2010
  let v2470 : BitVec 32 := Scalar.addi v2467 v2469
  let v2471 : BitVec 32 := Scalar.muli c32_i32_2011 v2470
  v2471
def k0_mult86 (d0 : Dev nD) : BitVec 32 :=
  let c32_i32_2033 : BitVec 32 := 32#32
  let c16_i32_2021 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_2018 : BitVec 32 := 25#32
  let v2479 : BitVec 32 := Scalar.xori v2 c25_i32_2018
  let c1_i32_2019 : BitVec 32 := 1#32
  let v2480 : BitVec 32 := Scalar.shrsi v2479 c1_i32_2019
  let v2481 : BitVec 32 := Scalar.xori v2479 v2480
  let c1_i32_2020 : BitVec 32 := 1#32
  let v2482 : BitVec 32 := Scalar.andi v2481 c1_i32_2020
  let v2483 : BitVec 32 := Scalar.muli c16_i32_2021 v2482
  let c8_i32_2024 : BitVec 32 := 8#32
  let c1_i32_2022 : BitVec 32 := 1#32
  let v2484 : BitVec 32 := Scalar.shrsi v2479 c1_i32_2022
  let c1_i32_2023 : BitVec 32 := 1#32
  let v2485 : BitVec 32 := Scalar.andi v2484 c1_i32_2023
  let v2486 : BitVec 32 := Scalar.muli c8_i32_2024 v2485
  let v2487 : BitVec 32 := Scalar.addi v2483 v2486
  let c4_i32_2027 : BitVec 32 := 4#32
  let c3_i32_2025 : BitVec 32 := 3#32
  let v2488 : BitVec 32 := Scalar.shrsi v2479 c3_i32_2025
  let c1_i32_2026 : BitVec 32 := 1#32
  let v2489 : BitVec 32 := Scalar.andi v2488 c1_i32_2026
  let v2490 : BitVec 32 := Scalar.muli c4_i32_2027 v2489
  let v2491 : BitVec 32 := Scalar.addi v2487 v2490
  let c2_i32_2030 : BitVec 32 := 2#32
  let c2_i32_2028 : BitVec 32 := 2#32
  let v2492 : BitVec 32 := Scalar.shrsi v2479 c2_i32_2028
  let c1_i32_2029 : BitVec 32 := 1#32
  let v2493 : BitVec 32 := Scalar.andi v2492 c1_i32_2029
  let v2494 : BitVec 32 := Scalar.muli c2_i32_2030 v2493
  let v2495 : BitVec 32 := Scalar.addi v2491 v2494
  let c4_i32_2031 : BitVec 32 := 4#32
  let v2496 : BitVec 32 := Scalar.shrsi v2479 c4_i32_2031
  let c1_i32_2032 : BitVec 32 := 1#32
  let v2497 : BitVec 32 := Scalar.andi v2496 c1_i32_2032
  let v2498 : BitVec 32 := Scalar.addi v2495 v2497
  let v2499 : BitVec 32 := Scalar.muli c32_i32_2033 v2498
  v2499
def k0_mult87 (d0 : Dev nD) : BitVec 32 :=
  let c32_i32_2055 : BitVec 32 := 32#32
  let c16_i32_2043 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_2040 : BitVec 32 := 13#32
  let v2507 : BitVec 32 := Scalar.xori v2 c13_i32_2040
  let c1_i32_2041 : BitVec 32 := 1#32
  let v2508 : BitVec 32 := Scalar.shrsi v2507 c1_i32_2041
  let v2509 : BitVec 32 := Scalar.xori v2507 v2508
  let c1_i32_2042 : BitVec 32 := 1#32
  let v2510 : BitVec 32 := Scalar.andi v2509 c1_i32_2042
  let v2511 : BitVec 32 := Scalar.muli c16_i32_2043 v2510
  let c8_i32_2046 : BitVec 32 := 8#32
  let c1_i32_2044 : BitVec 32 := 1#32
  let v2512 : BitVec 32 := Scalar.shrsi v2507 c1_i32_2044
  let c1_i32_2045 : BitVec 32 := 1#32
  let v2513 : BitVec 32 := Scalar.andi v2512 c1_i32_2045
  let v2514 : BitVec 32 := Scalar.muli c8_i32_2046 v2513
  let v2515 : BitVec 32 := Scalar.addi v2511 v2514
  let c4_i32_2049 : BitVec 32 := 4#32
  let c3_i32_2047 : BitVec 32 := 3#32
  let v2516 : BitVec 32 := Scalar.shrsi v2507 c3_i32_2047
  let c1_i32_2048 : BitVec 32 := 1#32
  let v2517 : BitVec 32 := Scalar.andi v2516 c1_i32_2048
  let v2518 : BitVec 32 := Scalar.muli c4_i32_2049 v2517
  let v2519 : BitVec 32 := Scalar.addi v2515 v2518
  let c2_i32_2052 : BitVec 32 := 2#32
  let c2_i32_2050 : BitVec 32 := 2#32
  let v2520 : BitVec 32 := Scalar.shrsi v2507 c2_i32_2050
  let c1_i32_2051 : BitVec 32 := 1#32
  let v2521 : BitVec 32 := Scalar.andi v2520 c1_i32_2051
  let v2522 : BitVec 32 := Scalar.muli c2_i32_2052 v2521
  let v2523 : BitVec 32 := Scalar.addi v2519 v2522
  let c4_i32_2053 : BitVec 32 := 4#32
  let v2524 : BitVec 32 := Scalar.shrsi v2507 c4_i32_2053
  let c1_i32_2054 : BitVec 32 := 1#32
  let v2525 : BitVec 32 := Scalar.andi v2524 c1_i32_2054
  let v2526 : BitVec 32 := Scalar.addi v2523 v2525
  let v2527 : BitVec 32 := Scalar.muli c32_i32_2055 v2526
  v2527
def k0_mult88 (d0 : Dev nD) : BitVec 32 :=
  let c32_i32_2077 : BitVec 32 := 32#32
  let c16_i32_2065 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_2062 : BitVec 32 := 29#32
  let v2535 : BitVec 32 := Scalar.xori v2 c29_i32_2062
  let c1_i32_2063 : BitVec 32 := 1#32
  let v2536 : BitVec 32 := Scalar.shrsi v2535 c1_i32_2063
  let v2537 : BitVec 32 := Scalar.xori v2535 v2536
  let c1_i32_2064 : BitVec 32 := 1#32
  let v2538 : BitVec 32 := Scalar.andi v2537 c1_i32_2064
  let v2539 : BitVec 32 := Scalar.muli c16_i32_2065 v2538
  let c8_i32_2068 : BitVec 32 := 8#32
  let c1_i32_2066 : BitVec 32 := 1#32
  let v2540 : BitVec 32 := Scalar.shrsi v2535 c1_i32_2066
  let c1_i32_2067 : BitVec 32 := 1#32
  let v2541 : BitVec 32 := Scalar.andi v2540 c1_i32_2067
  let v2542 : BitVec 32 := Scalar.muli c8_i32_2068 v2541
  let v2543 : BitVec 32 := Scalar.addi v2539 v2542
  let c4_i32_2071 : BitVec 32 := 4#32
  let c3_i32_2069 : BitVec 32 := 3#32
  let v2544 : BitVec 32 := Scalar.shrsi v2535 c3_i32_2069
  let c1_i32_2070 : BitVec 32 := 1#32
  let v2545 : BitVec 32 := Scalar.andi v2544 c1_i32_2070
  let v2546 : BitVec 32 := Scalar.muli c4_i32_2071 v2545
  let v2547 : BitVec 32 := Scalar.addi v2543 v2546
  let c2_i32_2074 : BitVec 32 := 2#32
  let c2_i32_2072 : BitVec 32 := 2#32
  let v2548 : BitVec 32 := Scalar.shrsi v2535 c2_i32_2072
  let c1_i32_2073 : BitVec 32 := 1#32
  let v2549 : BitVec 32 := Scalar.andi v2548 c1_i32_2073
  let v2550 : BitVec 32 := Scalar.muli c2_i32_2074 v2549
  let v2551 : BitVec 32 := Scalar.addi v2547 v2550
  let c4_i32_2075 : BitVec 32 := 4#32
  let v2552 : BitVec 32 := Scalar.shrsi v2535 c4_i32_2075
  let c1_i32_2076 : BitVec 32 := 1#32
  let v2553 : BitVec 32 := Scalar.andi v2552 c1_i32_2076
  let v2554 : BitVec 32 := Scalar.addi v2551 v2553
  let v2555 : BitVec 32 := Scalar.muli c32_i32_2077 v2554
  v2555
def k0_mult89 (d0 : Dev nD) : BitVec 32 :=
  let c32_i32_2099 : BitVec 32 := 32#32
  let c16_i32_2087 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_2084 : BitVec 32 := 2#32
  let v2563 : BitVec 32 := Scalar.xori v2 c2_i32_2084
  let c1_i32_2085 : BitVec 32 := 1#32
  let v2564 : BitVec 32 := Scalar.shrsi v2563 c1_i32_2085
  let v2565 : BitVec 32 := Scalar.xori v2563 v2564
  let c1_i32_2086 : BitVec 32 := 1#32
  let v2566 : BitVec 32 := Scalar.andi v2565 c1_i32_2086
  let v2567 : BitVec 32 := Scalar.muli c16_i32_2087 v2566
  let c8_i32_2090 : BitVec 32 := 8#32
  let c1_i32_2088 : BitVec 32 := 1#32
  let v2568 : BitVec 32 := Scalar.shrsi v2563 c1_i32_2088
  let c1_i32_2089 : BitVec 32 := 1#32
  let v2569 : BitVec 32 := Scalar.andi v2568 c1_i32_2089
  let v2570 : BitVec 32 := Scalar.muli c8_i32_2090 v2569
  let v2571 : BitVec 32 := Scalar.addi v2567 v2570
  let c4_i32_2093 : BitVec 32 := 4#32
  let c3_i32_2091 : BitVec 32 := 3#32
  let v2572 : BitVec 32 := Scalar.shrsi v2563 c3_i32_2091
  let c1_i32_2092 : BitVec 32 := 1#32
  let v2573 : BitVec 32 := Scalar.andi v2572 c1_i32_2092
  let v2574 : BitVec 32 := Scalar.muli c4_i32_2093 v2573
  let v2575 : BitVec 32 := Scalar.addi v2571 v2574
  let c2_i32_2096 : BitVec 32 := 2#32
  let c2_i32_2094 : BitVec 32 := 2#32
  let v2576 : BitVec 32 := Scalar.shrsi v2563 c2_i32_2094
  let c1_i32_2095 : BitVec 32 := 1#32
  let v2577 : BitVec 32 := Scalar.andi v2576 c1_i32_2095
  let v2578 : BitVec 32 := Scalar.muli c2_i32_2096 v2577
  let v2579 : BitVec 32 := Scalar.addi v2575 v2578
  let c4_i32_2097 : BitVec 32 := 4#32
  let v2580 : BitVec 32 := Scalar.shrsi v2563 c4_i32_2097
  let c1_i32_2098 : BitVec 32 := 1#32
  let v2581 : BitVec 32 := Scalar.andi v2580 c1_i32_2098
  let v2582 : BitVec 32 := Scalar.addi v2579 v2581
  let v2583 : BitVec 32 := Scalar.muli c32_i32_2099 v2582
  v2583
def k0_mult90 (d0 : Dev nD) : BitVec 32 :=
  let c32_i32_2121 : BitVec 32 := 32#32
  let c16_i32_2109 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_2106 : BitVec 32 := 18#32
  let v2591 : BitVec 32 := Scalar.xori v2 c18_i32_2106
  let c1_i32_2107 : BitVec 32 := 1#32
  let v2592 : BitVec 32 := Scalar.shrsi v2591 c1_i32_2107
  let v2593 : BitVec 32 := Scalar.xori v2591 v2592
  let c1_i32_2108 : BitVec 32 := 1#32
  let v2594 : BitVec 32 := Scalar.andi v2593 c1_i32_2108
  let v2595 : BitVec 32 := Scalar.muli c16_i32_2109 v2594
  let c8_i32_2112 : BitVec 32 := 8#32
  let c1_i32_2110 : BitVec 32 := 1#32
  let v2596 : BitVec 32 := Scalar.shrsi v2591 c1_i32_2110
  let c1_i32_2111 : BitVec 32 := 1#32
  let v2597 : BitVec 32 := Scalar.andi v2596 c1_i32_2111
  let v2598 : BitVec 32 := Scalar.muli c8_i32_2112 v2597
  let v2599 : BitVec 32 := Scalar.addi v2595 v2598
  let c4_i32_2115 : BitVec 32 := 4#32
  let c3_i32_2113 : BitVec 32 := 3#32
  let v2600 : BitVec 32 := Scalar.shrsi v2591 c3_i32_2113
  let c1_i32_2114 : BitVec 32 := 1#32
  let v2601 : BitVec 32 := Scalar.andi v2600 c1_i32_2114
  let v2602 : BitVec 32 := Scalar.muli c4_i32_2115 v2601
  let v2603 : BitVec 32 := Scalar.addi v2599 v2602
  let c2_i32_2118 : BitVec 32 := 2#32
  let c2_i32_2116 : BitVec 32 := 2#32
  let v2604 : BitVec 32 := Scalar.shrsi v2591 c2_i32_2116
  let c1_i32_2117 : BitVec 32 := 1#32
  let v2605 : BitVec 32 := Scalar.andi v2604 c1_i32_2117
  let v2606 : BitVec 32 := Scalar.muli c2_i32_2118 v2605
  let v2607 : BitVec 32 := Scalar.addi v2603 v2606
  let c4_i32_2119 : BitVec 32 := 4#32
  let v2608 : BitVec 32 := Scalar.shrsi v2591 c4_i32_2119
  let c1_i32_2120 : BitVec 32 := 1#32
  let v2609 : BitVec 32 := Scalar.andi v2608 c1_i32_2120
  let v2610 : BitVec 32 := Scalar.addi v2607 v2609
  let v2611 : BitVec 32 := Scalar.muli c32_i32_2121 v2610
  v2611
def k0_mult91 (d0 : Dev nD) : BitVec 32 :=
  let c32_i32_2143 : BitVec 32 := 32#32
  let c16_i32_2131 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_2128 : BitVec 32 := 6#32
  let v2619 : BitVec 32 := Scalar.xori v2 c6_i32_2128
  let c1_i32_2129 : BitVec 32 := 1#32
  let v2620 : BitVec 32 := Scalar.shrsi v2619 c1_i32_2129
  let v2621 : BitVec 32 := Scalar.xori v2619 v2620
  let c1_i32_2130 : BitVec 32 := 1#32
  let v2622 : BitVec 32 := Scalar.andi v2621 c1_i32_2130
  let v2623 : BitVec 32 := Scalar.muli c16_i32_2131 v2622
  let c8_i32_2134 : BitVec 32 := 8#32
  let c1_i32_2132 : BitVec 32 := 1#32
  let v2624 : BitVec 32 := Scalar.shrsi v2619 c1_i32_2132
  let c1_i32_2133 : BitVec 32 := 1#32
  let v2625 : BitVec 32 := Scalar.andi v2624 c1_i32_2133
  let v2626 : BitVec 32 := Scalar.muli c8_i32_2134 v2625
  let v2627 : BitVec 32 := Scalar.addi v2623 v2626
  let c4_i32_2137 : BitVec 32 := 4#32
  let c3_i32_2135 : BitVec 32 := 3#32
  let v2628 : BitVec 32 := Scalar.shrsi v2619 c3_i32_2135
  let c1_i32_2136 : BitVec 32 := 1#32
  let v2629 : BitVec 32 := Scalar.andi v2628 c1_i32_2136
  let v2630 : BitVec 32 := Scalar.muli c4_i32_2137 v2629
  let v2631 : BitVec 32 := Scalar.addi v2627 v2630
  let c2_i32_2140 : BitVec 32 := 2#32
  let c2_i32_2138 : BitVec 32 := 2#32
  let v2632 : BitVec 32 := Scalar.shrsi v2619 c2_i32_2138
  let c1_i32_2139 : BitVec 32 := 1#32
  let v2633 : BitVec 32 := Scalar.andi v2632 c1_i32_2139
  let v2634 : BitVec 32 := Scalar.muli c2_i32_2140 v2633
  let v2635 : BitVec 32 := Scalar.addi v2631 v2634
  let c4_i32_2141 : BitVec 32 := 4#32
  let v2636 : BitVec 32 := Scalar.shrsi v2619 c4_i32_2141
  let c1_i32_2142 : BitVec 32 := 1#32
  let v2637 : BitVec 32 := Scalar.andi v2636 c1_i32_2142
  let v2638 : BitVec 32 := Scalar.addi v2635 v2637
  let v2639 : BitVec 32 := Scalar.muli c32_i32_2143 v2638
  v2639
def k0_mult92 (d0 : Dev nD) : BitVec 32 :=
  let c32_i32_2165 : BitVec 32 := 32#32
  let c16_i32_2153 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_2150 : BitVec 32 := 22#32
  let v2647 : BitVec 32 := Scalar.xori v2 c22_i32_2150
  let c1_i32_2151 : BitVec 32 := 1#32
  let v2648 : BitVec 32 := Scalar.shrsi v2647 c1_i32_2151
  let v2649 : BitVec 32 := Scalar.xori v2647 v2648
  let c1_i32_2152 : BitVec 32 := 1#32
  let v2650 : BitVec 32 := Scalar.andi v2649 c1_i32_2152
  let v2651 : BitVec 32 := Scalar.muli c16_i32_2153 v2650
  let c8_i32_2156 : BitVec 32 := 8#32
  let c1_i32_2154 : BitVec 32 := 1#32
  let v2652 : BitVec 32 := Scalar.shrsi v2647 c1_i32_2154
  let c1_i32_2155 : BitVec 32 := 1#32
  let v2653 : BitVec 32 := Scalar.andi v2652 c1_i32_2155
  let v2654 : BitVec 32 := Scalar.muli c8_i32_2156 v2653
  let v2655 : BitVec 32 := Scalar.addi v2651 v2654
  let c4_i32_2159 : BitVec 32 := 4#32
  let c3_i32_2157 : BitVec 32 := 3#32
  let v2656 : BitVec 32 := Scalar.shrsi v2647 c3_i32_2157
  let c1_i32_2158 : BitVec 32 := 1#32
  let v2657 : BitVec 32 := Scalar.andi v2656 c1_i32_2158
  let v2658 : BitVec 32 := Scalar.muli c4_i32_2159 v2657
  let v2659 : BitVec 32 := Scalar.addi v2655 v2658
  let c2_i32_2162 : BitVec 32 := 2#32
  let c2_i32_2160 : BitVec 32 := 2#32
  let v2660 : BitVec 32 := Scalar.shrsi v2647 c2_i32_2160
  let c1_i32_2161 : BitVec 32 := 1#32
  let v2661 : BitVec 32 := Scalar.andi v2660 c1_i32_2161
  let v2662 : BitVec 32 := Scalar.muli c2_i32_2162 v2661
  let v2663 : BitVec 32 := Scalar.addi v2659 v2662
  let c4_i32_2163 : BitVec 32 := 4#32
  let v2664 : BitVec 32 := Scalar.shrsi v2647 c4_i32_2163
  let c1_i32_2164 : BitVec 32 := 1#32
  let v2665 : BitVec 32 := Scalar.andi v2664 c1_i32_2164
  let v2666 : BitVec 32 := Scalar.addi v2663 v2665
  let v2667 : BitVec 32 := Scalar.muli c32_i32_2165 v2666
  v2667
def k0_mult93 (d0 : Dev nD) : BitVec 32 :=
  let c32_i32_2187 : BitVec 32 := 32#32
  let c16_i32_2175 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_2172 : BitVec 32 := 10#32
  let v2675 : BitVec 32 := Scalar.xori v2 c10_i32_2172
  let c1_i32_2173 : BitVec 32 := 1#32
  let v2676 : BitVec 32 := Scalar.shrsi v2675 c1_i32_2173
  let v2677 : BitVec 32 := Scalar.xori v2675 v2676
  let c1_i32_2174 : BitVec 32 := 1#32
  let v2678 : BitVec 32 := Scalar.andi v2677 c1_i32_2174
  let v2679 : BitVec 32 := Scalar.muli c16_i32_2175 v2678
  let c8_i32_2178 : BitVec 32 := 8#32
  let c1_i32_2176 : BitVec 32 := 1#32
  let v2680 : BitVec 32 := Scalar.shrsi v2675 c1_i32_2176
  let c1_i32_2177 : BitVec 32 := 1#32
  let v2681 : BitVec 32 := Scalar.andi v2680 c1_i32_2177
  let v2682 : BitVec 32 := Scalar.muli c8_i32_2178 v2681
  let v2683 : BitVec 32 := Scalar.addi v2679 v2682
  let c4_i32_2181 : BitVec 32 := 4#32
  let c3_i32_2179 : BitVec 32 := 3#32
  let v2684 : BitVec 32 := Scalar.shrsi v2675 c3_i32_2179
  let c1_i32_2180 : BitVec 32 := 1#32
  let v2685 : BitVec 32 := Scalar.andi v2684 c1_i32_2180
  let v2686 : BitVec 32 := Scalar.muli c4_i32_2181 v2685
  let v2687 : BitVec 32 := Scalar.addi v2683 v2686
  let c2_i32_2184 : BitVec 32 := 2#32
  let c2_i32_2182 : BitVec 32 := 2#32
  let v2688 : BitVec 32 := Scalar.shrsi v2675 c2_i32_2182
  let c1_i32_2183 : BitVec 32 := 1#32
  let v2689 : BitVec 32 := Scalar.andi v2688 c1_i32_2183
  let v2690 : BitVec 32 := Scalar.muli c2_i32_2184 v2689
  let v2691 : BitVec 32 := Scalar.addi v2687 v2690
  let c4_i32_2185 : BitVec 32 := 4#32
  let v2692 : BitVec 32 := Scalar.shrsi v2675 c4_i32_2185
  let c1_i32_2186 : BitVec 32 := 1#32
  let v2693 : BitVec 32 := Scalar.andi v2692 c1_i32_2186
  let v2694 : BitVec 32 := Scalar.addi v2691 v2693
  let v2695 : BitVec 32 := Scalar.muli c32_i32_2187 v2694
  v2695
def k0_mult94 (d0 : Dev nD) : BitVec 32 :=
  let c32_i32_2209 : BitVec 32 := 32#32
  let c16_i32_2197 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_2194 : BitVec 32 := 26#32
  let v2703 : BitVec 32 := Scalar.xori v2 c26_i32_2194
  let c1_i32_2195 : BitVec 32 := 1#32
  let v2704 : BitVec 32 := Scalar.shrsi v2703 c1_i32_2195
  let v2705 : BitVec 32 := Scalar.xori v2703 v2704
  let c1_i32_2196 : BitVec 32 := 1#32
  let v2706 : BitVec 32 := Scalar.andi v2705 c1_i32_2196
  let v2707 : BitVec 32 := Scalar.muli c16_i32_2197 v2706
  let c8_i32_2200 : BitVec 32 := 8#32
  let c1_i32_2198 : BitVec 32 := 1#32
  let v2708 : BitVec 32 := Scalar.shrsi v2703 c1_i32_2198
  let c1_i32_2199 : BitVec 32 := 1#32
  let v2709 : BitVec 32 := Scalar.andi v2708 c1_i32_2199
  let v2710 : BitVec 32 := Scalar.muli c8_i32_2200 v2709
  let v2711 : BitVec 32 := Scalar.addi v2707 v2710
  let c4_i32_2203 : BitVec 32 := 4#32
  let c3_i32_2201 : BitVec 32 := 3#32
  let v2712 : BitVec 32 := Scalar.shrsi v2703 c3_i32_2201
  let c1_i32_2202 : BitVec 32 := 1#32
  let v2713 : BitVec 32 := Scalar.andi v2712 c1_i32_2202
  let v2714 : BitVec 32 := Scalar.muli c4_i32_2203 v2713
  let v2715 : BitVec 32 := Scalar.addi v2711 v2714
  let c2_i32_2206 : BitVec 32 := 2#32
  let c2_i32_2204 : BitVec 32 := 2#32
  let v2716 : BitVec 32 := Scalar.shrsi v2703 c2_i32_2204
  let c1_i32_2205 : BitVec 32 := 1#32
  let v2717 : BitVec 32 := Scalar.andi v2716 c1_i32_2205
  let v2718 : BitVec 32 := Scalar.muli c2_i32_2206 v2717
  let v2719 : BitVec 32 := Scalar.addi v2715 v2718
  let c4_i32_2207 : BitVec 32 := 4#32
  let v2720 : BitVec 32 := Scalar.shrsi v2703 c4_i32_2207
  let c1_i32_2208 : BitVec 32 := 1#32
  let v2721 : BitVec 32 := Scalar.andi v2720 c1_i32_2208
  let v2722 : BitVec 32 := Scalar.addi v2719 v2721
  let v2723 : BitVec 32 := Scalar.muli c32_i32_2209 v2722
  v2723
def k0_mult95 (d0 : Dev nD) : BitVec 32 :=
  let c32_i32_2231 : BitVec 32 := 32#32
  let c16_i32_2219 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_2216 : BitVec 32 := 14#32
  let v2731 : BitVec 32 := Scalar.xori v2 c14_i32_2216
  let c1_i32_2217 : BitVec 32 := 1#32
  let v2732 : BitVec 32 := Scalar.shrsi v2731 c1_i32_2217
  let v2733 : BitVec 32 := Scalar.xori v2731 v2732
  let c1_i32_2218 : BitVec 32 := 1#32
  let v2734 : BitVec 32 := Scalar.andi v2733 c1_i32_2218
  let v2735 : BitVec 32 := Scalar.muli c16_i32_2219 v2734
  let c8_i32_2222 : BitVec 32 := 8#32
  let c1_i32_2220 : BitVec 32 := 1#32
  let v2736 : BitVec 32 := Scalar.shrsi v2731 c1_i32_2220
  let c1_i32_2221 : BitVec 32 := 1#32
  let v2737 : BitVec 32 := Scalar.andi v2736 c1_i32_2221
  let v2738 : BitVec 32 := Scalar.muli c8_i32_2222 v2737
  let v2739 : BitVec 32 := Scalar.addi v2735 v2738
  let c4_i32_2225 : BitVec 32 := 4#32
  let c3_i32_2223 : BitVec 32 := 3#32
  let v2740 : BitVec 32 := Scalar.shrsi v2731 c3_i32_2223
  let c1_i32_2224 : BitVec 32 := 1#32
  let v2741 : BitVec 32 := Scalar.andi v2740 c1_i32_2224
  let v2742 : BitVec 32 := Scalar.muli c4_i32_2225 v2741
  let v2743 : BitVec 32 := Scalar.addi v2739 v2742
  let c2_i32_2228 : BitVec 32 := 2#32
  let c2_i32_2226 : BitVec 32 := 2#32
  let v2744 : BitVec 32 := Scalar.shrsi v2731 c2_i32_2226
  let c1_i32_2227 : BitVec 32 := 1#32
  let v2745 : BitVec 32 := Scalar.andi v2744 c1_i32_2227
  let v2746 : BitVec 32 := Scalar.muli c2_i32_2228 v2745
  let v2747 : BitVec 32 := Scalar.addi v2743 v2746
  let c4_i32_2229 : BitVec 32 := 4#32
  let v2748 : BitVec 32 := Scalar.shrsi v2731 c4_i32_2229
  let c1_i32_2230 : BitVec 32 := 1#32
  let v2749 : BitVec 32 := Scalar.andi v2748 c1_i32_2230
  let v2750 : BitVec 32 := Scalar.addi v2747 v2749
  let v2751 : BitVec 32 := Scalar.muli c32_i32_2231 v2750
  v2751
def k0_mult96 (d0 : Dev nD) : BitVec 32 :=
  let c32_i32_2253 : BitVec 32 := 32#32
  let c16_i32_2241 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_2238 : BitVec 32 := 30#32
  let v2759 : BitVec 32 := Scalar.xori v2 c30_i32_2238
  let c1_i32_2239 : BitVec 32 := 1#32
  let v2760 : BitVec 32 := Scalar.shrsi v2759 c1_i32_2239
  let v2761 : BitVec 32 := Scalar.xori v2759 v2760
  let c1_i32_2240 : BitVec 32 := 1#32
  let v2762 : BitVec 32 := Scalar.andi v2761 c1_i32_2240
  let v2763 : BitVec 32 := Scalar.muli c16_i32_2241 v2762
  let c8_i32_2244 : BitVec 32 := 8#32
  let c1_i32_2242 : BitVec 32 := 1#32
  let v2764 : BitVec 32 := Scalar.shrsi v2759 c1_i32_2242
  let c1_i32_2243 : BitVec 32 := 1#32
  let v2765 : BitVec 32 := Scalar.andi v2764 c1_i32_2243
  let v2766 : BitVec 32 := Scalar.muli c8_i32_2244 v2765
  let v2767 : BitVec 32 := Scalar.addi v2763 v2766
  let c4_i32_2247 : BitVec 32 := 4#32
  let c3_i32_2245 : BitVec 32 := 3#32
  let v2768 : BitVec 32 := Scalar.shrsi v2759 c3_i32_2245
  let c1_i32_2246 : BitVec 32 := 1#32
  let v2769 : BitVec 32 := Scalar.andi v2768 c1_i32_2246
  let v2770 : BitVec 32 := Scalar.muli c4_i32_2247 v2769
  let v2771 : BitVec 32 := Scalar.addi v2767 v2770
  let c2_i32_2250 : BitVec 32 := 2#32
  let c2_i32_2248 : BitVec 32 := 2#32
  let v2772 : BitVec 32 := Scalar.shrsi v2759 c2_i32_2248
  let c1_i32_2249 : BitVec 32 := 1#32
  let v2773 : BitVec 32 := Scalar.andi v2772 c1_i32_2249
  let v2774 : BitVec 32 := Scalar.muli c2_i32_2250 v2773
  let v2775 : BitVec 32 := Scalar.addi v2771 v2774
  let c4_i32_2251 : BitVec 32 := 4#32
  let v2776 : BitVec 32 := Scalar.shrsi v2759 c4_i32_2251
  let c1_i32_2252 : BitVec 32 := 1#32
  let v2777 : BitVec 32 := Scalar.andi v2776 c1_i32_2252
  let v2778 : BitVec 32 := Scalar.addi v2775 v2777
  let v2779 : BitVec 32 := Scalar.muli c32_i32_2253 v2778
  v2779
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1024x512 : Shape := ⟨2, ![1024, 512]⟩
abbrev S512x128 : Shape := ⟨2, ![512, 128]⟩
abbrev S1024x1 : Shape := ⟨2, ![1024, 1]⟩
abbrev S128x512x1024 : Shape := ⟨3, ![128, 512, 1024]⟩
abbrev S1024 : Shape := ⟨1, ![1024]⟩
abbrev S1024x512x1024 : Shape := ⟨3, ![1024, 512, 1024]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S1024x512, .bf16⟩
  | .hbm, ⟨1, _⟩ => ⟨S512x128, .bf16⟩
  | .hbm, ⟨2, _⟩ => ⟨S1024x1, .i32⟩
  | .hbm, ⟨3, _⟩ => ⟨S128x512x1024, .bf16⟩
  | .hbm, ⟨4, _⟩ => ⟨S128x512x1024, .f32⟩
  | .hbm, ⟨5, _⟩ => ⟨S1024, .i32⟩
  | .hbm, ⟨6, _⟩ => ⟨S1024x1, .i32⟩
  | .hbm, ⟨7, _⟩ => ⟨S1024x512x1024, .f32⟩
  | .hbm, ⟨8, _⟩ => ⟨S1024x512, .f32⟩
  | .hbm, ⟨9, _⟩ => ⟨S1024x1024, .f32⟩
  | .hbm, ⟨10, _⟩ => ⟨S1024x1024, .bf16⟩
  | _, _ => ⟨S1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Proof.Program.lean ====
/-
  The kernel's body as a short program over loops.

  The printed body is a straight line of a few hundred operations. Here the same operations are written with six loops
  over tables of the printed targets and offsets; the two are the same program by unfolding.
-/
module

public import proofs.«01_k».proof.Proof.Gen.KernelIdeal
public import proofs.«01_k».proof.Proof.Gen.KernelIdeal.Skeleton

@[expose] public section

noncomputable section

namespace Cert.KernelIdeal.Run

open Cert.KernelIdeal Cert.KernelIdeal.Gen
open Idealize.ShloMosaic Idealize.SL.Sem

variable {F : FTy → Type} [FloatOps F]

/-! ## Loops -/

/-- The kernel's programs. -/
abbrev Act (F : FTy → Type) (α : Type) : Type 1 := Prog (TpuEff nD τ sig (Elt F) Λ₀ .tc) α

/-- Run `f` at each member of a list, in order, then go on with `k`: `f` is told what to go on with. -/
def each {ι α : Type} (f : ι → Act F α → Act F α) (l : List ι) (k : Act F α) : Act F α := l.foldr f k

/-- What follows a loop may be written inside it. -/
theorem each_bind {ι α β : Type} (f : ι → Act F α → Act F α) (f' : ι → Act F β → Act F β) (g : α → Act F β)
    (h : ∀ i k, (f i k >>= g) = f' i (k >>= g)) (l : List ι) (k : Act F α) : (each f l k >>= g) = each f' l (k >>= g) := by
  induction l with
  | nil => rfl
  | cons i l ih => show (f i (each f l k) >>= g) = f' i (each f' l (k >>= g)); rw [h, ih]

/-- The thirty-one cells of a semaphore array, in order. -/
def all31 : List (Fin 31) := [0, 1, 2, 3, 4, 5, 6, 7, 8, 9, 10, 11, 12, 13, 14, 15, 16, 17, 18, 19, 20, 21, 22, 23, 24, 25,
  26, 27, 28, 29, 30]

/-! ## The printed targets and offsets, in tables -/

/-- The device the `k`-th barrier signal goes to. -/
def sigDev : Fin 31 → Dev nD → ℕ := ![
    k0_dev1, k0_dev2, k0_dev3, k0_dev4, k0_dev5, k0_dev6, k0_dev7, k0_dev8, k0_dev9, k0_dev10, k0_dev11, k0_dev12,
    k0_dev13, k0_dev14, k0_dev15, k0_dev16, k0_dev17, k0_dev18, k0_dev19, k0_dev20, k0_dev21, k0_dev22, k0_dev23,
    k0_dev24, k0_dev25, k0_dev26, k0_dev27, k0_dev28, k0_dev29, k0_dev30, k0_dev31]

/-- Whether the `k`-th token block is sent in batch `b`. -/
def rsCond : Fin 2 → Fin 31 → Dev nD → BitVec 1 := ![![
    k0_cond1, k0_cond2, k0_cond3, k0_cond4, k0_cond5, k0_cond6, k0_cond7, k0_cond8, k0_cond9, k0_cond10, k0_cond11,
    k0_cond12, k0_cond13, k0_cond14, k0_cond15, k0_cond16, k0_cond17, k0_cond18, k0_cond19, k0_cond20, k0_cond21,
    k0_cond22, k0_cond23, k0_cond24, k0_cond25, k0_cond26, k0_cond27, k0_cond28, k0_cond29, k0_cond30, k0_cond31], ![
    k0_cond32, k0_cond33, k0_cond34, k0_cond35, k0_cond36, k0_cond37, k0_cond38, k0_cond39, k0_cond40, k0_cond41,
    k0_cond42, k0_cond43, k0_cond44, k0_cond45, k0_cond46, k0_cond47, k0_cond48, k0_cond49, k0_cond50, k0_cond51,
    k0_cond52, k0_cond53, k0_cond54, k0_cond55, k0_cond56, k0_cond57, k0_cond58, k0_cond59, k0_cond60, k0_cond61,
    k0_cond62]]

/-- The device the `k`-th token block is sent to. -/
def rsDev : Fin 2 → Fin 31 → Dev nD → ℕ := ![![
    k0_dev32, k0_dev33, k0_dev34, k0_dev35, k0_dev36, k0_dev37, k0_dev38, k0_dev39, k0_dev40, k0_dev41, k0_dev42,
    k0_dev43, k0_dev44, k0_dev45, k0_dev46, k0_dev47, k0_dev48, k0_dev49, k0_dev50, k0_dev51, k0_dev52, k0_dev53,
    k0_dev54, k0_dev55, k0_dev56, k0_dev57, k0_dev58, k0_dev59, k0_dev60, k0_dev61, k0_dev62], ![
    k0_dev63, k0_dev64, k0_dev65, k0_dev66, k0_dev67, k0_dev68, k0_dev69, k0_dev70, k0_dev71, k0_dev72, k0_dev73,
    k0_dev74, k0_dev75, k0_dev76, k0_dev77, k0_dev78, k0_dev79, k0_dev80, k0_dev81, k0_dev82, k0_dev83, k0_dev84,
    k0_dev85, k0_dev86, k0_dev87, k0_dev88, k0_dev89, k0_dev90, k0_dev91, k0_dev92, k0_dev93]]

/-- Where the block lands there. -/
def rsDst : Fin 2 → Fin 31 → Dev nD → Fin 2 → ℕ := ![![
    k0_off1, k0_off3, k0_off5, k0_off7, k0_off9, k0_off11, k0_off13, k0_off15, k0_off17, k0_off19, k0_off21,
    k0_off23, k0_off25, k0_off27, k0_off29, k0_off31, k0_off33, k0_off35, k0_off37, k0_off39, k0_off41, k0_off43,
    k0_off45, k0_off47, k0_off49, k0_off51, k0_off53, k0_off55, k0_off57, k0_off59, k0_off61], ![
    k0_off63, k0_off65, k0_off67, k0_off69, k0_off71, k0_off73, k0_off75, k0_off77, k0_off79, k0_off81, k0_off83,
    k0_off85, k0_off87, k0_off89, k0_off91, k0_off93, k0_off95, k0_off97, k0_off99, k0_off101, k0_off103, k0_off105,
    k0_off107, k0_off109, k0_off111, k0_off113, k0_off115, k0_off117, k0_off119, k0_off121, k0_off123]]

/-- Where it is read from. -/
def rsSrc : Fin 2 → Fin 31 → Dev nD → Fin 2 → ℕ := ![![
    k0_off2, k0_off4, k0_off6, k0_off8, k0_off10, k0_off12, k0_off14, k0_off16, k0_off18, k0_off20, k0_off22,
    k0_off24, k0_off26, k0_off28, k0_off30, k0_off32, k0_off34, k0_off36, k0_off38, k0_off40, k0_off42, k0_off44,
    k0_off46, k0_off48, k0_off50, k0_off52, k0_off54, k0_off56, k0_off58, k0_off60, k0_off62], ![
    k0_off64, k0_off66, k0_off68, k0_off70, k0_off72, k0_off74, k0_off76, k0_off78, k0_off80, k0_off82, k0_off84,
    k0_off86, k0_off88, k0_off90, k0_off92, k0_off94, k0_off96, k0_off98, k0_off100, k0_off102, k0_off104, k0_off106,
    k0_off108, k0_off110, k0_off112, k0_off114, k0_off116, k0_off118, k0_off120, k0_off122, k0_off124]]

/-- The device the `j`-th output block is sent to. -/
def agDev : Fin 31 → Dev nD → ℕ := ![
    k0_dev94, k0_dev95, k0_dev96, k0_dev97, k0_dev98, k0_dev99, k0_dev100, k0_dev101, k0_dev102, k0_dev103,
    k0_dev104, k0_dev105, k0_dev106, k0_dev107, k0_dev108, k0_dev109, k0_dev110, k0_dev111, k0_dev112, k0_dev113,
    k0_dev114, k0_dev115, k0_dev116, k0_dev117, k0_dev118, k0_dev119, k0_dev120, k0_dev121, k0_dev122, k0_dev123,
    k0_dev124]

theorem sigDev_lt : ∀ k c, sigDev k c < nD := by decide +kernel
theorem agDev_lt : ∀ k c, agDev k c < nD := by decide +kernel
theorem rsDev_lt : ∀ b k c, rsCond b k c = 1#1 → rsDev b k c < nD := by decide +kernel
theorem rsDst_inb : ∀ b k c, rsCond b k c = 1#1 → ∀ a, rsDst b k c a + S16x1024.size a ≤ S512x1024.size a := by
  decide +kernel
theorem rsSrc_inb : ∀ b k c, rsCond b k c = 1#1 → ∀ a, rsSrc b k c a + S16x1024.size a ≤ S512x1024.size a := by
  decide +kernel
theorem rsDst_words : ∀ b k c, ∀ h : rsCond b k c = 1#1,
    (Rect.unit (s := S512x1024) (rsDst b k c) S16x1024.size (rsDst_inb b k c h)).WholeWords (EltTy.packing .bf16) := by
  decide +kernel
theorem rsSrc_words : ∀ b k c, ∀ h : rsCond b k c = 1#1,
    (Rect.unit (s := S512x1024) (rsSrc b k c) S16x1024.size (rsSrc_inb b k c h)).WholeWords (EltTy.packing .bf16) := by
  decide +kernel
theorem cell_inb : ∀ k : Fin 31, ∀ a, ![k.val] a + S1.size a ≤ S31.size a := by decide +kernel

/-- The masks of the output blocks, in the order in which they arrive: block `i` of device `p` is that of `p ^^^ agMask i`. -/
def agMask : Fin 31 → Fin 31 := ![15, 3, 19, 7, 23, 11, 27, 2, 18, 6, 22, 10, 26, 14, 30,
    0, 16, 4, 20, 8, 24, 12, 28, 1, 17, 5, 21, 9, 25, 13, 29]

/-- The sends made once block `i` has arrived. -/
def agOut : Fin 31 → List (Fin 31) := ![[5, 6, 7, 8], [9, 10, 11], [12, 13, 14], [15, 16], [17, 18], [19, 20], [21, 22],
    [23], [24], [25], [26], [27], [28], [29], [30], [], [], [], [], [], [], [], [], [], [], [], [], [], [], [], []]

/-- The cell on which the `j`-th send is received. -/
def agCell : Fin 31 → Fin 31 := ![0, 1, 3, 7, 15, 2, 4, 8, 16, 5, 9, 17, 6, 10, 18, 11, 19, 12, 20, 13, 21, 14, 22, 23, 24,
    25, 26, 27, 28, 29, 30]

/-- The block the `j`-th send reads (for the sends after the first five). -/
def agFrom : Fin 31 → Fin 31 := ![0, 0, 0, 0, 0, 0, 0, 0, 0, 1, 1, 1, 2, 2, 2, 3, 3, 4, 4, 5, 5, 6, 6, 7, 8, 9, 10, 11, 12,
    13, 14]

/-! ## The steps -/

section Steps

variable (arg0 : Memref sig .tc .vmem S1024x512 .bf16) (harg0 : arg0.IsWhole)
  (arg1 : Memref sig .tc .vmem S1024x1 .i32) (harg1 : arg1.IsWhole)
  (arg2 : Memref sig .tc .vmem S4x512x1024 .bf16) (harg2 : arg2.IsWhole)
  (arg3 : Memref sig .tc .vmem S1024x1024 .bf16) (harg3 : arg3.IsWhole)
  (arg4 : Memref sig .tc .vmem S512x1024 .bf16) (harg4 : arg4.IsWhole)
  (arg5 : Memref sig .tc .vmem S512x1024 .bf16) (harg5 : arg5.IsWhole)
  (arg6 arg7 arg8 arg9 : DmaSems sig S31)

/-- The `k`-th cell of a semaphore array. -/
def cellAt (a : DmaSems sig S31) (k : Fin 31) : DmaSem sig :=
  ((a.slice (Rect.unit (s := S31) ![k.val] S1.size (cell_inb k))).squeeze S_ squeezes_S1_S_).sem

/-- The barrier's semaphore. -/
def barSem : Sem sig := (SemArray.scalar (sig.barrier 0 rfl) : Sems sig S_).sem

/-- A device's own id as the word the kernel computes. -/
def idWord (c : Dev nD) : BitVec 32 := Scalar.remsi (Scalar.divsi (Dev.word c) 1#32) 32#32

/-- The word of the segment a device keeps. -/
def segWord (c : Dev nD) : BitVec 32 :=
  let v := idWord c
  let bit (d : BitVec 32) := Scalar.andi (Scalar.shrsi v d) 1#32
  Scalar.addi (Scalar.addi (Scalar.addi (Scalar.addi
    (Scalar.muli 16#32 (Scalar.andi (Scalar.xori v (Scalar.shrsi v 1#32)) 1#32)) (Scalar.muli 8#32 (bit 1#32)))
    (Scalar.muli 4#32 (bit 3#32))) (Scalar.muli 2#32 (bit 2#32))) (bit 4#32)

/-- The `k`-th barrier signal. -/
def signal (c : Dev nD) (k : Fin 31) : Act F PUnit := semSignalWord ⟨sigDev k c, sigDev_lt k c⟩ barSem 1#32

/-- Copy sixteen rows of the packed products to another device's buffer for received blocks. -/
def rsCopy (src dst : Fin 2 → ℕ) (hs : ∀ a, src a + S16x1024.size a ≤ S512x1024.size a)
    (hd : ∀ a, dst a + S16x1024.size a ≤ S512x1024.size a)
    (ws : (Rect.unit (s := S512x1024) src S16x1024.size hs).WholeWords (EltTy.packing .bf16))
    (wd : (Rect.unit (s := S512x1024) dst S16x1024.size hd).WholeWords (EltTy.packing .bf16)) (p : Dev nD) (k : Fin 31) :
    Act F PUnit :=
  Prog.lift (.enqueueDma (arg4.slice (Rect.unit (s := S512x1024) src S16x1024.size hs) (fun _ => rfl))
    (.remote (Dev.tc p) (arg5.slice (Rect.unit (s := S512x1024) dst S16x1024.size hd) (fun _ => rfl))
      (.dma (cellAt arg6 k)))
    (.dma (cellAt arg7 k)) (harg4.wordExact_slice rfl _ ws) (harg5.wordExact_slice rfl _ wd) ⟨⟨rfl, Or.inl rfl⟩, trivial⟩)

/-- The `k`-th token block, sent where batch `b` sends it; then `K`. -/
def rsSend {α : Type} (b : Fin 2) (c : Dev nD) (k : Fin 31) (K : Act F α) : Act F α :=
  if h : rsCond b k c = 1#1 then do
    rsCopy arg4 harg4 arg5 harg5 arg6 arg7 (rsSrc b k c) (rsDst b k c) (rsSrc_inb b k c h) (rsDst_inb b k c h)
      (rsSrc_words b k c h) (rsDst_words b k c h) ⟨rsDev b k c, rsDev_lt b k c h⟩ k
    K
  else K

/-- The rows the `k`-th token block is read from. -/
def packAt (c : Dev nD) (k : Fin 31) : Memref sig .tc .vmem S16x1024 .bf16 :=
  arg4.slice (Rect.unit (s := S512x1024) (k0_off127 c (BitVec.ofNat 32 (1 + k.val))) S16x1024.size (k0_off127_inb c k))
    (fun _ => rfl)

/-- The rows its own blocks land in on the other devices. -/
def recvAt (c : Dev nD) : Memref sig .tc .vmem S16x1024 .bf16 :=
  arg5.slice (Rect.unit (s := S512x1024) (k0_off128 c) S16x1024.size (k0_off128_inb c)) (fun _ => rfl)

/-- The waits for the `k`-th token block: for its send, then for the block received. -/
def rsWait (c : Dev nD) (k : Fin 31) : Act F PUnit := do
  Prog.lift (.waitDma2 (cellAt arg6 k) (recvAt arg5 c) (packAt arg4 c k)
    (harg5.wordExact_slice rfl _ (k0_off128_wordsbf16 c)) (harg4.wordExact_slice rfl _ (k0_off127_wordsbf16 c k)))
  Prog.lift (.waitDma2 (cellAt arg7 k) (packAt arg4 c k) (recvAt arg5 c)
    (harg4.wordExact_slice rfl _ (k0_off127_wordsbf16 c k)) (harg5.wordExact_slice rfl _ (k0_off128_wordsbf16 c)))

/-- A device's own output block. -/
def outOwn (c : Dev nD) : Memref sig .tc .vmem S32x1024 .bf16 :=
  arg3.slice (Rect.unit (s := S1024x1024) (k0_off130 c) S32x1024.size (k0_off130_inb c)) (fun _ => rfl)

/-- The output block of the device at mask `m + 1`. -/
def outAt (c : Dev nD) (m : Fin 31) : Memref sig .tc .vmem S32x1024 .bf16 :=
  arg3.slice (Rect.unit (s := S1024x1024) (k0_off131 c (BitVec.ofNat 32 (1 + m.val))) S32x1024.size (k0_off131_inb c m))
    (fun _ => rfl)

/-- One of the first five sends: the device's own block. -/
def agSendOwn (c : Dev nD) (j : Fin 31) : Act F PUnit :=
  Prog.lift (.enqueueDma (outOwn arg3 c)
    (.remote (Dev.tc (⟨agDev j c, agDev_lt j c⟩ : Dev nD)) (outOwn arg3 c) (.dma (cellAt arg8 j)))
    (.dma (cellAt arg9 (agCell j))) (harg3.wordExact_slice rfl _ (k0_off130_wordsbf16 c))
    (harg3.wordExact_slice rfl _ (k0_off130_wordsbf16 c)) ⟨⟨rfl, Or.inl rfl⟩, trivial⟩)

/-- A later send: a block received before, passed on. -/
def agSend (c : Dev nD) (j : Fin 31) : Act F PUnit :=
  Prog.lift (.enqueueDma (outAt arg3 c (agMask (agFrom j)))
    (.remote (Dev.tc (⟨agDev j c, agDev_lt j c⟩ : Dev nD)) (outAt arg3 c (agMask (agFrom j))) (.dma (cellAt arg8 j)))
    (.dma (cellAt arg9 (agCell j))) (harg3.wordExact_slice rfl _ (k0_off131_wordsbf16 c (agMask (agFrom j))))
    (harg3.wordExact_slice rfl _ (k0_off131_wordsbf16 c (agMask (agFrom j)))) ⟨⟨rfl, Or.inl rfl⟩, trivial⟩)

/-- The arrival of block `i`, and the sends that pass it on. -/
def agStep (c : Dev nD) (i : Fin 31) : Act F PUnit := do
  Prog.lift (.waitDma2 (cellAt arg9 i) (outAt arg3 c (agMask i)) (outAt arg3 c (agMask i))
    (harg3.wordExact_slice rfl _ (k0_off131_wordsbf16 c (agMask i)))
    (harg3.wordExact_slice rfl _ (k0_off131_wordsbf16 c (agMask i))))
  each (fun k K => do agSend arg3 harg3 arg8 arg9 c k; K) (agOut i) (pure ⟨⟩)

/-- The end of one of the first five sends. -/
def agDoneOwn (c : Dev nD) (j : Fin 31) : Act F PUnit :=
  Prog.lift (.waitDma2 (cellAt arg8 j) (outOwn arg3 c) (outOwn arg3 c)
    (harg3.wordExact_slice rfl _ (k0_off130_wordsbf16 c)) (harg3.wordExact_slice rfl _ (k0_off130_wordsbf16 c)))

/-- The end of a later send. -/
def agDone (c : Dev nD) (j : Fin 31) : Act F PUnit :=
  Prog.lift (.waitDma2 (cellAt arg8 j) (outAt arg3 c (agMask (agFrom j))) (outAt arg3 c (agMask (agFrom j)))
    (harg3.wordExact_slice rfl _ (k0_off131_wordsbf16 c (agMask (agFrom j))))
    (harg3.wordExact_slice rfl _ (k0_off131_wordsbf16 c (agMask (agFrom j)))))

/-- One expert's weights. -/
def loadW (e : ℕ) (h : ∀ a, ![e, 0, 0] a + S1x512x1024.size a ≤ S4x512x1024.size a) :
    Prog (TpuEff nD τ sig (Elt F) Λ₀ .tc) (Vec F S1x512x1024 .bf16) :=
  Prog.lift (.load arg2 (Rect.unit (s := S4x512x1024) ![e, 0, 0] S1x512x1024.size h).toLoadRect
    (View.loadsAt_vmem h_S1x512x1024))

/-- The first half of the packed products, from the indices, the tokens and the weights. -/
def packLo (c : Dev nD) (idx : Vec F S1024x1 .i32) (x : Vec F S1024x512 .bf16) (w0 w1 w2 w3 : Vec F S1x512x1024 .bf16) :
    FVec F S256x1024 .bf16 :=
  let one := k0_pay4 (F := F) (k0_pay3 (F := F) (idWord c) idx)
  let xs := k0_pay8 one (k0_pay5 x)
  let es := k0_pay9 one (k0_pay6 (F := F) (k0_pay1 (F := F) idx))
  k0_pay11 (idWord c) xs es (k0_pay10 (idWord c) xs es w0 w1 w2) 4#32 w3

/-- The second half. -/
def packHi (c : Dev nD) (idx : Vec F S1024x1 .i32) (x : Vec F S1024x512 .bf16) (w0 w1 w2 w3 : Vec F S1x512x1024 .bf16) :
    FVec F S256x1024 .bf16 :=
  let one := k0_pay4 (F := F) (k0_pay3 (F := F) (idWord c) idx)
  let xs := k0_pay13 one (k0_pay5 x)
  let ns := k0_pay6 (F := F) (k0_pay1 (F := F) idx)
  let es := k0_pay14 one ns
  k0_pay18 xs (k0_pay16 (idWord c) xs es (k0_pay15 (F := F) (idWord c) one ns) w0 w1 w2) (k0_pay17 (F := F) (idWord c) es) w3

/-- The matrix that picks a token's row out of what was received. -/
def pick (F : FTy → Type) [FloatOps F] (c : Dev nD) (idx : Vec F S1024x1 .i32) : FVec F S32x512 .bf16 :=
  k0_pay23 (k0_pay21 (F := F) (segWord c) (k0_pay2 (F := F) idx)) (k0_pay22 (F := F) (segWord c) (k0_pay2 (F := F) idx))
    (Scalar.ofBits .f32 0x3F800000#32) (Scalar.ofBits .f32 0x00000000#32)

/-- The body. -/
def prog : Act F PUnit := do
  let c : Dev nD ← Prog.lift .deviceId
  each (fun k K => do signal c k; K) all31 do
  let idx : Vec F S1024x1 .i32 ← Prog.lift (.load arg1 (Rect.unit (s := S1024x1) ![0, 0] S1024x1.size
    inb_S1024x1_S1024x1_0_0).toLoadRect (View.loadsAt_vmem h_S1024x1))
  let x : Vec F S1024x512 .bf16 ← Prog.lift (.load arg0 (Rect.unit (s := S1024x512) ![0, 0] S1024x512.size
    inb_S1024x512_S1024x512_0_0).toLoadRect (View.loadsAt_vmem h_S1024x512))
  let w0 ← loadW arg2 0 inb_S4x512x1024_S1x512x1024_0_0_0
  let w1 ← loadW arg2 1 inb_S4x512x1024_S1x512x1024_1_0_0
  let w2 ← loadW arg2 2 inb_S4x512x1024_S1x512x1024_2_0_0
  let w3 ← loadW arg2 3 inb_S4x512x1024_S1x512x1024_3_0_0
  let _ : Vec F S256x1024 .bf16 ← Prog.lift (.load arg4 (Rect.unit (s := S512x1024) ![0, 0] S256x1024.size
    inb_S512x1024_S256x1024_0_0).toLoadRect (View.loadsAt_vmem h_S256x1024))
  Prog.lift (.store arg4 (Rect.unit (s := S512x1024) ![0, 0] S256x1024.size inb_S512x1024_S256x1024_0_0)
    (packLo c idx x w0 w1 w2 w3) Finset.univ (View.stores_vmem h_S256x1024
      (harg4.storeExact_slice rfl _ packedbf16_S512x1024_S256x1024_0_0) (fun _ => rfl)) (.inl rfl))
  semWaitWord barSem 31#32
  each (rsSend arg4 harg4 arg5 harg5 arg6 arg7 0 c) all31 do
  let w0 ← loadW arg2 0 inb_S4x512x1024_S1x512x1024_0_0_0
  let w1 ← loadW arg2 1 inb_S4x512x1024_S1x512x1024_1_0_0
  let w2 ← loadW arg2 2 inb_S4x512x1024_S1x512x1024_2_0_0
  let w3 ← loadW arg2 3 inb_S4x512x1024_S1x512x1024_3_0_0
  let _ : Vec F S256x1024 .bf16 ← Prog.lift (.load arg4 (Rect.unit (s := S512x1024) ![256, 0] S256x1024.size
    inb_S512x1024_S256x1024_256_0).toLoadRect (View.loadsAt_vmem h_S256x1024))
  Prog.lift (.store arg4 (Rect.unit (s := S512x1024) ![256, 0] S256x1024.size inb_S512x1024_S256x1024_256_0)
    (packHi c idx x w0 w1 w2 w3) Finset.univ (View.stores_vmem h_S256x1024
      (harg4.storeExact_slice rfl _ packedbf16_S512x1024_S256x1024_256_0) (fun _ => rfl)) (.inl rfl))
  each (rsSend arg4 harg4 arg5 harg5 arg6 arg7 1 c) all31 do
  let own : Vec F S16x1024 .bf16 ← Prog.lift (.load arg4 (Rect.unit (s := S512x1024) (k0_off125 c) S16x1024.size
    (k0_off125_inb c)).toLoadRect (View.loadsAt_vmem h_S16x1024))
  let _ : Vec F S16x1024 .bf16 ← Prog.lift (.load arg5 (Rect.unit (s := S512x1024) (k0_off126 c) S16x1024.size
    (k0_off126_inb c)).toLoadRect (View.loadsAt_vmem h_S16x1024))
  Prog.lift (.store arg5 (Rect.unit (s := S512x1024) (k0_off126 c) S16x1024.size (k0_off126_inb c)) (k0_pay19 own)
    Finset.univ (View.stores_vmem h_S16x1024 (harg5.storeExact_slice rfl _ (k0_off126_packedbf16 c)) (fun _ => rfl))
    (.inl rfl))
  each (fun k K => do rsWait arg4 harg4 arg5 harg5 arg6 arg7 c k; K) all31 do
  let got : Vec F S512x1024 .bf16 ← Prog.lift (.load arg5 (Rect.unit (s := S512x1024) ![0, 0] S512x1024.size
    inb_S512x1024_S512x1024_0_0).toLoadRect (View.loadsAt_vmem h_S512x1024))
  let _ : Vec F S32x1024 .bf16 ← Prog.lift (.load arg3 (Rect.unit (s := S1024x1024) (k0_off129 c) S32x1024.size
    (k0_off129_inb c)).toLoadRect (View.loadsAt_vmem h_S32x1024))
  Prog.lift (.store arg3 (Rect.unit (s := S1024x1024) (k0_off129 c) S32x1024.size (k0_off129_inb c))
    (k0_pay24 (pick F c idx) got) Finset.univ (View.stores_vmem h_S32x1024
      (harg3.storeExact_slice rfl _ (k0_off129_packedbf16 c)) (fun _ => rfl)) (.inl rfl))
  each (fun k K => do agSendOwn arg3 harg3 arg8 arg9 c k; K) [0, 1, 2, 3, 4] do
  each (fun k K => do agStep arg3 harg3 arg8 arg9 c k; K) all31 do
  each (fun k K => do agDoneOwn arg3 harg3 arg8 c k; K) [0, 1, 2, 3, 4] do
  each (fun k K => do agDone arg3 harg3 arg8 c k; K) [5, 6, 7, 8, 9, 10, 11, 12, 13, 14, 15, 16, 17, 18, 19, 20, 21, 22, 23, 24, 25, 26, 27, 28,
    29, 30] (pure ⟨⟩)

end Steps

end Cert.KernelIdeal.Run

end
-- ==== Proof.Tables.lean ====
/-
  What the printed targets and offsets are.

  Each table of `Program.lean` in closed form: the devices around the ring, the devices at a mask, and the segment of the
  tokens a device keeps.
-/
module

public import proofs.«01_k».proof.Proof.Program

@[expose] public section

noncomputable section

namespace Cert.KernelIdeal.Run

open Cert.KernelIdeal Cert.KernelIdeal.Gen
open Idealize.ShloMosaic Idealize.SL.Sem

/-! ## Devices -/

/-- The device `k + 1` further on around the ring. -/
def peer (k : Fin 31) (c : Dev nD) : Dev nD := ⟨(c.val + (k.val + 1)) % 32, Nat.mod_lt _ (by decide)⟩
/-- The device `k + 1` before. -/
def prev (k : Fin 31) (c : Dev nD) : Dev nD := ⟨(c.val + (31 - k.val)) % 32, Nat.mod_lt _ (by decide)⟩

theorem prev_peer : ∀ k c, prev k (peer k c) = c := by decide +kernel
theorem peer_prev : ∀ k c, peer k (prev k c) = c := by decide +kernel
theorem peer_inj : ∀ k k' c, peer k c = peer k' c → k = k' := by decide +kernel
theorem prev_inj : ∀ k k' c, prev k c = prev k' c → k = k' := by decide +kernel
theorem peer_ne : ∀ k c, peer k c ≠ c := by decide +kernel
theorem prev_ne : ∀ k c, prev k c ≠ c := by decide +kernel
/-- Every other device is some distance on. -/
theorem exists_peer : ∀ c d : Dev nD, d ≠ c → ∃ k, peer k c = d := by decide +kernel

/-- Going `k + 1` on is a bijection of the devices. -/
def peerEquiv (k : Fin 31) : Dev nD ≃ Dev nD := ⟨peer k, prev k, prev_peer k, peer_prev k⟩

/-- The device whose number differs by the mask. -/
def xo (m : Fin 32) (c : Dev nD) : Dev nD := ⟨c.val ^^^ m.val, Nat.xor_lt_two_pow (n := 5) c.isLt m.isLt⟩

theorem xo_xo : ∀ m c, xo m (xo m c) = c := by decide +kernel
theorem xo_zero : ∀ c, xo 0 c = c := by decide +kernel
/-- Changing by a mask is a bijection of the devices. -/
def xoEquiv (m : Fin 32) : Dev nD ≃ Dev nD := ⟨xo m, xo m, xo_xo m, xo_xo m⟩

/-- The segment of the tokens a device keeps. -/
def seg (c : Dev nD) : Fin 32 :=
  ⟨16 * ((c.val ^^^ (c.val / 2)) % 2) + 8 * (c.val / 2 % 2) + 4 * (c.val / 8 % 2) + 2 * (c.val / 4 % 2) + c.val / 16 % 2, by
    omega⟩
/-- The device that keeps a segment. -/
def keeper (n : Fin 32) : Dev nD :=
  ⟨((n.val / 16 ^^^ (n.val / 8 % 2)) % 2) + 2 * (n.val / 8 % 2) + 4 * (n.val / 2 % 2) + 8 * (n.val / 4 % 2) + 16 * (n.val % 2), by
    show _ < 32; omega⟩

theorem keeper_seg : ∀ c, keeper (seg c) = c := by decide +kernel
theorem seg_keeper : ∀ n, seg (keeper n) = n := by decide +kernel
/-- The segments, one to a device. -/
def segEquiv : Dev nD ≃ Fin 32 := ⟨seg, keeper, keeper_seg, seg_keeper⟩
theorem seg_inj {c d : Dev nD} (h : seg c = seg d) : c = d := segEquiv.injective h

/-! ## Masks -/

/-- The mask of the block that arrives as number `i`. -/
def blkMask (i : Fin 31) : Fin 32 := (agMask i).succ
/-- The mask of the block the `j`-th send passes on. -/
def srcMask (j : Fin 31) : Fin 32 := if j.val < 5 then 0 else blkMask (agFrom j)
/-- The mask of the device the `j`-th send goes to. -/
def tgtMask : Fin 31 → Fin 32 := ![16, 4, 8, 3, 1, 4, 8, 3, 1, 8, 3, 1, 8, 3, 1, 3, 1, 3, 1, 3, 1, 3, 1, 1, 1, 1, 1, 1, 1,
  1, 1]

/-- The send that is received as number `i`. -/
def cellAg : Fin 31 → Fin 31 := ![0, 1, 5, 2, 6, 9, 12, 3, 7, 10, 13, 15, 17, 19, 21, 4, 8, 11, 14, 16, 18, 20, 22, 23, 24, 25,
  26, 27, 28, 29, 30]

theorem agCell_cellAg : ∀ i, agCell (cellAg i) = i := by decide +kernel
theorem cellAg_agCell : ∀ j, cellAg (agCell j) = j := by decide +kernel
/-- The sends, one to an arrival. -/
def agEquiv : Fin 31 ≃ Fin 31 := ⟨agCell, cellAg, cellAg_agCell, agCell_cellAg⟩

/-- What is sent is what arrives: the block of the sender at the source's mask is that of the target at the arrival's. -/
theorem xo_src : ∀ j c, xo (srcMask j) c = xo (blkMask (agCell j)) (xo (tgtMask j) c) := by decide +kernel
/-- The other way about. -/
theorem xo_blk : ∀ j c, xo (srcMask j) (xo (tgtMask j) c) = xo (blkMask (agCell j)) c := by decide +kernel
theorem xo_tgt_ne : ∀ j c, xo (tgtMask j) c ≠ c := by decide +kernel
theorem xo_blk_ne : ∀ i c, xo (blkMask i) c ≠ c := by decide +kernel
theorem blk_inj : ∀ i i' c, xo (blkMask i) c = xo (blkMask i') c → i = i' := by decide +kernel
theorem exists_blk : ∀ c d : Dev nD, d ≠ c → ∃ i, xo (blkMask i) c = d := by decide +kernel

theorem srcMask_own : ∀ j ∈ ([0, 1, 2, 3, 4] : List (Fin 31)), srcMask j = 0 := by decide +kernel
theorem srcMask_out : ∀ i, ∀ j ∈ agOut i, srcMask j = blkMask i ∧ agFrom j = i := by decide +kernel
/-- A block is passed on only to arrivals that come later. -/
theorem lt_agCell : ∀ i, ∀ j ∈ agOut i, i < agCell j := by decide +kernel
theorem flat_agOut : all31.flatMap agOut = [5, 6, 7, 8, 9, 10, 11, 12, 13, 14, 15, 16, 17, 18, 19, 20, 21, 22, 23, 24, 25, 26,
  27, 28, 29, 30] := by decide +kernel
theorem agOut_nodup : ∀ i, (agOut i).Nodup := by decide +kernel
theorem all31_eq : all31 = List.finRange 31 := by decide +kernel
theorem all31_nodup : all31.Nodup := by decide +kernel
theorem all31_sorted : all31.Pairwise (· < ·) := by decide +kernel

/-! ## The printed tables -/

theorem sigDev_eq : ∀ k c, (⟨sigDev k c, sigDev_lt k c⟩ : Dev nD) = peer k c := by decide +kernel
theorem rsDev_eq : ∀ b k c, ∀ h : rsCond b k c = 1#1, (⟨rsDev b k c, rsDev_lt b k c h⟩ : Dev nD) = peer k c := by decide +kernel
theorem agDev_eq : ∀ j c, (⟨agDev j c, agDev_lt j c⟩ : Dev nD) = xo (tgtMask j) c := by decide +kernel
theorem rsCond_lo : ∀ k c, rsCond 0 k c = 1#1 ↔ (seg (peer k c)).val < 16 := by decide +kernel
theorem rsCond_hi : ∀ k c, rsCond 1 k c = 1#1 ↔ ¬ (seg (peer k c)).val < 16 := by decide +kernel

/-- Two offsets of two axes agree if they agree at each. -/
theorem off_ext {a b : Fin 2 → ℕ} (h : a 0 = b 0 ∧ a 1 = b 1) : a = b := funext fun i => by
  match i with
  | 0 => exact h.1
  | 1 => exact h.2

theorem rsSrc_eq (b : Fin 2) (k : Fin 31) (c : Dev nD) (h : rsCond b k c = 1#1) :
    rsSrc b k c = ![16 * (seg (peer k c)).val, 0] :=
  off_ext ((by decide +kernel : ∀ b k c, rsCond b k c = 1#1 →
    rsSrc b k c 0 = ![16 * (seg (peer k c)).val, 0] 0 ∧ rsSrc b k c 1 = ![16 * (seg (peer k c)).val, 0] 1) b k c h)
theorem rsDst_eq (b : Fin 2) (k : Fin 31) (c : Dev nD) (h : rsCond b k c = 1#1) : rsDst b k c = ![16 * c.val, 0] :=
  off_ext ((by decide +kernel : ∀ b k c, rsCond b k c = 1#1 →
    rsDst b k c 0 = ![16 * c.val, 0] 0 ∧ rsDst b k c 1 = ![16 * c.val, 0] 1) b k c h)
theorem off125_eq (c : Dev nD) : k0_off125 c = ![16 * (seg c).val, 0] :=
  off_ext ((by decide +kernel : ∀ c, k0_off125 c 0 = ![16 * (seg c).val, 0] 0 ∧ k0_off125 c 1 = ![16 * (seg c).val, 0] 1) c)
theorem off129_eq (c : Dev nD) : k0_off129 c = ![32 * (seg c).val, 0] :=
  off_ext ((by decide +kernel : ∀ c, k0_off129 c 0 = ![32 * (seg c).val, 0] 0 ∧ k0_off129 c 1 = ![32 * (seg c).val, 0] 1) c)
theorem off130_eq (c : Dev nD) : k0_off130 c = ![32 * (seg c).val, 0] :=
  off_ext ((by decide +kernel : ∀ c, k0_off130 c 0 = ![32 * (seg c).val, 0] 0 ∧ k0_off130 c 1 = ![32 * (seg c).val, 0] 1) c)
theorem off131_eq (c : Dev nD) (i : Fin 31) :
    k0_off131 c (BitVec.ofNat 32 (1 + (agMask i).val)) = ![32 * (seg (xo (blkMask i) c)).val, 0] :=
  off_ext ((by decide +kernel : ∀ c i,
    k0_off131 c (BitVec.ofNat 32 (1 + (agMask i).val)) 0 = ![32 * (seg (xo (blkMask i) c)).val, 0] 0
    ∧ k0_off131 c (BitVec.ofNat 32 (1 + (agMask i).val)) 1 = ![32 * (seg (xo (blkMask i) c)).val, 0] 1) c i)
theorem off126_eq (c : Dev nD) : k0_off126 c = ![16 * c.val, 0] := k0_off126_eq c
theorem off128_eq (c : Dev nD) : k0_off128 c = ![16 * c.val, 0] := k0_off128_eq c

end Cert.KernelIdeal.Run

end
-- ==== Proof.Cells.lean ====
/-
  The protocol.

  What each buffer holds when it is handed over, which cells there are, who pays what into each of them and what is
  handed over with it, and the order in which the cells may be waited for.

  Every device signals every other device once. With its signal it lends out the rows of its own buffers that the
  signalled device is going to write: the sixteen rows of received products, and the output blocks that device passes on.
  After its wait for all thirty-one signals a device therefore holds, of every other device, the rows it writes there.
  A copy hands the rows written over to their owner on the receive cell, and gives the rows read back on the send cell.
-/
module

public import proofs.«01_k».proof.Proof.Tables
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (dealOf pointsTo_deal)

variable {F : FTy → Type} [FloatOps F]

abbrev UB : Type := URounds (GSem nD τ sig) (Fin 31)
abbrev UU : Type := UR sig nD τ × UB

local notation "𝕄" => MT nD τ sig Unit (Elt F) ℕ UU ℕ

/-- The staging protocol's part of the user algebra. -/
abbrev EP : Emb (UR sig nD τ) 𝕄 := embL
/-- The kernel's own protocol's part. -/
abbrev ER : Emb UB 𝕄 := embR

/-! ## Cells -/

/-- A semaphore of the kernel: the barrier's, or number `k` of one of the four arrays (sends of products, arrivals of
    products, sends of output blocks, arrivals of output blocks). -/
abbrev CellIx : Type := Option (Fin 4 × Fin 31)

/-- Number `k` of array `a`. -/
def dsem (a : Fin 4) (k : Fin 31) : DmaSem sig := ⟨4 + 31 * a.val + k.val, by show _ < 128; omega⟩

/-- The semaphore at an index. -/
def semAt : CellIx → SemLoc sig
  | none => .reg barSem
  | some (a, k) => .dma (dsem a k)

/-- The index of a semaphore, if it is one of the kernel's. -/
def kind : SemLoc sig → Option CellIx
  | .reg s => if s = barSem then some none else none
  | .dma s => if h : 4 ≤ s.val then
      some (some (⟨(s.val - 4) / 31, by have : s.val < 128 := s.isLt; omega⟩, ⟨(s.val - 4) % 31, Nat.mod_lt _ (by decide)⟩))
    else none

theorem kind_semAt (o : CellIx) : kind (semAt o) = some o := by
  match o with
  | none => exact (by decide +kernel : kind (semAt none) = some none)
  | some (a, k) => exact (by decide +kernel : ∀ a k, kind (semAt (some (a, k))) = some (some (a, k))) a k

theorem semAt_inj {o o' : CellIx} (h : semAt o = semAt o') : o = o' :=
  Option.some.inj ((kind_semAt o).symm.trans ((congrArg kind h).trans (kind_semAt o')))

/-- Device `c`'s cell at an index. -/
abbrev cell (c : Dev nD) (o : CellIx) : GSem nD τ sig := ((c : Thread nD τ), semAt o)

theorem cell_inj {c c' : Dev nD} {o o' : CellIx} (h : cell c o = cell c' o') : c = c' ∧ o = o' :=
  ⟨congrArg (fun g : GSem nD τ sig => g.1.1) h, semAt_inj (congrArg Prod.snd h)⟩

theorem cellAt_rsS : ∀ k, cellAt cc0_scratch2 k = dsem 0 k := by decide +kernel
theorem cellAt_rsR : ∀ k, cellAt cc0_scratch3 k = dsem 1 k := by decide +kernel
theorem cellAt_agS : ∀ k, cellAt cc0_scratch4 k = dsem 2 k := by decide +kernel
theorem cellAt_agR : ∀ k, cellAt cc0_scratch5 k = dsem 3 k := by decide +kernel

/-! ## Rows -/

/-- Block `n` of sixteen rows of the buffers of products. -/
def rows16 (n : ℕ) : Finset S512x1024.Idx := Finset.univ.filter fun i => (i 0).val / 16 = n
/-- Block `n` of thirty-two rows of the output. -/
def rows32 (n : ℕ) : Finset S1024x1024.Idx := Finset.univ.filter fun i => (i 0).val / 32 = n

theorem inb16 (n : Fin 32) : ∀ a, (![16 * n.val, 0] : Fin 2 → ℕ) a + S16x1024.size a ≤ S512x1024.size a := by
  revert n; decide +kernel
theorem inb32 (n : Fin 32) : ∀ a, (![32 * n.val, 0] : Fin 2 → ℕ) a + S32x1024.size a ≤ S1024x1024.size a := by
  revert n; decide +kernel

theorem set16 (n : Fin 32) (h : ∀ a, (![16 * n.val, 0] : Fin 2 → ℕ) a + S16x1024.size a ≤ S512x1024.size a) :
    (Rect.unit (s := S512x1024) ![16 * n.val, 0] S16x1024.size h).set = rows16 n.val := by
  ext i
  rw [Rect.mem_set_unit, rows16, Finset.mem_filter]
  have h1 : (i 1).val < 1024 := (i 1).isLt
  constructor
  · intro h
    have h0 : 16 * n.val ≤ (i 0).val ∧ (i 0).val < 16 * n.val + 16 := h 0
    exact ⟨Finset.mem_univ _, by omega⟩
  · rintro ⟨-, h⟩ a
    match a with
    | 0 => show 16 * n.val ≤ (i 0).val ∧ (i 0).val < 16 * n.val + 16; omega
    | 1 => show 0 ≤ (i 1).val ∧ (i 1).val < 0 + 1024; omega

theorem set32 (n : Fin 32) (h : ∀ a, (![32 * n.val, 0] : Fin 2 → ℕ) a + S32x1024.size a ≤ S1024x1024.size a) :
    (Rect.unit (s := S1024x1024) ![32 * n.val, 0] S32x1024.size h).set = rows32 n.val := by
  ext i
  rw [Rect.mem_set_unit, rows32, Finset.mem_filter]
  have h1 : (i 1).val < 1024 := (i 1).isLt
  constructor
  · intro h
    have h0 : 32 * n.val ≤ (i 0).val ∧ (i 0).val < 32 * n.val + 32 := h 0
    exact ⟨Finset.mem_univ _, by omega⟩
  · rintro ⟨-, h⟩ a
    match a with
    | 0 => show 32 * n.val ≤ (i 0).val ∧ (i 0).val < 32 * n.val + 32; omega
    | 1 => show 0 ≤ (i 1).val ∧ (i 1).val < 0 + 1024; omega

/-- The credit of a copy of sixteen rows. -/
def N16 : ℕ := ((Memref.whole cc0_scratch0 : Memref sig .tc .vmem S512x1024 .bf16).slice
  (Rect.unit (s := S512x1024) ![16 * (0 : Fin 32).val, 0] S16x1024.size (inb16 0)) (fun _ => rfl)).view.dmaCredit
/-- The credit of a copy of thirty-two rows. -/
def N32 : ℕ := ((Memref.whole cc0_stg3_0 : Memref sig .tc .vmem S1024x1024 .bf16).slice
  (Rect.unit (s := S1024x1024) ![32 * (0 : Fin 32).val, 0] S32x1024.size (inb32 0)) (fun _ => rfl)).view.dmaCredit

theorem N16_pos : 0 < N16 := View.dmaCredit_pos _ (by decide +kernel)
theorem N32_pos : 0 < N32 := View.dmaCredit_pos _ (by decide +kernel)

/-! ## Contents -/

/-- What the devices' windows hold: the tokens, the indices and the weights on each device. -/
structure Ins (F : FTy → Type) where
  x : Dev nD → Vec F S1024x512 .bf16
  idx : Dev nD → Vec F S1024x1 .i32
  w : Dev nD → Vec F S4x512x1024 .bf16

/-- An index of two axes. -/
def at2 {m n : ℕ} (a : Fin m) (b : Fin n) : (⟨2, ![m, n]⟩ : Shape).Idx := fun i => match i with
  | 0 => a
  | 1 => b

variable (I : Ins F)

/-- The weights of expert `e` of device `c`, as the body loads them. -/
def wAt (c : Dev nD) (e : ℕ) (h : ∀ a, ![e, 0, 0] a + S1x512x1024.size a ≤ S4x512x1024.size a) : Vec F S1x512x1024 .bf16 :=
  (Memref.whole cc0_stg2_0 : Memref sig .tc .vmem S4x512x1024 .bf16).view.readAt (Elt F)
    (Rect.unit (s := S4x512x1024) ![e, 0, 0] S1x512x1024.size h).toLoadRect (I.w c)

/-- The first half of the packed products of device `c`. -/
def lo (c : Dev nD) : FVec F S256x1024 .bf16 :=
  packLo c (I.idx c) (I.x c) (wAt I c 0 inb_S4x512x1024_S1x512x1024_0_0_0) (wAt I c 1 inb_S4x512x1024_S1x512x1024_1_0_0)
    (wAt I c 2 inb_S4x512x1024_S1x512x1024_2_0_0) (wAt I c 3 inb_S4x512x1024_S1x512x1024_3_0_0)
/-- The second half. -/
def hi (c : Dev nD) : FVec F S256x1024 .bf16 :=
  packHi c (I.idx c) (I.x c) (wAt I c 0 inb_S4x512x1024_S1x512x1024_0_0_0) (wAt I c 1 inb_S4x512x1024_S1x512x1024_1_0_0)
    (wAt I c 2 inb_S4x512x1024_S1x512x1024_2_0_0) (wAt I c 3 inb_S4x512x1024_S1x512x1024_3_0_0)

/-- The packed products of device `c`: block `n` is for the device that keeps segment `n`. -/
def packC (c : Dev nD) : Vec F S512x1024 .bf16 := fun i =>
  if h : (i 0).val < 256 then lo I c (at2 ⟨(i 0).val, h⟩ (i 1))
  else hi I c (at2 ⟨(i 0).val - 256, by have : (i 0).val < 512 := (i 0).isLt; omega⟩ (i 1))

/-- What device `d` has received: block `p` is from device `p`. -/
def recvC (d : Dev nD) : Vec F S512x1024 .bf16 := fun i =>
  packC I ⟨(i 0).val / 16, by have : (i 0).val < 512 := (i 0).isLt; show _ < 32; omega⟩
    (at2 ⟨16 * (seg d).val + (i 0).val % 16, by have := (seg d).isLt; omega⟩ (i 1))

/-- The output block of device `c`. -/
def segC (c : Dev nD) : FVec F S32x1024 .bf16 := k0_pay24 (pick F c (I.idx c)) (recvC I c)

/-- The whole output, the same on every device: block `n` is that of the device that keeps segment `n`. -/
def outC : Vec F S1024x1024 .bf16 := fun i =>
  segC I (keeper ⟨(i 0).val / 32, by have : (i 0).val < 1024 := (i 0).isLt; omega⟩)
    (at2 ⟨(i 0).val % 32, Nat.mod_lt _ (by decide)⟩ (i 1))

/-! ## Holdings -/

/-- Block `n` of the packed products of device `c`. -/
def packPts (c : Dev nD) (n : ℕ) : sProp 𝕄 := ((c : Thread nD τ).loc cc0_scratch0) ↦[rows16 n]{fullShare} packC I c
/-- Block `n` of what device `c` has received. -/
def recvPts (c : Dev nD) (n : ℕ) : sProp 𝕄 := ((c : Thread nD τ).loc cc0_scratch1) ↦[rows16 n]{fullShare} recvC I c
/-- Block `n` of its buffer for what it receives, at any contents. -/
def recvAny (c : Dev nD) (n : ℕ) : sProp 𝕄 :=
  iprop(∃ f : Buf (Elt F) ((c : Thread nD τ).loc cc0_scratch1), ((c : Thread nD τ).loc cc0_scratch1) ↦[rows16 n]{fullShare} f)
/-- A share of block `n` of its output. -/
def outPts (c : Dev nD) (n : ℕ) (q : PosShare TreeShare) : sProp 𝕄 := ((c : Thread nD τ).loc cc0_stg3_0) ↦[rows32 n]{q} outC I
/-- Block `n` of its output, at any contents. -/
def outAny (c : Dev nD) (n : ℕ) : sProp 𝕄 :=
  iprop(∃ f : Buf (Elt F) ((c : Thread nD τ).loc cc0_stg3_0), ((c : Thread nD τ).loc cc0_stg3_0) ↦[rows32 n]{fullShare} f)

/-- The sends that read the block the `j`-th send reads. -/
def sibs (j : Fin 31) : List (Fin 31) := if j.val < 5 then [0, 1, 2, 3, 4] else agOut (agFrom j)
/-- The share of its block the `j`-th send borrows. -/
def shr (j : Fin 31) : PosShare TreeShare := dealOf fullShare (sibs j).toFinset j

/-- What device `p`'s signal hands device `c`: the rows of `p` that `c` writes. -/
def barPay (c p : Dev nD) : sProp 𝕄 :=
  iprop(recvAny p c.val ∗ bigSep Finset.univ fun j : Fin 31 =>
    if xo (tgtMask j) c = p then outAny p (seg (xo (srcMask j) c)).val else iprop(emp))

/-- What is handed over on device `c`'s cells. -/
def pay (c : Dev nD) : CellIx → Fin 31 → sProp 𝕄
  | none, k => barPay c (prev k c)
  | some (⟨0, _⟩, k), _ => packPts I c (seg (peer k c)).val
  | some (⟨1, _⟩, k), _ => recvPts I c (prev k c).val
  | some (⟨2, _⟩, j), _ => outPts I c (seg (xo (srcMask j) c)).val (shr j)
  | some (⟨_ + 3, _⟩, i), _ => outPts I c (seg (xo (blkMask i) c)).val fullShare

omit [FloatOps F] in
instance recvAny_storable (c : Dev nD) (n : ℕ) : BI.Storable (upEmb : UEmb _ 𝕄) (recvAny (F := F) c n) := by
  unfold recvAny; infer_instance
omit [FloatOps F] in
instance outAny_storable (c : Dev nD) (n : ℕ) : BI.Storable (upEmb : UEmb _ 𝕄) (outAny (F := F) c n) := by
  unfold outAny; infer_instance
omit [FloatOps F] in
instance outIf_storable (p : Prop) [Decidable p] (c : Dev nD) (n : ℕ) :
    BI.Storable (upEmb : UEmb _ 𝕄) (if p then outAny (F := F) c n else iprop(emp)) := by
  split <;> infer_instance

instance pay_storable (c : Dev nD) (o : CellIx) (d : Fin 31) : BI.Storable (upEmb : UEmb _ 𝕄) (pay I c o d) := by
  match o, d with
  | none, k => show BI.Storable upEmb (barPay c (prev k c)); unfold barPay; infer_instance
  | some (⟨0, _⟩, k), _ => show BI.Storable upEmb (packPts I c _); unfold packPts; infer_instance
  | some (⟨1, _⟩, k), _ => show BI.Storable upEmb (recvPts I c _); unfold recvPts; infer_instance
  | some (⟨2, _⟩, j), _ => show BI.Storable upEmb (outPts I c _ _); unfold outPts; infer_instance
  | some (⟨_ + 3, _⟩, i), _ => show BI.Storable upEmb (outPts I c _ _); unfold outPts; infer_instance

/-! ## The schedule -/

/-- Who pays into a cell: into a barrier cell every other device, into a copy's cell the one copy. -/
def dutiesAt : CellIx → Finset (Fin 31)
  | none => Finset.univ
  | some _ => {0}
/-- How much each pays. -/
def amountAt : CellIx → ℕ
  | none => 1
  | some (a, _) => if a.val < 2 then N16 else N32

theorem amountAt_pos (o : CellIx) : 0 < amountAt o := by
  match o with
  | none => exact Nat.one_pos
  | some (a, _) => show 0 < if a.val < 2 then N16 else N32; split; exacts [N16_pos, N32_pos]

/-- One round for every cell. -/
def sched : Rounds.Schedule (GSem nD τ sig) (Fin 31) 𝕄 where
  duties g r := if r = 0 then (match kind g.2 with | some o => dutiesAt o | none => ∅) else ∅
  unitless _ := False
  amount g _ _ := match kind g.2 with | some o => amountAt o | none => 1
  payload g _ d := match kind g.2 with | some o => pay I g.1.1 o d | none => iprop(emp)
  amount_pos g _ _ _ := by
    split
    · exact amountAt_pos _
    · exact Nat.one_pos

instance sched_storable (g : GSem nD τ sig) (r : ℕ) (d : Fin 31) :
    BI.Storable (upEmb : UEmb _ 𝕄) ((sched I).payload g r d) := by
  show BI.Storable upEmb (match kind g.2 with | some o => pay I g.1.1 o d | none => iprop(emp))
  split <;> infer_instance

theorem duties_cell (c : Dev nD) (o : CellIx) : (sched I).duties (cell c o) 0 = dutiesAt o := by
  show (if 0 = 0 then (match kind (semAt o) with | some o => dutiesAt o | none => ∅) else ∅) = _
  rw [kind_semAt]; rfl
theorem duties_later (g : GSem nD τ sig) : ∀ r, 1 ≤ r → (sched I).duties g r = ∅ :=
  fun r hr => if_neg (by omega)
theorem amount_cell (c : Dev nD) (o : CellIx) (d : Fin 31) : (sched I).amount (cell c o) 0 d = amountAt o := by
  show (match kind (semAt o) with | some o => amountAt o | none => 1) = _
  rw [kind_semAt]
theorem payload_cell (c : Dev nD) (o : CellIx) (d : Fin 31) : (sched I).payload (cell c o) 0 d = pay I c o d := by
  show (match kind (semAt o) with | some o => pay I c o d | none => iprop(emp)) = _
  rw [kind_semAt]
theorem expect_bar (c : Dev nD) : (sched I).expect (cell c none) 0 = 31 := by
  unfold Schedule.expect Schedule.amountOf
  rw [duties_cell, Finset.sum_congr rfl fun d _ => amount_cell I c none d]; rfl
theorem expect_copy (c : Dev nD) (a : Fin 4) (k : Fin 31) :
    (sched I).expect (cell c (some (a, k))) 0 = amountAt (some (a, k)) := by
  unfold Schedule.expect Schedule.amountOf
  rw [duties_cell]; exact (Finset.sum_singleton _ _).trans (amount_cell I c _ 0)
/-- All that is handed over on a barrier cell. -/
theorem rest_bar (c : Dev nD) : bigSep ((sched I).duties (cell c none) 0 \ ∅) (fun d => (sched I).payload (cell c none) 0 d)
    = bigSep Finset.univ fun k : Fin 31 => barPay (F := F) c (prev k c) := by
  rw [Finset.sdiff_empty, duties_cell]; exact bigSep_congr fun k _ => payload_cell I c none k
/-- All that is handed over on a copy's cell. -/
theorem rest_copy (c : Dev nD) (a : Fin 4) (k : Fin 31) :
    bigSep ((sched I).duties (cell c (some (a, k))) 0 \ ∅) (fun d => (sched I).payload (cell c (some (a, k))) 0 d)
      = pay I c (some (a, k)) 0 := by
  rw [Finset.sdiff_empty, duties_cell]; exact bigSep_singleton.trans (payload_cell I c _ 0)

/-! ## Levels -/

/-- The index type has the one member; only a TensorCore's cells are used. -/
def L (g : GSem nD τ sig) : Finset Unit := if g.1.2 = .tc then {()} else ∅
/-- The level of a semaphore: the barrier's first, then the arrivals of products, then the arrivals of output blocks in
    their order; the cells of a device's own copies below them all. -/
def level : Option CellIx → ℕ
  | some none => 1
  | some (some (⟨1, _⟩, _)) => 2
  | some (some (⟨3, _⟩, i)) => 3 + i.val
  | _ => 0
def lv (g : GSem nD τ sig) (_ : Unit) : ℕ := level (kind g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (o : CellIx) : lv (cell c o) () = level (some o) := congrArg level (kind_semAt o)

end Cert.KernelIdeal.Run

end
-- ==== Proof.Loops.lean ====
/-
  Loops and lists of holdings.

  A loop of the program is gone through with a holding for each of its turns: what turn `i` takes, what it leaves, and
  what is handed on from turn to turn.
-/
module

public import proofs.«01_k».proof.Proof.Cells

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- No loop of unbounded length is used. -/
abbrev 𝒱₀ : Variants := Variants.none

/-- What it is for device `c` to run `K` to `Q`. -/
abbrev runs (c : Dev nD) (K : Act F PUnit) (Q : PUnit → sProp 𝕄) : sProp 𝕄 :=
  wp frame (wpE (defs₀ (F := F)) 𝒱₀ (c : Thread nD τ) none) Set.univ K Q

/-- The holdings of the members of a list. -/
def star {ι : Type} (l : List ι) (Φ : ι → sProp 𝕄) : sProp 𝕄 := l.foldr (fun i P => iprop(Φ i ∗ P)) iprop(emp)

theorem star_nil {ι : Type} (Φ : ι → sProp 𝕄) : star [] Φ = iprop(emp) := rfl
theorem star_cons {ι : Type} (i : ι) (l : List ι) (Φ : ι → sProp 𝕄) : star (i :: l) Φ = iprop(Φ i ∗ star l Φ) := rfl

theorem star_eq {ι : Type} [DecidableEq ι] (l : List ι) (h : l.Nodup) (Φ : ι → sProp 𝕄) : star l Φ = bigSep l.toFinset Φ := by
  induction l with
  | nil => rw [List.toFinset_nil, bigSep_empty]; rfl
  | cons i l ih =>
    rw [star_cons, ih h.of_cons, List.toFinset_cons, bigSep_insert (by rw [List.mem_toFinset]; exact (List.nodup_cons.mp h).1)]
    rfl

theorem star_all31 (Φ : Fin 31 → sProp 𝕄) : star all31 Φ = bigSep Finset.univ Φ := by
  rw [star_eq _ all31_nodup]
  exact congrArg (fun s => bigSep s Φ) (by decide +kernel)

theorem star_append {ι : Type} (l l' : List ι) (Φ : ι → sProp 𝕄) : star (l ++ l') Φ = iprop(star l Φ ∗ star l' Φ) := by
  induction l with
  | nil => exact (emp_sep_eq _).symm
  | cons i l ih => rw [List.cons_append, star_cons, ih, star_cons]; exact (equiv_iff.mp ⟨BI.sep_assoc, BI.sep_assoc'⟩).symm

theorem star_congr {ι : Type} {l : List ι} {Φ Ψ : ι → sProp 𝕄} (h : ∀ i ∈ l, Φ i = Ψ i) : star l Φ = star l Ψ := by
  induction l with
  | nil => rfl
  | cons i l ih => rw [star_cons, star_cons, h i List.mem_cons_self, ih fun j hj => h j (List.mem_cons_of_mem _ hj)]

theorem star_flatMap {ι κ : Type} (l : List ι) (g : ι → List κ) (Φ : κ → sProp 𝕄) :
    star (l.flatMap g) Φ = star l fun i => star (g i) Φ := by
  induction l with
  | nil => rfl
  | cons i l ih => rw [List.flatMap_cons, star_append, ih]; rfl

theorem star_mono {ι : Type} {l : List ι} {Φ Ψ : ι → sProp 𝕄} (h : ∀ i ∈ l, Φ i ⊢ Ψ i) : star l Φ ⊢ star l Ψ := by
  induction l with
  | nil => exact BI.Entails.refl _
  | cons i l ih => rw [star_cons, star_cons]; exact BIClass.sep_mono (h i List.mem_cons_self) (ih fun j hj => h j (List.mem_cons_of_mem _ hj))

theorem star_sep {ι : Type} (l : List ι) (Φ Ψ : ι → sProp 𝕄) : star l (fun i => iprop(Φ i ∗ Ψ i)) = iprop(star l Φ ∗ star l Ψ) := by
  induction l with
  | nil => exact (emp_sep_eq _).symm
  | cons i l ih =>
    rw [star_cons, star_cons, star_cons, ih]
    refine equiv_iff.mp ⟨?_, ?_⟩
    · show iprop((Φ i ∗ Ψ i) ∗ star l Φ ∗ star l Ψ) ⊢ iprop((Φ i ∗ star l Φ) ∗ Ψ i ∗ star l Ψ)
      iintro ⟨⟨H1, H2⟩, H3, H4⟩
      isplitl [H1 H3]
      · isplitl [H1] <;> iassumption
      · isplitl [H2] <;> iassumption
    · show iprop((Φ i ∗ star l Φ) ∗ Ψ i ∗ star l Ψ) ⊢ iprop((Φ i ∗ Ψ i) ∗ star l Φ ∗ star l Ψ)
      iintro ⟨⟨H1, H3⟩, H2, H4⟩
      isplitl [H1 H2]
      · isplitl [H1] <;> iassumption
      · isplitl [H3] <;> iassumption

/-- A loop, turn by turn. -/
theorem runs_each {ι : Type} (c : Dev nD) (P : sProp 𝕄) [BI.Persistent P] (f : ι → Act F PUnit → Act F PUnit)
    (R : List ι → sProp 𝕄) (A B : ι → sProp 𝕄) (l₀ : List ι)
    (h : ∀ i l, (i :: l) <:+ l₀ → ∀ K Q, iprop(P ∗ R (i :: l) ∗ A i) ⊢ iprop((iprop(R l ∗ B i) -∗ runs c K Q) -∗ runs c (f i K) Q)) :
    ∀ l, l <:+ l₀ → ∀ K Q, iprop(P ∗ R l ∗ star l A) ⊢ iprop((iprop(R [] ∗ star l B) -∗ runs c K Q) -∗ runs c (each f l K) Q) := by
  intro l
  induction l with
  | nil =>
    intro _ K Q
    show iprop(P ∗ R [] ∗ star [] A) ⊢ iprop((iprop(R [] ∗ star [] B) -∗ runs c K Q) -∗ runs c K Q)
    iintro ⟨-, HR, -⟩ Hk
    iapply Hk
    isplitl [HR]; · iexact HR
    rw [star_nil]; iempintro
  | cons i l ih =>
    intro hl K Q
    show iprop(P ∗ R (i :: l) ∗ A i ∗ star l A)
      ⊢ iprop((iprop(R [] ∗ B i ∗ star l B) -∗ runs c K Q) -∗ runs c (f i (each f l K)) Q)
    iintro ⟨#HP, HR, HA, HAs⟩ Hk
    iapply (h i l hl (each f l K) Q) $$ [HR HA]
    · isplitr; · iexact HP
      isplitl [HR] <;> iassumption
    iintro ⟨HR, HB⟩
    iapply (ih ((List.suffix_cons i l).trans hl) K Q) $$ [HR HAs]
    · isplitr; · iexact HP
      isplitl [HR] <;> iassumption
    iintro ⟨HR, HBs⟩
    iapply Hk
    isplitl [HR]; · iexact HR
    isplitl [HB] <;> iassumption

end Cert.KernelIdeal.Run

end
-- ==== Proof.Steps.lean ====
/-
  The steps of the body.

  Each signal, copy and wait once, at any device and any turn of its loop: what it takes and what it leaves.
-/
module

public import proofs.«01_k».proof.Proof.Loops
public import Idealize.ShloMosaic.Lib.Pipeline.Value
public import Idealize.ShloMosaic.Lib.Pipeline.ValueKit.Geometry

@[expose] public section

set_option maxRecDepth 4096

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (dealOf pointsTo_deal)

variable {F : FTy → Type} [FloatOps F]

local notation "𝕄" => MT nD τ sig Unit (Elt F) ℕ UU ℕ

/-! ## The buffers -/

abbrev outM : Memref sig .tc .vmem S1024x1024 .bf16 := Memref.whole cc0_stg3_0
abbrev packM : Memref sig .tc .vmem S512x1024 .bf16 := Memref.whole cc0_scratch0
abbrev recvM : Memref sig .tc .vmem S512x1024 .bf16 := Memref.whole cc0_scratch1

theorem outW : outM.IsWhole := Memref.isWhole_whole _
theorem packW : packM.IsWhole := Memref.isWhole_whole _
theorem recvW : recvM.IsWhole := Memref.isWhole_whole _

/-! ## What a device owes -/

/-- The sum of what is owed for the members of a list. -/
def owe {ι : Type} (f : ι → CellTallies nD τ sig Unit) (l : List ι) : CellTallies nD τ sig Unit := (l.map f).sum

theorem owe_nil {ι : Type} (f : ι → CellTallies nD τ sig Unit) : owe f [] = 0 := rfl
theorem owe_cons {ι : Type} (f : ι → CellTallies nD τ sig Unit) (i : ι) (l : List ι) : owe f (i :: l) = f i + owe f l := by
  unfold owe; rw [List.map_cons, List.sum_cons]
theorem owe_append {ι : Type} (f : ι → CellTallies nD τ sig Unit) (l l' : List ι) : owe f (l ++ l') = owe f l + owe f l' := by
  unfold owe; rw [List.map_append, List.sum_append]

/-- What is owed somewhere is owed for some member. -/
theorem owe_pos {ι : Type} {f : ι → CellTallies nD τ sig Unit} {g : GSem nD τ sig} {u : Unit} {l : List ι}
    (h : 0 < owe f l g u) : ∃ i ∈ l, 0 < f i g u := by
  induction l with
  | nil => exact absurd h (Nat.lt_irrefl 0)
  | cons i l ih =>
    rw [owe_cons, Pi.add_apply, Finsupp.add_apply] at h
    rcases Nat.eq_zero_or_pos (f i g u) with h0 | h0
    · rw [h0, Nat.zero_add] at h
      obtain ⟨j, hj, hp⟩ := ih h
      exact ⟨j, List.mem_cons_of_mem _ hj, hp⟩
    · exact ⟨i, List.mem_cons_self, h0⟩

/-- The unit of device `c`'s `k`-th signal. -/
def oBar (c : Dev nD) (k : Fin 31) : CellTallies nD τ sig Unit := tallyAt (cell (peer k c) none) () 1
/-- The credit of its `k`-th copy of products, if batch `b` sends it. -/
def oRs (b : Fin 2) (c : Dev nD) (k : Fin 31) : CellTallies nD τ sig Unit :=
  if rsCond b k c = 1#1 then tallyAt (cell (peer k c) (some (1, k))) () N16 else 0
/-- The credit of its `j`-th copy of an output block. -/
def oAg (c : Dev nD) (j : Fin 31) : CellTallies nD τ sig Unit :=
  tallyAt (cell (xo (tgtMask j) c) (some (3, agCell j))) () N32

theorem tally_pos {g g' : GSem nD τ sig} {u : Unit} {n : ℕ} (h : 0 < (tallyAt g' () n : CellTallies nD τ sig Unit) g u) : g = g' := by
  rw [tallyAt_apply] at h
  by_contra hn
  rw [if_neg (fun h' => hn h'.1)] at h
  exact Nat.lt_irrefl 0 h

/-- Device `c` owes `O`. -/
def owing (c : Dev nD) (O : CellTallies nD τ sig Unit) : sProp 𝕄 := iprop(∃ W : Waits sig Unit, owes (c : Thread nD τ) O W)

theorem mayWait_of (c : Dev nD) (o : CellIx) (O : CellTallies nD τ sig Unit)
    (h : ∀ g u, 0 < O g u → ∃ d o', g = cell d o' ∧ level (some o) < level (some o')) :
    (levAts L lv : sProp 𝕄) ⊢ MayWait (c : Thread nD τ) (semAt o) () O :=
  MayOwe.of_cut (L := L) (lev := lv) (level (some o))
    (fun p hp => by rw [Finset.mem_singleton.mp hp, L_tc]; exact Finset.mem_singleton_self _)
    (fun g u hg => by obtain ⟨d, o', rfl, -⟩ := h g u hg; rw [L_tc]; exact Finset.mem_singleton_self _)
    (fun p hp => by rw [Finset.mem_singleton.mp hp]; exact (lv_cell c o).le)
    (fun g u hg => by obtain ⟨d, o', rfl, hl⟩ := h g u hg; exact hl.trans_le (lv_cell d o').ge)

/-! ## What is known throughout -/

variable (I : Ins F) (K : Dev nD × CellIx → ℕ)

/-- Every cell's protocol is in force and at its first round, and the levels are as set. -/
def known : sProp 𝕄 :=
  iprop((bigSep Finset.univ fun ck : Dev nD × CellIx => cellInv ER (sched I) (K ck) (cell ck.1 ck.2))
    ∗ (bigSep Finset.univ fun ck : Dev nD × CellIx => reached ER (cell ck.1 ck.2) 0) ∗ levAts L lv)

instance known_persistent : BI.Persistent (known I K) := by unfold known; infer_instance

theorem inv_at (ck : Dev nD × CellIx) :
    (bigSep Finset.univ fun ck : Dev nD × CellIx => (cellInv ER (sched I) (K ck) (cell ck.1 ck.2) : sProp 𝕄))
      ⊢ cellInv ER (sched I) (K ck) (cell ck.1 ck.2) := bigSep_elim (Finset.mem_univ ck)
theorem reached_at (ck : Dev nD × CellIx) :
    (bigSep Finset.univ fun ck : Dev nD × CellIx => (reached ER (cell ck.1 ck.2) 0 : sProp 𝕄)) ⊢ reached ER (cell ck.1 ck.2) 0 :=
  bigSep_elim (Finset.mem_univ ck)
theorem known_inv (c : Dev nD) (o : CellIx) : known I K ⊢ cellInv ER (sched I) (K (c, o)) (cell c o) := by
  unfold known
  iintro ⟨H, -, -⟩
  iapply (inv_at I K (c, o))
  iexact H
theorem known_reached (c : Dev nD) (o : CellIx) : known I K ⊢ reached ER (cell c o) 0 := by
  unfold known
  iintro ⟨-, H, -⟩
  iapply (reached_at (F := F) (c, o))
  iexact H
/-- A device may wait at a cell that lies below every cell it owes to. -/
theorem mayWait (c : Dev nD) (o : CellIx) (O : CellTallies nD τ sig Unit)
    (h : ∀ g u, 0 < O g u → ∃ d o', g = cell d o' ∧ level (some o) < level (some o')) :
    known I K ⊢ MayWait (c : Thread nD τ) (semAt o) () O := by
  have := mayWait_of (F := F) c o O h
  unfold known
  iintro ⟨-, -, H⟩
  iapply this
  iexact H

theorem duties_bar (c : Dev nD) : (sched I).duties ((c : Thread nD τ), SemLoc.reg barSem) 0 = Finset.univ := duties_cell I c none
theorem payload_bar (c : Dev nD) (k : Fin 31) : (sched I).payload ((c : Thread nD τ), SemLoc.reg barSem) 0 k = barPay c (prev k c) :=
  payload_cell I c none k
theorem duties_copy (c : Dev nD) (a : Fin 4) (k : Fin 31) : (sched I).duties ((c : Thread nD τ), SemLoc.dma (dsem a k)) 0 = {0} :=
  duties_cell I c (some (a, k))
theorem payload_copy (c : Dev nD) (a : Fin 4) (k d : Fin 31) :
    (sched I).payload ((c : Thread nD τ), SemLoc.dma (dsem a k)) 0 d = pay I c (some (a, k)) d := payload_cell I c (some (a, k)) d

/-! ## Signals -/

/-- The `k`-th signal: the rows the signalled device writes go with it. -/
theorem step_signal (c : Dev nD) (O : CellTallies nD τ sig Unit) (k : Fin 31) (l : List (Fin 31)) (P : Act F PUnit) (Q : PUnit → sProp 𝕄) :
    iprop(known I K ∗ owing c (owe (oBar c) (k :: l) + O) ∗ dutyTok ER (cell (peer k c) none) 0 k ∗ barPay (peer k c) c)
      ⊢ iprop((iprop(owing c (owe (oBar c) l + O) ∗ emp) -∗ runs c P Q) -∗ runs c (do signal c k; P) Q) := by
  simp only [signal, semSignalWord, Prog.bind_op, Prog.bind_ret]
  rw [sigDev_eq, owe_cons]
  unfold owing
  iintro ⟨#HK, ⟨%W, HO⟩, Ht, Hp⟩ Hk
  iapply (Rounds.wp_signal 𝒱₀ ER (sched I) (c : Thread nD τ) none (dst := (peer k c : Thread nD τ)) (κ := K (peer k c, none))
      (sem := barSem) (d := k) (r := 0) (k' := 1) (by rw [duties_bar]; exact Finset.mem_univ _)
      (amount_cell I (peer k c) none k) () (O₀ := oBar c k + owe (oBar c) l + O) (owe (oBar c) l + O) (by rw [add_assoc]; exact add_comm _ _) (W := W)) $$ [HO Ht Hp]
  · isplitr; · iapply (known_inv I K (peer k c) none); iexact HK
    isplitl [HO]; · iexact HO
    isplitl [Ht]; · iexact Ht
    isplitl [Hp]
    · iapply (Entails.of_eq (by rw [payload_bar, prev_peer]) :
        barPay (F := F) (peer k c) c ⊢ (sched I).payload ((peer k c : Thread nD τ), SemLoc.reg barSem) 0 k)
      iexact Hp
    iapply (known_reached I K (peer k c) none); iexact HK
  iintro HO
  iapply Hk
  isplitl [HO]
  · iexists W; iexact HO
  iempintro

/-! ## Waits -/

theorem expect_bar' (c : Dev nD) : 0 + 31 = (sched I).expect ((c : Thread nD τ), SemLoc.reg barSem) 0 :=
  (Nat.zero_add 31).trans (expect_bar I c).symm
theorem expect_copy' (c : Dev nD) (a : Fin 4) (k : Fin 31) :
    0 + amountAt (some (a, k)) = (sched I).expect ((c : Thread nD τ), SemLoc.dma (dsem a k)) 0 :=
  (Nat.zero_add _).trans (expect_copy I c a k).symm
theorem rest_bar' (c : Dev nD) :
    bigSep ((sched I).duties ((c : Thread nD τ), SemLoc.reg barSem) 0 \ ∅)
        (fun d => (sched I).payload ((c : Thread nD τ), SemLoc.reg barSem) 0 d)
      = bigSep Finset.univ fun k : Fin 31 => barPay (F := F) c (prev k c) := rest_bar I c
theorem rest_copy' (c : Dev nD) (a : Fin 4) (k : Fin 31) :
    bigSep ((sched I).duties ((c : Thread nD τ), SemLoc.dma (dsem a k)) 0 \ ∅)
        (fun d => (sched I).payload ((c : Thread nD τ), SemLoc.dma (dsem a k)) 0 d)
      = pay I c (some (a, k)) 0 := rest_copy I c a k

/-- The wait for the signals of all other devices: with them come the rows this device writes there. -/
theorem step_bar (c : Dev nD) (O : CellTallies nD τ sig Unit) (hO : known I K ⊢ MayWait (c : Thread nD τ) (.reg barSem) () O)
    (P : PUnit → Act F PUnit) (Q : PUnit → sProp 𝕄) :
    iprop(known I K ∗ owing c O ∗ cred (tallyAt (cell c none) () 31) ∗ atPos ER (cell c none) 0 ∅ 0)
      ⊢ iprop((iprop(owing c O ∗ semVal (cell c none) 0 ∗ bigSep Finset.univ fun k : Fin 31 => barPay (F := F) c (prev k c)) -∗ runs c (P ⟨⟩) Q)
          -∗ runs c (.op (.semWait barSem 31) P) Q) := by
  unfold owing
  iintro ⟨#HK, ⟨%W, HO⟩, Hc, Hat⟩ Hk
  iapply (Rounds.wp_wait_rest_token 𝒱₀ ER (sched I) (c : Thread nD τ) none (κ := K (c, none)) (sm := .reg barSem)
      (wpE_semWait_eq 𝒱₀ (c : Thread nD τ) none Set.univ) (Set.mem_univ _) () (O := O) (W := W) (R := 0) (m := 0) (T := ∅)
      (expect_bar' I c)) $$ [Hc HO Hat]
  · isplitr; · iapply (known_inv I K c none); iexact HK
    isplitl [Hc]; · iexact Hc
    isplitl [HO]; · iexact HO
    isplitr; · iapply hO; iexact HK
    iexact Hat
  iintro ⟨HO, Hat, -, Hpay⟩
  ihave Hp := (Entails.of_eq (rest_bar' I c)) $$ Hpay
  imod (Rounds.cell_close ER (sched I) (Set.mem_univ (K (c, none))) (fun h => h) (R := 0 + 1) (duties_later I (cell c none))) $$ [Hat] with Hz
  · isplitr; · iapply (known_inv I K c none); iexact HK
    iexact Hat
  iapply Hk
  isplitl [HO]
  · iexists _; iexact HO
  isplitl [Hz] <;> iassumption

/-- The wait for one copy: what the copy hands over. -/
theorem step_wait (c : Dev nD) (a : Fin 4) (k : Fin 31) (O : CellTallies nD τ sig Unit)
    (hO : known I K ⊢ MayWait (c : Thread nD τ) (.dma (dsem a k)) () O) {s : Shape}
    {sem : DmaSem sig} (hs : sem = dsem a k) {src : Memref sig .tc .vmem s .bf16} {dst : Memref sig .tc .vmem s .bf16}
    {h₁ : src.view.WordExact} {h₂ : dst.view.WordExact} {N : ℕ} (hN : dst.view.dmaCredit = N)
    (hA : amountAt (some (a, k)) = N) {R : sProp 𝕄} (hR : pay I c (some (a, k)) 0 = R)
    (P : PUnit → Act F PUnit) (Q : PUnit → sProp 𝕄) :
    iprop(known I K ∗ owing c O ∗ cred (tallyAt (cell c (some (a, k))) () N)
        ∗ atPos ER (cell c (some (a, k))) 0 ∅ 0)
      ⊢ iprop((iprop(owing c O ∗ semVal (cell c (some (a, k))) 0 ∗ R) -∗ runs c (P ⟨⟩) Q)
          -∗ runs c (.op (.waitDma2 sem src dst h₁ h₂) P) Q) := by
  subst hs hR
  rw [← hN]
  unfold owing
  iintro ⟨#HK, ⟨%W, HO⟩, Hc, Hat⟩ Hk
  iapply (Rounds.wp_wait_rest_token 𝒱₀ ER (sched I) (c : Thread nD τ) none (κ := K (c, some (a, k))) (sm := .dma (dsem a k))
      (wpE_waitDma2_eq 𝒱₀ (c : Thread nD τ) none Set.univ) (Set.mem_univ _) () (O := O) (W := W) (R := 0) (m := 0) (T := ∅)
      (by rw [hN, ← hA]; exact expect_copy' I c a k)) $$ [Hc HO Hat]
  · isplitr; · iapply (known_inv I K c (some (a, k))); iexact HK
    isplitl [Hc]; · iexact Hc
    isplitl [HO]; · iexact HO
    isplitr; · iapply hO; iexact HK
    iexact Hat
  iintro ⟨HO, Hat, -, Hpay⟩
  ihave Hp := (Entails.of_eq (rest_copy' I c a k)) $$ Hpay
  imod (Rounds.cell_close ER (sched I) (Set.mem_univ (K (c, some (a, k)))) (fun h => h) (R := 0 + 1) (duties_later I (cell c (some (a, k))))) $$ [Hat] with Hz
  · isplitr; · iapply (known_inv I K c (some (a, k))); iexact HK
    iexact Hat
  iapply Hk
  isplitl [HO]
  · iexists _; iexact HO
  isplitl [Hz] <;> iassumption

/-! ## Copies -/

/-- A write through a part of a buffer, read at an element of the part. -/
theorem write_emb (b : Ref sig .tc) (r : Rect b.ty.shape) (f : b.ty.Contents (Elt F)) (w : r.shape.Idx → Elt F b.ty.elt) (j : r.shape.Idx) :
    ((View.whole b).slice r).write (Elt F) f w Finset.univ (((View.whole b).slice r).emb j) = w j := by
  rw [View.write_emb_of_mem _ _ (Finset.mem_univ j)]; rfl

/-- Block `n` of sixteen rows. -/
abbrev blk16 (M : Memref sig .tc .vmem S512x1024 .bf16) (n : Fin 32) : Memref sig .tc .vmem S16x1024 .bf16 :=
  M.slice (Rect.unit (s := S512x1024) ![16 * n.val, 0] S16x1024.size (inb16 n)) (fun _ => rfl)
/-- Block `n` of thirty-two rows of the output. -/
abbrev blk32 (n : Fin 32) : Memref sig .tc .vmem S32x1024 .bf16 :=
  outM.slice (Rect.unit (s := S1024x1024) ![32 * n.val, 0] S32x1024.size (inb32 n)) (fun _ => rfl)

theorem blk16_pack (n : Fin 32) : (blk16 packM n).view.set = rows16 n.val := (View.set_slice_whole _ _).trans (set16 n (inb16 n))
theorem blk16_recv (n : Fin 32) : (blk16 recvM n).view.set = rows16 n.val := (View.set_slice_whole _ _).trans (set16 n (inb16 n))
theorem blk32_set (n : Fin 32) : (blk32 n).view.set = rows32 n.val := (View.set_slice_whole _ _).trans (set32 n (inb32 n))

theorem write_emb16 (n : Fin 32) (f : S512x1024.Idx → Elt F .bf16) (w : S16x1024.Idx → Elt F .bf16) (j : S16x1024.Idx) :
    (blk16 recvM n).view.write (Elt F) f w Finset.univ ((blk16 recvM n).view.emb j) = w j :=
  write_emb cc0_scratch1 (Rect.unit (s := S512x1024) ![16 * n.val, 0] S16x1024.size (inb16 n)) f w j
theorem write_emb32 (n : Fin 32) (f : S1024x1024.Idx → Elt F .bf16) (w : S32x1024.Idx → Elt F .bf16) (j : S32x1024.Idx) :
    (blk32 n).view.write (Elt F) f w Finset.univ ((blk32 n).view.emb j) = w j :=
  write_emb cc0_stg3_0 (Rect.unit (s := S1024x1024) ![32 * n.val, 0] S32x1024.size (inb32 n)) f w j

/-- What a copy of products leaves in the target's rows. -/
theorem land16 (c d : Dev nD) (f : Buf (Elt F) ((d : Thread nD τ).loc cc0_scratch1)) :
    ∀ i ∈ rows16 c.val, (blk16 recvM c).view.write (Elt F) f ((blk16 packM (seg d)).view.read (Elt F) (packC I c)) Finset.univ i
      = recvC I d i := by
  intro i hi
  rw [← blk16_recv c] at hi
  obtain ⟨j, rfl⟩ := View.exists_emb_of_mem_set _ hi
  refine (write_emb16 c f _ j).trans ?_
  have hj : (j 0).val < 16 := (j 0).isLt
  have e0 : (((blk16 recvM c).view.emb j 0 : Fin _) : ℕ) = 16 * c.val + (j 0).val :=
    ValueKit.view_emb_slice_whole_unit_val cc0_scratch1 _ _ _ j 0
  have e1 : (((blk16 recvM c).view.emb j 1 : Fin _) : ℕ) = 0 + (j 1).val :=
    ValueKit.view_emb_slice_whole_unit_val cc0_scratch1 _ _ _ j 1
  have s0 : (((blk16 packM (seg d)).view.emb j 0 : Fin _) : ℕ) = 16 * (seg d).val + (j 0).val :=
    ValueKit.view_emb_slice_whole_unit_val cc0_scratch0 _ _ _ j 0
  have s1 : (((blk16 packM (seg d)).view.emb j 1 : Fin _) : ℕ) = 0 + (j 1).val :=
    ValueKit.view_emb_slice_whole_unit_val cc0_scratch0 _ _ _ j 1
  show packC I c ((blk16 packM (seg d)).view.emb j) = packC I _ _
  congr 1
  · exact Fin.ext (by show c.val = _ / 16; rw [e0]; omega)
  · funext a
    match a with
    | 0 => exact Fin.ext (by show _ = 16 * (seg d).val + _ % 16; rw [s0, e0]; omega)
    | 1 => exact Fin.ext (by rw [s1]; exact e1.symm)

/-- What a copy of an output block leaves in the target's rows. -/
theorem land32 (c d : Dev nD) (n : Fin 32) (f : Buf (Elt F) ((d : Thread nD τ).loc cc0_stg3_0)) :
    ∀ i ∈ rows32 n.val, (blk32 n).view.write (Elt F) f ((blk32 n).view.read (Elt F) (outC I)) Finset.univ i = outC I i := by
  intro i hi
  rw [← blk32_set n] at hi
  obtain ⟨j, rfl⟩ := View.exists_emb_of_mem_set _ hi
  exact write_emb32 n f _ j

end Cert.KernelIdeal.Run

end
-- ==== Proof.Copies.lean ====
/-
  The copies of the body.

  A copy of products borrows a block of the packed products and fills a block on another device; a copy of an output
  block borrows a share of the block and fills the same block on another device.
-/
module

public import proofs.«01_k».proof.Proof.Steps

@[expose] public section

set_option maxRecDepth 4096

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (dealOf pointsTo_deal)

variable {F : FTy → Type} [FloatOps F]

local notation "𝕄" => MT nD τ sig Unit (Elt F) ℕ UU ℕ

variable (I : Ins F) (K : Dev nD × CellIx → ℕ)

theorem pack_eq (c : Dev nD) (n : Fin 32) :
    packPts I c n.val = ((blk16 packM n).view.loc (c : Thread nD τ) ↦[(blk16 packM n).view.set]{fullShare} packC I c : sProp 𝕄) := by
  rw [blk16_pack]; rfl
theorem recv_eq (c : Dev nD) (n : Fin 32) (f : Buf (Elt F) ((c : Thread nD τ).loc cc0_scratch1)) :
    (((c : Thread nD τ).loc cc0_scratch1) ↦[rows16 n.val]{fullShare} f : sProp 𝕄)
      = ((blk16 recvM n).view.loc (c : Thread nD τ) ↦[(blk16 recvM n).view.set]{fullShare} f) := by
  rw [blk16_recv]
theorem out_eq (c : Dev nD) (n : Fin 32) (q : PosShare TreeShare) (f : Buf (Elt F) ((c : Thread nD τ).loc cc0_stg3_0)) :
    (((c : Thread nD τ).loc cc0_stg3_0) ↦[rows32 n.val]{q} f : sProp 𝕄)
      = ((blk32 n).view.loc (c : Thread nD τ) ↦[(blk32 n).view.set]{q} f) := by
  rw [blk32_set]

/-- What a copy of products leaves on the target is what the target's cell hands over. -/
theorem landed16 (c : Dev nD) (k : Fin 31) (f : Buf (Elt F) ((peer k c : Thread nD τ).loc cc0_scratch1)) :
    ((blk16 recvM c).view.loc (peer k c : Thread nD τ) ↦[(blk16 recvM c).view.set]{fullShare}
        ((blk16 recvM c).view.write (Elt F) f ((blk16 packM (seg (peer k c))).view.read (Elt F) (packC I c)) Finset.univ) : sProp 𝕄)
      ⊢ pay I (peer k c) (some (1, k)) 0 := by
  show _ ⊢ recvPts I (peer k c) (prev k (peer k c)).val
  rw [prev_peer]
  unfold recvPts
  rw [recv_eq]
  exact Entails.of_eq (pointsTo_congr fun i hi => land16 I c (peer k c) f i (by rw [← blk16_recv]; exact hi))

theorem landed32 (c : Dev nD) (j : Fin 31) (f : Buf (Elt F) ((xo (tgtMask j) c : Thread nD τ).loc cc0_stg3_0)) :
    ((blk32 (seg (xo (srcMask j) c))).view.loc (xo (tgtMask j) c : Thread nD τ) ↦[(blk32 (seg (xo (srcMask j) c))).view.set]{fullShare}
        ((blk32 (seg (xo (srcMask j) c))).view.write (Elt F) f ((blk32 (seg (xo (srcMask j) c))).view.read (Elt F) (outC I)) Finset.univ) : sProp 𝕄)
      ⊢ pay I (xo (tgtMask j) c) (some (3, agCell j)) 0 := by
  show _ ⊢ outPts I (xo (tgtMask j) c) (seg (xo (blkMask (agCell j)) (xo (tgtMask j) c))).val fullShare
  rw [← xo_src]
  unfold outPts
  rw [out_eq]
  exact Entails.of_eq (pointsTo_congr fun i hi => land32 I c (xo (tgtMask j) c) (seg (xo (srcMask j) c)) f i (by rw [← blk32_set]; exact hi))

theorem credit16 (n : Fin 32) (s : DmaSem sig) : (blk16 recvM n).view.amount (.dma s) = N16 := rfl
theorem credit32 (n : Fin 32) (s : DmaSem sig) : (blk32 n).view.amount (.dma s) = N32 := rfl

theorem mem_duty (c : Dev nD) (a : Fin 4) (k : Fin 31) : 0 ∈ (sched I).duties (cell c (some (a, k))) 0 := by
  rw [duties_cell]; exact Finset.mem_singleton_self _

/-- A copy from a held part to a held part of another device, at the cells it signals. -/
theorem send_gen (c p : Dev nD) (a b : Fin 4) (k l : Fin 31) {s : Shape} (src dst : Memref sig .tc .vmem s .bf16)
    {hsc : (dst : Memref sig (Dev.tc p : Thread nD τ).2.kind .vmem s .bf16).view.ref.isScScratch = false}
    {h₁ : src.view.WordExact} {h₂ : dst.view.WordExact}
    {h₃ : DmaTarget.Typed .vmem (.dma (dsem b l)) (.remote (Dev.tc p : Thread nD τ) (dst : Memref sig .tc .vmem s .bf16) (.dma (dsem a k)) hsc)}
    (q : PosShare TreeShare) (fs : Buf (Elt F) (src.view.loc (c : Thread nD τ))) (fd : Buf (Elt F) (dst.view.loc (p : Thread nD τ))) (N : ℕ)
    (hN : dst.view.amount (.dma (dsem b l)) = N) (hk₁ : amountAt (some (a, k)) = N) (hk₂ : amountAt (some (b, l)) = N)
    (hpay₁ : (src.view.loc (c : Thread nD τ) ↦[src.view.set]{q} fs) ⊢ pay I c (some (a, k)) 0)
    (hpay₂ : (dst.view.loc (p : Thread nD τ) ↦[dst.view.set]{fullShare}
      (dst.view.write (Elt F) fd (src.view.read (Elt F) fs) Finset.univ)) ⊢ pay I p (some (b, l)) 0)
    (O : CellTallies nD τ sig Unit) (P : PUnit → Act F PUnit) (Q : PUnit → sProp 𝕄) :
    iprop(known I K ∗ owing c (tallyAt (cell p (some (b, l))) () N + O)
        ∗ (src.view.loc (c : Thread nD τ) ↦[src.view.set]{q} fs) ∗ (dst.view.loc (p : Thread nD τ) ↦[dst.view.set]{fullShare} fd)
        ∗ dutyTok ER (cell c (some (a, k))) 0 0 ∗ dutyTok ER (cell p (some (b, l))) 0 0)
      ⊢ iprop((iprop(owing c O ∗ cred (tallyAt (cell c (some (a, k))) () N)) -∗ runs c (P ⟨⟩) Q)
          -∗ runs c (.op (.enqueueDma src (.remote (Dev.tc p : Thread nD τ) dst (.dma (dsem a k)) hsc) (.dma (dsem b l)) h₁ h₂ h₃) P) Q) := by
  unfold owing
  iintro ⟨#HK, ⟨%W, HO⟩, Hs, Hd, Ht₁, Ht₂⟩ Hk
  iapply (Rounds.wp_send_pointsTo 𝒱₀ ER (sched I) (c : Thread nD τ) none (κ₁ := K (c, some (a, k))) (κ₂ := K (p, some (b, l)))
    (r₁ := 0) (r₂ := 0) (d₁ := 0) (d₂ := 0) (fd := fd) (q := q) (fs := fs)
    (mem_duty I c a k) (mem_duty I p b l)
    () () N hN ((amount_cell I c (some (a, k)) 0).trans hk₁) ((amount_cell I p (some (b, l)) 0).trans hk₂)
    (O₀ := tallyAt (cell p (some (b, l))) () N + O) O (add_comm _ _) (W := W)
    (hpay₁.trans (Entails.of_eq (payload_copy I c a k 0).symm))
    (hpay₂.trans (Entails.of_eq (payload_copy I p b l 0).symm))) $$ [Hs Hd HO Ht₁ Ht₂]
  · isplitr; · iapply (known_inv I K c (some (a, k))); iexact HK
    isplitr; · iapply (known_inv I K p (some (b, l))); iexact HK
    isplitl [Hs]; · iexact Hs
    isplitl [Hd]; · iexact Hd
    isplitl [HO]; · iexact HO
    isplitl [Ht₁]; · iexact Ht₁
    isplitr; · iapply (known_reached I K c (some (a, k))); iexact HK
    isplitl [Ht₂]; · iexact Ht₂
    iapply (known_reached I K p (some (b, l))); iexact HK
  iintro ⟨Hc, HO⟩
  iapply Hk
  isplitl [HO]
  · iexists W; iexact HO
  iexact Hc

/-- The `k`-th copy of products. -/
theorem send16 (c p : Dev nD) (k : Fin 31) (hp : p = peer k c) {src dst : Memref sig .tc .vmem S16x1024 .bf16}
    (hsrc : src = blk16 packM (seg p)) (hdst : dst = blk16 recvM c) {sS sR : DmaSem sig} (hS : sS = dsem 0 k) (hR : sR = dsem 1 k)
    {hsc : (dst : Memref sig (Dev.tc p : Thread nD τ).2.kind .vmem S16x1024 .bf16).view.ref.isScScratch = false}
    {h₁ : src.view.WordExact} {h₂ : dst.view.WordExact}
    {h₃ : DmaTarget.Typed .vmem (.dma sR) (.remote (Dev.tc p : Thread nD τ) (dst : Memref sig .tc .vmem S16x1024 .bf16) (.dma sS) hsc)}
    (O : CellTallies nD τ sig Unit) (P : PUnit → Act F PUnit) (Q : PUnit → sProp 𝕄) :
    iprop(known I K ∗ owing c (tallyAt (cell p (some (1, k))) () N16 + O) ∗ packPts I c (seg p).val ∗ recvAny p c.val
        ∗ dutyTok ER (cell c (some (0, k))) 0 0 ∗ dutyTok ER (cell p (some (1, k))) 0 0)
      ⊢ iprop((iprop(owing c O ∗ cred (tallyAt (cell c (some (0, k))) () N16)) -∗ runs c (P ⟨⟩) Q)
          -∗ runs c (.op (.enqueueDma src (.remote (Dev.tc p : Thread nD τ) dst (.dma sS) hsc) (.dma sR) h₁ h₂ h₃) P) Q) := by
  subst hp hsrc hdst hS hR
  rw [pack_eq]
  unfold recvAny
  iintro ⟨#HK, HO, Hs, ⟨%f, Hd⟩, Ht₁, Ht₂⟩ Hk
  ihave Hd := (Entails.of_eq (recv_eq (peer k c) c f)) $$ Hd
  iapply (send_gen I K c (peer k c) 0 1 k k (blk16 packM (seg (peer k c))) (blk16 recvM c) fullShare (packC I c) f N16
    (credit16 c _) rfl rfl (Entails.of_eq (pack_eq I c (seg (peer k c))).symm) (landed16 I c k f) O P Q) $$ [HO Hs Hd Ht₁ Ht₂]
  · isplitr; · iexact HK
    isplitl [HO]; · iexact HO
    isplitl [Hs]; · iexact Hs
    isplitl [Hd]; · iexact Hd
    isplitl [Ht₁]; · iexact Ht₁
    iexact Ht₂
  iexact Hk

/-- The `j`-th copy of an output block. -/
theorem send32 (c p : Dev nD) (j : Fin 31) (hp : p = xo (tgtMask j) c) {src dst : Memref sig .tc .vmem S32x1024 .bf16}
    (hsrc : src = blk32 (seg (xo (srcMask j) c))) (hdst : dst = src) {sS sR : DmaSem sig} (hS : sS = dsem 2 j) (hR : sR = dsem 3 (agCell j))
    {hsc : (dst : Memref sig (Dev.tc p : Thread nD τ).2.kind .vmem S32x1024 .bf16).view.ref.isScScratch = false}
    {h₁ : src.view.WordExact} {h₂ : dst.view.WordExact}
    {h₃ : DmaTarget.Typed .vmem (.dma sR) (.remote (Dev.tc p : Thread nD τ) (dst : Memref sig .tc .vmem S32x1024 .bf16) (.dma sS) hsc)}
    (O : CellTallies nD τ sig Unit) (P : PUnit → Act F PUnit) (Q : PUnit → sProp 𝕄) :
    iprop(known I K ∗ owing c (oAg c j + O) ∗ outPts I c (seg (xo (srcMask j) c)).val (shr j)
        ∗ outAny (xo (tgtMask j) c) (seg (xo (srcMask j) c)).val
        ∗ dutyTok ER (cell c (some (2, j))) 0 0 ∗ dutyTok ER (cell (xo (tgtMask j) c) (some (3, agCell j))) 0 0)
      ⊢ iprop((iprop(owing c O ∗ cred (tallyAt (cell c (some (2, j))) () N32)) -∗ runs c (P ⟨⟩) Q)
          -∗ runs c (.op (.enqueueDma src (.remote (Dev.tc p : Thread nD τ) dst (.dma sS) hsc) (.dma sR) h₁ h₂ h₃) P) Q) := by
  subst hp hdst
  subst hsrc hS hR
  unfold outAny oAg outPts
  rw [out_eq]
  iintro ⟨#HK, HO, Hs, ⟨%f, Hd⟩, Ht₁, Ht₂⟩ Hk
  ihave Hd := (Entails.of_eq (out_eq (xo (tgtMask j) c) (seg (xo (srcMask j) c)) fullShare f)) $$ Hd
  iapply (send_gen I K c (xo (tgtMask j) c) 2 3 j (agCell j) (blk32 (seg (xo (srcMask j) c))) (blk32 (seg (xo (srcMask j) c))) (shr j)
    (outC I) f N32 (credit32 _ _) rfl rfl (Entails.of_eq (out_eq c (seg (xo (srcMask j) c)) (shr j) (outC I)).symm) (landed32 I c j f) O P Q)
    $$ [HO Hs Hd Ht₁ Ht₂]
  · isplitr; · iexact HK
    isplitl [HO]; · iexact HO
    isplitl [Hs]; · iexact Hs
    isplitl [Hd]; · iexact Hd
    isplitl [Ht₁]; · iexact Ht₁
    iexact Ht₂
  iexact Hk

end Cert.KernelIdeal.Run

end
-- ==== Proof.Phases.lean ====
/-
  The loops of the body.

  Each loop as a whole: the holdings its turns take, and those they leave.
-/
module

public import proofs.«01_k».proof.Proof.Copies

@[expose] public section

set_option maxRecDepth 4096

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (dealOf pointsTo_deal)

variable {F : FTy → Type} [FloatOps F]

local notation "𝕄" => MT nD τ sig Unit (Elt F) ℕ UU ℕ

variable (I : Ins F) (K : Dev nD × CellIx → ℕ)

/-! ## The parts the program names -/

theorem blk16_of (M : Memref sig .tc .vmem S512x1024 .bf16) {o : Fin 2 → ℕ} {n : Fin 32} (h : o = ![16 * n.val, 0])
    (hi : ∀ a, o a + S16x1024.size a ≤ S512x1024.size a) :
    M.slice (Rect.unit (s := S512x1024) o S16x1024.size hi) (fun _ => rfl) = blk16 M n := by
  subst h; rfl
theorem blk32_of {o : Fin 2 → ℕ} {n : Fin 32} (h : o = ![32 * n.val, 0]) (hi : ∀ a, o a + S32x1024.size a ≤ S1024x1024.size a) :
    outM.slice (Rect.unit (s := S1024x1024) o S32x1024.size hi) (fun _ => rfl) = blk32 n := by
  subst h; rfl
theorem outOwn_eq (c : Dev nD) : outOwn outM c = blk32 (seg c) := blk32_of (off130_eq c) _
theorem outAt_eq (c : Dev nD) (i : Fin 31) : outAt outM c (agMask i) = blk32 (seg (xo (blkMask i) c)) := blk32_of (off131_eq c i) _
theorem recvAt_eq (c : Dev nD) : recvAt recvM c = blk16 recvM c := blk16_of recvM (off128_eq c) _

/-! ## What a turn takes and leaves -/

/-- The rights to make the `k`-th copy of products: the rows on the target, and the places at the two cells it signals. -/
def rsRight (c : Dev nD) (k : Fin 31) : sProp 𝕄 :=
  iprop(recvAny (peer k c) c.val ∗ dutyTok ER (cell c (some (0, k))) 0 0 ∗ dutyTok ER (cell (peer k c) (some (1, k))) 0 0)
/-- The credit that the `k`-th copy's source comes back. -/
abbrev rsBack (c : Dev nD) (k : Fin 31) : sProp 𝕄 := cred (tallyAt (cell c (some (0, k))) () N16)
/-- What batch `b` takes at its `k`-th turn. -/
def rsIn (b : Fin 2) (c : Dev nD) (k : Fin 31) : sProp 𝕄 :=
  if rsCond b k c = 1#1 then iprop(packPts I c (seg (peer k c)).val ∗ rsRight c k) else iprop(emp)
/-- What it leaves. -/
def rsOut (b : Fin 2) (c : Dev nD) (k : Fin 31) : sProp 𝕄 := if rsCond b k c = 1#1 then rsBack c k else iprop(emp)

/-- The rights to make the `j`-th copy of an output block. -/
def agRight (c : Dev nD) (j : Fin 31) : sProp 𝕄 :=
  iprop(outAny (xo (tgtMask j) c) (seg (xo (srcMask j) c)).val ∗ dutyTok ER (cell c (some (2, j))) 0 0
    ∗ dutyTok ER (cell (xo (tgtMask j) c) (some (3, agCell j))) 0 0)
/-- The share of its source. -/
def agSrc (c : Dev nD) (j : Fin 31) : sProp 𝕄 := outPts I c (seg (xo (srcMask j) c)).val (shr j)
/-- The credit that the share comes back. -/
abbrev agBack (c : Dev nD) (j : Fin 31) : sProp 𝕄 := cred (tallyAt (cell c (some (2, j))) () N32)
/-- The place at a cell, no round of it yet over. -/
abbrev pos0 (c : Dev nD) (o : CellIx) : sProp 𝕄 := atPos ER (cell c o) 0 ∅ 0
/-- A block that is not passed on stays whole. -/
def leaf (c : Dev nD) (i : Fin 31) : sProp 𝕄 :=
  if agOut i = [] then outPts I c (seg (xo (blkMask i) c)).val fullShare else iprop(emp)

theorem step_rsSend (b : Fin 2) (c : Dev nD) (O : CellTallies nD τ sig Unit) (k : Fin 31) (l : List (Fin 31)) (P : Act F PUnit)
    (Q : PUnit → sProp 𝕄) :
    iprop(known I K ∗ owing c (owe (oRs b c) (k :: l) + O) ∗ rsIn I b c k)
      ⊢ iprop((iprop(owing c (owe (oRs b c) l + O) ∗ rsOut b c k) -∗ runs c P Q)
          -∗ runs c (rsSend packM packW recvM recvW cc0_scratch2 cc0_scratch3 b c k P) Q) := by
  rw [owe_cons, oRs, rsIn, rsOut, rsSend]
  by_cases h : rsCond b k c = 1#1
  · rw [if_pos h, if_pos h, if_pos h, dif_pos h, add_assoc]
    have hp := rsDev_eq b k c h
    have key := send16 I K c _ k hp (blk16_of packM ((rsSrc_eq b k c h).trans (by rw [hp])) (rsSrc_inb b k c h))
      (blk16_of recvM (rsDst_eq b k c h) (rsDst_inb b k c h)) (cellAt_rsS k) (cellAt_rsR k)
      (hsc := rfl) (h₁ := packW.wordExact_slice rfl _ (rsSrc_words b k c h)) (h₂ := recvW.wordExact_slice rfl _ (rsDst_words b k c h))
      (h₃ := ⟨⟨rfl, Or.inl rfl⟩, trivial⟩) (owe (oRs b c) l + O) (fun _ => P) Q
    have e : iprop(known I K ∗ owing c (tallyAt (cell (peer k c) (some (1, k))) () N16 + (owe (oRs b c) l + O))
        ∗ packPts I c (seg (peer k c)).val ∗ rsRight (F := F) c k)
      = iprop(known I K ∗ owing c (tallyAt (cell (⟨rsDev b k c, rsDev_lt b k c h⟩ : Dev nD) (some (1, k))) () N16 + (owe (oRs b c) l + O))
        ∗ packPts I c (seg (⟨rsDev b k c, rsDev_lt b k c h⟩ : Dev nD)).val ∗ recvAny (⟨rsDev b k c, rsDev_lt b k c h⟩ : Dev nD) c.val
        ∗ dutyTok ER (cell c (some (0, k))) 0 0 ∗ dutyTok ER (cell (⟨rsDev b k c, rsDev_lt b k c h⟩ : Dev nD) (some (1, k))) 0 0) := by
      rw [hp]; rfl
    exact (Entails.of_eq e).trans key
  · rw [if_neg h, if_neg h, if_neg h, dif_neg h, zero_add]
    iintro ⟨-, HO, -⟩ Hk
    iapply Hk
    isplitl [HO]
    · iexact HO
    iempintro

/-- What is still owed for output blocks lies above the level `n`, if all arrivals do. -/
theorem oAg_above (c : Dev nD) (o : CellIx) (l : List (Fin 31)) (h : ∀ j ∈ l, level (some o) < 3 + (agCell j).val) :
    ∀ g u, 0 < owe (oAg c) l g u → ∃ d o', g = cell d o' ∧ level (some o) < level (some o') := by
  intro g u hg
  obtain ⟨j, hj, hp⟩ := owe_pos hg
  exact ⟨_, _, tally_pos hp, h j hj⟩

theorem step_rsWait (c : Dev nD) (k : Fin 31) (P : Act F PUnit) (Q : PUnit → sProp 𝕄) :
    iprop(known I K ∗ owing c (owe (oAg c) all31) ∗ rsBack c k ∗ pos0 c (some (0, k)) ∗ cred (tallyAt (cell c (some (1, k))) () N16)
        ∗ pos0 c (some (1, k)))
      ⊢ iprop((iprop(owing c (owe (oAg c) all31) ∗ (packPts I c (seg (peer k c)).val ∗ semVal (cell c (some (0, k))) 0)
            ∗ recvPts I c (prev k c).val ∗ semVal (cell c (some (1, k))) 0) -∗ runs c P Q)
          -∗ runs c (do rsWait packM packW recvM recvW cc0_scratch2 cc0_scratch3 c k; P) Q) := by
  have w0 := step_wait I K c 0 k (owe (oAg c) all31)
    (mayWait I K c (some (0, k)) _ (oAg_above c _ _ fun j _ => by show 0 < _; omega))
    (cellAt_rsS k) (src := recvAt recvM c) (dst := packAt packM c k) (h₁ := recvW.wordExact_slice rfl _ (k0_off128_wordsbf16 c))
    (h₂ := packW.wordExact_slice rfl _ (k0_off127_wordsbf16 c k)) (N := N16) rfl rfl
    (R := packPts I c (seg (peer k c)).val) rfl
    (fun _ => .op (.waitDma2 (cellAt cc0_scratch3 k) (packAt packM c k) (recvAt recvM c)
      (packW.wordExact_slice rfl _ (k0_off127_wordsbf16 c k)) (recvW.wordExact_slice rfl _ (k0_off128_wordsbf16 c))) fun _ => P) Q
  have w1 := step_wait I K c 1 k (owe (oAg c) all31)
    (mayWait I K c (some (1, k)) _ (oAg_above c _ _ fun j _ => by show 2 < _; omega))
    (cellAt_rsR k) (src := packAt packM c k) (dst := recvAt recvM c) (h₂ := recvW.wordExact_slice rfl _ (k0_off128_wordsbf16 c))
    (h₁ := packW.wordExact_slice rfl _ (k0_off127_wordsbf16 c k))
    (N := N16) rfl rfl (R := recvPts I c (prev k c).val) rfl (fun _ => P) Q
  show iprop(known I K ∗ owing c (owe (oAg c) all31) ∗ rsBack c k ∗ pos0 c (some (0, k)) ∗ cred (tallyAt (cell c (some (1, k))) () N16)
        ∗ pos0 c (some (1, k)))
      ⊢ iprop((iprop(owing c (owe (oAg c) all31) ∗ (packPts I c (seg (peer k c)).val ∗ semVal (cell c (some (0, k))) 0)
            ∗ recvPts I c (prev k c).val ∗ semVal (cell c (some (1, k))) 0) -∗ runs c P Q)
          -∗ runs c (.op (.waitDma2 (cellAt cc0_scratch2 k) (recvAt recvM c) (packAt packM c k)
            (recvW.wordExact_slice rfl _ (k0_off128_wordsbf16 c)) (packW.wordExact_slice rfl _ (k0_off127_wordsbf16 c k))) fun _ =>
              .op (.waitDma2 (cellAt cc0_scratch3 k) (packAt packM c k) (recvAt recvM c)
                (packW.wordExact_slice rfl _ (k0_off127_wordsbf16 c k)) (recvW.wordExact_slice rfl _ (k0_off128_wordsbf16 c))) fun _ => P) Q)
  iintro ⟨#HK, HO, Hc0, Hp0, Hc1, Hp1⟩ Hk
  iapply w0 $$ [HO Hc0 Hp0]
  · isplitr; · iexact HK
    isplitl [HO]; · iexact HO
    isplitl [Hc0]; · iexact Hc0
    iexact Hp0
  iintro ⟨HO, Hz0, Hq0⟩
  iapply w1 $$ [HO Hc1 Hp1]
  · isplitr; · iexact HK
    isplitl [HO]; · iexact HO
    isplitl [Hc1]; · iexact Hc1
    iexact Hp1
  iintro ⟨HO, Hz1, Hq1⟩
  iapply Hk
  isplitl [HO]; · iexact HO
  isplitl [Hq0 Hz0]
  · isplitl [Hq0] <;> iassumption
  isplitl [Hq1] <;> iassumption

theorem step_agSendOwn (c : Dev nD) (O : CellTallies nD τ sig Unit) (j : Fin 31) (hj : srcMask j = 0) (l : List (Fin 31)) (P : Act F PUnit)
    (Q : PUnit → sProp 𝕄) :
    iprop(known I K ∗ owing c (owe (oAg c) (j :: l) + O) ∗ agSrc I c j ∗ agRight c j)
      ⊢ iprop((iprop(owing c (owe (oAg c) l + O) ∗ agBack c j) -∗ runs c P Q)
          -∗ runs c (do agSendOwn outM outW cc0_scratch4 cc0_scratch5 c j; P) Q) := by
  rw [owe_cons, add_assoc]
  exact send32 I K c _ j (agDev_eq j c) ((outOwn_eq c).trans (by rw [hj, xo_zero])) rfl (cellAt_agS j) (cellAt_agR (agCell j))
    (hsc := rfl) (h₁ := outW.wordExact_slice rfl _ (k0_off130_wordsbf16 c)) (h₂ := outW.wordExact_slice rfl _ (k0_off130_wordsbf16 c))
    (h₃ := ⟨⟨rfl, Or.inl rfl⟩, trivial⟩) (owe (oAg c) l + O) (fun _ => P) Q

theorem step_agSend (c : Dev nD) (O : CellTallies nD τ sig Unit) (j : Fin 31) (hj : srcMask j = blkMask (agFrom j)) (l : List (Fin 31)) (P : Act F PUnit)
    (Q : PUnit → sProp 𝕄) :
    iprop(known I K ∗ owing c (owe (oAg c) (j :: l) + O) ∗ agSrc I c j ∗ agRight c j)
      ⊢ iprop((iprop(owing c (owe (oAg c) l + O) ∗ agBack c j) -∗ runs c P Q)
          -∗ runs c (do agSend outM outW cc0_scratch4 cc0_scratch5 c j; P) Q) := by
  rw [owe_cons, add_assoc]
  exact send32 I K c _ j (agDev_eq j c) ((outAt_eq c (agFrom j)).trans (by rw [hj])) rfl (cellAt_agS j) (cellAt_agR (agCell j))
    (hsc := rfl) (h₁ := outW.wordExact_slice rfl _ (k0_off131_wordsbf16 c (agMask (agFrom j)))) (h₂ := outW.wordExact_slice rfl _ (k0_off131_wordsbf16 c (agMask (agFrom j))))
    (h₃ := ⟨⟨rfl, Or.inl rfl⟩, trivial⟩) (owe (oAg c) l + O) (fun _ => P) Q

/-- A block held whole is a share for each copy that reads it. -/
theorem out_shares (c : Dev nD) (n : ℕ) (l : List (Fin 31)) (h : l.Nodup) (hl : l ≠ []) :
    outPts I c n fullShare = star l fun j => outPts I c n (dealOf fullShare l.toFinset j) := by
  rw [star_eq _ h]
  have hne : l.toFinset.Nonempty := by
    rw [List.toFinset_nonempty_iff]; exact hl
  unfold outPts
  exact pointsTo_deal l.toFinset hne fullShare

theorem sibs_out : ∀ i, ∀ j ∈ agOut i, sibs j = agOut i := by decide +kernel
theorem sibs_own : ∀ j ∈ ([0, 1, 2, 3, 4] : List (Fin 31)), sibs j = [0, 1, 2, 3, 4] := by decide +kernel

/-- The block that arrives is the sources of the copies that pass it on, or stays. -/
theorem arrived_eq (c : Dev nD) (i : Fin 31) :
    outPts I c (seg (xo (blkMask i) c)).val fullShare = iprop(star (agOut i) (agSrc I c) ∗ leaf I c i) := by
  unfold leaf
  by_cases h : agOut i = []
  · rw [if_pos h, h]; exact (emp_sep_eq _).symm
  · rw [if_neg h, out_shares I c _ (agOut i) (agOut_nodup i) h]
    refine Eq.trans (star_congr fun j hj => ?_) (sep_emp_eq _).symm
    unfold agSrc shr
    rw [sibs_out i j hj, (srcMask_out i j hj).1]

theorem own_eq (c : Dev nD) : outPts I c (seg c).val fullShare = star [0, 1, 2, 3, 4] (agSrc I c) := by
  rw [out_shares I c _ [0, 1, 2, 3, 4] (by decide) (by decide)]
  refine star_congr fun j hj => ?_
  unfold agSrc shr
  rw [sibs_own j hj, srcMask_own j hj, xo_zero]

theorem step_agStep (c : Dev nD) (i : Fin 31) (l : List (Fin 31)) (hl : (i :: l) <:+ all31) (P : Act F PUnit) (Q : PUnit → sProp 𝕄) :
    iprop(known I K ∗ owing c (owe (oAg c) ((i :: l).flatMap agOut)) ∗ (cred (tallyAt (cell c (some (3, i))) () N32) ∗ pos0 c (some (3, i)))
        ∗ star (agOut i) (agRight c))
      ⊢ iprop((iprop(owing c (owe (oAg c) (l.flatMap agOut)) ∗ (semVal (cell c (some (3, i))) 0 ∗ leaf I c i) ∗ star (agOut i) (agBack c)) -∗ runs c P Q)
          -∗ runs c (do agStep outM outW cc0_scratch4 cc0_scratch5 c i; P) Q) := by
  have hs : ∀ i' ∈ i :: l, i ≤ i' := by
    have hp := all31_sorted.sublist hl.sublist
    intro i' hi'
    rcases List.mem_cons.mp hi' with rfl | h
    · exact le_refl _
    · exact ((List.pairwise_cons.mp hp).1 i' h).le
  have w := step_wait I K c 3 i (owe (oAg c) ((i :: l).flatMap agOut))
    (mayWait I K c (some (3, i)) _ (oAg_above c _ _ fun j hj => by
      obtain ⟨i', hi', hj⟩ := List.mem_flatMap.mp hj
      have h1 : i.val ≤ i'.val := hs i' hi'
      have h2 : i'.val < (agCell j).val := lt_agCell i' j hj
      show 3 + i.val < _; omega))
    (cellAt_agR i) (src := outAt outM c (agMask i)) (dst := outAt outM c (agMask i))
    (h₁ := outW.wordExact_slice rfl _ (k0_off131_wordsbf16 c (agMask i)))
    (h₂ := outW.wordExact_slice rfl _ (k0_off131_wordsbf16 c (agMask i))) (N := N32) rfl rfl
    (R := outPts I c (seg (xo (blkMask i) c)).val fullShare) rfl
    (fun _ => each (fun k K => do agSend outM outW cc0_scratch4 cc0_scratch5 c k; K) (agOut i) P) Q
  have loop := runs_each c (known I K) (fun k K => do agSend outM outW cc0_scratch4 cc0_scratch5 c k; K)
    (fun l' => owing c (owe (oAg c) l' + owe (oAg c) (l.flatMap agOut))) (fun j => iprop(agSrc I c j ∗ agRight c j)) (agBack c) (agOut i)
    (fun j l' hs P Q => step_agSend I K c _ j (by have := srcMask_out i j (hs.subset List.mem_cons_self); rw [this.1, this.2]) l' P Q) (agOut i) (List.suffix_refl _) P Q
  rw [star_sep, owe_nil, zero_add, ← owe_append, ← List.flatMap_cons] at loop
  have e : (do agStep outM outW cc0_scratch4 cc0_scratch5 c i; P : Act F PUnit)
      = .op (.waitDma2 (cellAt cc0_scratch5 i) (outAt outM c (agMask i)) (outAt outM c (agMask i))
        (outW.wordExact_slice rfl _ (k0_off131_wordsbf16 c (agMask i)))
        (outW.wordExact_slice rfl _ (k0_off131_wordsbf16 c (agMask i))))
        (fun _ => each (fun k K => do agSend outM outW cc0_scratch4 cc0_scratch5 c k; K) (agOut i) P) := by
    rw [show each (fun k K => do agSend outM outW cc0_scratch4 cc0_scratch5 c k; K) (agOut i) P
      = (each (fun k K => do agSend outM outW cc0_scratch4 cc0_scratch5 c k; K) (agOut i) (pure ⟨⟩ : Act F PUnit) >>= fun _ => P) from
        (each_bind (fun k K => do agSend outM outW cc0_scratch4 cc0_scratch5 c k; K)
          (fun k K => do agSend outM outW cc0_scratch4 cc0_scratch5 c k; K) (fun _ : PUnit => P) (fun _ _ => rfl) (agOut i)
          (pure ⟨⟩ : Act F PUnit)).symm]
    rfl
  rw [e]
  iintro ⟨#HK, HO, ⟨Hc, Hp⟩, Hr⟩ Hk
  iapply w $$ [HO Hc Hp]
  · isplitr; · iexact HK
    isplitl [HO]; · iexact HO
    isplitl [Hc]; · iexact Hc
    iexact Hp
  iintro ⟨HO, Hz, Hq⟩
  ihave Hq := (Entails.of_eq (arrived_eq I c i)) $$ Hq
  icases Hq with ⟨Hs, Hl⟩
  iapply loop $$ [HO Hs Hr]
  · isplitr; · iexact HK
    isplitl [HO]; · iexact HO
    isplitl [Hs] <;> iassumption
  iintro ⟨HO, Hb⟩
  iapply Hk
  isplitl [HO]; · iexact HO
  isplitl [Hz Hl]
  · isplitl [Hz] <;> iassumption
  iexact Hb

theorem step_agDone (c : Dev nD) (j : Fin 31) {M : Memref sig .tc .vmem S32x1024 .bf16} {h₁ h₂ : M.view.WordExact}
    (hM : M.view.dmaCredit = N32) (P : Act F PUnit) (Q : PUnit → sProp 𝕄) :
    iprop(known I K ∗ owing c 0 ∗ agBack c j ∗ pos0 c (some (2, j)))
      ⊢ iprop((iprop(owing c 0 ∗ agSrc I c j ∗ semVal (cell c (some (2, j))) 0) -∗ runs c P Q)
          -∗ runs c (.op (.waitDma2 (cellAt cc0_scratch4 j) M M h₁ h₂) fun _ => P) Q) := by
  have w := step_wait I K c 2 j 0 (mayWait I K c (some (2, j)) 0 fun g u h => absurd h (Nat.lt_irrefl 0)) (cellAt_agS j)
    (src := M) (dst := M) (h₁ := h₁) (h₂ := h₂) hM rfl (R := agSrc I c j) rfl (fun _ => P) Q
  iintro ⟨#HK, HO, Hc, Hp⟩ Hk
  iapply w $$ [HO Hc Hp]
  · isplitr; · iexact HK
    isplitl [HO]; · iexact HO
    isplitl [Hc]; · iexact Hc
    iexact Hp
  iintro ⟨HO, Hz, Hq⟩
  iapply Hk
  isplitl [HO]; · iexact HO
  isplitl [Hq] <;> iassumption

end Cert.KernelIdeal.Run

end
-- ==== Proof.Deal.lean ====
/-
  How buffers are divided among the devices.

  The rows a device gives away and those it is given, and each buffer as the blocks the copies move.
-/
module

public import proofs.«01_k».proof.Proof.Phases

@[expose] public section

set_option maxRecDepth 4096

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F)

/-! ## The other devices -/

theorem star_others (c : Dev nD) (e : Fin 31 → Dev nD) (hi : ∀ k k', e k = e k' → k = k') (hn : ∀ k, e k ≠ c)
    (hs : ∀ d, d ≠ c → ∃ k, e k = d) (Φ : Dev nD → sProp 𝕄) :
    star all31 (fun k => Φ (e k)) = bigSep (Finset.univ.erase c) Φ := by
  have he : Finset.univ.erase c = Finset.univ.map (⟨e, fun k k' h => hi k k' h⟩ : Fin 31 ↪ Dev nD) := by
    ext d
    rw [Finset.mem_erase, Finset.mem_map]
    exact ⟨fun h => (hs d h.1).imp fun k hk => ⟨Finset.mem_univ _, hk⟩, fun ⟨k, _, hk⟩ => ⟨hk ▸ hn k, Finset.mem_univ _⟩⟩
  rw [he, bigSep_map, star_all31]; rfl

theorem exists_prev (c d : Dev nD) (h : d ≠ c) : ∃ k, prev k c = d := by
  obtain ⟨k, hk⟩ := exists_peer d c h.symm
  exact ⟨k, by rw [← hk, prev_peer]⟩

theorem star_peer (c : Dev nD) (Φ : Dev nD → sProp 𝕄) : star all31 (fun k => Φ (peer k c)) = bigSep (Finset.univ.erase c) Φ :=
  star_others c (fun k => peer k c) (fun k k' => peer_inj k k' c) (fun k => peer_ne k c) (exists_peer c) Φ
theorem star_prev (c : Dev nD) (Φ : Dev nD → sProp 𝕄) : star all31 (fun k => Φ (prev k c)) = bigSep (Finset.univ.erase c) Φ :=
  star_others c (fun k => prev k c) (fun k k' => prev_inj k k' c) (fun k => prev_ne k c) (exists_prev c) Φ
theorem star_blk (c : Dev nD) (Φ : Dev nD → sProp 𝕄) :
    star all31 (fun i => Φ (xo (blkMask i) c)) = bigSep (Finset.univ.erase c) Φ :=
  star_others c (fun i => xo (blkMask i) c) (fun k k' => blk_inj k k' c) (fun k => xo_blk_ne k c) (exists_blk c) Φ

theorem all_peer (c : Dev nD) (Φ : Dev nD → sProp 𝕄) : bigSep Finset.univ Φ = iprop(Φ c ∗ star all31 fun k => Φ (peer k c)) := by
  rw [star_peer, bigSep_univ_at Φ c]
theorem all_prev (c : Dev nD) (Φ : Dev nD → sProp 𝕄) : bigSep Finset.univ Φ = iprop(Φ c ∗ star all31 fun k => Φ (prev k c)) := by
  rw [star_prev, bigSep_univ_at Φ c]
theorem all_blk (c : Dev nD) (Φ : Dev nD → sProp 𝕄) :
    bigSep Finset.univ Φ = iprop(Φ c ∗ star all31 fun i => Φ (xo (blkMask i) c)) := by
  rw [star_blk, bigSep_univ_at Φ c]

/-- Two nested families may be gathered in either order. -/
theorem bigSep_swap {ι κ : Type} [DecidableEq ι] (s : Finset ι) (t : Finset κ) (Φ : ι → κ → sProp 𝕄) :
    bigSep s (fun a => bigSep t (Φ a)) = bigSep t fun b => bigSep s fun a => Φ a b := by
  induction s using Finset.induction_on with
  | empty => rw [bigSep_empty]; exact (bigSep_emp_const t).symm
  | insert a s ha ih =>
    rw [bigSep_insert ha, ih, ← bigSep_sep]
    exact bigSep_congr fun b _ => (bigSep_insert (Φ := fun a => Φ a b) ha).symm

/-- Of a family with one member that counts, that member. -/
theorem bigSep_one {ι : Type} [DecidableEq ι] (s : Finset ι) (a : ι) (ha : a ∈ s) (Φ : ι → sProp 𝕄) :
    bigSep s (fun p => if a = p then Φ p else iprop(emp)) = Φ a := by
  rw [bigSep_erase ha, if_pos rfl,
    bigSep_congr (Ψ := fun _ => iprop(emp)) (s := s.erase a) fun p hp => if_neg (Finset.ne_of_mem_erase hp).symm]
  refine (congrArg (fun P : sProp 𝕄 => iprop(Φ a ∗ P)) (bigSep_emp_const (s.erase a))).trans (sep_emp_eq _)

/-- What a device gives away before the barrier. -/
theorem give_eq (c : Dev nD) :
    star all31 (fun k => barPay (F := F) (peer k c) c)
      = iprop(star all31 (fun k => recvAny c (peer k c).val) ∗ star all31 fun i => outAny c (seg (xo (blkMask i) c)).val) := by
  unfold barPay
  rw [star_sep, star_peer c (fun p => bigSep Finset.univ fun j : Fin 31 =>
    if xo (tgtMask j) p = c then outAny c (seg (xo (srcMask j) p)).val else iprop(emp)), bigSep_swap]
  refine congrArg (fun P : sProp 𝕄 => iprop(star all31 (fun k => recvAny c (peer k c).val) ∗ P)) ?_
  rw [star_all31]
  refine Eq.trans ?_ (bigSep_univ_equiv agEquiv _).symm
  refine bigSep_congr fun j _ => ?_
  have h := bigSep_one (F := F) (Finset.univ.erase c) (xo (tgtMask j) c) (Finset.mem_erase.mpr ⟨xo_tgt_ne j c, Finset.mem_univ _⟩)
    (fun p => outAny c (seg (xo (srcMask j) p)).val)
  refine Eq.trans (bigSep_congr fun p _ => ?_) (h.trans (by rw [xo_blk]; rfl))
  by_cases hp : xo (tgtMask j) p = c
  · rw [if_pos hp, if_pos (by rw [← hp, xo_xo])]
  · rw [if_neg hp, if_neg (fun h' => hp (by rw [← h', xo_xo]))]

/-- What it is given. -/
theorem get_eq (c : Dev nD) :
    (bigSep Finset.univ fun k : Fin 31 => barPay (F := F) c (prev k c))
      = iprop(star all31 (fun k => recvAny (peer k c) c.val)
          ∗ star all31 fun j => outAny (xo (tgtMask j) c) (seg (xo (srcMask j) c)).val) := by
  rw [← star_all31]
  unfold barPay
  rw [star_sep, star_prev c (fun p => bigSep Finset.univ fun j : Fin 31 =>
    if xo (tgtMask j) c = p then outAny p (seg (xo (srcMask j) c)).val else iprop(emp)), bigSep_swap,
    star_prev c (fun p => recvAny p c.val), ← star_peer c (fun p => recvAny p c.val)]
  refine congrArg (fun P : sProp 𝕄 => iprop(star all31 (fun k => recvAny (peer k c) c.val) ∗ P)) ?_
  rw [star_all31]
  exact bigSep_congr fun j _ => bigSep_one (F := F) (Finset.univ.erase c) (xo (tgtMask j) c)
    (Finset.mem_erase.mpr ⟨xo_tgt_ne j c, Finset.mem_univ _⟩) (fun p => outAny p (seg (xo (srcMask j) c)).val)

/-! ## Buffers as blocks -/

theorem rows16_disjoint (n n' : Fin 32) (h : n ≠ n') : Disjoint (rows16 n.val) (rows16 n'.val) := by
  rw [Finset.disjoint_left]
  intro i hi hi'
  rw [rows16, Finset.mem_filter] at hi hi'
  exact h (Fin.ext (hi.2.symm.trans hi'.2))
theorem rows32_disjoint (n n' : Fin 32) (h : n ≠ n') : Disjoint (rows32 n.val) (rows32 n'.val) := by
  rw [Finset.disjoint_left]
  intro i hi hi'
  rw [rows32, Finset.mem_filter] at hi hi'
  exact h (Fin.ext (hi.2.symm.trans hi'.2))
theorem rows16_cover {inst : DecidableEq S512x1024.Idx} :
    (@Finset.biUnion _ _ inst Finset.univ fun n : Fin 32 => rows16 n.val) = Finset.univ := by
  ext i
  have h : (i 0).val < 512 := (i 0).isLt
  simp only [Finset.mem_biUnion, Finset.mem_univ, true_and, iff_true]
  exact ⟨⟨(i 0).val / 16, by omega⟩, Finset.mem_filter.mpr ⟨Finset.mem_univ _, rfl⟩⟩
theorem rows32_cover {inst : DecidableEq S1024x1024.Idx} :
    (@Finset.biUnion _ _ inst Finset.univ fun n : Fin 32 => rows32 n.val) = Finset.univ := by
  ext i
  have h : (i 0).val < 1024 := (i 0).isLt
  simp only [Finset.mem_biUnion, Finset.mem_univ, true_and, iff_true]
  exact ⟨⟨(i 0).val / 32, by omega⟩, Finset.mem_filter.mpr ⟨Finset.mem_univ _, rfl⟩⟩

/-- The first half of the rows of a buffer of products. -/
def rowsLo : Finset S512x1024.Idx := Finset.univ.filter fun i => (i 0).val < 256
/-- The second half. -/
def rowsHi : Finset S512x1024.Idx := Finset.univ.filter fun i => ¬ (i 0).val < 256

theorem lo_cover {inst : DecidableEq S512x1024.Idx} :
    (@Finset.biUnion _ _ inst (Finset.univ.filter fun n : Fin 32 => n.val < 16) fun n : Fin 32 => rows16 n.val) = rowsLo := by
  ext i
  have h : (i 0).val < 512 := (i 0).isLt
  simp only [Finset.mem_biUnion, Finset.mem_filter, Finset.mem_univ, true_and, rowsLo, rows16]
  exact ⟨fun ⟨n, hn, hi⟩ => by omega, fun hi => ⟨⟨(i 0).val / 16, by omega⟩, by show _ / 16 < 16; omega, rfl⟩⟩
theorem hi_cover {inst : DecidableEq S512x1024.Idx} :
    (@Finset.biUnion _ _ inst (Finset.univ.filter fun n : Fin 32 => ¬ n.val < 16) fun n : Fin 32 => rows16 n.val) = rowsHi := by
  ext i
  have h : (i 0).val < 512 := (i 0).isLt
  simp only [Finset.mem_biUnion, Finset.mem_filter, Finset.mem_univ, true_and, rowsHi, rows16]
  exact ⟨fun ⟨n, hn, hi⟩ => by omega, fun hi => ⟨⟨(i 0).val / 16, by omega⟩, by show ¬ _ / 16 < 16; omega, rfl⟩⟩

theorem pack_blocks (c : Dev nD) :
    ((c : Thread nD τ).loc cc0_scratch0 ↦{fullShare} packC I c : sProp 𝕄) = bigSep Finset.univ fun n : Fin 32 => packPts I c n.val := by
  have h := pointsTo_biUnion (ℓ := (c : Thread nD τ).loc cc0_scratch0) (q := fullShare) (f := packC I c) (Ix := Unit) (Name := ℕ) (U := UU) (Lvl := ℕ)
    Finset.univ (fun n : Fin 32 => rows16 n.val) (fun n _ n' _ h => rows16_disjoint n n' h)
  exact (congrArg (fun S => ((c : Thread nD τ).loc cc0_scratch0 ↦[S]{fullShare} packC I c : sProp 𝕄)) rows16_cover.symm).trans h
theorem pack_lo (c : Dev nD) : ((c : Thread nD τ).loc cc0_scratch0 ↦[rowsLo]{fullShare} packC I c : sProp 𝕄)
    = bigSep Finset.univ fun n : Fin 32 => if n.val < 16 then packPts I c n.val else iprop(emp) := by
  have h := pointsTo_biUnion (ℓ := (c : Thread nD τ).loc cc0_scratch0) (q := fullShare) (f := packC I c) (Ix := Unit) (Name := ℕ) (U := UU) (Lvl := ℕ)
    (Finset.univ.filter fun n : Fin 32 => n.val < 16) (fun n : Fin 32 => rows16 n.val) (fun n _ n' _ h => rows16_disjoint n n' h)
  exact ((congrArg (fun S => ((c : Thread nD τ).loc cc0_scratch0 ↦[S]{fullShare} packC I c : sProp 𝕄)) lo_cover.symm).trans h).trans
    (bigSep_filter _ _ _)
theorem pack_hi (c : Dev nD) : ((c : Thread nD τ).loc cc0_scratch0 ↦[rowsHi]{fullShare} packC I c : sProp 𝕄)
    = bigSep Finset.univ fun n : Fin 32 => if ¬ n.val < 16 then packPts I c n.val else iprop(emp) := by
  have h := pointsTo_biUnion (ℓ := (c : Thread nD τ).loc cc0_scratch0) (q := fullShare) (f := packC I c) (Ix := Unit) (Name := ℕ) (U := UU) (Lvl := ℕ)
    (Finset.univ.filter fun n : Fin 32 => ¬ n.val < 16) (fun n : Fin 32 => rows16 n.val) (fun n _ n' _ h => rows16_disjoint n n' h)
  exact ((congrArg (fun S => ((c : Thread nD τ).loc cc0_scratch0 ↦[S]{fullShare} packC I c : sProp 𝕄)) hi_cover.symm).trans h).trans
    (bigSep_filter _ _ _)
theorem recv_blocks (c : Dev nD) (f : Buf (Elt F) ((c : Thread nD τ).loc cc0_scratch1)) :
    ((c : Thread nD τ).loc cc0_scratch1 ↦{fullShare} f : sProp 𝕄)
      = bigSep Finset.univ fun d : Dev nD => ((c : Thread nD τ).loc cc0_scratch1) ↦[rows16 d.val]{fullShare} f := by
  have h := pointsTo_biUnion (ℓ := (c : Thread nD τ).loc cc0_scratch1) (q := fullShare) (f := f) (Ix := Unit) (Name := ℕ) (U := UU) (Lvl := ℕ)
    Finset.univ (fun n : Fin 32 => rows16 n.val) (fun n _ n' _ h => rows16_disjoint n n' h)
  exact (congrArg (fun S => ((c : Thread nD τ).loc cc0_scratch1 ↦[S]{fullShare} f : sProp 𝕄)) rows16_cover.symm).trans h
theorem out_blocks (c : Dev nD) (f : Buf (Elt F) ((c : Thread nD τ).loc cc0_stg3_0)) :
    ((c : Thread nD τ).loc cc0_stg3_0 ↦{fullShare} f : sProp 𝕄)
      = bigSep Finset.univ fun d : Dev nD => ((c : Thread nD τ).loc cc0_stg3_0) ↦[rows32 (seg d).val]{fullShare} f := by
  have h := pointsTo_biUnion (ℓ := (c : Thread nD τ).loc cc0_stg3_0) (q := fullShare) (f := f) (Ix := Unit) (Name := ℕ) (U := UU) (Lvl := ℕ)
    Finset.univ (fun n : Fin 32 => rows32 n.val) (fun n _ n' _ h => rows32_disjoint n n' h)
  exact ((congrArg (fun S => ((c : Thread nD τ).loc cc0_stg3_0 ↦[S]{fullShare} f : sProp 𝕄)) rows32_cover.symm).trans h).trans
    (bigSep_univ_equiv segEquiv _)

/-- The blocks of packed products, seen from device `c`. -/
theorem segs_eq (c : Dev nD) (Φ : Fin 32 → sProp 𝕄) :
    bigSep Finset.univ Φ = iprop(Φ (seg c) ∗ star all31 fun k => Φ (seg (peer k c))) :=
  (bigSep_univ_equiv segEquiv Φ).trans (all_peer c fun d => Φ (seg d))

/-- One of the two batches sends each block. -/
theorem batches (c : Dev nD) (Φ : Fin 31 → sProp 𝕄) :
    star all31 Φ = iprop(star all31 (fun k => if rsCond 0 k c = 1#1 then Φ k else iprop(emp))
      ∗ star all31 fun k => if rsCond 1 k c = 1#1 then Φ k else iprop(emp)) := by
  rw [← star_sep]
  refine star_congr fun k _ => ?_
  by_cases h : (seg (peer k c)).val < 16
  · rw [if_pos ((rsCond_lo k c).mpr h), if_neg fun h' => (rsCond_hi k c).mp h' h]; exact (sep_emp_eq _).symm
  · rw [if_neg fun h' => h ((rsCond_lo k c).mp h'), if_pos ((rsCond_hi k c).mpr h)]; exact (emp_sep_eq _).symm

theorem rsIn_eq (b : Fin 2) (c : Dev nD) :
    star all31 (rsIn I b c) = iprop(star all31 (fun k => if rsCond b k c = 1#1 then packPts I c (seg (peer k c)).val else iprop(emp))
      ∗ star all31 fun k => if rsCond b k c = 1#1 then rsRight (F := F) c k else iprop(emp)) := by
  rw [← star_sep]
  refine star_congr fun k _ => ?_
  unfold rsIn
  by_cases h : rsCond b k c = 1#1
  · rw [if_pos h, if_pos h, if_pos h]
  · rw [if_neg h, if_neg h, if_neg h]; exact (emp_sep_eq _).symm

/-- The first half, as what the first batch takes and perhaps the device's own block. -/
theorem lo_takes (c : Dev nD) : ((c : Thread nD τ).loc cc0_scratch0 ↦[rowsLo]{fullShare} packC I c : sProp 𝕄)
    = iprop((if (seg c).val < 16 then packPts I c (seg c).val else iprop(emp))
      ∗ star all31 fun k => if rsCond 0 k c = 1#1 then packPts I c (seg (peer k c)).val else iprop(emp)) := by
  rw [pack_lo, segs_eq c]
  refine congrArg (fun P : sProp 𝕄 => iprop((if (seg c).val < 16 then packPts I c (seg c).val else iprop(emp)) ∗ P)) ?_
  exact star_congr fun k _ => if_congr (rsCond_lo k c).symm rfl rfl
theorem hi_takes (c : Dev nD) : ((c : Thread nD τ).loc cc0_scratch0 ↦[rowsHi]{fullShare} packC I c : sProp 𝕄)
    = iprop((if ¬ (seg c).val < 16 then packPts I c (seg c).val else iprop(emp))
      ∗ star all31 fun k => if rsCond 1 k c = 1#1 then packPts I c (seg (peer k c)).val else iprop(emp)) := by
  rw [pack_hi, segs_eq c]
  refine congrArg (fun P : sProp 𝕄 => iprop((if ¬ (seg c).val < 16 then packPts I c (seg c).val else iprop(emp)) ∗ P)) ?_
  exact star_congr fun k _ => if_congr (rsCond_hi k c).symm rfl rfl
theorem own_halves (c : Dev nD) : packPts I c (seg c).val = iprop((if (seg c).val < 16 then packPts I c (seg c).val else iprop(emp))
    ∗ (if ¬ (seg c).val < 16 then packPts I c (seg c).val else iprop(emp))) := by
  by_cases h : (seg c).val < 16
  · rw [if_pos h, if_neg (not_not.mpr h)]; exact (sep_emp_eq _).symm
  · rw [if_neg h, if_pos h]; exact (emp_sep_eq _).symm

/-- All blocks of packed products, back from the copies. -/
theorem pack_whole (c : Dev nD) : ((c : Thread nD τ).loc cc0_scratch0 ↦{fullShare} packC I c : sProp 𝕄)
    = iprop(packPts I c (seg c).val ∗ star all31 fun k => packPts I c (seg (peer k c)).val) := by
  rw [pack_blocks, segs_eq c]
/-- All blocks received. -/
theorem recv_whole (c : Dev nD) : ((c : Thread nD τ).loc cc0_scratch1 ↦{fullShare} recvC I c : sProp 𝕄)
    = iprop(recvPts I c c.val ∗ star all31 fun k => recvPts I c (prev k c).val) := by
  rw [recv_blocks]; exact all_prev c fun d => recvPts I c d.val
/-- All blocks of the output. -/
theorem out_whole (c : Dev nD) : ((c : Thread nD τ).loc cc0_stg3_0 ↦{fullShare} outC I : sProp 𝕄)
    = iprop(outPts I c (seg c).val fullShare ∗ star all31 fun i => outPts I c (seg (xo (blkMask i) c)).val fullShare) := by
  rw [out_blocks]; exact all_blk c fun d => outPts I c (seg d).val fullShare

theorem recv_any (c : Dev nD) (n : ℕ) (f : Buf (Elt F) ((c : Thread nD τ).loc cc0_scratch1)) :
    (((c : Thread nD τ).loc cc0_scratch1) ↦[rows16 n]{fullShare} f) ⊢ recvAny c n := by
  unfold recvAny; iintro H; iexists f; iexact H
theorem out_any (c : Dev nD) (n : ℕ) (f : Buf (Elt F) ((c : Thread nD τ).loc cc0_stg3_0)) :
    (((c : Thread nD τ).loc cc0_stg3_0) ↦[rows32 n]{fullShare} f) ⊢ outAny c n := by
  unfold outAny; iintro H; iexists f; iexact H

/-- A buffer for received blocks, at any contents, as its blocks. -/
theorem recv_give (c : Dev nD) (f : Buf (Elt F) ((c : Thread nD τ).loc cc0_scratch1)) :
    ((c : Thread nD τ).loc cc0_scratch1 ↦{fullShare} f : sProp 𝕄) ⊢ iprop(recvAny c c.val ∗ star all31 fun k => recvAny c (peer k c).val) := by
  rw [recv_blocks, ← all_peer c fun d => recvAny (F := F) c d.val]
  exact bigSep_mono fun d _ => recv_any c d.val f
/-- An output buffer, at any contents, as its blocks. -/
theorem out_give (c : Dev nD) (f : Buf (Elt F) ((c : Thread nD τ).loc cc0_stg3_0)) :
    ((c : Thread nD τ).loc cc0_stg3_0 ↦{fullShare} f : sProp 𝕄)
      ⊢ iprop(outAny c (seg c).val ∗ star all31 fun i => outAny c (seg (xo (blkMask i) c)).val) := by
  rw [out_blocks, ← all_blk c fun d => outAny (F := F) c (seg d).val]
  exact bigSep_mono fun d _ => out_any c (seg d).val f

/-- The shares of the blocks that were passed on, and the blocks that were not, are all the blocks. -/
theorem out_back (c : Dev nD) :
    iprop(star (all31.flatMap agOut) (agSrc I c) ∗ star all31 (leaf I c))
      = star all31 fun i => outPts I c (seg (xo (blkMask i) c)).val fullShare := by
  rw [star_flatMap, ← star_sep]
  exact star_congr fun i _ => (arrived_eq I c i).symm

end Cert.KernelIdeal.Run

end
-- ==== Proof.Access.lean ====
/-
  The loads and stores of the body.

  What each load reads and each store leaves, in terms of the contents named before.
-/
module

public import proofs.«01_k».proof.Proof.Deal

@[expose] public section

set_option maxRecDepth 4096

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F)

theorem zero2 : (![0, 0] : Fin 2 → ℕ) = fun _ => 0 := funext fun a => by match a with
  | 0 => rfl
  | 1 => rfl

theorem at2_eta {m n : ℕ} (j : (⟨2, ![m, n]⟩ : Shape).Idx) : at2 (j 0) (j 1) = j := funext fun a => by match a with
  | 0 => rfl
  | 1 => rfl

/-- An index with the coordinates `a` and `b`. -/
theorem at2_of {m n : ℕ} (j : (⟨2, ![m, n]⟩ : Shape).Idx) (a : Fin m) (b : Fin n) (ha : a.val = (j 0).val) (hb : b.val = (j 1).val) :
    at2 a b = j := funext fun x => by match x with
  | 0 => exact Fin.ext ha
  | 1 => exact Fin.ext hb

/-! ## Whole windows -/

theorem load_idx (c : Dev nD) {q : PosShare TreeShare} {f : Vec F S1024x1 .i32}
    {hl : (Memref.whole cc0_stg1_0 : Memref sig .tc .vmem S1024x1 .i32).view.LoadsAt
      (Rect.unit (s := S1024x1) ![0, 0] S1024x1.size inb_S1024x1_S1024x1_0_0).toLoadRect}
    {k : Vec F S1024x1 .i32 → Act F PUnit} {Q : PUnit → sProp 𝕄} :
    (((c : Thread nD τ).loc cc0_stg1_0) ↦{q} f)
      ⊢ iprop(((((c : Thread nD τ).loc cc0_stg1_0) ↦{q} f) -∗ runs c (k f) Q)
          -∗ runs c (.op (.load (Memref.whole cc0_stg1_0 : Memref sig .tc .vmem S1024x1 .i32)
            (Rect.unit (s := S1024x1) ![0, 0] S1024x1.size inb_S1024x1_S1024x1_0_0).toLoadRect hl) k) Q) := by
  have h := wp_load 𝒱₀ (defs := defs₀ (F := F)) (Γ := .empty) (c : Thread nD τ) none Set.univ (hl := hl) (k := k) (Q := Q) (q := q) (f := f)
    (m := (Memref.whole cc0_stg1_0 : Memref sig .tc .vmem S1024x1 .i32)) (Finset.subset_univ _)
  rw [show (Memref.whole cc0_stg1_0 : Memref sig .tc .vmem S1024x1 .i32).view.readAt (Elt F)
    (Rect.unit (s := S1024x1) ![0, 0] S1024x1.size inb_S1024x1_S1024x1_0_0).toLoadRect f = f
    from Memref.readAt_unit_zero (Elt F) cc0_stg1_0 zero2 _ f] at h
  exact h

theorem load_x (c : Dev nD) {q : PosShare TreeShare} {f : Vec F S1024x512 .bf16}
    {hl : (Memref.whole cc0_stg0_0 : Memref sig .tc .vmem S1024x512 .bf16).view.LoadsAt
      (Rect.unit (s := S1024x512) ![0, 0] S1024x512.size inb_S1024x512_S1024x512_0_0).toLoadRect}
    {k : Vec F S1024x512 .bf16 → Act F PUnit} {Q : PUnit → sProp 𝕄} :
    (((c : Thread nD τ).loc cc0_stg0_0) ↦{q} f)
      ⊢ iprop(((((c : Thread nD τ).loc cc0_stg0_0) ↦{q} f) -∗ runs c (k f) Q)
          -∗ runs c (.op (.load (Memref.whole cc0_stg0_0 : Memref sig .tc .vmem S1024x512 .bf16)
            (Rect.unit (s := S1024x512) ![0, 0] S1024x512.size inb_S1024x512_S1024x512_0_0).toLoadRect hl) k) Q) := by
  have h := wp_load 𝒱₀ (defs := defs₀ (F := F)) (Γ := .empty) (c : Thread nD τ) none Set.univ (hl := hl) (k := k) (Q := Q) (q := q) (f := f)
    (m := (Memref.whole cc0_stg0_0 : Memref sig .tc .vmem S1024x512 .bf16)) (Finset.subset_univ _)
  rw [show (Memref.whole cc0_stg0_0 : Memref sig .tc .vmem S1024x512 .bf16).view.readAt (Elt F)
    (Rect.unit (s := S1024x512) ![0, 0] S1024x512.size inb_S1024x512_S1024x512_0_0).toLoadRect f = f
    from Memref.readAt_unit_zero (Elt F) cc0_stg0_0 zero2 _ f] at h
  exact h

theorem load_w (c : Dev nD) {q : PosShare TreeShare} (e : ℕ) (h : ∀ a, ![e, 0, 0] a + S1x512x1024.size a ≤ S4x512x1024.size a)
    {hl : (Memref.whole cc0_stg2_0 : Memref sig .tc .vmem S4x512x1024 .bf16).view.LoadsAt
      (Rect.unit (s := S4x512x1024) ![e, 0, 0] S1x512x1024.size h).toLoadRect}
    {k : Vec F S1x512x1024 .bf16 → Act F PUnit} {Q : PUnit → sProp 𝕄} :
    (((c : Thread nD τ).loc cc0_stg2_0) ↦{q} I.w c)
      ⊢ iprop(((((c : Thread nD τ).loc cc0_stg2_0) ↦{q} I.w c) -∗ runs c (k (wAt I c e h)) Q)
          -∗ runs c (.op (.load (Memref.whole cc0_stg2_0 : Memref sig .tc .vmem S4x512x1024 .bf16)
            (Rect.unit (s := S4x512x1024) ![e, 0, 0] S1x512x1024.size h).toLoadRect hl) k) Q) :=
  wp_load 𝒱₀ (defs := defs₀ (F := F)) (Γ := .empty) (c : Thread nD τ) none Set.univ (hl := hl) (k := k) (Q := Q) (q := q) (f := I.w c)
    (m := (Memref.whole cc0_stg2_0 : Memref sig .tc .vmem S4x512x1024 .bf16)) (Finset.subset_univ _)

/-! ## The packed products -/

abbrev rLo : Rect S512x1024 := Rect.unit (s := S512x1024) ![0, 0] S256x1024.size inb_S512x1024_S256x1024_0_0
abbrev rHi : Rect S512x1024 := Rect.unit (s := S512x1024) ![256, 0] S256x1024.size inb_S512x1024_S256x1024_256_0

theorem rLo_set : rLo.set = rowsLo := by
  ext i
  rw [Rect.mem_set_unit, rowsLo, Finset.mem_filter]
  have h1 : (i 1).val < 1024 := (i 1).isLt
  constructor
  · intro h
    have h0 : 0 ≤ (i 0).val ∧ (i 0).val < 0 + 256 := h 0
    exact ⟨Finset.mem_univ _, by omega⟩
  · rintro ⟨-, h⟩ a
    match a with
    | 0 => show 0 ≤ (i 0).val ∧ (i 0).val < 0 + 256; omega
    | 1 => show 0 ≤ (i 1).val ∧ (i 1).val < 0 + 1024; omega
theorem rHi_set : rHi.set = rowsHi := by
  ext i
  rw [Rect.mem_set_unit, rowsHi, Finset.mem_filter]
  have h1 : (i 1).val < 1024 := (i 1).isLt
  have h2 : (i 0).val < 512 := (i 0).isLt
  constructor
  · intro h
    have h0 : 256 ≤ (i 0).val ∧ (i 0).val < 256 + 256 := h 0
    exact ⟨Finset.mem_univ _, by omega⟩
  · rintro ⟨-, h⟩ a
    match a with
    | 0 => show 256 ≤ (i 0).val ∧ (i 0).val < 256 + 256; omega
    | 1 => show 0 ≤ (i 1).val ∧ (i 1).val < 0 + 1024; omega

theorem packLo_set : (packM.access rLo).set = rowsLo := (View.set_slice_whole _ _).trans rLo_set
theorem packHi_set : (packM.access rHi).set = rowsHi := (View.set_slice_whole _ _).trans rHi_set

/-- A buffer as its two halves. -/
theorem pack_halves (c : Dev nD) (f : Buf (Elt F) ((c : Thread nD τ).loc cc0_scratch0)) :
    ((c : Thread nD τ).loc cc0_scratch0 ↦{fullShare} f : sProp 𝕄)
      ⊢ iprop((((c : Thread nD τ).loc cc0_scratch0) ↦[rowsLo]{fullShare} f) ∗ (((c : Thread nD τ).loc cc0_scratch0) ↦[rowsHi]{fullShare} f)) := by
  have h := (pointsTo_split_subset (ℓ := (c : Thread nD τ).loc cc0_scratch0) (q := fullShare) (f := f) (Ix := Unit) (Name := ℕ) (U := UU) (Lvl := ℕ)
    (I := rowsLo) (S := Finset.univ) (Finset.subset_univ _)).1
  refine h.trans (Entails.of_eq ?_)
  refine congrArg (fun S => (iprop((((c : Thread nD τ).loc cc0_scratch0) ↦[rowsLo]{fullShare} f)
    ∗ (((c : Thread nD τ).loc cc0_scratch0) ↦[S]{fullShare} f)) : sProp 𝕄)) ?_
  ext i
  simp only [rowsLo, rowsHi]
  rw [Finset.mem_sdiff, Finset.mem_filter, Finset.mem_filter]
  exact ⟨fun h => ⟨h.1, fun h' => h.2 ⟨h.1, h'⟩⟩, fun h => ⟨h.1, fun h' => h.2 h'.2⟩⟩

theorem wrote_lo (c : Dev nD) (f : S512x1024.Idx → Elt F .bf16) :
    ∀ i ∈ rowsLo, (packM.access rLo).write (Elt F) f (lo I c) Finset.univ i = packC I c i := by
  intro i hi
  rw [← packLo_set] at hi
  obtain ⟨j, rfl⟩ := View.exists_emb_of_mem_set _ hi
  refine (write_emb cc0_scratch0 rLo f (lo I c) j).trans ?_
  have e0 : (((packM.access rLo).emb j 0 : Fin _) : ℕ) = 0 + (j 0).val := ValueKit.view_emb_slice_whole_unit_val cc0_scratch0 _ _ _ j 0
  have e1 : (((packM.access rLo).emb j 1 : Fin _) : ℕ) = 0 + (j 1).val := ValueKit.view_emb_slice_whole_unit_val cc0_scratch0 _ _ _ j 1
  have h0 : (j 0).val < 256 := (j 0).isLt
  unfold packC
  rw [dif_pos (show (((packM.access rLo).emb j 0 : Fin _) : ℕ) < 256 by omega)]
  exact congrArg (lo I c) (at2_of j _ _ (by show (((packM.access rLo).emb j 0 : Fin _) : ℕ) = _; omega) (by rw [e1]; omega)).symm

theorem wrote_hi (c : Dev nD) (f : S512x1024.Idx → Elt F .bf16) :
    ∀ i ∈ rowsHi, (packM.access rHi).write (Elt F) f (hi I c) Finset.univ i = packC I c i := by
  intro i hi'
  rw [← packHi_set] at hi'
  obtain ⟨j, rfl⟩ := View.exists_emb_of_mem_set _ hi'
  refine (write_emb cc0_scratch0 rHi f (hi I c) j).trans ?_
  have e0 : (((packM.access rHi).emb j 0 : Fin _) : ℕ) = 256 + (j 0).val := ValueKit.view_emb_slice_whole_unit_val cc0_scratch0 _ _ _ j 0
  have e1 : (((packM.access rHi).emb j 1 : Fin _) : ℕ) = 0 + (j 1).val := ValueKit.view_emb_slice_whole_unit_val cc0_scratch0 _ _ _ j 1
  have h0 : (j 0).val < 256 := (j 0).isLt
  unfold packC
  rw [dif_neg (show ¬ (((packM.access rHi).emb j 0 : Fin _) : ℕ) < 256 by omega)]
  exact congrArg (hi I c) (at2_of j _ _ (by show (((packM.access rHi).emb j 0 : Fin _) : ℕ) - 256 = _; omega) (by rw [e1]; omega)).symm

/-- The first half computed: a load whose value is not used, and the store. -/
theorem store_lo (c : Dev nD) {f : Buf (Elt F) ((c : Thread nD τ).loc cc0_scratch0)} {hl : packM.view.LoadsAt rLo.toLoadRect}
    {hx : (packM.access rLo).Stores Finset.univ} {hm : (Finset.univ : Finset rLo.shape.Idx) = Finset.univ ∨ ∀ a, rLo.stride a = 1}
    {k : PUnit → Act F PUnit} {Q : PUnit → sProp 𝕄} :
    (((c : Thread nD τ).loc cc0_scratch0) ↦[rowsLo]{fullShare} f)
      ⊢ iprop(((((c : Thread nD τ).loc cc0_scratch0) ↦[rowsLo]{fullShare} packC I c) -∗ runs c (k ⟨⟩) Q)
          -∗ runs c (.op (.load packM rLo.toLoadRect hl) fun _ => .op (.store packM rLo (lo I c) Finset.univ hx hm) k) Q) := by
  have h1 := wp_load_rect 𝒱₀ (defs := defs₀ (F := F)) (Γ := .empty) (c : Thread nD τ) none Set.univ (m := packM) (r := rLo) (hl := hl)
    (k := fun _ => .op (.store packM rLo (lo I c) Finset.univ hx hm) k) (Q := Q) (q := fullShare) (f := f) (S := rowsLo)
    (by rw [packLo_set])
  have h2 := wp_store 𝒱₀ (defs := defs₀ (F := F)) (Γ := .empty) (c : Thread nD τ) none Set.univ (m := packM) (r := rLo) (Mk := Finset.univ)
    (w := lo I c) (hx := hx) (hm := hm) (k := k) (Q := Q) (f := f) (S := rowsLo) (by rw [View.setOn_univ, packLo_set])
  rw [show (((packM.access rLo).loc (c : Thread nD τ)) ↦[rowsLo]{fullShare} ((packM.access rLo).write (Elt F) f (lo I c) Finset.univ) : sProp 𝕄)
    = (((packM.access rLo).loc (c : Thread nD τ)) ↦[rowsLo]{fullShare} packC I c) from pointsTo_congr (wrote_lo I c f)] at h2
  iintro H Hk
  iapply h1 $$ H; iintro H
  iapply h2 $$ H; iintro H
  iapply Hk; iexact H

theorem store_hi (c : Dev nD) {f : Buf (Elt F) ((c : Thread nD τ).loc cc0_scratch0)} {hl : packM.view.LoadsAt rHi.toLoadRect}
    {hx : (packM.access rHi).Stores Finset.univ} {hm : (Finset.univ : Finset rHi.shape.Idx) = Finset.univ ∨ ∀ a, rHi.stride a = 1}
    {k : PUnit → Act F PUnit} {Q : PUnit → sProp 𝕄} :
    (((c : Thread nD τ).loc cc0_scratch0) ↦[rowsHi]{fullShare} f)
      ⊢ iprop(((((c : Thread nD τ).loc cc0_scratch0) ↦[rowsHi]{fullShare} packC I c) -∗ runs c (k ⟨⟩) Q)
          -∗ runs c (.op (.load packM rHi.toLoadRect hl) fun _ => .op (.store packM rHi (hi I c) Finset.univ hx hm) k) Q) := by
  have h1 := wp_load_rect 𝒱₀ (defs := defs₀ (F := F)) (Γ := .empty) (c : Thread nD τ) none Set.univ (m := packM) (r := rHi) (hl := hl)
    (k := fun _ => .op (.store packM rHi (hi I c) Finset.univ hx hm) k) (Q := Q) (q := fullShare) (f := f) (S := rowsHi)
    (by rw [packHi_set])
  have h2 := wp_store 𝒱₀ (defs := defs₀ (F := F)) (Γ := .empty) (c : Thread nD τ) none Set.univ (m := packM) (r := rHi) (Mk := Finset.univ)
    (w := hi I c) (hx := hx) (hm := hm) (k := k) (Q := Q) (f := f) (S := rowsHi) (by rw [View.setOn_univ, packHi_set])
  rw [show (((packM.access rHi).loc (c : Thread nD τ)) ↦[rowsHi]{fullShare} ((packM.access rHi).write (Elt F) f (hi I c) Finset.univ) : sProp 𝕄)
    = (((packM.access rHi).loc (c : Thread nD τ)) ↦[rowsHi]{fullShare} packC I c) from pointsTo_congr (wrote_hi I c f)] at h2
  iintro H Hk
  iapply h1 $$ H; iintro H
  iapply h2 $$ H; iintro H
  iapply Hk; iexact H

/-! ## The device's own block -/

theorem pay19_eq (v : Vec F S16x1024 .bf16) : k0_pay19 v = v := by
  exact shapeCast_self (s := S16x1024) v _

/-- The device's own block moves within the device. -/
theorem move_own (c : Dev nD) {o o' : Fin 2 → ℕ} (ho : o = ![16 * (seg c).val, 0]) (ho' : o' = ![16 * c.val, 0])
    {hi : ∀ a, o a + S16x1024.size a ≤ S512x1024.size a} {hi' : ∀ a, o' a + S16x1024.size a ≤ S512x1024.size a}
    {hl : packM.view.LoadsAt (Rect.unit (s := S512x1024) o S16x1024.size hi).toLoadRect}
    {hl' : recvM.view.LoadsAt (Rect.unit (s := S512x1024) o' S16x1024.size hi').toLoadRect}
    {hx : (recvM.access (Rect.unit (s := S512x1024) o' S16x1024.size hi')).Stores Finset.univ}
    {hm : (Finset.univ : Finset (Rect.unit (s := S512x1024) o' S16x1024.size hi').shape.Idx) = Finset.univ
      ∨ ∀ a, (Rect.unit (s := S512x1024) o' S16x1024.size hi').stride a = 1}
    {k : PUnit → Act F PUnit} {Q : PUnit → sProp 𝕄} :
    iprop(packPts I c (seg c).val ∗ recvAny c c.val)
      ⊢ iprop((iprop(packPts I c (seg c).val ∗ recvPts I c c.val) -∗ runs c (k ⟨⟩) Q)
          -∗ runs c (.op (.load packM (Rect.unit (s := S512x1024) o S16x1024.size hi).toLoadRect hl) fun own =>
            .op (.load recvM (Rect.unit (s := S512x1024) o' S16x1024.size hi').toLoadRect hl') fun _ =>
              .op (.store recvM (Rect.unit (s := S512x1024) o' S16x1024.size hi') (k0_pay19 (F := F) own) Finset.univ hx hm) k) Q) := by
  subst ho ho'
  rw [pack_eq]
  unfold recvAny recvPts
  have h1 := wp_load_rect 𝒱₀ (defs := defs₀ (F := F)) (Γ := .empty) (c : Thread nD τ) none Set.univ (m := packM)
    (r := Rect.unit (s := S512x1024) ![16 * (seg c).val, 0] S16x1024.size hi) (hl := hl)
    (k := fun own => .op (.load recvM (Rect.unit (s := S512x1024) ![16 * c.val, 0] S16x1024.size hi').toLoadRect hl') fun _ =>
              .op (.store recvM (Rect.unit (s := S512x1024) ![16 * c.val, 0] S16x1024.size hi') (k0_pay19 (F := F) own) Finset.univ hx hm) k)
    (Q := Q) (q := fullShare) (f := packC I c) (S := (blk16 packM (seg c)).view.set) (Finset.Subset.refl _)
  iintro ⟨Hp, ⟨%f, Hr⟩⟩ Hk
  iapply h1 $$ Hp; iintro Hp
  ihave Hr := (Entails.of_eq (recv_eq c c f)) $$ Hr
  have h2 := wp_load_rect 𝒱₀ (defs := defs₀ (F := F)) (Γ := .empty) (c : Thread nD τ) none Set.univ (m := recvM)
    (r := Rect.unit (s := S512x1024) ![16 * c.val, 0] S16x1024.size hi') (hl := hl')
    (k := fun _ => .op (.store recvM (Rect.unit (s := S512x1024) ![16 * c.val, 0] S16x1024.size hi')
      (k0_pay19 (F := F) ((blk16 packM (seg c)).view.read (Elt F) (packC I c))) Finset.univ hx hm) k)
    (Q := Q) (q := fullShare) (f := f) (S := (blk16 recvM c).view.set) (Finset.Subset.refl _)
  have h3 := wp_store 𝒱₀ (defs := defs₀ (F := F)) (Γ := .empty) (c : Thread nD τ) none Set.univ (m := recvM)
    (r := Rect.unit (s := S512x1024) ![16 * c.val, 0] S16x1024.size hi') (Mk := Finset.univ)
    (w := k0_pay19 (F := F) ((blk16 packM (seg c)).view.read (Elt F) (packC I c))) (hx := hx) (hm := hm) (k := k) (Q := Q) (f := f)
    (S := (blk16 recvM c).view.set) (by rw [View.setOn_univ])
  iapply h2 $$ Hr; iintro Hr
  iapply h3 $$ Hr; iintro Hr
  iapply Hk
  isplitl [Hp]; · iexact Hp
  ihave Hr := (Entails.of_eq (pointsTo_congr (g := recvC I c) fun i hi => by
    rw [pay19_eq]; exact land16 I c c f i (by rw [← blk16_recv]; exact hi))) $$ Hr
  rw [recv_eq]
  iexact Hr

/-! ## The received blocks and the output block -/

theorem load_got (c : Dev nD) {q : PosShare TreeShare} {f : Vec F S512x1024 .bf16}
    {hl : recvM.view.LoadsAt (Rect.unit (s := S512x1024) ![0, 0] S512x1024.size inb_S512x1024_S512x1024_0_0).toLoadRect}
    {k : Vec F S512x1024 .bf16 → Act F PUnit} {Q : PUnit → sProp 𝕄} :
    (((c : Thread nD τ).loc cc0_scratch1) ↦{q} f)
      ⊢ iprop(((((c : Thread nD τ).loc cc0_scratch1) ↦{q} f) -∗ runs c (k f) Q)
          -∗ runs c (.op (.load recvM (Rect.unit (s := S512x1024) ![0, 0] S512x1024.size inb_S512x1024_S512x1024_0_0).toLoadRect hl) k) Q) := by
  have h := wp_load 𝒱₀ (defs := defs₀ (F := F)) (Γ := .empty) (c : Thread nD τ) none Set.univ (hl := hl) (k := k) (Q := Q) (q := q) (f := f)
    (m := recvM) (Finset.subset_univ _)
  rw [show recvM.view.readAt (Elt F)
    (Rect.unit (s := S512x1024) ![0, 0] S512x1024.size inb_S512x1024_S512x1024_0_0).toLoadRect f = f
    from Memref.readAt_unit_zero (Elt F) cc0_scratch1 zero2 _ f] at h
  exact h

theorem wrote_out (c : Dev nD) (f : S1024x1024.Idx → Elt F .bf16) :
    ∀ i ∈ rows32 (seg c).val, (blk32 (seg c)).view.write (Elt F) f (segC I c) Finset.univ i = outC I i := by
  intro i hi
  rw [← blk32_set (seg c)] at hi
  obtain ⟨j, rfl⟩ := View.exists_emb_of_mem_set _ hi
  refine (write_emb32 (seg c) f _ j).trans ?_
  have hj : (j 0).val < 32 := (j 0).isLt
  have e0 : (((blk32 (seg c)).view.emb j 0 : Fin _) : ℕ) = 32 * (seg c).val + (j 0).val :=
    ValueKit.view_emb_slice_whole_unit_val cc0_stg3_0 _ _ _ j 0
  have e1 : (((blk32 (seg c)).view.emb j 1 : Fin _) : ℕ) = 0 + (j 1).val :=
    ValueKit.view_emb_slice_whole_unit_val cc0_stg3_0 _ _ _ j 1
  unfold outC
  have hk : keeper ⟨(((blk32 (seg c)).view.emb j 0 : Fin _) : ℕ) / 32, by rw [e0]; have := (seg c).isLt; omega⟩ = c := by
    refine (congrArg keeper (Fin.ext ?_)).trans (keeper_seg c)
    show (((blk32 (seg c)).view.emb j 0 : Fin _) : ℕ) / 32 = (seg c).val
    rw [e0]; omega
  rw [hk]
  exact congrArg (segC I c) (at2_of j _ _ (by show _ % 32 = _; rw [e0]; omega) (by rw [e1]; omega)).symm

/-- The device's own output block: a load whose value is not used, and the store. -/
theorem store_out (c : Dev nD) {o : Fin 2 → ℕ} (ho : o = ![32 * (seg c).val, 0])
    {hi : ∀ a, o a + S32x1024.size a ≤ S1024x1024.size a}
    {hl : outM.view.LoadsAt (Rect.unit (s := S1024x1024) o S32x1024.size hi).toLoadRect}
    {hx : (outM.access (Rect.unit (s := S1024x1024) o S32x1024.size hi)).Stores Finset.univ}
    {hm : (Finset.univ : Finset (Rect.unit (s := S1024x1024) o S32x1024.size hi).shape.Idx) = Finset.univ
      ∨ ∀ a, (Rect.unit (s := S1024x1024) o S32x1024.size hi).stride a = 1}
    {k : PUnit → Act F PUnit} {Q : PUnit → sProp 𝕄} :
    outAny c (seg c).val
      ⊢ iprop((outPts I c (seg c).val fullShare -∗ runs c (k ⟨⟩) Q)
          -∗ runs c (.op (.load outM (Rect.unit (s := S1024x1024) o S32x1024.size hi).toLoadRect hl) fun _ =>
              .op (.store outM (Rect.unit (s := S1024x1024) o S32x1024.size hi) (segC I c) Finset.univ hx hm) k) Q) := by
  subst ho
  unfold outAny outPts
  iintro ⟨%f, Hr⟩ Hk
  ihave Hr := (Entails.of_eq (out_eq c (seg c) fullShare f)) $$ Hr
  have h2 := wp_load_rect 𝒱₀ (defs := defs₀ (F := F)) (Γ := .empty) (c : Thread nD τ) none Set.univ (m := outM)
    (r := Rect.unit (s := S1024x1024) ![32 * (seg c).val, 0] S32x1024.size hi) (hl := hl)
    (k := fun _ => .op (.store outM (Rect.unit (s := S1024x1024) ![32 * (seg c).val, 0] S32x1024.size hi) (segC I c) Finset.univ hx hm) k)
    (Q := Q) (q := fullShare) (f := f) (S := (blk32 (seg c)).view.set) (Finset.Subset.refl _)
  have h3 := wp_store 𝒱₀ (defs := defs₀ (F := F)) (Γ := .empty) (c : Thread nD τ) none Set.univ (m := outM)
    (r := Rect.unit (s := S1024x1024) ![32 * (seg c).val, 0] S32x1024.size hi) (Mk := Finset.univ)
    (w := segC I c) (hx := hx) (hm := hm) (k := k) (Q := Q) (f := f)
    (S := (blk32 (seg c)).view.set) (by rw [View.setOn_univ])
  iapply h2 $$ Hr; iintro Hr
  iapply h3 $$ Hr; iintro Hr
  iapply Hk
  ihave Hr := (Entails.of_eq (pointsTo_congr (g := outC I) fun i hi => wrote_out I c f i (by rw [← blk32_set]; exact hi))) $$ Hr
  rw [out_eq]
  iexact Hr

end Cert.KernelIdeal.Run

end
-- ==== Proof.BodyEq.lean ====
module
public import proofs.«01_k».proof.Proof.Program
@[expose] public section
noncomputable section
namespace Cert.KernelIdeal.Run
open Cert.KernelIdeal Cert.KernelIdeal.Gen
open Idealize.ShloMosaic Idealize.SL.Sem
variable {F : FTy → Type} [FloatOps F]
variable (arg0 : Memref sig .tc .vmem S1024x512 .bf16) (harg0 : arg0.IsWhole)
  (arg1 : Memref sig .tc .vmem S1024x1 .i32) (harg1 : arg1.IsWhole)
  (arg2 : Memref sig .tc .vmem S4x512x1024 .bf16) (harg2 : arg2.IsWhole)
  (arg3 : Memref sig .tc .vmem S1024x1024 .bf16) (harg3 : arg3.IsWhole)
  (arg4 : Memref sig .tc .vmem S512x1024 .bf16) (harg4 : arg4.IsWhole)
  (arg5 : Memref sig .tc .vmem S512x1024 .bf16) (harg5 : arg5.IsWhole)
  (arg6 arg7 arg8 arg9 : DmaSems sig S31)

set_option maxRecDepth 65536
set_option maxHeartbeats 2000000

theorem rsSend_bind {α β : Type} (b : Fin 2) (c : Dev nD) (k : Fin 31) (K : Act F α) (g : α → Act F β) :
    (rsSend arg4 harg4 arg5 harg5 arg6 arg7 b c k K >>= g) = rsSend arg4 harg4 arg5 harg5 arg6 arg7 b c k (K >>= g) := by
  unfold rsSend; split
  · rw [bind_assoc]
  · rfl

theorem sends_bind {α β : Type} (b : Fin 2) (c : Dev nD) (l : List (Fin 31)) (K : Act F α) (g : α → Act F β) :
    (each (rsSend arg4 harg4 arg5 harg5 arg6 arg7 b c) l K >>= g)
      = each (rsSend arg4 harg4 arg5 harg5 arg6 arg7 b c) l (K >>= g) :=
  each_bind _ _ g (fun k K => rsSend_bind arg4 harg4 arg5 harg5 arg6 arg7 b c k K g) l K

/-- A printed conditional send: what follows it stands in both branches. -/
theorem peel {α : Type} {b : Fin 2} {c : Dev nD} {k : Fin 31} {K K' : Act F α} (h : K = K') :
    rsSend arg4 harg4 arg5 harg5 arg6 arg7 b c k K = (if h : rsCond b k c = 1#1 then do
      rsCopy arg4 harg4 arg5 harg5 arg6 arg7 (rsSrc b k c) (rsDst b k c) (rsSrc_inb b k c h) (rsDst_inb b k c h)
        (rsSrc_words b k c h) (rsDst_words b k c h) ⟨rsDev b k c, rsDev_lt b k c h⟩ k
      K'
    else K') := by
  subst h; rfl

theorem part31_eq (d0 : Dev nD) (v2 : BitVec 32) (v22 : Sems sig S_) (v179 v198 v204 v223 v229 v248 v273 : BitVec 32) (v963 : FVec F S256x512 .bf16) (v965 : FVec F S256x1 .f32) (v1006 : FVec F S256x1024 .f32) (c4_i32_723 : BitVec 32) :
    k0_part31 (F := F) arg0 harg0 arg1 harg1 arg2 harg2 arg3 harg3 arg4 harg4 arg5 harg5 arg6 arg7 arg8 arg9
      d0 v2 v22 v179 v198 v204 v223 v229 v248 v273 v963 v965 v1006 c4_i32_723 = (do
      let w3 ← loadW arg2 3 inb_S4x512x1024_S1x512x1024_3_0_0
      let _ : Vec F S256x1024 .bf16 ← Prog.lift (.load arg4 (Rect.unit (s := S512x1024) ![0, 0] S256x1024.size
        inb_S512x1024_S256x1024_0_0).toLoadRect (View.loadsAt_vmem h_S256x1024))
      Prog.lift (.store arg4 (Rect.unit (s := S512x1024) ![0, 0] S256x1024.size inb_S512x1024_S256x1024_0_0)
        (k0_pay11 v2 v963 v965 v1006 c4_i32_723 w3) Finset.univ (View.stores_vmem h_S256x1024
          (harg4.storeExact_slice rfl _ packedbf16_S512x1024_S256x1024_0_0) (fun _ => rfl)) (.inl rfl))
      semWaitWord v22.sem 31#32
      each (rsSend arg4 harg4 arg5 harg5 arg6 arg7 0 d0) [0, 1, 2] (pure ⟨⟩)) := by
  rw [k0_part31_eq_skeleton]; symm
  unfold k0_part31_skel
  refine bind_congr fun _ => bind_congr fun _ => bind_congr fun _ => bind_congr fun _ => ?_
  repeat refine peel arg4 harg4 arg5 harg5 arg6 arg7 ?_
  rfl

theorem part32_eq (d0 : Dev nD) (v254 v279 v298 v304 v323 v329 v348 v354 v373 v379 v398 v404 v423 v429 v448 v473 : BitVec 32) :
    ∃ v, k0_part32 (F := F) arg0 harg0 arg1 harg1 arg2 harg2 arg3 harg3 arg4 harg4 arg5 harg5 arg6 arg7 arg8 arg9
      d0 v254 v279 v298 v304 v323 v329 v348 v354 v373 v379 v398 v404 v423 v429 v448 v473
      = each (rsSend arg4 harg4 arg5 harg5 arg6 arg7 0 d0) [3, 4, 5, 6, 7, 8, 9, 10] (pure v) := by
  apply Exists.intro
  rw [k0_part32_eq_skeleton]; symm
  unfold k0_part32_skel
  repeat refine peel arg4 harg4 arg5 harg5 arg6 arg7 ?_
  rfl

theorem part33_eq (d0 : Dev nD) (v454 v479 v498 v504 v523 v529 v548 v554 v573 v579 v598 v604 v623 v648 v1059 : BitVec 32) :
    k0_part33 (F := F) arg0 harg0 arg1 harg1 arg2 harg2 arg3 harg3 arg4 harg4 arg5 harg5 arg6 arg7 arg8 arg9
      d0 v454 v479 v498 v504 v523 v529 v548 v554 v573 v579 v598 v604 v623 v648 v1059
      = each (rsSend arg4 harg4 arg5 harg5 arg6 arg7 0 d0) [11, 12, 13, 14, 15, 16, 17] (pure ⟨⟩) := by
  rw [k0_part33_eq_skeleton]; symm
  unfold k0_part33_skel
  repeat refine peel arg4 harg4 arg5 harg5 arg6 arg7 ?_
  rfl

theorem part34_eq (d0 : Dev nD) (v629 v654 v673 v679 v698 v704 v723 v729 v748 v754 v773 v779 v798 v804 v823 v848 : BitVec 32) :
    ∃ v, k0_part34 (F := F) arg0 harg0 arg1 harg1 arg2 harg2 arg3 harg3 arg4 harg4 arg5 harg5 arg6 arg7 arg8 arg9
      d0 v629 v654 v673 v679 v698 v704 v723 v729 v748 v754 v773 v779 v798 v804 v823 v848
      = each (rsSend arg4 harg4 arg5 harg5 arg6 arg7 0 d0) [18, 19, 20, 21, 22, 23, 24, 25] (pure v) := by
  apply Exists.intro
  rw [k0_part34_eq_skeleton]; symm
  unfold k0_part34_skel
  repeat refine peel arg4 harg4 arg5 harg5 arg6 arg7 ?_
  rfl

theorem part35_eq (d0 : Dev nD) (v2 : BitVec 32) (v174 : FVec F S1x1024 .f32) (v176 : FVec F S1024x512 .bf16) (v177 : FVec F S1024x1 .f32) (v829 v854 v873 v879 v898 v904 v923 v929 v948 v1104 : BitVec 32) :
    k0_part35 (F := F) arg0 harg0 arg1 harg1 arg2 harg2 arg3 harg3 arg4 harg4 arg5 harg5 arg6 arg7 arg8 arg9
      d0 v2 v174 v176 v177 v829 v854 v873 v879 v898 v904 v923 v929 v948 v1104
      = each (rsSend arg4 harg4 arg5 harg5 arg6 arg7 0 d0) [26, 27, 28, 29, 30] (pure ⟨k0_pay13 v174 v176, k0_pay14 v174 v177, k0_pay15 (F := F) v2 v174 v177⟩) := by
  rw [k0_part35_eq_skeleton]; symm
  unfold k0_part35_skel
  repeat refine peel arg4 harg4 arg5 harg5 arg6 arg7 ?_
  rfl

theorem part37_eq (d0 : Dev nD) (v179 v198 v204 v223 v229 v248 v254 v273 v279 v298 : BitVec 32) (v1128 : FVec F S256x512 .bf16) (v1171 : FVec F S256x1024 .f32) (v1177 : IVec S256x1 32) :
    ∃ v, k0_part37 (F := F) arg0 harg0 arg1 harg1 arg2 harg2 arg3 harg3 arg4 harg4 arg5 harg5 arg6 arg7 arg8 arg9
      d0 v179 v198 v204 v223 v229 v248 v254 v273 v279 v298 v1128 v1171 v1177 = (do
      let w3 ← loadW arg2 3 inb_S4x512x1024_S1x512x1024_3_0_0
      let _ : Vec F S256x1024 .bf16 ← Prog.lift (.load arg4 (Rect.unit (s := S512x1024) ![256, 0] S256x1024.size
        inb_S512x1024_S256x1024_256_0).toLoadRect (View.loadsAt_vmem h_S256x1024))
      Prog.lift (.store arg4 (Rect.unit (s := S512x1024) ![256, 0] S256x1024.size inb_S512x1024_S256x1024_256_0)
        (k0_pay18 v1128 v1171 v1177 w3) Finset.univ (View.stores_vmem h_S256x1024
          (harg4.storeExact_slice rfl _ packedbf16_S512x1024_S256x1024_256_0) (fun _ => rfl)) (.inl rfl))
      each (rsSend arg4 harg4 arg5 harg5 arg6 arg7 1 d0) [0, 1, 2, 3, 4] (pure v)) := by
  apply Exists.intro
  rw [k0_part37_eq_skeleton]; symm
  unfold k0_part37_skel
  refine bind_congr fun _ => bind_congr fun _ => bind_congr fun _ => ?_
  repeat refine peel arg4 harg4 arg5 harg5 arg6 arg7 ?_
  rfl

theorem part38_eq (d0 : Dev nD) (v304 v323 v329 v348 v354 v373 v379 v398 v404 v423 v429 v448 v454 v473 v498 c16_i32_902 : BitVec 32) :
    ∃ v, k0_part38 (F := F) arg0 harg0 arg1 harg1 arg2 harg2 arg3 harg3 arg4 harg4 arg5 harg5 arg6 arg7 arg8 arg9
      d0 v304 v323 v329 v348 v354 v373 v379 v398 v404 v423 v429 v448 v454 v473 v498 c16_i32_902
      = each (rsSend arg4 harg4 arg5 harg5 arg6 arg7 1 d0) [5, 6, 7, 8, 9, 10, 11] (pure v) := by
  apply Exists.intro
  rw [k0_part38_eq_skeleton]; symm
  unfold k0_part38_skel
  repeat refine peel arg4 harg4 arg5 harg5 arg6 arg7 ?_
  rfl

theorem part39_eq (d0 : Dev nD) (v479 v504 v523 v529 v548 v554 v573 v579 v598 v604 v623 v629 v648 v654 v673 v1227 : BitVec 32) :
    ∃ v, k0_part39 (F := F) arg0 harg0 arg1 harg1 arg2 harg2 arg3 harg3 arg4 harg4 arg5 harg5 arg6 arg7 arg8 arg9
      d0 v479 v504 v523 v529 v548 v554 v573 v579 v598 v604 v623 v629 v648 v654 v673 v1227
      = each (rsSend arg4 harg4 arg5 harg5 arg6 arg7 1 d0) [12, 13, 14, 15, 16, 17, 18, 19] (pure v) := by
  apply Exists.intro
  rw [k0_part39_eq_skeleton]; symm
  unfold k0_part39_skel
  repeat refine peel arg4 harg4 arg5 harg5 arg6 arg7 ?_
  rfl

theorem part40_eq (d0 : Dev nD) (v679 v698 v704 v723 v729 v748 v754 v773 v779 v798 v804 v823 v829 v848 v873 c16_i32_962 : BitVec 32) :
    ∃ v, k0_part40 (F := F) arg0 harg0 arg1 harg1 arg2 harg2 arg3 harg3 arg4 harg4 arg5 harg5 arg6 arg7 arg8 arg9
      d0 v679 v698 v704 v723 v729 v748 v754 v773 v779 v798 v804 v823 v829 v848 v873 c16_i32_962
      = each (rsSend arg4 harg4 arg5 harg5 arg6 arg7 1 d0) [20, 21, 22, 23, 24, 25, 26] (pure v) := by
  apply Exists.intro
  rw [k0_part40_eq_skeleton]; symm
  unfold k0_part40_skel
  repeat refine peel arg4 harg4 arg5 harg5 arg6 arg7 ?_
  rfl

theorem part41_eq (d0 : Dev nD) (v2 v21 : BitVec 32) (v151 : IVec S32x32 32) (v854 v879 v898 v904 v923 v929 v948 v1272 : BitVec 32) :
    k0_part41 (F := F) arg0 harg0 arg1 harg1 arg2 harg2 arg3 harg3 arg4 harg4 arg5 harg5 arg6 arg7 arg8 arg9
      d0 v2 v21 v151 v854 v879 v898 v904 v923 v929 v948 v1272
      = each (rsSend arg4 harg4 arg5 harg5 arg6 arg7 1 d0) [27, 28, 29, 30] (do
      let own : Vec F S16x1024 .bf16 ← Prog.lift (.load arg4 (Rect.unit (s := S512x1024) (k0_off125 d0) S16x1024.size
        (k0_off125_inb d0)).toLoadRect (View.loadsAt_vmem h_S16x1024))
      let _ : Vec F S16x1024 .bf16 ← Prog.lift (.load arg5 (Rect.unit (s := S512x1024) (k0_off126 d0) S16x1024.size
        (k0_off126_inb d0)).toLoadRect (View.loadsAt_vmem h_S16x1024))
      Prog.lift (.store arg5 (Rect.unit (s := S512x1024) (k0_off126 d0) S16x1024.size (k0_off126_inb d0)) (k0_pay19 own)
        Finset.univ (View.stores_vmem h_S16x1024 (harg5.storeExact_slice rfl _ (k0_off126_packedbf16 d0)) (fun _ => rfl))
        (.inl rfl))
      pure ⟨k0_pay21 (F := F) v21 v151, k0_pay22 (F := F) v21 v151, Scalar.ofBits .f32 0x3F800000#32,
        Scalar.ofBits .f32 0x00000000#32⟩) := by
  rw [k0_part41_eq_skeleton]; symm
  unfold k0_part41_skel
  repeat refine peel arg4 harg4 arg5 harg5 arg6 arg7 ?_
  rfl

/-- The printed body is this program. -/
theorem body_eq : cc0_body (F := F) arg0 harg0 arg1 harg1 arg2 harg2 arg3 harg3 arg4 harg4 arg5 harg5 arg6 arg7 arg8 arg9
    = prog arg0 arg1 arg2 arg3 harg3 arg4 harg4 arg5 harg5 arg6 arg7 arg8 arg9 := by
  choose v32 h32 using part32_eq (F := F) arg0 harg0 arg1 harg1 arg2 harg2 arg3 harg3 arg4 harg4 arg5 harg5 arg6 arg7 arg8 arg9
  choose v34 h34 using part34_eq (F := F) arg0 harg0 arg1 harg1 arg2 harg2 arg3 harg3 arg4 harg4 arg5 harg5 arg6 arg7 arg8 arg9
  choose v37 h37 using part37_eq (F := F) arg0 harg0 arg1 harg1 arg2 harg2 arg3 harg3 arg4 harg4 arg5 harg5 arg6 arg7 arg8 arg9
  choose v38 h38 using part38_eq (F := F) arg0 harg0 arg1 harg1 arg2 harg2 arg3 harg3 arg4 harg4 arg5 harg5 arg6 arg7 arg8 arg9
  choose v39 h39 using part39_eq (F := F) arg0 harg0 arg1 harg1 arg2 harg2 arg3 harg3 arg4 harg4 arg5 harg5 arg6 arg7 arg8 arg9
  choose v40 h40 using part40_eq (F := F) arg0 harg0 arg1 harg1 arg2 harg2 arg3 harg3 arg4 harg4 arg5 harg5 arg6 arg7 arg8 arg9
  simp only [cc0_body_eq_skeleton, cc0_body_skel, k0_part94_eq_skeleton, k0_part94_skel, part31_eq, h32, part33_eq, h34, part35_eq,
    h37, h38, h39, h40, part41_eq, bind_assoc, sends_bind, pure_bind]
  rfl

end Cert.KernelIdeal.Run

end
-- ==== Proof.Body.lean ====
/-
  The run of the body.

  Each loop as a whole, and then the body from what a device starts with to what it ends with.
-/
module

public import proofs.«01_k».proof.Proof.Access
public import proofs.«01_k».proof.Proof.BodyEq

@[expose] public section

set_option maxRecDepth 4096

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : Dev nD × CellIx → ℕ)

/-! ## Loops -/

/-- The copies that follow an arrival. -/
abbrev later : List (Fin 31) := [5, 6, 7, 8, 9, 10, 11, 12, 13, 14, 15, 16, 17, 18, 19, 20, 21, 22, 23, 24, 25, 26, 27, 28, 29, 30]
/-- The copies of a device's own block. -/
abbrev early : List (Fin 31) := [0, 1, 2, 3, 4]

theorem all31_split : all31 = early ++ later := rfl

theorem loop_signal (c : Dev nD) (O : CellTallies nD τ sig Unit) (P : Act F PUnit) (Q : PUnit → sProp 𝕄) :
    iprop(known I K ∗ owing c (owe (oBar c) all31 + O)
        ∗ star all31 (fun k => iprop(dutyTok ER (cell (peer k c) none) 0 k ∗ barPay (peer k c) c)))
      ⊢ iprop((iprop(owing c (owe (oBar c) [] + O) ∗ star all31 (fun _ => iprop(emp))) -∗ runs c P Q)
          -∗ runs c (each (fun k K => do signal c k; K) all31 P) Q) :=
  runs_each c (known I K) (fun k K => do signal c k; K) (fun l => owing c (owe (oBar c) l + O)) _ (fun _ => iprop(emp)) all31
    (fun k l _ P Q => step_signal I K c O k l P Q) all31 (List.suffix_refl _) P Q

theorem loop_rsSend (b : Fin 2) (c : Dev nD) (O : CellTallies nD τ sig Unit) (P : Act F PUnit) (Q : PUnit → sProp 𝕄) :
    iprop(known I K ∗ owing c (owe (oRs b c) all31 + O) ∗ star all31 (rsIn I b c))
      ⊢ iprop((iprop(owing c (owe (oRs b c) [] + O) ∗ star all31 (rsOut b c)) -∗ runs c P Q)
          -∗ runs c (each (rsSend packM packW recvM recvW cc0_scratch2 cc0_scratch3 b c) all31 P) Q) :=
  runs_each c (known I K) (rsSend packM packW recvM recvW cc0_scratch2 cc0_scratch3 b c) (fun l => owing c (owe (oRs b c) l + O)) _ _ all31
    (fun k l _ P Q => step_rsSend I K b c O k l P Q) all31 (List.suffix_refl _) P Q

/-- What the waits for products take, turn by turn. -/
abbrev waitIn (c : Dev nD) (k : Fin 31) : sProp 𝕄 :=
  iprop(rsBack c k ∗ pos0 c (some (0, k)) ∗ cred (tallyAt (cell c (some (1, k))) () N16) ∗ pos0 c (some (1, k)))
/-- What they leave. -/
abbrev waitOut (c : Dev nD) (k : Fin 31) : sProp 𝕄 :=
  iprop((packPts I c (seg (peer k c)).val ∗ semVal (cell c (some (0, k))) 0) ∗ recvPts I c (prev k c).val ∗ semVal (cell c (some (1, k))) 0)

theorem loop_rsWait (c : Dev nD) (P : Act F PUnit) (Q : PUnit → sProp 𝕄) :
    iprop(known I K ∗ owing c (owe (oAg c) all31) ∗ star all31 (waitIn c))
      ⊢ iprop((iprop(owing c (owe (oAg c) all31) ∗ star all31 (waitOut I c)) -∗ runs c P Q)
          -∗ runs c (each (fun k K => do rsWait packM packW recvM recvW cc0_scratch2 cc0_scratch3 c k; K) all31 P) Q) :=
  runs_each c (known I K) (fun k K => do rsWait packM packW recvM recvW cc0_scratch2 cc0_scratch3 c k; K)
    (fun _ => owing c (owe (oAg c) all31)) _ _ all31
    (fun k l _ P Q => step_rsWait I K c k P Q) all31 (List.suffix_refl _) P Q

theorem loop_agSendOwn (c : Dev nD) (P : Act F PUnit) (Q : PUnit → sProp 𝕄) :
    iprop(known I K ∗ owing c (owe (oAg c) early + owe (oAg c) later) ∗ star early (fun j => iprop(agSrc I c j ∗ agRight c j)))
      ⊢ iprop((iprop(owing c (owe (oAg c) [] + owe (oAg c) later) ∗ star early (agBack c)) -∗ runs c P Q)
          -∗ runs c (each (fun k K => do agSendOwn outM outW cc0_scratch4 cc0_scratch5 c k; K) early P) Q) :=
  runs_each c (known I K) (fun k K => do agSendOwn outM outW cc0_scratch4 cc0_scratch5 c k; K)
    (fun l => owing c (owe (oAg c) l + owe (oAg c) later)) _ _ early
    (fun j l h P Q => step_agSendOwn I K c _ j (srcMask_own j (h.subset List.mem_cons_self)) l P Q) early (List.suffix_refl _) P Q

/-- What the turn of an arrival takes. -/
abbrev arrIn (c : Dev nD) (i : Fin 31) : sProp 𝕄 :=
  iprop((cred (tallyAt (cell c (some (3, i))) () N32) ∗ pos0 c (some (3, i))) ∗ star (agOut i) (agRight c))
/-- What it leaves. -/
abbrev arrOut (c : Dev nD) (i : Fin 31) : sProp 𝕄 :=
  iprop((semVal (cell c (some (3, i))) 0 ∗ leaf I c i) ∗ star (agOut i) (agBack c))

theorem loop_agStep (c : Dev nD) (P : Act F PUnit) (Q : PUnit → sProp 𝕄) :
    iprop(known I K ∗ owing c (owe (oAg c) (all31.flatMap agOut)) ∗ star all31 (arrIn c))
      ⊢ iprop((iprop(owing c (owe (oAg c) (([] : List (Fin 31)).flatMap agOut)) ∗ star all31 (arrOut I c)) -∗ runs c P Q)
          -∗ runs c (each (fun k K => do agStep outM outW cc0_scratch4 cc0_scratch5 c k; K) all31 P) Q) :=
  runs_each c (known I K) (fun k K => do agStep outM outW cc0_scratch4 cc0_scratch5 c k; K)
    (fun l => owing c (owe (oAg c) (l.flatMap agOut))) _ _ all31
    (fun i l h P Q => step_agStep I K c i l h P Q) all31 (List.suffix_refl _) P Q

theorem loop_agDoneOwn (c : Dev nD) (P : Act F PUnit) (Q : PUnit → sProp 𝕄) :
    iprop(known I K ∗ owing c 0 ∗ star early (fun j => iprop(agBack c j ∗ pos0 c (some (2, j)))))
      ⊢ iprop((iprop(owing c 0 ∗ star early (fun j => iprop(agSrc I c j ∗ semVal (cell c (some (2, j))) 0))) -∗ runs c P Q)
          -∗ runs c (each (fun k K => do agDoneOwn outM outW cc0_scratch4 c k; K) early P) Q) :=
  runs_each c (known I K) (fun k K => do agDoneOwn outM outW cc0_scratch4 c k; K) (fun _ => owing c 0) _ _ early
    (fun j l _ P Q => step_agDone I K c j (M := outOwn outM c) (h₁ := outW.wordExact_slice rfl _ (k0_off130_wordsbf16 c))
      (h₂ := outW.wordExact_slice rfl _ (k0_off130_wordsbf16 c)) rfl P Q) early (List.suffix_refl _) P Q

theorem loop_agDone (c : Dev nD) (P : Act F PUnit) (Q : PUnit → sProp 𝕄) :
    iprop(known I K ∗ owing c 0 ∗ star later (fun j => iprop(agBack c j ∗ pos0 c (some (2, j)))))
      ⊢ iprop((iprop(owing c 0 ∗ star later (fun j => iprop(agSrc I c j ∗ semVal (cell c (some (2, j))) 0))) -∗ runs c P Q)
          -∗ runs c (each (fun k K => do agDone outM outW cc0_scratch4 c k; K) later P) Q) :=
  runs_each c (known I K) (fun k K => do agDone outM outW cc0_scratch4 c k; K) (fun _ => owing c 0) _ _ later
    (fun j l _ P Q => step_agDone I K c j (M := outAt outM c (agMask (agFrom j)))
      (h₁ := outW.wordExact_slice rfl _ (k0_off131_wordsbf16 c (agMask (agFrom j))))
      (h₂ := outW.wordExact_slice rfl _ (k0_off131_wordsbf16 c (agMask (agFrom j)))) rfl P Q) later (List.suffix_refl _) P Q

/-! ## What a device starts and ends with -/

/-- The places, tokens and credits a device starts with. -/
def start (c : Dev nD) : sProp 𝕄 :=
  iprop(cred (tallyAt (cell c none) () 31) ∗ pos0 c none
    ∗ star all31 (fun k => dutyTok ER (cell (peer k c) none) 0 k)
    ∗ star all31 (fun k => iprop(dutyTok ER (cell c (some (0, k))) 0 0 ∗ dutyTok ER (cell (peer k c) (some (1, k))) 0 0))
    ∗ star all31 (fun j => iprop(dutyTok ER (cell c (some (2, j))) 0 0 ∗ dutyTok ER (cell (xo (tgtMask j) c) (some (3, agCell j))) 0 0))
    ∗ star all31 (fun k => iprop(pos0 c (some (0, k)) ∗ cred (tallyAt (cell c (some (1, k))) () N16) ∗ pos0 c (some (1, k))))
    ∗ star all31 (fun j => pos0 c (some (2, j)))
    ∗ star all31 (fun i => iprop(cred (tallyAt (cell c (some (3, i))) () N32) ∗ pos0 c (some (3, i)))))

/-- All counters of a device's cells, at zero. -/
def zeros (c : Dev nD) : sProp 𝕄 :=
  iprop(semVal (cell c none) 0 ∗ star all31 (fun k => semVal (cell c (some (0, k))) 0) ∗ star all31 (fun k => semVal (cell c (some (1, k))) 0)
    ∗ star all31 (fun k => semVal (cell c (some (2, k))) 0) ∗ star all31 (fun k => semVal (cell c (some (3, k))) 0))

/-- What a device owes at the start. -/
def O₀ (c : Dev nD) : CellTallies nD τ sig Unit :=
  owe (oBar c) all31 + (owe (oRs 0 c) all31 + (owe (oRs 1 c) all31 + owe (oAg c) all31))

/-- The windows of device `c`, the output at `f`. -/
def windows (c : Dev nD) (f : Buf (Elt F) ((c : Thread nD τ).loc cc0_stg3_0)) : sProp 𝕄 :=
  iprop((((c : Thread nD τ).loc cc0_stg0_0) ↦{fullShare} I.x c) ∗ (((c : Thread nD τ).loc cc0_stg1_0) ↦{fullShare} I.idx c)
    ∗ (((c : Thread nD τ).loc cc0_stg2_0) ↦{fullShare} I.w c) ∗ (((c : Thread nD τ).loc cc0_stg3_0) ↦{fullShare} f))

theorem oRs_above (b : Fin 2) (c : Dev nD) (l : List (Fin 31)) :
    ∀ g u, 0 < owe (oRs b c) l g u → ∃ d o', g = cell d o' ∧ level (some none) < level (some o') := by
  intro g u hg
  obtain ⟨k, _, hp⟩ := owe_pos hg
  unfold oRs at hp
  by_cases h : rsCond b k c = 1#1
  · rw [if_pos h] at hp
    exact ⟨_, _, tally_pos hp, by show 1 < 2; decide⟩
  · rw [if_neg h] at hp; exact absurd hp (Nat.lt_irrefl 0)

theorem above_add {A B : CellTallies nD τ sig Unit} {n : ℕ}
    (hA : ∀ g u, 0 < A g u → ∃ d o', g = cell d o' ∧ n < level (some o'))
    (hB : ∀ g u, 0 < B g u → ∃ d o', g = cell d o' ∧ n < level (some o')) :
    ∀ g u, 0 < (A + B) g u → ∃ d o', g = cell d o' ∧ n < level (some o') := by
  intro g u h
  rw [Pi.add_apply, Finsupp.add_apply] at h
  rcases Nat.eq_zero_or_pos (A g u) with h0 | h0
  · rw [h0, Nat.zero_add] at h; exact hB g u h
  · exact hA g u h0

theorem mayBar (c : Dev nD) :
    known I K ⊢ MayWait (c : Thread nD τ) (.reg barSem) () (owe (oRs 0 c) all31 + (owe (oRs 1 c) all31 + owe (oAg c) all31)) :=
  mayWait I K c none _ (above_add (oRs_above 0 c _) (above_add (oRs_above 1 c _) (oAg_above c none _ fun j _ => by show 1 < _; omega)))

/-! ## The run -/

theorem sep_left (P Q R : sProp 𝕄) (h : P = Q) : iprop(P ∗ R) = iprop(Q ∗ R) := by rw [h]

/-- The rights of the two batches, from what the barrier hands over. -/
theorem rights_rs (c : Dev nD) :
    iprop(star all31 (fun k => recvAny (F := F) (peer k c) c.val)
        ∗ star all31 (fun k => iprop(dutyTok ER (cell c (some (0, k))) 0 0 ∗ dutyTok ER (cell (peer k c) (some (1, k))) 0 0)))
      ⊢ iprop(star all31 (fun k => if rsCond 0 k c = 1#1 then rsRight (F := F) c k else iprop(emp))
        ∗ star all31 (fun k => if rsCond 1 k c = 1#1 then rsRight (F := F) c k else iprop(emp))) := by
  rw [← star_sep, ← batches]; exact BI.Entails.refl _

/-- The credits of the two batches together. -/
theorem backs_rs (c : Dev nD) :
    iprop(star all31 (rsOut (F := F) 0 c) ∗ star all31 (rsOut (F := F) 1 c)) ⊢ star all31 (rsBack (F := F) c) := by
  rw [batches c (rsBack (F := F) c)]; exact BI.Entails.refl _

theorem rights_ag (c : Dev nD) :
    iprop(star all31 (fun j => outAny (F := F) (xo (tgtMask j) c) (seg (xo (srcMask j) c)).val)
        ∗ star all31 (fun j => iprop(dutyTok ER (cell c (some (2, j))) 0 0 ∗ dutyTok ER (cell (xo (tgtMask j) c) (some (3, agCell j))) 0 0)))
      ⊢ iprop(star early (agRight (F := F) c) ∗ star all31 (fun i => star (agOut i) (agRight (F := F) c))) := by
  rw [← star_sep, ← star_flatMap, flat_agOut, ← star_append]; exact BI.Entails.refl _

theorem give_in (c : Dev nD) :
    iprop(star all31 (fun k => dutyTok ER (cell (peer k c) none) 0 k) ∗ star all31 (fun k => recvAny (F := F) c (peer k c).val)
        ∗ star all31 fun i => outAny (F := F) c (seg (xo (blkMask i) c)).val)
      ⊢ star all31 (fun k => iprop(dutyTok ER (cell (peer k c) none) 0 k ∗ barPay (F := F) (peer k c) c)) := by
  rw [star_sep, give_eq]

theorem waits_in (c : Dev nD) :
    iprop(star all31 (rsBack (F := F) c)
        ∗ star all31 (fun k => iprop(pos0 c (some (0, k)) ∗ cred (tallyAt (cell c (some (1, k))) () N16) ∗ pos0 c (some (1, k)))))
      ⊢ star all31 (waitIn (F := F) c) := by
  rw [← star_sep]
theorem waits_out (c : Dev nD) :
    star all31 (waitOut I c) ⊢ iprop((star all31 (fun k => packPts I c (seg (peer k c)).val) ∗ star all31 (fun k => semVal (cell c (some (0, k))) 0))
      ∗ star all31 (fun k => recvPts I c (prev k c).val) ∗ star all31 (fun k => semVal (cell c (some (1, k))) 0)) := by
  unfold waitOut; rw [star_sep, star_sep, star_sep]
theorem arrs_in (c : Dev nD) :
    iprop(star all31 (fun i => iprop(cred (tallyAt (cell c (some (3, i))) () N32) ∗ pos0 c (some (3, i))))
        ∗ star all31 (fun i => star (agOut i) (agRight (F := F) c)))
      ⊢ star all31 (arrIn (F := F) c) := by
  rw [← star_sep]
theorem arrs_out (c : Dev nD) :
    star all31 (arrOut I c) ⊢ iprop((star all31 (fun k => semVal (cell c (some (3, k))) 0) ∗ star all31 (leaf I c)) ∗ star later (agBack (F := F) c)) := by
  unfold arrOut; rw [star_sep, star_sep, ← star_flatMap, flat_agOut]
theorem pos_split (c : Dev nD) :
    star all31 (fun j => pos0 (F := F) c (some (2, j))) ⊢ iprop(star early (fun j => pos0 c (some (2, j))) ∗ star later (fun j => pos0 c (some (2, j)))) := by
  rw [all31_split, star_append]
theorem zero_join (c : Dev nD) :
    iprop(star early (fun j => semVal (cell c (some (2, j))) 0) ∗ star later (fun j => semVal (cell c (some (2, j))) 0))
      ⊢ (star all31 (fun j => semVal (cell c (some (2, j))) 0) : sProp 𝕄) := by
  rw [all31_split, star_append]
theorem backs_out (c : Dev nD) :
    iprop(star early (agSrc I c) ∗ star later (agSrc I c) ∗ star all31 (leaf I c)) ⊢ (((c : Thread nD τ).loc cc0_stg3_0) ↦{fullShare} outC I) := by
  rw [← own_eq, out_whole, ← out_back, flat_agOut]
theorem join {l : List (Fin 31)} {Φ Ψ : Fin 31 → sProp 𝕄} : iprop(star l Φ ∗ star l Ψ) ⊢ star l (fun k => iprop(Φ k ∗ Ψ k)) := by
  rw [star_sep]
theorem split {l : List (Fin 31)} {Φ Ψ : Fin 31 → sProp 𝕄} : star l (fun k => iprop(Φ k ∗ Ψ k)) ⊢ iprop(star l Φ ∗ star l Ψ) := by
  rw [star_sep]
theorem lo_takes' (c : Dev nD) : iprop((((c : Thread nD τ).loc cc0_scratch0) ↦[rowsLo]{fullShare} packC I c)
      ∗ star all31 (fun k => if rsCond 0 k c = 1#1 then rsRight (F := F) c k else iprop(emp)))
    ⊢ iprop((if (seg c).val < 16 then packPts I c (seg c).val else iprop(emp)) ∗ star all31 (rsIn I 0 c)) := by
  rw [lo_takes, rsIn_eq]
  iintro ⟨⟨H1, H2⟩, H3⟩
  isplitl [H1]; · iexact H1
  isplitl [H2] <;> iassumption
theorem hi_takes' (c : Dev nD) : iprop((((c : Thread nD τ).loc cc0_scratch0) ↦[rowsHi]{fullShare} packC I c)
      ∗ star all31 (fun k => if rsCond 1 k c = 1#1 then rsRight (F := F) c k else iprop(emp)))
    ⊢ iprop((if ¬ (seg c).val < 16 then packPts I c (seg c).val else iprop(emp)) ∗ star all31 (rsIn I 1 c)) := by
  rw [hi_takes, rsIn_eq]
  iintro ⟨⟨H1, H2⟩, H3⟩
  isplitl [H1]; · iexact H1
  isplitl [H2] <;> iassumption

/-- What a device ends with. -/
def fin (c : Dev nD) : sProp 𝕄 :=
  iprop(zeros c ∗ (((c : Thread nD τ).loc cc0_scratch0) ↦{fullShare} packC I c) ∗ (((c : Thread nD τ).loc cc0_scratch1) ↦{fullShare} recvC I c))

set_option maxHeartbeats 1600000 in
/-- The body runs, on every device, from what it starts with to what it ends with. -/
theorem sound_prog (c : Dev nD) (Q : PUnit → sProp 𝕄) (f0 : Buf (Elt F) ((c : Thread nD τ).loc cc0_scratch0))
    (f1 : Buf (Elt F) ((c : Thread nD τ).loc cc0_scratch1)) (fo : Buf (Elt F) ((c : Thread nD τ).loc cc0_stg3_0)) :
    iprop(known I K ∗ owing c (O₀ c) ∗ start c ∗ (((c : Thread nD τ).loc cc0_scratch0) ↦{fullShare} f0)
        ∗ (((c : Thread nD τ).loc cc0_scratch1) ↦{fullShare} f1) ∗ windows I c fo)
      ⊢ iprop((iprop(owing c 0 ∗ fin I c ∗ windows I c (outC I)) -∗ Q ⟨⟩)
          -∗ runs c (prog (Memref.whole cc0_stg0_0) (Memref.whole cc0_stg1_0) (Memref.whole cc0_stg2_0) outM outW packM packW recvM recvW
            cc0_scratch2 cc0_scratch3 cc0_scratch4 cc0_scratch5) Q) := by
  unfold prog
  simp only [loadW, semWaitWord, Prog.lift, Prog.bind_op, Prog.bind_ret, Prog.pure_eq_ret, runs, wp_deviceId]
  unfold start windows O₀
  iintro ⟨#HK, HO, ⟨HcB, HpB, HtB, HtRs, HtAg, HinR, Hp2, HinA⟩, Hpk, Hrv, ⟨Hx, Hi, Hw, Hout⟩⟩ Hk
  ihave Hrv := (recv_give c f1) $$ Hrv
  icases Hrv with ⟨HrvO, HrvG⟩
  ihave Hout := (out_give c fo) $$ Hout
  icases Hout with ⟨HoutO, HoutG⟩
  ihave Hg := (give_in c) $$ [HtB HrvG HoutG]
  · isplitl [HtB]; · iexact HtB
    isplitl [HrvG] <;> iassumption
  iapply (loop_signal I K c _ _ Q) $$ [HO Hg]
  · isplitr; · iexact HK
    isplitl [HO] <;> iassumption
  rw [owe_nil, zero_add]
  iintro ⟨HO, -⟩
  iapply (load_idx c) $$ Hi; iintro Hi
  iapply (load_x c) $$ Hx; iintro Hx
  iapply (load_w I c 0 inb_S4x512x1024_S1x512x1024_0_0_0) $$ Hw; iintro Hw
  iapply (load_w I c 1 inb_S4x512x1024_S1x512x1024_1_0_0) $$ Hw; iintro Hw
  iapply (load_w I c 2 inb_S4x512x1024_S1x512x1024_2_0_0) $$ Hw; iintro Hw
  iapply (load_w I c 3 inb_S4x512x1024_S1x512x1024_3_0_0) $$ Hw; iintro Hw
  ihave Hpk := (pack_halves c f0) $$ Hpk
  icases Hpk with ⟨HpL, HpH⟩
  iapply (store_lo I c) $$ HpL; iintro HpL
  iapply (step_bar I K c _ (mayBar I K c) _ Q) $$ [HO HcB HpB]
  · isplitr; · iexact HK
    isplitl [HO]; · iexact HO
    isplitl [HcB] <;> iassumption
  iintro ⟨HO, HzB, Hget⟩
  ihave Hget := (Entails.of_eq (get_eq c)) $$ Hget
  icases Hget with ⟨HgR, HgA⟩
  ihave HR := (rights_rs c) $$ [HgR HtRs]
  · isplitl [HgR] <;> iassumption
  icases HR with ⟨HR0, HR1⟩
  ihave HL := (lo_takes' I c) $$ [HpL HR0]
  · isplitl [HpL] <;> iassumption
  icases HL with ⟨HownL, HL⟩
  iapply (loop_rsSend I K 0 c _ _ Q) $$ [HO HL]
  · isplitr; · iexact HK
    isplitl [HO] <;> iassumption
  rw [owe_nil, zero_add]
  iintro ⟨HO, Hb0⟩
  iapply (load_w I c 0 inb_S4x512x1024_S1x512x1024_0_0_0) $$ Hw; iintro Hw
  iapply (load_w I c 1 inb_S4x512x1024_S1x512x1024_1_0_0) $$ Hw; iintro Hw
  iapply (load_w I c 2 inb_S4x512x1024_S1x512x1024_2_0_0) $$ Hw; iintro Hw
  iapply (load_w I c 3 inb_S4x512x1024_S1x512x1024_3_0_0) $$ Hw; iintro Hw
  iapply (store_hi I c) $$ HpH; iintro HpH
  ihave HH := (hi_takes' I c) $$ [HpH HR1]
  · isplitl [HpH] <;> iassumption
  icases HH with ⟨HownH, HH⟩
  iapply (loop_rsSend I K 1 c _ _ Q) $$ [HO HH]
  · isplitr; · iexact HK
    isplitl [HO] <;> iassumption
  rw [owe_nil, zero_add]
  iintro ⟨HO, Hb1⟩
  ihave Hown := (Entails.of_eq (own_halves I c).symm) $$ [HownL HownH]
  · isplitl [HownL] <;> iassumption
  iapply (move_own I c (off125_eq c) (off126_eq c)) $$ [Hown HrvO]
  · isplitl [Hown] <;> iassumption
  iintro ⟨Hown, HrvO⟩
  ihave Hb := (backs_rs c) $$ [Hb0 Hb1]
  · isplitl [Hb0] <;> iassumption
  ihave HW := (waits_in c) $$ [Hb HinR]
  · isplitl [Hb] <;> iassumption
  iapply (loop_rsWait I K c _ Q) $$ [HO HW]
  · isplitr; · iexact HK
    isplitl [HO] <;> iassumption
  iintro ⟨HO, HW⟩
  ihave HW := (waits_out I c) $$ HW
  icases HW with ⟨⟨Hpk, Hz0⟩, Hrv, Hz1⟩
  ihave Hpk := (Entails.of_eq (pack_whole I c).symm) $$ [Hown Hpk]
  · isplitl [Hown] <;> iassumption
  ihave Hrv := (Entails.of_eq (recv_whole I c).symm) $$ [HrvO Hrv]
  · isplitl [HrvO] <;> iassumption
  iapply (load_got c) $$ Hrv; iintro Hrv
  iapply (store_out I c (off129_eq c)) $$ HoutO; iintro HoutO
  ihave HA := (rights_ag c) $$ [HgA HtAg]
  · isplitl [HgA] <;> iassumption
  icases HA with ⟨HA0, HA1⟩
  ihave HoutO := (Entails.of_eq (own_eq I c)) $$ HoutO
  ihave HA0 := join $$ [HoutO HA0]
  · isplitl [HoutO] <;> iassumption
  rw [all31_split, owe_append, ← all31_split]
  iapply (loop_agSendOwn I K c _ Q) $$ [HO HA0]
  · isplitr; · iexact HK
    isplitl [HO] <;> iassumption
  rw [owe_nil, zero_add]
  iintro ⟨HO, HbO⟩
  ihave HA1 := (arrs_in c) $$ [HinA HA1]
  · isplitl [HinA] <;> iassumption
  iapply (loop_agStep I K c _ Q) $$ [HO HA1]
  · isplitr; · iexact HK
    rw [flat_agOut]
    isplitl [HO] <;> iassumption
  rw [List.flatMap_nil, owe_nil]
  iintro ⟨HO, HA1⟩
  ihave HA1 := (arrs_out I c) $$ HA1
  icases HA1 with ⟨⟨Hz3, Hleaf⟩, HbL⟩
  ihave Hp2 := (pos_split c) $$ Hp2
  icases Hp2 with ⟨HpE, HpL⟩
  ihave HbO := join $$ [HbO HpE]
  · isplitl [HbO] <;> iassumption
  ihave HbL := join $$ [HbL HpL]
  · isplitl [HbL] <;> iassumption
  iapply (loop_agDoneOwn I K c _ Q) $$ [HO HbO]
  · isplitr; · iexact HK
    isplitl [HO] <;> iassumption
  iintro ⟨HO, HbO⟩
  iapply (loop_agDone I K c _ Q) $$ [HO HbL]
  · isplitr; · iexact HK
    isplitl [HO] <;> iassumption
  iintro ⟨HO, HbL⟩
  rw [runs, wp_ret]; imodintro
  iapply Hk
  isplitl [HO]; · iexact HO
  ihave HbO := split $$ HbO
  ihave HbL := split $$ HbL
  icases HbO with ⟨HsO, HzO⟩
  icases HbL with ⟨HsL, HzL⟩
  ihave Hout := (backs_out I c) $$ [HsO HsL Hleaf]
  · isplitl [HsO]; · iexact HsO
    isplitl [HsL] <;> iassumption
  ihave Hz2 := (zero_join c) $$ [HzO HzL]
  · isplitl [HzO] <;> iassumption
  unfold fin zeros
  isplitr [Hx Hi Hw Hout]
  · isplitr [Hpk Hrv]
    · isplitl [HzB]; · iexact HzB
      isplitl [Hz0]; · iexact Hz0
      isplitl [Hz1]; · iexact Hz1
      isplitl [Hz2] <;> iassumption
    isplitl [Hpk] <;> iassumption
  isplitl [Hx]; · iexact Hx
  isplitl [Hi]; · iexact Hi
  isplitl [Hw] <;> iassumption

end Cert.KernelIdeal.Run

end
-- ==== Proof.Obligation.lean ====
/-
  The body's obligation to the launch.

  What the launch hands a device's body and takes back from it, and that the body's run fits between the two.
-/
module

public import proofs.«01_k».proof.Proof.Body
public import proofs.«01_k».proof.Proof.Gen.KernelIdeal.Frame
public import Idealize.ShloMosaic.Lib.Pipeline.Launch
public import Idealize.ShloMosaic.Lib.Pipeline.Kit

@[expose] public section

set_option maxRecDepth 4096

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The data of the launch -/

/-- What the devices' windows hold, as the memory is at the start. -/
def ins : Ins F where
  x c := (win0_0.blk (0 : Fin 1)).view.read (Elt F) (m ((c : Thread nD τ).loc main_arg0))
  idx c := (win0_1.blk (0 : Fin 1)).view.read (Elt F) (m ((c : Thread nD τ).loc main_arg2))
  w c := (win0_2.blk (0 : Fin 1)).view.read (Elt F) (m ((c : Thread nD τ).loc main_arg3))

/-- What a device holds besides its windows before the body. -/
def Φ₀ (c : Dev nD) : sProp 𝕄 :=
  iprop(((∃ K, known (ins m) K) ∗ start c) ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def dats (_ : Fin 1) (c : Dev nD) : Dat τ (Elt F) Unit ℕ UU ℕ cfg0 c where
  A w := m ((cfg0.win w).arr.view.loc (c : Thread nD τ))
  after w _ := match w with
    | ⟨0, _⟩ => (ins m).x c
    | ⟨1, _⟩ => (ins m).idx c
    | ⟨2, _⟩ => (ins m).w c
    | ⟨3, _⟩ => outC (ins m)
  Φ t := match t with
    | ⟨0, _⟩ => Φ₀ m c
    | ⟨_ + 1, _⟩ => fin (ins m) c
  q _ := fullShare
  owed t := match t with
    | ⟨0, _⟩ => O₀ c
    | ⟨_ + 1, _⟩ => 0

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A window's staging buffer whole, at what equals `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def pre (c : Dev nD) : sProp 𝕄 :=
  iprop(Φ₀ m c ∗ (dats m 0 c).owesAt () t0_0.castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))
def post (c : Dev nD) : sProp 𝕄 :=
  iprop(fin (ins m) c ∗ (dats m 0 c).owesAt () t0_0.succ ∗ stg c cc0_stg0_0 ((ins m).x c) ∗ stg c cc0_stg1_0 ((ins m).idx c)
    ∗ stg c cc0_stg2_0 ((ins m).w c) ∗ stg c cc0_stg3_0 (outC (ins m)))

theorem before_0 (c : Dev nD) (d) : (dats m 0 c).before (0 : Fin 4) t0_0 d = (ins m).x c := by
  unfold Dat.before; rw [if_pos (fetch0_0 t0_0)]; rfl
theorem before_1 (c : Dev nD) (d) : (dats m 0 c).before (1 : Fin 4) t0_0 d = (ins m).idx c := by
  unfold Dat.before; rw [if_pos (fetch0_1 t0_0)]; rfl
theorem before_2 (c : Dev nD) (d) : (dats m 0 c).before (2 : Fin 4) t0_0 d = (ins m).w c := by
  unfold Dat.before; rw [if_pos (fetch0_2 t0_0)]; rfl

theorem sound (c : Dev nD) :
    pre m c ⊢ runs c (prog (F := F) (Memref.whole cc0_stg0_0) (Memref.whole cc0_stg1_0) (Memref.whole cc0_stg2_0) outM outW packM packW recvM recvW
            cc0_scratch2 cc0_scratch3 cc0_scratch4 cc0_scratch5) (fun _ => post m c) := by
  unfold pre Φ₀
  iintro ⟨⟨⟨⟨%K, #HK⟩, Hs⟩, ⟨%f0, Hp⟩, ⟨%f1, Hr⟩⟩, Ho, ⟨%d0, %g0, %h0, Hx⟩, ⟨%d1, %g1, %h1, Hi⟩, ⟨%d2, %g2, %h2, Hw⟩, ⟨%d3, %g3, %h3, Hout⟩⟩
  rw [before_0] at h0; rw [before_1] at h1; rw [before_2] at h2
  subst h0 h1 h2
  unfold Dat.owesAt Pipeline.owesWithin
  icases Ho with ⟨%W, %hW, HO⟩
  rw [show (dats m 0 c).owed t0_0.castSucc = O₀ c from rfl]
  iapply (sound_prog (ins m) K c (fun _ => post m c) f0 f1 g3) $$ [HO Hs Hp Hr Hx Hi Hw Hout]
  · isplitr; · iexact HK
    isplitl [HO]; · unfold owing; iexists W; iexact HO
    isplitl [Hs]; · iexact Hs
    isplitl [Hp]; · iexact Hp
    isplitl [Hr]; · iexact Hr
    unfold windows
    isplitl [Hx]; · iexact Hx
    isplitl [Hi]; · iexact Hi
    isplitl [Hw] <;> iassumption
  unfold windows owing
  iintro ⟨⟨%W', HO⟩, Hf, Hx, Hi, Hw, Hout⟩
  unfold post Dat.owesAt Pipeline.owesWithin
  rw [show (dats m 0 c).owed t0_0.succ = 0 from rfl]
  isplitl [Hf]; · iexact Hf
  isplitl [HO]
  · iexists W'
    isplitr; · ipureintro; exact fun _ _ => Or.inl trivial
    iexact HO
  isplitl [Hx]
  · iexists _; isplitr; · (ipureintro; rfl)
    iexact Hx
  isplitl [Hi]
  · iexists _; isplitr; · (ipureintro; rfl)
    iexact Hi
  isplitl [Hw]
  · iexists _; isplitr; · (ipureintro; rfl)
    iexact Hw
  iexists _; isplitr; · (ipureintro; rfl)
  iexact Hout

theorem body_obligation (c : Dev nD) : BodyObligation (dats (F := F) m 0 c) (defs₀ (F := F)) 𝒱₀ () Set.univ := fun t => by
  rw [fin_N0 t]
  rw [bigSep_W0, bigSep_W0]
  simp only [owns_whole]
  show pre m c ⊢ runs c (cc0_body (F := F) (Memref.whole cc0_stg0_0) (Memref.isWhole_whole _) (Memref.whole cc0_stg1_0) (Memref.isWhole_whole _)
      (Memref.whole cc0_stg2_0) (Memref.isWhole_whole _) outM outW packM packW recvM recvW
            cc0_scratch2 cc0_scratch3 cc0_scratch4 cc0_scratch5) (fun _ => post m c)
  rw [body_eq]
  exact sound m c

end Cert.KernelIdeal.Run

end
-- ==== Proof.Credit.lean ====
/-
  What the launch deals out: the cells' state, the tokens, and the credit of every wait.
-/
module

public import proofs.«01_k».proof.Proof.Obligation

@[expose] public section

set_option maxRecDepth 4096

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Families of cells -/

/-- A conjunction over all cells of a device, family by family. -/
theorem cells_eq (Φ : CellIx → sProp 𝕄) :
    bigSep Finset.univ Φ = iprop(Φ none ∗ star all31 (fun k => Φ (some (0, k))) ∗ star all31 (fun k => Φ (some (1, k)))
      ∗ star all31 (fun k => Φ (some (2, k))) ∗ star all31 (fun k => Φ (some (3, k)))) := by
  rw [bigSep_univ_at Φ none, show (Finset.univ : Finset CellIx).erase none = Finset.univ.map Function.Embedding.some from by decide +kernel, bigSep_map,
    BI.bigSep_univ_prod, bigSep_univ_eq_bigSepL [(0 : Fin 4), 1, 2, 3] (by decide) (by decide)]
  simp only [star_all31]
  rfl

/-- A conjunction over the own cells of a device, family by family. -/
theorem family_eq (Φ : Fin 4 × Fin 31 → sProp 𝕄) :
    bigSep Finset.univ Φ = iprop(star all31 (fun k => Φ (0, k)) ∗ star all31 (fun k => Φ (1, k))
      ∗ star all31 (fun k => Φ (2, k)) ∗ star all31 (fun k => Φ (3, k))) := by
  rw [BI.bigSep_univ_prod, bigSep_univ_eq_bigSepL [(0 : Fin 4), 1, 2, 3] (by decide) (by decide)]
  simp only [star_all31]
  rfl

/-- Shares dealt along one permutation of the devices per number. -/
theorem deal (e : Fin 31 → Dev nD ≃ Dev nD) (Φ : Dev nD → Fin 31 → sProp 𝕄) :
    (bigSep Finset.univ fun c : Dev nD => star all31 (Φ c)) = bigSep Finset.univ fun c : Dev nD => star all31 fun k => Φ (e k c) k := by
  simp only [star_all31]
  rw [bigSep_univ_comm, bigSep_univ_comm (fun (c : Dev nD) k => Φ (e k c) k)]
  exact bigSep_congr fun k _ => BI.bigSep_univ_equiv (e k) fun c => Φ c k

/-- A conjunction over the numbers, renumbered by the order in which a block is sent. -/
theorem renumber (Φ : Fin 31 → sProp 𝕄) : star all31 Φ = star all31 fun j => Φ (agCell j) := by
  simp only [star_all31]
  exact BI.bigSep_univ_equiv agEquiv Φ

/-! ## The tokens -/

/-- Which duty: of a device's barrier, or of its cell in a family. -/
abbrev TokIx : Type := Dev nD × Option (Fin 4) × Fin 31
/-- The cell and the duty a token stands for. -/
def tokOf (x : TokIx) : GSem nD τ sig × ℕ × Fin 31 :=
  match x with
  | (c, none, k) => (cell c none, 0, k)
  | (c, some a, k) => (cell c (some (a, k)), 0, 0)
theorem tokOf_injective : Function.Injective tokOf := by
  rintro ⟨c, _ | a, k⟩ ⟨c', _ | a', k'⟩ h
  · obtain ⟨rfl, -⟩ := cell_inj (congrArg (fun x => x.1) h)
    have : k = k' := congrArg (fun x => x.2.2) h
    rw [this]
  · exact absurd (cell_inj (congrArg (fun x => x.1) h)).2 (by simp)
  · exact absurd (cell_inj (congrArg (fun x => x.1) h)).2 (by simp)
  · obtain ⟨rfl, h2⟩ := cell_inj (congrArg (fun x => x.1) h)
    have := Option.some.inj h2
    rw [(Prod.mk.injEq ..).mp this |>.1, (Prod.mk.injEq ..).mp this |>.2]

theorem cellOf_injective : Function.Injective (fun x : Dev nD × CellIx => cell x.1 x.2) := by
  rintro ⟨c, o⟩ ⟨c', o'⟩ h
  obtain ⟨rfl, rfl⟩ := cell_inj h
  rfl

def allCells : Finset (GSem nD τ sig) := Finset.univ.map ⟨fun x : Dev nD × CellIx => cell x.1 x.2, cellOf_injective⟩
def allToks : Finset (GSem nD τ sig × ℕ × Fin 31) := Finset.univ.map ⟨tokOf, tokOf_injective⟩

/-- What the launch mints. -/
def u₀ : UU := (initOf (Pipeline.cells cfgs cellOf_inj) (Pipeline.launchToks cfgs cellOf_inj), initOf allCells allToks)

/-- The tokens of a device's own cells, -/
def toks (c : Dev nD) : sProp 𝕄 :=
  iprop(star all31 (fun k => dutyTok ER (cell c none) 0 k) ∗ star all31 (fun k => dutyTok ER (cell c (some (0, k))) 0 0)
    ∗ star all31 (fun k => dutyTok ER (cell c (some (1, k))) 0 0) ∗ star all31 (fun k => dutyTok ER (cell c (some (2, k))) 0 0)
    ∗ star all31 (fun k => dutyTok ER (cell c (some (3, k))) 0 0))

/-- and the tokens of the duties the device pays. -/
def payToks (c : Dev nD) : sProp 𝕄 :=
  iprop(star all31 (fun k => dutyTok ER (cell (peer k c) none) 0 k) ∗ star all31 (fun k => dutyTok ER (cell c (some (0, k))) 0 0)
    ∗ star all31 (fun k => dutyTok ER (cell (peer k c) (some (1, k))) 0 0) ∗ star all31 (fun k => dutyTok ER (cell c (some (2, k))) 0 0)
    ∗ star all31 (fun j => dutyTok ER (cell (xo (tgtMask j) c) (some (3, agCell j))) 0 0))

theorem toks_dealt : (bigSep Finset.univ fun c : Dev nD => (toks c : sProp 𝕄)) = bigSep Finset.univ fun c : Dev nD => payToks c := by
  unfold toks payToks
  simp only [BI.bigSep_sep']
  rw [deal peerEquiv (fun c k => (dutyTok ER (cell c none) 0 k : sProp 𝕄)), deal peerEquiv (fun c k => (dutyTok ER (cell c (some (1, k))) 0 0 : sProp 𝕄))]
  simp only [renumber (fun k => (dutyTok ER (cell _ (some (3, k))) 0 0 : sProp 𝕄))]
  rw [deal (fun j => xoEquiv (tgtMask j)) (fun c j => (dutyTok ER (cell c (some (3, agCell j))) 0 0 : sProp 𝕄))]
  rfl

/-- The tokens as minted, device by device. -/
theorem toks_eq : bigSep allToks (fun x => (dutyTok ER x.1 x.2.1 x.2.2 : sProp 𝕄)) = bigSep Finset.univ fun c : Dev nD => toks c := by
  unfold allToks
  rw [bigSep_map, BI.bigSep_univ_prod]
  refine bigSep_congr fun c _ => ?_
  rw [BI.bigSep_univ_prod, bigSep_univ_eq_bigSepL [none, some (0 : Fin 4), some 1, some 2, some 3] (by decide) (by decide)]
  unfold toks
  simp only [star_all31]
  rfl

/-! ## The credit of the waits -/

theorem semAt_injective : Function.Injective semAt := fun _ _ h => semAt_inj h

theorem list_sum {β : Type} [AddCommMonoid β] (f : Fin 31 → β) : (all31.map f).sum = ∑ k, f k := by
  rw [all31_eq, ← List.ofFn_eq_map, List.sum_ofFn]

/-- What all devices together owe a cell, where each pays `n` to the `k`-th neighbour's cell `t k`. -/
theorem total (e : Fin 31 → Dev nD ≃ Dev nD) (t : Fin 31 → CellIx) (n : ℕ) (c : Dev nD) (o : CellIx) :
    ∑ d : Dev nD, owe (fun k => (tallyAt (cell (e k d) (t k)) () n : CellTallies nD τ sig Unit)) all31 (cell c o) () = ∑ k, if t k = o then n else 0 := by
  have h (d : Dev nD) : owe (fun k => (tallyAt (cell (e k d) (t k)) () n : CellTallies nD τ sig Unit)) all31 (cell c o) ()
      = ∑ k, if e k d = c ∧ t k = o then n else 0 := by
    unfold owe
    rw [list_sum, Finset.sum_apply, Finsupp.finset_sum_apply]
    refine Finset.sum_congr rfl fun k _ => ?_
    rw [tallyAt_apply]
    refine if_congr ⟨fun h => ?_, fun h => ?_⟩ rfl rfl
    · obtain ⟨h1, h2⟩ := cell_inj h.1; exact ⟨h1.symm, h2.symm⟩
    · exact ⟨by rw [h.1, h.2], rfl⟩
  rw [Finset.sum_congr rfl fun d _ => h d, Finset.sum_comm]
  refine Finset.sum_congr rfl fun k _ => ?_
  rw [Equiv.sum_comp (e k) (fun d => if d = c ∧ t k = o then n else 0)]
  by_cases ht : t k = o
  · simp only [ht, and_true, if_true, Finset.sum_ite_eq', Finset.mem_univ]
  · simp only [ht, and_false, if_false, Finset.sum_const_zero]

/-- The two batches of products together: one copy per neighbour. -/
theorem rs_both (c : Dev nD) : owe (oRs 0 c) all31 + owe (oRs 1 c) all31
    = owe (fun k => (tallyAt (cell (peer k c) (some (1, k))) () N16 : CellTallies nD τ sig Unit)) all31 := by
  unfold owe
  rw [list_sum, list_sum, list_sum, ← Finset.sum_add_distrib]
  refine Finset.sum_congr rfl fun k _ => ?_
  unfold oRs
  by_cases h : (seg (peer k c)).val < 16
  · rw [if_pos ((rsCond_lo k c).mpr h), if_neg (fun h' => (rsCond_hi k c).mp h' h), add_zero]
  · rw [if_neg (fun h' => h ((rsCond_lo k c).mp h')), if_pos ((rsCond_hi k c).mpr h), zero_add]

theorem credit (c : Dev nD) (o : CellIx) :
    ∑ d : Dev nD, O₀ d (cell c o) () = (∑ _k : Fin 31, if none = o then 1 else 0)
      + ((∑ k : Fin 31, if some (1, k) = o then N16 else 0) + ∑ j : Fin 31, if some (3, agCell j) = o then N32 else 0) := by
  have h (d : Dev nD) : O₀ d (cell c o) () = owe (fun k => (tallyAt (cell (peerEquiv k d) none) () 1 : CellTallies nD τ sig Unit)) all31 (cell c o) ()
      + (owe (fun k => (tallyAt (cell (peerEquiv k d) (some (1, k))) () N16 : CellTallies nD τ sig Unit)) all31 (cell c o) ()
        + owe (fun j => (tallyAt (cell (xoEquiv (tgtMask j) d) (some (3, agCell j))) () N32 : CellTallies nD τ sig Unit)) all31 (cell c o) ()) := by
    unfold O₀
    rw [← add_assoc (owe (oRs 0 d) all31), rs_both]
    rfl
  rw [Finset.sum_congr rfl fun d _ => h d, Finset.sum_add_distrib, Finset.sum_add_distrib, total peerEquiv, total peerEquiv, total fun j => xoEquiv (tgtMask j)]

theorem credit_bar (c : Dev nD) : ∑ d : Dev nD, O₀ d (cell c none) () = 31 := by
  rw [credit]; simp
theorem credit_rs (c : Dev nD) (i : Fin 31) : ∑ d : Dev nD, O₀ d (cell c (some (1, i))) () = N16 := by
  rw [credit]; simp
theorem credit_ag (c : Dev nD) (i : Fin 31) : ∑ d : Dev nD, O₀ d (cell c (some (3, i))) () = N32 := by
  rw [credit]
  have : ∀ j, (some ((3 : Fin 4), agCell j) = some (3, i)) ↔ j = cellAg i := fun j =>
    ⟨fun h => by rw [← ((Prod.mk.injEq ..).mp (Option.some.inj h)).2, cellAg_agCell], fun h => by rw [h, agCell_cellAg]⟩
  simp only [this, Finset.sum_ite_eq', Finset.mem_univ, if_true]
  simp

theorem credit_of (c : Dev nD) (o : CellIx) (n : ℕ) (h : ∑ d : Dev nD, O₀ d (cell c o) () = n) :
    tallyOn (cell c o) (launchCredit (Pipeline.owing O₀) 0 (cell c o)) = (tallyAt (cell c o) () n : CellTallies nD τ sig Unit) := by
  unfold tallyAt
  refine congrArg _ (Finsupp.ext fun u => ?_)
  cases u
  rw [Pipeline.launchCredit_owing, Finsupp.single_eq_same, h]

/-- A device's credit at the start: of its barrier, and of every copy it is to receive. -/
theorem creds (c : Dev nD) : (Pipeline.launchCred O₀ c : sProp 𝕄)
    ⊢ iprop(cred (tallyAt (cell c none) () 31) ∗ star all31 (fun k => cred (tallyAt (cell c (some (1, k))) () N16))
      ∗ star all31 (fun i => cred (tallyAt (cell c (some (3, i))) () N32))) := by
  unfold Pipeline.launchCred
  refine (BI.bigSep_subset (Finset.subset_univ (Finset.univ.map ⟨semAt, semAt_injective⟩))).trans ?_
  rw [bigSep_map, cells_eq]
  show iprop(cred (tallyOn (cell c none) (launchCredit (Pipeline.owing O₀) 0 (cell c none)))
    ∗ star all31 (fun k => cred (tallyOn (cell c (some (0, k))) (launchCredit (Pipeline.owing O₀) 0 (cell c (some (0, k))))))
    ∗ star all31 (fun k => cred (tallyOn (cell c (some (1, k))) (launchCredit (Pipeline.owing O₀) 0 (cell c (some (1, k))))))
    ∗ star all31 (fun k => cred (tallyOn (cell c (some (2, k))) (launchCredit (Pipeline.owing O₀) 0 (cell c (some (2, k))))))
    ∗ star all31 (fun k => cred (tallyOn (cell c (some (3, k))) (launchCredit (Pipeline.owing O₀) 0 (cell c (some (3, k))))))) ⊢ _
  rw [credit_of c none 31 (credit_bar c), star_congr fun k _ => congrArg cred (credit_of c (some (1, k)) N16 (credit_rs c k)),
    star_congr fun k _ => congrArg cred (credit_of c (some (3, k)) N32 (credit_ag c k))]
  iintro ⟨H0, -, H1, -, H3⟩
  isplitl [H0]; · iexact H0
  isplitl [H1] <;> iassumption

end Cert.KernelIdeal.Run

end
-- ==== Proof.Launch.lean ====
/-
  The launch: from any memory the kernel runs to its end on every device, its inputs unchanged and its counters at zero.
-/
module

public import proofs.«01_k».proof.Proof.Credit
public import Idealize.ShloMosaic.Lib.Pipeline.CollectiveSegs

@[expose] public section

set_option maxRecDepth 4096

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

/-- The kernel's own semaphores: the four families. -/
abbrev osem (x : Fin 4 × Fin 31) : SemLoc sig := semAt (some x)
theorem ownSemFacts : Pipeline.OwnSemFacts cfg0.spec osem := by decide +kernel

theorem share_eq (c : Dev nD) (w : Fin cfg0.W) : (dats m 0 c).share w = fullShare := by unfold Dat.share; split <;> rfl

/-! ## The protocol set up -/

/-- What the launch deals a device, -/
def G (c : Dev nD) : sProp 𝕄 :=
  iprop((bigSep Finset.univ fun o : CellIx => roundState ER (sched (ins m)) (cell c o) 0)
    ∗ (bigSep Finset.univ fun o : CellIx => iprop(pos0 c o ∗ reached ER (cell c o) 0)) ∗ toks c)

/-- and what it then holds: the protocol known, its positions, and the tokens it pays with. -/
def linear (c : Dev nD) : sProp 𝕄 := iprop((bigSep Finset.univ fun o : CellIx => pos0 c o) ∗ payToks c)
/-- The protocol in force, the levels still to come. -/
def inForce (K : Dev nD × CellIx → ℕ) : sProp 𝕄 :=
  iprop((bigSep Finset.univ fun ck : Dev nD × CellIx => cellInv ER (sched (ins m)) (K ck) (cell ck.1 ck.2))
    ∗ bigSep Finset.univ fun ck : Dev nD × CellIx => reached ER (cell ck.1 ck.2) 0)
instance inForce_persistent (K : Dev nD × CellIx → ℕ) : BI.Persistent (inForce m K) := by unfold inForce; infer_instance
def G' (c : Dev nD) : sProp 𝕄 := iprop(∃ K, inForce m K ∗ linear c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun o : CellIx => Φ (cell c o) := by
    unfold allCells; rw [bigSep_map, BI.bigSep_univ_prod]; rfl
  iintro HX
  imod (Rounds.fund ER (sched (ins m)) allCells allToks) $$ HX with ⟨Hst, Hr, Hat, Htok⟩
  imodintro
  ihave Hst' := (Entails.of_eq (hX fun g => roundState ER (sched (ins m)) g 0)) $$ Hst
  ihave Hat' := (Entails.of_eq (hX fun g => atPos ER g 0 ∅ 0)) $$ Hat
  ihave Hr' := (Entails.of_eq (hX fun g => reached ER g 0)) $$ Hr
  ihave Htok' := (Entails.of_eq toks_eq) $$ Htok
  unfold G; simp only [BI.bigSep_sep']
  isplitl [Hst']; · iexact Hst'
  isplitl [Hat' Hr']
  · isplitl [Hat'] <;> iassumption
  iexact Htok'

theorem unscopedSems_eq (c : Dev nD) : (unscopedSems0 c : sProp 𝕄) = semVal (cell c none) 0 := by
  unfold unscopedSems0; rw [bigSep_eq_bigSepL_of_eq [semAt none] (by decide +kernel) (by decide)]; rfl

theorem sems_eq (c : Dev nD) :
    iprop(Pipeline.ownSems0 (Ix := Unit) (Name := ℕ) (U := UU) (Lvl := ℕ) (Val := Elt F) (τ := τ) osem c ∗ unscopedSems0 c)
      ⊢ (bigSep Finset.univ fun o : CellIx => semVal (cell c o) 0 : sProp 𝕄) := by
  rw [unscopedSems_eq, cells_eq]
  unfold Pipeline.ownSems0
  rw [family_eq]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun o : CellIx => iprop(∃ κ : ℕ, cellInv ER (sched (ins m)) κ (cell c o)))
          ∗ (bigSep Finset.univ fun o : CellIx => iprop(pos0 c o ∗ reached ER (cell c o) 0)) ∗ toks c) := by
  unfold G
  iintro ⟨Hos, Hus, Hst, Hat, Htok⟩
  ihave Hv := (sems_eq (F := F) c) $$ [Hos Hus]
  · isplitl [Hos] <;> iassumption
  imod (show iprop((bigSep Finset.univ fun o : CellIx => semVal (cell c o) 0) ∗ bigSep Finset.univ fun o : CellIx => roundState ER (sched (ins m)) (cell c o) 0)
      ⊢ (|={Set.univ}=> bigSep Finset.univ fun o : CellIx => iprop(∃ κ : ℕ, cellInv ER (sched (ins m)) κ (cell c o)) : sProp 𝕄) from by
        rw [← BI.bigSep_sep']
        exact (bigSep_mono fun o _ => (Rounds.body_intro ER (sched (ins m)) (cell c o)).trans inv_alloc).trans (bigSep_fupd _ _)) $$ [Hv Hst] with Hinv
  · isplitl [Hv] <;> iassumption
  imodintro
  isplitl [Hinv]; · iexact Hinv
  isplitl [Hat]; · iexact Hat
  iexact Htok

/-- What is known to hold may be had with every conjunct. -/
theorem with_known {ι : Type} [DecidableEq ι] {S : Finset ι} {R : sProp 𝕄} [BI.Persistent R] {Φ Ψ : ι → sProp 𝕄}
    (h : ∀ i ∈ S, iprop(R ∗ Φ i) ⊢ Ψ i) : iprop(R ∗ bigSep S Φ) ⊢ bigSep S Ψ := by
  refine BIBase.Entails.trans ?_ (bigSep_mono h)
  rw [BI.bigSep_sep']
  iintro ⟨HR, HS⟩
  isplitl [HR]
  · iapply (BI.bigSep_of_persistent S R); iexact HR
  iexact HS

theorem regroup :
    (bigSep Finset.univ fun c : Dev nD => iprop((bigSep Finset.univ fun o : CellIx => iprop(∃ κ : ℕ, cellInv ER (sched (ins m)) κ (cell c o)))
          ∗ (bigSep Finset.univ fun o : CellIx => iprop(pos0 c o ∗ reached ER (cell c o) 0)) ∗ toks c) : sProp 𝕄)
      ⊢ bigSep Finset.univ (G' m) := by
  rw [BI.bigSep_sep', BI.bigSep_sep', ← BI.bigSep_univ_prod (fun ck : Dev nD × CellIx => iprop(∃ κ : ℕ, cellInv ER (sched (ins m)) κ (cell ck.1 ck.2))),
    bigSep_congr (s := Finset.univ) (fun (c : Dev nD) _ => BI.bigSep_sep' Finset.univ (fun o : CellIx => (pos0 c o : sProp 𝕄)) (fun o => reached ER (cell c o) 0)),
    BI.bigSep_sep', ← BI.bigSep_univ_prod (fun ck : Dev nD × CellIx => (reached ER (cell ck.1 ck.2) 0 : sProp 𝕄)), toks_dealt]
  iintro ⟨HI, ⟨Hat, #HR⟩, Htok⟩
  ihave HK := (BI.bigSep_exists_pi Finset.univ (fun (ck : Dev nD × CellIx) (κ : ℕ) => (cellInv ER (sched (ins m)) κ (cell ck.1 ck.2) : sProp 𝕄))) $$ HI
  icases HK with ⟨%K, #HI⟩
  iapply (with_known (R := inForce m K) (Φ := linear) (Ψ := G' m) fun c _ => by
    unfold G'
    iintro ⟨HR, HL⟩
    iexists K
    isplitl [HR] <;> iassumption)
  isplitr
  · unfold inForce; isplitl; · iexact HI
    iexact HR
  · unfold linear
    rw [BI.bigSep_sep']
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## Into the body and out of it -/

/-- The buffers outside the windows, as they are at the start. -/
abbrev rest (c : Dev nD) : sProp 𝕄 := Pipeline.unscopedRestP Pipeline.Prefetch.none cfg0.spec c (fun b => m ((c : Thread nD τ).loc b))
/-- What a device enters the body with. -/
def enter (c : Dev nD) : sProp 𝕄 := iprop((∃ K, known (ins m) K) ∗ start c)

theorem enter_of (K : Dev nD × CellIx → ℕ) (c : Dev nD) :
    iprop(inForce m K ∗ levAts L lv ∗ linear c ∗ Pipeline.launchCred O₀ c) ⊢ enter m c := by
  unfold enter known inForce linear payToks start
  rw [cells_eq]
  simp only [star_sep]
  iintro ⟨⟨HI, HR⟩, HL, ⟨⟨P, P0, P1, P2, P3⟩, T, T0, T1, T2, T3⟩, Hc⟩
  ihave Hc' := (creds (F := F) c) $$ Hc
  icases Hc' with ⟨C, C1, C3⟩
  isplitl [HI HR HL]
  · iexists K
    isplitl [HI]; · iexact HI
    isplitl [HR] <;> iassumption
  isplitl [C]; · iexact C
  isplitl [P]; · iexact P
  isplitl [T]; · iexact T
  isplitl [T0 T1]
  · isplitl [T0] <;> iassumption
  isplitl [T2 T3]
  · isplitl [T2] <;> iassumption
  isplitl [P0 C1 P1]
  · isplitl [P0]; · iexact P0
    isplitl [C1] <;> iassumption
  isplitl [P2]; · iexact P2
  isplitl [C3] <;> iassumption

theorem start_intro (c : Dev nD) :
    iprop(rest m c ∗ levAts L lv ∗ Pipeline.launchCred O₀ c ∗ prngReg c (ρ c) ∗ G' m c) ⊢ |={Set.univ}=> iprop(enter m c ∗ rest m c) := by
  unfold G'
  iintro ⟨HU, Hlev, Hcr, -, ⟨%K, HF, HL⟩⟩
  imodintro
  isplitr [HU]
  · iapply (enter_of m K c)
    isplitl [HF]; · iexact HF
    isplitl [Hlev]; · iexact Hlev
    isplitl [HL] <;> iassumption
  · iexact HU

theorem body_in (c : Dev nD) :
    iprop(enter m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, show cfg0.spec = spec0 from rfl, scopedRest0_eq]
  unfold Φ₀ enter
  iintro ⟨Hs, -, H0, H1⟩
  isplitl [Hs]; · iexact Hs
  isplitl [H0] <;> iassumption

theorem body_out (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = fin (ins m) c from rfl, show cfg0.spec = spec0 from rfl, scopedRest0_eq, unscopedSems_eq]
  unfold Pipeline.ownSems0
  rw [family_eq]
  unfold fin zeros
  iintro ⟨⟨HB, HS⟩, H0, H1⟩
  isplitl [HB]; · iexact HB
  isplitl [HS]; · iexact HS
  isplitl [H0]
  · iexists _; iexact H0
  iexists _; iexact H1

/-! ## Waiting on the staging cells -/

theorem lev_bar : 1 ≤ level (some none) := by decide +kernel
theorem lev_rs : ∀ k : Fin 31, 1 ≤ level (some (some (1, k))) := by decide +kernel
theorem lev_ag : ∀ k : Fin 31, 1 ≤ level (some (some (3, k))) := by decide +kernel
/-- Everything a device owes lies above the staging cells. -/
theorem owed_above (c : Dev nD) (g : GSem nD τ sig) (u : Unit) (h : 0 < O₀ c g u) : L g = {()} ∧ 1 ≤ lv g () := by
  have key (d : Dev nD) (o : CellIx) (ho : 1 ≤ level (some o)) (hg : g = cell d o) : L g = {()} ∧ 1 ≤ lv g () := by
    subst hg
    exact ⟨L_tc d _, ho.trans_eq (lv_cell d o).symm⟩
  unfold O₀ at h
  simp only [Pi.add_apply, Finsupp.add_apply] at h
  have h' : 0 < owe (oBar c) all31 g u ∨ 0 < owe (oRs 0 c) all31 g u ∨ 0 < owe (oRs 1 c) all31 g u ∨ 0 < owe (oAg c) all31 g u := by omega
  have rs (b : Fin 2) (h : 0 < owe (oRs b c) all31 g u) : L g = {()} ∧ 1 ≤ lv g () := by
    obtain ⟨k, -, hk⟩ := owe_pos h
    unfold oRs at hk
    split at hk
    · exact key _ _ (lev_rs k) (tally_pos hk)
    · exact absurd hk (Nat.lt_irrefl 0)
  rcases h' with h | h | h | h
  · obtain ⟨k, -, hk⟩ := owe_pos h; exact key _ _ lev_bar (tally_pos hk)
  · exact rs 0 h
  · exact rs 1 h
  · obtain ⟨k, -, hk⟩ := owe_pos h; exact key _ _ (lev_ag _) (tally_pos hk)

theorem mayWait_stage (c : Dev nD) (sm : SemLoc sig) (h : kind sm = none) (O : CellTallies nD τ sig Unit) (hO : O = 0 ∨ O = O₀ c) :
    (levAts L lv : sProp 𝕄) ⊢ MayWait (c : Thread nD τ) sm () O := by
  have hl : level none = 0 := by decide +kernel
  refine MayOwe.of_cut (L := L) (lev := lv) 0
    (fun p hp => by rw [Finset.mem_singleton.mp hp, L_tc]; exact Finset.mem_singleton_self _)
    (fun g u hg => ?_)
    (fun p hp => by rw [Finset.mem_singleton.mp hp]; show level (kind sm) ≤ 0; rw [h, hl])
    (fun g u hg => ?_)
  · rcases hO with rfl | rfl
    · exact absurd hg (Nat.lt_irrefl 0)
    · rw [(owed_above c g u hg).1]; exact Finset.mem_singleton_self _
  · rcases hO with rfl | rfl
    · exact absurd hg (Nat.lt_irrefl 0)
    · exact (owed_above c g u hg).2

theorem waits (c : Dev nD) : (levAts L lv : sProp 𝕄) ⊢ Pipeline.cellsWaits cfgs (dats m) () 0 c :=
  Pipeline.cellsWaits_intro cfgs (dats m) () 0 c fun w s t =>
    mayWait_stage c _ (by revert w s; decide +kernel) _ (by
      rcases t with ⟨_ | _, ht⟩
      · exact Or.inr rfl
      · exact Or.inl rfl)

/-! ## The run -/

/-- A window's array after the run. -/
def finalA (c : Dev nD) (w : Fin cfg0.W) : Buf (Elt F) ((cfg0.win w).arr.view.loc (c : Thread nD τ)) := (dats m 0 c).arrAt w cfg0.N

/-- Every window's array is as computed, and what is no window's is as it was. -/
def QC : PUnit × MemSt nD τ sig (Elt F) → Prop := fun r =>
  ∀ c : Dev nD, (∀ w : Fin cfg0.W, r.2.mem ((cfg0.win w).arr.view.loc (c : Thread nD τ)) = finalA m c w)
    ∧ r.2.mem ((c : Thread nD τ).loc main_arg1) = m ((c : Thread nD τ).loc main_arg1)

theorem arg1_rest : main_arg1 ∈ Pipeline.restRefsP sig Pipeline.Prefetch.none cfg0.spec := by decide +kernel

theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := enter m) (Y := fun c => unscopedSems0 c) (Z := rest m)
    (hX := start_intro m ρ) (hin := body_in m) (hout := body_out m)
    (QY := fun c s => (∀ sm : SemLoc sig, sm.isScoped .tc = false → s.sem ((c.tc : Thread nD τ), sm) = 0)
      ∧ ∀ b ∈ Pipeline.restRefsP sig Pipeline.Prefetch.none cfg0.spec, s.mem ((c.tc : Thread nD τ).loc b) = m ((c : Thread nD τ).loc b))
    (hY := fun c s' => by
      unfold rest Pipeline.unscopedRestP
      iintro ⟨Hu, HU, HSI⟩
      imod (Pipeline.unscopedSems0_read (X := unscopedSems0 c) (c := c) fupd_intro s') $$ [Hu HSI] with ⟨%h1, HSI⟩
      · isplitl [Hu] <;> iassumption
      imodintro
      ihave H := (pointsTo_read_all (Pipeline.restRefsP sig Pipeline.Prefetch.none cfg0.spec) (fun b => (c.tc : Thread nD τ).loc b)
        (fun b => m ((c : Thread nD τ).loc b)) s') $$ [HU HSI]
      · isplitl [HU] <;> iassumption
      icases H with ⟨%h2, HSI⟩
      isplitr
      · ipureintro; exact ⟨h1, h2⟩
      iexact HSI)
    (hQ := fun _ h hs => ⟨fun c => ⟨fun w => (h c).1 w, (h c).2.2.2 main_arg1 arg1_rest⟩, sem_eq_zero hs fun c => (h c).2.2.1⟩)

/-- The arrays of the three inputs hold what they held. -/
theorem finalA_x (c : Dev nD) : finalA m c (0 : Fin 4) = m ((c : Thread nD τ).loc main_arg0) := (dats m 0 c).arrAt_in (0 : Fin 4) rfl _
theorem finalA_idx (c : Dev nD) : finalA m c (1 : Fin 4) = m ((c : Thread nD τ).loc main_arg2) := (dats m 0 c).arrAt_in (1 : Fin 4) rfl _
theorem finalA_w (c : Dev nD) : finalA m c (2 : Fin 4) = m ((c : Thread nD τ).loc main_arg3) := (dats m 0 c).arrAt_in (2 : Fin 4) rfl _

end Cert.KernelIdeal.Run

end
-- ==== Proof.Frames.lean ====
/-
  The frames: each program runs to its end, its arguments unchanged and its counters at zero.
-/
module

public import proofs.«01_k».proof.Defs
public import proofs.«01_k».proof.Proof.Launch
public import proofs.«01_k».proof.Proof.Gen.Kernel
public import proofs.«01_k».proof.Proof.Gen.ReferenceIdeal.Run

@[expose] public section

set_option maxRecDepth 4096

noncomputable section

namespace Cert.Frames

open Idealize.ShloMosaic Idealize.ShloMosaic.TcCoe Idealize.SL.Sem

instance : Cert.Kernel.Facts := Cert.Kernel.Gen.facts
instance : Cert.KernelIdeal.Facts := Cert.KernelIdeal.Gen.facts
instance : Cert.ReferenceIdeal.Facts := Cert.ReferenceIdeal.Gen.facts

open Cert.KernelIdeal Cert.KernelIdeal.Run in
/-- The kernel's frame, for any float values. -/
theorem frame_any {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono
    (fun _ h => ⟨fun c => ⟨((h.1 c).1 (0 : Fin 4)).trans (finalA_x m c), (h.1 c).2, ((h.1 c).1 (1 : Fin 4)).trans (finalA_idx m c),
      ((h.1 c).1 (2 : Fin 4)).trans (finalA_w m c)⟩, h.2⟩)
    (run_main m ρ)

theorem frame_ideal : Cert.quiescent_KernelIdeal := fun m ρ _ => frame_any (F := Ideal) m ρ

/-- The two programs have one text. -/
theorem defs_eq : Cert.KernelIdeal.defs (F := Bits) = Cert.Kernel.defs (F := Bits) := by
  unfold Cert.Kernel.defs Cert.KernelIdeal.defs
  refine congrArg (Pipeline.defs (Cert.KernelIdeal.pcfgs (F := Bits))) ?_
  unfold Cert.Kernel.defs₀ Cert.KernelIdeal.defs₀
  refine congrArg Defs.onTc ?_
  funext ℓ x
  match ℓ with
  | 0 => rfl
  | ⟨_ + 1, h⟩ => exact absurd h (Nat.not_lt.2 (Nat.le_add_left _ _))

theorem frame_kernel : Cert.quiescent_Kernel := fun m ρ _ => by
  have h := frame_any (F := Bits) m ρ
  rw [defs_eq] at h
  exact h

/-- The reference has no semaphores. -/
theorem no_sems (sm : SemLoc Cert.ReferenceIdeal.sig) : False := by
  cases sm with
  | reg s => exact s.elim0
  | dma s => exact s.elim0

theorem frame_reference : Cert.quiescent_ReferenceIdeal := fun m ρ _ =>
  (θ_run Cert.ReferenceIdeal.defs _ _).mono
    (fun _ h => ⟨fun c => (h c).2, funext fun g => (no_sems g.2).elim⟩)
    (Cert.ReferenceIdeal.Value.run (F := Ideal) m ρ)

end Cert.Frames

end
-- ==== Proof.Tokens.lean ====
/-
  The tokens, and the slots they are packed into.

  Token `32 * g + u` is number `u` of segment `g`. Its expert belongs to one device, its owner, and its rank is the number
  of tokens before it in its segment with the same owner. At most sixteen tokens of a segment have the same owner, so the
  pair of segment and rank names a row of the owner's buffer of 512 rows.
-/
module

public import proofs.«01_k».proof.Proof.Program
public import Idealize.ShloMosaic.Lib.ValueIdx
public import Idealize.ShloMosaic.Lib.ValueLayoutCasts
public import Idealize.ShloMosaic.Lib.MatmulPlain
public import Idealize.ShloMosaic.Lib.Pipeline.Value
public import Idealize.ShloMosaic.Lib.IdealHost

@[expose] public section

set_option maxRecDepth 4096

noncomputable section

namespace Cert.KernelIdeal.Run

open Cert.KernelIdeal Cert.KernelIdeal.Gen
open Idealize.ShloMosaic Idealize.ShloMosaic.ValueIdx Idealize.SL.Sem
open scoped BigOperators

/-! ## Words and bits as reals -/

/-- A word below the sign bit is its number. -/
theorem real_word (w : BitVec 32) (h : w.toNat < 2 ^ 31) : FloatOps.sitofp (F := Ideal) .f32 w = ((w.toNat : ℕ) : EReal) := by
  show ((w.toInt : ℝ) : EReal) = _
  rw [BitVec.toInt_eq_toNat_of_lt (by omega), Int.cast_natCast]
  rfl

/-- A bit is one where its condition holds and zero elsewhere. -/
theorem real_bit (a : BitVec 1) (p : Prop) [Decidable p] (h : a = 1#1 ↔ p) :
    FloatOps.sitofp (F := Ideal) .f32 (a.setWidth 32) = if p then (1 : EReal) else 0 := by
  rw [real_word _ ((by decide : ∀ a : BitVec 1, (a.setWidth 32).toNat < 2 ^ 31) a)]
  by_cases hp : p
  · rw [if_pos hp, h.mpr hp]; simp
  · rw [if_neg hp, eq_zero_of_ne_one fun e => hp (h.mp e)]; simp

theorem bit_eq (a b : EReal) : FloatOps.cmpf (F := Ideal) (φ := .f32) .oeq a b = 1#1 ↔ a = b := by
  rw [Ideal.cmpf_def, Ideal.cmp]; by_cases h : a = b <;> simp [h]
theorem bit_lt (a b : EReal) : FloatOps.cmpf (F := Ideal) (φ := .f32) .olt a b = 1#1 ↔ a < b := by
  rw [Ideal.cmpf_def, Ideal.cmp]; by_cases h : a < b <;> simp [h]
theorem bit_gt (a b : EReal) : FloatOps.cmpf (F := Ideal) (φ := .f32) .ogt a b = 1#1 ↔ b < a := by
  rw [Ideal.cmpf_def, Ideal.cmp]; by_cases h : b < a <;> simp [h]
theorem bit_word (a b : BitVec 32) : IntOp.cmpi .eq a b = 1#1 ↔ a.toNat = b.toNat := by
  rw [BitVec.toNat_inj]; unfold IntOp.cmpi
  by_cases h : a = b
  · simp [h]
  · have e : (a == b) = false := beq_eq_false_iff_ne.mpr h
    simp [e, h]
theorem bit_iota (a b : ℕ) (ha : a < 2 ^ 31) (hb : b < 2 ^ 31) :
    IntOp.cmpi .slt (BitVec.ofNat 32 a) (BitVec.ofNat 32 b) = 1#1 ↔ a < b := by
  have h : (BitVec.ofNat 32 a).slt (BitVec.ofNat 32 b) = decide (a < b) := by
    rw [BitVec.slt, BitVec.toInt_eq_toNat_of_lt (by simp; omega), BitVec.toInt_eq_toNat_of_lt (by simp; omega)]
    have e1 : a % 4294967296 = a := by omega
    have e2 : b % 4294967296 = b := by omega
    simp [e1, e2]
  unfold IntOp.cmpi; simp only [h]; by_cases h : a < b <;> simp [h]

theorem half_f32 : Ideal.ofBits .f32 0x3F000000#32 = ((1 / 2 : ℝ) : EReal) := by
  simp [Ideal.ofBits, Ideal.ieee]; rw [← EReal.coe_mul]; norm_num
theorem sixteen_f32 : Ideal.ofBits .f32 0x41800000#32 = ((16 : ℕ) : EReal) := by
  show _ = ((((16 : ℕ) : ℝ)) : EReal)
  simp [Ideal.ofBits, Ideal.ieee]; rw [← EReal.coe_mul]; norm_num
theorem far_f32 : Ideal.ofBits .f32 0x44800000#32 = ((1024 : ℕ) : EReal) := by
  show _ = ((((1024 : ℕ) : ℝ)) : EReal)
  simp [Ideal.ofBits, Ideal.ieee]; rw [← EReal.coe_mul]; norm_num

/-- The sum over one row of zeros and a single one. -/
theorem sum_pick {ι : Type} [Fintype ι] [DecidableEq ι] (i : ι) (f : ι → EReal) :
    ∑ t, (if t = i then (1 : EReal) else 0) * f t = f i := by
  rw [Finset.sum_eq_single i]
  · rw [if_pos rfl, one_mul]
  · intro t _ h; rw [if_neg h, zero_mul]
  · intro h; exact absurd (Finset.mem_univ i) h

/-- The number of places where two conditions hold. -/
theorem sum_count {ι : Type} [Fintype ι] (p q : ι → Prop) [DecidablePred p] [DecidablePred q] :
    ∑ t, (if p t then (1 : EReal) else 0) * (if q t then 1 else 0)
      = (((Finset.univ.filter fun t => p t ∧ q t).card : ℕ) : EReal) := by
  rw [Finset.natCast_card_filter]
  refine Finset.sum_congr rfl fun t _ => ?_
  by_cases hp : p t <;> by_cases hq : q t <;> simp [hp, hq]

/-- A product accumulated into zero, read at an entry. -/
theorem mm {M K N : ℕ} {φ₁ φ₂ : FTy} (A : FVec Ideal ⟨2, ![M, K]⟩ φ₁) (B : FVec Ideal ⟨2, ![K, N]⟩ φ₂) (r : Fin M) (c : Fin N) :
    FloatOps.matmul (DotDims.plain M K N) none A B (constant ⟨2, ![M, N]⟩ .f32 0x00000000#32) (ix2 r c)
      = ∑ k : Fin K, A (ix2 r k) * B (ix2 k c) := by
  rw [Ideal.matmul_plain_apply]
  show Ideal.ofBits .f32 0x00000000#32 + _ = _
  rw [Ideal.ofBits_zero_f32, zero_add]

/-! ## Tokens -/

variable (idx : IVec S1024x1 32)

/-- Token `u` of segment `g`. -/
def tok (g u : Fin 32) : Fin 1024 := ⟨32 * g.val + u.val, by omega⟩
/-- The number of a token's expert. -/
def num (i : Fin 1024) : ℕ := (idx (ix2 i (0 : Fin 1))).toNat
/-- The device that holds it. -/
def own (g u : Fin 32) : ℕ := num idx (tok g u) / 4
/-- How many tokens before `u` in segment `g` are for device `p`. -/
def rk (p : ℕ) (g u : Fin 32) : ℕ := (Finset.univ.filter fun v : Fin 32 => own idx g v = p ∧ v < u).card

/-- Every expert exists, and no segment has more than sixteen tokens for one device. -/
structure Routed : Prop where
  lt : ∀ i, num idx i < 128
  cap : ∀ g p : Fin 32, (Finset.univ.filter fun u : Fin 32 => own idx g u = p.val).card ≤ 16

variable {idx}

theorem Routed.own_lt (h : Routed idx) (g u : Fin 32) : own idx g u < 32 := by
  have := h.lt (tok g u); unfold own; omega

theorem Routed.rk_lt (h : Routed idx) {p : ℕ} {g u : Fin 32} (hp : own idx g u = p) : rk idx p g u < 16 := by
  have hlt : p < 32 := hp ▸ h.own_lt g u
  refine lt_of_lt_of_le (Finset.card_lt_card ?_) (h.cap g ⟨p, hlt⟩)
  refine Finset.ssubset_iff_subset_ne.mpr ⟨fun v hv => ?_, fun e => ?_⟩
  · rw [Finset.mem_filter] at hv ⊢; exact ⟨hv.1, hv.2.1⟩
  · have hu : u ∈ Finset.univ.filter fun v : Fin 32 => own idx g v = p ∧ v < u := by
      rw [e, Finset.mem_filter]; exact ⟨Finset.mem_univ _, hp⟩
    exact absurd (Finset.mem_filter.mp hu).2.2 (lt_irrefl u)

theorem rk_mono {p : ℕ} {g u v : Fin 32} (hp : own idx g u = p) (huv : u < v) : rk idx p g u < rk idx p g v := by
  refine Finset.card_lt_card (Finset.ssubset_iff_subset_ne.mpr ⟨fun t ht => ?_, fun e => ?_⟩)
  · rw [Finset.mem_filter] at ht ⊢; exact ⟨ht.1, ht.2.1, ht.2.2.trans huv⟩
  · have hu : u ∈ Finset.univ.filter fun v' : Fin 32 => own idx g v' = p ∧ v' < u := by
      rw [e, Finset.mem_filter]; exact ⟨Finset.mem_univ _, hp, huv⟩
    exact absurd (Finset.mem_filter.mp hu).2.2 (lt_irrefl u)

theorem rk_inj {p : ℕ} {g u v : Fin 32} (hu : own idx g u = p) (hv : own idx g v = p) (h : rk idx p g u = rk idx p g v) : u = v := by
  rcases lt_trichotomy u v with hlt | he | hlt
  · have := rk_mono hu hlt; omega
  · exact he
  · have := rk_mono hv hlt; omega

variable (idx)

/-- The row device `p` packs a token into, or 1024 for a token of another device. -/
def slot (p : ℕ) (g u : Fin 32) : ℕ := if own idx g u = p then 16 * g.val + rk idx p g u else 1024

variable {idx}

/-- A row is the slot of one token only. -/
theorem slot_iff (h : Routed idx) {p : ℕ} {g u : Fin 32} (hp : own idx g u = p) (g' u' : Fin 32) :
    16 * g.val + rk idx p g u = slot idx p g' u' ↔ tok g' u' = tok g u := by
  have h1 := h.rk_lt hp
  unfold slot
  constructor
  · intro e
    by_cases hp' : own idx g' u' = p
    · rw [if_pos hp'] at e
      have h2 := h.rk_lt hp'
      obtain rfl : g' = g := Fin.ext (by omega)
      rw [rk_inj hp' hp (by omega)]
    · rw [if_neg hp'] at e; omega
  · intro e
    have e' : 32 * g'.val + u'.val = 32 * g.val + u.val := congrArg Fin.val e
    obtain rfl : g' = g := Fin.ext (by omega)
    obtain rfl : u' = u := Fin.ext (by omega)
    rw [if_pos hp]

/-! ## The slots as the body computes them -/

theorem shr_two : ∀ n < 128, IntOp.shrsi .vector (BitVec.ofNat 32 n) 2#32 = BitVec.ofNat 32 (n / 4) := by decide +kernel

/-- A token's owner, as a word. -/
theorem owner_apply (h : Routed idx) (g u : Fin 32) : k0_pay2 (F := Ideal) idx (ix2 g u) = BitVec.ofNat 32 (own idx g u) := by
  unfold k0_pay2 k0_pay1
  refine (shapeCast_apply _ _ (ix2 g u) (ix2 (tok g u) (0 : Fin 1)) ?_).trans ?_
  · rw [Shape.rowMajor_val_two, Shape.rowMajor_val_two]
    show (32 * g.val + u.val) * 1 + 0 = g.val * 32 + u.val
    omega
  · show IntOp.shrsi .vector (shapeCast S1024x1 idx _ (ix2 (tok g u) 0)) 2#32 = _
    rw [shapeCast_self]
    have e : idx (ix2 (tok g u) (0 : Fin 1)) = BitVec.ofNat 32 (num idx (tok g u)) := by
      simp [num]
    rw [e, shr_two _ (h.lt _)]
    rfl

theorem owner_toNat (h : Routed idx) (g u : Fin 32) : (k0_pay2 (F := Ideal) idx (ix2 g u)).toNat = own idx g u := by
  rw [owner_apply h, BitVec.toNat_ofNat]
  have := h.own_lt g u
  omega

/-- Whether a token is the device's own. -/
theorem mine_apply (h : Routed idx) (w : BitVec 32) (g u : Fin 32) :
    k0_pay3 (F := Ideal) w idx (ix2 g u) = 1#1 ↔ own idx g u = w.toNat := by
  show IntOp.cmpi .eq (k0_pay2 (F := Ideal) idx (ix2 g u)) w = 1#1 ↔ _
  rw [bit_word, owner_toNat h]

/-- The slots. -/
theorem slot_apply (h : Routed idx) (w : BitVec 32) (g u : Fin 32) :
    k0_pay4 (F := Ideal) (k0_pay3 (F := Ideal) w idx) (ix2 (0 : Fin 1) (tok g u)) = ((slot idx w.toNat g u : ℕ) : EReal) := by
  unfold k0_pay4
  refine (shapeCast_apply _ _ (ix2 (0 : Fin 1) (tok g u)) (ix2 g u) ?_).trans ?_
  · rw [Shape.rowMajor_val_two, Shape.rowMajor_val_two]
    show g.val * 32 + u.val = 0 * 1024 + (32 * g.val + u.val)
    omega
  have hm (v : Fin 32) : FloatOps.sitofp (F := Ideal) .f32 ((k0_pay3 (F := Ideal) w idx (ix2 g v)).setWidth 32)
      = if own idx g v = w.toNat then (1 : EReal) else 0 := real_bit _ _ (mine_apply h w g v)
  have hr : FloatOps.matmul (F := Ideal) (DotDims.plain 32 32 32) none
      (sitofp .f32 (extui 32 (k0_pay3 (F := Ideal) w idx) natLt_1_32))
      (sitofp .f32 (extui 32 (cmpi .slt (iota .tc S32x32 32 [0] iota_S32x32_d0_w32) (iota .tc S32x32 32 [1] iota_S32x32_d1_w32)) natLt_1_32))
      (constant ⟨2, ![32, 32]⟩ .f32 0x00000000#32) (ix2 g u) = ((rk idx w.toNat g u : ℕ) : EReal) := by
    rw [mm, rk, ← sum_count]
    refine Finset.sum_congr rfl fun v _ => congrArg₂ (· * ·) (hm v) ?_
    refine real_bit _ _ ?_
    show IntOp.cmpi .slt (iota .tc S32x32 32 [0] iota_S32x32_d0_w32 (ix2 v u)) (iota .tc S32x32 32 [1] iota_S32x32_d1_w32 (ix2 v u)) = 1#1 ↔ _
    rw [iota_single_apply, iota_single_apply]
    exact bit_iota v.val u.val (by omega) (by omega)
  have key : ∀ M R : EReal, M = (if own idx g u = w.toNat then (1 : EReal) else 0) → R = ((rk idx w.toNat g u : ℕ) : EReal) →
      Scalar.select (IntOp.andi (FloatOps.cmpf (F := Ideal) (φ := .f32) .ogt M (Ideal.ofBits .f32 0x3F000000#32))
          (FloatOps.cmpf (F := Ideal) (φ := .f32) .olt R (Ideal.ofBits .f32 0x41800000#32)))
        (Ideal.ofBits .f32 0x41800000#32 * FloatOps.sitofp (F := Ideal) .f32 (iota .tc S32x32 32 [0] iota_S32x32_d0_w32 (ix2 g u)) + R)
        (Ideal.ofBits .f32 0x44800000#32) = ((slot idx w.toNat g u : ℕ) : EReal) := by
    intro M R hM hR
    have hg : FloatOps.sitofp (F := Ideal) .f32 (iota .tc S32x32 32 [0] iota_S32x32_d0_w32 (ix2 g u)) = ((g.val : ℕ) : EReal) := by
      have e : (iota .tc S32x32 32 [0] iota_S32x32_d0_w32 (ix2 g u)).toNat = g.val := by
        rw [iota_single_apply]; show g.val % 2 ^ 32 = g.val; omega
      rw [real_word _ (by rw [e]; omega), e]
    rw [hg, half_f32, sixteen_f32, far_f32]
    unfold slot
    by_cases hp : own idx g u = w.toNat
    · rw [if_pos hp] at hM ⊢
      have h1 : FloatOps.cmpf (F := Ideal) (φ := .f32) .ogt M ((1 / 2 : ℝ) : EReal) = 1#1 := (bit_gt _ _).mpr (by
        rw [hM]; exact_mod_cast (by norm_num : (1 / 2 : ℝ) < 1))
      have h2 : FloatOps.cmpf (F := Ideal) (φ := .f32) .olt R ((16 : ℕ) : EReal) = 1#1 := (bit_lt _ _).mpr (by
        rw [hR]; exact_mod_cast h.rk_lt hp)
      rw [h1, h2, hR]
      show ((16 : ℕ) : EReal) * _ + _ = _
      push_cast
      rfl
    · rw [if_neg hp] at hM ⊢
      have h1 : FloatOps.cmpf (F := Ideal) (φ := .f32) .ogt M ((1 / 2 : ℝ) : EReal) = 0#1 := eq_zero_of_ne_one fun e => by
        rw [bit_gt, hM] at e
        exact absurd e (not_lt.mpr (by exact_mod_cast (by norm_num : (0 : ℝ) ≤ 1 / 2)))
      rw [h1]
      have h0 : ∀ b : BitVec 1, IntOp.andi (0#1) b = 0#1 := by decide
      rw [h0]
      rfl
  exact key _ _ (hm u) hr

end Cert.KernelIdeal.Run

end
-- ==== Proof.Pack.lean ====
/-
  What a device packs.

  The row of the packed buffer that is a token's slot on the token's owner holds the product of the token with the weights
  of its expert. The two halves of the buffer are computed alike, from rows 0 and 256 on.
-/
module

public import proofs.«01_k».proof.Proof.Tokens
public import proofs.«01_k».proof.Proof.Cells

@[expose] public section

set_option maxRecDepth 4096

noncomputable section

namespace Cert.KernelIdeal.Run

open Cert.KernelIdeal Cert.KernelIdeal.Gen
open Idealize.ShloMosaic Idealize.ShloMosaic.ValueIdx Idealize.SL.Sem
open scoped BigOperators

theorem at2_eq {m n : ℕ} (a : Fin m) (b : Fin n) : at2 a b = ix2 a b := by
  funext i
  match i with
  | ⟨0, _⟩ => rfl
  | ⟨1, _⟩ => rfl

theorem idWord_toNat : ∀ c : Dev nD, (idWord c).toNat = c.val := by decide +kernel

/-- Every token is one of a segment. -/
theorem exists_tok (t : Fin 1024) : ∃ g u : Fin 32, tok g u = t :=
  ⟨⟨t.val / 32, by omega⟩, ⟨t.val % 32, by omega⟩, Fin.ext (by show 32 * (t.val / 32) + t.val % 32 = t.val; omega)⟩

/-! ## Rows -/

/-- Where the rows from `b` on are the tokens' slots. -/
def hot (b : BitVec 32) (s : FVec Ideal S1x1024 .f32) : FVec Ideal S256x1024 .bf16 :=
  truncf .bf16 (sitofp .f32 (extui 32 (cmpf .oeq
    (sitofp .f32 (addi (iota .tc S256x1024 32 [0] iota_S256x1024_d0_w32) (broadcast S256x1024 b)))
    (broadcastTo S256x1024 s broadcasts_S1x1024_S256x1024)) natLt_1_32)) bitsLt_bf16_f32

theorem pay7_eq : k0_pay7 (F := Ideal) = hot 0#32 := rfl
theorem pay12_eq : k0_pay12 (F := Ideal) = hot 256#32 := rfl

/-- The slots of device `w`. -/
abbrev slots (idx : IVec S1024x1 32) (w : BitVec 32) : FVec Ideal S1x1024 .f32 := k0_pay4 (F := Ideal) (k0_pay3 (F := Ideal) w idx)

variable {idx : IVec S1024x1 32}

/-- A token's row names that token and no other. -/
theorem hot_row (hI : Routed idx) (b w : BitVec 32) (hb : b.toNat ≤ 256) (r : Fin 256) {g u : Fin 32} (hp : own idx g u = w.toNat)
    (hr : b.toNat + r.val = 16 * g.val + rk idx w.toNat g u) (t : Fin 1024) :
    hot b (slots idx w) (ix2 r t) = if t = tok g u then (1 : EReal) else 0 := by
  obtain ⟨g', u', rfl⟩ := exists_tok t
  refine real_bit _ _ ?_
  refine (bit_eq _ _).trans ?_
  have e1 : broadcastTo S256x1024 (slots idx w) broadcasts_S1x1024_S256x1024 (ix2 r (tok g' u'))
      = ((slot idx w.toNat g' u' : ℕ) : EReal) :=
    (broadcastTo_apply _ _ _ (ix2 (0 : Fin 1) (tok g' u')) fun a => by
      match a with
      | ⟨0, _⟩ => rfl
      | ⟨1, _⟩ => rfl).trans (slot_apply hI w g' u')
  have e3 : (iota .tc S256x1024 32 [0] iota_S256x1024_d0_w32 (ix2 r (tok g' u')) + b).toNat = b.toNat + r.val := by
    rw [iota_single_apply, BitVec.toNat_add]
    show (r.val % 2 ^ 32 + b.toNat) % 2 ^ 32 = _
    have := r.isLt
    omega
  have e2 : FloatOps.sitofp (F := Ideal) .f32 (iota .tc S256x1024 32 [0] iota_S256x1024_d0_w32 (ix2 r (tok g' u')) + b)
      = ((b.toNat + r.val : ℕ) : EReal) := by
    rw [real_word _ (by rw [e3]; have := r.isLt; omega), e3]
  have e4 : ((b.toNat + r.val : ℕ) : EReal) = ((slot idx w.toNat g' u' : ℕ) : EReal) ↔ tok g' u' = tok g u := by
    rw [EReal.natCast_eq_iff, hr]
    exact slot_iff hI hp g' u'
  rw [← e4, ← e1, ← e2]
  rfl

/-- The packed token. -/
theorem hot_x (hI : Routed idx) (b w : BitVec 32) (hb : b.toNat ≤ 256) (r : Fin 256) {g u : Fin 32} (hp : own idx g u = w.toNat)
    (hr : b.toNat + r.val = 16 * g.val + rk idx w.toNat g u) (x : FVec Ideal S1024x512 .bf16) (d : Fin 512) :
    FloatOps.matmul dot_S256x1024_S1024x512_S256x512_1_0_0_1_n_n none (hot b (slots idx w)) x
      (constant S256x512 .f32 0x00000000#32) (ix2 r d) = x (ix2 (tok g u) d) := by
  refine (mm _ _ r d).trans ?_
  simp only [hot_row hI b w hb r hp hr]
  exact sum_pick _ fun t => x (ix2 t d)

/-- The number of its expert. -/
theorem hot_n (hI : Routed idx) (b w : BitVec 32) (hb : b.toNat ≤ 256) (r : Fin 256) {g u : Fin 32} (hp : own idx g u = w.toNat)
    (hr : b.toNat + r.val = 16 * g.val + rk idx w.toNat g u) :
    FloatOps.matmul (φ₁ := .f32) dot_S256x1024_S1024x1_S256x1_1_0_0_1_n_n none (extf .f32 (hot b (slots idx w)) bitsLt_bf16_f32)
      (k0_pay6 (F := Ideal) (k0_pay1 (F := Ideal) idx)) (constant S256x1 .f32 0x00000000#32) (ix2 r (0 : Fin 1))
      = ((num idx (tok g u) : ℕ) : EReal) := by
  refine (mm _ _ r (0 : Fin 1)).trans ?_
  refine (Finset.sum_congr rfl fun t _ => congrArg (· * _) (hot_row hI b w hb r hp hr t)).trans ?_
  refine (sum_pick _ fun t => k0_pay6 (F := Ideal) (k0_pay1 (F := Ideal) idx) (ix2 t (0 : Fin 1))).trans ?_
  unfold k0_pay6 k0_pay1
  show FloatOps.sitofp (F := Ideal) .f32 (shapeCast S1024x1 idx _ (ix2 (tok g u) 0)) = _
  rw [shapeCast_self]
  exact real_word _ (by have := hI.lt (tok g u); unfold num at this; omega)

/-! ## Products -/

/-- The packed tokens of one expert, times its weights. -/
def part (p : BitVec 32) (xs : FVec Ideal S256x512 .bf16) (es : FVec Ideal S256x1 .f32) (j : BitVec 32) (w : Vec Ideal S1x512x1024 .bf16) :
    FVec Ideal S256x1024 .f32 :=
  matmul dot_S256x512_S512x1024_S256x1024_1_0_0_1_n_n none
    (mulf xs (broadcastTo S256x512 (truncf .bf16 (sitofp .f32 (extui 32 (cmpf .oeq es
      (broadcast S256x1 (Scalar.sitofp .f32 (Scalar.addi (Scalar.muli p 4#32) j)))) natLt_1_32)) bitsLt_bf16_f32)
      broadcasts_S256x1_S256x512))
    (shapeCast S512x1024 w shapeCasts_S1x512x1024_S512x1024 : FVec Ideal S512x1024 .bf16) (constant S256x1024 .f32 0x00000000#32)

theorem part_apply (p : BitVec 32) (hp : p.toNat < 32) (xs : FVec Ideal S256x512 .bf16) (es : FVec Ideal S256x1 .f32) (j : BitVec 32)
    (hj : j.toNat < 4) (w : Vec Ideal S1x512x1024 .bf16) (r : Fin 256) (h : Fin 1024) (n : ℕ) (hn : es (ix2 r (0 : Fin 1)) = ((n : ℕ) : EReal)) :
    part p xs es j w (ix2 r h)
      = if n = 4 * p.toNat + j.toNat then ∑ d : Fin 512, xs (ix2 r d) * w (ix3 (0 : Fin 1) d h) else (0 : EReal) := by
  have hw : (Scalar.addi (Scalar.muli p 4#32) j).toNat = 4 * p.toNat + j.toNat := by
    show (p * 4#32 + j).toNat = _
    rw [BitVec.toNat_add, BitVec.toNat_mul]
    show (p.toNat * 4 % 2 ^ 32 + j.toNat) % 2 ^ 32 = _
    omega
  have hm (d : Fin 512) : broadcastTo S256x512 (truncf (F := Ideal) .bf16 (sitofp .f32 (extui 32 (cmpf .oeq es
      (broadcast S256x1 (Scalar.sitofp .f32 (Scalar.addi (Scalar.muli p 4#32) j)))) natLt_1_32)) bitsLt_bf16_f32)
      broadcasts_S256x1_S256x512 (ix2 r d) = if n = 4 * p.toNat + j.toNat then (1 : EReal) else 0 := by
    refine (broadcastTo_apply _ _ _ (ix2 r (0 : Fin 1)) fun a => by
      match a with
      | ⟨0, _⟩ => rfl
      | ⟨1, _⟩ => rfl).trans ?_
    refine real_bit _ _ ((bit_eq _ _).trans ?_)
    show es (ix2 r (0 : Fin 1)) = FloatOps.sitofp (F := Ideal) .f32 (Scalar.addi (Scalar.muli p 4#32) j) ↔ _
    rw [hn, real_word _ (by rw [hw]; omega), hw, EReal.natCast_eq_iff]
  have hv (d : Fin 512) : shapeCast S512x1024 w shapeCasts_S1x512x1024_S512x1024 (ix2 d h) = w (ix3 (0 : Fin 1) d h) := by
    refine (shapeCast_dropUnit_apply ![512, 1024] w shapeCasts_S1x512x1024_S512x1024 (ix2 d h)).trans (congrArg w ?_)
    funext a
    match a with
    | ⟨0, _⟩ => rfl
    | ⟨1, _⟩ => rfl
    | ⟨2, _⟩ => rfl
  refine (mm _ _ r h).trans ?_
  by_cases he : n = 4 * p.toNat + j.toNat
  · rw [if_pos he]
    refine Finset.sum_congr rfl fun d _ => congrArg₂ (· * ·) ?_ (hv d)
    rw [mulf_apply, hm d, if_pos he, mul_one]
  · rw [if_neg he]
    refine Finset.sum_eq_zero fun d _ => ?_
    rw [mulf_apply, hm d, if_neg he, mul_zero, zero_mul]

/-- Of the products with the four experts of a device, the one with the token's own expert is left. -/
theorem four (n p : ℕ) (hn : n / 4 = p) (f : Fin 4 → EReal) :
    (if n = 4 * p + 0 then f 0 else 0) + (if n = 4 * p + 1 then f 1 else 0) + (if n = 4 * p + 2 then f 2 else 0)
      + (if n = 4 * p + 3 then f 3 else 0) = f ⟨n % 4, Nat.mod_lt _ (by decide)⟩ := by
  subst hn
  have hlt : n % 4 < 4 := Nat.mod_lt _ (by decide)
  have e (k : ℕ) (hk : k < 4) : n = 4 * (n / 4) + k ↔ n % 4 = k := by omega
  simp only [e 0 (by decide), e 1 (by decide), e 2 (by decide), e 3 (by decide)]
  have key : ∀ k (hk : k < 4), (if k = 0 then f 0 else 0) + (if k = 1 then f 1 else 0) + (if k = 2 then f 2 else 0)
      + (if k = 3 then f 3 else 0) = f ⟨k, hk⟩ := by
    intro k hk
    interval_cases k <;> simp
  exact key _ hlt

/-- A half of the packed buffer, row by row. -/
theorem half_apply (hI : Routed idx) (b p : BitVec 32) (hb : b.toNat ≤ 256) (hp : p.toNat < 32) (r : Fin 256) {g u : Fin 32}
    (ho : own idx g u = p.toNat) (hr : b.toNat + r.val = 16 * g.val + rk idx p.toNat g u) (x : FVec Ideal S1024x512 .bf16)
    (w : Fin 4 → Vec Ideal S1x512x1024 .bf16) (xs : FVec Ideal S256x512 .bf16) (es : FVec Ideal S256x1 .f32) (h : Fin 1024)
    (hxs : ∀ d, xs (ix2 r d) = x (ix2 (tok g u) d)) (hes : es (ix2 r (0 : Fin 1)) = ((num idx (tok g u) : ℕ) : EReal)) :
    part p xs es 0#32 (w 0) (ix2 r h) + part p xs es 1#32 (w 1) (ix2 r h) + part p xs es 2#32 (w 2) (ix2 r h)
        + part p xs es 3#32 (w 3) (ix2 r h)
      = ∑ d : Fin 512, x (ix2 (tok g u) d) * w ⟨num idx (tok g u) % 4, Nat.mod_lt _ (by decide)⟩ (ix3 (0 : Fin 1) d h) := by
  rw [part_apply p hp xs es _ (by decide) _ r h _ hes, part_apply p hp xs es _ (by decide) _ r h _ hes,
    part_apply p hp xs es _ (by decide) _ r h _ hes, part_apply p hp xs es _ (by decide) _ r h _ hes]
  simp only [hxs]
  exact four _ _ ho fun e => ∑ d : Fin 512, x (ix2 (tok g u) d) * w e (ix3 (0 : Fin 1) d h)

/-- The products with the first three experts of a device. -/
theorem pay10_eq (p : BitVec 32) (xs : FVec Ideal S256x512 .bf16) (es : FVec Ideal S256x1 .f32) (w0 w1 w2 : Vec Ideal S1x512x1024 .bf16) :
    k0_pay10 p xs es w0 w1 w2 = addf (addf (part p xs es 0#32 w0) (part p xs es 1#32 w1)) (part p xs es 2#32 w2) := rfl

theorem pay11_eq (p : BitVec 32) (xs : FVec Ideal S256x512 .bf16) (es : FVec Ideal S256x1 .f32) (acc : FVec Ideal S256x1024 .f32)
    (w3 : Vec Ideal S1x512x1024 .bf16) :
    k0_pay11 p xs es acc 4#32 w3 = truncf .bf16 (addf acc (part p xs es 3#32 w3)) bitsLt_bf16_f32 := shapeCast_self _ _

theorem pay16_eq (p : BitVec 32) (s : FVec Ideal S1x1024 .f32) (n : FVec Ideal S1024x1 .f32) (xs : FVec Ideal S256x512 .bf16)
    (w0 w1 w2 : Vec Ideal S1x512x1024 .bf16) :
    k0_pay16 p xs (k0_pay14 s n) (k0_pay15 p s n) w0 w1 w2
      = addf (addf (part p xs (k0_pay14 s n) 0#32 w0) (part p xs (k0_pay14 s n) 1#32 w1)) (part p xs (k0_pay14 s n) 2#32 w2) := rfl

theorem pay18_eq (p : BitVec 32) (xs : FVec Ideal S256x512 .bf16) (es : FVec Ideal S256x1 .f32) (acc : FVec Ideal S256x1024 .f32)
    (w3 : Vec Ideal S1x512x1024 .bf16) :
    k0_pay18 xs acc (k0_pay17 p es) w3 = truncf .bf16 (addf acc (part p xs es 3#32 w3)) bitsLt_bf16_f32 := shapeCast_self _ _

theorem lo_eq (c : Dev nD) (x : Vec Ideal S1024x512 .bf16) (w0 w1 w2 w3 : Vec Ideal S1x512x1024 .bf16) (i : S256x1024.Idx) :
    packLo c idx x w0 w1 w2 w3 i =
      (let xs := k0_pay8 (slots idx (idWord c)) (k0_pay5 x)
      let es := k0_pay9 (slots idx (idWord c)) (k0_pay6 (F := Ideal) (k0_pay1 (F := Ideal) idx))
      part (idWord c) xs es 0#32 w0 i + part (idWord c) xs es 1#32 w1 i + part (idWord c) xs es 2#32 w2 i + part (idWord c) xs es 3#32 w3 i) := by
  unfold packLo
  simp only [pay10_eq, pay11_eq, truncf_apply, addf_apply]

theorem hi_eq (c : Dev nD) (x : Vec Ideal S1024x512 .bf16) (w0 w1 w2 w3 : Vec Ideal S1x512x1024 .bf16) (i : S256x1024.Idx) :
    packHi c idx x w0 w1 w2 w3 i =
      (let xs := k0_pay13 (slots idx (idWord c)) (k0_pay5 x)
      let es := k0_pay14 (slots idx (idWord c)) (k0_pay6 (F := Ideal) (k0_pay1 (F := Ideal) idx))
      part (idWord c) xs es 0#32 w0 i + part (idWord c) xs es 1#32 w1 i + part (idWord c) xs es 2#32 w2 i + part (idWord c) xs es 3#32 w3 i) := by
  unfold packHi
  simp only [pay16_eq, pay18_eq, truncf_apply, addf_apply]

/-! ## The packed buffer -/

variable (I : Ins Ideal)

theorem wAt_apply (c : Dev nD) (e : Fin 4) (h : ∀ a, ![e.val, 0, 0] a + S1x512x1024.size a ≤ S4x512x1024.size a) (d : Fin 512)
    (k : Fin 1024) : wAt I c e.val h (ix3 (0 : Fin 1) d k) = I.w c (ix3 e d k) := by
  show I.w c _ = I.w c _
  refine congrArg (I.w c) (funext fun a => Fin.ext ?_)
  match a with
  | ⟨0, _⟩ => show e.val + 1 * 0 = e.val; omega
  | ⟨1, _⟩ => show 0 + 1 * d.val = d.val; omega
  | ⟨2, _⟩ => show 0 + 1 * k.val = k.val; omega

/-- A token's row on its owner: the token times the weights of its expert. -/
theorem packC_apply (c : Dev nD) (hI : Routed (I.idx c)) {g u : Fin 32} (ho : own (I.idx c) g u = c.val) (r : Fin 512)
    (hr : r.val = 16 * g.val + rk (I.idx c) c.val g u) (h : Fin 1024) :
    packC I c (ix2 r h) = ∑ d : Fin 512, I.x c (ix2 (tok g u) d)
      * I.w c (ix3 ⟨num (I.idx c) (tok g u) % 4, Nat.mod_lt _ (by decide)⟩ d h) := by
  have hc := idWord_toNat c
  have hw : ∀ e : Fin 4, ∀ a, ![e.val, 0, 0] a + S1x512x1024.size a ≤ S4x512x1024.size a := by decide +kernel
  have hfin (f : Fin 4 → Vec Ideal S1x512x1024 .bf16) (hf : ∀ e, f e = wAt I c e.val (hw e)) (x : FVec Ideal S1024x512 .bf16) (hx : x = I.x c) (e : Fin 4) :
      (∑ d : Fin 512, x (ix2 (tok g u) d) * f e (ix3 (0 : Fin 1) d h)) = ∑ d : Fin 512, I.x c (ix2 (tok g u) d) * I.w c (ix3 e d h) := by
    subst hx
    exact Finset.sum_congr rfl fun d _ => by rw [hf, wAt_apply]
  rw [← hc] at ho hr
  unfold packC
  by_cases hlt : r.val < 256
  · rw [dif_pos (show ((ix2 r h : S512x1024.Idx) 0).val < 256 from hlt), at2_eq]
    refine (lo_eq c _ _ _ _ _ _).trans ?_
    refine (half_apply hI 0#32 (idWord c) (by decide) (hc ▸ c.isLt) ⟨r.val, hlt⟩ ho ((Nat.zero_add _).trans hr) (k0_pay5 (I.x c))
      (fun e => wAt I c e.val (hw e)) _ _ h (fun d => ?_) ?_).trans (hfin _ (fun _ => rfl) _ (by unfold k0_pay5; exact shapeCast_self _ _) _)
    · exact hot_x hI 0#32 (idWord c) (by decide) _ ho ((Nat.zero_add _).trans hr) _ d
    · exact hot_n hI 0#32 (idWord c) (by decide) _ ho ((Nat.zero_add _).trans hr)
  · rw [dif_neg (show ¬ ((ix2 r h : S512x1024.Idx) 0).val < 256 from hlt), at2_eq]
    have hr' : (256#32 : BitVec 32).toNat + (r.val - 256) = 16 * g.val + rk (I.idx c) (idWord c).toNat g u := by
      show 256 + (r.val - 256) = _; omega
    refine (hi_eq c _ _ _ _ _ _).trans ?_
    refine (half_apply hI 256#32 (idWord c) (by decide) (hc ▸ c.isLt) ⟨r.val - 256, by omega⟩ ho hr' (k0_pay5 (I.x c))
      (fun e => wAt I c e.val (hw e)) _ _ h (fun d => ?_) ?_).trans (hfin _ (fun _ => rfl) _ (by unfold k0_pay5; exact shapeCast_self _ _) _)
    · exact hot_x hI 256#32 (idWord c) (by decide) _ ho hr' _ d
    · exact hot_n hI 256#32 (idWord c) (by decide) _ ho hr'

end Cert.KernelIdeal.Run

end
-- ==== Proof.Pick.lean ====
/-
  What a device makes of what it received.

  Block `p` of what a device receives is the rows device `p` packed for the device's segment, so the row of a token is
  found from the token's owner and its rank. The kernel's last product picks that row for every token of the segment.
-/
module

public import proofs.«01_k».proof.Proof.Pack

@[expose] public section

set_option maxRecDepth 4096

noncomputable section

namespace Cert.KernelIdeal.Run

open Cert.KernelIdeal Cert.KernelIdeal.Gen
open Idealize.ShloMosaic Idealize.ShloMosaic.ValueIdx Idealize.SL.Sem
open scoped BigOperators

variable {idx : IVec S1024x1 32}

theorem segWord_toNat : ∀ c : Dev nD, (segWord c).toNat = (seg c).val := by decide +kernel

/-- The owners of a segment's tokens, as a row. -/
theorem owners_apply (hI : Routed idx) (w : BitVec 32) (g : Fin 32) (hw : w.toNat = g.val) (u : Fin 32) :
    k0_pay20 (F := Ideal) w (k0_pay2 (F := Ideal) idx) (ix2 (0 : Fin 1) u) = ((own idx g u : ℕ) : EReal) := by
  unfold k0_pay20
  refine (mm _ _ (0 : Fin 1) u).trans ?_
  have h1 (t : Fin 32) : FloatOps.sitofp (F := Ideal) .f32 ((cmpi .eq (iota .tc S1x32 32 [1] iota_S1x32_d1_w32) (broadcast S1x32 w)
      (ix2 (0 : Fin 1) t)).setWidth 32) = if t = g then (1 : EReal) else 0 := by
    refine real_bit _ _ ?_
    show IntOp.cmpi .eq (iota .tc S1x32 32 [1] iota_S1x32_d1_w32 (ix2 (0 : Fin 1) t)) w = 1#1 ↔ _
    rw [bit_word, iota_single_apply, hw]
    show t.val % 2 ^ 32 = g.val ↔ _
    rw [Fin.ext_iff]
    omega
  have h2 (t : Fin 32) : FloatOps.sitofp (F := Ideal) .f32 (k0_pay2 (F := Ideal) idx (ix2 t u)) = ((own idx t u : ℕ) : EReal) := by
    have := hI.own_lt t u
    rw [real_word _ (by rw [owner_toNat hI]; omega), owner_toNat hI]
  refine (Finset.sum_congr rfl fun t _ => congrArg₂ (· * ·) (h1 t) (h2 t)).trans ?_
  exact sum_pick g fun t => ((own idx t u : ℕ) : EReal)

/-- The same as a column. -/
theorem ownersT_apply (hI : Routed idx) (w : BitVec 32) (g : Fin 32) (hw : w.toNat = g.val) (u : Fin 32) :
    k0_pay21 (F := Ideal) w (k0_pay2 (F := Ideal) idx) (ix2 u (0 : Fin 1)) = ((own idx g u : ℕ) : EReal) := by
  unfold k0_pay21
  refine (shapeCast_apply _ _ (ix2 u (0 : Fin 1)) (ix2 (0 : Fin 1) u) ?_).trans (owners_apply hI w g hw u)
  rw [Shape.rowMajor_val_two, Shape.rowMajor_val_two]
  show 0 * 32 + u.val = u.val * 1 + 0
  omega

/-- Where a token of the segment follows another of its owner. -/
theorem before_apply (hI : Routed idx) (w : BitVec 32) (g : Fin 32) (hw : w.toNat = g.val) (u v : Fin 32) :
    k0_pay22 (F := Ideal) w (k0_pay2 (F := Ideal) idx) (ix2 u v) = 1#1 ↔ own idx g v = own idx g u ∧ v < u := by
  have h1 : broadcastTo S32x32 (k0_pay21 (F := Ideal) w (k0_pay2 (F := Ideal) idx)) broadcasts_S32x1_S32x32 (ix2 u v)
      = ((own idx g u : ℕ) : EReal) :=
    (broadcastTo_apply _ _ _ (ix2 u (0 : Fin 1)) fun a => by
      match a with
      | ⟨0, _⟩ => rfl
      | ⟨1, _⟩ => rfl).trans (ownersT_apply hI w g hw u)
  have h2 : broadcastTo S32x32 (k0_pay20 (F := Ideal) w (k0_pay2 (F := Ideal) idx)) broadcasts_S1x32_S32x32 (ix2 u v)
      = ((own idx g v : ℕ) : EReal) :=
    (broadcastTo_apply _ _ _ (ix2 (0 : Fin 1) v) fun a => by
      match a with
      | ⟨0, _⟩ => rfl
      | ⟨1, _⟩ => rfl).trans (owners_apply hI w g hw v)
  have e1 : FloatOps.cmpf (F := Ideal) (φ := .f32) .oeq
      (broadcastTo S32x32 (k0_pay21 (F := Ideal) w (k0_pay2 (F := Ideal) idx)) broadcasts_S32x1_S32x32 (ix2 u v))
      (broadcastTo S32x32 (k0_pay20 (F := Ideal) w (k0_pay2 (F := Ideal) idx)) broadcasts_S1x32_S32x32 (ix2 u v)) = 1#1
        ↔ own idx g v = own idx g u := by
    rw [bit_eq, h1, h2, EReal.natCast_eq_iff]
    exact eq_comm
  have e2 : IntOp.cmpi .slt (iota .tc S32x32 32 [1] iota_S32x32_d1_w32 (ix2 u v)) (iota .tc S32x32 32 [0] iota_S32x32_d0_w32 (ix2 u v)) = 1#1
        ↔ v < u := by
    rw [iota_single_apply, iota_single_apply]
    exact bit_iota v.val u.val (by omega) (by omega)
  have both : ∀ a b : BitVec 1, IntOp.andi a b = 1#1 ↔ a = 1#1 ∧ b = 1#1 := by decide
  exact (both _ _).trans (and_congr e1 e2)

/-- The kernel's last one-hot matrix: the row of a token among those received. -/
theorem pick_apply (c : Dev nD) (hI : Routed idx) (u : Fin 32) (s : Fin 512) :
    pick Ideal c idx (ix2 u s)
      = if s.val = 16 * own idx (seg c) u + rk idx (own idx (seg c) u) (seg c) u then (1 : EReal) else 0 := by
  have hw := segWord_toNat c
  unfold pick k0_pay23
  refine real_bit _ _ ((bit_eq _ _).trans ?_)
  have hsum : shapeCast S32x1 (multiReduction .add [1] S32 (select (k0_pay22 (F := Ideal) (segWord c) (k0_pay2 (F := Ideal) idx))
      (broadcast S32x32 (Scalar.ofBits (F := Ideal) .f32 0x3F800000#32)) (broadcast S32x32 (Scalar.ofBits (F := Ideal) .f32 0x00000000#32)))
      0x00000000#32 reduces_S32x32_S32 (.inl rfl) rfl) shapeCasts_S32_S32x1 (ix2 u (0 : Fin 1))
      = ((rk idx (own idx (seg c) u) (seg c) u : ℕ) : EReal) := by
    refine (shapeCast_apply _ _ (ix2 u (0 : Fin 1)) (ix1 u) ?_).trans ?_
    · rw [Shape.rowMajor_val_one, Shape.rowMajor_val_two]
      show u.val = u.val * 1 + 0
      omega
    refine (Ideal.multiReduction_add_single _ _ _ _ _ (ix1 u)).trans ?_
    rw [rk, Finset.natCast_card_filter]
    refine Finset.sum_congr rfl fun v _ => ?_
    have hl : reduces_S32x32_S32.lift (ix1 u) v = ix2 u v := by
      funext a
      match a with
      | ⟨0, _⟩ => rfl
      | ⟨1, _⟩ => rfl
    have hb := before_apply hI (segWord c) (seg c) hw u v
    have hsel : ∀ (b : BitVec 1) (p : Prop) [Decidable p], (b = 1#1 ↔ p) →
        Scalar.select b (Ideal.ofBits .f32 0x3F800000#32) (Ideal.ofBits .f32 0x00000000#32) = if p then (1 : EReal) else 0 := by
      intro b p _ hbp
      rw [Ideal.ofBits_one_f32, Ideal.ofBits_zero_f32]
      by_cases hp : p
      · rw [if_pos hp, hbp.mpr hp]; rfl
      · rw [if_neg hp, eq_zero_of_ne_one fun e => hp (hbp.mp e)]; rfl
    refine (congrArg _ hl).trans ?_
    exact hsel _ _ hb
  have hrow : broadcastTo S32x512 (addf (mulf (broadcast S32x1 (Scalar.ofBits (F := Ideal) .f32 0x41800000#32))
      (k0_pay21 (F := Ideal) (segWord c) (k0_pay2 (F := Ideal) idx)))
      (shapeCast S32x1 (multiReduction .add [1] S32 (select (k0_pay22 (F := Ideal) (segWord c) (k0_pay2 (F := Ideal) idx))
      (broadcast S32x32 (Scalar.ofBits (F := Ideal) .f32 0x3F800000#32)) (broadcast S32x32 (Scalar.ofBits (F := Ideal) .f32 0x00000000#32)))
      0x00000000#32 reduces_S32x32_S32 (.inl rfl) rfl) shapeCasts_S32_S32x1)) broadcasts_S32x1_S32x512 (ix2 u s)
      = ((16 * own idx (seg c) u + rk idx (own idx (seg c) u) (seg c) u : ℕ) : EReal) := by
    refine (broadcastTo_apply _ _ _ (ix2 u (0 : Fin 1)) fun a => by
      match a with
      | ⟨0, _⟩ => rfl
      | ⟨1, _⟩ => rfl).trans ?_
    rw [addf_apply, mulf_apply, hsum, ownersT_apply hI _ _ hw]
    show Ideal.ofBits .f32 0x41800000#32 * _ + _ = _
    rw [sixteen_f32]
    push_cast
    rfl
  have hcol : FloatOps.sitofp (F := Ideal) .f32 (iota .tc S32x512 32 [1] iota_S32x512_d1_w32 (ix2 u s)) = ((s.val : ℕ) : EReal) := by
    have e : (iota .tc S32x512 32 [1] iota_S32x512_d1_w32 (ix2 u s)).toNat = s.val := by
      rw [iota_single_apply]; show s.val % 2 ^ 32 = s.val; have := s.isLt; omega
    rw [real_word _ (by rw [e]; have := s.isLt; omega), e]
  have hfin : ((16 * own idx (seg c) u + rk idx (own idx (seg c) u) (seg c) u : ℕ) : EReal) = ((s.val : ℕ) : EReal)
      ↔ s.val = 16 * own idx (seg c) u + rk idx (own idx (seg c) u) (seg c) u := by
    rw [EReal.natCast_eq_iff]
    exact eq_comm
  rw [← hfin, ← hrow, ← hcol]
  rfl

/-- The output, token by token: the token times its expert's weights, as its owner holds them. -/
theorem outC_apply (I : Ins Ideal) (hI : Routed idx) (hidx : ∀ c, I.idx c = idx) {x : FVec Ideal S1024x512 .bf16} (hx : ∀ c, I.x c = x)
    (n u : Fin 32) (h : Fin 1024) :
    outC I (ix2 (tok n u) h) = ∑ d : Fin 512, x (ix2 (tok n u) d)
      * I.w ⟨own idx n u, hI.own_lt n u⟩ (ix3 ⟨num idx (tok n u) % 4, Nat.mod_lt _ (by decide)⟩ d h) := by
  have hk : (⟨(tok n u).val / 32, by have := (tok n u).isLt; omega⟩ : Fin 32) = n := Fin.ext (by
    show (32 * n.val + u.val) / 32 = n.val; omega)
  have hu : (⟨(tok n u).val % 32, Nat.mod_lt _ (by decide)⟩ : Fin 32) = u := Fin.ext (by
    show (32 * n.val + u.val) % 32 = u.val; omega)
  have h0 : outC I (ix2 (tok n u) h) = segC I (keeper n) (ix2 u h) := by
    show segC I (keeper ⟨(tok n u).val / 32, _⟩) (at2 ⟨(tok n u).val % 32, _⟩ h) = _
    rw [hk, hu, at2_eq]
  rw [h0]
  have hseg : seg (keeper n) = n := seg_keeper n
  generalize keeper n = c at hseg
  have hown := hI.own_lt n u
  have hrk : rk idx (own idx n u) n u < 16 := hI.rk_lt rfl
  have hs : 16 * own idx n u + rk idx (own idx n u) n u < 512 := by omega
  unfold segC k0_pay24
  refine (mm (φ₂ := .bf16) _ _ u h).trans ?_
  rw [hidx c]
  have hp (s : Fin 512) : pick Ideal c idx (ix2 u s)
      = if s = ⟨16 * own idx n u + rk idx (own idx n u) n u, hs⟩ then (1 : EReal) else 0 := by
    rw [pick_apply c hI u s, hseg]
    exact if_congr (Fin.ext_iff (a := s) (b := ⟨_, hs⟩)).symm rfl rfl
  simp only [hp]
  refine (sum_pick _ fun s => recvC I c (ix2 s h)).trans ?_
  have hc : (⟨(16 * own idx n u + rk idx (own idx n u) n u) / 16, by omega⟩ : Fin 32) = ⟨own idx n u, hown⟩ := Fin.ext (by
    show (16 * own idx n u + rk idx (own idx n u) n u) / 16 = own idx n u; omega)
  show packC I ⟨(16 * own idx n u + rk idx (own idx n u) n u) / 16, _⟩
    (at2 ⟨16 * (seg c).val + (16 * own idx n u + rk idx (own idx n u) n u) % 16, _⟩ h) = _
  have hr : ∀ hb, (⟨16 * (seg c).val + (16 * own idx n u + rk idx (own idx n u) n u) % 16, hb⟩ : Fin 512)
      = ⟨16 * n.val + rk idx (own idx n u) n u, by have := n.isLt; omega⟩ := fun hb => Fin.ext (by
    show 16 * (seg c).val + (16 * own idx n u + rk idx (own idx n u) n u) % 16 = 16 * n.val + rk idx (own idx n u) n u
    rw [hseg]; omega)
  rw [hr, at2_eq]
  refine (congrArg (fun p : Dev nD => packC I p _) hc).trans ?_
  have := packC_apply I ⟨own idx n u, hown⟩ (g := n) (u := u) (by rw [hidx]; exact hI) (by rw [hidx])
    ⟨16 * n.val + rk idx (own idx n u) n u, by have := n.isLt; omega⟩ (by rw [hidx]) h
  refine this.trans ?_
  simp only [hidx, hx]

end Cert.KernelIdeal.Run

end
-- ==== Proof.Routing.lean ====
/-
  The precondition, read as a property of the table of experts.

  The printed precondition says of every token that its expert is one of the 128, and of every segment and owner that at
  most 16 of the segment's tokens go there.
-/
module

public import proofs.«01_k».proof.Pre_routed_KernelIdeal
public import proofs.«01_k».proof.Proof.Tokens
public import Idealize.ShloMosaic.Lib.IndicatorCount

@[expose] public section

set_option maxRecDepth 4096

noncomputable section

namespace Cert.KernelIdeal.Run

open Idealize.ShloMosaic Idealize.ShloMosaic.ValueIdx
open scoped BigOperators

/-- A word the two comparisons accept is below 128. -/
theorem word_range (w : BitVec 32) (h : IntOp.andi (IntOp.cmpi .sge w 0#32) (IntOp.cmpi .slt w 128#32) = 1#1) : w.toNat < 128 := by
  have both : ∀ a b : BitVec 1, IntOp.andi a b = 1#1 → a = 1#1 ∧ b = 1#1 := by decide
  obtain ⟨h1, h2⟩ := both _ _ h
  have bit : ∀ b : Bool, BitVec.ofBool b = 1#1 → b = true := by decide
  have e1 : (0#32).sle w = true := bit _ h1
  have e2 : w.slt 128#32 = true := bit _ h2
  rw [BitVec.sle_iff_toInt_le] at e1
  rw [BitVec.slt_iff_toInt_lt] at e2
  have z : (0#32 : BitVec 32).toInt = 0 := by decide
  have z' : (128#32 : BitVec 32).toInt = 128 := by decide
  rw [z] at e1
  rw [z'] at e2
  rw [BitVec.toInt_eq_toNat_cond] at e1 e2
  have := w.isLt
  split at e1 <;> omega

/-- A small count the comparison accepts is at most 16. -/
theorem count_range (n : ℕ) (hn : n < 64) (h : IntOp.cmpi .sle (BitVec.ofNat 32 n) 16#32 = 1#1) : n ≤ 16 := by
  have key : ∀ n < 64, IntOp.cmpi .sle (BitVec.ofNat 32 n) 16#32 = 1#1 → n ≤ 16 := by decide +kernel
  exact key n hn h

/-- The sum along the last of three axes of a mask widened to words is the number of its ones. -/
theorem sum_last (M : IVec ⟨3, ![32, 32, 32]⟩ 1) (hw : 1 < 32) (hr : (⟨3, ![32, 32, 32]⟩ : Shape).ReducesTo [2] ⟨2, ![32, 32]⟩)
    (hu : 0 < (⟨0, ![]⟩ : Shape).numel) (g p : Fin 32) (q : Fin 32 → Prop) [DecidablePred q] (hq : ∀ u, M (ix3 g p u) = 1#1 ↔ q u) :
    Host.reduce IntOp.addi (extui 32 M hw) (constantI ⟨0, ![]⟩ 32 0#32) hr hu (ix2 g p)
      = BitVec.ofNat 32 (Finset.univ.filter q).card := by
  classical
  rw [Host.reduce_eq_fold]
  refine (IndicatorCount.fold_addi_setWidth_eq_card M _).trans (congrArg (BitVec.ofNat 32) ?_)
  have hd (i : (⟨3, ![32, 32, 32]⟩ : Shape).Idx) : hr.drop i = ix2 g p ↔ i 0 = g ∧ i 1 = p := by
    have v0 : (hr.drop i 0 : ℕ) = i 0 := Shape.ReducesTo.drop_apply_val hr i 0
    have v1 : (hr.drop i 1 : ℕ) = i 1 := Shape.ReducesTo.drop_apply_val hr i 1
    refine ⟨fun e => ?_, fun e => ?_⟩
    · rw [e] at v0 v1
      exact ⟨Fin.ext v0.symm, Fin.ext v1.symm⟩
    · funext a
      match a with
      | ⟨0, _⟩ => exact Fin.ext (v0.trans (congrArg Fin.val e.1))
      | ⟨1, _⟩ => exact Fin.ext (v1.trans (congrArg Fin.val e.2))
  have back (i : (⟨3, ![32, 32, 32]⟩ : Shape).Idx) (h : i 0 = g ∧ i 1 = p) : i = ix3 g p (i 2) := by
    funext a
    match a with
    | ⟨0, _⟩ => exact h.1
    | ⟨1, _⟩ => exact h.2
    | ⟨2, _⟩ => rfl
  refine Finset.card_bij' (fun i _ => i 2) (fun u _ => ix3 g p u) (fun i hi => ?_) (fun u hu => ?_) (fun i hi => ?_) (fun u _ => rfl)
  · obtain ⟨h1, h2⟩ := Finset.mem_filter.1 hi
    rw [back i ((hd i).1 (Finset.mem_filter.1 h1).2)] at h2
    exact Finset.mem_filter.2 ⟨Finset.mem_univ _, (hq _).1 h2⟩
  · exact Finset.mem_filter.2 ⟨Finset.mem_filter.2 ⟨Finset.mem_univ _, (hd _).2 ⟨rfl, rfl⟩⟩, (hq u).2 (Finset.mem_filter.1 hu).2⟩
  · exact (back i ((hd i).1 (Finset.mem_filter.1 (Finset.mem_filter.1 hi).1).2)).symm

set_option maxRecDepth 100000 in
open Cert.Pre_routed_KernelIdeal Cert.Pre_routed_KernelIdeal.Facts in
/-- The precondition makes the table a routed one. -/
theorem routed_of_pre [Cert.Pre_routed_KernelIdeal.Facts] (x : FVec Ideal S1024x512 .bf16) (r : FVec Ideal S512x128 .bf16)
    (idx : IVec S1024x1 32) (w : FVec Ideal S4x512x1024 .bf16) (h1 : (fn x r idx w).1 = fun _ => 1#1) (h2 : (fn x r idx w).2 = fun _ => 1#1) :
    Routed idx := by
  have hv (i : Fin 1024) : shapeCast S1024 idx shapeCasts_S1024x1_S1024 (ix1 i) = idx (ix2 i (0 : Fin 1)) :=
    shapeCast_apply _ _ (ix1 i) (ix2 i (0 : Fin 1)) (by
      rw [Shape.rowMajor_val_one, Shape.rowMajor_val_two]
      show i.val * 1 + 0 = i.val
      omega)
  have hlt (i : Fin 1024) : num idx i < 128 := by
    have h := congrFun h1 (ix1 i)
    have h' : IntOp.andi (IntOp.cmpi .sge (shapeCast S1024 idx shapeCasts_S1024x1_S1024 (ix1 i)) 0#32)
        (IntOp.cmpi .slt (shapeCast S1024 idx shapeCasts_S1024x1_S1024 (ix1 i)) 128#32) = 1#1 := h
    rw [hv] at h'
    exact word_range _ h'
  refine ⟨hlt, fun g p => ?_⟩
  have how (g u : Fin 32) : shapeCast S32x32 (Host.shrsi (shapeCast S1024 idx shapeCasts_S1024x1_S1024)
      (broadcastInDim S1024 ![] bcast_S_S1024 (constantI S_ 32 2#32))) shapeCasts_S1024_S32x32 (ix2 g u) = BitVec.ofNat 32 (own idx g u) := by
    refine (shapeCast_apply _ _ (ix2 g u) (ix1 (tok g u)) ?_).trans ?_
    · rw [Shape.rowMajor_val_one, Shape.rowMajor_val_two]
      show 32 * g.val + u.val = g.val * 32 + u.val
      omega
    · show IntOp.shrsi .vector (shapeCast S1024 idx shapeCasts_S1024x1_S1024 (ix1 (tok g u))) 2#32 = _
      rw [hv]
      have e : idx (ix2 (tok g u) (0 : Fin 1)) = BitVec.ofNat 32 (num idx (tok g u)) := by simp [num]
      rw [e, shr_two _ (hlt _)]
      rfl
  have hmask (u : Fin 32) : cmpi .eq (broadcastInDim S32x32x32 ![0, 1, 2] bcast_S32x1x32_S32x32x32_0_1_2
      (broadcastInDim S32x1x32 ![0, 2] bcast_S32x32_S32x1x32_0_2 (shapeCast S32x32 (Host.shrsi (shapeCast S1024 idx shapeCasts_S1024x1_S1024)
      (broadcastInDim S1024 ![] bcast_S_S1024 (constantI S_ 32 2#32))) shapeCasts_S1024_S32x32))) (iotaInDim S32x32x32 32 1) (ix3 g p u) = 1#1
        ↔ own idx g u = p.val := by
    have e1 : broadcastInDim S32x32x32 ![0, 1, 2] bcast_S32x1x32_S32x32x32_0_1_2
        (broadcastInDim S32x1x32 ![0, 2] bcast_S32x32_S32x1x32_0_2 (shapeCast S32x32 (Host.shrsi (shapeCast S1024 idx shapeCasts_S1024x1_S1024)
        (broadcastInDim S1024 ![] bcast_S_S1024 (constantI S_ 32 2#32))) shapeCasts_S1024_S32x32)) (ix3 g p u) = BitVec.ofNat 32 (own idx g u) := by
      refine (broadcastInDim_apply _ _ _ (ix3 g p u) (ix3 g (0 : Fin 1) u) fun a => by
        match a with
        | ⟨0, _⟩ => rfl
        | ⟨1, _⟩ => rfl
        | ⟨2, _⟩ => rfl).trans ?_
      refine (broadcastInDim_apply _ _ _ (ix3 g (0 : Fin 1) u) (ix2 g u) fun a => by
        match a with
        | ⟨0, _⟩ => rfl
        | ⟨1, _⟩ => rfl).trans (how g u)
    refine (bit_word _ _).trans ?_
    rw [e1]
    show (BitVec.ofNat 32 (own idx g u)).toNat = (BitVec.ofNat 32 p.val).toNat ↔ _
    have h3 : own idx g u < 32 := by have := hlt (tok g u); unfold own; omega
    have h4 := p.isLt
    rw [BitVec.toNat_ofNat, BitVec.toNat_ofNat, Nat.mod_eq_of_lt (by omega), Nat.mod_eq_of_lt (by omega)]
  have hc := sum_last _ natLt_1_32 reducesTo_S32x32x32_S32x32_d2 h_S_ g p (fun u => own idx g u = p.val) hmask
  have h64 : (Finset.univ.filter fun u : Fin 32 => own idx g u = p.val).card < 64 := by
    refine lt_of_le_of_lt (Finset.card_le_univ _) ?_
    rw [Fintype.card_fin]
    omega
  refine count_range _ h64 ?_
  refine (congrArg (fun z => IntOp.cmpi .sle z 16#32) hc).symm.trans ?_
  have h : cmpi .sle (Host.reduce IntOp.addi (extui 32 (cmpi .eq (broadcastInDim S32x32x32 ![0, 1, 2] bcast_S32x1x32_S32x32x32_0_1_2
      (broadcastInDim S32x1x32 ![0, 2] bcast_S32x32_S32x1x32_0_2 (shapeCast S32x32 (Host.shrsi (shapeCast S1024 idx shapeCasts_S1024x1_S1024)
      (broadcastInDim S1024 ![] bcast_S_S1024 (constantI S_ 32 2#32))) shapeCasts_S1024_S32x32))) (iotaInDim S32x32x32 32 1)) natLt_1_32)
      (constantI S_ 32 0#32) reducesTo_S32x32x32_S32x32_d2 h_S_) (broadcastInDim S32x32 ![] bcast_S_S32x32 (constantI S_ 32 16#32))
      = fun _ => 1#1 := h2
  exact congrFun h (ix2 g p)

end Cert.KernelIdeal.Run

end
-- ==== Proof.Reference.lean ====
/-
  The reference's result, token by token.

  The reference takes for every token the weights of its expert and multiplies. The number of an expert is below 128, so the
  take's clamp does nothing.
-/
module

public import proofs.«01_k».proof.Proof.Tokens
public import proofs.«01_k».proof.Proof.Gen.ReferenceIdeal.Run

@[expose] public section

set_option maxRecDepth 4096

noncomputable section

namespace Cert.KernelIdeal.Run

open Idealize.ShloMosaic Idealize.ShloMosaic.ValueIdx
open scoped BigOperators

section
open Cert.ReferenceIdeal Cert.ReferenceIdeal.Facts₀ Cert.ReferenceIdeal.Facts
variable [Cert.ReferenceIdeal.Facts]

/-- A product of each row with its own matrix. -/
theorem rows_apply (A : FVec Ideal S1024x512 .f32) (B : FVec Ideal S1024x512x1024 .f32) (i : Fin 1024) (h : Fin 1024) :
    Host.dotGeneral dot_S1024x512_S1024x512x1024_S1024x1024_1_1_n_2_0_0 none A B (ix2 i h)
      = ∑ d : Fin 512, A (ix2 i d) * B (ix3 i d h) := by
  show FloatOps.dotGeneral _ none _ A B (ix2 i h) = _
  rw [Ideal.dotGeneral_apply, ← Equiv.sum_comp (contrEquiv1 dot_S1024x512_S1024x512x1024_S1024x1024_1_1_n_2_0_0 512 rfl rfl).symm]
  refine Finset.sum_congr rfl fun d _ => ?_
  have hd := contrEquiv1_symm_val dot_S1024x512_S1024x512x1024_S1024x1024_1_1_n_2_0_0 512 rfl rfl d
  refine congrArg₂ (fun a b => A a * B b) ?_ ?_
  · funext a
    apply Fin.ext
    match a with
    | ⟨0, _⟩ => simp [DotDims.lhsIdx, dot_S1024x512_S1024x512x1024_S1024x1024_1_1_n_2_0_0]; rfl
    | ⟨1, _⟩ => simp [DotDims.lhsIdx, dot_S1024x512_S1024x512x1024_S1024x1024_1_1_n_2_0_0]; exact hd
  · funext a
    apply Fin.ext
    match a with
    | ⟨0, _⟩ => simp [DotDims.rhsIdx, dot_S1024x512_S1024x512x1024_S1024x1024_1_1_n_2_0_0]; rfl
    | ⟨1, _⟩ => simp [DotDims.rhsIdx, dot_S1024x512_S1024x512x1024_S1024x1024_1_1_n_2_0_0]; exact hd
    | ⟨2, _⟩ => simp [DotDims.rhsIdx, dot_S1024x512_S1024x512x1024_S1024x1024_1_1_n_2_0_0]; rfl

/-- The take of whole matrices. -/
theorem take_apply {α : Type} (W : S128x512x1024.Idx → α) (idx : IVec S1024x1 32) (i : Fin 1024) (d : Fin 512) (h : Fin 1024) :
    Host.gather gather_S128x512x1024_S1024x1_S1024x512x1024_12_0_n_n_0_1_15121024 W idx (ix3 i d h)
      = W (ix3 ⟨min (idx (ix2 i (0 : Fin 1))).toInt.toNat 127, by omega⟩ d h) := by
  unfold Host.gather
  refine congrArg W (funext fun a => Fin.ext ?_)
  have hb (a : Fin 3) : gather_S128x512x1024_S1024x1_S1024x512x1024_12_0_n_n_0_1_15121024.batchCoord (ix3 i d h) a = 0 :=
    GatherDims.batchCoord_eq_zero _ _ _ (List.not_mem_nil)
  show gather_S128x512x1024_S1024x1_S1024x512x1024_12_0_n_n_0_1_15121024.start (ix3 i d h) idx a
    + gather_S128x512x1024_S1024x1_S1024x512x1024_12_0_n_n_0_1_15121024.batchCoord (ix3 i d h) a
    + gather_S128x512x1024_S1024x1_S1024x512x1024_12_0_n_n_0_1_15121024.offCoord (ix3 i d h) a = _
  rw [hb a, Nat.add_zero]
  have kept (a : Fin 3) (ha : a ≠ 0) : a ∈ gather_S128x512x1024_S1024x1_S1024x512x1024_12_0_n_n_0_1_15121024.sKept :=
    (GatherDims.mem_sKept _ _).mpr ⟨fun h => ha (List.mem_singleton.mp h), List.not_mem_nil⟩
  have notMap (a : Fin 3) (ha : a ≠ 0) : a ∉ gather_S128x512x1024_S1024x1_S1024x512x1024_12_0_n_n_0_1_15121024.startIndexMap := fun h => ha (List.mem_singleton.mp h)
  have h3 : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  rcases h3 with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ gather_S128x512x1024_S1024x1_S1024x512x1024_12_0_n_n_0_1_15121024.startIndexMap from List.mem_singleton.mpr rfl)]
    have hs : gather_S128x512x1024_S1024x1_S1024x512x1024_12_0_n_n_0_1_15121024.siIdx (ix3 i d h)
        ⟨List.idxOf (0 : Fin 3) gather_S128x512x1024_S1024x1_S1024x512x1024_12_0_n_n_0_1_15121024.startIndexMap,
          List.idxOf_lt_length_iff.2 (List.mem_singleton.mpr rfl)⟩ = ix2 i (0 : Fin 1) := by
      funext b
      apply Fin.ext
      match b with
      | ⟨0, _⟩ => rfl
      | ⟨1, _⟩ => rfl
    rw [hs]
    rfl
  · unfold GatherDims.start GatherDims.offCoord
    rw [dif_neg (notMap 1 (by decide)), dif_pos (kept 1 (by decide)), Nat.zero_add]
    rfl
  · unfold GatherDims.start GatherDims.offCoord
    rw [dif_neg (notMap 2 (by decide)), dif_pos (kept 2 (by decide)), Nat.zero_add]
    rfl

/-- The numbers of the experts, cast to a vector and back. -/
theorem column_apply (idx : IVec S1024x1 32) (i : Fin 1024) :
    broadcastInDim S1024x1 ![0] bcast_S1024_S1024x1_0 (shapeCast S1024 idx shapeCasts_S1024x1_S1024) (ix2 i (0 : Fin 1)) = idx (ix2 i (0 : Fin 1)) := by
  refine (broadcastInDim_apply _ _ _ (ix2 i (0 : Fin 1)) (ix1 i) fun a => by
    match a with
    | ⟨0, _⟩ => rfl).trans ?_
  refine shapeCast_apply _ _ (ix1 i) (ix2 i (0 : Fin 1)) ?_
  rw [Shape.rowMajor_val_one, Shape.rowMajor_val_two]
  show i.val * 1 + 0 = i.val
  omega

/-- What the reference leaves in its result. -/
def refOut (x : FVec Ideal S1024x512 .bf16) (idx : IVec S1024x1 32) (W : FVec Ideal S128x512x1024 .bf16) : FVec Ideal S1024x1024 .bf16 :=
  truncf .bf16 (Host.dotGeneral dot_S1024x512_S1024x512x1024_S1024x1024_1_1_n_2_0_0 none (extf .f32 x bitsLt_bf16_f32)
    (Host.gather gather_S128x512x1024_S1024x1_S1024x512x1024_12_0_n_n_0_1_15121024 (extf .f32 W bitsLt_bf16_f32)
      (broadcastInDim S1024x1 ![0] bcast_S1024_S1024x1_0 (shapeCast S1024 idx shapeCasts_S1024x1_S1024)))) bitsLt_bf16_f32

theorem refOut_apply (x : FVec Ideal S1024x512 .bf16) (idx : IVec S1024x1 32) (W : FVec Ideal S128x512x1024 .bf16) (hI : Routed idx)
    (i : Fin 1024) (h : Fin 1024) : refOut x idx W (ix2 i h) = ∑ d : Fin 512, x (ix2 i d) * W (ix3 ⟨num idx i, hI.lt i⟩ d h) := by
  unfold refOut
  refine (rows_apply _ _ i h).trans (Finset.sum_congr rfl fun d _ => congrArg (x (ix2 i d) * ·) ?_)
  refine (take_apply _ _ i d h).trans ?_
  refine congrArg (fun e : Fin 128 => W (ix3 e d h)) (Fin.ext ?_)
  show min (broadcastInDim S1024x1 ![0] bcast_S1024_S1024x1_0 (shapeCast S1024 idx shapeCasts_S1024x1_S1024) (ix2 i (0 : Fin 1))).toInt.toNat 127
    = num idx i
  rw [column_apply]
  have hl := hI.lt i
  unfold num at hl ⊢
  rw [BitVec.toInt_eq_toNat_cond, if_pos (by omega)]
  omega

end

end Cert.KernelIdeal.Run

end
-- ==== Proof.Value.lean ====
/-
  The kernel's result and the reference's are one.

  Every window's block is its whole array, so the kernel's result on every device is the output the body leaves, which is the
  reference's result token by token.
-/
module

public import proofs.«01_k».proof.Proof.Frames
public import proofs.«01_k».proof.Proof.Pick
public import proofs.«01_k».proof.Proof.Routing
public import proofs.«01_k».proof.Proof.Reference

@[expose] public section

set_option maxRecDepth 4096

noncomputable section

namespace Cert.KernelIdeal.Run

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

variable (m : (ℓ : Loc nD τ sig) → Buf (Elt Ideal) ℓ)

/-! ## Whole blocks -/

theorem read_x (f : main_arg0.ty.Contents (Elt Ideal)) : (win0_0.blk (0 : Fin 1)).view.read (Elt Ideal) f = f := by
  funext i
  rw [View.read_apply]
  exact congrArg f (funext fun a => Fin.ext (Window.rect_emb_val_of_index_zero win0_0 (0 : Fin 1) a rfl i))

theorem read_idx (f : main_arg2.ty.Contents (Elt Ideal)) : (win0_1.blk (0 : Fin 1)).view.read (Elt Ideal) f = f := by
  funext i
  rw [View.read_apply]
  exact congrArg f (funext fun a => Fin.ext (Window.rect_emb_val_of_index_zero win0_1 (0 : Fin 1) a rfl i))

theorem read_w (f : main_arg3.ty.Contents (Elt Ideal)) : (win0_2.blk (0 : Fin 1)).view.read (Elt Ideal) f = f := by
  funext i
  rw [View.read_apply]
  exact congrArg f (funext fun a => Fin.ext (Window.rect_emb_val_of_index_zero win0_2 (0 : Fin 1) a rfl i))

theorem emb_out (t : Fin cfg0.N) (i) : (win0_3.blk t).view.emb i = i := by
  funext a
  exact Fin.ext (Window.rect_emb_val_of_index_zero win0_3 t a rfl i)

/-- The result is the output the body leaves. -/
theorem finalA_out (c : Dev nD) : finalA m c (3 : Fin 4) = outC (ins m) := by
  refine Dat.arrAt_eq_of_cover (dats m 0 c) (3 : Fin 4) (outC (ins m)) (fun t _ => ?_) fun i => ⟨t0_0, flush0_3 t0_0, ?_⟩
  · funext i
    rw [View.read_apply]
    exact (congrArg (outC (ins m)) (emb_out t i)).symm
  · exact (emb_out t0_0 i) ▸ (win0_3.blk t0_0).view.emb_mem_set i

/-! ## The two results -/

/-- The reference's facts. -/
local instance : Cert.ReferenceIdeal.Facts := Cert.ReferenceIdeal.Gen.facts

/-- A device's weights are four of all. -/
theorem block_w (W : (⟨3, ![128, 512, 1024]⟩ : Shape).Idx → EReal) (c : Fin 32) (e : Fin 4) (n : Fin 128) (hn : n.val = 4 * c.val + e.val)
    (d : Fin 512) (h : Fin 1024) :
    Layout.block ⟨3, ![4, 512, 1024]⟩ ⟨3, ![128, 512, 1024]⟩ 0 32 c W (by decide) (ix3 e d h) = W (ix3 n d h) := by
  rw [Layout.block_apply]
  refine congrArg W (funext fun a => Fin.ext ?_)
  rw [Layout.Tiles.idx_val]
  match a with
  | ⟨0, _⟩ => show c.val * 4 + e.val = n.val; omega
  | ⟨1, _⟩ => rfl
  | ⟨2, _⟩ => rfl

/-- The output is the reference's result. -/
theorem outC_eq (I : Ins Ideal) (x : FVec Ideal S1024x512 .bf16) (idx : IVec S1024x1 32) (W : (⟨3, ![128, 512, 1024]⟩ : Shape).Idx → EReal)
    (hI : Routed idx) (hx : ∀ c, I.x c = x) (hidx : ∀ c, I.idx c = idx)
    (hw : ∀ c, I.w c = Layout.block ⟨3, ![4, 512, 1024]⟩ ⟨3, ![128, 512, 1024]⟩ 0 32 c W (by decide)) :
    outC I = refOut x idx W := by
  funext j
  obtain ⟨i, h, rfl⟩ : ∃ (i : Fin 1024) (h : Fin 1024), j = ix2 i h := ⟨j 0, j 1, eq_ix2 j⟩
  obtain ⟨g, u, rfl⟩ := exists_tok i
  refine (outC_apply I hI hidx hx g u h).trans (Eq.trans ?_ (refOut_apply x idx W hI (tok g u) h).symm)
  refine Finset.sum_congr rfl fun d _ => congrArg (x (ix2 (tok g u) d) * ·) ?_
  rw [hw]
  exact block_w W ⟨own idx g u, hI.own_lt g u⟩ ⟨num idx (tok g u) % 4, Nat.mod_lt _ (by decide)⟩ ⟨num idx (tok g u), hI.lt _⟩
    (Nat.div_add_mod _ 4).symm d h

end Cert.KernelIdeal.Run

namespace Cert.Frames

open Idealize.ShloMosaic Idealize.ShloMosaic.TcCoe Idealize.SL.Sem

instance : Cert.Pre_routed_KernelIdeal.Facts where
  shapeCasts_S1024x1_S1024 := by decide
  bcast_S_S1024 := by decide
  shapeCasts_S1024_S32x32 := by decide
  bcast_S32x32_S32x1x32_0_2 := by decide
  bcast_S32x1x32_S32x32x32_0_1_2 := by decide
  natLt_1_32 := by decide
  reducesTo_S32x32x32_S32x32_d2 := by decide
  h_S_ := by decide
  bcast_S_S32x32 := by decide

instance : Cert.Pre_routed_ReferenceIdeal.Facts where
  shapeCasts_S1024x1_S1024 := by decide
  bcast_S_S1024 := by decide
  shapeCasts_S1024_S32x32 := by decide
  bcast_S32x32_S32x1x32_0_2 := by decide
  bcast_S32x1x32_S32x32x32_0_1_2 := by decide
  natLt_1_32 := by decide
  reducesTo_S32x32x32_S32x32_d2 := by decide
  h_S_ := by decide
  bcast_S_S32x32 := by decide

theorem frame_ideal_routed : Cert.quiescent_KernelIdeal_pre_routed_KernelIdeal := fun m ρ _ => frame_any (F := Ideal) m ρ

theorem frame_reference_routed : Cert.quiescent_ReferenceIdeal_pre_routed_ReferenceIdeal := fun m ρ _ => frame_reference m ρ trivial

open Cert.KernelIdeal.Run in
/-- On routed tables the kernel and the reference leave one result. -/
theorem algebraic : Cert.algebraic_KernelIdeal_ReferenceIdeal_pre_routed_KernelIdeal := by
  intro m g m' g' hpre hin
  have hI : Routed (m' (((0 : Dev Cert.ReferenceIdeal.nD).tc : Thread Cert.ReferenceIdeal.nD Cert.ReferenceIdeal.τ).loc Cert.ReferenceIdeal.main_arg2)) := by
    have h := hpre (0 : Dev Cert.KernelIdeal.nD)
    rw [← (hin (0 : Dev Cert.KernelIdeal.nD)).2.2.1]
    exact routed_of_pre _ _ _ _ h.1 h.2
  have hout : outC (ins m) = refOut
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)) :=
    outC_eq (ins m) _ _ _ hI (fun c => (read_x _).trans (hin c).1) (fun c => (read_idx _).trans (hin c).2.2.1)
      (fun c => (read_w _).trans (hin c).2.2.2)
  refine ⟨refOut
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)), ?_, ?_⟩
  · refine (θ_run _ _ _).mono (fun r h c => ?_) (run_main m g)
    exact ⟨((h.1 c).1 (3 : Fin 4)).trans ((finalA_out m c).trans hout), ((h.1 c).1 (0 : Fin 4)).trans (finalA_x m c), (h.1 c).2,
      ((h.1 c).1 (1 : Fin 4)).trans (finalA_idx m c), ((h.1 c).1 (2 : Fin 4)).trans (finalA_w m c)⟩
  · exact (θ_run _ _ _).mono (fun r h => h (0 : Dev Cert.ReferenceIdeal.nD)) (Cert.ReferenceIdeal.Value.run (F := Ideal) m' g')

end Cert.Frames

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

theorem claim : Cert.Claim := ⟨Cert.Kernel.Gen.facts, Cert.KernelIdeal.Gen.facts, Cert.ReferenceIdeal.Gen.facts,
  inferInstance, inferInstance, Cert.Frames.frame_kernel, Cert.Frames.frame_ideal, Cert.Frames.frame_ideal_routed,
  Cert.Frames.frame_reference, Cert.Frames.frame_reference_routed, trivial, Cert.Frames.algebraic⟩

end Cert.Proof

end
